-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_decay [hPre_finite_decay : Cert.Pre_finite_decay.Facts] (m : (ℓ : Loc Cert.KernelIdeal.nD Cert.KernelIdeal.τ Cert.KernelIdeal.sig) → Buf (Elt Ideal) ℓ) : Prop :=
  ∀ c : Dev Cert.KernelIdeal.nD,
    (Cert.Pre_finite_decay.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_decay [hPre_finite_decay : Cert.Pre_finite_decay.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_decay.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_decay [hKernelIdeal : Cert.KernelIdeal.Facts] [hPre_finite_decay : Cert.Pre_finite_decay.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_decay m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_decay [hReferenceIdeal : Cert.ReferenceIdeal.Facts] [hPre_finite_decay : Cert.Pre_finite_decay.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_decay m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def preserves_Kernel_KernelIdeal : Prop :=
  True

def algebraic_KernelIdeal_ReferenceIdeal_pre_finite_decay [hKernelIdeal : Cert.KernelIdeal.Facts] [hReferenceIdeal : Cert.ReferenceIdeal.Facts] [hPre_finite_decay : Cert.Pre_finite_decay.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_decay m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v21_0)) (v2 : (c : Dev Cert.KernelIdeal.nD) → Buf (Elt Ideal) ((c.tc : Thread Cert.KernelIdeal.nD Cert.KernelIdeal.τ).loc Cert.KernelIdeal.main_v21_1)) (v3 : (c : Dev Cert.KernelIdeal.nD) → Buf (Elt Ideal) ((c.tc : Thread Cert.KernelIdeal.nD Cert.KernelIdeal.τ).loc Cert.KernelIdeal.main_v21_2)) (v4 : (c : Dev Cert.KernelIdeal.nD) → Buf (Elt Ideal) ((c.tc : Thread Cert.KernelIdeal.nD Cert.KernelIdeal.τ).loc Cert.KernelIdeal.main_v21_3)) (v5 : (c : Dev Cert.KernelIdeal.nD) → Buf (Elt Ideal) ((c.tc : Thread Cert.KernelIdeal.nD Cert.KernelIdeal.τ).loc Cert.KernelIdeal.main_v21_4)) (v6 : (c : Dev Cert.KernelIdeal.nD) → Buf (Elt Ideal) ((c.tc : Thread Cert.KernelIdeal.nD Cert.KernelIdeal.τ).loc Cert.KernelIdeal.main_v21_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v21_0) = v1 c
          ∧ r.2.mem ((c.tc : Thread Cert.KernelIdeal.nD Cert.KernelIdeal.τ).loc Cert.KernelIdeal.main_v21_1) = v2 c
          ∧ r.2.mem ((c.tc : Thread Cert.KernelIdeal.nD Cert.KernelIdeal.τ).loc Cert.KernelIdeal.main_v21_2) = v3 c
          ∧ r.2.mem ((c.tc : Thread Cert.KernelIdeal.nD Cert.KernelIdeal.τ).loc Cert.KernelIdeal.main_v21_3) = v4 c
          ∧ r.2.mem ((c.tc : Thread Cert.KernelIdeal.nD Cert.KernelIdeal.τ).loc Cert.KernelIdeal.main_v21_4) = v5 c
          ∧ r.2.mem ((c.tc : Thread Cert.KernelIdeal.nD Cert.KernelIdeal.τ).loc Cert.KernelIdeal.main_v21_5) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_v33) = v3 c
          ∧ r.2.mem ((c.tc : Thread Cert.ReferenceIdeal.nD Cert.ReferenceIdeal.τ).loc Cert.ReferenceIdeal.main_v32) = v4 c
          ∧ r.2.mem ((c.tc : Thread Cert.ReferenceIdeal.nD Cert.ReferenceIdeal.τ).loc Cert.ReferenceIdeal.main_v31) = v5 c
          ∧ r.2.mem ((c.tc : Thread Cert.ReferenceIdeal.nD Cert.ReferenceIdeal.τ).loc Cert.ReferenceIdeal.main_v30) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)) (v1 : (c : Dev Cert.Kernel2Ideal.nD) → Buf (Elt Ideal) ((c.tc : Thread Cert.Kernel2Ideal.nD Cert.Kernel2Ideal.τ).loc Cert.Kernel2Ideal.main_v7)) (v2 : (c : Dev Cert.Kernel2Ideal.nD) → Buf (Elt Ideal) ((c.tc : Thread Cert.Kernel2Ideal.nD Cert.Kernel2Ideal.τ).loc Cert.Kernel2Ideal.main_v9)) (v3 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_v7) = v1 c
          ∧ r.2.mem ((c.tc : Thread Cert.Kernel2Ideal.nD Cert.Kernel2Ideal.τ).loc Cert.Kernel2Ideal.main_v9) = v2 c
          ∧ r.2.mem ((c.tc : Thread Cert.Kernel2Ideal.nD Cert.Kernel2Ideal.τ).loc Cert.Kernel2Ideal.main_v6) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_v25) = v2 c
          ∧ r.2.mem ((c.tc : Thread Cert.Reference2Ideal.nD Cert.Reference2Ideal.τ).loc Cert.Reference2Ideal.main_v19) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_decay : Cert.Pre_finite_decay.Facts),
    quiescent_Kernel (hKernel := hKernel)
    ∧ quiescent_KernelIdeal (hKernelIdeal := hKernelIdeal)
    ∧ quiescent_KernelIdeal_pre_finite_decay (hKernelIdeal := hKernelIdeal) (hPre_finite_decay := hPre_finite_decay)
    ∧ quiescent_ReferenceIdeal (hReferenceIdeal := hReferenceIdeal)
    ∧ quiescent_ReferenceIdeal_pre_finite_decay (hReferenceIdeal := hReferenceIdeal) (hPre_finite_decay := hPre_finite_decay)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite_decay (hKernelIdeal := hKernelIdeal) (hReferenceIdeal := hReferenceIdeal) (hPre_finite_decay := hPre_finite_decay)
    ∧ preserves_Kernel2_Kernel2Ideal
    ∧ algebraic_Kernel2Ideal_Reference2Ideal (hKernel2Ideal := hKernel2Ideal) (hReference2Ideal := hReference2Ideal)
-- ==== Pre_finite_decay.lean ====
abbrev S2048x1024 : Shape := ⟨2, ![2048, 1024]⟩
abbrev S2048x256 : Shape := ⟨2, ![2048, 256]⟩
abbrev S_ : Shape := ⟨0, ![]⟩

class Facts : Prop where
  bcast_S_S2048x256 : S_.BroadcastsInDim S2048x256 (![] : Fin 0 → Fin S2048x256.rank)

variable [Facts]

def fn {F : FTy → Type} [FloatOps F] (main_arg0 : FVec F S2048x1024 .f32) (main_arg1 : FVec F S2048x256 .f32) (main_arg2 : FVec F S2048x256 .f32) (main_arg3 : FVec F S2048x256 .f32) (main_arg4 : FVec F S2048x256 .f32) (main_arg5 : FVec F S2048x256 .f32) (main_arg6 : FVec F S2048x256 .f32) : IVec S2048x256 1 :=
  let main_v0 : FVec F S2048x256 .f32 := Host.absf main_arg1
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  main_v2
-- ==== Kernel.lean ====
abbrev S2048x1024 : Shape := ⟨2, ![2048, 1024]⟩
abbrev S2048x256 : Shape := ⟨2, ![2048, 256]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S768x256 : Shape := ⟨2, ![768, 256]⟩
abbrev S64 : Shape := ⟨1, ![64]⟩
abbrev S64x1 : Shape := ⟨2, ![64, 1]⟩
abbrev S64x256 : Shape := ⟨2, ![64, 256]⟩
abbrev S2048x64x256 : Shape := ⟨3, ![2048, 64, 256]⟩
abbrev S128x256 : Shape := ⟨2, ![128, 256]⟩
abbrev S128x64x256 : Shape := ⟨3, ![128, 64, 256]⟩
abbrev S8x256 : Shape := ⟨2, ![8, 256]⟩
abbrev S8x1x256 : Shape := ⟨3, ![8, 1, 256]⟩
abbrev S1x64x256 : Shape := ⟨3, ![1, 64, 256]⟩
abbrev S8x64x256 : Shape := ⟨3, ![8, 64, 256]⟩
abbrev S512x256 : Shape := ⟨2, ![512, 256]⟩
abbrev S512x768 : Shape := ⟨2, ![512, 768]⟩

abbrev nBuf : Space → Nat
  | .hbm => 90
  | .vmem => 55
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S256, .i32⟩
  | .hbm, ⟨8, _⟩ => ⟨S256x1, .i32⟩
  | .hbm, ⟨9, _⟩ => ⟨S_, .i32⟩
  | .hbm, ⟨10, _⟩ => ⟨S_, .i32⟩
  | .hbm, ⟨11, _⟩ => ⟨S256x1, .i32⟩
  | .hbm, ⟨12, _⟩ => ⟨S256x1, .i32⟩
  | .hbm, ⟨13, _⟩ => ⟨S256x1, .i32⟩
  | .hbm, ⟨14, _⟩ => ⟨S_, .i32⟩
  | .hbm, ⟨15, _⟩ => ⟨S256x1, .i32⟩
  | .hbm, ⟨16, _⟩ => ⟨S256x1, .i1⟩
  | .hbm, ⟨17, _⟩ => ⟨S256x1, .i32⟩
  | .hbm, ⟨18, _⟩ => ⟨S256x1, .i32⟩
  | .hbm, ⟨19, _⟩ => ⟨S_, .i32⟩
  | .hbm, ⟨20, _⟩ => ⟨S256x1, .i32⟩
  | .hbm, ⟨21, _⟩ => ⟨S256x1, .i1⟩
  | .hbm, ⟨22, _⟩ => ⟨S256x1, .i1⟩
  | .hbm, ⟨23, _⟩ => ⟨S_, .i32⟩
  | .hbm, ⟨24, _⟩ => ⟨S256x1, .i32⟩
  | .hbm, ⟨25, _⟩ => ⟨S256x1, .i32⟩
  | .hbm, ⟨26, _⟩ => ⟨S256x1, .i32⟩
  | .hbm, ⟨27, _⟩ => ⟨S1x256, .i32⟩
  | .hbm, ⟨28, _⟩ => ⟨S_, .i32⟩
  | .hbm, ⟨29, _⟩ => ⟨S_, .i32⟩
  | .hbm, ⟨30, _⟩ => ⟨S1x256, .i32⟩
  | .hbm, ⟨31, _⟩ => ⟨S1x256, .i32⟩
  | .hbm, ⟨32, _⟩ => ⟨S1x256, .i32⟩
  | .hbm, ⟨33, _⟩ => ⟨S_, .i32⟩
  | .hbm, ⟨34, _⟩ => ⟨S1x256, .i32⟩
  | .hbm, ⟨35, _⟩ => ⟨S1x256, .i1⟩
  | .hbm, ⟨36, _⟩ => ⟨S1x256, .i32⟩
  | .hbm, ⟨37, _⟩ => ⟨S1x256, .i32⟩
  | .hbm, ⟨38, _⟩ => ⟨S_, .i32⟩
  | .hbm, ⟨39, _⟩ => ⟨S1x256, .i32⟩
  | .hbm, ⟨40, _⟩ => ⟨S1x256, .i1⟩
  | .hbm, ⟨41, _⟩ => ⟨S1x256, .i1⟩
  | .hbm, ⟨42, _⟩ => ⟨S_, .i32⟩
  | .hbm, ⟨43, _⟩ => ⟨S1x256, .i32⟩
  | .hbm, ⟨44, _⟩ => ⟨S1x256, .i32⟩
  | .hbm, ⟨45, _⟩ => ⟨S1x256, .i32⟩
  | .hbm, ⟨46, _⟩ => ⟨S256x256, .i32⟩
  | .hbm, ⟨47, _⟩ => ⟨S256x256, .i32⟩
  | .hbm, ⟨48, _⟩ => ⟨S256x256, .i1⟩
  | .hbm, ⟨49, _⟩ => ⟨S256x256, .f32⟩
  | .hbm, ⟨50, _⟩ => ⟨S768x256, .f32⟩
  | .hbm, ⟨51, _⟩ => ⟨S768x256, .bf16⟩
  | .hbm, ⟨52, _⟩ => ⟨S64, .i32⟩
  | .hbm, ⟨53, _⟩ => ⟨S64x1, .i32⟩
  | .hbm, ⟨54, _⟩ => ⟨S256, .i32⟩
  | .hbm, ⟨55, _⟩ => ⟨S1x256, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S1x256, .i32⟩
  | .hbm, ⟨63, _⟩ => ⟨S1x256, .i32⟩
  | .hbm, ⟨64, _⟩ => ⟨S_, .i32⟩
  | .hbm, ⟨65, _⟩ => ⟨S1x256, .i32⟩
  | .hbm, ⟨66, _⟩ => ⟨S1x256, .i1⟩
  | .hbm, ⟨67, _⟩ => ⟨S_, .i32⟩
  | .hbm, ⟨68, _⟩ => ⟨S1x256, .i32⟩
  | .hbm, ⟨69, _⟩ => ⟨S1x256, .i1⟩
  | .hbm, ⟨70, _⟩ => ⟨S_, .i32⟩
  | .hbm, ⟨71, _⟩ => ⟨S_, .i1⟩
  | .hbm, ⟨72, _⟩ => ⟨S1x256, .i1⟩
  | .hbm, ⟨73, _⟩ => ⟨S1x256, .i1⟩
  | .hbm, ⟨74, _⟩ => ⟨S1x256, .i1⟩
  | .hbm, ⟨75, _⟩ => ⟨S1x256, .i32⟩
  | .hbm, ⟨76, _⟩ => ⟨S1x256, .i32⟩
  | .hbm, ⟨77, _⟩ => ⟨S1x256, .i32⟩
  | .hbm, ⟨78, _⟩ => ⟨S64x256, .i32⟩
  | .hbm, ⟨79, _⟩ => ⟨S64x256, .i32⟩
  | .hbm, ⟨80, _⟩ => ⟨S64x256, .i1⟩
  | .hbm, ⟨81, _⟩ => ⟨S64x256, .f32⟩
  | .hbm, ⟨82, _⟩ => ⟨S2048x256, .f32⟩
  | .hbm, ⟨83, _⟩ => ⟨S2048x64x256, .f32⟩
  | .hbm, ⟨84, _⟩ => ⟨S2048x256, .f32⟩
  | .hbm, ⟨85, _⟩ => ⟨S2048x256, .f32⟩
  | .hbm, ⟨86, _⟩ => ⟨S2048x256, .f32⟩
  | .hbm, ⟨87, _⟩ => ⟨S2048x256, .f32⟩
  | .hbm, ⟨88, _⟩ => ⟨S2048x256, .f32⟩
  | .hbm, ⟨89, _⟩ => ⟨S2048x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S768x256, .bf16⟩
  | .local _ .vmem, ⟨13, _⟩ => ⟨S64x256, .f32⟩
  | .local _ .vmem, ⟨14, _⟩ => ⟨S128x256, .f32⟩
  | .local _ .vmem, ⟨15, _⟩ => ⟨S128x256, .f32⟩
  | .local _ .vmem, ⟨16, _⟩ => ⟨S128x64x256, .f32⟩
  | .local _ .vmem, ⟨17, _⟩ => ⟨S128x64x256, .f32⟩
  | .local _ .vmem, ⟨18, _⟩ => ⟨S64x256, .f32⟩
  | .local _ .vmem, ⟨19, _⟩ => ⟨S128x256, .f32⟩
  | .local _ .vmem, ⟨20, _⟩ => ⟨S128x256, .f32⟩
  | .local _ .vmem, ⟨21, _⟩ => ⟨S128x256, .f32⟩
  | .local _ .vmem, ⟨22, _⟩ => ⟨S128x256, .f32⟩
  | .local _ .vmem, ⟨23, _⟩ => ⟨S128x256, .f32⟩
  | .local _ .vmem, ⟨24, _⟩ => ⟨S128x256, .f32⟩
  | .local _ .vmem, ⟨25, _⟩ => ⟨S128x256, .f32⟩
  | .local _ .vmem, ⟨26, _⟩ => ⟨S128x256, .f32⟩
  | .local _ .vmem, ⟨27, _⟩ => ⟨S128x256, .f32⟩
  | .local _ .vmem, ⟨28, _⟩ => ⟨S128x256, .f32⟩
  | .local _ .vmem, ⟨29, _⟩ => ⟨S128x256, .f32⟩
  | .local _ .vmem, ⟨30, _⟩ => ⟨S128x256, .f32⟩
  | .local _ .vmem, ⟨31, _⟩ => ⟨S128x256, .f32⟩
  | .local _ .vmem, ⟨32, _⟩ => ⟨S128x256, .f32⟩
  | .local _ .vmem, ⟨33, _⟩ => ⟨S128x64x256, .f32⟩
  | .local _ .vmem, ⟨34, _⟩ => ⟨S128x64x256, .f32⟩
  | .local _ .vmem, ⟨35, _⟩ => ⟨S1x64x256, .f32⟩
  | .local _ .vmem, ⟨36, _⟩ => ⟨S1x64x256, .f32⟩
  | .local _ .vmem, ⟨37, _⟩ => ⟨S768x256, .bf16⟩
  | .local _ .vmem, ⟨38, _⟩ => ⟨S64x256, .f32⟩
  | .local _ .vmem, ⟨39, _⟩ => ⟨S128x256, .f32⟩
  | .local _ .vmem, ⟨40, _⟩ => ⟨S128x256, .f32⟩
  | .local _ .vmem, ⟨41, _⟩ => ⟨S128x256, .f32⟩
  | .local _ .vmem, ⟨42, _⟩ => ⟨S128x256, .f32⟩
  | .local _ .vmem, ⟨43, _⟩ => ⟨S128x256, .f32⟩
  | .local _ .vmem, ⟨44, _⟩ => ⟨S128x256, .f32⟩
  | .local _ .vmem, ⟨45, _⟩ => ⟨S128x256, .f32⟩
  | .local _ .vmem, ⟨46, _⟩ => ⟨S128x256, .f32⟩
  | .local _ .vmem, ⟨47, _⟩ => ⟨S128x256, .f32⟩
  | .local _ .vmem, ⟨48, _⟩ => ⟨S128x256, .f32⟩
  | .local _ .vmem, ⟨49, _⟩ => ⟨S128x256, .f32⟩
  | .local _ .vmem, ⟨50, _⟩ => ⟨S128x256, .f32⟩
  | .local _ .vmem, ⟨51, _⟩ => ⟨S64x256, .f32⟩
  | .local _ .vmem, ⟨52, _⟩ => ⟨S8x64x256, .f32⟩
  | .local _ .vmem, ⟨53, _⟩ => ⟨S8x64x256, .f32⟩
  | .local _ .vmem, ⟨54, _⟩ => ⟨S8x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_v3 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_c_1 : Ref sig .tc := ⟨.hbm, 56, rfl⟩
abbrev main_call2_v0 : Ref sig .tc := ⟨.hbm, 57, rfl⟩
abbrev main_call2_c : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_c_1 : Ref sig .tc := ⟨.hbm, 64, rfl⟩
abbrev main_call2_v5 : Ref sig .tc := ⟨.hbm, 65, rfl⟩
abbrev main_call2_v6 : Ref sig .tc := ⟨.hbm, 66, rfl⟩
abbrev main_call2_c_2 : Ref sig .tc := ⟨.hbm, 67, rfl⟩
abbrev main_call2_v7 : Ref sig .tc := ⟨.hbm, 68, rfl⟩
abbrev main_call2_v8 : Ref sig .tc := ⟨.hbm, 69, rfl⟩
abbrev main_call2_c_3 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20_0 : Ref sig .tc := ⟨.hbm, 82, rfl⟩
abbrev main_v20_1 : Ref sig .tc := ⟨.hbm, 83, rfl⟩
abbrev main_v21_0 : Ref sig .tc := ⟨.hbm, 84, rfl⟩
abbrev main_v21_1 : Ref sig .tc := ⟨.hbm, 85, rfl⟩
abbrev main_v21_2 : Ref sig .tc := ⟨.hbm, 86, rfl⟩
abbrev main_v21_3 : Ref sig .tc := ⟨.hbm, 87, rfl⟩
abbrev main_v21_4 : Ref sig .tc := ⟨.hbm, 88, rfl⟩
abbrev main_v21_5 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc1_stg10_0 : Ref sig .tc := ⟨.vmem, 38, rfl⟩
abbrev cc1_stg11_0 : Ref sig .tc := ⟨.vmem, 39, rfl⟩
abbrev cc1_stg11_1 : Ref sig .tc := ⟨.vmem, 40, rfl⟩
abbrev cc1_stg12_0 : Ref sig .tc := ⟨.vmem, 41, rfl⟩
abbrev cc1_stg12_1 : Ref sig .tc := ⟨.vmem, 42, rfl⟩
abbrev cc1_stg13_0 : Ref sig .tc := ⟨.vmem, 43, rfl⟩
abbrev cc1_stg13_1 : Ref sig .tc := ⟨.vmem, 44, rfl⟩
abbrev cc1_stg14_0 : Ref sig .tc := ⟨.vmem, 45, rfl⟩
abbrev cc1_stg14_1 : Ref sig .tc := ⟨.vmem, 46, rfl⟩
abbrev cc1_stg15_0 : Ref sig .tc := ⟨.vmem, 47, rfl⟩
abbrev cc1_stg15_1 : Ref sig .tc := ⟨.vmem, 48, rfl⟩
abbrev cc1_stg16_0 : Ref sig .tc := ⟨.vmem, 49, rfl⟩
abbrev cc1_stg16_1 : Ref sig .tc := ⟨.vmem, 50, rfl⟩
abbrev cc1_scratch0 : Ref sig .tc := ⟨.vmem, 51, rfl⟩
abbrev cc1_scratch1 : Ref sig .tc := ⟨.vmem, 52, rfl⟩
abbrev cc1_scratch2 : Ref sig .tc := ⟨.vmem, 53, rfl⟩
abbrev cc1_scratch3 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem10_0 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43
abbrev cc1_sem14_0 : DmaSem sig := 44
abbrev cc1_sem14_1 : DmaSem sig := 45
abbrev cc1_sem15_0 : DmaSem sig := 46
abbrev cc1_sem15_1 : DmaSem sig := 47
abbrev cc1_sem16_0 : DmaSem sig := 48
abbrev cc1_sem16_1 : DmaSem sig := 49

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_6 : BitVec 32 := 0#32
  let c16_i32 : BitVec 32 := 16#32
  let v9 : BitVec 32 := Scalar.addi c0_i32_6 c16_i32
  let c1_i32 : BitVec 32 := 1#32
  ⟨c0_i32_6, v9, c1_i32⟩
def k0_mult1 (k0_t1 : Fin k0_t1_loop.trips) : BitVec 32 :=
  let c0_i32_6 : BitVec 32 := 0#32
  let c1_i32 : BitVec 32 := 1#32
  let arg12 : BitVec 32 := Scf.iv c0_i32_6 c1_i32 k0_t1
  let c8_i32 : BitVec 32 := 8#32
  let v10 : BitVec 32 := Scalar.muli arg12 c8_i32
  v10
def k0_off1 (k0_t1 : Fin k0_t1_loop.trips) : Fin 2 → Nat :=
  let c0_i32_6 : BitVec 32 := 0#32
  let c1_i32 : BitVec 32 := 1#32
  let arg12 : BitVec 32 := Scf.iv c0_i32_6 c1_i32 k0_t1
  let c8_i32 : BitVec 32 := 8#32
  let v10 : BitVec 32 := Scalar.muli arg12 c8_i32
  let v11 : BitVec 32 := v10
  let v12 : Index := Scalar.indexCast v11
  let c0_8 : Index := 0#32
  ![v12.toNat, 0]
def k0_off2 (k0_t1 : Fin k0_t1_loop.trips) (c0_i32_18 : BitVec 32) : Fin 3 → Nat :=
  let c0_i32_6 : BitVec 32 := 0#32
  let c1_i32 : BitVec 32 := 1#32
  let arg12 : BitVec 32 := Scf.iv c0_i32_6 c1_i32 k0_t1
  let c8_i32 : BitVec 32 := 8#32
  let v10 : BitVec 32 := Scalar.muli arg12 c8_i32
  let v11 : BitVec 32 := v10
  let v114 : BitVec 32 := Scalar.addi v11 c0_i32_18
  let v115 : Index := Scalar.indexCast v114
  let c0_19 : Index := 0#32
  let c0_20 : Index := 0#32
  ![v115.toNat, 0, 0]
def k0_off3 (k0_t1 : Fin k0_t1_loop.trips) : Fin 3 → Nat :=
  let c0_i32_6 : BitVec 32 := 0#32
  let c1_i32 : BitVec 32 := 1#32
  let arg12 : BitVec 32 := Scf.iv c0_i32_6 c1_i32 k0_t1
  let c8_i32 : BitVec 32 := 8#32
  let v10 : BitVec 32 := Scalar.muli arg12 c8_i32
  let v11 : BitVec 32 := v10
  let v290 : Index := Scalar.indexCast v11
  let c0_45 : Index := 0#32
  let c0_46 : Index := 0#32
  ![v290.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S768x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![16], ![false]⟩

@[reducible] def k1_t1_loop : Scf.Loop 32 :=
  let c0_i32_6 : BitVec 32 := 0#32
  let c16_i32 : BitVec 32 := 16#32
  let v10 : BitVec 32 := Scalar.addi c0_i32_6 c16_i32
  let c1_i32 : BitVec 32 := 1#32
  ⟨c0_i32_6, v10, c1_i32⟩
def k1_mult1 (k1_t1 : Fin k1_t1_loop.trips) : BitVec 32 :=
  let c15_i32_8 : BitVec 32 := 15#32
  let c0_i32_6 : BitVec 32 := 0#32
  let c1_i32 : BitVec 32 := 1#32
  let arg22 : BitVec 32 := Scf.iv c0_i32_6 c1_i32 k1_t1
  let v11 : BitVec 32 := Scalar.subi c15_i32_8 arg22
  let c8_i32 : BitVec 32 := 8#32
  let v12 : BitVec 32 := Scalar.muli v11 c8_i32
  v12
def k1_off1 (k1_t1 : Fin k1_t1_loop.trips) : Fin 2 → Nat :=
  let c15_i32_8 : BitVec 32 := 15#32
  let c0_i32_6 : BitVec 32 := 0#32
  let c1_i32 : BitVec 32 := 1#32
  let arg22 : BitVec 32 := Scf.iv c0_i32_6 c1_i32 k1_t1
  let v11 : BitVec 32 := Scalar.subi c15_i32_8 arg22
  let c8_i32 : BitVec 32 := 8#32
  let v12 : BitVec 32 := Scalar.muli v11 c8_i32
  let v13 : BitVec 32 := v12
  let v14 : Index := Scalar.indexCast v13
  let c0_9 : Index := 0#32
  ![v14.toNat, 0]
def k1_off2 (k1_t1 : Fin k1_t1_loop.trips) : Fin 3 → Nat :=
  let c15_i32_8 : BitVec 32 := 15#32
  let c0_i32_6 : BitVec 32 := 0#32
  let c1_i32 : BitVec 32 := 1#32
  let arg22 : BitVec 32 := Scf.iv c0_i32_6 c1_i32 k1_t1
  let v11 : BitVec 32 := Scalar.subi c15_i32_8 arg22
  let c8_i32 : BitVec 32 := 8#32
  let v12 : BitVec 32 := Scalar.muli v11 c8_i32
  let v13 : BitVec 32 := v12
  let v18 : Index := Scalar.indexCast v13
  let c0_11 : Index := 0#32
  let c0_12 : Index := 0#32
  ![v18.toNat, 0, 0]
def k1_cond2 (k1_t1 : Fin k1_t1_loop.trips) : BitVec 1 :=
  let c15_i32_8 : BitVec 32 := 15#32
  let c0_i32_6 : BitVec 32 := 0#32
  let c1_i32 : BitVec 32 := 1#32
  let arg22 : BitVec 32 := Scf.iv c0_i32_6 c1_i32 k1_t1
  let v11 : BitVec 32 := Scalar.subi c15_i32_8 arg22
  let c0_i32_13 : BitVec 32 := 0#32
  let v21 : BitVec 1 := Scalar.cmpi .sgt v11 c0_i32_13
  let v22 : BitVec 32 := Scalar.extui v21
  let c0_i32_14 : BitVec 32 := 0#32
  let v23 : BitVec 1 := Scalar.cmpi .ne v22 c0_i32_14
  v23

def k1_off3 (k1_t1 : Fin k1_t1_loop.trips) : Fin 3 → Nat :=
  let c15_i32_8 : BitVec 32 := 15#32
  let c0_i32_6 : BitVec 32 := 0#32
  let c1_i32 : BitVec 32 := 1#32
  let arg22 : BitVec 32 := Scf.iv c0_i32_6 c1_i32 k1_t1
  let v11 : BitVec 32 := Scalar.subi c15_i32_8 arg22
  let c8_i32 : BitVec 32 := 8#32
  let v12 : BitVec 32 := Scalar.muli v11 c8_i32
  let v13 : BitVec 32 := v12
  let c1_i32_115 : BitVec 32 := 1#32
  let v418 : BitVec 32 := Scalar.subi v13 c1_i32_115
  let v419 : Index := Scalar.indexCast v418
  let c0_116 : Index := 0#32
  let c0_117 : Index := 0#32
  ![v419.toNat, 0, 0]
def cc1_transform_0 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_6 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_7 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc1_transform_8 (i : grid1.Coords) : Fin 3 → Nat :=
  let arg0 : BitVec 32 := BitVec.ofNat 32 (i 0).val
  let c15_i32 : BitVec 32 := 15#32
  let v0 : BitVec 32 := Scalar.subi c15_i32 arg0
  let c128_i32 : BitVec 32 := 128#32
  let v1 : BitVec 32 := Scalar.muli v0 c128_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  ![v3.toNat, c0_i32_0.toNat, c0_i32_1.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_12 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_13 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_14 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_15 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_16 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage1_0 : Fin 2 → Memref sig .tc .vmem S128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x64x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x64x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S768x256 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S128x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S128x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S128x256 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S128x256 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S128x256 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S128x256 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]
-- ==== ReferenceIdeal.lean ====
abbrev S2048x1024 : Shape := ⟨2, ![2048, 1024]⟩
abbrev S2048x256 : Shape := ⟨2, ![2048, 256]⟩
abbrev S2048x4x64 : Shape := ⟨3, ![2048, 4, 64]⟩
abbrev S_ : Shape := ⟨0, ![]⟩
abbrev S4x64x64 : Shape := ⟨3, ![4, 64, 64]⟩
abbrev S2048x4x1x64 : Shape := ⟨4, ![2048, 4, 1, 64]⟩
abbrev S2048x4x64x64 : Shape := ⟨4, ![2048, 4, 64, 64]⟩
abbrev S2048x4x64x1 : Shape := ⟨4, ![2048, 4, 64, 1]⟩
abbrev S1x4x64 : Shape := ⟨3, ![1, 4, 64]⟩
abbrev S4x64 : Shape := ⟨2, ![4, 64]⟩
abbrev S4x1x64 : Shape := ⟨3, ![4, 1, 64]⟩
abbrev S4x64x1 : Shape := ⟨3, ![4, 64, 1]⟩
abbrev S1x4x1x64 : Shape := ⟨4, ![1, 4, 1, 64]⟩
abbrev S1x4x64x64 : Shape := ⟨4, ![1, 4, 64, 64]⟩
abbrev S1x4x64x1 : Shape := ⟨4, ![1, 4, 64, 1]⟩

abbrev nBuf : Space → Nat
  | .hbm => 337
  | .vmem => 0
  | .smem => 0
  | _ => 0

abbrev hbmTy0_0 (i : Nat) : BufTy := match i % 128 with
  | 0 => ⟨S2048x1024, .f32⟩
  | 1 => ⟨S2048x256, .f32⟩
  | 2 => ⟨S2048x256, .f32⟩
  | 3 => ⟨S2048x256, .f32⟩
  | 4 => ⟨S2048x256, .f32⟩
  | 5 => ⟨S2048x256, .f32⟩
  | 6 => ⟨S2048x256, .f32⟩
  | 7 => ⟨S2048x256, .f32⟩
  | 8 => ⟨S2048x4x64, .f32⟩
  | 9 => ⟨S2048x4x64, .f32⟩
  | 10 => ⟨S2048x4x64, .f32⟩
  | 11 => ⟨S2048x4x64, .f32⟩
  | 12 => ⟨S2048x4x64, .f32⟩
  | 13 => ⟨S2048x4x64, .f32⟩
  | 14 => ⟨S_, .f32⟩
  | 15 => ⟨S4x64x64, .f32⟩
  | 16 => ⟨S_, .f32⟩
  | 17 => ⟨S2048x4x64, .f32⟩
  | 18 => ⟨S_, .f32⟩
  | 19 => ⟨S2048x4x1x64, .f32⟩
  | 20 => ⟨S_, .f32⟩
  | 21 => ⟨S2048x4x64x64, .f32⟩
  | 22 => ⟨S_, .f32⟩
  | 23 => ⟨S2048x4x1x64, .f32⟩
  | 24 => ⟨S_, .f32⟩
  | 25 => ⟨S2048x4x1x64, .f32⟩
  | 26 => ⟨S_, .f32⟩
  | 27 => ⟨S2048x4x64x1, .f32⟩
  | 28 => ⟨S_, .f32⟩
  | 29 => ⟨S2048x4x1x64, .f32⟩
  | 30 => ⟨S_, .f32⟩
  | 31 => ⟨S2048x4x64x1, .f32⟩
  | 32 => ⟨S_, .f32⟩
  | 33 => ⟨S2048x4x1x64, .f32⟩
  | 34 => ⟨S_, .f32⟩
  | 35 => ⟨S2048x4x64x64, .f32⟩
  | 36 => ⟨S_, .i32⟩
  | 37 => ⟨S2048x4x64, .f32⟩
  | 38 => ⟨S2048x4x64, .f32⟩
  | 39 => ⟨S2048x4x64, .f32⟩
  | 40 => ⟨S2048x4x64, .f32⟩
  | 41 => ⟨S2048x4x64, .f32⟩
  | 42 => ⟨S2048x4x64, .f32⟩
  | 43 => ⟨S_, .i32⟩
  | 44 => ⟨S4x64x64, .f32⟩
  | 45 => ⟨S2048x4x64, .f32⟩
  | 46 => ⟨S2048x4x1x64, .f32⟩
  | 47 => ⟨S2048x4x64x64, .f32⟩
  | 48 => ⟨S2048x4x1x64, .f32⟩
  | 49 => ⟨S2048x4x1x64, .f32⟩
  | 50 => ⟨S2048x4x64x1, .f32⟩
  | 51 => ⟨S2048x4x1x64, .f32⟩
  | 52 => ⟨S2048x4x64x1, .f32⟩
  | 53 => ⟨S2048x4x1x64, .f32⟩
  | 54 => ⟨S2048x4x64x64, .f32⟩
  | 55 => ⟨S_, .i32⟩
  | 56 => ⟨S_, .i1⟩
  | 57 => ⟨S_, .i32⟩
  | 58 => ⟨S_, .i32⟩
  | 59 => ⟨S1x4x64, .f32⟩
  | 60 => ⟨S4x64, .f32⟩
  | 61 => ⟨S_, .i32⟩
  | 62 => ⟨S_, .i32⟩
  | 63 => ⟨S1x4x64, .f32⟩
  | 64 => ⟨S4x64, .f32⟩
  | 65 => ⟨S_, .i32⟩
  | 66 => ⟨S_, .i32⟩
  | 67 => ⟨S1x4x64, .f32⟩
  | 68 => ⟨S4x64, .f32⟩
  | 69 => ⟨S_, .i32⟩
  | 70 => ⟨S_, .i32⟩
  | 71 => ⟨S1x4x64, .f32⟩
  | 72 => ⟨S4x64, .f32⟩
  | 73 => ⟨S_, .i32⟩
  | 74 => ⟨S_, .i32⟩
  | 75 => ⟨S1x4x64, .f32⟩
  | 76 => ⟨S4x64, .f32⟩
  | 77 => ⟨S_, .i32⟩
  | 78 => ⟨S_, .i32⟩
  | 79 => ⟨S1x4x64, .f32⟩
  | 80 => ⟨S4x64, .f32⟩
  | 81 => ⟨S4x1x64, .f32⟩
  | 82 => ⟨S4x64x64, .f32⟩
  | 83 => ⟨S4x64x64, .f32⟩
  | 84 => ⟨S_, .f32⟩
  | 85 => ⟨S4x64, .f32⟩
  | 86 => ⟨S4x1x64, .f32⟩
  | 87 => ⟨S4x64x64, .f32⟩
  | 88 => ⟨S4x64x64, .f32⟩
  | 89 => ⟨S4x64x1, .f32⟩
  | 90 => ⟨S4x1x64, .f32⟩
  | 91 => ⟨S4x64x64, .f32⟩
  | 92 => ⟨S4x64x64, .f32⟩
  | 93 => ⟨S4x64x64, .f32⟩
  | 94 => ⟨S4x64x64, .f32⟩
  | 95 => ⟨S4x64x1, .f32⟩
  | 96 => ⟨S4x1x64, .f32⟩
  | 97 => ⟨S4x64x64, .f32⟩
  | 98 => ⟨S4x64x64, .f32⟩
  | 99 => ⟨S4x64x64, .f32⟩
  | 100 => ⟨S4x64x64, .f32⟩
  | 101 => ⟨S4x1x64, .f32⟩
  | 102 => ⟨S4x64x64, .f32⟩
  | 103 => ⟨S4x64x64, .f32⟩
  | 104 => ⟨S_, .f32⟩
  | 105 => ⟨S4x64, .f32⟩
  | 106 => ⟨S1x4x64, .f32⟩
  | 107 => ⟨S_, .i32⟩
  | 108 => ⟨S_, .i32⟩
  | 109 => ⟨S2048x4x64, .f32⟩
  | 110 => ⟨S1x4x1x64, .f32⟩
  | 111 => ⟨S_, .i32⟩
  | 112 => ⟨S_, .i32⟩
  | 113 => ⟨S_, .i32⟩
  | 114 => ⟨S2048x4x1x64, .f32⟩
  | 115 => ⟨S1x4x64x64, .f32⟩
  | 116 => ⟨S_, .i32⟩
  | 117 => ⟨S_, .i32⟩
  | 118 => ⟨S_, .i32⟩
  | 119 => ⟨S2048x4x64x64, .f32⟩
  | 120 => ⟨S1x4x1x64, .f32⟩
  | 121 => ⟨S_, .i32⟩
  | 122 => ⟨S_, .i32⟩
  | 123 => ⟨S_, .i32⟩
  | 124 => ⟨S2048x4x1x64, .f32⟩
  | 125 => ⟨S1x4x1x64, .f32⟩
  | 126 => ⟨S_, .i32⟩
  | 127 => ⟨S_, .i32⟩
  | _ => ⟨S2048x1024, .f32⟩

abbrev hbmTy0_1 (i : Nat) : BufTy := match i % 128 with
  | 0 => ⟨S_, .i32⟩
  | 1 => ⟨S2048x4x1x64, .f32⟩
  | 2 => ⟨S1x4x64x1, .f32⟩
  | 3 => ⟨S_, .i32⟩
  | 4 => ⟨S_, .i32⟩
  | 5 => ⟨S_, .i32⟩
  | 6 => ⟨S2048x4x64x1, .f32⟩
  | 7 => ⟨S1x4x1x64, .f32⟩
  | 8 => ⟨S_, .i32⟩
  | 9 => ⟨S_, .i32⟩
  | 10 => ⟨S_, .i32⟩
  | 11 => ⟨S2048x4x1x64, .f32⟩
  | 12 => ⟨S1x4x64x1, .f32⟩
  | 13 => ⟨S_, .i32⟩
  | 14 => ⟨S_, .i32⟩
  | 15 => ⟨S_, .i32⟩
  | 16 => ⟨S2048x4x64x1, .f32⟩
  | 17 => ⟨S1x4x1x64, .f32⟩
  | 18 => ⟨S_, .i32⟩
  | 19 => ⟨S_, .i32⟩
  | 20 => ⟨S_, .i32⟩
  | 21 => ⟨S2048x4x1x64, .f32⟩
  | 22 => ⟨S1x4x64x64, .f32⟩
  | 23 => ⟨S_, .i32⟩
  | 24 => ⟨S_, .i32⟩
  | 25 => ⟨S_, .i32⟩
  | 26 => ⟨S2048x4x64x64, .f32⟩
  | 27 => ⟨S_, .i32⟩
  | 28 => ⟨S_, .i32⟩
  | 29 => ⟨S2048x256, .f32⟩
  | 30 => ⟨S_, .f32⟩
  | 31 => ⟨S4x64x64, .f32⟩
  | 32 => ⟨S2048x4x64, .f32⟩
  | 33 => ⟨S_, .f32⟩
  | 34 => ⟨S4x64x64, .f32⟩
  | 35 => ⟨S_, .f32⟩
  | 36 => ⟨S2048x4x64, .f32⟩
  | 37 => ⟨S_, .f32⟩
  | 38 => ⟨S2048x4x64, .f32⟩
  | 39 => ⟨S_, .f32⟩
  | 40 => ⟨S2048x4x64, .f32⟩
  | 41 => ⟨S_, .f32⟩
  | 42 => ⟨S2048x4x64, .f32⟩
  | 43 => ⟨S_, .f32⟩
  | 44 => ⟨S2048x4x64, .f32⟩
  | 45 => ⟨S_, .f32⟩
  | 46 => ⟨S2048x4x64, .f32⟩
  | 47 => ⟨S_, .i32⟩
  | 48 => ⟨S2048x4x64, .f32⟩
  | 49 => ⟨S2048x4x1x64, .f32⟩
  | 50 => ⟨S2048x4x64x64, .f32⟩
  | 51 => ⟨S2048x4x1x64, .f32⟩
  | 52 => ⟨S2048x4x1x64, .f32⟩
  | 53 => ⟨S2048x4x64x1, .f32⟩
  | 54 => ⟨S2048x4x1x64, .f32⟩
  | 55 => ⟨S2048x4x64x1, .f32⟩
  | 56 => ⟨S2048x4x1x64, .f32⟩
  | 57 => ⟨S2048x4x64x64, .f32⟩
  | 58 => ⟨S_, .i32⟩
  | 59 => ⟨S4x64x64, .f32⟩
  | 60 => ⟨S2048x4x64, .f32⟩
  | 61 => ⟨S2048x4x64, .f32⟩
  | 62 => ⟨S2048x4x64, .f32⟩
  | 63 => ⟨S2048x4x64, .f32⟩
  | 64 => ⟨S2048x4x64, .f32⟩
  | 65 => ⟨S2048x4x64, .f32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S1x4x64, .f32⟩
  | 75 => ⟨S4x64, .f32⟩
  | 76 => ⟨S_, .i32⟩
  | 77 => ⟨S_, .i32⟩
  | 78 => ⟨S_, .i32⟩
  | 79 => ⟨S1x4x1x64, .f32⟩
  | 80 => ⟨S4x1x64, .f32⟩
  | 81 => ⟨S_, .i32⟩
  | 82 => ⟨S_, .i32⟩
  | 83 => ⟨S_, .i32⟩
  | 84 => ⟨S1x4x64x64, .f32⟩
  | 85 => ⟨S4x64x64, .f32⟩
  | 86 => ⟨S_, .i32⟩
  | 87 => ⟨S_, .i32⟩
  | 88 => ⟨S_, .i32⟩
  | 89 => ⟨S1x4x1x64, .f32⟩
  | 90 => ⟨S4x1x64, .f32⟩
  | 91 => ⟨S_, .i32⟩
  | 92 => ⟨S_, .i32⟩
  | 93 => ⟨S_, .i32⟩
  | 94 => ⟨S1x4x1x64, .f32⟩
  | 95 => ⟨S4x1x64, .f32⟩
  | 96 => ⟨S_, .i32⟩
  | 97 => ⟨S_, .i32⟩
  | 98 => ⟨S_, .i32⟩
  | 99 => ⟨S1x4x64x1, .f32⟩
  | 100 => ⟨S4x64x1, .f32⟩
  | 101 => ⟨S_, .i32⟩
  | 102 => ⟨S_, .i32⟩
  | 103 => ⟨S_, .i32⟩
  | 104 => ⟨S1x4x1x64, .f32⟩
  | 105 => ⟨S4x1x64, .f32⟩
  | 106 => ⟨S_, .i32⟩
  | 107 => ⟨S_, .i32⟩
  | 108 => ⟨S_, .i32⟩
  | 109 => ⟨S1x4x64x1, .f32⟩
  | 110 => ⟨S4x64x1, .f32⟩
  | 111 => ⟨S_, .i32⟩
  | 112 => ⟨S_, .i32⟩
  | 113 => ⟨S_, .i32⟩
  | 114 => ⟨S1x4x1x64, .f32⟩
  | 115 => ⟨S4x1x64, .f32⟩
  | 116 => ⟨S_, .i32⟩
  | 117 => ⟨S_, .i32⟩
  | 118 => ⟨S_, .i32⟩
  | 119 => ⟨S1x4x64x64, .f32⟩
  | 120 => ⟨S4x64x64, .f32⟩
  | 121 => ⟨S4x64x64, .f32⟩
  | 122 => ⟨S4x64x64, .f32⟩
  | 123 => ⟨S_, .f32⟩
  | 124 => ⟨S4x64, .f32⟩
  | 125 => ⟨S4x1x64, .f32⟩
  | 126 => ⟨S4x64x64, .f32⟩
  | 127 => ⟨S4x64x64, .f32⟩
  | _ => ⟨S2048x1024, .f32⟩

abbrev hbmTy0_2 (i : Nat) : BufTy := match i % 128 with
  | 0 => ⟨S4x64x64, .f32⟩
  | 1 => ⟨S_, .f32⟩
  | 2 => ⟨S4x64, .f32⟩
  | 3 => ⟨S4x64x64, .f32⟩
  | 4 => ⟨S4x64x64, .f32⟩
  | 5 => ⟨S_, .f32⟩
  | 6 => ⟨S4x64, .f32⟩
  | 7 => ⟨S4x1x64, .f32⟩
  | 8 => ⟨S4x64x64, .f32⟩
  | 9 => ⟨S4x64x64, .f32⟩
  | 10 => ⟨S_, .f32⟩
  | 11 => ⟨S4x64, .f32⟩
  | 12 => ⟨S4x64x1, .f32⟩
  | 13 => ⟨S_, .f32⟩
  | 14 => ⟨S4x64, .f32⟩
  | 15 => ⟨S_, .f32⟩
  | 16 => ⟨S4x64, .f32⟩
  | 17 => ⟨S4x64x64, .f32⟩
  | 18 => ⟨S4x64x64, .f32⟩
  | 19 => ⟨S_, .f32⟩
  | 20 => ⟨S4x64, .f32⟩
  | 21 => ⟨S4x1x64, .f32⟩
  | 22 => ⟨S4x64x64, .f32⟩
  | 23 => ⟨S4x64x64, .f32⟩
  | 24 => ⟨S_, .f32⟩
  | 25 => ⟨S4x64, .f32⟩
  | 26 => ⟨S4x64x1, .f32⟩
  | 27 => ⟨S_, .f32⟩
  | 28 => ⟨S4x64, .f32⟩
  | 29 => ⟨S_, .f32⟩
  | 30 => ⟨S4x64, .f32⟩
  | 31 => ⟨S4x64x64, .f32⟩
  | 32 => ⟨S_, .f32⟩
  | 33 => ⟨S4x64, .f32⟩
  | 34 => ⟨S4x1x64, .f32⟩
  | 35 => ⟨S4x64x64, .f32⟩
  | 36 => ⟨S4x64x64, .f32⟩
  | 37 => ⟨S_, .f32⟩
  | 38 => ⟨S4x64, .f32⟩
  | 39 => ⟨S4x64x64, .f32⟩
  | 40 => ⟨S4x64x64, .f32⟩
  | 41 => ⟨S_, .f32⟩
  | 42 => ⟨S4x64, .f32⟩
  | 43 => ⟨S4x1x64, .f32⟩
  | 44 => ⟨S4x64x64, .f32⟩
  | 45 => ⟨S4x64x64, .f32⟩
  | 46 => ⟨S4x64x64, .f32⟩
  | 47 => ⟨S_, .f32⟩
  | 48 => ⟨S4x64, .f32⟩
  | 49 => ⟨S1x4x64, .f32⟩
  | 50 => ⟨S_, .i32⟩
  | 51 => ⟨S_, .i32⟩
  | 52 => ⟨S2048x4x64, .f32⟩
  | 53 => ⟨S1x4x64, .f32⟩
  | 54 => ⟨S_, .i32⟩
  | 55 => ⟨S_, .i32⟩
  | 56 => ⟨S2048x4x64, .f32⟩
  | 57 => ⟨S1x4x64, .f32⟩
  | 58 => ⟨S_, .i32⟩
  | 59 => ⟨S_, .i32⟩
  | 60 => ⟨S2048x4x64, .f32⟩
  | 61 => ⟨S1x4x64, .f32⟩
  | 62 => ⟨S_, .i32⟩
  | 63 => ⟨S_, .i32⟩
  | 64 => ⟨S2048x4x64, .f32⟩
  | 65 => ⟨S1x4x64, .f32⟩
  | 66 => ⟨S_, .i32⟩
  | 67 => ⟨S_, .i32⟩
  | 68 => ⟨S2048x4x64, .f32⟩
  | 69 => ⟨S1x4x64, .f32⟩
  | 70 => ⟨S_, .i32⟩
  | 71 => ⟨S_, .i32⟩
  | 72 => ⟨S2048x4x64, .f32⟩
  | 73 => ⟨S_, .i32⟩
  | 74 => ⟨S_, .i32⟩
  | 75 => ⟨S2048x256, .f32⟩
  | 76 => ⟨S2048x256, .f32⟩
  | 77 => ⟨S2048x256, .f32⟩
  | 78 => ⟨S2048x256, .f32⟩
  | 79 => ⟨S2048x256, .f32⟩
  | 80 => ⟨S2048x256, .f32⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_cst_6 : Ref sig .tc := ⟨.hbm, 28, rfl⟩
abbrev main_v14 : Ref sig .tc := ⟨.hbm, 29, rfl⟩
abbrev main_cst_7 : Ref sig .tc := ⟨.hbm, 30, rfl⟩
abbrev main_v15 : Ref sig .tc := ⟨.hbm, 31, rfl⟩
abbrev main_cst_8 : Ref sig .tc := ⟨.hbm, 32, rfl⟩
abbrev main_v16 : Ref sig .tc := ⟨.hbm, 33, rfl⟩
abbrev main_cst_9 : Ref sig .tc := ⟨.hbm, 34, rfl⟩
abbrev main_v17 : Ref sig .tc := ⟨.hbm, 35, rfl⟩
abbrev main_c : Ref sig .tc := ⟨.hbm, 36, rfl⟩
abbrev main_v18_0 : Ref sig .tc := ⟨.hbm, 37, rfl⟩
abbrev main_v18_1 : Ref sig .tc := ⟨.hbm, 38, rfl⟩
abbrev main_v18_2 : Ref sig .tc := ⟨.hbm, 39, rfl⟩
abbrev main_v18_3 : Ref sig .tc := ⟨.hbm, 40, rfl⟩
abbrev main_v18_4 : Ref sig .tc := ⟨.hbm, 41, rfl⟩
abbrev main_v18_5 : Ref sig .tc := ⟨.hbm, 42, rfl⟩
abbrev main_v18_6 : Ref sig .tc := ⟨.hbm, 43, rfl⟩
abbrev main_v18_7 : Ref sig .tc := ⟨.hbm, 44, rfl⟩
abbrev main_v18_8 : Ref sig .tc := ⟨.hbm, 45, rfl⟩
abbrev main_v18_9 : Ref sig .tc := ⟨.hbm, 46, rfl⟩
abbrev main_v18_10 : Ref sig .tc := ⟨.hbm, 47, rfl⟩
abbrev main_v18_11 : Ref sig .tc := ⟨.hbm, 48, rfl⟩
abbrev main_v18_12 : Ref sig .tc := ⟨.hbm, 49, rfl⟩
abbrev main_v18_13 : Ref sig .tc := ⟨.hbm, 50, rfl⟩
abbrev main_v18_14 : Ref sig .tc := ⟨.hbm, 51, rfl⟩
abbrev main_v18_15 : Ref sig .tc := ⟨.hbm, 52, rfl⟩
abbrev main_v18_16 : Ref sig .tc := ⟨.hbm, 53, rfl⟩
abbrev main_v18_17 : Ref sig .tc := ⟨.hbm, 54, rfl⟩
abbrev main_while0c_c_36 : Ref sig .tc := ⟨.hbm, 55, rfl⟩
abbrev main_while0c_v36 : Ref sig .tc := ⟨.hbm, 56, rfl⟩
abbrev main_while0b_call0_c : Ref sig .tc := ⟨.hbm, 57, rfl⟩
abbrev main_while0b_call0_c_0 : Ref sig .tc := ⟨.hbm, 58, rfl⟩
abbrev main_while0b_call0_v0 : Ref sig .tc := ⟨.hbm, 59, rfl⟩
abbrev main_while0b_v36 : Ref sig .tc := ⟨.hbm, 60, rfl⟩
abbrev main_while0b_call1_c : Ref sig .tc := ⟨.hbm, 61, rfl⟩
abbrev main_while0b_call1_c_0 : Ref sig .tc := ⟨.hbm, 62, rfl⟩
abbrev main_while0b_call1_v0 : Ref sig .tc := ⟨.hbm, 63, rfl⟩
abbrev main_while0b_v37 : Ref sig .tc := ⟨.hbm, 64, rfl⟩
abbrev main_while0b_call2_c : Ref sig .tc := ⟨.hbm, 65, rfl⟩
abbrev main_while0b_call2_c_0 : Ref sig .tc := ⟨.hbm, 66, rfl⟩
abbrev main_while0b_call2_v0 : Ref sig .tc := ⟨.hbm, 67, rfl⟩
abbrev main_while0b_v38 : Ref sig .tc := ⟨.hbm, 68, rfl⟩
abbrev main_while0b_call3_c : Ref sig .tc := ⟨.hbm, 69, rfl⟩
abbrev main_while0b_call3_c_0 : Ref sig .tc := ⟨.hbm, 70, rfl⟩
abbrev main_while0b_call3_v0 : Ref sig .tc := ⟨.hbm, 71, rfl⟩
abbrev main_while0b_v39 : Ref sig .tc := ⟨.hbm, 72, rfl⟩
abbrev main_while0b_call4_c : Ref sig .tc := ⟨.hbm, 73, rfl⟩
abbrev main_while0b_call4_c_0 : Ref sig .tc := ⟨.hbm, 74, rfl⟩
abbrev main_while0b_call4_v0 : Ref sig .tc := ⟨.hbm, 75, rfl⟩
abbrev main_while0b_v40 : Ref sig .tc := ⟨.hbm, 76, rfl⟩
abbrev main_while0b_call5_c : Ref sig .tc := ⟨.hbm, 77, rfl⟩
abbrev main_while0b_call5_c_0 : Ref sig .tc := ⟨.hbm, 78, rfl⟩
abbrev main_while0b_call5_v0 : Ref sig .tc := ⟨.hbm, 79, rfl⟩
abbrev main_while0b_v41 : Ref sig .tc := ⟨.hbm, 80, rfl⟩
abbrev main_while0b_v42 : Ref sig .tc := ⟨.hbm, 81, rfl⟩
abbrev main_while0b_v43 : Ref sig .tc := ⟨.hbm, 82, rfl⟩
abbrev main_while0b_v44 : Ref sig .tc := ⟨.hbm, 83, rfl⟩
abbrev main_while0b_cst_36 : Ref sig .tc := ⟨.hbm, 84, rfl⟩
abbrev main_while0b_v45 : Ref sig .tc := ⟨.hbm, 85, rfl⟩
abbrev main_while0b_v46 : Ref sig .tc := ⟨.hbm, 86, rfl⟩
abbrev main_while0b_v47 : Ref sig .tc := ⟨.hbm, 87, rfl⟩
abbrev main_while0b_v48 : Ref sig .tc := ⟨.hbm, 88, rfl⟩
abbrev main_while0b_v49 : Ref sig .tc := ⟨.hbm, 89, rfl⟩
abbrev main_while0b_v50 : Ref sig .tc := ⟨.hbm, 90, rfl⟩
abbrev main_while0b_v51 : Ref sig .tc := ⟨.hbm, 91, rfl⟩
abbrev main_while0b_v52 : Ref sig .tc := ⟨.hbm, 92, rfl⟩
abbrev main_while0b_v53 : Ref sig .tc := ⟨.hbm, 93, rfl⟩
abbrev main_while0b_v54 : Ref sig .tc := ⟨.hbm, 94, rfl⟩
abbrev main_while0b_v55 : Ref sig .tc := ⟨.hbm, 95, rfl⟩
abbrev main_while0b_v56 : Ref sig .tc := ⟨.hbm, 96, rfl⟩
abbrev main_while0b_v57 : Ref sig .tc := ⟨.hbm, 97, rfl⟩
abbrev main_while0b_v58 : Ref sig .tc := ⟨.hbm, 98, rfl⟩
abbrev main_while0b_v59 : Ref sig .tc := ⟨.hbm, 99, rfl⟩
abbrev main_while0b_v60 : Ref sig .tc := ⟨.hbm, 100, rfl⟩
abbrev main_while0b_v61 : Ref sig .tc := ⟨.hbm, 101, rfl⟩
abbrev main_while0b_v62 : Ref sig .tc := ⟨.hbm, 102, rfl⟩
abbrev main_while0b_v63 : Ref sig .tc := ⟨.hbm, 103, rfl⟩
abbrev main_while0b_cst_37 : Ref sig .tc := ⟨.hbm, 104, rfl⟩
abbrev main_while0b_v64 : Ref sig .tc := ⟨.hbm, 105, rfl⟩
abbrev main_while0b_call6_v0 : Ref sig .tc := ⟨.hbm, 106, rfl⟩
abbrev main_while0b_call6_c : Ref sig .tc := ⟨.hbm, 107, rfl⟩
abbrev main_while0b_call6_c_0 : Ref sig .tc := ⟨.hbm, 108, rfl⟩
abbrev main_while0b_v65 : Ref sig .tc := ⟨.hbm, 109, rfl⟩
abbrev main_while0b_call7_v0 : Ref sig .tc := ⟨.hbm, 110, rfl⟩
abbrev main_while0b_call7_c : Ref sig .tc := ⟨.hbm, 111, rfl⟩
abbrev main_while0b_call7_c_0 : Ref sig .tc := ⟨.hbm, 112, rfl⟩
abbrev main_while0b_call7_c_1 : Ref sig .tc := ⟨.hbm, 113, rfl⟩
abbrev main_while0b_v66 : Ref sig .tc := ⟨.hbm, 114, rfl⟩
abbrev main_while0b_call8_v0 : Ref sig .tc := ⟨.hbm, 115, rfl⟩
abbrev main_while0b_call8_c : Ref sig .tc := ⟨.hbm, 116, rfl⟩
abbrev main_while0b_call8_c_0 : Ref sig .tc := ⟨.hbm, 117, rfl⟩
abbrev main_while0b_call8_c_1 : Ref sig .tc := ⟨.hbm, 118, rfl⟩
abbrev main_while0b_v67 : Ref sig .tc := ⟨.hbm, 119, rfl⟩
abbrev main_while0b_call9_v0 : Ref sig .tc := ⟨.hbm, 120, rfl⟩
abbrev main_while0b_call9_c : Ref sig .tc := ⟨.hbm, 121, rfl⟩
abbrev main_while0b_call9_c_0 : Ref sig .tc := ⟨.hbm, 122, rfl⟩
abbrev main_while0b_call9_c_1 : Ref sig .tc := ⟨.hbm, 123, rfl⟩
abbrev main_while0b_v68 : Ref sig .tc := ⟨.hbm, 124, rfl⟩
abbrev main_while0b_call10_v0 : Ref sig .tc := ⟨.hbm, 125, rfl⟩
abbrev main_while0b_call10_c : Ref sig .tc := ⟨.hbm, 126, rfl⟩
abbrev main_while0b_call10_c_0 : Ref sig .tc := ⟨.hbm, 127, rfl⟩
abbrev main_while0b_call10_c_1 : Ref sig .tc := ⟨.hbm, 128, rfl⟩
abbrev main_while0b_v69 : Ref sig .tc := ⟨.hbm, 129, rfl⟩
abbrev main_while0b_call11_v0 : Ref sig .tc := ⟨.hbm, 130, rfl⟩
abbrev main_while0b_call11_c : Ref sig .tc := ⟨.hbm, 131, rfl⟩
abbrev main_while0b_call11_c_0 : Ref sig .tc := ⟨.hbm, 132, rfl⟩
abbrev main_while0b_call11_c_1 : Ref sig .tc := ⟨.hbm, 133, rfl⟩
abbrev main_while0b_v70 : Ref sig .tc := ⟨.hbm, 134, rfl⟩
abbrev main_while0b_call12_v0 : Ref sig .tc := ⟨.hbm, 135, rfl⟩
abbrev main_while0b_call12_c : Ref sig .tc := ⟨.hbm, 136, rfl⟩
abbrev main_while0b_call12_c_0 : Ref sig .tc := ⟨.hbm, 137, rfl⟩
abbrev main_while0b_call12_c_1 : Ref sig .tc := ⟨.hbm, 138, rfl⟩
abbrev main_while0b_v71 : Ref sig .tc := ⟨.hbm, 139, rfl⟩
abbrev main_while0b_call13_v0 : Ref sig .tc := ⟨.hbm, 140, rfl⟩
abbrev main_while0b_call13_c : Ref sig .tc := ⟨.hbm, 141, rfl⟩
abbrev main_while0b_call13_c_0 : Ref sig .tc := ⟨.hbm, 142, rfl⟩
abbrev main_while0b_call13_c_1 : Ref sig .tc := ⟨.hbm, 143, rfl⟩
abbrev main_while0b_v72 : Ref sig .tc := ⟨.hbm, 144, rfl⟩
abbrev main_while0b_call14_v0 : Ref sig .tc := ⟨.hbm, 145, rfl⟩
abbrev main_while0b_call14_c : Ref sig .tc := ⟨.hbm, 146, rfl⟩
abbrev main_while0b_call14_c_0 : Ref sig .tc := ⟨.hbm, 147, rfl⟩
abbrev main_while0b_call14_c_1 : Ref sig .tc := ⟨.hbm, 148, rfl⟩
abbrev main_while0b_v73 : Ref sig .tc := ⟨.hbm, 149, rfl⟩
abbrev main_while0b_call15_v0 : Ref sig .tc := ⟨.hbm, 150, rfl⟩
abbrev main_while0b_call15_c : Ref sig .tc := ⟨.hbm, 151, rfl⟩
abbrev main_while0b_call15_c_0 : Ref sig .tc := ⟨.hbm, 152, rfl⟩
abbrev main_while0b_call15_c_1 : Ref sig .tc := ⟨.hbm, 153, rfl⟩
abbrev main_while0b_v74 : Ref sig .tc := ⟨.hbm, 154, rfl⟩
abbrev main_while0b_c_38 : Ref sig .tc := ⟨.hbm, 155, rfl⟩
abbrev main_while0b_v75 : Ref sig .tc := ⟨.hbm, 156, rfl⟩
abbrev main_v19 : Ref sig .tc := ⟨.hbm, 157, rfl⟩
abbrev main_cst_10 : Ref sig .tc := ⟨.hbm, 158, rfl⟩
abbrev main_v20 : Ref sig .tc := ⟨.hbm, 159, rfl⟩
abbrev main_v21 : Ref sig .tc := ⟨.hbm, 160, rfl⟩
abbrev main_cst_11 : Ref sig .tc := ⟨.hbm, 161, rfl⟩
abbrev main_v22 : Ref sig .tc := ⟨.hbm, 162, rfl⟩
abbrev main_cst_12 : Ref sig .tc := ⟨.hbm, 163, rfl⟩
abbrev main_v23 : Ref sig .tc := ⟨.hbm, 164, rfl⟩
abbrev main_cst_13 : Ref sig .tc := ⟨.hbm, 165, rfl⟩
abbrev main_v24 : Ref sig .tc := ⟨.hbm, 166, rfl⟩
abbrev main_cst_14 : Ref sig .tc := ⟨.hbm, 167, rfl⟩
abbrev main_v25 : Ref sig .tc := ⟨.hbm, 168, rfl⟩
abbrev main_cst_15 : Ref sig .tc := ⟨.hbm, 169, rfl⟩
abbrev main_v26 : Ref sig .tc := ⟨.hbm, 170, rfl⟩
abbrev main_cst_16 : Ref sig .tc := ⟨.hbm, 171, rfl⟩
abbrev main_v27 : Ref sig .tc := ⟨.hbm, 172, rfl⟩
abbrev main_cst_17 : Ref sig .tc := ⟨.hbm, 173, rfl⟩
abbrev main_v28 : Ref sig .tc := ⟨.hbm, 174, rfl⟩
abbrev main_c_18 : Ref sig .tc := ⟨.hbm, 175, rfl⟩
abbrev main_v29_0 : Ref sig .tc := ⟨.hbm, 176, rfl⟩
abbrev main_v29_1 : Ref sig .tc := ⟨.hbm, 177, rfl⟩
abbrev main_v29_2 : Ref sig .tc := ⟨.hbm, 178, rfl⟩
abbrev main_v29_3 : Ref sig .tc := ⟨.hbm, 179, rfl⟩
abbrev main_v29_4 : Ref sig .tc := ⟨.hbm, 180, rfl⟩
abbrev main_v29_5 : Ref sig .tc := ⟨.hbm, 181, rfl⟩
abbrev main_v29_6 : Ref sig .tc := ⟨.hbm, 182, rfl⟩
abbrev main_v29_7 : Ref sig .tc := ⟨.hbm, 183, rfl⟩
abbrev main_v29_8 : Ref sig .tc := ⟨.hbm, 184, rfl⟩
abbrev main_v29_9 : Ref sig .tc := ⟨.hbm, 185, rfl⟩
abbrev main_v29_10 : Ref sig .tc := ⟨.hbm, 186, rfl⟩
abbrev main_v29_11 : Ref sig .tc := ⟨.hbm, 187, rfl⟩
abbrev main_v29_12 : Ref sig .tc := ⟨.hbm, 188, rfl⟩
abbrev main_v29_13 : Ref sig .tc := ⟨.hbm, 189, rfl⟩
abbrev main_v29_14 : Ref sig .tc := ⟨.hbm, 190, rfl⟩
abbrev main_v29_15 : Ref sig .tc := ⟨.hbm, 191, rfl⟩
abbrev main_v29_16 : Ref sig .tc := ⟨.hbm, 192, rfl⟩
abbrev main_v29_17 : Ref sig .tc := ⟨.hbm, 193, rfl⟩
abbrev main_while1c_c_36 : Ref sig .tc := ⟨.hbm, 194, rfl⟩
abbrev main_while1c_v36 : Ref sig .tc := ⟨.hbm, 195, rfl⟩
abbrev main_while1b_c_36 : Ref sig .tc := ⟨.hbm, 196, rfl⟩
abbrev main_while1b_v36 : Ref sig .tc := ⟨.hbm, 197, rfl⟩
abbrev main_while1b_c_37 : Ref sig .tc := ⟨.hbm, 198, rfl⟩
abbrev main_while1b_v37 : Ref sig .tc := ⟨.hbm, 199, rfl⟩
abbrev main_while1b_call16_c : Ref sig .tc := ⟨.hbm, 200, rfl⟩
abbrev main_while1b_call16_c_0 : Ref sig .tc := ⟨.hbm, 201, rfl⟩
abbrev main_while1b_call16_v0 : Ref sig .tc := ⟨.hbm, 202, rfl⟩
abbrev main_while1b_v38 : Ref sig .tc := ⟨.hbm, 203, rfl⟩
abbrev main_while1b_call17_c : Ref sig .tc := ⟨.hbm, 204, rfl⟩
abbrev main_while1b_call17_c_0 : Ref sig .tc := ⟨.hbm, 205, rfl⟩
abbrev main_while1b_call17_c_1 : Ref sig .tc := ⟨.hbm, 206, rfl⟩
abbrev main_while1b_call17_v0 : Ref sig .tc := ⟨.hbm, 207, rfl⟩
abbrev main_while1b_v39 : Ref sig .tc := ⟨.hbm, 208, rfl⟩
abbrev main_while1b_call18_c : Ref sig .tc := ⟨.hbm, 209, rfl⟩
abbrev main_while1b_call18_c_0 : Ref sig .tc := ⟨.hbm, 210, rfl⟩
abbrev main_while1b_call18_c_1 : Ref sig .tc := ⟨.hbm, 211, rfl⟩
abbrev main_while1b_call18_v0 : Ref sig .tc := ⟨.hbm, 212, rfl⟩
abbrev main_while1b_v40 : Ref sig .tc := ⟨.hbm, 213, rfl⟩
abbrev main_while1b_call19_c : Ref sig .tc := ⟨.hbm, 214, rfl⟩
abbrev main_while1b_call19_c_0 : Ref sig .tc := ⟨.hbm, 215, rfl⟩
abbrev main_while1b_call19_c_1 : Ref sig .tc := ⟨.hbm, 216, rfl⟩
abbrev main_while1b_call19_v0 : Ref sig .tc := ⟨.hbm, 217, rfl⟩
abbrev main_while1b_v41 : Ref sig .tc := ⟨.hbm, 218, rfl⟩
abbrev main_while1b_call20_c : Ref sig .tc := ⟨.hbm, 219, rfl⟩
abbrev main_while1b_call20_c_0 : Ref sig .tc := ⟨.hbm, 220, rfl⟩
abbrev main_while1b_call20_c_1 : Ref sig .tc := ⟨.hbm, 221, rfl⟩
abbrev main_while1b_call20_v0 : Ref sig .tc := ⟨.hbm, 222, rfl⟩
abbrev main_while1b_v42 : Ref sig .tc := ⟨.hbm, 223, rfl⟩
abbrev main_while1b_call21_c : Ref sig .tc := ⟨.hbm, 224, rfl⟩
abbrev main_while1b_call21_c_0 : Ref sig .tc := ⟨.hbm, 225, rfl⟩
abbrev main_while1b_call21_c_1 : Ref sig .tc := ⟨.hbm, 226, rfl⟩
abbrev main_while1b_call21_v0 : Ref sig .tc := ⟨.hbm, 227, rfl⟩
abbrev main_while1b_v43 : Ref sig .tc := ⟨.hbm, 228, rfl⟩
abbrev main_while1b_call22_c : Ref sig .tc := ⟨.hbm, 229, rfl⟩
abbrev main_while1b_call22_c_0 : Ref sig .tc := ⟨.hbm, 230, rfl⟩
abbrev main_while1b_call22_c_1 : Ref sig .tc := ⟨.hbm, 231, rfl⟩
abbrev main_while1b_call22_v0 : Ref sig .tc := ⟨.hbm, 232, rfl⟩
abbrev main_while1b_v44 : Ref sig .tc := ⟨.hbm, 233, rfl⟩
abbrev main_while1b_call23_c : Ref sig .tc := ⟨.hbm, 234, rfl⟩
abbrev main_while1b_call23_c_0 : Ref sig .tc := ⟨.hbm, 235, rfl⟩
abbrev main_while1b_call23_c_1 : Ref sig .tc := ⟨.hbm, 236, rfl⟩
abbrev main_while1b_call23_v0 : Ref sig .tc := ⟨.hbm, 237, rfl⟩
abbrev main_while1b_v45 : Ref sig .tc := ⟨.hbm, 238, rfl⟩
abbrev main_while1b_call24_c : Ref sig .tc := ⟨.hbm, 239, rfl⟩
abbrev main_while1b_call24_c_0 : Ref sig .tc := ⟨.hbm, 240, rfl⟩
abbrev main_while1b_call24_c_1 : Ref sig .tc := ⟨.hbm, 241, rfl⟩
abbrev main_while1b_call24_v0 : Ref sig .tc := ⟨.hbm, 242, rfl⟩
abbrev main_while1b_v46 : Ref sig .tc := ⟨.hbm, 243, rfl⟩
abbrev main_while1b_call25_c : Ref sig .tc := ⟨.hbm, 244, rfl⟩
abbrev main_while1b_call25_c_0 : Ref sig .tc := ⟨.hbm, 245, rfl⟩
abbrev main_while1b_call25_c_1 : Ref sig .tc := ⟨.hbm, 246, rfl⟩
abbrev main_while1b_call25_v0 : Ref sig .tc := ⟨.hbm, 247, rfl⟩
abbrev main_while1b_v47 : Ref sig .tc := ⟨.hbm, 248, rfl⟩
abbrev main_while1b_v48 : Ref sig .tc := ⟨.hbm, 249, rfl⟩
abbrev main_while1b_v49 : Ref sig .tc := ⟨.hbm, 250, rfl⟩
abbrev main_while1b_cst_38 : Ref sig .tc := ⟨.hbm, 251, rfl⟩
abbrev main_while1b_v50 : Ref sig .tc := ⟨.hbm, 252, rfl⟩
abbrev main_while1b_v51 : Ref sig .tc := ⟨.hbm, 253, rfl⟩
abbrev main_while1b_v52 : Ref sig .tc := ⟨.hbm, 254, rfl⟩
abbrev main_while1b_v53 : Ref sig .tc := ⟨.hbm, 255, rfl⟩
abbrev main_while1b_v54 : Ref sig .tc := ⟨.hbm, 256, rfl⟩
abbrev main_while1b_cst_39 : Ref sig .tc := ⟨.hbm, 257, rfl⟩
abbrev main_while1b_v55 : Ref sig .tc := ⟨.hbm, 258, rfl⟩
abbrev main_while1b_v56 : Ref sig .tc := ⟨.hbm, 259, rfl⟩
abbrev main_while1b_v57 : Ref sig .tc := ⟨.hbm, 260, rfl⟩
abbrev main_while1b_cst_40 : Ref sig .tc := ⟨.hbm, 261, rfl⟩
abbrev main_while1b_v58 : Ref sig .tc := ⟨.hbm, 262, rfl⟩
abbrev main_while1b_v59 : Ref sig .tc := ⟨.hbm, 263, rfl⟩
abbrev main_while1b_v60 : Ref sig .tc := ⟨.hbm, 264, rfl⟩
abbrev main_while1b_v61 : Ref sig .tc := ⟨.hbm, 265, rfl⟩
abbrev main_while1b_cst_41 : Ref sig .tc := ⟨.hbm, 266, rfl⟩
abbrev main_while1b_v62 : Ref sig .tc := ⟨.hbm, 267, rfl⟩
abbrev main_while1b_v63 : Ref sig .tc := ⟨.hbm, 268, rfl⟩
abbrev main_while1b_cst_42 : Ref sig .tc := ⟨.hbm, 269, rfl⟩
abbrev main_while1b_v64 : Ref sig .tc := ⟨.hbm, 270, rfl⟩
abbrev main_while1b_cst_43 : Ref sig .tc := ⟨.hbm, 271, rfl⟩
abbrev main_while1b_v65 : Ref sig .tc := ⟨.hbm, 272, rfl⟩
abbrev main_while1b_v66 : Ref sig .tc := ⟨.hbm, 273, rfl⟩
abbrev main_while1b_v67 : Ref sig .tc := ⟨.hbm, 274, rfl⟩
abbrev main_while1b_cst_44 : Ref sig .tc := ⟨.hbm, 275, rfl⟩
abbrev main_while1b_v68 : Ref sig .tc := ⟨.hbm, 276, rfl⟩
abbrev main_while1b_v69 : Ref sig .tc := ⟨.hbm, 277, rfl⟩
abbrev main_while1b_v70 : Ref sig .tc := ⟨.hbm, 278, rfl⟩
abbrev main_while1b_v71 : Ref sig .tc := ⟨.hbm, 279, rfl⟩
abbrev main_while1b_cst_45 : Ref sig .tc := ⟨.hbm, 280, rfl⟩
abbrev main_while1b_v72 : Ref sig .tc := ⟨.hbm, 281, rfl⟩
abbrev main_while1b_v73 : Ref sig .tc := ⟨.hbm, 282, rfl⟩
abbrev main_while1b_cst_46 : Ref sig .tc := ⟨.hbm, 283, rfl⟩
abbrev main_while1b_v74 : Ref sig .tc := ⟨.hbm, 284, rfl⟩
abbrev main_while1b_cst_47 : Ref sig .tc := ⟨.hbm, 285, rfl⟩
abbrev main_while1b_v75 : Ref sig .tc := ⟨.hbm, 286, rfl⟩
abbrev main_while1b_v76 : Ref sig .tc := ⟨.hbm, 287, rfl⟩
abbrev main_while1b_cst_48 : Ref sig .tc := ⟨.hbm, 288, rfl⟩
abbrev main_while1b_v77 : Ref sig .tc := ⟨.hbm, 289, rfl⟩
abbrev main_while1b_v78 : Ref sig .tc := ⟨.hbm, 290, rfl⟩
abbrev main_while1b_v79 : Ref sig .tc := ⟨.hbm, 291, rfl⟩
abbrev main_while1b_v80 : Ref sig .tc := ⟨.hbm, 292, rfl⟩
abbrev main_while1b_cst_49 : Ref sig .tc := ⟨.hbm, 293, rfl⟩
abbrev main_while1b_v81 : Ref sig .tc := ⟨.hbm, 294, rfl⟩
abbrev main_while1b_v82 : Ref sig .tc := ⟨.hbm, 295, rfl⟩
abbrev main_while1b_v83 : Ref sig .tc := ⟨.hbm, 296, rfl⟩
abbrev main_while1b_cst_50 : Ref sig .tc := ⟨.hbm, 297, rfl⟩
abbrev main_while1b_v84 : Ref sig .tc := ⟨.hbm, 298, rfl⟩
abbrev main_while1b_v85 : Ref sig .tc := ⟨.hbm, 299, rfl⟩
abbrev main_while1b_v86 : Ref sig .tc := ⟨.hbm, 300, rfl⟩
abbrev main_while1b_v87 : Ref sig .tc := ⟨.hbm, 301, rfl⟩
abbrev main_while1b_v88 : Ref sig .tc := ⟨.hbm, 302, rfl⟩
abbrev main_while1b_cst_51 : Ref sig .tc := ⟨.hbm, 303, rfl⟩
abbrev main_while1b_v89 : Ref sig .tc := ⟨.hbm, 304, rfl⟩
abbrev main_while1b_call26_v0 : Ref sig .tc := ⟨.hbm, 305, rfl⟩
abbrev main_while1b_call26_c : Ref sig .tc := ⟨.hbm, 306, rfl⟩
abbrev main_while1b_call26_c_0 : Ref sig .tc := ⟨.hbm, 307, rfl⟩
abbrev main_while1b_v90 : Ref sig .tc := ⟨.hbm, 308, rfl⟩
abbrev main_while1b_call27_v0 : Ref sig .tc := ⟨.hbm, 309, rfl⟩
abbrev main_while1b_call27_c : Ref sig .tc := ⟨.hbm, 310, rfl⟩
abbrev main_while1b_call27_c_0 : Ref sig .tc := ⟨.hbm, 311, rfl⟩
abbrev main_while1b_v91 : Ref sig .tc := ⟨.hbm, 312, rfl⟩
abbrev main_while1b_call28_v0 : Ref sig .tc := ⟨.hbm, 313, rfl⟩
abbrev main_while1b_call28_c : Ref sig .tc := ⟨.hbm, 314, rfl⟩
abbrev main_while1b_call28_c_0 : Ref sig .tc := ⟨.hbm, 315, rfl⟩
abbrev main_while1b_v92 : Ref sig .tc := ⟨.hbm, 316, rfl⟩
abbrev main_while1b_call29_v0 : Ref sig .tc := ⟨.hbm, 317, rfl⟩
abbrev main_while1b_call29_c : Ref sig .tc := ⟨.hbm, 318, rfl⟩
abbrev main_while1b_call29_c_0 : Ref sig .tc := ⟨.hbm, 319, rfl⟩
abbrev main_while1b_v93 : Ref sig .tc := ⟨.hbm, 320, rfl⟩
abbrev main_while1b_call30_v0 : Ref sig .tc := ⟨.hbm, 321, rfl⟩
abbrev main_while1b_call30_c : Ref sig .tc := ⟨.hbm, 322, rfl⟩
abbrev main_while1b_call30_c_0 : Ref sig .tc := ⟨.hbm, 323, rfl⟩
abbrev main_while1b_v94 : Ref sig .tc := ⟨.hbm, 324, rfl⟩
abbrev main_while1b_call31_v0 : Ref sig .tc := ⟨.hbm, 325, rfl⟩
abbrev main_while1b_call31_c : Ref sig .tc := ⟨.hbm, 326, rfl⟩
abbrev main_while1b_call31_c_0 : Ref sig .tc := ⟨.hbm, 327, rfl⟩
abbrev main_while1b_v95 : Ref sig .tc := ⟨.hbm, 328, rfl⟩
abbrev main_while1b_c_52 : Ref sig .tc := ⟨.hbm, 329, rfl⟩
abbrev main_while1b_v96 : Ref sig .tc := ⟨.hbm, 330, rfl⟩
abbrev main_v30 : Ref sig .tc := ⟨.hbm, 331, rfl⟩
abbrev main_v31 : Ref sig .tc := ⟨.hbm, 332, rfl⟩
abbrev main_v32 : Ref sig .tc := ⟨.hbm, 333, rfl⟩
abbrev main_v33 : Ref sig .tc := ⟨.hbm, 334, rfl⟩
abbrev main_v34 : Ref sig .tc := ⟨.hbm, 335, rfl⟩
abbrev main_v35 : Ref sig .tc := ⟨.hbm, 336, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩
-- ==== Kernel2.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S512x1024 : Shape := ⟨2, ![512, 1024]⟩
abbrev S2048x512 : Shape := ⟨2, ![2048, 512]⟩
abbrev S1024x1024 : Shape := ⟨2, ![1024, 1024]⟩
abbrev S512x2048 : Shape := ⟨2, ![512, 2048]⟩

abbrev nBuf : Space → Nat
  | .hbm => 14
  | .vmem => 42
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S2048x1024, .f32⟩
  | .hbm, ⟨4, _⟩ => ⟨S4096x1024, .f32⟩
  | .hbm, ⟨5, _⟩ => ⟨S4096x1024, .bf16⟩
  | .hbm, ⟨6, _⟩ => ⟨S4096x1024, .bf16⟩
  | .hbm, ⟨7, _⟩ => ⟨S2048x4096, .f32⟩
  | .hbm, ⟨8, _⟩ => ⟨S2048x1024, .f32⟩
  | .hbm, ⟨9, _⟩ => ⟨S2048x4096, .bf16⟩
  | .hbm, ⟨10, _⟩ => ⟨S4096x1024, .f32⟩
  | .hbm, ⟨11, _⟩ => ⟨S2048x1024, .f32⟩
  | .hbm, ⟨12, _⟩ => ⟨S4096x1024, .f32⟩
  | .hbm, ⟨13, _⟩ => ⟨S1024x4096, .f32⟩
  | .local _ .vmem, ⟨0, _⟩ => ⟨S2048x1024, .f32⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S2048x1024, .f32⟩
  | .local _ .vmem, ⟨13, _⟩ => ⟨S512x1024, .bf16⟩
  | .local _ .vmem, ⟨14, _⟩ => ⟨S512x1024, .bf16⟩
  | .local _ .vmem, ⟨15, _⟩ => ⟨S2048x512, .f32⟩
  | .local _ .vmem, ⟨16, _⟩ => ⟨S2048x512, .f32⟩
  | .local _ .vmem, ⟨17, _⟩ => ⟨S2048x512, .bf16⟩
  | .local _ .vmem, ⟨18, _⟩ => ⟨S2048x512, .bf16⟩
  | .local _ .vmem, ⟨19, _⟩ => ⟨S512x2048, .f32⟩
  | .local _ .vmem, ⟨20, _⟩ => ⟨S512x2048, .f32⟩
  | .local _ .vmem, ⟨21, _⟩ => ⟨S512x1024, .f32⟩
  | .local _ .vmem, ⟨22, _⟩ => ⟨S512x1024, .f32⟩
  | .local _ .vmem, ⟨23, _⟩ => ⟨S2048x1024, .f32⟩
  | .local _ .vmem, ⟨24, _⟩ => ⟨S2048x1024, .f32⟩
  | .local _ .vmem, ⟨25, _⟩ => ⟨S2048x1024, .f32⟩
  | .local _ .vmem, ⟨26, _⟩ => ⟨S1024x1024, .bf16⟩
  | .local _ .vmem, ⟨27, _⟩ => ⟨S1024x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1024x1024, .f32⟩
  | .local _ .vmem, ⟨31, _⟩ => ⟨S1024x1024, .f32⟩
  | .local _ .vmem, ⟨32, _⟩ => ⟨S1024x1024, .f32⟩
  | .local _ .vmem, ⟨33, _⟩ => ⟨S1024x1024, .f32⟩
  | .local _ .vmem, ⟨34, _⟩ => ⟨S1024x1024, .f32⟩
  | .local _ .vmem, ⟨35, _⟩ => ⟨S512x2048, .bf16⟩
  | .local _ .vmem, ⟨36, _⟩ => ⟨S512x2048, .bf16⟩
  | .local _ .vmem, ⟨37, _⟩ => ⟨S512x1024, .f32⟩
  | .local _ .vmem, ⟨38, _⟩ => ⟨S512x1024, .f32⟩
  | .local _ .vmem, ⟨39, _⟩ => ⟨S2048x1024, .f32⟩
  | .local _ .vmem, ⟨40, _⟩ => ⟨S2048x1024, .f32⟩
  | .local _ .vmem, ⟨41, _⟩ => ⟨S2048x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_scratch0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg3_1 : Ref sig .tc := ⟨.vmem, 33, rfl⟩
abbrev cc4_scratch0 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg2_1 : Ref sig .tc := ⟨.vmem, 40, rfl⟩
abbrev cc5_scratch0 : Ref sig .tc := ⟨.vmem, 41, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 1, 4], ![false, false, false]⟩

def k1_cond3 (i : grid1.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_6 : BitVec 32 := 0#32
  let v14 : BitVec 1 := Scalar.cmpi .ne v13 c0_i32_6
  v14

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2048x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S2048x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![2, 1, 4], ![false, false, false]⟩

def k3_cond3 (i : grid3.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_6 : BitVec 32 := 0#32
  let v14 : BitVec 1 := Scalar.cmpi .ne v13 c0_i32_6
  v14

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S2048x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 1, 4], ![false, false, false]⟩

def k4_cond3 (i : grid4.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev grid5 : Pipeline.Grid := ⟨3, ![2, 1, 4], ![false, false, false]⟩

def k5_cond3 (i : grid5.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S512x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S512x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S2048x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== Reference2Ideal.lean ====
abbrev S2048x1024 : Shape := ⟨2, ![2048, 1024]⟩
abbrev S1024x4096 : Shape := ⟨2, ![1024, 4096]⟩
abbrev S4096x1024 : Shape := ⟨2, ![4096, 1024]⟩
abbrev S_ : Shape := ⟨0, ![]⟩
abbrev S2048x4096 : Shape := ⟨2, ![2048, 4096]⟩

abbrev nBuf : Space → Nat
  | .hbm => 44
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .f32⟩
  | .hbm, ⟨11, _⟩ => ⟨S_, .f32⟩
  | .hbm, ⟨12, _⟩ => ⟨S2048x4096, .f32⟩
  | .hbm, ⟨13, _⟩ => ⟨S2048x4096, .i1⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S_, .f32⟩
  | .hbm, ⟨18, _⟩ => ⟨S2048x4096, .f32⟩
  | .hbm, ⟨19, _⟩ => ⟨S2048x4096, .f32⟩
  | .hbm, ⟨20, _⟩ => ⟨S2048x1024, .f32⟩
  | .hbm, ⟨21, _⟩ => ⟨S2048x1024, .f32⟩
  | .hbm, ⟨22, _⟩ => ⟨S2048x4096, .f32⟩
  | .hbm, ⟨23, _⟩ => ⟨S_, .f32⟩
  | .hbm, ⟨24, _⟩ => ⟨S2048x4096, .f32⟩
  | .hbm, ⟨25, _⟩ => ⟨S2048x4096, .f32⟩
  | .hbm, ⟨26, _⟩ => ⟨S2048x4096, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S1024x4096, .f32⟩
  | .hbm, ⟨31, _⟩ => ⟨S4096x1024, .f32⟩
  | .hbm, ⟨32, _⟩ => ⟨S2048x4096, .f32⟩
  | .hbm, ⟨33, _⟩ => ⟨S2048x4096, .f32⟩
  | .hbm, ⟨34, _⟩ => ⟨S_, .f32⟩
  | .hbm, ⟨35, _⟩ => ⟨S2048x4096, .f32⟩
  | .hbm, ⟨36, _⟩ => ⟨S2048x4096, .f32⟩
  | .hbm, ⟨37, _⟩ => ⟨S4096x1024, .f32⟩
  | .hbm, ⟨38, _⟩ => ⟨S1024x4096, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call1_cst : Ref sig .tc := ⟨.hbm, 23, rfl⟩
abbrev main_call1_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Proof.Pure.lean ====
/- The values of one trip of each of the two kernels' loops, as functions of the vectors the trip loads, and how a
   buffer filled slice by slice reads. Nothing here mentions memory. -/
module

public import proofs.«01_k».proof.Proof.Gen.KernelIdeal
public import proofs.«01_k».proof.Proof.Gen.KernelIdeal.Skeleton
public import Idealize.ShloMosaic.Lib.VecWindow
public import Idealize.ShloMosaic.Lib.Pointwise

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Stacks of slices and blocks of rows -/

/-- Eight `1 × 64 × 256` slices stacked along the first axis. -/
def stack8 {α : Type} (p : Fin 8 → S1x64x256.Idx → α) : S8x64x256.Idx → α :=
  fun y => p (y 0) (ix3 0 (y 1) (y 2))

/-- Eight rows of `256` stacked. -/
def stackRows {α : Type} (p : Fin 8 → S1x256.Idx → α) : S8x256.Idx → α :=
  fun y => p (y 0) (ix2 0 (y 1))

/-- Rows `8 n … 8 n + 7` of a block of `128` rows. -/
def rows8 {α : Type} (X : S128x256.Idx → α) (n : Fin 16) : S8x256.Idx → α :=
  fun y => X (ix2 ⟨8 * n.val + (y 0).val, by have : (y 0).val < 8 := (y 0).isLt; omega⟩ (y 1))

/-- States `8 n … 8 n + 7` of a block of `128` states. -/
def states8 {α : Type} (X : S128x64x256.Idx → α) (n : Fin 16) : S8x64x256.Idx → α :=
  fun y => X (ix3 ⟨8 * n.val + (y 0).val, by have : (y 0).val < 8 := (y 0).isLt; omega⟩ (y 1) (y 2))

/-- The state just before states `8 n …`, inside the block (`n` is not the first). -/
def stateBefore {α : Type} (X : S128x64x256.Idx → α) (n : Fin 16) : S1x64x256.Idx → α :=
  fun y => X (ix3 ⟨8 * n.val - 1, by omega⟩ (y 1) (y 2))

/-- The block of `128` rows whose rows `8 n … 8 n + 7` are `p n`. -/
def ofRows8 {α : Type} (p : Fin 16 → S8x256.Idx → α) : S128x256.Idx → α :=
  fun y => p ⟨(y 0).val / 8, by have : (y 0).val < 128 := (y 0).isLt; omega⟩ (ix2 ⟨(y 0).val % 8, Nat.mod_lt _ (by decide)⟩ (y 1))

/-- The block of `128` states whose states `8 n … 8 n + 7` are `p n`. -/
def ofStates8 {α : Type} (p : Fin 16 → S8x64x256.Idx → α) : S128x64x256.Idx → α :=
  fun y => p ⟨(y 0).val / 8, by have : (y 0).val < 128 := (y 0).isLt; omega⟩ (ix3 ⟨(y 0).val % 8, Nat.mod_lt _ (by decide)⟩ (y 1) (y 2))

/-- Putting one slice at place `j` changes the reading at that place only. -/
theorem put_slice {α : Type} (x : S8x64x256.Idx → α) (j : ℕ) (w : S1x64x256.Idx → α) (y : S8x64x256.Idx) :
    VecWindow.put x ![j, 0, 0] S1x64x256.size w y = if (y 0).val = j then w (ix3 0 (y 1) (y 2)) else x y := by
  unfold VecWindow.put
  have h1 : (y 1).val < 64 := (y 1).isLt
  have h2 : (y 2).val < 256 := (y 2).isLt
  by_cases h : (y 0).val = j
  · have hh : ∀ a, (![j, 0, 0] : Fin 3 → ℕ) a ≤ (y a).val ∧ (y a).val < (![j, 0, 0] : Fin 3 → ℕ) a + S1x64x256.size a := by
      intro a
      match a with
      | ⟨0, _⟩ => exact ⟨by show j ≤ (y 0).val; omega, by show (y 0).val < j + 1; omega⟩
      | ⟨1, _⟩ => exact ⟨Nat.zero_le _, by show (y 1).val < 0 + 64; omega⟩
      | ⟨2, _⟩ => exact ⟨Nat.zero_le _, by show (y 2).val < 0 + 256; omega⟩
    rw [dif_pos hh, if_pos h]
    refine congrArg w (funext fun a => Fin.ext ?_)
    match a with
    | ⟨0, _⟩ => show (y 0).val - j = 0; omega
    | ⟨1, _⟩ => rfl
    | ⟨2, _⟩ => rfl
  · rw [dif_neg, if_neg h]
    intro hh
    have := hh 0
    have h3 : j ≤ (y 0).val := this.1
    have h4 : (y 0).val < j + 1 := this.2
    omega

/-- The same with one row. -/
theorem put_row {α : Type} (x : S8x256.Idx → α) (j : ℕ) (w : S1x256.Idx → α) (y : S8x256.Idx) :
    VecWindow.put x ![j, 0] S1x256.size w y = if (y 0).val = j then w (ix2 0 (y 1)) else x y := by
  unfold VecWindow.put
  have h1 : (y 1).val < 256 := (y 1).isLt
  by_cases h : (y 0).val = j
  · have hh : ∀ a, (![j, 0] : Fin 2 → ℕ) a ≤ (y a).val ∧ (y a).val < (![j, 0] : Fin 2 → ℕ) a + S1x256.size a := by
      intro a
      match a with
      | ⟨0, _⟩ => exact ⟨by show j ≤ (y 0).val; omega, by show (y 0).val < j + 1; omega⟩
      | ⟨1, _⟩ => exact ⟨Nat.zero_le _, by show (y 1).val < 0 + 256; omega⟩
    rw [dif_pos hh, if_pos h]
    refine congrArg w (funext fun a => Fin.ext ?_)
    match a with
    | ⟨0, _⟩ => show (y 0).val - j = 0; omega
    | ⟨1, _⟩ => rfl
  · rw [dif_neg, if_neg h]
    intro hh
    have := hh 0
    have h3 : j ≤ (y 0).val := this.1
    have h4 : (y 0).val < j + 1 := this.2
    omega

/-- Putting eight rows at row `o` of a block of `128`. -/
theorem put_rows8 {α : Type} (x : S128x256.Idx → α) (o : ℕ) (w : S8x256.Idx → α) (y : S128x256.Idx) :
    VecWindow.put x ![o, 0] S8x256.size w y
      = if h : o ≤ (y 0).val ∧ (y 0).val < o + 8 then w (ix2 ⟨(y 0).val - o, by omega⟩ (y 1)) else x y := by
  unfold VecWindow.put
  have h1 : (y 1).val < 256 := (y 1).isLt
  by_cases h : o ≤ (y 0).val ∧ (y 0).val < o + 8
  · have hh : ∀ a, (![o, 0] : Fin 2 → ℕ) a ≤ (y a).val ∧ (y a).val < (![o, 0] : Fin 2 → ℕ) a + S8x256.size a := by
      intro a
      match a with
      | ⟨0, _⟩ => exact h
      | ⟨1, _⟩ => exact ⟨Nat.zero_le _, by show (y 1).val < 0 + 256; omega⟩
    rw [dif_pos hh, dif_pos h]
    refine congrArg w (funext fun a => Fin.ext ?_)
    match a with
    | ⟨0, _⟩ => rfl
    | ⟨1, _⟩ => rfl
  · rw [dif_neg, dif_neg h]
    intro hh
    exact h (hh 0)

/-- Putting one state at place `o` of a block of `128`. -/
theorem put_state {α : Type} (x : S128x64x256.Idx → α) (o : ℕ) (w : S1x64x256.Idx → α) (y : S128x64x256.Idx) :
    VecWindow.put x ![o, 0, 0] S1x64x256.size w y = if (y 0).val = o then w (ix3 0 (y 1) (y 2)) else x y := by
  unfold VecWindow.put
  have h1 : (y 1).val < 64 := (y 1).isLt
  have h2 : (y 2).val < 256 := (y 2).isLt
  by_cases h : (y 0).val = o
  · have hh : ∀ a, (![o, 0, 0] : Fin 3 → ℕ) a ≤ (y a).val ∧ (y a).val < (![o, 0, 0] : Fin 3 → ℕ) a + S1x64x256.size a := by
      intro a
      match a with
      | ⟨0, _⟩ => exact ⟨by show o ≤ (y 0).val; omega, by show (y 0).val < o + 1; omega⟩
      | ⟨1, _⟩ => exact ⟨Nat.zero_le _, by show (y 1).val < 0 + 64; omega⟩
      | ⟨2, _⟩ => exact ⟨Nat.zero_le _, by show (y 2).val < 0 + 256; omega⟩
    rw [dif_pos hh, if_pos h]
    refine congrArg w (funext fun a => Fin.ext ?_)
    match a with
    | ⟨0, _⟩ => show (y 0).val - o = 0; omega
    | ⟨1, _⟩ => rfl
    | ⟨2, _⟩ => rfl
  · rw [dif_neg, if_neg h]
    intro hh
    have := hh 0
    have h3 : o ≤ (y 0).val := this.1
    have h4 : (y 0).val < o + 1 := this.2
    omega

/-- Eight slices put at places `7, 6, …, 0` in that order, over anything, make the stack. -/
theorem puts_desc {α : Type} (x : S8x64x256.Idx → α) (p0 p1 p2 p3 p4 p5 p6 p7 : S1x64x256.Idx → α) :
    VecWindow.put (VecWindow.put (VecWindow.put (VecWindow.put (VecWindow.put (VecWindow.put (VecWindow.put (VecWindow.put x
      ![7, 0, 0] S1x64x256.size p7) ![6, 0, 0] S1x64x256.size p6) ![5, 0, 0] S1x64x256.size p5) ![4, 0, 0] S1x64x256.size p4)
      ![3, 0, 0] S1x64x256.size p3) ![2, 0, 0] S1x64x256.size p2) ![1, 0, 0] S1x64x256.size p1) ![0, 0, 0] S1x64x256.size p0
      = stack8 ![p0, p1, p2, p3, p4, p5, p6, p7] := by
  funext y
  rw [put_slice, put_slice, put_slice, put_slice, put_slice, put_slice, put_slice, put_slice]
  unfold stack8
  generalize (ix3 0 (y 1) (y 2) : S1x64x256.Idx) = z
  generalize y 0 = i
  change Fin 8 at i
  fin_cases i <;> rfl

/-- Seven slices put at places `1, 2, …, 7` in that order, over a stack whose slice `0` is `p0`, make the stack. -/
theorem puts_asc {α : Type} (x : S8x64x256.Idx → α) (p0 p1 p2 p3 p4 p5 p6 p7 : S1x64x256.Idx → α)
    (h0 : ∀ y : S8x64x256.Idx, (y 0).val = 0 → x y = p0 (ix3 0 (y 1) (y 2))) :
    VecWindow.put (VecWindow.put (VecWindow.put (VecWindow.put (VecWindow.put (VecWindow.put (VecWindow.put x
      ![1, 0, 0] S1x64x256.size p1) ![2, 0, 0] S1x64x256.size p2) ![3, 0, 0] S1x64x256.size p3) ![4, 0, 0] S1x64x256.size p4)
      ![5, 0, 0] S1x64x256.size p5) ![6, 0, 0] S1x64x256.size p6) ![7, 0, 0] S1x64x256.size p7
      = stack8 ![p0, p1, p2, p3, p4, p5, p6, p7] := by
  funext y
  rw [put_slice, put_slice, put_slice, put_slice, put_slice, put_slice, put_slice]
  unfold stack8
  have h0 := h0 y
  revert h0
  generalize (ix3 0 (y 1) (y 2) : S1x64x256.Idx) = z
  generalize x y = w
  generalize y 0 = i
  change Fin 8 at i
  intro h0
  fin_cases i
  · exact h0 rfl
  all_goals rfl

/-- Eight rows put at places `7, 6, …, 0` in that order, over anything, make the stack of rows. -/
theorem puts_rows_desc {α : Type} (x : S8x256.Idx → α) (p0 p1 p2 p3 p4 p5 p6 p7 : S1x256.Idx → α) :
    VecWindow.put (VecWindow.put (VecWindow.put (VecWindow.put (VecWindow.put (VecWindow.put (VecWindow.put (VecWindow.put x
      ![7, 0] S1x256.size p7) ![6, 0] S1x256.size p6) ![5, 0] S1x256.size p5) ![4, 0] S1x256.size p4)
      ![3, 0] S1x256.size p3) ![2, 0] S1x256.size p2) ![1, 0] S1x256.size p1) ![0, 0] S1x256.size p0
      = stackRows ![p0, p1, p2, p3, p4, p5, p6, p7] := by
  funext y
  rw [put_row, put_row, put_row, put_row, put_row, put_row, put_row, put_row]
  unfold stackRows
  generalize (ix2 0 (y 1) : S1x256.Idx) = z
  generalize y 0 = i
  change Fin 8 at i
  fin_cases i <;> rfl

/-! ## One trip of the backward kernel -/

section Bwd

variable (ones3 : Vec F S768x256 .bf16) (ones1 : Vec F S256x256 .bf16) (mask : Vec F S64x256 .f32)
  (r w k c b : Vec F S8x256 .f32) (st : Vec F S8x64x256 .f32) (p0 : Vec F S1x64x256 .f32)

/-- The decays of the eight steps, one column tile each. -/
def bW : FVec F S8x64x256 .f32 :=
  k1_pay23 (k1_pay2 ones3) (k1_pay4 mask) (k1_pay19 (k1_pay4 mask) w) (k1_pay21 (k1_pay4 mask) w) (k1_pay22 w)
/-- The column tiles of `c b k r`, one above the other. -/
def bAll := k1_pay24 (k1_pay3 ones1) (k1_pay4 mask) c b k r
/-- The column tiles of `c`. -/
def bC := k1_pay25 (k1_pay3 ones1) (k1_pay4 mask) c b k r
/-- The column tiles of `b`. -/
def bB := k1_pay26 (k1_pay3 ones1) (k1_pay4 mask) c b k r
/-- The column tiles of `k`. -/
def bK := k1_pay28 (k1_pay27 (k1_pay3 ones1) (k1_pay4 mask) c b k r)
/-- The column tiles of `r`. -/
def bR := k1_pay29 (bAll ones1 mask r k c b)
/-- The states before the eight steps. -/
def bTp : S8x64x256.Idx → F .f32 :=
  stack8 ![p0, k1_pay9 st, k1_pay10 st, k1_pay11 st, k1_pay13 (k1_pay12 st), k1_pay14 (k1_pay6 st), k1_pay15 (k1_pay6 st), k1_pay16 (k1_pay6 st)]
/-- The products of the previous states with `c`, summed over the keys. -/
def bSa : FVec F S8x256 .f32 := k1_pay30 (bTp st p0) (bC ones1 mask r k c b)

end Bwd

section BwdG

variable (dy : Vec F S8x256 .f32) (wt : FVec F S8x64x256 .f32) (all : FVec F S2048x256 .f32) (ct bt rt : FVec F S8x64x256 .f32) (g : Vec F S64x256 .f32)

/-- The state's gradient carried into step `5` of the eight, from the back. -/
def bG5 : FVec F S64x256 .f32 := k1_pay35 dy wt all ct bt g
/-- The part of `dsa` of step `6` already summed. -/
def bS6 : FVec F S256 .f32 := k1_pay37 dy wt all ct bt g
/-- The state's gradient at step `4`. -/
def bG4 : FVec F S64x256 .f32 := k1_pay44 dy wt ct bt rt (bG5 dy wt all ct bt g) (bS6 dy wt all ct bt g)
/-- The state's gradient at step `2`. -/
def bG2 : FVec F S64x256 .f32 := k1_pay52 dy wt ct bt rt (bG4 dy wt all ct bt rt g)
/-- The state's gradient carried into step `0`. -/
def bG0 : FVec F S64x256 .f32 := k1_pay60 dy wt ct bt rt (bG2 dy wt all ct bt rt g)

/-- The state's gradients at the eight steps. -/
def bD : S8x64x256.Idx → F .f32 :=
  stack8 ![k1_pay62 dy rt (bG0 dy wt all ct bt rt g), k1_pay57 dy wt ct bt rt (bG2 dy wt all ct bt rt g), k1_pay53 (bG2 dy wt all ct bt rt g),
    k1_pay49 dy wt ct bt rt (bG4 dy wt all ct bt rt g), k1_pay45 dy wt ct bt rt (bG5 dy wt all ct bt g) (bS6 dy wt all ct bt g),
    k1_pay41 dy wt ct rt (bG5 dy wt all ct bt g) (bS6 dy wt all ct bt g), k1_pay36 dy wt all ct bt g, k1_pay32 dy all g]

/-- The gradients of the products with `c` at the eight steps. -/
def bDsa : S8x256.Idx → F .f32 :=
  stackRows ![k1_pay64 dy bt rt (bG0 dy wt all ct bt rt g), k1_pay59 dy wt ct bt rt (bG2 dy wt all ct bt rt g), k1_pay55 bt (bG2 dy wt all ct bt rt g),
    k1_pay51 dy wt ct bt rt (bG4 dy wt all ct bt rt g), k1_pay47 bt (bG4 dy wt all ct bt rt g),
    k1_pay43 dy wt ct bt rt (bG5 dy wt all ct bt g) (bS6 dy wt all ct bt g), k1_pay39 (bS6 dy wt all ct bt g), k1_pay34 dy all bt g]

/-- The state's gradient the trip leaves. -/
def bGn : FVec F S64x256 .f32 := k1_pay65 dy wt ct bt rt (bG0 dy wt all ct bt rt g)

end BwdG

/-- What one backward trip reads: the rows of the seven arrays, the eight saved states, the one before them, and the
    state's gradient carried in. -/
structure BIn (F : FTy → Type) where
  ones3 : Vec F S768x256 .bf16
  ones1 : Vec F S256x256 .bf16
  mask : Vec F S64x256 .f32
  r : Vec F S8x256 .f32
  w : Vec F S8x256 .f32
  k : Vec F S8x256 .f32
  v : Vec F S8x256 .f32
  c : Vec F S8x256 .f32
  b : Vec F S8x256 .f32
  dy : Vec F S8x256 .f32
  st : Vec F S8x64x256 .f32
  p0 : Vec F S1x64x256 .f32
  g : Vec F S64x256 .f32

namespace BIn

variable (x : BIn F)

def wt : FVec F S8x64x256 .f32 := bW x.ones3 x.mask x.w
def all : FVec F S2048x256 .f32 := bAll x.ones1 x.mask x.r x.k x.c x.b
def ct : FVec F S8x64x256 .f32 := bC x.ones1 x.mask x.r x.k x.c x.b
def bt : FVec F S8x64x256 .f32 := bB x.ones1 x.mask x.r x.k x.c x.b
def kt : FVec F S8x64x256 .f32 := bK x.ones1 x.mask x.r x.k x.c x.b
def rt : FVec F S8x64x256 .f32 := bR x.ones1 x.mask x.r x.k x.c x.b
/-- The states before the eight steps. -/
def tp : S8x64x256.Idx → F .f32 := bTp x.st x.p0
/-- The state's gradients at the eight steps. -/
def d : S8x64x256.Idx → F .f32 := bD x.dy x.wt x.all x.ct x.bt x.rt x.g
/-- The gradients of the products with `c`. -/
def dsa : S8x256.Idx → F .f32 := bDsa x.dy x.wt x.all x.ct x.bt x.rt x.g
/-- The state's gradient carried out. -/
def gn : S64x256.Idx → F .f32 := bGn x.dy x.wt x.all x.ct x.bt x.rt x.g
def dr : S8x256.Idx → F .f32 := k1_pay68 (k1_pay4 x.mask) (k1_pay67 (k1_pay3 x.ones1) x.dy (k1_pay6 x.st))
def dw : S8x256.Idx → F .f32 := k1_pay70 (k1_pay3 x.ones1) (k1_pay4 x.mask) x.tp x.d
def dk : S8x256.Idx → F .f32 := k1_pay69 (k1_pay3 x.ones1) (k1_pay4 x.mask) x.v x.d
def dv : S8x256.Idx → F .f32 := k1_pay66 x.kt x.d
def dc : S8x256.Idx → F .f32 := k1_pay5 x.ones1 x.mask x.tp (k1_pay72 x.dsa)
def db : S8x256.Idx → F .f32 := k1_pay71 (k1_pay3 x.ones1) (k1_pay4 x.mask) (bSa x.ones1 x.mask x.r x.k x.c x.b x.st x.p0) x.d

end BIn

/-! ## One trip of the forward kernel -/

/-- What one forward trip reads: the rows of the six arrays and the state carried in. -/
structure FIn (F : FTy → Type) where
  ones3 : Vec F S768x256 .bf16
  ones1 : Vec F S256x256 .bf16
  mask : Vec F S64x256 .f32
  r : Vec F S8x256 .f32
  w : Vec F S8x256 .f32
  k : Vec F S8x256 .f32
  v : Vec F S8x256 .f32
  c : Vec F S8x256 .f32
  b : Vec F S8x256 .f32
  s : Vec F S64x256 .f32

namespace FIn

variable (x : FIn F)

def wt : FVec F S8x64x256 .f32 := k0_pay9 (k0_pay2 x.ones3) (k0_pay4 x.mask) x.w
def mc : FVec F S8x64x256 .f32 := k0_pay10 (k0_pay4 x.mask) x.c
def ct : FVec F S8x64x256 .f32 := k0_pay12 (k0_pay3 x.ones1) (k0_pay4 x.mask) x.b x.k x.r x.mc
def bt : FVec F S8x64x256 .f32 := k0_pay13 (k0_pay3 x.ones1) (k0_pay4 x.mask) x.b x.k x.r x.mc
def kt : FVec F S8x64x256 .f32 := k0_pay14 (k0_pay3 x.ones1) (k0_pay4 x.mask) x.b x.k x.r x.mc
def rt : FVec F S8x64x256 .f32 := k0_pay15 (k0_pay3 x.ones1) (k0_pay4 x.mask) x.b x.k x.r x.mc
/-- The state after step `0`, -/
def s0 : FVec F S64x256 .f32 := k0_pay16 (k0_pay3 x.ones1) (k0_pay4 x.mask) x.v x.wt x.b x.k x.r x.mc x.s
/-- after step `2`, -/
def s2 : FVec F S64x256 .f32 := k0_pay20 x.v x.wt x.ct x.bt x.kt x.s0
/-- after step `4`, -/
def s4 : FVec F S64x256 .f32 := k0_pay24 x.v x.wt x.ct x.bt x.kt x.s2
/-- and after step `6`. -/
def s6 : FVec F S64x256 .f32 := k0_pay28 x.v x.wt x.ct x.bt x.kt x.s4
/-- The states after the eight steps. -/
def st : S8x64x256.Idx → F .f32 :=
  stack8 ![k0_pay17 x.s0, k0_pay19 x.v x.wt x.ct x.bt x.kt x.s0, k0_pay21 x.s2, k0_pay23 x.v x.wt x.ct x.bt x.kt x.s2,
    k0_pay25 x.s4, k0_pay27 x.v x.wt x.ct x.bt x.kt x.s4, k0_pay29 x.v x.wt x.ct x.bt x.kt x.s4, k0_pay6 x.v x.wt x.ct x.bt x.kt x.s6]
/-- The state carried out. -/
def sn : S64x256.Idx → F .f32 := k0_pay7 x.v x.wt x.ct x.bt x.kt x.s6
/-- The outputs of the eight steps. -/
def y : S8x256.Idx → F .f32 := k0_pay8 x.rt x.st

end FIn

end Cert.KernelIdeal.Scan
-- ==== Proof.TripF.lean ====
/- One trip of the forward kernel's loop, run: what it leaves in each buffer, by the functions of `Pure`. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Exec
public import Idealize.ShloMosaic.Lib.Tactic
public import Idealize.ShloMosaic.Lib.Pipeline.Kit
public import Idealize.ShloMosaic.Lib.VecWindow
public import proofs.«01_k».proof.Proof.Pure

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

theorem trips0 : k0_t1_loop.trips = 16 := by decide

/-- Trip `k` of the forward loop does the eight steps `8 k …`. -/
def fStep (k : Fin k0_t1_loop.trips) : Fin 16 :=
  ⟨k.val, lt_of_lt_of_eq k.isLt trips0⟩

/-- What the trip doing steps `8 n …` reads, of the contents of the blocks. -/
def fIn (v3 : Vec F S768x256 .bf16) (v5 : Vec F S256x256 .bf16) (v7 : Vec F S64x256 .f32)
    (X1 X2 X3 X4 X5 X6 : S128x256.Idx → F .f32) (G : S64x256.Idx → F .f32) (n : Fin 16) : FIn F where
  ones3 := v3
  ones1 := v5
  mask := v7
  r := rows8 X1 n
  w := rows8 X2 n
  k := rows8 X3 n
  v := rows8 X4 n
  c := rows8 X5 n
  b := rows8 X6 n
  s := G

theorem k0_off1_eq : ∀ k : Fin k0_t1_loop.trips, k0_off1 k = ![8 * k.val, 0] := by decide +kernel
theorem k0_off3_eq : ∀ k : Fin k0_t1_loop.trips, k0_off3 k = ![8 * k.val, 0, 0] := by decide +kernel
theorem k0_off2_eq0 : ∀ k : Fin k0_t1_loop.trips, k0_off2 k 0#32 = ![8 * k.val + 0, 0, 0] := by decide +kernel
theorem k0_off2_eq1 : ∀ k : Fin k0_t1_loop.trips, k0_off2 k 1#32 = ![8 * k.val + 1, 0, 0] := by decide +kernel
theorem k0_off2_eq2 : ∀ k : Fin k0_t1_loop.trips, k0_off2 k 2#32 = ![8 * k.val + 2, 0, 0] := by decide +kernel
theorem k0_off2_eq3 : ∀ k : Fin k0_t1_loop.trips, k0_off2 k 3#32 = ![8 * k.val + 3, 0, 0] := by decide +kernel
theorem k0_off2_eq4 : ∀ k : Fin k0_t1_loop.trips, k0_off2 k 4#32 = ![8 * k.val + 4, 0, 0] := by decide +kernel
theorem k0_off2_eq5 : ∀ k : Fin k0_t1_loop.trips, k0_off2 k 5#32 = ![8 * k.val + 5, 0, 0] := by decide +kernel
theorem k0_off2_eq6 : ∀ k : Fin k0_t1_loop.trips, k0_off2 k 6#32 = ![8 * k.val + 6, 0, 0] := by decide +kernel
theorem k0_off2_eq7 : ∀ k : Fin k0_t1_loop.trips, k0_off2 k 7#32 = ![8 * k.val + 7, 0, 0] := by decide +kernel

/-- A load of the trip's eight rows. -/
theorem readAt_rows0 (m : Memref sig .tc .vmem S128x256 .f32) (f : BufTy.Contents (Elt F) m.view.ty) (k : Fin k0_t1_loop.trips) :
    m.view.readAt (Elt F) (Rect.unit (s := S128x256) (k0_off1 k) S8x256.size (k0_off1_inb k)).toLoadRect f = rows8 (m.view.read (Elt F) f) (fStep k) := by
  rw [View.readAt_unit m.view f (k0_off1_inb k) (k0_off1_eq k) (by rw [← k0_off1_eq k]; exact k0_off1_inb k)]
  funext y
  refine congrArg (m.view.read (Elt F) f) (funext fun a => Fin.ext ?_)
  match a with
  | ⟨0, _⟩ => show 8 * k.val + 1 * (y 0).val = 8 * k.val + (y 0).val; omega
  | ⟨1, _⟩ => show 0 + 1 * (y 1).val = (y 1).val; omega

/-- Eight states put at rows `o …` of a block of 128. -/
theorem put_states8 {α : Type} (x : S128x64x256.Idx → α) (o : ℕ) (w : S8x64x256.Idx → α) (y : S128x64x256.Idx) :
    VecWindow.put x ![o, 0, 0] S8x64x256.size w y
      = if h : o ≤ (y 0).val ∧ (y 0).val < o + 8 then w (ix3 ⟨(y 0).val - o, by omega⟩ (y 1) (y 2)) else x y := by
  unfold VecWindow.put
  have h1 : (y 1).val < 64 := (y 1).isLt
  have h2 : (y 2).val < 256 := (y 2).isLt
  by_cases h : o ≤ (y 0).val ∧ (y 0).val < o + 8
  · have hh : ∀ a, (![o, 0, 0] : Fin 3 → ℕ) a ≤ (y a).val ∧ (y a).val < (![o, 0, 0] : Fin 3 → ℕ) a + S8x64x256.size a := by
      intro a
      match a with
      | ⟨0, _⟩ => exact h
      | ⟨1, _⟩ => exact ⟨Nat.zero_le _, by show (y 1).val < 0 + 64; omega⟩
      | ⟨2, _⟩ => exact ⟨Nat.zero_le _, by show (y 2).val < 0 + 256; omega⟩
    rw [dif_pos hh, dif_pos h]
    refine congrArg w (funext fun a => Fin.ext ?_)
    match a with
    | ⟨0, _⟩ => rfl
    | ⟨1, _⟩ => exact Nat.sub_zero _
    | ⟨2, _⟩ => exact Nat.sub_zero _
  · have hh : ¬ ∀ a, (![o, 0, 0] : Fin 3 → ℕ) a ≤ (y a).val ∧ (y a).val < (![o, 0, 0] : Fin 3 → ℕ) a + S8x64x256.size a := fun q => h (q 0)
    rw [dif_neg hh, dif_neg h]

/-- Eight states put one by one at rows `o, o + 1, …` of a block are their stack put there. -/
theorem puts_states {α : Type} (x : S128x64x256.Idx → α) (o : ℕ) (p0 p1 p2 p3 p4 p5 p6 p7 : S1x64x256.Idx → α) :
    (VecWindow.put (VecWindow.put (VecWindow.put (VecWindow.put (VecWindow.put (VecWindow.put (VecWindow.put (VecWindow.put x ![o + 0, 0, 0] S1x64x256.size p0) ![o + 1, 0, 0] S1x64x256.size p1) ![o + 2, 0, 0] S1x64x256.size p2) ![o + 3, 0, 0] S1x64x256.size p3) ![o + 4, 0, 0] S1x64x256.size p4) ![o + 5, 0, 0] S1x64x256.size p5) ![o + 6, 0, 0] S1x64x256.size p6) ![o + 7, 0, 0] S1x64x256.size p7)
      = VecWindow.put x ![o, 0, 0] S8x64x256.size (stack8 ![p0, p1, p2, p3, p4, p5, p6, p7]) := by
  funext y
  rw [put_states8, put_state, put_state, put_state, put_state, put_state, put_state, put_state, put_state]
  by_cases h : o ≤ (y 0).val ∧ (y 0).val < o + 8
  · rw [dif_pos h]
    unfold stack8
    show _ = (![p0, p1, p2, p3, p4, p5, p6, p7] : Fin 8 → _) ⟨(y 0).val - o, by omega⟩ (ix3 0 (y 1) (y 2))
    generalize (ix3 0 (y 1) (y 2) : S1x64x256.Idx) = z
    obtain ⟨j, hj⟩ : ∃ j : Fin 8, (y 0).val = o + j.val := ⟨⟨(y 0).val - o, by omega⟩, by show _ = o + ((y 0).val - o); omega⟩
    rw [show (⟨(y 0).val - o, by omega⟩ : Fin 8) = j from Fin.ext (by show (y 0).val - o = j.val; omega), hj]
    fin_cases j <;> simp
  · rw [dif_neg h, if_neg (by omega), if_neg (by omega), if_neg (by omega), if_neg (by omega), if_neg (by omega), if_neg (by omega),
      if_neg (by omega), if_neg (by omega)]

/-- The eight states a trip stores. -/
theorem read_states_asc (m : View sig .tc .vmem S128x64x256 .f32) (f : BufTy.Contents (Elt F) m.ty) (k : Fin k0_t1_loop.trips) (p0 p1 p2 p3 p4 p5 p6 p7 : S1x64x256.Idx → F .f32) :
    m.read (Elt F) (m.writes (Elt F) f [⟨Rect.unit (s := S128x64x256) (k0_off2 k 7#32) S1x64x256.size (k0_off2_inb k 7), p7⟩, ⟨Rect.unit (s := S128x64x256) (k0_off2 k 6#32) S1x64x256.size (k0_off2_inb k 6), p6⟩, ⟨Rect.unit (s := S128x64x256) (k0_off2 k 5#32) S1x64x256.size (k0_off2_inb k 5), p5⟩, ⟨Rect.unit (s := S128x64x256) (k0_off2 k 4#32) S1x64x256.size (k0_off2_inb k 4), p4⟩, ⟨Rect.unit (s := S128x64x256) (k0_off2 k 3#32) S1x64x256.size (k0_off2_inb k 3), p3⟩, ⟨Rect.unit (s := S128x64x256) (k0_off2 k 2#32) S1x64x256.size (k0_off2_inb k 2), p2⟩, ⟨Rect.unit (s := S128x64x256) (k0_off2 k 1#32) S1x64x256.size (k0_off2_inb k 1), p1⟩, ⟨Rect.unit (s := S128x64x256) (k0_off2 k 0#32) S1x64x256.size (k0_off2_inb k 0), p0⟩])
      = VecWindow.put (m.read (Elt F) f) ![8 * k.val, 0, 0] S8x64x256.size (stack8 ![p0, p1, p2, p3, p4, p5, p6, p7]) := by
  refine Eq.trans ?_ (puts_states (m.read (Elt F) f) (8 * k.val) p0 p1 p2 p3 p4 p5 p6 p7)
  refine (View.read_writes_cons_put m _ _ _ _ (k0_off2_eq7 k)).trans (congrArg (fun z => VecWindow.put z _ _ _) ?_)
  refine (View.read_writes_cons_put m _ _ _ _ (k0_off2_eq6 k)).trans (congrArg (fun z => VecWindow.put z _ _ _) ?_)
  refine (View.read_writes_cons_put m _ _ _ _ (k0_off2_eq5 k)).trans (congrArg (fun z => VecWindow.put z _ _ _) ?_)
  refine (View.read_writes_cons_put m _ _ _ _ (k0_off2_eq4 k)).trans (congrArg (fun z => VecWindow.put z _ _ _) ?_)
  refine (View.read_writes_cons_put m _ _ _ _ (k0_off2_eq3 k)).trans (congrArg (fun z => VecWindow.put z _ _ _) ?_)
  refine (View.read_writes_cons_put m _ _ _ _ (k0_off2_eq2 k)).trans (congrArg (fun z => VecWindow.put z _ _ _) ?_)
  refine (View.read_writes_cons_put m _ _ _ _ (k0_off2_eq1 k)).trans (congrArg (fun z => VecWindow.put z _ _ _) ?_)
  refine (View.read_writes_cons_put m _ _ _ _ (k0_off2_eq0 k)).trans (congrArg (fun z => VecWindow.put z _ _ _) ?_)
  rfl

set_option maxHeartbeats 4000000 in
/-- ONE TRIP of the forward loop: the outputs and the saved states get the trip's rows, the carried state its next value. -/
theorem ft (𝒱 : Variants) (c : Dev nD) (bd : Option 𝒱.V) (E : Set ℕ) (i : grid0.Coords) (arg1 : Memref sig .tc .vmem S128x256 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S768x256 .bf16) (harg7 : arg7.IsWhole) (arg8 : Memref sig .tc .vmem S64x256 .f32) (harg8 : arg8.IsWhole) (arg9 : Memref sig .tc .vmem S128x256 .f32) (harg9 : arg9.IsWhole) (arg10 : Memref sig .tc .vmem S128x64x256 .f32) (harg10 : arg10.IsWhole) (arg11 : Memref sig .tc .vmem S64x256 .f32) (harg11 : arg11.IsWhole)
    (v3 : Vec F S768x256 .bf16) (v5 : Vec F S256x256 .bf16) (v7 : Vec F S64x256 .f32)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f9 : BufTy.Contents (Elt F) arg9.view.ty) (f10 : BufTy.Contents (Elt F) arg10.view.ty) (f11 : BufTy.Contents (Elt F) arg11.view.ty)
    (k : Fin k0_t1_loop.trips) :
    (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) : sProp 𝕄G) ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 v3 v5 v7 k PUnit.unit)
      (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (∃ h, (arg9.view.loc (c : Thread nD τ) ↦[arg9.view.set]{fullShare} h) ∗ ⌜arg9.view.read (Elt F) h = VecWindow.put (arg9.view.read (Elt F) f9) (k0_off1 k) S8x256.size (fIn v3 v5 v7 (arg1.view.read (Elt F) f1) (arg2.view.read (Elt F) f2) (arg3.view.read (Elt F) f3) (arg4.view.read (Elt F) f4) (arg5.view.read (Elt F) f5) (arg6.view.read (Elt F) f6) (arg11.view.read (Elt F) f11) (fStep k)).y⌝) ∗ (∃ h, (arg10.view.loc (c : Thread nD τ) ↦[arg10.view.set]{fullShare} h) ∗ ⌜arg10.view.read (Elt F) h = VecWindow.put (arg10.view.read (Elt F) f10) ![8 * k.val, 0, 0] S8x64x256.size (fIn v3 v5 v7 (arg1.view.read (Elt F) f1) (arg2.view.read (Elt F) f2) (arg3.view.read (Elt F) f3) (arg4.view.read (Elt F) f4) (arg5.view.read (Elt F) f5) (arg6.view.read (Elt F) f6) (arg11.view.read (Elt F) f11) (fStep k)).st⌝) ∗ (∃ h, (arg11.view.loc (c : Thread nD τ) ↦[arg11.view.set]{fullShare} h) ∗ ⌜arg11.view.read (Elt F) h = (fIn v3 v5 v7 (arg1.view.read (Elt F) f1) (arg2.view.read (Elt F) f2) (arg3.view.read (Elt F) f3) (arg4.view.read (Elt F) f4) (arg5.view.read (Elt F) f5) (arg6.view.read (Elt F) f6) (arg11.view.read (Elt F) f11) (fStep k)).sn⌝))) := by
  have hk16 : k.val < 16 := Nat.lt_of_lt_of_le k.isLt k0_t1_abs.2.1
  unfold k0_t1_body
  iintro ⟨H1, H2, H3, H4, H5, H6, H9, H10, H11⟩
  sl_exec
  sl_step
  obtain ⟨x, hx⟩ : ∃ x : FIn F, x = (fIn v3 v5 v7 (arg1.view.read (Elt F) f1) (arg2.view.read (Elt F) f2) (arg3.view.read (Elt F) f3) (arg4.view.read (Elt F) f4) (arg5.view.read (Elt F) f5) (arg6.view.read (Elt F) f6) (arg11.view.read (Elt F) f11) (fStep k)) := ⟨_, rfl⟩
  rw [← hx]
  have a1 : arg1.view.readAt (Elt F) (Rect.unit (s := S128x256) (k0_off1 k) S8x256.size (k0_off1_inb k)).toLoadRect f1 = x.r := by rw [readAt_rows0, hx]; rfl
  have a2 : arg2.view.readAt (Elt F) (Rect.unit (s := S128x256) (k0_off1 k) S8x256.size (k0_off1_inb k)).toLoadRect f2 = x.w := by rw [readAt_rows0, hx]; rfl
  have a3 : arg3.view.readAt (Elt F) (Rect.unit (s := S128x256) (k0_off1 k) S8x256.size (k0_off1_inb k)).toLoadRect f3 = x.k := by rw [readAt_rows0, hx]; rfl
  have a4 : arg4.view.readAt (Elt F) (Rect.unit (s := S128x256) (k0_off1 k) S8x256.size (k0_off1_inb k)).toLoadRect f4 = x.v := by rw [readAt_rows0, hx]; rfl
  have a5 : arg5.view.readAt (Elt F) (Rect.unit (s := S128x256) (k0_off1 k) S8x256.size (k0_off1_inb k)).toLoadRect f5 = x.c := by rw [readAt_rows0, hx]; rfl
  have a6 : arg6.view.readAt (Elt F) (Rect.unit (s := S128x256) (k0_off1 k) S8x256.size (k0_off1_inb k)).toLoadRect f6 = x.b := by rw [readAt_rows0, hx]; rfl
  have a11 : arg11.view.readAt (Elt F) (Rect.unit (s := S64x256) ![0, 0] S64x256.size inb_S64x256_S64x256_0_0).toLoadRect f11 = x.s := by rw [View.readAt_full, hx]; rfl
  have m3 : v3 = x.ones3 := by rw [hx]; rfl
  have m5 : v5 = x.ones1 := by rw [hx]; rfl
  have m7 : v7 = x.mask := by rw [hx]; rfl
  have h0 : ft.sl.r arg4 f4 k = x.v := by
    unfold ft.sl.r; rw [a4]
  have h1 : ft.sl.r_1 arg2 v3 v7 f2 k = x.wt := by
    unfold ft.sl.r_1; rw [a2, m3, m7]; rfl
  have h2 : ft.sl.r_2 arg6 f6 k = x.b := by
    unfold ft.sl.r_2; rw [a6]
  have h3 : ft.sl.r_3 arg3 f3 k = x.k := by
    unfold ft.sl.r_3; rw [a3]
  have h4 : ft.sl.r_4 arg1 f1 k = x.r := by
    unfold ft.sl.r_4; rw [a1]
  have h5 : ft.sl.r_5 arg5 v7 f5 k = x.mc := by
    unfold ft.sl.r_5; rw [a5, m7]; rfl
  have h6 : ft.sl.r_6 arg1 arg3 arg5 arg6 v5 v7 f1 f3 f5 f6 k = x.ct := by
    unfold ft.sl.r_6; rw [h2, h3, h4, h5, m5, m7]; rfl
  have h7 : ft.sl.r_7 arg1 arg3 arg5 arg6 v5 v7 f1 f3 f5 f6 k = x.bt := by
    unfold ft.sl.r_7; rw [h2, h3, h4, h5, m5, m7]; rfl
  have h8 : ft.sl.r_8 arg1 arg3 arg5 arg6 v5 v7 f1 f3 f5 f6 k = x.kt := by
    unfold ft.sl.r_8; rw [h2, h3, h4, h5, m5, m7]; rfl
  have h9 : ft.sl.r_9 arg1 arg3 arg5 arg6 v5 v7 f1 f3 f5 f6 k = x.rt := by
    unfold ft.sl.r_9; rw [h2, h3, h4, h5, m5, m7]; rfl
  have h10 : ft.sl.r_10 arg1 arg2 arg3 arg4 arg5 arg6 arg11 v3 v5 v7 f1 f2 f3 f4 f5 f6 f11 k = x.s0 := by
    unfold ft.sl.r_10; rw [h0, h1, h2, h3, h4, h5, a11, m5, m7]; rfl
  have h11 : ft.sl.r_11 arg1 arg2 arg3 arg4 arg5 arg6 arg11 v3 v5 v7 f1 f2 f3 f4 f5 f6 f11 k = x.s2 := by
    unfold ft.sl.r_11; rw [h0, h1, h6, h7, h8, h10]; rfl
  have h12 : ft.sl.r_12 arg1 arg2 arg3 arg4 arg5 arg6 arg11 v3 v5 v7 f1 f2 f3 f4 f5 f6 f11 k = x.s4 := by
    unfold ft.sl.r_12; rw [h0, h1, h6, h7, h8, h11]; rfl
  have h13 : ft.sl.r_13 arg1 arg2 arg3 arg4 arg5 arg6 arg11 v3 v5 v7 f1 f2 f3 f4 f5 f6 f11 k = x.s6 := by
    unfold ft.sl.r_13; rw [h0, h1, h6, h7, h8, h12]; rfl
  have hs : ∀ f10, arg10.view.read (Elt F) (arg10.view.writes (Elt F) f10 (ft.sl.H10_8 arg1 arg2 arg3 arg4 arg5 arg6 arg11 v3 v5 v7 f1 f2 f3 f4 f5 f6 f11 k)) = VecWindow.put (arg10.view.read (Elt F) f10) ![8 * k.val, 0, 0] S8x64x256.size x.st := by
    intro f10
    refine (read_states_asc arg10.view _ k _ _ _ _ _ _ _ _).trans ?_
    rw [h0, h1, h6, h7, h8, h10, h11, h12, h13]; rfl
  have hv : ft.sl.v291 arg1 arg2 arg3 arg4 arg5 arg6 arg10 arg11 v3 v5 v7 f1 f2 f3 f4 f5 f6 f11 k = x.st := by
    unfold ft.sl.v291 View.readCov
    rw [View.readAt_unit arg10.view _ (k0_off3_inb k) (k0_off3_eq k) (by rw [← k0_off3_eq k]; exact k0_off3_inb k)]
    rw [hs]
    exact VecWindow.window_put_same (s := S128x64x256) (α := F .f32) (arg10.view.read (Elt F) arg10.view.junk) ![8 * k.val, 0, 0] S8x64x256.size (by rw [← k0_off3_eq k]; exact k0_off3_inb k) x.st
  isplitl [H1]; · iexact H1
  isplitl [H2]; · iexact H2
  isplitl [H3]; · iexact H3
  isplitl [H4]; · iexact H4
  isplitl [H5]; · iexact H5
  isplitl [H6]; · iexact H6
  isplitl [H9]
  · iexists _; isplitl [H9]; · iexact H9
    ipureintro
    refine (View.read_writes_cons_put _ _ _ _ [] rfl).trans (congrArg (VecWindow.put _ _ _) ?_)
    rw [hv, h9]; rfl
  isplitl [H10]
  · iexists _; isplitl [H10]; · iexact H10
    ipureintro
    exact hs f10
  iexists _; isplitl [H11]; · iexact H11
  ipureintro
  exact (View.read_writes_full _ _ _ _ _).trans (by rw [h0, h1, h6, h7, h8, h13]; rfl)

end Cert.KernelIdeal.Scan
-- ==== Proof.TripB.lean ====
/- One trip of the backward kernel's loop, run: what it leaves in each buffer, by the functions of `Pure`. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Exec
public import Idealize.ShloMosaic.Lib.Tactic
public import Idealize.ShloMosaic.Lib.Pipeline.Kit
public import Idealize.ShloMosaic.Lib.VecWindow
public import proofs.«01_k».proof.Proof.Pure

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- Trip `k` of the backward loop does the eight steps `8 n …` with `n = 15 - k`. -/
def bStep (k : Fin k1_t1_loop.trips) : Fin 16 :=
  ⟨15 - k.val, by omega⟩

/-- What the trip doing steps `8 n …` reads, of the contents of the blocks. -/
def bIn (v3 : Vec F S768x256 .bf16) (v5 : Vec F S256x256 .bf16) (v7 : Vec F S64x256 .f32) (v9 : BitVec 1)
    (X1 X2 X3 X4 X5 X6 X7 : S128x256.Idx → F .f32) (X8 : S128x64x256.Idx → F .f32) (X9 : S1x64x256.Idx → F .f32)
    (G : S64x256.Idx → F .f32) (n : Fin 16) : BIn F where
  ones3 := v3
  ones1 := v5
  mask := v7
  r := rows8 X1 n
  w := rows8 X2 n
  k := rows8 X3 n
  v := rows8 X4 n
  c := rows8 X5 n
  b := rows8 X6 n
  dy := rows8 X7 n
  st := states8 X8 n
  p0 := if n.val = 0 then k1_pay8 v9 X9 else k1_pay7 (stateBefore X8 n)
  g := G

theorem trips1 : k1_t1_loop.trips = 16 := by decide

/-- A load of the trip's eight rows. -/
theorem readAt_rows (m : Memref sig .tc .vmem S128x256 .f32) (f : BufTy.Contents (Elt F) m.view.ty) (k : Fin k1_t1_loop.trips) :
    m.view.readAt (Elt F) (Rect.unit (s := S128x256) (k1_off1 k) S8x256.size (k1_off1_inb k)).toLoadRect f = rows8 (m.view.read (Elt F) f) (bStep k) := by
  have hk : k.val < 16 := lt_of_lt_of_eq k.isLt trips1
  rw [View.readAt_unit m.view f (k1_off1_inb k) (k1_off1_eq k) (by rw [← k1_off1_eq k]; exact k1_off1_inb k)]
  funext y
  refine congrArg (m.view.read (Elt F) f) (funext fun a => Fin.ext ?_)
  match a with
  | ⟨0, _⟩ => show 120 - 8 * k.val + 1 * (y 0).val = 8 * (15 - k.val) + (y 0).val; omega
  | ⟨1, _⟩ => show 0 + 1 * (y 1).val = (y 1).val; omega

/-- A load of the trip's eight states. -/
theorem readAt_states (m : Memref sig .tc .vmem S128x64x256 .f32) (f : BufTy.Contents (Elt F) m.view.ty) (k : Fin k1_t1_loop.trips) :
    m.view.readAt (Elt F) (Rect.unit (s := S128x64x256) (k1_off2 k) S8x64x256.size (k1_off2_inb k)).toLoadRect f = states8 (m.view.read (Elt F) f) (bStep k) := by
  have hk : k.val < 16 := lt_of_lt_of_eq k.isLt trips1
  rw [View.readAt_unit m.view f (k1_off2_inb k) (k1_off2_eq k) (by rw [← k1_off2_eq k]; exact k1_off2_inb k)]
  funext y
  refine congrArg (m.view.read (Elt F) f) (funext fun a => Fin.ext ?_)
  match a with
  | ⟨0, _⟩ => show 120 - 8 * k.val + 1 * (y 0).val = 8 * (15 - k.val) + (y 0).val; omega
  | ⟨1, _⟩ => show 0 + 1 * (y 1).val = (y 1).val; omega
  | ⟨2, _⟩ => show 0 + 1 * (y 2).val = (y 2).val; omega

theorem k1_cond2_iff : ∀ k : Fin k1_t1_loop.trips, k1_cond2 k = 1#1 ↔ k.val < 15 := by decide +kernel

theorem k1_off3_eq : ∀ k : Fin k1_t1_loop.trips, k.val < 15 → k1_off3 k = ![119 - 8 * k.val, 0, 0] := by decide +kernel

/-- A load of the state before the trip's eight. -/
theorem readAt_before (m : Memref sig .tc .vmem S128x64x256 .f32) (f : BufTy.Contents (Elt F) m.view.ty) (k : Fin k1_t1_loop.trips)
    (h : k1_cond2 k = 1#1) :
    m.view.readAt (Elt F) (Rect.unit (s := S128x64x256) (k1_off3 k) S1x64x256.size (k1_off3_inb k h)).toLoadRect f = stateBefore (m.view.read (Elt F) f) (bStep k) := by
  have hk : k.val < 15 := (k1_cond2_iff k).mp h
  rw [View.readAt_unit m.view f (k1_off3_inb k h) (k1_off3_eq k hk) (by rw [← k1_off3_eq k hk]; exact k1_off3_inb k h)]
  funext y
  have h0 : (y 0).val < 1 := (y 0).isLt
  refine congrArg (m.view.read (Elt F) f) (funext fun a => Fin.ext ?_)
  match a with
  | ⟨0, _⟩ => show 119 - 8 * k.val + 1 * (y 0).val = 8 * (15 - k.val) - 1; omega
  | ⟨1, _⟩ => show 0 + 1 * (y 1).val = (y 1).val; omega
  | ⟨2, _⟩ => show 0 + 1 * (y 2).val = (y 2).val; omega

/-- A buffer of eight slices with slice `j` stored last-to-first reads as their stack. -/
theorem read_slices_desc (m : View sig .tc .vmem S8x64x256 .f32) (f : BufTy.Contents (Elt F) m.ty) (p0 p1 p2 p3 p4 p5 p6 p7 : S1x64x256.Idx → F .f32) :
    m.read (Elt F) (m.writes (Elt F) f [⟨Rect.unit ![0, 0, 0] S1x64x256.size inb_S8x64x256_S1x64x256_0_0_0, p0⟩, ⟨Rect.unit ![1, 0, 0] S1x64x256.size inb_S8x64x256_S1x64x256_1_0_0, p1⟩,
      ⟨Rect.unit ![2, 0, 0] S1x64x256.size inb_S8x64x256_S1x64x256_2_0_0, p2⟩, ⟨Rect.unit ![3, 0, 0] S1x64x256.size inb_S8x64x256_S1x64x256_3_0_0, p3⟩,
      ⟨Rect.unit ![4, 0, 0] S1x64x256.size inb_S8x64x256_S1x64x256_4_0_0, p4⟩, ⟨Rect.unit ![5, 0, 0] S1x64x256.size inb_S8x64x256_S1x64x256_5_0_0, p5⟩,
      ⟨Rect.unit ![6, 0, 0] S1x64x256.size inb_S8x64x256_S1x64x256_6_0_0, p6⟩, ⟨Rect.unit ![7, 0, 0] S1x64x256.size inb_S8x64x256_S1x64x256_7_0_0, p7⟩])
      = stack8 ![p0, p1, p2, p3, p4, p5, p6, p7] := by
  refine Eq.trans ?_ (puts_desc (m.read (Elt F) f) p0 p1 p2 p3 p4 p5 p6 p7)
  iterate 8 refine (View.read_writes_cons_put m _ _ _ _ rfl).trans (congrArg (fun z => VecWindow.put z _ _ _) ?_)
  rfl

/-- The same for a buffer of eight rows. -/
theorem read_rows_desc (m : View sig .tc .vmem S8x256 .f32) (f : BufTy.Contents (Elt F) m.ty) (p0 p1 p2 p3 p4 p5 p6 p7 : S1x256.Idx → F .f32) :
    m.read (Elt F) (m.writes (Elt F) f [⟨Rect.unit ![0, 0] S1x256.size inb_S8x256_S1x256_0_0, p0⟩, ⟨Rect.unit ![1, 0] S1x256.size inb_S8x256_S1x256_1_0, p1⟩,
      ⟨Rect.unit ![2, 0] S1x256.size inb_S8x256_S1x256_2_0, p2⟩, ⟨Rect.unit ![3, 0] S1x256.size inb_S8x256_S1x256_3_0, p3⟩,
      ⟨Rect.unit ![4, 0] S1x256.size inb_S8x256_S1x256_4_0, p4⟩, ⟨Rect.unit ![5, 0] S1x256.size inb_S8x256_S1x256_5_0, p5⟩,
      ⟨Rect.unit ![6, 0] S1x256.size inb_S8x256_S1x256_6_0, p6⟩, ⟨Rect.unit ![7, 0] S1x256.size inb_S8x256_S1x256_7_0, p7⟩])
      = stackRows ![p0, p1, p2, p3, p4, p5, p6, p7] := by
  refine Eq.trans ?_ (puts_rows_desc (m.read (Elt F) f) p0 p1 p2 p3 p4 p5 p6 p7)
  iterate 8 refine (View.read_writes_cons_put m _ _ _ _ rfl).trans (congrArg (fun z => VecWindow.put z _ _ _) ?_)
  rfl

/-- Slices `1 … 7` stored first-to-last over contents whose slice `0` is `p0`. -/
theorem read_slices_asc (m : View sig .tc .vmem S8x64x256 .f32) (f : BufTy.Contents (Elt F) m.ty) (p0 p1 p2 p3 p4 p5 p6 p7 : S1x64x256.Idx → F .f32)
    (h0 : ∀ y : S8x64x256.Idx, (y 0).val = 0 → m.read (Elt F) f y = p0 (ix3 0 (y 1) (y 2))) :
    m.read (Elt F) (m.writes (Elt F) f [⟨Rect.unit ![7, 0, 0] S1x64x256.size inb_S8x64x256_S1x64x256_7_0_0, p7⟩,
      ⟨Rect.unit ![6, 0, 0] S1x64x256.size inb_S8x64x256_S1x64x256_6_0_0, p6⟩, ⟨Rect.unit ![5, 0, 0] S1x64x256.size inb_S8x64x256_S1x64x256_5_0_0, p5⟩,
      ⟨Rect.unit ![4, 0, 0] S1x64x256.size inb_S8x64x256_S1x64x256_4_0_0, p4⟩, ⟨Rect.unit ![3, 0, 0] S1x64x256.size inb_S8x64x256_S1x64x256_3_0_0, p3⟩,
      ⟨Rect.unit ![2, 0, 0] S1x64x256.size inb_S8x64x256_S1x64x256_2_0_0, p2⟩, ⟨Rect.unit ![1, 0, 0] S1x64x256.size inb_S8x64x256_S1x64x256_1_0_0, p1⟩])
      = stack8 ![p0, p1, p2, p3, p4, p5, p6, p7] := by
  refine Eq.trans ?_ (puts_asc (m.read (Elt F) f) p0 p1 p2 p3 p4 p5 p6 p7 h0)
  iterate 7 refine (View.read_writes_cons_put m _ _ _ _ rfl).trans (congrArg (fun z => VecWindow.put z _ _ _) ?_)
  rfl

/-- One slice stored at place `0`. -/
theorem read_slice0 (m : View sig .tc .vmem S8x64x256 .f32) (f : BufTy.Contents (Elt F) m.ty) (p : S1x64x256.Idx → F .f32) (y : S8x64x256.Idx) (h : (y 0).val = 0) :
    m.read (Elt F) (m.writes (Elt F) f [⟨Rect.unit ![0, 0, 0] S1x64x256.size inb_S8x64x256_S1x64x256_0_0_0, p⟩]) y = p (ix3 0 (y 1) (y 2)) :=
  (congrFun (View.read_writes_cons_put m f inb_S8x64x256_S1x64x256_0_0_0 p [] rfl) y).trans ((put_slice _ 0 p y).trans (if_pos h))

set_option maxHeartbeats 4000000 in
/-- ONE TRIP of the backward loop: the six outputs get the trip's rows, the carried gradient its next value. -/
theorem bt (𝒱 : Variants) (c : Dev nD) (bd : Option 𝒱.V) (E : Set ℕ) (i : grid1.Coords) (arg1 : Memref sig .tc .vmem S128x256 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x64x256 .f32) (harg8 : arg8.IsWhole) (arg9 : Memref sig .tc .vmem S1x64x256 .f32) (harg9 : arg9.IsWhole) (arg10 : Memref sig .tc .vmem S768x256 .bf16) (harg10 : arg10.IsWhole) (arg11 : Memref sig .tc .vmem S64x256 .f32) (harg11 : arg11.IsWhole) (arg12 : Memref sig .tc .vmem S128x256 .f32) (harg12 : arg12.IsWhole) (arg13 : Memref sig .tc .vmem S128x256 .f32) (harg13 : arg13.IsWhole) (arg14 : Memref sig .tc .vmem S128x256 .f32) (harg14 : arg14.IsWhole) (arg15 : Memref sig .tc .vmem S128x256 .f32) (harg15 : arg15.IsWhole) (arg16 : Memref sig .tc .vmem S128x256 .f32) (harg16 : arg16.IsWhole) (arg17 : Memref sig .tc .vmem S128x256 .f32) (harg17 : arg17.IsWhole) (arg18 : Memref sig .tc .vmem S64x256 .f32) (harg18 : arg18.IsWhole) (arg19 : Memref sig .tc .vmem S8x64x256 .f32) (harg19 : arg19.IsWhole) (arg20 : Memref sig .tc .vmem S8x64x256 .f32) (harg20 : arg20.IsWhole) (arg21 : Memref sig .tc .vmem S8x256 .f32) (harg21 : arg21.IsWhole)
    (v3 : Vec F S768x256 .bf16) (v5 : Vec F S256x256 .bf16) (v7 : Vec F S64x256 .f32) (v9 : BitVec 1)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty)
    (k : Fin k1_t1_loop.trips) :
    (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21)) : sProp 𝕄G) ⊢ wp frame (wpE (defs₀ (F := F)) 𝒱 (c : Thread nD τ) bd) E (k1_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v3 v5 v7 v9 k PUnit.unit)
      (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (∃ h, (arg12.view.loc (c : Thread nD τ) ↦[arg12.view.set]{fullShare} h) ∗ ⌜arg12.view.read (Elt F) h = VecWindow.put (arg12.view.read (Elt F) f12) (k1_off1 k) S8x256.size (bIn v3 v5 v7 v9 (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg18.view.read (Elt F) f18) (bStep k)).dr⌝) ∗ (∃ h, (arg13.view.loc (c : Thread nD τ) ↦[arg13.view.set]{fullShare} h) ∗ ⌜arg13.view.read (Elt F) h = VecWindow.put (arg13.view.read (Elt F) f13) (k1_off1 k) S8x256.size (bIn v3 v5 v7 v9 (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg18.view.read (Elt F) f18) (bStep k)).dw⌝) ∗ (∃ h, (arg14.view.loc (c : Thread nD τ) ↦[arg14.view.set]{fullShare} h) ∗ ⌜arg14.view.read (Elt F) h = VecWindow.put (arg14.view.read (Elt F) f14) (k1_off1 k) S8x256.size (bIn v3 v5 v7 v9 (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg18.view.read (Elt F) f18) (bStep k)).dk⌝) ∗ (∃ h, (arg15.view.loc (c : Thread nD τ) ↦[arg15.view.set]{fullShare} h) ∗ ⌜arg15.view.read (Elt F) h = VecWindow.put (arg15.view.read (Elt F) f15) (k1_off1 k) S8x256.size (bIn v3 v5 v7 v9 (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg18.view.read (Elt F) f18) (bStep k)).dv⌝) ∗ (∃ h, (arg16.view.loc (c : Thread nD τ) ↦[arg16.view.set]{fullShare} h) ∗ ⌜arg16.view.read (Elt F) h = VecWindow.put (arg16.view.read (Elt F) f16) (k1_off1 k) S8x256.size (bIn v3 v5 v7 v9 (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg18.view.read (Elt F) f18) (bStep k)).dc⌝) ∗ (∃ h, (arg17.view.loc (c : Thread nD τ) ↦[arg17.view.set]{fullShare} h) ∗ ⌜arg17.view.read (Elt F) h = VecWindow.put (arg17.view.read (Elt F) f17) (k1_off1 k) S8x256.size (bIn v3 v5 v7 v9 (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg18.view.read (Elt F) f18) (bStep k)).db⌝) ∗ (∃ h, (arg18.view.loc (c : Thread nD τ) ↦[arg18.view.set]{fullShare} h) ∗ ⌜arg18.view.read (Elt F) h = (bIn v3 v5 v7 v9 (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg18.view.read (Elt F) f18) (bStep k)).gn⌝) ∗ (∃ h, (arg19.view.loc (c : Thread nD τ) ↦[arg19.view.set]{fullShare} h)) ∗ (∃ h, (arg20.view.loc (c : Thread nD τ) ↦[arg20.view.set]{fullShare} h)) ∗ (∃ h, (arg21.view.loc (c : Thread nD τ) ↦[arg21.view.set]{fullShare} h)))) := by
  have hk16 : k.val < 16 := Nat.lt_of_lt_of_le k.isLt k1_t1_abs.2.1
  unfold k1_t1_body
  iintro ⟨H1, H2, H3, H4, H5, H6, H7, H8, H9, H12, H13, H14, H15, H16, H17, H18, H19, H20, H21⟩
  sl_exec
  sl_step
  obtain ⟨x, hx⟩ : ∃ x : BIn F, x = (bIn v3 v5 v7 v9 (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg18.view.read (Elt F) f18) (bStep k)) := ⟨_, rfl⟩
  rw [← hx]
  have e1 := readAt_rows arg1 f1 k
  have e2 := readAt_rows arg2 f2 k
  have e3 := readAt_rows arg3 f3 k
  have e4 := readAt_rows arg4 f4 k
  have e5 := readAt_rows arg5 f5 k
  have e6 := readAt_rows arg6 f6 k
  have e7 := readAt_rows arg7 f7 k
  have e8 := readAt_states arg8 f8 k
  have e18 := View.readAt_full arg18.view f18 inb_S64x256_S64x256_0_0
  have hx' : x = ⟨v3, v5, v7, (arg1.view.readAt (Elt F) (Rect.unit (s := S128x256) (k1_off1 k) S8x256.size (k1_off1_inb k)).toLoadRect f1), (arg2.view.readAt (Elt F) (Rect.unit (s := S128x256) (k1_off1 k) S8x256.size (k1_off1_inb k)).toLoadRect f2), (arg3.view.readAt (Elt F) (Rect.unit (s := S128x256) (k1_off1 k) S8x256.size (k1_off1_inb k)).toLoadRect f3), (arg4.view.readAt (Elt F) (Rect.unit (s := S128x256) (k1_off1 k) S8x256.size (k1_off1_inb k)).toLoadRect f4), (arg5.view.readAt (Elt F) (Rect.unit (s := S128x256) (k1_off1 k) S8x256.size (k1_off1_inb k)).toLoadRect f5), (arg6.view.readAt (Elt F) (Rect.unit (s := S128x256) (k1_off1 k) S8x256.size (k1_off1_inb k)).toLoadRect f6), (arg7.view.readAt (Elt F) (Rect.unit (s := S128x256) (k1_off1 k) S8x256.size (k1_off1_inb k)).toLoadRect f7),
      (arg8.view.readAt (Elt F) (Rect.unit (s := S128x64x256) (k1_off2 k) S8x64x256.size (k1_off2_inb k)).toLoadRect f8), x.p0,
      (arg18.view.readAt (Elt F) (Rect.unit (s := S64x256) ![0, 0] S64x256.size inb_S64x256_S64x256_0_0).toLoadRect f18)⟩ := by
    rw [e1, e2, e3, e4, e5, e6, e7, e8, e18, hx]; rfl
  have m3 : v3 = x.ones3 := by rw [hx']
  have m5 : v5 = x.ones1 := by rw [hx']
  have m7 : v7 = x.mask := by rw [hx']
  have a1 : arg1.view.readAt (Elt F) (Rect.unit (s := S128x256) (k1_off1 k) S8x256.size (k1_off1_inb k)).toLoadRect f1 = x.r := by rw [hx']
  have a2 : arg2.view.readAt (Elt F) (Rect.unit (s := S128x256) (k1_off1 k) S8x256.size (k1_off1_inb k)).toLoadRect f2 = x.w := by rw [hx']
  have a3 : arg3.view.readAt (Elt F) (Rect.unit (s := S128x256) (k1_off1 k) S8x256.size (k1_off1_inb k)).toLoadRect f3 = x.k := by rw [hx']
  have a4 : arg4.view.readAt (Elt F) (Rect.unit (s := S128x256) (k1_off1 k) S8x256.size (k1_off1_inb k)).toLoadRect f4 = x.v := by rw [hx']
  have a5 : arg5.view.readAt (Elt F) (Rect.unit (s := S128x256) (k1_off1 k) S8x256.size (k1_off1_inb k)).toLoadRect f5 = x.c := by rw [hx']
  have a6 : arg6.view.readAt (Elt F) (Rect.unit (s := S128x256) (k1_off1 k) S8x256.size (k1_off1_inb k)).toLoadRect f6 = x.b := by rw [hx']
  have a7 : arg7.view.readAt (Elt F) (Rect.unit (s := S128x256) (k1_off1 k) S8x256.size (k1_off1_inb k)).toLoadRect f7 = x.dy := by rw [hx']
  have a8 : arg8.view.readAt (Elt F) (Rect.unit (s := S128x64x256) (k1_off2 k) S8x64x256.size (k1_off2_inb k)).toLoadRect f8 = x.st := by rw [hx']
  have a18 : arg18.view.readAt (Elt F) (Rect.unit (s := S64x256) ![0, 0] S64x256.size inb_S64x256_S64x256_0_0).toLoadRect f18 = x.g := by rw [hx']
  have h0 : bt.sl.r arg4 f4 k = x.v := a4
  have h1 : bt.sl.r_1 arg7 f7 k = x.dy := a7
  have h2 : bt.sl.r_2 arg8 f8 k = k1_pay6 x.st := by
    unfold bt.sl.r_2; rw [a8]
  have h7 : bt.sl.r_7 arg2 v3 v7 f2 k = x.wt := by
    unfold bt.sl.r_7 bt.sl.r_4 bt.sl.r_5 bt.sl.r_6; rw [a2, m3, m7]; rfl
  have h8 : bt.sl.r_8 arg1 arg3 arg5 arg6 v5 v7 f1 f3 f5 f6 k = x.all := by
    unfold bt.sl.r_8; rw [a1, a3, a5, a6, m5, m7]; rfl
  have h9 : bt.sl.r_9 arg1 arg3 arg5 arg6 v5 v7 f1 f3 f5 f6 k = x.ct := by
    unfold bt.sl.r_9; rw [a1, a3, a5, a6, m5, m7]; rfl
  have h10 : bt.sl.r_10 arg1 arg3 arg5 arg6 v5 v7 f1 f3 f5 f6 k = x.bt := by
    unfold bt.sl.r_10; rw [a1, a3, a5, a6, m5, m7]; rfl
  have h12 : bt.sl.r_12 arg1 arg3 arg5 arg6 v5 v7 f1 f3 f5 f6 k = x.kt := by
    unfold bt.sl.r_12 bt.sl.r_11; rw [a1, a3, a5, a6, m5, m7]; rfl
  have h13 : bt.sl.r_13 arg1 arg3 arg5 arg6 v5 v7 f1 f3 f5 f6 k = x.rt := by
    unfold bt.sl.r_13; rw [h8]; rfl
  have h15 : bt.sl.r_15 arg1 arg2 arg3 arg5 arg6 arg7 arg18 v3 v5 v7 f1 f2 f3 f5 f6 f7 f18 k = bG5 x.dy x.wt x.all x.ct x.bt x.g := by
    unfold bt.sl.r_15; rw [h1, h7, h8, h9, h10, a18]; rfl
  have h16 : bt.sl.r_16 arg1 arg2 arg3 arg5 arg6 arg7 arg18 v3 v5 v7 f1 f2 f3 f5 f6 f7 f18 k = bS6 x.dy x.wt x.all x.ct x.bt x.g := by
    unfold bt.sl.r_16; rw [h1, h7, h8, h9, h10, a18]; rfl
  have h17 : bt.sl.r_17 arg1 arg2 arg3 arg5 arg6 arg7 arg18 v3 v5 v7 f1 f2 f3 f5 f6 f7 f18 k = bG4 x.dy x.wt x.all x.ct x.bt x.rt x.g := by
    unfold bt.sl.r_17; rw [h1, h7, h9, h10, h13, h15, h16]; rfl
  have h18 : bt.sl.r_18 arg1 arg2 arg3 arg5 arg6 arg7 arg18 v3 v5 v7 f1 f2 f3 f5 f6 f7 f18 k = k1_pay45 x.dy x.wt x.ct x.bt x.rt (bG5 x.dy x.wt x.all x.ct x.bt x.g) (bS6 x.dy x.wt x.all x.ct x.bt x.g) := by
    unfold bt.sl.r_18; rw [h1, h7, h9, h10, h13, h15, h16]
  have h19 : bt.sl.r_19 arg1 arg2 arg3 arg5 arg6 arg7 arg18 v3 v5 v7 f1 f2 f3 f5 f6 f7 f18 k = bG2 x.dy x.wt x.all x.ct x.bt x.rt x.g := by
    unfold bt.sl.r_19; rw [h1, h7, h9, h10, h13, h17]; rfl
  have h20 : bt.sl.r_20 arg1 arg2 arg3 arg5 arg6 arg7 arg18 v3 v5 v7 f1 f2 f3 f5 f6 f7 f18 k = bG0 x.dy x.wt x.all x.ct x.bt x.rt x.g := by
    unfold bt.sl.r_20; rw [h1, h7, h9, h10, h13, h19]; rfl
  have h21 : bt.sl.r_21 arg7 arg8 v5 f7 f8 k = k1_pay67 (k1_pay3 x.ones1) x.dy (k1_pay6 x.st) := by
    unfold bt.sl.r_21; rw [h1, h2, m5]
  have hd : bt.sl.v349 arg1 arg2 arg3 arg5 arg6 arg7 arg18 arg20 v3 v5 v7 f1 f2 f3 f5 f6 f7 f18 k = x.d := by
    unfold bt.sl.v349 View.readCov
    rw [View.readAt_full]
    refine (read_slices_desc arg20.view _ _ _ _ _ _ _ _ _).trans ?_
    rw [h1, h7, h8, h9, h10, h13, h15, h16, h17, h18, h19, h20, a18]; rfl
  have hs : bt.sl.v350 arg1 arg2 arg3 arg5 arg6 arg7 arg18 arg21 v3 v5 v7 f1 f2 f3 f5 f6 f7 f18 k = x.dsa := by
    unfold bt.sl.v350 View.readCov
    rw [View.readAt_full]
    refine (read_rows_desc arg21.view _ _ _ _ _ _ _ _ _).trans ?_
    rw [h1, h7, h8, h9, h10, h13, h15, h16, h17, h19, h20, a18]; rfl
  have h3 : bt.sl.r_3 arg8 f8 k = k1_pay12 x.st := by
    unfold bt.sl.r_3; rw [a8]
  have hv : ∀ k : Fin k1_t1_loop.trips, bt.sl.v26 k = 1#1 ↔ ¬ k.val < 15 := by decide +kernel
  have hp : x.p0 = if 15 - k.val = 0 then k1_pay8 v9 (arg9.view.read (Elt F) f9) else k1_pay7 (stateBefore (arg8.view.read (Elt F) f8) (bStep k)) := by
    rw [hx]; rfl
  have ht : bt.sl.v62 arg8 arg9 arg19 v9 f8 f9 f19 k = x.tp := by
    unfold bt.sl.v62
    rw [View.readAt_full]
    refine (read_slices_asc arg19.view _ x.p0 _ _ _ _ _ _ _ fun y hy => ?_).trans (by rw [h3, h2, a8]; rfl)
    rw [hp]
    by_cases hc : k1_cond2 k = 1#1
    · have h15 := (k1_cond2_iff k).mp hc
      rw [dif_neg (fun h => (hv k).mp h h15), dif_pos hc, if_neg (by omega), ← readAt_before arg8 f8 k hc]
      exact read_slice0 arg19.view f19 _ y hy
    · have h15 : ¬ k.val < 15 := fun h => hc ((k1_cond2_iff k).mpr h)
      rw [dif_pos ((hv k).mpr h15), dif_neg hc, if_pos (by omega), ← View.readAt_full arg9.view f9 inb_S1x64x256_S1x64x256_0_0_0]
      exact read_slice0 arg19.view f19 _ y hy
  have h14 : bt.sl.r_14 arg1 arg3 arg5 arg6 arg8 arg9 arg19 v5 v7 v9 f1 f3 f5 f6 f8 f9 f19 k = k1_pay30 x.tp x.ct := by
    unfold bt.sl.r_14; rw [ht, h9]
  have h22 : bt.sl.r_22 arg1 arg2 arg3 arg5 arg6 arg7 arg18 arg21 v3 v5 v7 f1 f2 f3 f5 f6 f7 f18 k = k1_pay72 x.dsa := by
    unfold bt.sl.r_22; rw [hs]
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H12]
  · iexists _; isplitl [H12]; · iexact H12
    ipureintro
    refine (View.read_writes_cons_put _ _ _ _ [] rfl).trans (congrArg (VecWindow.put _ _ _) ?_)
    rw [h21, m7]; rfl
  isplitl [H13]
  · iexists _; isplitl [H13]; · iexact H13
    ipureintro
    refine (View.read_writes_cons_put _ _ _ _ [] rfl).trans (congrArg (VecWindow.put _ _ _) ?_)
    rw [ht, hd, m5, m7]; rfl
  isplitl [H14]
  · iexists _; isplitl [H14]; · iexact H14
    ipureintro
    refine (View.read_writes_cons_put _ _ _ _ [] rfl).trans (congrArg (VecWindow.put _ _ _) ?_)
    rw [hd, h0, m5, m7]; rfl
  isplitl [H15]
  · iexists _; isplitl [H15]; · iexact H15
    ipureintro
    refine (View.read_writes_cons_put _ _ _ _ [] rfl).trans (congrArg (VecWindow.put _ _ _) ?_)
    rw [hd, h12]; rfl
  isplitl [H16]
  · iexists _; isplitl [H16]; · iexact H16
    ipureintro
    refine (View.read_writes_cons_put _ _ _ _ [] rfl).trans (congrArg (VecWindow.put _ _ _) ?_)
    rw [ht, h22, m5, m7]; rfl
  isplitl [H17]
  · iexists _; isplitl [H17]; · iexact H17
    ipureintro
    refine (View.read_writes_cons_put _ _ _ _ [] rfl).trans (congrArg (VecWindow.put _ _ _) ?_)
    rw [hd, h14, m5, m7]; rfl
  isplitl [H18]
  · iexists _; isplitl [H18]; · iexact H18
    ipureintro
    exact (View.read_writes_full _ _ _ _ _).trans (by rw [h1, h7, h9, h10, h13, h20]; rfl)
  isplitl [H19]; · iexists _; iexact H19
  isplitl [H20]; · iexists _; iexact H20
  iexists _; iexact H21

end Cert.KernelIdeal.Scan
-- ==== Proof.Seq.lean ====
/- One block of 128 steps of each kernel, as a function of what it reads: sixteen trips carrying the state or its gradient. -/
module

public import proofs.«01_k».proof.Proof.TripF
public import proofs.«01_k».proof.Proof.TripB

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Rows put at trip `n`, going up: the rows below are kept. -/
theorem rows_up {α : Type} (x : S128x256.Idx → α) (p : Fin 16 → S8x256.Idx → α) (n : Fin 16)
    (h : ∀ y : S128x256.Idx, (y 0).val < 8 * n.val → x y = ofRows8 p y) (y : S128x256.Idx) (hy : (y 0).val < 8 * (n.val + 1)) :
    VecWindow.put x ![8 * n.val, 0] S8x256.size (p n) y = ofRows8 p y := by
  rw [put_rows8]
  by_cases hb : 8 * n.val ≤ (y 0).val
  · rw [dif_pos ⟨hb, by omega⟩]
    unfold ofRows8
    rw [show (⟨(y 0).val / 8, by have : (y 0).val < 128 := (y 0).isLt; omega⟩ : Fin 16) = n from Fin.ext (by show (y 0).val / 8 = n.val; omega)]
    exact congrArg (fun i : Fin 8 => p n (ix2 i (y 1))) (Fin.ext (by show (y 0).val - 8 * n.val = (y 0).val % 8; omega))
  · rw [dif_neg (fun q => hb q.1)]
    exact h y (by omega)

/-- Rows put at trip `n`, going down: the rows above are kept. -/
theorem rows_down {α : Type} (x : S128x256.Idx → α) (p : Fin 16 → S8x256.Idx → α) (n : Fin 16)
    (h : ∀ y : S128x256.Idx, 8 * (n.val + 1) ≤ (y 0).val → x y = ofRows8 p y) (y : S128x256.Idx) (hy : 8 * n.val ≤ (y 0).val) :
    VecWindow.put x ![8 * n.val, 0] S8x256.size (p n) y = ofRows8 p y := by
  rw [put_rows8]
  by_cases hb : (y 0).val < 8 * n.val + 8
  · rw [dif_pos ⟨hy, hb⟩]
    unfold ofRows8
    rw [show (⟨(y 0).val / 8, by have : (y 0).val < 128 := (y 0).isLt; omega⟩ : Fin 16) = n from Fin.ext (by show (y 0).val / 8 = n.val; omega)]
    exact congrArg (fun i : Fin 8 => p n (ix2 i (y 1))) (Fin.ext (by show (y 0).val - 8 * n.val = (y 0).val % 8; omega))
  · rw [dif_neg (fun q => hb q.2)]
    exact h y (by omega)

/-- States put at trip `n`, going up. -/
theorem states_up {α : Type} (x : S128x64x256.Idx → α) (p : Fin 16 → S8x64x256.Idx → α) (n : Fin 16)
    (h : ∀ y : S128x64x256.Idx, (y 0).val < 8 * n.val → x y = ofStates8 p y) (y : S128x64x256.Idx) (hy : (y 0).val < 8 * (n.val + 1)) :
    VecWindow.put x ![8 * n.val, 0, 0] S8x64x256.size (p n) y = ofStates8 p y := by
  rw [put_states8]
  by_cases hb : 8 * n.val ≤ (y 0).val
  · rw [dif_pos ⟨hb, by omega⟩]
    unfold ofStates8
    rw [show (⟨(y 0).val / 8, by have : (y 0).val < 128 := (y 0).isLt; omega⟩ : Fin 16) = n from Fin.ext (by show (y 0).val / 8 = n.val; omega)]
    exact congrArg (fun i : Fin 8 => p n (ix3 i (y 1) (y 2))) (Fin.ext (by show (y 0).val - 8 * n.val = (y 0).val % 8; omega))
  · rw [dif_neg (fun q => hb q.1)]
    exact h y (by omega)

/-- What a forward block reads. -/
structure FBlk (F : FTy → Type) where
  ones3 : Vec F S768x256 .bf16
  ones1 : Vec F S256x256 .bf16
  mask : Vec F S64x256 .f32
  r : S128x256.Idx → F .f32
  w : S128x256.Idx → F .f32
  k : S128x256.Idx → F .f32
  v : S128x256.Idx → F .f32
  c : S128x256.Idx → F .f32
  b : S128x256.Idx → F .f32

namespace FBlk

variable (x : FBlk F) (G : S64x256.Idx → F .f32)

/-- The trip doing steps `8 n …` from the carried state `s`. -/
def trip (s : S64x256.Idx → F .f32) (n : Fin 16) : FIn F := fIn x.ones3 x.ones1 x.mask x.r x.w x.k x.v x.c x.b s n

/-- The state carried into trip `n`, from `G` at the block's start. -/
def seq : ℕ → S64x256.Idx → F .f32
  | 0 => G
  | n + 1 => if h : n < 16 then (x.trip (seq n) ⟨n, h⟩).sn else seq n

/-- Trip `n` at the state it meets. -/
def at' (n : Fin 16) : FIn F := x.trip (x.seq G n.val) n
/-- The block's outputs, -/
def Y : S128x256.Idx → F .f32 := ofRows8 fun n => (x.at' G n).y
/-- the states after its steps, -/
def ST : S128x64x256.Idx → F .f32 := ofStates8 fun n => (x.at' G n).st
/-- and the state it leaves. -/
def out : S64x256.Idx → F .f32 := x.seq G 16

theorem seq_succ (n : Fin 16) : x.seq G (n.val + 1) = (x.at' G n).sn := dif_pos n.isLt

end FBlk

/-- What a backward block reads. -/
structure BBlk (F : FTy → Type) where
  ones3 : Vec F S768x256 .bf16
  ones1 : Vec F S256x256 .bf16
  mask : Vec F S64x256 .f32
  first : BitVec 1
  r : S128x256.Idx → F .f32
  w : S128x256.Idx → F .f32
  k : S128x256.Idx → F .f32
  v : S128x256.Idx → F .f32
  c : S128x256.Idx → F .f32
  b : S128x256.Idx → F .f32
  dy : S128x256.Idx → F .f32
  st : S128x64x256.Idx → F .f32
  prev : S1x64x256.Idx → F .f32

namespace BBlk

variable (x : BBlk F) (G : S64x256.Idx → F .f32)

/-- The trip doing steps `8 n …` from the carried gradient `g`. -/
def trip (g : S64x256.Idx → F .f32) (n : Fin 16) : BIn F :=
  bIn x.ones3 x.ones1 x.mask x.first x.r x.w x.k x.v x.c x.b x.dy x.st x.prev g n

/-- The state's gradient carried into the trip number `k` (which does steps `8 (15 - k) …`), from `G` at the block's end. -/
def seq : ℕ → S64x256.Idx → F .f32
  | 0 => G
  | k + 1 => if h : k < 16 then (x.trip (seq k) ⟨15 - k, by omega⟩).gn else seq k

/-- The trip doing steps `8 n …` at the gradient it meets. -/
def at' (n : Fin 16) : BIn F := x.trip (x.seq G (15 - n.val)) n
/-- The gradients of `r`, -/
def DR : S128x256.Idx → F .f32 := ofRows8 fun n => (x.at' G n).dr
/-- of `w`, -/
def DW : S128x256.Idx → F .f32 := ofRows8 fun n => (x.at' G n).dw
/-- of `k`, -/
def DK : S128x256.Idx → F .f32 := ofRows8 fun n => (x.at' G n).dk
/-- of `v`, -/
def DV : S128x256.Idx → F .f32 := ofRows8 fun n => (x.at' G n).dv
/-- of `c`, -/
def DC : S128x256.Idx → F .f32 := ofRows8 fun n => (x.at' G n).dc
/-- of `b`, -/
def DB : S128x256.Idx → F .f32 := ofRows8 fun n => (x.at' G n).db
/-- and the state's gradient at the block's start. -/
def out : S64x256.Idx → F .f32 := x.seq G 16

theorem seq_succ (k : ℕ) (h : k < 16) : x.seq G (k + 1) = (x.at' G ⟨15 - k, by omega⟩).gn := by
  refine (dif_pos h).trans ?_
  unfold at'
  rw [show 15 - (15 - k) = k by omega]

end BBlk

end Cert.KernelIdeal.Scan
-- ==== Proof.InvF.lean ====
/- One block of the forward kernel: its loop by an invariant, then the whole body. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Exec
public import Idealize.ShloMosaic.Lib.Tactic
public import Idealize.ShloMosaic.Lib.Pipeline.Kit
public import Idealize.ShloMosaic.Lib.VecWindow
public import proofs.«01_k».proof.Proof.Seq

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- Before trip `k` of the forward loop: the blocks read as at the start, the rows of the trips done, the carried value. -/
def inv0 (c : Dev nD) (arg1 : Memref sig .tc .vmem S128x256 .f32) (arg2 : Memref sig .tc .vmem S128x256 .f32) (arg3 : Memref sig .tc .vmem S128x256 .f32) (arg4 : Memref sig .tc .vmem S128x256 .f32) (arg5 : Memref sig .tc .vmem S128x256 .f32) (arg6 : Memref sig .tc .vmem S128x256 .f32) (arg9 : Memref sig .tc .vmem S128x256 .f32) (arg10 : Memref sig .tc .vmem S128x64x256 .f32) (arg11 : Memref sig .tc .vmem S64x256 .f32) (v3 : Vec F S768x256 .bf16) (v5 : Vec F S256x256 .bf16) (v7 : Vec F S64x256 .f32)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (G : S64x256.Idx → F .f32) (k : ℕ) (_ : PUnit) : sProp 𝕄G :=
  iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (∃ h, (arg9.view.loc (c : Thread nD τ) ↦[arg9.view.set]{fullShare} h) ∗ ⌜∀ y : S128x256.Idx, (y 0).val < 8 * k → arg9.view.read (Elt F) h y = (FBlk.mk v3 v5 v7 (arg1.view.read (Elt F) f1) (arg2.view.read (Elt F) f2) (arg3.view.read (Elt F) f3) (arg4.view.read (Elt F) f4) (arg5.view.read (Elt F) f5) (arg6.view.read (Elt F) f6) : FBlk F).Y G y⌝) ∗ (∃ h, (arg10.view.loc (c : Thread nD τ) ↦[arg10.view.set]{fullShare} h) ∗ ⌜∀ y : S128x64x256.Idx, (y 0).val < 8 * k → arg10.view.read (Elt F) h y = (FBlk.mk v3 v5 v7 (arg1.view.read (Elt F) f1) (arg2.view.read (Elt F) f2) (arg3.view.read (Elt F) f3) (arg4.view.read (Elt F) f4) (arg5.view.read (Elt F) f5) (arg6.view.read (Elt F) f6) : FBlk F).ST G y⌝) ∗ (∃ h, (arg11.view.loc (c : Thread nD τ) ↦[arg11.view.set]{fullShare} h) ∗ ⌜arg11.view.read (Elt F) h = (FBlk.mk v3 v5 v7 (arg1.view.read (Elt F) f1) (arg2.view.read (Elt F) f2) (arg3.view.read (Elt F) f3) (arg4.view.read (Elt F) f4) (arg5.view.read (Elt F) f5) (arg6.view.read (Elt F) f6) : FBlk F).seq G k⌝))

set_option maxHeartbeats 4000000 in
/-- One trip keeps the invariant. -/
theorem inv0_step (𝒱 : Variants) (c : Dev nD) (bd : Option 𝒱.V) (E : Set ℕ) (i : grid0.Coords) (arg1 : Memref sig .tc .vmem S128x256 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S768x256 .bf16) (harg7 : arg7.IsWhole) (arg8 : Memref sig .tc .vmem S64x256 .f32) (harg8 : arg8.IsWhole) (arg9 : Memref sig .tc .vmem S128x256 .f32) (harg9 : arg9.IsWhole) (arg10 : Memref sig .tc .vmem S128x64x256 .f32) (harg10 : arg10.IsWhole) (arg11 : Memref sig .tc .vmem S64x256 .f32) (harg11 : arg11.IsWhole) (v3 : Vec F S768x256 .bf16) (v5 : Vec F S256x256 .bf16) (v7 : Vec F S64x256 .f32)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (G : S64x256.Idx → F .f32) (k : Fin k0_t1_loop.trips) (acc : PUnit) :
    (inv0 c arg1 arg2 arg3 arg4 arg5 arg6 arg9 arg10 arg11 v3 v5 v7 f1 f2 f3 f4 f5 f6 G k.val acc : sProp 𝕄G) ⊢ wp frame (wpE (defs₀ (F := F)) 𝒱 (c : Thread nD τ) bd) E
      (k0_t1_body (F := F) i arg1 harg1 arg2 harg2 arg3 harg3 arg4 harg4 arg5 harg5 arg6 harg6 arg7 harg7 arg8 harg8 arg9 harg9 arg10 harg10 arg11 harg11 v3 v5 v7 k acc) (fun acc => inv0 c arg1 arg2 arg3 arg4 arg5 arg6 arg9 arg10 arg11 v3 v5 v7 f1 f2 f3 f4 f5 f6 G (k.val + 1) acc) := by
  have hk16 : k.val < 16 := lt_of_lt_of_eq k.isLt trips0
  unfold inv0
  obtain ⟨x, hx⟩ : ∃ x : FBlk F, x = (FBlk.mk v3 v5 v7 (arg1.view.read (Elt F) f1) (arg2.view.read (Elt F) f2) (arg3.view.read (Elt F) f3) (arg4.view.read (Elt F) f4) (arg5.view.read (Elt F) f5) (arg6.view.read (Elt F) f6) : FBlk F) := ⟨_, rfl⟩
  rw [← hx]
  iintro ⟨H1, H2, H3, H4, H5, H6, ⟨%h9, H9, %e9⟩, ⟨%h10, H10, %e10⟩, ⟨%h11, H11, %e11⟩⟩
  iapply (wp_wand_r Idealize.ShloMosaic.frame (wpE (defs₀ (F := F)) 𝒱 (c : Thread nD τ) bd) E)
  isplitl [H1 H2 H3 H4 H5 H6 H9 H10 H11]
  · iapply (ft 𝒱 c bd E i arg1 harg1 arg2 harg2 arg3 harg3 arg4 harg4 arg5 harg5 arg6 harg6 arg7 harg7 arg8 harg8 arg9 harg9 arg10 harg10 arg11 harg11 v3 v5 v7 f1 f2 f3 f4 f5 f6 h9 h10 h11 k)
    isplitl [H1]; · iexact H1
    isplitl [H2]; · iexact H2
    isplitl [H3]; · iexact H3
    isplitl [H4]; · iexact H4
    isplitl [H5]; · iexact H5
    isplitl [H6]; · iexact H6
    isplitl [H9]; · iexact H9
    isplitl [H10]; · iexact H10
    iexact H11
  · have hin : fIn v3 v5 v7 (arg1.view.read (Elt F) f1) (arg2.view.read (Elt F) f2) (arg3.view.read (Elt F) f3) (arg4.view.read (Elt F) f4) (arg5.view.read (Elt F) f5) (arg6.view.read (Elt F) f6) (arg11.view.read (Elt F) h11) (fStep k) = x.at' G (fStep k) := by
      rw [e11, hx]
      unfold FBlk.at'
      rfl
    iintro %_ ⟨H1, H2, H3, H4, H5, H6, ⟨%g9, H9, %q9⟩, ⟨%g10, H10, %q10⟩, ⟨%g11, H11, %q11⟩⟩
    isplitl [H1]; · iexact H1
    isplitl [H2]; · iexact H2
    isplitl [H3]; · iexact H3
    isplitl [H4]; · iexact H4
    isplitl [H5]; · iexact H5
    isplitl [H6]; · iexact H6
    isplitl [H9]
    · iexists _; isplitl [H9]; · iexact H9
      ipureintro
      intro y hy
      rw [q9, hin, k0_off1_eq]; exact rows_up _ (fun n => (x.at' G n).y) (fStep k) e9 y hy
    isplitl [H10]
    · iexists _; isplitl [H10]; · iexact H10
      ipureintro
      intro y hy
      rw [q10, hin]; exact states_up _ (fun n => (x.at' G n).st) (fStep k) e10 y hy
    iexists _; isplitl [H11]; · iexact H11
    ipureintro
    rw [q11, hin]; exact (x.seq_succ G (fStep k)).symm

end Cert.KernelIdeal.Scan
-- ==== Proof.BodyF.lean ====
/- One block of the forward kernel: the whole body, given the loop's invariant. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Exec
public import Idealize.ShloMosaic.Lib.Tactic
public import Idealize.ShloMosaic.Lib.Pipeline.Kit
public import Idealize.ShloMosaic.Lib.VecWindow
public import proofs.«01_k».proof.Proof.InvF

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The first 256 rows of the stacked ones. -/
def top (x : S768x256.Idx → F .bf16) : S256x256.Idx → F .bf16 := fun y => x (ix2 ⟨(y 0).val, lt_trans (y 0).isLt (by decide)⟩ (y 1))

set_option maxHeartbeats 400000 in
/-- THE BODY of the forward kernel at grid point `i`: its outputs by the block's functions, the carried value handed on. -/
theorem body0 (𝒱 : Variants) (c : Dev nD) (bd : Option 𝒱.V) (E : Set ℕ) (i : grid0.Coords) (arg1 : Memref sig .tc .vmem S128x256 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S768x256 .bf16) (harg7 : arg7.IsWhole) (arg8 : Memref sig .tc .vmem S64x256 .f32) (harg8 : arg8.IsWhole) (arg9 : Memref sig .tc .vmem S128x256 .f32) (harg9 : arg9.IsWhole) (arg10 : Memref sig .tc .vmem S128x64x256 .f32) (harg10 : arg10.IsWhole) (arg11 : Memref sig .tc .vmem S64x256 .f32) (harg11 : arg11.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) : sProp 𝕄G) ⊢ wp frame (wpE (defs₀ (F := F)) 𝒱 (c : Thread nD τ) bd) E
      (cc0_rwkv_scan_fwd0 (F := F) i arg1 harg1 arg2 harg2 arg3 harg3 arg4 harg4 arg5 harg5 arg6 harg6 arg7 harg7 arg8 harg8 arg9 harg9 arg10 harg10 arg11 harg11) (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ h, (arg9.view.loc (c : Thread nD τ) ↦[arg9.view.set]{fullShare} h) ∗ ⌜arg9.view.read (Elt F) h = (FBlk.mk (arg7.view.read (Elt F) f7) (top (arg7.view.read (Elt F) f7)) (arg8.view.read (Elt F) f8) (arg1.view.read (Elt F) f1) (arg2.view.read (Elt F) f2) (arg3.view.read (Elt F) f3) (arg4.view.read (Elt F) f4) (arg5.view.read (Elt F) f5) (arg6.view.read (Elt F) f6) : FBlk F).Y (if (i 0).val = 0 then k0_pay1 else arg11.view.read (Elt F) f11)⌝) ∗ (∃ h, (arg10.view.loc (c : Thread nD τ) ↦[arg10.view.set]{fullShare} h) ∗ ⌜arg10.view.read (Elt F) h = (FBlk.mk (arg7.view.read (Elt F) f7) (top (arg7.view.read (Elt F) f7)) (arg8.view.read (Elt F) f8) (arg1.view.read (Elt F) f1) (arg2.view.read (Elt F) f2) (arg3.view.read (Elt F) f3) (arg4.view.read (Elt F) f4) (arg5.view.read (Elt F) f5) (arg6.view.read (Elt F) f6) : FBlk F).ST (if (i 0).val = 0 then k0_pay1 else arg11.view.read (Elt F) f11)⌝) ∗ (∃ h, (arg11.view.loc (c : Thread nD τ) ↦[arg11.view.set]{fullShare} h) ∗ ⌜arg11.view.read (Elt F) h = (FBlk.mk (arg7.view.read (Elt F) f7) (top (arg7.view.read (Elt F) f7)) (arg8.view.read (Elt F) f8) (arg1.view.read (Elt F) f1) (arg2.view.read (Elt F) f2) (arg3.view.read (Elt F) f3) (arg4.view.read (Elt F) f4) (arg5.view.read (Elt F) f5) (arg6.view.read (Elt F) f6) : FBlk F).out (if (i 0).val = 0 then k0_pay1 else arg11.view.read (Elt F) f11)⌝))) := by
  have hi : (i 0).val < 16 := (i 0).isLt
  obtain ⟨G, hG⟩ : ∃ G : S64x256.Idx → F .f32, G = (if (i 0).val = 0 then k0_pay1 else arg11.view.read (Elt F) f11) := ⟨_, rfl⟩
  rw [← hG]
  have w3 : (arg7.view.readAt (Elt F) (Rect.unit (s := S768x256) ![0, 0] S768x256.size inb_S768x256_S768x256_0_0).toLoadRect f7) = arg7.view.read (Elt F) f7 := View.readAt_full _ _ _
  have w5 : (arg7.view.readAt (Elt F) (Rect.unit (s := S768x256) ![0, 0] S256x256.size inb_S768x256_S256x256_0_0).toLoadRect f7) = top (arg7.view.read (Elt F) f7) := by
    rw [View.readAt_unit arg7.view f7 inb_S768x256_S256x256_0_0 rfl inb_S768x256_S256x256_0_0]
    funext y
    refine congrArg (arg7.view.read (Elt F) f7) (funext fun a => Fin.ext ?_)
    match a with
    | ⟨0, _⟩ => show 0 + 1 * (y 0).val = (y 0).val; omega
    | ⟨1, _⟩ => show 0 + 1 * (y 1).val = (y 1).val; omega
  have w7 : (arg8.view.readAt (Elt F) (Rect.unit (s := S64x256) ![0, 0] S64x256.size inb_S64x256_S64x256_0_0).toLoadRect f8) = arg8.view.read (Elt F) f8 := View.readAt_full _ _ _
  rw [cc0_rwkv_scan_fwd0_eq_skeleton]
  unfold cc0_rwkv_scan_fwd0_skel
  iintro ⟨H1, H2, H3, H4, H5, H6, H7, H8, H9, H10, H11⟩
  by_cases hz : (i 0).val = 0
  · have hc : Scalar.cmpi .ne (Scalar.extui (Scalar.cmpi .eq (BitVec.ofNat 32 (i 0).val) 0#32)) 0#32 = 1#1 := by rw [hz]; decide
    rw [if_pos hz] at hG
    sl_exec
    sl_for (inv0 c arg1 arg2 arg3 arg4 arg5 arg6 arg9 arg10 arg11 (arg7.view.read (Elt F) f7) (top (arg7.view.read (Elt F) f7)) (arg8.view.read (Elt F) f8)  f1 f2 f3 f4 f5 f6 G) $$ [H1 H2 H3 H4 H5 H6 H9 H10 H11]
    · intro k acc; unfold body0.sl.prog.body_1; exact inv0_step 𝒱 c bd E i arg1 harg1 arg2 harg2 arg3 harg3 arg4 harg4 arg5 harg5 arg6 harg6 arg7 harg7 arg8 harg8 arg9 harg9 arg10 harg10 arg11 harg11 (arg7.view.read (Elt F) f7) (top (arg7.view.read (Elt F) f7)) (arg8.view.read (Elt F) f8)  f1 f2 f3 f4 f5 f6 G k acc
    · unfold inv0
      isplitl [H1]; · iexact H1
      isplitl [H2]; · iexact H2
      isplitl [H3]; · iexact H3
      isplitl [H4]; · iexact H4
      isplitl [H5]; · iexact H5
      isplitl [H6]; · iexact H6
      isplitl [H9]; · (iexists _; isplitl [H9]; (· iexact H9); ipureintro; intro y hy; have : (y 0).val < 128 := (y 0).isLt; omega)
      isplitl [H10]; · (iexists _; isplitl [H10]; (· iexact H10); ipureintro; intro y hy; have : (y 0).val < 128 := (y 0).isLt; omega)
      iexists _; isplitl [H11]; (· iexact H11); ipureintro; rw [hG]; exact View.read_writes_full _ _ _ _ _
    · iintro %acc HI
      unfold inv0
      icases HI with ⟨H1, H2, H3, H4, H5, H6, ⟨%h9, H9, %e9⟩, ⟨%h10, H10, %e10⟩, ⟨%h11, H11, %e11⟩⟩
      sl_step
      isplitl [H1]; · (iexact H1)
      isplitl [H2]; · (iexact H2)
      isplitl [H3]; · (iexact H3)
      isplitl [H4]; · (iexact H4)
      isplitl [H5]; · (iexact H5)
      isplitl [H6]; · (iexact H6)
      isplitl [H7]; · (iexact H7)
      isplitl [H8]; · (iexact H8)
      isplitl [H9]; · (iexists _; isplitl [H9]; (· iexact H9); ipureintro; funext y; exact e9 y (by have : (y 0).val < 128 := (y 0).isLt; have ht : Scf.trips k0_t1_loop.lb k0_t1_loop.ub k0_t1_loop.st = 16 := trips0; omega))
      isplitl [H10]; · (iexists _; isplitl [H10]; (· iexact H10); ipureintro; funext y; exact e10 y (by have : (y 0).val < 128 := (y 0).isLt; have ht : Scf.trips k0_t1_loop.lb k0_t1_loop.ub k0_t1_loop.st = 16 := trips0; omega))
      iexists _; isplitl [H11]; (· iexact H11); ipureintro; exact e11
  · have hc : ¬ Scalar.cmpi .ne (Scalar.extui (Scalar.cmpi .eq (BitVec.ofNat 32 (i 0).val) 0#32)) 0#32 = 1#1 := by exact fun h => hz ((by decide : ∀ a : Fin 16, Scalar.cmpi .ne (Scalar.extui (Scalar.cmpi .eq (BitVec.ofNat 32 a.val) 0#32)) 0#32 = 1#1 → a.val = 0) ⟨(i 0).val, hi⟩ h)
    rw [if_neg hz] at hG
    sl_exec
    sl_for (inv0 c arg1 arg2 arg3 arg4 arg5 arg6 arg9 arg10 arg11 (arg7.view.read (Elt F) f7) (top (arg7.view.read (Elt F) f7)) (arg8.view.read (Elt F) f8)  f1 f2 f3 f4 f5 f6 G) $$ [H1 H2 H3 H4 H5 H6 H9 H10 H11]
    · intro k acc; unfold body0.sl.prog.body_2; exact inv0_step 𝒱 c bd E i arg1 harg1 arg2 harg2 arg3 harg3 arg4 harg4 arg5 harg5 arg6 harg6 arg7 harg7 arg8 harg8 arg9 harg9 arg10 harg10 arg11 harg11 (arg7.view.read (Elt F) f7) (top (arg7.view.read (Elt F) f7)) (arg8.view.read (Elt F) f8)  f1 f2 f3 f4 f5 f6 G k acc
    · unfold inv0
      isplitl [H1]; · iexact H1
      isplitl [H2]; · iexact H2
      isplitl [H3]; · iexact H3
      isplitl [H4]; · iexact H4
      isplitl [H5]; · iexact H5
      isplitl [H6]; · iexact H6
      isplitl [H9]; · (iexists _; isplitl [H9]; (· iexact H9); ipureintro; intro y hy; have : (y 0).val < 128 := (y 0).isLt; omega)
      isplitl [H10]; · (iexists _; isplitl [H10]; (· iexact H10); ipureintro; intro y hy; have : (y 0).val < 128 := (y 0).isLt; omega)
      iexists _; isplitl [H11]; (· iexact H11); ipureintro; exact hG.symm
    · iintro %acc HI
      unfold inv0
      icases HI with ⟨H1, H2, H3, H4, H5, H6, ⟨%h9, H9, %e9⟩, ⟨%h10, H10, %e10⟩, ⟨%h11, H11, %e11⟩⟩
      sl_step
      isplitl [H1]; · (iexact H1)
      isplitl [H2]; · (iexact H2)
      isplitl [H3]; · (iexact H3)
      isplitl [H4]; · (iexact H4)
      isplitl [H5]; · (iexact H5)
      isplitl [H6]; · (iexact H6)
      isplitl [H7]; · (iexact H7)
      isplitl [H8]; · (iexact H8)
      isplitl [H9]; · (iexists _; isplitl [H9]; (· iexact H9); ipureintro; funext y; exact e9 y (by have : (y 0).val < 128 := (y 0).isLt; have ht : Scf.trips k0_t1_loop.lb k0_t1_loop.ub k0_t1_loop.st = 16 := trips0; omega))
      isplitl [H10]; · (iexists _; isplitl [H10]; (· iexact H10); ipureintro; funext y; exact e10 y (by have : (y 0).val < 128 := (y 0).isLt; have ht : Scf.trips k0_t1_loop.lb k0_t1_loop.ub k0_t1_loop.st = 16 := trips0; omega))
      iexists _; isplitl [H11]; (· iexact H11); ipureintro; exact e11

end Cert.KernelIdeal.Scan
-- ==== Proof.InvB.lean ====
/- One block of the backward kernel: its loop by an invariant, then the whole body. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Exec
public import Idealize.ShloMosaic.Lib.Tactic
public import Idealize.ShloMosaic.Lib.Pipeline.Kit
public import Idealize.ShloMosaic.Lib.VecWindow
public import proofs.«01_k».proof.Proof.InvF

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- Before trip `k` of the backward loop: the blocks read as at the start, the rows of the trips done, the carried value. -/
def inv1 (c : Dev nD) (arg1 : Memref sig .tc .vmem S128x256 .f32) (arg2 : Memref sig .tc .vmem S128x256 .f32) (arg3 : Memref sig .tc .vmem S128x256 .f32) (arg4 : Memref sig .tc .vmem S128x256 .f32) (arg5 : Memref sig .tc .vmem S128x256 .f32) (arg6 : Memref sig .tc .vmem S128x256 .f32) (arg7 : Memref sig .tc .vmem S128x256 .f32) (arg8 : Memref sig .tc .vmem S128x64x256 .f32) (arg9 : Memref sig .tc .vmem S1x64x256 .f32) (arg12 : Memref sig .tc .vmem S128x256 .f32) (arg13 : Memref sig .tc .vmem S128x256 .f32) (arg14 : Memref sig .tc .vmem S128x256 .f32) (arg15 : Memref sig .tc .vmem S128x256 .f32) (arg16 : Memref sig .tc .vmem S128x256 .f32) (arg17 : Memref sig .tc .vmem S128x256 .f32) (arg18 : Memref sig .tc .vmem S64x256 .f32) (arg19 : Memref sig .tc .vmem S8x64x256 .f32) (arg20 : Memref sig .tc .vmem S8x64x256 .f32) (arg21 : Memref sig .tc .vmem S8x256 .f32) (v3 : Vec F S768x256 .bf16) (v5 : Vec F S256x256 .bf16) (v7 : Vec F S64x256 .f32) (v9 : BitVec 1)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (G : S64x256.Idx → F .f32) (k : ℕ) (_ : PUnit) : sProp 𝕄G :=
  iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (∃ h, (arg12.view.loc (c : Thread nD τ) ↦[arg12.view.set]{fullShare} h) ∗ ⌜∀ y : S128x256.Idx, 128 ≤ (y 0).val + 8 * k → arg12.view.read (Elt F) h y = (BBlk.mk v3 v5 v7 v9 (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) : BBlk F).DR G y⌝) ∗ (∃ h, (arg13.view.loc (c : Thread nD τ) ↦[arg13.view.set]{fullShare} h) ∗ ⌜∀ y : S128x256.Idx, 128 ≤ (y 0).val + 8 * k → arg13.view.read (Elt F) h y = (BBlk.mk v3 v5 v7 v9 (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) : BBlk F).DW G y⌝) ∗ (∃ h, (arg14.view.loc (c : Thread nD τ) ↦[arg14.view.set]{fullShare} h) ∗ ⌜∀ y : S128x256.Idx, 128 ≤ (y 0).val + 8 * k → arg14.view.read (Elt F) h y = (BBlk.mk v3 v5 v7 v9 (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) : BBlk F).DK G y⌝) ∗ (∃ h, (arg15.view.loc (c : Thread nD τ) ↦[arg15.view.set]{fullShare} h) ∗ ⌜∀ y : S128x256.Idx, 128 ≤ (y 0).val + 8 * k → arg15.view.read (Elt F) h y = (BBlk.mk v3 v5 v7 v9 (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) : BBlk F).DV G y⌝) ∗ (∃ h, (arg16.view.loc (c : Thread nD τ) ↦[arg16.view.set]{fullShare} h) ∗ ⌜∀ y : S128x256.Idx, 128 ≤ (y 0).val + 8 * k → arg16.view.read (Elt F) h y = (BBlk.mk v3 v5 v7 v9 (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) : BBlk F).DC G y⌝) ∗ (∃ h, (arg17.view.loc (c : Thread nD τ) ↦[arg17.view.set]{fullShare} h) ∗ ⌜∀ y : S128x256.Idx, 128 ≤ (y 0).val + 8 * k → arg17.view.read (Elt F) h y = (BBlk.mk v3 v5 v7 v9 (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) : BBlk F).DB G y⌝) ∗ (∃ h, (arg18.view.loc (c : Thread nD τ) ↦[arg18.view.set]{fullShare} h) ∗ ⌜arg18.view.read (Elt F) h = (BBlk.mk v3 v5 v7 v9 (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) : BBlk F).seq G k⌝) ∗ (∃ h, (arg19.view.loc (c : Thread nD τ) ↦[arg19.view.set]{fullShare} h)) ∗ (∃ h, (arg20.view.loc (c : Thread nD τ) ↦[arg20.view.set]{fullShare} h)) ∗ (∃ h, (arg21.view.loc (c : Thread nD τ) ↦[arg21.view.set]{fullShare} h)))

set_option maxHeartbeats 4000000 in
/-- One trip keeps the invariant. -/
theorem inv1_step (𝒱 : Variants) (c : Dev nD) (bd : Option 𝒱.V) (E : Set ℕ) (i : grid1.Coords) (arg1 : Memref sig .tc .vmem S128x256 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x64x256 .f32) (harg8 : arg8.IsWhole) (arg9 : Memref sig .tc .vmem S1x64x256 .f32) (harg9 : arg9.IsWhole) (arg10 : Memref sig .tc .vmem S768x256 .bf16) (harg10 : arg10.IsWhole) (arg11 : Memref sig .tc .vmem S64x256 .f32) (harg11 : arg11.IsWhole) (arg12 : Memref sig .tc .vmem S128x256 .f32) (harg12 : arg12.IsWhole) (arg13 : Memref sig .tc .vmem S128x256 .f32) (harg13 : arg13.IsWhole) (arg14 : Memref sig .tc .vmem S128x256 .f32) (harg14 : arg14.IsWhole) (arg15 : Memref sig .tc .vmem S128x256 .f32) (harg15 : arg15.IsWhole) (arg16 : Memref sig .tc .vmem S128x256 .f32) (harg16 : arg16.IsWhole) (arg17 : Memref sig .tc .vmem S128x256 .f32) (harg17 : arg17.IsWhole) (arg18 : Memref sig .tc .vmem S64x256 .f32) (harg18 : arg18.IsWhole) (arg19 : Memref sig .tc .vmem S8x64x256 .f32) (harg19 : arg19.IsWhole) (arg20 : Memref sig .tc .vmem S8x64x256 .f32) (harg20 : arg20.IsWhole) (arg21 : Memref sig .tc .vmem S8x256 .f32) (harg21 : arg21.IsWhole) (v3 : Vec F S768x256 .bf16) (v5 : Vec F S256x256 .bf16) (v7 : Vec F S64x256 .f32) (v9 : BitVec 1)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (G : S64x256.Idx → F .f32) (k : Fin k1_t1_loop.trips) (acc : PUnit) :
    (inv1 c arg1 arg2 arg3 arg4 arg5 arg6 arg7 arg8 arg9 arg12 arg13 arg14 arg15 arg16 arg17 arg18 arg19 arg20 arg21 v3 v5 v7 v9 f1 f2 f3 f4 f5 f6 f7 f8 f9 G k.val acc : sProp 𝕄G) ⊢ wp frame (wpE (defs₀ (F := F)) 𝒱 (c : Thread nD τ) bd) E
      (k1_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v3 v5 v7 v9 k acc) (fun acc => inv1 c arg1 arg2 arg3 arg4 arg5 arg6 arg7 arg8 arg9 arg12 arg13 arg14 arg15 arg16 arg17 arg18 arg19 arg20 arg21 v3 v5 v7 v9 f1 f2 f3 f4 f5 f6 f7 f8 f9 G (k.val + 1) acc) := by
  have hk16 : k.val < 16 := lt_of_lt_of_eq k.isLt trips1
  unfold inv1
  obtain ⟨x, hx⟩ : ∃ x : BBlk F, x = (BBlk.mk v3 v5 v7 v9 (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) : BBlk F) := ⟨_, rfl⟩
  rw [← hx]
  iintro ⟨H1, H2, H3, H4, H5, H6, H7, H8, H9, ⟨%h12, H12, %e12⟩, ⟨%h13, H13, %e13⟩, ⟨%h14, H14, %e14⟩, ⟨%h15, H15, %e15⟩, ⟨%h16, H16, %e16⟩, ⟨%h17, H17, %e17⟩, ⟨%h18, H18, %e18⟩, ⟨%h19, H19⟩, ⟨%h20, H20⟩, ⟨%h21, H21⟩⟩
  iapply (wp_wand_r Idealize.ShloMosaic.frame (wpE (defs₀ (F := F)) 𝒱 (c : Thread nD τ) bd) E)
  isplitl [H1 H2 H3 H4 H5 H6 H7 H8 H9 H12 H13 H14 H15 H16 H17 H18 H19 H20 H21]
  · iapply (bt 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v3 v5 v7 v9 f1 f2 f3 f4 f5 f6 f7 f8 f9 h12 h13 h14 h15 h16 h17 h18 h19 h20 h21 k)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · have hin : bIn v3 v5 v7 v9 (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg18.view.read (Elt F) h18) (bStep k) = x.at' G (bStep k) := by
      rw [e18, hx]
      unfold BBlk.at' bStep
      rw [show 15 - (⟨15 - k.val, by omega⟩ : Fin 16).val = k.val from by show 15 - (15 - k.val) = k.val; omega]; rfl
    iintro %_ ⟨H1, H2, H3, H4, H5, H6, H7, H8, H9, ⟨%g12, H12, %q12⟩, ⟨%g13, H13, %q13⟩, ⟨%g14, H14, %q14⟩, ⟨%g15, H15, %q15⟩, ⟨%g16, H16, %q16⟩, ⟨%g17, H17, %q17⟩, ⟨%g18, H18, %q18⟩, ⟨%g19, H19⟩, ⟨%g20, H20⟩, ⟨%g21, H21⟩⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H12]
    · iexists _; isplitl [H12]; · iexact H12
      ipureintro
      intro y hy
      rw [q12, hin, k1_off1_eq, show 120 - 8 * k.val = 8 * (bStep k).val from by show _ = 8 * (15 - k.val); omega]
      exact rows_down _ (fun n => (x.at' G n).dr) (bStep k) (fun y hy => e12 y (by have : 8 * (15 - k.val + 1) ≤ (y 0).val := hy; omega)) y (by show 8 * (15 - k.val) ≤ (y 0).val; omega)
    isplitl [H13]
    · iexists _; isplitl [H13]; · iexact H13
      ipureintro
      intro y hy
      rw [q13, hin, k1_off1_eq, show 120 - 8 * k.val = 8 * (bStep k).val from by show _ = 8 * (15 - k.val); omega]
      exact rows_down _ (fun n => (x.at' G n).dw) (bStep k) (fun y hy => e13 y (by have : 8 * (15 - k.val + 1) ≤ (y 0).val := hy; omega)) y (by show 8 * (15 - k.val) ≤ (y 0).val; omega)
    isplitl [H14]
    · iexists _; isplitl [H14]; · iexact H14
      ipureintro
      intro y hy
      rw [q14, hin, k1_off1_eq, show 120 - 8 * k.val = 8 * (bStep k).val from by show _ = 8 * (15 - k.val); omega]
      exact rows_down _ (fun n => (x.at' G n).dk) (bStep k) (fun y hy => e14 y (by have : 8 * (15 - k.val + 1) ≤ (y 0).val := hy; omega)) y (by show 8 * (15 - k.val) ≤ (y 0).val; omega)
    isplitl [H15]
    · iexists _; isplitl [H15]; · iexact H15
      ipureintro
      intro y hy
      rw [q15, hin, k1_off1_eq, show 120 - 8 * k.val = 8 * (bStep k).val from by show _ = 8 * (15 - k.val); omega]
      exact rows_down _ (fun n => (x.at' G n).dv) (bStep k) (fun y hy => e15 y (by have : 8 * (15 - k.val + 1) ≤ (y 0).val := hy; omega)) y (by show 8 * (15 - k.val) ≤ (y 0).val; omega)
    isplitl [H16]
    · iexists _; isplitl [H16]; · iexact H16
      ipureintro
      intro y hy
      rw [q16, hin, k1_off1_eq, show 120 - 8 * k.val = 8 * (bStep k).val from by show _ = 8 * (15 - k.val); omega]
      exact rows_down _ (fun n => (x.at' G n).dc) (bStep k) (fun y hy => e16 y (by have : 8 * (15 - k.val + 1) ≤ (y 0).val := hy; omega)) y (by show 8 * (15 - k.val) ≤ (y 0).val; omega)
    isplitl [H17]
    · iexists _; isplitl [H17]; · iexact H17
      ipureintro
      intro y hy
      rw [q17, hin, k1_off1_eq, show 120 - 8 * k.val = 8 * (bStep k).val from by show _ = 8 * (15 - k.val); omega]
      exact rows_down _ (fun n => (x.at' G n).db) (bStep k) (fun y hy => e17 y (by have : 8 * (15 - k.val + 1) ≤ (y 0).val := hy; omega)) y (by show 8 * (15 - k.val) ≤ (y 0).val; omega)
    isplitl [H18]
    · iexists _; isplitl [H18]; · iexact H18
      ipureintro
      rw [q18, hin]; exact (x.seq_succ G k.val hk16).symm
    isplitl [H19]; · iexists _; iexact H19
    isplitl [H20]; · iexists _; iexact H20
    iexists _; iexact H21

end Cert.KernelIdeal.Scan
-- ==== Proof.BodyB.lean ====
/- One block of the backward kernel: the whole body, given the loop's invariant. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Exec
public import Idealize.ShloMosaic.Lib.Tactic
public import Idealize.ShloMosaic.Lib.Pipeline.Kit
public import Idealize.ShloMosaic.Lib.VecWindow
public import proofs.«01_k».proof.Proof.BodyF
public import proofs.«01_k».proof.Proof.InvB

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

set_option maxHeartbeats 4000000 in
/-- THE BODY of the backward kernel at grid point `i`: its outputs by the block's functions, the carried value handed on. -/
theorem body1 (𝒱 : Variants) (c : Dev nD) (bd : Option 𝒱.V) (E : Set ℕ) (i : grid1.Coords) (arg1 : Memref sig .tc .vmem S128x256 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x64x256 .f32) (harg8 : arg8.IsWhole) (arg9 : Memref sig .tc .vmem S1x64x256 .f32) (harg9 : arg9.IsWhole) (arg10 : Memref sig .tc .vmem S768x256 .bf16) (harg10 : arg10.IsWhole) (arg11 : Memref sig .tc .vmem S64x256 .f32) (harg11 : arg11.IsWhole) (arg12 : Memref sig .tc .vmem S128x256 .f32) (harg12 : arg12.IsWhole) (arg13 : Memref sig .tc .vmem S128x256 .f32) (harg13 : arg13.IsWhole) (arg14 : Memref sig .tc .vmem S128x256 .f32) (harg14 : arg14.IsWhole) (arg15 : Memref sig .tc .vmem S128x256 .f32) (harg15 : arg15.IsWhole) (arg16 : Memref sig .tc .vmem S128x256 .f32) (harg16 : arg16.IsWhole) (arg17 : Memref sig .tc .vmem S128x256 .f32) (harg17 : arg17.IsWhole) (arg18 : Memref sig .tc .vmem S64x256 .f32) (harg18 : arg18.IsWhole) (arg19 : Memref sig .tc .vmem S8x64x256 .f32) (harg19 : arg19.IsWhole) (arg20 : Memref sig .tc .vmem S8x64x256 .f32) (harg20 : arg20.IsWhole) (arg21 : Memref sig .tc .vmem S8x256 .f32) (harg21 : arg21.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) :
    (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21)) : sProp 𝕄G) ⊢ wp frame (wpE (defs₀ (F := F)) 𝒱 (c : Thread nD τ) bd) E
      (cc1_rwkv_scan_bwd0 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (∃ h, (arg12.view.loc (c : Thread nD τ) ↦[arg12.view.set]{fullShare} h) ∗ ⌜arg12.view.read (Elt F) h = (BBlk.mk (arg10.view.read (Elt F) f10) (top (arg10.view.read (Elt F) f10)) (arg11.view.read (Elt F) f11) (Scalar.cmpi .eq (BitVec.ofNat 32 (i 0).val) 15#32) (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) : BBlk F).DR (if (i 0).val = 0 then k1_pay1 else arg18.view.read (Elt F) f18)⌝) ∗ (∃ h, (arg13.view.loc (c : Thread nD τ) ↦[arg13.view.set]{fullShare} h) ∗ ⌜arg13.view.read (Elt F) h = (BBlk.mk (arg10.view.read (Elt F) f10) (top (arg10.view.read (Elt F) f10)) (arg11.view.read (Elt F) f11) (Scalar.cmpi .eq (BitVec.ofNat 32 (i 0).val) 15#32) (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) : BBlk F).DW (if (i 0).val = 0 then k1_pay1 else arg18.view.read (Elt F) f18)⌝) ∗ (∃ h, (arg14.view.loc (c : Thread nD τ) ↦[arg14.view.set]{fullShare} h) ∗ ⌜arg14.view.read (Elt F) h = (BBlk.mk (arg10.view.read (Elt F) f10) (top (arg10.view.read (Elt F) f10)) (arg11.view.read (Elt F) f11) (Scalar.cmpi .eq (BitVec.ofNat 32 (i 0).val) 15#32) (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) : BBlk F).DK (if (i 0).val = 0 then k1_pay1 else arg18.view.read (Elt F) f18)⌝) ∗ (∃ h, (arg15.view.loc (c : Thread nD τ) ↦[arg15.view.set]{fullShare} h) ∗ ⌜arg15.view.read (Elt F) h = (BBlk.mk (arg10.view.read (Elt F) f10) (top (arg10.view.read (Elt F) f10)) (arg11.view.read (Elt F) f11) (Scalar.cmpi .eq (BitVec.ofNat 32 (i 0).val) 15#32) (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) : BBlk F).DV (if (i 0).val = 0 then k1_pay1 else arg18.view.read (Elt F) f18)⌝) ∗ (∃ h, (arg16.view.loc (c : Thread nD τ) ↦[arg16.view.set]{fullShare} h) ∗ ⌜arg16.view.read (Elt F) h = (BBlk.mk (arg10.view.read (Elt F) f10) (top (arg10.view.read (Elt F) f10)) (arg11.view.read (Elt F) f11) (Scalar.cmpi .eq (BitVec.ofNat 32 (i 0).val) 15#32) (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) : BBlk F).DC (if (i 0).val = 0 then k1_pay1 else arg18.view.read (Elt F) f18)⌝) ∗ (∃ h, (arg17.view.loc (c : Thread nD τ) ↦[arg17.view.set]{fullShare} h) ∗ ⌜arg17.view.read (Elt F) h = (BBlk.mk (arg10.view.read (Elt F) f10) (top (arg10.view.read (Elt F) f10)) (arg11.view.read (Elt F) f11) (Scalar.cmpi .eq (BitVec.ofNat 32 (i 0).val) 15#32) (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) : BBlk F).DB (if (i 0).val = 0 then k1_pay1 else arg18.view.read (Elt F) f18)⌝) ∗ (∃ h, (arg18.view.loc (c : Thread nD τ) ↦[arg18.view.set]{fullShare} h) ∗ ⌜arg18.view.read (Elt F) h = (BBlk.mk (arg10.view.read (Elt F) f10) (top (arg10.view.read (Elt F) f10)) (arg11.view.read (Elt F) f11) (Scalar.cmpi .eq (BitVec.ofNat 32 (i 0).val) 15#32) (arg1.view.read (Elt F) f1) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) : BBlk F).out (if (i 0).val = 0 then k1_pay1 else arg18.view.read (Elt F) f18)⌝) ∗ (∃ h, (arg19.view.loc (c : Thread nD τ) ↦[arg19.view.set]{fullShare} h)) ∗ (∃ h, (arg20.view.loc (c : Thread nD τ) ↦[arg20.view.set]{fullShare} h)) ∗ (∃ h, (arg21.view.loc (c : Thread nD τ) ↦[arg21.view.set]{fullShare} h)))) := by
  have hi : (i 0).val < 16 := (i 0).isLt
  obtain ⟨G, hG⟩ : ∃ G : S64x256.Idx → F .f32, G = (if (i 0).val = 0 then k1_pay1 else arg18.view.read (Elt F) f18) := ⟨_, rfl⟩
  rw [← hG]
  have w3 : (arg10.view.readAt (Elt F) (Rect.unit (s := S768x256) ![0, 0] S768x256.size inb_S768x256_S768x256_0_0).toLoadRect f10) = arg10.view.read (Elt F) f10 := View.readAt_full _ _ _
  have w5 : (arg10.view.readAt (Elt F) (Rect.unit (s := S768x256) ![0, 0] S256x256.size inb_S768x256_S256x256_0_0).toLoadRect f10) = top (arg10.view.read (Elt F) f10) := by
    rw [View.readAt_unit arg10.view f10 inb_S768x256_S256x256_0_0 rfl inb_S768x256_S256x256_0_0]
    funext y
    refine congrArg (arg10.view.read (Elt F) f10) (funext fun a => Fin.ext ?_)
    match a with
    | ⟨0, _⟩ => show 0 + 1 * (y 0).val = (y 0).val; omega
    | ⟨1, _⟩ => show 0 + 1 * (y 1).val = (y 1).val; omega
  have w7 : (arg11.view.readAt (Elt F) (Rect.unit (s := S64x256) ![0, 0] S64x256.size inb_S64x256_S64x256_0_0).toLoadRect f11) = arg11.view.read (Elt F) f11 := View.readAt_full _ _ _
  rw [cc1_rwkv_scan_bwd0_eq_skeleton]
  unfold cc1_rwkv_scan_bwd0_skel
  iintro ⟨H1, H2, H3, H4, H5, H6, H7, H8, H9, H10, H11, H12, H13, H14, H15, H16, H17, H18, H19, H20, H21⟩
  by_cases hz : (i 0).val = 0
  · have hc : Scalar.cmpi .ne (Scalar.extui (Scalar.cmpi .eq (BitVec.ofNat 32 (i 0).val) 0#32)) 0#32 = 1#1 := by rw [hz]; decide
    rw [if_pos hz] at hG
    sl_exec
    sl_for (inv1 c arg1 arg2 arg3 arg4 arg5 arg6 arg7 arg8 arg9 arg12 arg13 arg14 arg15 arg16 arg17 arg18 arg19 arg20 arg21 (arg10.view.read (Elt F) f10) (top (arg10.view.read (Elt F) f10)) (arg11.view.read (Elt F) f11) (Scalar.cmpi .eq (BitVec.ofNat 32 (i 0).val) 15#32) f1 f2 f3 f4 f5 f6 f7 f8 f9 G) $$ [H1 H2 H3 H4 H5 H6 H7 H8 H9 H12 H13 H14 H15 H16 H17 H18 H19 H20 H21]
    · intro k acc; unfold body1.sl.prog.body_1; exact inv1_step 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (arg10.view.read (Elt F) f10) (top (arg10.view.read (Elt F) f10)) (arg11.view.read (Elt F) f11) (Scalar.cmpi .eq (BitVec.ofNat 32 (i 0).val) 15#32) f1 f2 f3 f4 f5 f6 f7 f8 f9 G k acc
    · unfold inv1
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H12]; · (iexists _; isplitl [H12]; (· iexact H12); ipureintro; intro y hy; have : (y 0).val < 128 := (y 0).isLt; omega)
      isplitl [H13]; · (iexists _; isplitl [H13]; (· iexact H13); ipureintro; intro y hy; have : (y 0).val < 128 := (y 0).isLt; omega)
      isplitl [H14]; · (iexists _; isplitl [H14]; (· iexact H14); ipureintro; intro y hy; have : (y 0).val < 128 := (y 0).isLt; omega)
      isplitl [H15]; · (iexists _; isplitl [H15]; (· iexact H15); ipureintro; intro y hy; have : (y 0).val < 128 := (y 0).isLt; omega)
      isplitl [H16]; · (iexists _; isplitl [H16]; (· iexact H16); ipureintro; intro y hy; have : (y 0).val < 128 := (y 0).isLt; omega)
      isplitl [H17]; · (iexists _; isplitl [H17]; (· iexact H17); ipureintro; intro y hy; have : (y 0).val < 128 := (y 0).isLt; omega)
      isplitl [H18]; · (iexists _; isplitl [H18]; (· iexact H18); ipureintro; rw [hG]; exact View.read_writes_full _ _ _ _ _)
      isplitl [H19]; · iexists _; iexact H19
      isplitl [H20]; · iexists _; iexact H20
      iexists _; iexact H21
    · iintro %acc HI
      unfold inv1
      icases HI with ⟨H1, H2, H3, H4, H5, H6, H7, H8, H9, ⟨%h12, H12, %e12⟩, ⟨%h13, H13, %e13⟩, ⟨%h14, H14, %e14⟩, ⟨%h15, H15, %e15⟩, ⟨%h16, H16, %e16⟩, ⟨%h17, H17, %e17⟩, ⟨%h18, H18, %e18⟩, ⟨%h19, H19⟩, ⟨%h20, H20⟩, ⟨%h21, H21⟩⟩
      sl_step
      isplitl [H1]; · (iexact H1)
      isplitl [H2]; · (iexact H2)
      isplitl [H3]; · (iexact H3)
      isplitl [H4]; · (iexact H4)
      isplitl [H5]; · (iexact H5)
      isplitl [H6]; · (iexact H6)
      isplitl [H7]; · (iexact H7)
      isplitl [H8]; · (iexact H8)
      isplitl [H9]; · (iexact H9)
      isplitl [H10]; · (iexact H10)
      isplitl [H11]; · (iexact H11)
      isplitl [H12]; · (iexists _; isplitl [H12]; (· iexact H12); ipureintro; funext y; exact e12 y (by have : (y 0).val < 128 := (y 0).isLt; have ht : Scf.trips k1_t1_loop.lb k1_t1_loop.ub k1_t1_loop.st = 16 := trips1; omega))
      isplitl [H13]; · (iexists _; isplitl [H13]; (· iexact H13); ipureintro; funext y; exact e13 y (by have : (y 0).val < 128 := (y 0).isLt; have ht : Scf.trips k1_t1_loop.lb k1_t1_loop.ub k1_t1_loop.st = 16 := trips1; omega))
      isplitl [H14]; · (iexists _; isplitl [H14]; (· iexact H14); ipureintro; funext y; exact e14 y (by have : (y 0).val < 128 := (y 0).isLt; have ht : Scf.trips k1_t1_loop.lb k1_t1_loop.ub k1_t1_loop.st = 16 := trips1; omega))
      isplitl [H15]; · (iexists _; isplitl [H15]; (· iexact H15); ipureintro; funext y; exact e15 y (by have : (y 0).val < 128 := (y 0).isLt; have ht : Scf.trips k1_t1_loop.lb k1_t1_loop.ub k1_t1_loop.st = 16 := trips1; omega))
      isplitl [H16]; · (iexists _; isplitl [H16]; (· iexact H16); ipureintro; funext y; exact e16 y (by have : (y 0).val < 128 := (y 0).isLt; have ht : Scf.trips k1_t1_loop.lb k1_t1_loop.ub k1_t1_loop.st = 16 := trips1; omega))
      isplitl [H17]; · (iexists _; isplitl [H17]; (· iexact H17); ipureintro; funext y; exact e17 y (by have : (y 0).val < 128 := (y 0).isLt; have ht : Scf.trips k1_t1_loop.lb k1_t1_loop.ub k1_t1_loop.st = 16 := trips1; omega))
      isplitl [H18]; · (iexists _; isplitl [H18]; (· iexact H18); ipureintro; exact e18)
      isplitl [H19]; · (iexists _; iexact H19)
      isplitl [H20]; · (iexists _; iexact H20)
      iexists _; iexact H21
  · have hc : ¬ Scalar.cmpi .ne (Scalar.extui (Scalar.cmpi .eq (BitVec.ofNat 32 (i 0).val) 0#32)) 0#32 = 1#1 := by exact fun h => hz ((by decide : ∀ a : Fin 16, Scalar.cmpi .ne (Scalar.extui (Scalar.cmpi .eq (BitVec.ofNat 32 a.val) 0#32)) 0#32 = 1#1 → a.val = 0) ⟨(i 0).val, hi⟩ h)
    rw [if_neg hz] at hG
    sl_exec
    sl_for (inv1 c arg1 arg2 arg3 arg4 arg5 arg6 arg7 arg8 arg9 arg12 arg13 arg14 arg15 arg16 arg17 arg18 arg19 arg20 arg21 (arg10.view.read (Elt F) f10) (top (arg10.view.read (Elt F) f10)) (arg11.view.read (Elt F) f11) (Scalar.cmpi .eq (BitVec.ofNat 32 (i 0).val) 15#32) f1 f2 f3 f4 f5 f6 f7 f8 f9 G) $$ [H1 H2 H3 H4 H5 H6 H7 H8 H9 H12 H13 H14 H15 H16 H17 H18 H19 H20 H21]
    · intro k acc; unfold body1.sl.prog.body_2; exact inv1_step 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (arg10.view.read (Elt F) f10) (top (arg10.view.read (Elt F) f10)) (arg11.view.read (Elt F) f11) (Scalar.cmpi .eq (BitVec.ofNat 32 (i 0).val) 15#32) f1 f2 f3 f4 f5 f6 f7 f8 f9 G k acc
    · unfold inv1
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H12]; · (iexists _; isplitl [H12]; (· iexact H12); ipureintro; intro y hy; have : (y 0).val < 128 := (y 0).isLt; omega)
      isplitl [H13]; · (iexists _; isplitl [H13]; (· iexact H13); ipureintro; intro y hy; have : (y 0).val < 128 := (y 0).isLt; omega)
      isplitl [H14]; · (iexists _; isplitl [H14]; (· iexact H14); ipureintro; intro y hy; have : (y 0).val < 128 := (y 0).isLt; omega)
      isplitl [H15]; · (iexists _; isplitl [H15]; (· iexact H15); ipureintro; intro y hy; have : (y 0).val < 128 := (y 0).isLt; omega)
      isplitl [H16]; · (iexists _; isplitl [H16]; (· iexact H16); ipureintro; intro y hy; have : (y 0).val < 128 := (y 0).isLt; omega)
      isplitl [H17]; · (iexists _; isplitl [H17]; (· iexact H17); ipureintro; intro y hy; have : (y 0).val < 128 := (y 0).isLt; omega)
      isplitl [H18]; · (iexists _; isplitl [H18]; (· iexact H18); ipureintro; exact hG.symm)
      isplitl [H19]; · iexists _; iexact H19
      isplitl [H20]; · iexists _; iexact H20
      iexists _; iexact H21
    · iintro %acc HI
      unfold inv1
      icases HI with ⟨H1, H2, H3, H4, H5, H6, H7, H8, H9, ⟨%h12, H12, %e12⟩, ⟨%h13, H13, %e13⟩, ⟨%h14, H14, %e14⟩, ⟨%h15, H15, %e15⟩, ⟨%h16, H16, %e16⟩, ⟨%h17, H17, %e17⟩, ⟨%h18, H18, %e18⟩, ⟨%h19, H19⟩, ⟨%h20, H20⟩, ⟨%h21, H21⟩⟩
      sl_step
      isplitl [H1]; · (iexact H1)
      isplitl [H2]; · (iexact H2)
      isplitl [H3]; · (iexact H3)
      isplitl [H4]; · (iexact H4)
      isplitl [H5]; · (iexact H5)
      isplitl [H6]; · (iexact H6)
      isplitl [H7]; · (iexact H7)
      isplitl [H8]; · (iexact H8)
      isplitl [H9]; · (iexact H9)
      isplitl [H10]; · (iexact H10)
      isplitl [H11]; · (iexact H11)
      isplitl [H12]; · (iexists _; isplitl [H12]; (· iexact H12); ipureintro; funext y; exact e12 y (by have : (y 0).val < 128 := (y 0).isLt; have ht : Scf.trips k1_t1_loop.lb k1_t1_loop.ub k1_t1_loop.st = 16 := trips1; omega))
      isplitl [H13]; · (iexists _; isplitl [H13]; (· iexact H13); ipureintro; funext y; exact e13 y (by have : (y 0).val < 128 := (y 0).isLt; have ht : Scf.trips k1_t1_loop.lb k1_t1_loop.ub k1_t1_loop.st = 16 := trips1; omega))
      isplitl [H14]; · (iexists _; isplitl [H14]; (· iexact H14); ipureintro; funext y; exact e14 y (by have : (y 0).val < 128 := (y 0).isLt; have ht : Scf.trips k1_t1_loop.lb k1_t1_loop.ub k1_t1_loop.st = 16 := trips1; omega))
      isplitl [H15]; · (iexists _; isplitl [H15]; (· iexact H15); ipureintro; funext y; exact e15 y (by have : (y 0).val < 128 := (y 0).isLt; have ht : Scf.trips k1_t1_loop.lb k1_t1_loop.ub k1_t1_loop.st = 16 := trips1; omega))
      isplitl [H16]; · (iexists _; isplitl [H16]; (· iexact H16); ipureintro; funext y; exact e16 y (by have : (y 0).val < 128 := (y 0).isLt; have ht : Scf.trips k1_t1_loop.lb k1_t1_loop.ub k1_t1_loop.st = 16 := trips1; omega))
      isplitl [H17]; · (iexists _; isplitl [H17]; (· iexact H17); ipureintro; funext y; exact e17 y (by have : (y 0).val < 128 := (y 0).isLt; have ht : Scf.trips k1_t1_loop.lb k1_t1_loop.ub k1_t1_loop.st = 16 := trips1; omega))
      isplitl [H18]; · (iexists _; isplitl [H18]; (· iexact H18); ipureintro; exact e18)
      isplitl [H19]; · (iexists _; iexact H19)
      isplitl [H20]; · (iexists _; iexact H20)
      iexists _; iexact H21

end Cert.KernelIdeal.Scan
-- ==== Proof.RegionF.lean ====
/- The region of the forward kernel: what its windows hold at each grid point, the carried value between the points, and the
   buffers it leaves. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Exec
public import Idealize.ShloMosaic.Lib.Tactic
public import Idealize.ShloMosaic.Lib.Pipeline.Kit
public import Idealize.ShloMosaic.Lib.VecWindow
public import proofs.«01_k».proof.Proof.BodyF
public import Idealize.ShloMosaic.Lib.Pipeline.RegionsLoop
public import Idealize.ShloMosaic.Lib.Pipeline.FrameSuffix
public import Idealize.ShloMosaic.Lib.Pipeline.FrameBody

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligation RegionSeg arrRef)

local notation "𝕄G" => MT nD τ sig Unit (Elt F) ℕ (UR sig nD τ) ℕ

variable (V : (c : Dev nD) → (b : Ref sig .tc) → Buf (Elt F) ((c : Thread nD τ).loc b))

/-- The block of window 0 that grid point `t` sees, the arrays at `V`. -/
noncomputable def blk0_0 (c : Dev nD) (t : Fin cfg0.N) : S128x256.Idx → F .f32 :=
  (win0_0.blk t).view.read (Elt F) (V c main_arg0)

/-- The block of window 1 that grid point `t` sees, the arrays at `V`. -/
noncomputable def blk0_1 (c : Dev nD) (t : Fin cfg0.N) : S128x256.Idx → F .f32 :=
  (win0_1.blk t).view.read (Elt F) (V c main_arg1)

/-- The block of window 2 that grid point `t` sees, the arrays at `V`. -/
noncomputable def blk0_2 (c : Dev nD) (t : Fin cfg0.N) : S128x256.Idx → F .f32 :=
  (win0_2.blk t).view.read (Elt F) (V c main_arg2)

/-- The block of window 3 that grid point `t` sees, the arrays at `V`. -/
noncomputable def blk0_3 (c : Dev nD) (t : Fin cfg0.N) : S128x256.Idx → F .f32 :=
  (win0_3.blk t).view.read (Elt F) (V c main_arg3)

/-- The block of window 4 that grid point `t` sees, the arrays at `V`. -/
noncomputable def blk0_4 (c : Dev nD) (t : Fin cfg0.N) : S128x256.Idx → F .f32 :=
  (win0_4.blk t).view.read (Elt F) (V c main_arg4)

/-- The block of window 5 that grid point `t` sees, the arrays at `V`. -/
noncomputable def blk0_5 (c : Dev nD) (t : Fin cfg0.N) : S128x256.Idx → F .f32 :=
  (win0_5.blk t).view.read (Elt F) (V c main_arg5)

/-- The block of window 6 that grid point `t` sees, the arrays at `V`. -/
noncomputable def blk0_6 (c : Dev nD) (t : Fin cfg0.N) : S768x256.Idx → F .bf16 :=
  (win0_6.blk t).view.read (Elt F) (V c main_v10)

/-- The block of window 7 that grid point `t` sees, the arrays at `V`. -/
noncomputable def blk0_7 (c : Dev nD) (t : Fin cfg0.N) : S64x256.Idx → F .f32 :=
  (win0_7.blk t).view.read (Elt F) (V c main_v19)

/-- The blocks of point `t` as the forward kernel's block. -/
noncomputable def block0 (c : Dev nD) (t : Fin cfg0.N) : FBlk F :=
  FBlk.mk (blk0_6 V c t) (top (blk0_6 V c t)) (blk0_7 V c t) (blk0_0 V c t) (blk0_1 V c t) (blk0_2 V c t) (blk0_3 V c t) (blk0_4 V c t) (blk0_5 V c t)

/-- The carried value before point `n`. -/
noncomputable def carry0 (c : Dev nD) : ℕ → S64x256.Idx → F .f32
  | 0 => k0_pay1
  | n + 1 => if h : n < cfg0.N then (block0 V c ⟨n, h⟩).out (carry0 c n) else k0_pay1

theorem carry0_succ (c : Dev nD) (t : Fin cfg0.N) : carry0 V c (t.val + 1) = (block0 V c t).out (carry0 V c t.val) := by
  rw [carry0, dif_pos t.isLt]

/-- The scratch buffers between the points: the first holds the carried value (before the first point, anything). -/
noncomputable def scr0 (c : Dev nD) (n : ℕ) : sProp 𝕄G :=
  iprop((∃ f, ((Memref.whole cc0_scratch0).view.loc (c : Thread nD τ) ↦[(Memref.whole cc0_scratch0).view.set]{fullShare} f)
      ∗ ⌜n ≠ 0 → (Memref.whole cc0_scratch0).view.read (Elt F) f = carry0 V c n⌝)
    ∗ Pipeline.scopedRestBut (Ix := Unit) (Name := ℕ) (U := UR sig nD τ) (Lvl := ℕ) (Val := Elt F) spec0 c [cc0_scratch0])

/-- The proof data of the region entered at `V`. -/
noncomputable def dat0 (c : Dev nD) : Dat τ (Elt F) Unit ℕ (UR sig nD τ) ℕ cfg0 c where
  A w := V c (arrRef spec0 w)
  after w t := match w with
    | ⟨0, _⟩ => blk0_0 V c t
    | ⟨1, _⟩ => blk0_1 V c t
    | ⟨2, _⟩ => blk0_2 V c t
    | ⟨3, _⟩ => blk0_3 V c t
    | ⟨4, _⟩ => blk0_4 V c t
    | ⟨5, _⟩ => blk0_5 V c t
    | ⟨6, _⟩ => blk0_6 V c t
    | ⟨7, _⟩ => blk0_7 V c t
    | ⟨8, _⟩ => (block0 V c t).Y (carry0 V c t.val)
    | ⟨9, _⟩ => (block0 V c t).ST (carry0 V c t.val)
  Φ t := scr0 V c t.val
  q w := Pipeline.shareOf spec0 w
  owed _ := 0

/-- Window 0 holds its block whenever the body runs. -/
theorem before0_0 (c : Dev nD) (t : Fin cfg0.N) (d : (cfg0.win 0).block.Idx → Elt F (cfg0.win 0).elt) :
    (dat0 V c).before 0 t d = blk0_0 V c t := by
  rw [(dat0 V c).before_fetched 0 t (fetch0_0 t)]; rfl

/-- Window 1 holds its block whenever the body runs. -/
theorem before0_1 (c : Dev nD) (t : Fin cfg0.N) (d : (cfg0.win 1).block.Idx → Elt F (cfg0.win 1).elt) :
    (dat0 V c).before 1 t d = blk0_1 V c t := by
  rw [(dat0 V c).before_fetched 1 t (fetch0_1 t)]; rfl

/-- Window 2 holds its block whenever the body runs. -/
theorem before0_2 (c : Dev nD) (t : Fin cfg0.N) (d : (cfg0.win 2).block.Idx → Elt F (cfg0.win 2).elt) :
    (dat0 V c).before 2 t d = blk0_2 V c t := by
  rw [(dat0 V c).before_fetched 2 t (fetch0_2 t)]; rfl

/-- Window 3 holds its block whenever the body runs. -/
theorem before0_3 (c : Dev nD) (t : Fin cfg0.N) (d : (cfg0.win 3).block.Idx → Elt F (cfg0.win 3).elt) :
    (dat0 V c).before 3 t d = blk0_3 V c t := by
  rw [(dat0 V c).before_fetched 3 t (fetch0_3 t)]; rfl

/-- Window 4 holds its block whenever the body runs. -/
theorem before0_4 (c : Dev nD) (t : Fin cfg0.N) (d : (cfg0.win 4).block.Idx → Elt F (cfg0.win 4).elt) :
    (dat0 V c).before 4 t d = blk0_4 V c t := by
  rw [(dat0 V c).before_fetched 4 t (fetch0_4 t)]; rfl

/-- Window 5 holds its block whenever the body runs. -/
theorem before0_5 (c : Dev nD) (t : Fin cfg0.N) (d : (cfg0.win 5).block.Idx → Elt F (cfg0.win 5).elt) :
    (dat0 V c).before 5 t d = blk0_5 V c t := by
  rw [(dat0 V c).before_fetched 5 t (fetch0_5 t)]; rfl

/-- Window 6 holds its block whenever the body runs. -/
theorem before0_6 (c : Dev nD) (t : Fin cfg0.N) (d : (cfg0.win 6).block.Idx → Elt F (cfg0.win 6).elt) :
    (dat0 V c).before 6 t d = blk0_6 V c t := by
  rw [(dat0 V c).before_in_eq_fetched 6 rfl (fun _ => rfl) (fun _ _ _ => rfl) (fun _ => rfl)]; rfl

/-- Window 7 holds its block whenever the body runs. -/
theorem before0_7 (c : Dev nD) (t : Fin cfg0.N) (d : (cfg0.win 7).block.Idx → Elt F (cfg0.win 7).elt) :
    (dat0 V c).before 7 t d = blk0_7 V c t := by
  rw [(dat0 V c).before_in_eq_fetched 7 rfl (fun _ => rfl) (fun _ _ _ => rfl) (fun _ => rfl)]; rfl

abbrev 𝒱N : Variants := Variants.none

theorem coords0 (t : Fin cfg0.N) : (grid0.coords t 0).val = t.val := by
  have := t.isLt
  rcases fin_N0 t with rfl | rfl | rfl | rfl | rfl | rfl | rfl | rfl | rfl | rfl | rfl | rfl | rfl | rfl | rfl | rfl <;> decide

set_option maxHeartbeats 4000000 in
/-- The body at every grid point, from what the region hands it to what it hands back. -/
theorem body_obligation0 (c : Dev nD) : BodyObligation (dat0 V c) (defs₀ (F := F)) 𝒱N () Set.univ := fun t => by
  rw [bigSep_W0, bigSep_W0]
  rw [show (dat0 V c).Φ t.castSucc = scr0 V c t.val from rfl, show (dat0 V c).Φ t.succ = scr0 V c (t.val + 1) from rfl,
    show (dat0 V c).owesAt () t.succ = (dat0 V c).owesAt () t.castSucc from rfl]
  unfold scr0 owns
  iintro ⟨⟨⟨%fs0, Hs0, %es⟩, Hb⟩, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, -, H8⟩, ⟨%d9, %f9, -, H9⟩⟩
  rw [before0_0] at hf0
  rw [before0_1] at hf1
  rw [before0_2] at hf2
  rw [before0_3] at hf3
  rw [before0_4] at hf4
  rw [before0_5] at hf5
  rw [before0_6] at hf6
  rw [before0_7] at hf7
  have hx : FBlk.mk ((win0_6.stage (cfg0.slots t 6)).view.read (Elt F) f6) (top ((win0_6.stage (cfg0.slots t 6)).view.read (Elt F) f6)) ((win0_7.stage (cfg0.slots t 7)).view.read (Elt F) f7) ((win0_0.stage (cfg0.slots t 0)).view.read (Elt F) f0) ((win0_1.stage (cfg0.slots t 1)).view.read (Elt F) f1) ((win0_2.stage (cfg0.slots t 2)).view.read (Elt F) f2) ((win0_3.stage (cfg0.slots t 3)).view.read (Elt F) f3) ((win0_4.stage (cfg0.slots t 4)).view.read (Elt F) f4) ((win0_5.stage (cfg0.slots t 5)).view.read (Elt F) f5) = block0 V c t := by
    unfold block0
    rw [hf0, hf1, hf2, hf3, hf4, hf5, hf6, hf7]
  have hG : (if (grid0.coords t 0).val = 0 then k0_pay1 else (Memref.whole cc0_scratch0).view.read (Elt F) fs0) = carry0 V c t.val := by
    rw [coords0]
    by_cases h0 : t.val = 0
    · rw [if_pos h0, h0, carry0]
    · rw [if_neg h0, es h0]
  iapply (wp_wand_r Idealize.ShloMosaic.frame (wpE (defs₀ (F := F)) 𝒱N (c : Thread nD τ) none) Set.univ)
  isplitl [H0 H1 H2 H3 H4 H5 H6 H7 H8 H9 Hs0]
  · iapply (body0 𝒱N c none Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) f0 f1 f2 f3 f4 f5 f6 f7 f8 f9 fs0)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact Hs0
  · rw [hx, hG]
    iintro %_ ⟨H0, H1, H2, H3, H4, H5, H6, H7, ⟨%g8, H8, %q8⟩, ⟨%g9, H9, %q9⟩, ⟨%gs, Hs0, %qs⟩⟩
    isplitl [Hs0 Hb]
    · isplitl [Hs0]
      · iexists _; isplitl [Hs0]; (· iexact Hs0); ipureintro; intro _; rw [qs, carry0_succ]
      iexact Hb
    isplitl [Howes]; · iexact Howes
    isplitl [H0]; · (iexists _; isplitr; swap; (· iexact H0); ipureintro; exact hf0)
    isplitl [H1]; · (iexists _; isplitr; swap; (· iexact H1); ipureintro; exact hf1)
    isplitl [H2]; · (iexists _; isplitr; swap; (· iexact H2); ipureintro; exact hf2)
    isplitl [H3]; · (iexists _; isplitr; swap; (· iexact H3); ipureintro; exact hf3)
    isplitl [H4]; · (iexists _; isplitr; swap; (· iexact H4); ipureintro; exact hf4)
    isplitl [H5]; · (iexists _; isplitr; swap; (· iexact H5); ipureintro; exact hf5)
    isplitl [H6]; · (iexists _; isplitr; swap; (· iexact H6); ipureintro; exact hf6)
    isplitl [H7]; · (iexists _; isplitr; swap; (· iexact H7); ipureintro; exact hf7)
    isplitl [H8]; · (iexists _; isplitr; swap; (· iexact H8); ipureintro; exact q8)
    iexists _; isplitr; swap; (· iexact H9); ipureintro; exact q9

end Cert.KernelIdeal.Scan
-- ==== Proof.RegionB.lean ====
/- The region of the backward kernel: what its windows hold at each grid point, the carried value between the points, and the
   buffers it leaves. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Exec
public import Idealize.ShloMosaic.Lib.Tactic
public import Idealize.ShloMosaic.Lib.Pipeline.Kit
public import Idealize.ShloMosaic.Lib.VecWindow
public import proofs.«01_k».proof.Proof.BodyB
public import proofs.«01_k».proof.Proof.RegionF
public import Idealize.ShloMosaic.Lib.Pipeline.RegionsLoop
public import Idealize.ShloMosaic.Lib.Pipeline.FrameSuffix
public import Idealize.ShloMosaic.Lib.Pipeline.FrameBody

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligation RegionSeg arrRef)

local notation "𝕄G" => MT nD τ sig Unit (Elt F) ℕ (UR sig nD τ) ℕ

variable (V : (c : Dev nD) → (b : Ref sig .tc) → Buf (Elt F) ((c : Thread nD τ).loc b))

/-- The block of window 0 that grid point `t` sees, the arrays at `V`. -/
noncomputable def blk1_0 (c : Dev nD) (t : Fin cfg1.N) : S128x256.Idx → F .f32 :=
  (win1_0.blk t).view.read (Elt F) (V c main_arg0)

/-- The block of window 1 that grid point `t` sees, the arrays at `V`. -/
noncomputable def blk1_1 (c : Dev nD) (t : Fin cfg1.N) : S128x256.Idx → F .f32 :=
  (win1_1.blk t).view.read (Elt F) (V c main_arg1)

/-- The block of window 2 that grid point `t` sees, the arrays at `V`. -/
noncomputable def blk1_2 (c : Dev nD) (t : Fin cfg1.N) : S128x256.Idx → F .f32 :=
  (win1_2.blk t).view.read (Elt F) (V c main_arg2)

/-- The block of window 3 that grid point `t` sees, the arrays at `V`. -/
noncomputable def blk1_3 (c : Dev nD) (t : Fin cfg1.N) : S128x256.Idx → F .f32 :=
  (win1_3.blk t).view.read (Elt F) (V c main_arg3)

/-- The block of window 4 that grid point `t` sees, the arrays at `V`. -/
noncomputable def blk1_4 (c : Dev nD) (t : Fin cfg1.N) : S128x256.Idx → F .f32 :=
  (win1_4.blk t).view.read (Elt F) (V c main_arg4)

/-- The block of window 5 that grid point `t` sees, the arrays at `V`. -/
noncomputable def blk1_5 (c : Dev nD) (t : Fin cfg1.N) : S128x256.Idx → F .f32 :=
  (win1_5.blk t).view.read (Elt F) (V c main_arg5)

/-- The block of window 6 that grid point `t` sees, the arrays at `V`. -/
noncomputable def blk1_6 (c : Dev nD) (t : Fin cfg1.N) : S128x256.Idx → F .f32 :=
  (win1_6.blk t).view.read (Elt F) (V c main_arg6)

/-- The block of window 7 that grid point `t` sees, the arrays at `V`. -/
noncomputable def blk1_7 (c : Dev nD) (t : Fin cfg1.N) : S128x64x256.Idx → F .f32 :=
  (win1_7.blk t).view.read (Elt F) (V c main_v20_1)

/-- The block of window 8 that grid point `t` sees, the arrays at `V`. -/
noncomputable def blk1_8 (c : Dev nD) (t : Fin cfg1.N) : S1x64x256.Idx → F .f32 :=
  (win1_8.blk t).view.read (Elt F) (V c main_v20_1)

/-- The block of window 9 that grid point `t` sees, the arrays at `V`. -/
noncomputable def blk1_9 (c : Dev nD) (t : Fin cfg1.N) : S768x256.Idx → F .bf16 :=
  (win1_9.blk t).view.read (Elt F) (V c main_v10)

/-- The block of window 10 that grid point `t` sees, the arrays at `V`. -/
noncomputable def blk1_10 (c : Dev nD) (t : Fin cfg1.N) : S64x256.Idx → F .f32 :=
  (win1_10.blk t).view.read (Elt F) (V c main_v19)

/-- The blocks of point `t` as the backward kernel's block. -/
noncomputable def block1 (c : Dev nD) (t : Fin cfg1.N) : BBlk F :=
  BBlk.mk (blk1_9 V c t) (top (blk1_9 V c t)) (blk1_10 V c t) (Scalar.cmpi .eq (BitVec.ofNat 32 (grid1.coords t 0).val) 15#32) (blk1_0 V c t) (blk1_1 V c t) (blk1_2 V c t) (blk1_3 V c t) (blk1_4 V c t) (blk1_5 V c t) (blk1_6 V c t) (blk1_7 V c t) (blk1_8 V c t)

/-- The carried value before point `n`. -/
noncomputable def carry1 (c : Dev nD) : ℕ → S64x256.Idx → F .f32
  | 0 => k1_pay1
  | n + 1 => if h : n < cfg1.N then (block1 V c ⟨n, h⟩).out (carry1 c n) else k1_pay1

theorem carry1_succ (c : Dev nD) (t : Fin cfg1.N) : carry1 V c (t.val + 1) = (block1 V c t).out (carry1 V c t.val) := by
  rw [carry1, dif_pos t.isLt]

/-- The scratch buffers between the points: the first holds the carried value (before the first point, anything). -/
noncomputable def scr1 (c : Dev nD) (n : ℕ) : sProp 𝕄G :=
  iprop((∃ f, ((Memref.whole cc1_scratch0).view.loc (c : Thread nD τ) ↦[(Memref.whole cc1_scratch0).view.set]{fullShare} f)
      ∗ ⌜n ≠ 0 → (Memref.whole cc1_scratch0).view.read (Elt F) f = carry1 V c n⌝)
    ∗ (∃ f, ((Memref.whole cc1_scratch1).view.loc (c : Thread nD τ) ↦[(Memref.whole cc1_scratch1).view.set]{fullShare} f))
    ∗ (∃ f, ((Memref.whole cc1_scratch2).view.loc (c : Thread nD τ) ↦[(Memref.whole cc1_scratch2).view.set]{fullShare} f))
    ∗ (∃ f, ((Memref.whole cc1_scratch3).view.loc (c : Thread nD τ) ↦[(Memref.whole cc1_scratch3).view.set]{fullShare} f))
    ∗ Pipeline.scopedRestBut (Ix := Unit) (Name := ℕ) (U := UR sig nD τ) (Lvl := ℕ) (Val := Elt F) spec1 c [cc1_scratch0, cc1_scratch1, cc1_scratch2, cc1_scratch3])

/-- The proof data of the region entered at `V`. -/
noncomputable def dat1 (c : Dev nD) : Dat τ (Elt F) Unit ℕ (UR sig nD τ) ℕ cfg1 c where
  A w := V c (arrRef spec1 w)
  after w t := match w with
    | ⟨0, _⟩ => blk1_0 V c t
    | ⟨1, _⟩ => blk1_1 V c t
    | ⟨2, _⟩ => blk1_2 V c t
    | ⟨3, _⟩ => blk1_3 V c t
    | ⟨4, _⟩ => blk1_4 V c t
    | ⟨5, _⟩ => blk1_5 V c t
    | ⟨6, _⟩ => blk1_6 V c t
    | ⟨7, _⟩ => blk1_7 V c t
    | ⟨8, _⟩ => blk1_8 V c t
    | ⟨9, _⟩ => blk1_9 V c t
    | ⟨10, _⟩ => blk1_10 V c t
    | ⟨11, _⟩ => (block1 V c t).DR (carry1 V c t.val)
    | ⟨12, _⟩ => (block1 V c t).DW (carry1 V c t.val)
    | ⟨13, _⟩ => (block1 V c t).DK (carry1 V c t.val)
    | ⟨14, _⟩ => (block1 V c t).DV (carry1 V c t.val)
    | ⟨15, _⟩ => (block1 V c t).DC (carry1 V c t.val)
    | ⟨16, _⟩ => (block1 V c t).DB (carry1 V c t.val)
    | ⟨_ + 17, h⟩ => absurd h (Nat.not_lt.2 (Nat.le_add_left _ _))
  Φ t := scr1 V c t.val
  q w := Pipeline.shareOf spec1 w
  owed _ := 0

/-- Window 0 holds its block whenever the body runs. -/
theorem before1_0 (c : Dev nD) (t : Fin cfg1.N) (d : (cfg1.win 0).block.Idx → Elt F (cfg1.win 0).elt) :
    (dat1 V c).before 0 t d = blk1_0 V c t := by
  rw [(dat1 V c).before_fetched 0 t (fetch1_0 t)]; rfl

/-- Window 1 holds its block whenever the body runs. -/
theorem before1_1 (c : Dev nD) (t : Fin cfg1.N) (d : (cfg1.win 1).block.Idx → Elt F (cfg1.win 1).elt) :
    (dat1 V c).before 1 t d = blk1_1 V c t := by
  rw [(dat1 V c).before_fetched 1 t (fetch1_1 t)]; rfl

/-- Window 2 holds its block whenever the body runs. -/
theorem before1_2 (c : Dev nD) (t : Fin cfg1.N) (d : (cfg1.win 2).block.Idx → Elt F (cfg1.win 2).elt) :
    (dat1 V c).before 2 t d = blk1_2 V c t := by
  rw [(dat1 V c).before_fetched 2 t (fetch1_2 t)]; rfl

/-- Window 3 holds its block whenever the body runs. -/
theorem before1_3 (c : Dev nD) (t : Fin cfg1.N) (d : (cfg1.win 3).block.Idx → Elt F (cfg1.win 3).elt) :
    (dat1 V c).before 3 t d = blk1_3 V c t := by
  rw [(dat1 V c).before_fetched 3 t (fetch1_3 t)]; rfl

/-- Window 4 holds its block whenever the body runs. -/
theorem before1_4 (c : Dev nD) (t : Fin cfg1.N) (d : (cfg1.win 4).block.Idx → Elt F (cfg1.win 4).elt) :
    (dat1 V c).before 4 t d = blk1_4 V c t := by
  rw [(dat1 V c).before_fetched 4 t (fetch1_4 t)]; rfl

/-- Window 5 holds its block whenever the body runs. -/
theorem before1_5 (c : Dev nD) (t : Fin cfg1.N) (d : (cfg1.win 5).block.Idx → Elt F (cfg1.win 5).elt) :
    (dat1 V c).before 5 t d = blk1_5 V c t := by
  rw [(dat1 V c).before_fetched 5 t (fetch1_5 t)]; rfl

/-- Window 6 holds its block whenever the body runs. -/
theorem before1_6 (c : Dev nD) (t : Fin cfg1.N) (d : (cfg1.win 6).block.Idx → Elt F (cfg1.win 6).elt) :
    (dat1 V c).before 6 t d = blk1_6 V c t := by
  rw [(dat1 V c).before_fetched 6 t (fetch1_6 t)]; rfl

/-- Window 7 holds its block whenever the body runs. -/
theorem before1_7 (c : Dev nD) (t : Fin cfg1.N) (d : (cfg1.win 7).block.Idx → Elt F (cfg1.win 7).elt) :
    (dat1 V c).before 7 t d = blk1_7 V c t := by
  rw [(dat1 V c).before_fetched 7 t (fetch1_7 t)]; rfl

/-- Window 8 holds its block whenever the body runs. -/
theorem before1_8 (c : Dev nD) (t : Fin cfg1.N) (d : (cfg1.win 8).block.Idx → Elt F (cfg1.win 8).elt) :
    (dat1 V c).before 8 t d = blk1_8 V c t := by
  rw [(dat1 V c).before_fetched 8 t (fetch1_8 t)]; rfl

/-- Window 9 holds its block whenever the body runs. -/
theorem before1_9 (c : Dev nD) (t : Fin cfg1.N) (d : (cfg1.win 9).block.Idx → Elt F (cfg1.win 9).elt) :
    (dat1 V c).before 9 t d = blk1_9 V c t := by
  rw [(dat1 V c).before_in_eq_fetched 9 rfl (fun _ => rfl) (fun _ _ _ => rfl) (fun _ => rfl)]; rfl

/-- Window 10 holds its block whenever the body runs. -/
theorem before1_10 (c : Dev nD) (t : Fin cfg1.N) (d : (cfg1.win 10).block.Idx → Elt F (cfg1.win 10).elt) :
    (dat1 V c).before 10 t d = blk1_10 V c t := by
  rw [(dat1 V c).before_in_eq_fetched 10 rfl (fun _ => rfl) (fun _ _ _ => rfl) (fun _ => rfl)]; rfl

theorem coords1 (t : Fin cfg1.N) : (grid1.coords t 0).val = t.val := by
  have := t.isLt
  rcases fin_N1 t with rfl | rfl | rfl | rfl | rfl | rfl | rfl | rfl | rfl | rfl | rfl | rfl | rfl | rfl | rfl | rfl <;> decide

set_option maxHeartbeats 4000000 in
/-- The body at every grid point, from what the region hands it to what it hands back. -/
theorem body_obligation1 (c : Dev nD) : BodyObligation (dat1 V c) (defs₀ (F := F)) 𝒱N () Set.univ := fun t => by
  rw [bigSep_W1, bigSep_W1]
  rw [show (dat1 V c).Φ t.castSucc = scr1 V c t.val from rfl, show (dat1 V c).Φ t.succ = scr1 V c (t.val + 1) from rfl,
    show (dat1 V c).owesAt () t.succ = (dat1 V c).owesAt () t.castSucc from rfl]
  unfold scr1 owns
  iintro ⟨⟨⟨%fs0, Hs0, %es⟩, ⟨%fs1, Hs1⟩, ⟨%fs2, Hs2⟩, ⟨%fs3, Hs3⟩, Hb⟩, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩⟩
  rw [before1_0] at hf0
  rw [before1_1] at hf1
  rw [before1_2] at hf2
  rw [before1_3] at hf3
  rw [before1_4] at hf4
  rw [before1_5] at hf5
  rw [before1_6] at hf6
  rw [before1_7] at hf7
  rw [before1_8] at hf8
  rw [before1_9] at hf9
  rw [before1_10] at hf10
  have hx : BBlk.mk ((win1_9.stage (cfg1.slots t 9)).view.read (Elt F) f9) (top ((win1_9.stage (cfg1.slots t 9)).view.read (Elt F) f9)) ((win1_10.stage (cfg1.slots t 10)).view.read (Elt F) f10) (Scalar.cmpi .eq (BitVec.ofNat 32 (grid1.coords t 0).val) 15#32) ((win1_0.stage (cfg1.slots t 0)).view.read (Elt F) f0) ((win1_1.stage (cfg1.slots t 1)).view.read (Elt F) f1) ((win1_2.stage (cfg1.slots t 2)).view.read (Elt F) f2) ((win1_3.stage (cfg1.slots t 3)).view.read (Elt F) f3) ((win1_4.stage (cfg1.slots t 4)).view.read (Elt F) f4) ((win1_5.stage (cfg1.slots t 5)).view.read (Elt F) f5) ((win1_6.stage (cfg1.slots t 6)).view.read (Elt F) f6) ((win1_7.stage (cfg1.slots t 7)).view.read (Elt F) f7) ((win1_8.stage (cfg1.slots t 8)).view.read (Elt F) f8) = block1 V c t := by
    unfold block1
    rw [hf0, hf1, hf2, hf3, hf4, hf5, hf6, hf7, hf8, hf9, hf10]
  have hG : (if (grid1.coords t 0).val = 0 then k1_pay1 else (Memref.whole cc1_scratch0).view.read (Elt F) fs0) = carry1 V c t.val := by
    rw [coords1]
    by_cases h0 : t.val = 0
    · rw [if_pos h0, h0, carry1]
    · rw [if_neg h0, es h0]
  iapply (wp_wand_r Idealize.ShloMosaic.frame (wpE (defs₀ (F := F)) 𝒱N (c : Thread nD τ) none) Set.univ)
  isplitl [H0 H1 H2 H3 H4 H5 H6 H7 H8 H9 H10 H11 H12 H13 H14 H15 H16 Hs0 Hs1 Hs2 Hs3]
  · iapply (body1 𝒱N c none Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (win1_14.stage (cfg1.slots t 14)) (hstage1_14 ((cfg1.slots t 14).cast nbuf1_14)) (win1_15.stage (cfg1.slots t 15)) (hstage1_15 ((cfg1.slots t 15).cast nbuf1_15)) (win1_16.stage (cfg1.slots t 16)) (hstage1_16 ((cfg1.slots t 16).cast nbuf1_16)) (Memref.whole cc1_scratch0) (Memref.isWhole_whole _) (Memref.whole cc1_scratch1) (Memref.isWhole_whole _) (Memref.whole cc1_scratch2) (Memref.isWhole_whole _) (Memref.whole cc1_scratch3) (Memref.isWhole_whole _) f0 f1 f2 f3 f4 f5 f6 f7 f8 f9 f10 f11 f12 f13 f14 f15 f16 fs0 fs1 fs2 fs3)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [Hs0]; · iexact Hs0
    isplitl [Hs1]; · iexact Hs1
    isplitl [Hs2]; · iexact Hs2
    iexact Hs3
  · rw [hx, hG]
    iintro %_ ⟨H0, H1, H2, H3, H4, H5, H6, H7, H8, H9, H10, ⟨%g11, H11, %q11⟩, ⟨%g12, H12, %q12⟩, ⟨%g13, H13, %q13⟩, ⟨%g14, H14, %q14⟩, ⟨%g15, H15, %q15⟩, ⟨%g16, H16, %q16⟩, ⟨%gs, Hs0, %qs⟩, ⟨%gs1, Hs1⟩, ⟨%gs2, Hs2⟩, ⟨%gs3, Hs3⟩⟩
    isplitl [Hs0 Hs1 Hs2 Hs3 Hb]
    · isplitl [Hs0]
      · iexists _; isplitl [Hs0]; (· iexact Hs0); ipureintro; intro _; rw [qs, carry1_succ]
      isplitl [Hs1]; · iexists _; iexact Hs1
      isplitl [Hs2]; · iexists _; iexact Hs2
      isplitl [Hs3]; · iexists _; iexact Hs3
      iexact Hb
    isplitl [Howes]; · iexact Howes
    isplitl [H0]; · (iexists _; isplitr; swap; (· iexact H0); ipureintro; exact hf0)
    isplitl [H1]; · (iexists _; isplitr; swap; (· iexact H1); ipureintro; exact hf1)
    isplitl [H2]; · (iexists _; isplitr; swap; (· iexact H2); ipureintro; exact hf2)
    isplitl [H3]; · (iexists _; isplitr; swap; (· iexact H3); ipureintro; exact hf3)
    isplitl [H4]; · (iexists _; isplitr; swap; (· iexact H4); ipureintro; exact hf4)
    isplitl [H5]; · (iexists _; isplitr; swap; (· iexact H5); ipureintro; exact hf5)
    isplitl [H6]; · (iexists _; isplitr; swap; (· iexact H6); ipureintro; exact hf6)
    isplitl [H7]; · (iexists _; isplitr; swap; (· iexact H7); ipureintro; exact hf7)
    isplitl [H8]; · (iexists _; isplitr; swap; (· iexact H8); ipureintro; exact hf8)
    isplitl [H9]; · (iexists _; isplitr; swap; (· iexact H9); ipureintro; exact hf9)
    isplitl [H10]; · (iexists _; isplitr; swap; (· iexact H10); ipureintro; exact hf10)
    isplitl [H11]; · (iexists _; isplitr; swap; (· iexact H11); ipureintro; exact q11)
    isplitl [H12]; · (iexists _; isplitr; swap; (· iexact H12); ipureintro; exact q12)
    isplitl [H13]; · (iexists _; isplitr; swap; (· iexact H13); ipureintro; exact q13)
    isplitl [H14]; · (iexists _; isplitr; swap; (· iexact H14); ipureintro; exact q14)
    isplitl [H15]; · (iexists _; isplitr; swap; (· iexact H15); ipureintro; exact q15)
    iexists _; isplitr; swap; (· iexact H16); ipureintro; exact q16

end Cert.KernelIdeal.Scan
-- ==== Proof.Segs.lean ====
/- The two kernel regions of the program as segments of its run: what every buffer of the device holds before and after each. -/
module

public import proofs.«01_k».proof.Proof.RegionB
public import proofs.«01_k».proof.Proof.Gen.KernelIdeal.Regions
public import Idealize.ShloMosaic.Lib.Pipeline.RegionsLoop
public import Idealize.ShloMosaic.Lib.Pipeline.FrameSuffix

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation RegionSeg Seg arrRef)

local notation "𝕄G" => MT nD τ sig Unit (Elt F) ℕ (UR sig nD τ) ℕ

/-- A valuation of the device's buffers read at the references of the core. -/
abbrev rd (W : Dev nD → Valuation τ sig (Elt F)) : (c : Dev nD) → (b : Ref sig .tc) → Buf (Elt F) ((c : Thread nD τ).loc b) :=
  fun c b => W c (Proc.devRef .tc b)

/-- No core owes another anything: no level is assigned. -/
abbrev L : GSem nD τ sig → Finset Unit := fun _ => ∅
abbrev lv : GSem nD τ sig → Unit → ℕ := fun _ _ => 0

/-- No two windows of the forward call are on one array. -/
theorem sharedIn0 : Pipeline.SharedIn spec0 := by decide

variable (m : (ℓ : Loc nD τ sig) → Buf (Elt F) ℓ)

/-- The buffers before the forward call: the launch contents after the host operations. -/
def W7 (c : Dev nD) : Valuation τ sig (Elt F) := Gen.V7 m c

/-- The buffers after the forward call. -/
def W8 (c : Dev nD) : Valuation τ sig (Elt F) :=
  Pipeline.withArrays spec0 c (W7 m c) fun w => (dat0 (rd (W7 m)) c).arrAt w cfg0.N

/-- The buffers after the backward call. -/
def W9 (c : Dev nD) : Valuation τ sig (Elt F) :=
  Pipeline.withArrays spec1 c (W8 m c) fun w => (dat1 (rd (W8 m)) c).arrAt w cfg1.N

/-- Both regions' proof data. -/
def pdats : (p : Fin 2) → (c : Dev nD) → Dat τ (Elt F) Unit ℕ (UR sig nD τ) ℕ (cfgs p) c
  | ⟨0, _⟩ => fun c => dat0 (rd (W7 m)) c
  | ⟨1, _⟩ => fun c => dat1 (rd (W8 m)) c
  | ⟨_ + 2, h⟩ => absurd h (Nat.not_lt.2 (Nat.le_add_left _ _))

set_option maxHeartbeats 4000000 in
set_option backward.isDefEq.respectTransparency.types false in
/-- Region 0 between its thread states: every unscoped buffer held, before at `W7` and after at `W8`. -/
def reg0 : RegionSeg (pcfgs (F := F)) adm (pdats m) () defs₀ 𝒱N L lv 0 where
  win := winFacts0.to₀
  block_pos := block_pos0
  stage_whole := stage_whole0
  K := PEmpty
  osem k := k.elim
  ho := Pipeline.OwnSemFacts.none _
  hbody c := (body_obligation0 (rd (W7 m)) c).loose
  hwaits := Pipeline.hwaits_of_owed_zero _ _ _ _ L lv 0 fun _ _ => rfl
  pre c := iprop(StableHlo.held (c : Thread nD τ) (Pipeline.ucRefs τ sig) (W7 m c) ∗ ∃ W, owes (c : Thread nD τ) (0 : CellTallies nD τ sig Unit) W)
  post c := iprop(StableHlo.held (c : Thread nD τ) (Pipeline.ucRefs τ sig) (W8 m c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec0 c (rd (W7 m) c)
  hentry c := by
    rw [Pipeline.ownSems0_none, ← Pipeline.unscopedBufs_held (Ix := Unit) (Name := ℕ) (U := UR sig nD τ) (Lvl := ℕ) c (W7 m c)]
    have hsplit := Pipeline.arrays_of_unscopedBufs_shared (p := 0) (pcfgs (F := F)) adm (pdats m) winFacts0.to₀ sharedIn0 arr_whole0 c
      (fun _ _ => rfl) (rd (W7 m) c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = scr0 (rd (W7 m)) c 0 from rfl]
    show iprop(_ ∗ _ ∗ Pipeline.scopedRest (Ix := Unit) (Name := ℕ) (U := UR sig nD τ) (Lvl := ℕ) (Val := Elt F) spec0 c) ⊢ _
    rw [scopedRest0_split c]
    unfold scr0
    simp only [View.set_whole]
    iintro ⟨-, -, ⟨⟨%f0, H0⟩, Hr⟩⟩
    isplitl [H0]
    · iexists f0; isplitl [H0]; (· iexact H0); ipureintro; exact fun h => absurd rfl h
    iexact Hr
  hout c := by
    rw [Pipeline.ownSems0_none, show (pdats m 0 c).Φ (Fin.last _) = scr0 (rd (W7 m)) c cfg0.N from rfl]
    show _ ⊢ iprop(_ ∗ _ ∗ Pipeline.scopedRest (Ix := Unit) (Name := ℕ) (U := UR sig nD τ) (Lvl := ℕ) (Val := Elt F) spec0 c)
    rw [scopedRest0_split c]
    unfold scr0
    simp only [View.set_whole]
    iintro ⟨⟨%f0, H0, -⟩, Hr⟩
    isplitr; · iempintro
    isplitr; · iempintro
    isplitl [H0]; · (iexists f0; iexact H0)
    iexact Hr
  hexit c := by
    rw [← Pipeline.unscopedBufs_held (Ix := Unit) (Name := ℕ) (U := UR sig nD τ) (Lvl := ℕ) c (W8 m c)]
    have hjoin := Pipeline.unscopedBufs_of_arrays_shared (p := 0) (pcfgs (F := F)) adm (Ix := Unit) (Name := ℕ) (U := UR sig nD τ) (Lvl := ℕ) winFacts0.to₀ sharedIn0 arr_whole0 c
      (pdats m) (fun _ _ => rfl) (rd (W7 m) c) (rd (W8 m) c) ((pdats m 0 c).arrAt · cfg0.N)
      (fun w => (Dat.withArrays_arrAt (dat0 (rd (W7 m)) c) sharedIn0 (W7 m c) (fun _ => rfl) w).symm)
      (fun b hb => Pipeline.withArrays_of_ne spec0 c (W7 m c) _ b fun w e => hb (Finset.mem_image.mpr ⟨w, Finset.mem_univ _, e⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The scoped buffers the pipeline does not stage, split at the backward kernel's own scratch. -/
theorem scratch_split1 (c : Dev nD) :
    (Pipeline.scopedRest (Ix := Unit) (Name := ℕ) (U := UR sig nD τ) (Lvl := ℕ) (Val := Elt F) spec1 c : sProp 𝕄G)
      = iprop(((∃ f : Buf (Elt F) ((c : Thread nD τ).loc cc1_scratch0), ((c : Thread nD τ).loc cc1_scratch0) ↦{fullShare} f)
          ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f))
          ∗ Pipeline.scopedRestBut (Ix := Unit) (Name := ℕ) (U := UR sig nD τ) (Lvl := ℕ) (Val := Elt F) spec1 c [cc1_scratch0, cc1_scratch1, cc1_scratch2, cc1_scratch3]) :=
  Pipeline.scopedRest_split_of_list spec1 c [cc1_scratch0, cc1_scratch1, cc1_scratch2, cc1_scratch3] (by decide) (by decide)

set_option maxHeartbeats 4000000 in
set_option backward.isDefEq.respectTransparency.types false in
/-- Region 1 between its thread states: every unscoped buffer held, before at `W8` and after at `W9`. -/
def reg1 : RegionSeg (pcfgs (F := F)) adm (pdats m) () defs₀ 𝒱N L lv 1 where
  win := winFacts₀1
  block_pos := block_pos1
  stage_whole := stage_whole1
  K := PEmpty
  osem k := k.elim
  ho := Pipeline.OwnSemFacts.none _
  hbody c := (body_obligation1 (rd (W8 m)) c).loose
  hwaits := Pipeline.hwaits_of_owed_zero _ _ _ _ L lv 1 fun _ _ => rfl
  pre c := iprop(StableHlo.held (c : Thread nD τ) (Pipeline.ucRefs τ sig) (W8 m c) ∗ ∃ W, owes (c : Thread nD τ) (0 : CellTallies nD τ sig Unit) W)
  post c := iprop(StableHlo.held (c : Thread nD τ) (Pipeline.ucRefs τ sig) (W9 m c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec1 c (rd (W8 m) c)
  hentry c := by
    rw [Pipeline.ownSems0_none, ← Pipeline.unscopedBufs_held (Ix := Unit) (Name := ℕ) (U := UR sig nD τ) (Lvl := ℕ) c (W8 m c)]
    have hsplit := Pipeline.arrays_of_unscopedBufs_shared (p := 1) (pcfgs (F := F)) adm (pdats m) winFacts₀1 sharedIn1 arr_whole1 c
      (fun _ _ => rfl) (rd (W8 m) c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = scr1 (rd (W8 m)) c 0 from rfl]
    show iprop(_ ∗ _ ∗ Pipeline.scopedRest (Ix := Unit) (Name := ℕ) (U := UR sig nD τ) (Lvl := ℕ) (Val := Elt F) spec1 c) ⊢ _
    rw [scratch_split1 c]
    unfold scr1
    simp only [View.set_whole]
    iintro ⟨-, -, ⟨⟨⟨%f0, H0⟩, ⟨%f1, H1⟩, ⟨%f2, H2⟩, ⟨%f3, H3⟩⟩, Hr⟩⟩
    isplitl [H0]
    · iexists f0; isplitl [H0]; (· iexact H0); ipureintro; exact fun h => absurd rfl h
    isplitl [H1]; · (iexists f1; iexact H1)
    isplitl [H2]; · (iexists f2; iexact H2)
    isplitl [H3]; · (iexists f3; iexact H3)
    iexact Hr
  hout c := by
    rw [Pipeline.ownSems0_none, show (pdats m 1 c).Φ (Fin.last _) = scr1 (rd (W8 m)) c cfg1.N from rfl]
    show _ ⊢ iprop(_ ∗ _ ∗ Pipeline.scopedRest (Ix := Unit) (Name := ℕ) (U := UR sig nD τ) (Lvl := ℕ) (Val := Elt F) spec1 c)
    rw [scratch_split1 c]
    unfold scr1
    simp only [View.set_whole]
    iintro ⟨⟨%f0, H0, -⟩, ⟨%f1, H1⟩, ⟨%f2, H2⟩, ⟨%f3, H3⟩, Hr⟩
    isplitr; · iempintro
    isplitr; · iempintro
    isplitr [Hr]
    · isplitl [H0]; · (iexists f0; iexact H0)
      isplitl [H1]; · (iexists f1; iexact H1)
      isplitl [H2]; · (iexists f2; iexact H2)
      iexists f3; iexact H3
    iexact Hr
  hexit c := by
    rw [← Pipeline.unscopedBufs_held (Ix := Unit) (Name := ℕ) (U := UR sig nD τ) (Lvl := ℕ) c (W9 m c)]
    have hjoin := Pipeline.unscopedBufs_of_arrays_shared (p := 1) (pcfgs (F := F)) adm (Ix := Unit) (Name := ℕ) (U := UR sig nD τ) (Lvl := ℕ) winFacts₀1 sharedIn1 arr_whole1 c
      (pdats m) (fun _ _ => rfl) (rd (W8 m) c) (rd (W9 m) c) ((pdats m 1 c).arrAt · cfg1.N)
      (fun w => (Dat.withArrays_arrAt (dat1 (rd (W8 m)) c) sharedIn1 (W8 m c) (fun _ => rfl) w).symm)
      (fun b hb => Pipeline.withArrays_of_ne spec1 c (W8 m c) _ b fun w e => hb (Finset.mem_image.mpr ⟨w, Finset.mem_univ _, e⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Scan
-- ==== Proof.RunK.lean ====
/- The run of the whole program: every buffer of the device at its end. -/
module

public import proofs.«01_k».proof.Proof.Segs

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation RegionSeg Seg arrRef)

local notation "𝕄G" => MT nD τ sig Unit (Elt F) ℕ (UR sig nD τ) ℕ

variable (m : (ℓ : Loc nD τ sig) → Buf (Elt F) ℓ)

/-- The rest that rides beside the buffers: the core owes nothing. -/
abbrev Eo (_ : Fin 3) (c : Dev nD) : sProp 𝕄G := iprop(∃ W, owes (c : Thread nD τ) (0 : CellTallies nD τ sig Unit) W)

set_option maxHeartbeats 4000000 in
set_option backward.isDefEq.respectTransparency.types false in
/-- Every fair run from zero counters ends, each unscoped buffer at the contents after the backward call and every counter zero. -/
theorem run_main (ρ : Dev nD → PrngReg) :
    θ_run defs (onTc (τ := τ) (main (F := F))) ⟨m, fun _ => 0, ρ⟩ (fun r => (∀ (c : Dev nD) (b : Ref sig .tc), b.isScoped = false →
      r.2.mem ((c.tc : Thread nD τ).loc b) = W9 m c (Proc.devRef .tc b)) ∧ r.2.sem = fun _ => 0) := by
  refine Pipeline.θ_run_regions_kit_dev_sems (pcfgs (F := F)) adm (pdats m) () cellOf_inj emb₁ defs₀ 𝒱N L lv m ρ main
    (segs m 𝒱N L lv Eo () (pdats m) (reg0 m) (reg1 m))
    (fun c Q => by
      rewrite [main_chain c, Seg.run_eq_chain,
        show (segs m 𝒱N L lv Eo () (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0) (fun _ _ => rfl) (fun _ => BI.emp)
    (initOf (Pipeline.cells cfgs cellOf_inj) (Pipeline.launchToks cfgs cellOf_inj))
    (by
      rw [ownU_emb₁]
      iintro H
      imodintro
      isplitl [H]; · iexact H
      rw [show (Finset.univ : Finset (Dev nD)) = {0} from rfl, BI.bigSep_singleton]; iempintro)
    (T₀ := fun c => iprop(StableHlo.held (c : Thread nD τ) (Pipeline.ucRefs τ sig) (Gen.V0 m c) ∗ Eo 0 c))
    (Tₙ := fun c => StableHlo.held (c : Thread nD τ) (Pipeline.ucRefs τ sig) (W9 m c))
    (hch := fun c => ⟨.rfl, .rfl, .rfl, .rfl, .rfl, .rfl, .rfl, .rfl, .rfl, .rfl⟩)
    (hinit := ?_) (QY := fun c s => ∀ b : Ref sig .tc, b.isScoped = false → s.mem ((c.tc : Thread nD τ).loc b) = W9 m c (Proc.devRef .tc b))
    (hfin := fun c s' => ?_) (hQ := fun _ h hz => ⟨h, funext fun g => hz g (.inr (regions_no_unscoped g.2))⟩)
  · refine Pipeline.initEach L lv fun c => ?_
    rw [← Pipeline.unscopedBufs_held (Ix := Unit) (Name := ℕ) (U := UR sig nD τ) (Lvl := ℕ) c (Gen.V0 m c)]
    iintro ⟨⟨Hb, -, HO, -, -, -⟩, -⟩
    imodintro
    isplitl [Hb]; · iexact Hb
    iexists ∅; iexact HO
  · unfold StableHlo.held
    iintro ⟨Hh, HSI⟩
    ihave Hr := (pointsTo_read_all (Pipeline.ucRefs τ sig) (fun b => ((c : Thread nD τ).1, b)) (W9 m c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, by simpa using hb⟩)
    · iexact HSI

theorem W7_arg0 (c : Dev nD) : W7 m c (Proc.devRef .tc main_arg0) = m ((c : Thread nD τ).loc main_arg0) :=
  (V7_of m c main_arg0 (by decide)).trans ((V6_of m c main_arg0 (by decide)).trans ((V5_of m c main_arg0 (by decide)).trans
    ((V4_of m c main_arg0 (by decide)).trans ((V3_of m c main_arg0 (by decide)).trans ((V2_of m c main_arg0 (by decide)).trans (V1_of m c main_arg0 (by decide)))))))

theorem W8_arg0 (c : Dev nD) : W8 m c (Proc.devRef .tc main_arg0) = m ((c : Thread nD τ).loc main_arg0) := by
  have h8 : W8 m c (Proc.devRef .tc main_arg0) = W7 m c (Proc.devRef .tc main_arg0) :=
    (Dat.withArrays_arrAt (dat0 (rd (W7 m)) c) sharedIn0 (W7 m c) (fun _ => rfl) 0).trans ((dat0 (rd (W7 m)) c).arrAt_in 0 rfl _)
  exact h8.trans (W7_arg0 m c)

theorem W9_arg0 (c : Dev nD) : W9 m c (Proc.devRef .tc main_arg0) = m ((c : Thread nD τ).loc main_arg0) := by
  have h9 : W9 m c (Proc.devRef .tc main_arg0) = W8 m c (Proc.devRef .tc main_arg0) :=
    (Dat.withArrays_arrAt (dat1 (rd (W8 m)) c) sharedIn1 (W8 m c) (fun _ => rfl) 0).trans ((dat1 (rd (W8 m)) c).arrAt_in 0 rfl _)
  exact h9.trans (W8_arg0 m c)

theorem W7_arg1 (c : Dev nD) : W7 m c (Proc.devRef .tc main_arg1) = m ((c : Thread nD τ).loc main_arg1) :=
  (V7_of m c main_arg1 (by decide)).trans ((V6_of m c main_arg1 (by decide)).trans ((V5_of m c main_arg1 (by decide)).trans
    ((V4_of m c main_arg1 (by decide)).trans ((V3_of m c main_arg1 (by decide)).trans ((V2_of m c main_arg1 (by decide)).trans (V1_of m c main_arg1 (by decide)))))))

theorem W8_arg1 (c : Dev nD) : W8 m c (Proc.devRef .tc main_arg1) = m ((c : Thread nD τ).loc main_arg1) := by
  have h8 : W8 m c (Proc.devRef .tc main_arg1) = W7 m c (Proc.devRef .tc main_arg1) :=
    (Dat.withArrays_arrAt (dat0 (rd (W7 m)) c) sharedIn0 (W7 m c) (fun _ => rfl) 1).trans ((dat0 (rd (W7 m)) c).arrAt_in 1 rfl _)
  exact h8.trans (W7_arg1 m c)

theorem W9_arg1 (c : Dev nD) : W9 m c (Proc.devRef .tc main_arg1) = m ((c : Thread nD τ).loc main_arg1) := by
  have h9 : W9 m c (Proc.devRef .tc main_arg1) = W8 m c (Proc.devRef .tc main_arg1) :=
    (Dat.withArrays_arrAt (dat1 (rd (W8 m)) c) sharedIn1 (W8 m c) (fun _ => rfl) 1).trans ((dat1 (rd (W8 m)) c).arrAt_in 1 rfl _)
  exact h9.trans (W8_arg1 m c)

theorem W7_arg2 (c : Dev nD) : W7 m c (Proc.devRef .tc main_arg2) = m ((c : Thread nD τ).loc main_arg2) :=
  (V7_of m c main_arg2 (by decide)).trans ((V6_of m c main_arg2 (by decide)).trans ((V5_of m c main_arg2 (by decide)).trans
    ((V4_of m c main_arg2 (by decide)).trans ((V3_of m c main_arg2 (by decide)).trans ((V2_of m c main_arg2 (by decide)).trans (V1_of m c main_arg2 (by decide)))))))

theorem W8_arg2 (c : Dev nD) : W8 m c (Proc.devRef .tc main_arg2) = m ((c : Thread nD τ).loc main_arg2) := by
  have h8 : W8 m c (Proc.devRef .tc main_arg2) = W7 m c (Proc.devRef .tc main_arg2) :=
    (Dat.withArrays_arrAt (dat0 (rd (W7 m)) c) sharedIn0 (W7 m c) (fun _ => rfl) 2).trans ((dat0 (rd (W7 m)) c).arrAt_in 2 rfl _)
  exact h8.trans (W7_arg2 m c)

theorem W9_arg2 (c : Dev nD) : W9 m c (Proc.devRef .tc main_arg2) = m ((c : Thread nD τ).loc main_arg2) := by
  have h9 : W9 m c (Proc.devRef .tc main_arg2) = W8 m c (Proc.devRef .tc main_arg2) :=
    (Dat.withArrays_arrAt (dat1 (rd (W8 m)) c) sharedIn1 (W8 m c) (fun _ => rfl) 2).trans ((dat1 (rd (W8 m)) c).arrAt_in 2 rfl _)
  exact h9.trans (W8_arg2 m c)

theorem W7_arg3 (c : Dev nD) : W7 m c (Proc.devRef .tc main_arg3) = m ((c : Thread nD τ).loc main_arg3) :=
  (V7_of m c main_arg3 (by decide)).trans ((V6_of m c main_arg3 (by decide)).trans ((V5_of m c main_arg3 (by decide)).trans
    ((V4_of m c main_arg3 (by decide)).trans ((V3_of m c main_arg3 (by decide)).trans ((V2_of m c main_arg3 (by decide)).trans (V1_of m c main_arg3 (by decide)))))))

theorem W8_arg3 (c : Dev nD) : W8 m c (Proc.devRef .tc main_arg3) = m ((c : Thread nD τ).loc main_arg3) := by
  have h8 : W8 m c (Proc.devRef .tc main_arg3) = W7 m c (Proc.devRef .tc main_arg3) :=
    (Dat.withArrays_arrAt (dat0 (rd (W7 m)) c) sharedIn0 (W7 m c) (fun _ => rfl) 3).trans ((dat0 (rd (W7 m)) c).arrAt_in 3 rfl _)
  exact h8.trans (W7_arg3 m c)

theorem W9_arg3 (c : Dev nD) : W9 m c (Proc.devRef .tc main_arg3) = m ((c : Thread nD τ).loc main_arg3) := by
  have h9 : W9 m c (Proc.devRef .tc main_arg3) = W8 m c (Proc.devRef .tc main_arg3) :=
    (Dat.withArrays_arrAt (dat1 (rd (W8 m)) c) sharedIn1 (W8 m c) (fun _ => rfl) 3).trans ((dat1 (rd (W8 m)) c).arrAt_in 3 rfl _)
  exact h9.trans (W8_arg3 m c)

theorem W7_arg4 (c : Dev nD) : W7 m c (Proc.devRef .tc main_arg4) = m ((c : Thread nD τ).loc main_arg4) :=
  (V7_of m c main_arg4 (by decide)).trans ((V6_of m c main_arg4 (by decide)).trans ((V5_of m c main_arg4 (by decide)).trans
    ((V4_of m c main_arg4 (by decide)).trans ((V3_of m c main_arg4 (by decide)).trans ((V2_of m c main_arg4 (by decide)).trans (V1_of m c main_arg4 (by decide)))))))

theorem W8_arg4 (c : Dev nD) : W8 m c (Proc.devRef .tc main_arg4) = m ((c : Thread nD τ).loc main_arg4) := by
  have h8 : W8 m c (Proc.devRef .tc main_arg4) = W7 m c (Proc.devRef .tc main_arg4) :=
    (Dat.withArrays_arrAt (dat0 (rd (W7 m)) c) sharedIn0 (W7 m c) (fun _ => rfl) 4).trans ((dat0 (rd (W7 m)) c).arrAt_in 4 rfl _)
  exact h8.trans (W7_arg4 m c)

theorem W9_arg4 (c : Dev nD) : W9 m c (Proc.devRef .tc main_arg4) = m ((c : Thread nD τ).loc main_arg4) := by
  have h9 : W9 m c (Proc.devRef .tc main_arg4) = W8 m c (Proc.devRef .tc main_arg4) :=
    (Dat.withArrays_arrAt (dat1 (rd (W8 m)) c) sharedIn1 (W8 m c) (fun _ => rfl) 4).trans ((dat1 (rd (W8 m)) c).arrAt_in 4 rfl _)
  exact h9.trans (W8_arg4 m c)

theorem W7_arg5 (c : Dev nD) : W7 m c (Proc.devRef .tc main_arg5) = m ((c : Thread nD τ).loc main_arg5) :=
  (V7_of m c main_arg5 (by decide)).trans ((V6_of m c main_arg5 (by decide)).trans ((V5_of m c main_arg5 (by decide)).trans
    ((V4_of m c main_arg5 (by decide)).trans ((V3_of m c main_arg5 (by decide)).trans ((V2_of m c main_arg5 (by decide)).trans (V1_of m c main_arg5 (by decide)))))))

theorem W8_arg5 (c : Dev nD) : W8 m c (Proc.devRef .tc main_arg5) = m ((c : Thread nD τ).loc main_arg5) := by
  have h8 : W8 m c (Proc.devRef .tc main_arg5) = W7 m c (Proc.devRef .tc main_arg5) :=
    (Dat.withArrays_arrAt (dat0 (rd (W7 m)) c) sharedIn0 (W7 m c) (fun _ => rfl) 5).trans ((dat0 (rd (W7 m)) c).arrAt_in 5 rfl _)
  exact h8.trans (W7_arg5 m c)

theorem W9_arg5 (c : Dev nD) : W9 m c (Proc.devRef .tc main_arg5) = m ((c : Thread nD τ).loc main_arg5) := by
  have h9 : W9 m c (Proc.devRef .tc main_arg5) = W8 m c (Proc.devRef .tc main_arg5) :=
    (Dat.withArrays_arrAt (dat1 (rd (W8 m)) c) sharedIn1 (W8 m c) (fun _ => rfl) 5).trans ((dat1 (rd (W8 m)) c).arrAt_in 5 rfl _)
  exact h9.trans (W8_arg5 m c)

theorem W7_arg6 (c : Dev nD) : W7 m c (Proc.devRef .tc main_arg6) = m ((c : Thread nD τ).loc main_arg6) :=
  (V7_of m c main_arg6 (by decide)).trans ((V6_of m c main_arg6 (by decide)).trans ((V5_of m c main_arg6 (by decide)).trans
    ((V4_of m c main_arg6 (by decide)).trans ((V3_of m c main_arg6 (by decide)).trans ((V2_of m c main_arg6 (by decide)).trans (V1_of m c main_arg6 (by decide)))))))

theorem W8_arg6 (c : Dev nD) : W8 m c (Proc.devRef .tc main_arg6) = m ((c : Thread nD τ).loc main_arg6) := by
  have h8 : W8 m c (Proc.devRef .tc main_arg6) = W7 m c (Proc.devRef .tc main_arg6) :=
    Pipeline.withArrays_of_ne spec0 c (W7 m c) _ main_arg6 (by decide)
  exact h8.trans (W7_arg6 m c)

theorem W9_arg6 (c : Dev nD) : W9 m c (Proc.devRef .tc main_arg6) = m ((c : Thread nD τ).loc main_arg6) := by
  have h9 : W9 m c (Proc.devRef .tc main_arg6) = W8 m c (Proc.devRef .tc main_arg6) :=
    (Dat.withArrays_arrAt (dat1 (rd (W8 m)) c) sharedIn1 (W8 m c) (fun _ => rfl) 6).trans ((dat1 (rd (W8 m)) c).arrAt_in 6 rfl _)
  exact h9.trans (W8_arg6 m c)

end Cert.KernelIdeal.Scan
-- ==== Proof.Same.lean ====
/- The two printed kernel programs have the same text: their body tables are equal. -/
module

public import proofs.«01_k».proof.Proof.Gen.Kernel
public import proofs.«01_k».proof.Proof.Gen.KernelIdeal

@[expose] public section

set_option maxRecDepth 16384

noncomputable section

namespace Cert.Proof

open Idealize.ShloMosaic Idealize.SL.Sem

variable {F : FTy → Type} [FloatOps F]

set_option maxHeartbeats 8000000 in
/-- Both programs run the same body at each label. -/
theorem defs₀_same : Cert.Kernel.defs₀ (F := F) = Cert.KernelIdeal.defs₀ (F := F) := by
  refine congrArg (Defs.onTc (nD := Cert.Kernel.nD) (τ := Cert.Kernel.τ) (sig := Cert.Kernel.sig)) (funext fun ℓ => funext fun x => ?_)
  match ℓ, x with
  | 0, (t, s) => rfl
  | 1, (t, s) => rfl
  | ⟨n + 2, h⟩, _ => exact absurd h (Nat.not_lt.2 (Nat.le_add_left _ _))

set_option maxHeartbeats 8000000 in
/-- So their tables with the pipelined regions' labels are equal, -/
theorem defs_same : Cert.Kernel.defs (F := F) = Cert.KernelIdeal.defs (F := F) := by
  show Pipeline.defs (Cert.Kernel.pcfgs (F := F)) Cert.Kernel.defs₀ = Pipeline.defs (Cert.KernelIdeal.pcfgs (F := F)) Cert.KernelIdeal.defs₀
  rw [defs₀_same]
  rfl

set_option maxHeartbeats 8000000 in
/-- and so are their main functions. -/
theorem main_same : Cert.Kernel.main (F := F) = Cert.KernelIdeal.main (F := F) := rfl

end Cert.Proof

end
-- ==== Proof.EvalF.lean ====
/- One forward trip over the extended reals, read entry by entry: the column tiles are the rows' entries, the state
   goes through eight steps of the recurrence, and each output sums the state's column against `r`. -/
module

public import proofs.«01_k».proof.Proof.Pure

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL.Sem

/-- The entry of a row that meets key `i` in state column `l = 64 h + v`: `64 h + i`. -/
def col (l : Fin 256) (i : Fin 64) : Fin 256 := ⟨l.val / 64 * 64 + i.val, by omega⟩

/-- A sum masked to the entries of the own key and the own head has one term. -/
theorem sum_tile (f : Fin 256 → EReal) (i : Fin 64) (l : Fin 256) (M D : Fin 256 → EReal)
    (hM : ∀ m, M m = if m.val % 64 = i.val then 1 else 0) (hD : ∀ m, D m = if m.val / 64 = l.val / 64 then 1 else 0) :
    ∑ m : Fin 256, f m * M m * D m = f (col l i) := by
  rw [Finset.sum_eq_single (col l i)]
  · rw [hM, hD, if_pos (by show (l.val / 64 * 64 + i.val) % 64 = i.val; omega), if_pos (by show (l.val / 64 * 64 + i.val) / 64 = l.val / 64; omega), mul_one, mul_one]
  · intro m _ hm
    rw [hM, hD]
    by_cases h1 : m.val % 64 = i.val
    · have h2 : ¬ m.val / 64 = l.val / 64 := fun h2 => hm (Fin.ext (by show m.val = l.val / 64 * 64 + i.val; omega))
      rw [if_neg h2, mul_zero]
    · rw [if_neg h1, mul_zero, zero_mul]
  · intro h; exact absurd (Finset.mem_univ _) h

/-- The same over three copies of the entries, when the second and third copies are zero. -/
theorem sum_tile3 (f : Fin 256 → EReal) (i : Fin 64) (l : Fin 256) (M : Fin 256 → EReal) (D : Fin 768 → EReal)
    (hM : ∀ m, M m = if m.val % 64 = i.val then 1 else 0) (hD : ∀ m, D m = if m.val % 256 / 64 = l.val / 64 then 1 else 0) :
    ∑ m : Fin 768, (if h : m.val < 256 then f ⟨m.val, h⟩ * M ⟨m.val, h⟩ else 0) * D m = f (col l i) := by
  rw [Finset.sum_eq_single (⟨(col l i).val, by omega⟩ : Fin 768)]
  · rw [dif_pos (col l i).isLt, hM, hD, if_pos (by show (l.val / 64 * 64 + i.val) % 64 = i.val; omega),
      if_pos (by show (l.val / 64 * 64 + i.val) % 256 / 64 = l.val / 64; omega), mul_one, mul_one]
  · intro m _ hm
    by_cases h0 : m.val < 256
    · rw [dif_pos h0, hM, hD]
      by_cases h1 : m.val % 64 = i.val
      · have h2 : ¬ m.val % 256 / 64 = l.val / 64 := fun h2 => hm (Fin.ext (by show m.val = l.val / 64 * 64 + i.val; omega))
        rw [if_neg h2, mul_zero]
      · rw [if_neg h1, mul_zero, zero_mul]
    · rw [dif_neg h0, zero_mul]
  · intro h; exact absurd (Finset.mem_univ _) h

/-- The masks: `mask` picks the own key, `ones` the own head. -/
def IsMask (mask : FVec Ideal S64x256 .f32) : Prop :=
  ∀ (i : Fin 64) (m : Fin 256), mask (ix2 i m) = if m.val % 64 = i.val then (1 : EReal) else 0
def IsOnes (ones : FVec Ideal S256x256 .bf16) : Prop :=
  ∀ (m l : Fin 256), ones (ix2 m l) = if m.val / 64 = l.val / 64 then (1 : EReal) else 0
def IsOnes3 (ones : FVec Ideal S768x256 .bf16) : Prop :=
  ∀ (m : Fin 768) (l : Fin 256), ones (ix2 m l) = if m.val % 256 / 64 = l.val / 64 then (1 : EReal) else 0

theorem k0_pay9_at (ones : FVec Ideal S768x256 .bf16) (mask : FVec Ideal S64x256 .f32) (w : FVec Ideal S8x256 .f32)
    (hm : IsMask mask) (ho : IsOnes3 ones) (hw : ∀ j l, ∃ q : ℝ, w (ix2 j l) = (q : EReal)) (j : Fin 8) (i : Fin 64) (l : Fin 256) :
    k0_pay9 (k0_pay2 ones) (k0_pay4 mask) w (ix3 j i l) = w (ix2 j (col l i)) := by
  have hz : ∀ j l, w (ix2 j l) - w (ix2 j l) = (0 : EReal) := by
    intro j l
    obtain ⟨q, hq⟩ := hw j l
    rw [hq]
    exact (EReal.coe_sub q q).symm.trans (by rw [sub_self]; rfl)
  pointwise [k0_pay9, k0_pay2, k0_pay4]
  simp only [hz, sub_zero, zero_mul, dite_eq_ite, ite_self]
  exact sum_tile3 (fun m => w (ix2 j m)) i l (fun m => mask (ix2 i m)) (fun m => ones (ix2 m l)) (hm i) (fun m => ho m l)

theorem k0_pay12_at (ones : FVec Ideal S256x256 .bf16) (mask : FVec Ideal S64x256 .f32) (r k c b : FVec Ideal S8x256 .f32)
    (hm : IsMask mask) (ho : IsOnes ones) (j : Fin 8) (i : Fin 64) (l : Fin 256) :
    k0_pay12 (k0_pay3 ones) (k0_pay4 mask) b k r (k0_pay10 (k0_pay4 mask) c) (ix3 j i l) = c (ix2 j (col l i)) := by
  pointwise [k0_pay12, k0_pay11, k0_pay10, k0_pay3, k0_pay4]
  refine (Finset.sum_congr rfl fun m _ => ?_).trans (sum_tile (fun m => c (ix2 j m)) i l (fun m => mask (ix2 i m)) (fun m => ones (ix2 m l)) (hm i) (fun m => ho m l))
  rw [dif_pos (by omega)]

theorem k0_pay13_at (ones : FVec Ideal S256x256 .bf16) (mask : FVec Ideal S64x256 .f32) (r k c b : FVec Ideal S8x256 .f32)
    (hm : IsMask mask) (ho : IsOnes ones) (j : Fin 8) (i : Fin 64) (l : Fin 256) :
    k0_pay13 (k0_pay3 ones) (k0_pay4 mask) b k r (k0_pay10 (k0_pay4 mask) c) (ix3 j i l) = b (ix2 j (col l i)) := by
  pointwise [k0_pay13, k0_pay11, k0_pay10, k0_pay3, k0_pay4]
  refine (Finset.sum_congr rfl fun m _ => ?_).trans (sum_tile (fun m => b (ix2 j m)) i l (fun m => mask (ix2 i m)) (fun m => ones (ix2 m l)) (hm i) (fun m => ho m l))
  rw [dif_pos (by omega)]

theorem k0_pay14_at (ones : FVec Ideal S256x256 .bf16) (mask : FVec Ideal S64x256 .f32) (r k c b : FVec Ideal S8x256 .f32)
    (hm : IsMask mask) (ho : IsOnes ones) (j : Fin 8) (i : Fin 64) (l : Fin 256) :
    k0_pay14 (k0_pay3 ones) (k0_pay4 mask) b k r (k0_pay10 (k0_pay4 mask) c) (ix3 j i l) = k (ix2 j (col l i)) := by
  pointwise [k0_pay14, k0_pay11, k0_pay10, k0_pay3, k0_pay4]
  refine (Finset.sum_congr rfl fun m _ => ?_).trans (sum_tile (fun m => k (ix2 j m)) i l (fun m => mask (ix2 i m)) (fun m => ones (ix2 m l)) (hm i) (fun m => ho m l))
  rw [dif_neg (by omega), dif_neg (by omega), dif_pos (by omega)]
  exact congrArg (· * ones (ix2 m l)) (congrArg₂ (· * ·) (congrArg (fun a => k (ix2 a m)) (Fin.ext (by dsimp only; omega)))
    (congrArg (fun a => mask (ix2 a m)) (Fin.ext (by dsimp only; omega))))

theorem k0_pay15_at (ones : FVec Ideal S256x256 .bf16) (mask : FVec Ideal S64x256 .f32) (r k c b : FVec Ideal S8x256 .f32)
    (hm : IsMask mask) (ho : IsOnes ones) (j : Fin 8) (i : Fin 64) (l : Fin 256) :
    k0_pay15 (k0_pay3 ones) (k0_pay4 mask) b k r (k0_pay10 (k0_pay4 mask) c) (ix3 j i l) = r (ix2 j (col l i)) := by
  pointwise [k0_pay15, k0_pay11, k0_pay10, k0_pay3, k0_pay4]
  refine (Finset.sum_congr rfl fun m _ => ?_).trans (sum_tile (fun m => r (ix2 j m)) i l (fun m => mask (ix2 i m)) (fun m => ones (ix2 m l)) (hm i) (fun m => ho m l))
  rw [dif_neg (by omega), dif_neg (by omega), dif_neg (by omega)]
  exact congrArg (· * ones (ix2 m l)) (congrArg₂ (· * ·) (congrArg (fun a => r (ix2 a m)) (Fin.ext (by dsimp only; omega)))
    (congrArg (fun a => mask (ix2 a m)) (Fin.ext (by dsimp only; omega))))

/-- One step of the state: columns `l`, keys `i`. -/
def stepF (w k v c b : Fin 256 → EReal) (s : Fin 64 → Fin 256 → EReal) (i : Fin 64) (l : Fin 256) : EReal :=
  s i l * w (col l i) + b (col l i) * (∑ a : Fin 64, s a l * c (col l a)) + k (col l i) * v l

/-- What the trip's masks and decays must satisfy. -/
structure FIn.Ok (x : FIn Ideal) : Prop where
  mask : IsMask x.mask
  ones : IsOnes x.ones1
  ones3 : IsOnes3 x.ones3
  w : ∀ j l, ∃ q : ℝ, x.w (ix2 j l) = (q : EReal)

namespace FIn

variable (x : FIn Ideal)

section Tiles
variable {x} (h : x.Ok)
include h

theorem wt_at (j : Fin 8) (i : Fin 64) (l : Fin 256) : x.wt (ix3 j i l) = x.w (ix2 j (col l i)) :=
  k0_pay9_at x.ones3 x.mask x.w h.mask h.ones3 h.w j i l
theorem ct_at (j : Fin 8) (i : Fin 64) (l : Fin 256) : x.ct (ix3 j i l) = x.c (ix2 j (col l i)) :=
  k0_pay12_at x.ones1 x.mask x.r x.k x.c x.b h.mask h.ones j i l
theorem bt_at (j : Fin 8) (i : Fin 64) (l : Fin 256) : x.bt (ix3 j i l) = x.b (ix2 j (col l i)) :=
  k0_pay13_at x.ones1 x.mask x.r x.k x.c x.b h.mask h.ones j i l
theorem kt_at (j : Fin 8) (i : Fin 64) (l : Fin 256) : x.kt (ix3 j i l) = x.k (ix2 j (col l i)) :=
  k0_pay14_at x.ones1 x.mask x.r x.k x.c x.b h.mask h.ones j i l
theorem rt_at (j : Fin 8) (i : Fin 64) (l : Fin 256) : x.rt (ix3 j i l) = x.r (ix2 j (col l i)) :=
  k0_pay15_at x.ones1 x.mask x.r x.k x.c x.b h.mask h.ones j i l
end Tiles

/-- The step with row `j` of the trip. -/
def stp (j : Fin 8) (s : Fin 64 → Fin 256 → EReal) : Fin 64 → Fin 256 → EReal :=
  stepF (fun l => x.w (ix2 j l)) (fun l => x.k (ix2 j l)) (fun l => x.v (ix2 j l)) (fun l => x.c (ix2 j l)) (fun l => x.b (ix2 j l)) s

/-- The state after `n` of the eight steps. -/
def sq : ℕ → Fin 64 → Fin 256 → EReal
  | 0 => fun i l => x.s (ix2 i l)
  | n + 1 => if h : n < 8 then x.stp ⟨n, h⟩ (sq n) else sq n

theorem sq_succ (j : Fin 8) : x.sq (j.val + 1) = x.stp j (x.sq j.val) := dif_pos j.isLt

/-- One step with the tiles instead of the rows. -/
theorem step_tiles {x : FIn Ideal} (h : x.Ok) (j : Fin 8) (s : Fin 64 → Fin 256 → EReal) (i : Fin 64) (l : Fin 256) :
    s i l * x.wt (ix3 j i l) + x.bt (ix3 j i l) * (∑ a : Fin 64, s a l * x.ct (ix3 j a l)) + x.kt (ix3 j i l) * x.v (ix2 j l) = x.stp j s i l := by
  simp only [wt_at h, ct_at h, bt_at h, kt_at h]
  rfl

variable {x} (h : x.Ok)
include h

theorem s0_at (i : Fin 64) (l : Fin 256) : x.s0 (ix2 i l) = x.sq 1 i l := by
  refine Eq.trans ?_ (congrFun (congrFun (x.sq_succ 0).symm i) l)
  refine Eq.trans ?_ (step_tiles h 0 (x.sq 0) i l)
  pointwise [FIn.s0, k0_pay16]
  rfl

theorem s1_at (i : Fin 64) (l : Fin 256) : k0_pay18 x.v x.wt x.ct x.bt x.kt x.s0 (ix2 i l) = x.sq 2 i l := by
  refine Eq.trans ?_ (congrFun (congrFun (x.sq_succ 1).symm i) l)
  refine Eq.trans ?_ (step_tiles h 1 (x.sq 1) i l)
  pointwise [k0_pay18]
  simp only [s0_at h]

theorem s2_at (i : Fin 64) (l : Fin 256) : x.s2 (ix2 i l) = x.sq 3 i l := by
  refine Eq.trans ?_ (congrFun (congrFun (x.sq_succ 2).symm i) l)
  refine Eq.trans ?_ (step_tiles h 2 (x.sq 2) i l)
  pointwise [FIn.s2, k0_pay20]
  simp only [s1_at h]

theorem s3_at (i : Fin 64) (l : Fin 256) : k0_pay22 x.v x.wt x.ct x.bt x.kt x.s2 (ix2 i l) = x.sq 4 i l := by
  refine Eq.trans ?_ (congrFun (congrFun (x.sq_succ 3).symm i) l)
  refine Eq.trans ?_ (step_tiles h 3 (x.sq 3) i l)
  pointwise [k0_pay22]
  simp only [s2_at h]

theorem s4_at (i : Fin 64) (l : Fin 256) : x.s4 (ix2 i l) = x.sq 5 i l := by
  refine Eq.trans ?_ (congrFun (congrFun (x.sq_succ 4).symm i) l)
  refine Eq.trans ?_ (step_tiles h 4 (x.sq 4) i l)
  pointwise [FIn.s4, k0_pay24]
  simp only [s3_at h]

theorem s5_at (i : Fin 64) (l : Fin 256) : k0_pay26 x.v x.wt x.ct x.bt x.kt x.s4 (ix2 i l) = x.sq 6 i l := by
  refine Eq.trans ?_ (congrFun (congrFun (x.sq_succ 5).symm i) l)
  refine Eq.trans ?_ (step_tiles h 5 (x.sq 5) i l)
  pointwise [k0_pay26]
  simp only [s4_at h]

theorem s6_at (i : Fin 64) (l : Fin 256) : x.s6 (ix2 i l) = x.sq 7 i l := by
  refine Eq.trans ?_ (congrFun (congrFun (x.sq_succ 6).symm i) l)
  refine Eq.trans ?_ (step_tiles h 6 (x.sq 6) i l)
  pointwise [FIn.s6, k0_pay28]
  simp only [s5_at h]

theorem s7_at (i : Fin 64) (l : Fin 256) : k0_pay5 x.v x.wt x.ct x.bt x.kt x.s6 (ix2 i l) = x.sq 8 i l := by
  refine Eq.trans ?_ (congrFun (congrFun (x.sq_succ 7).symm i) l)
  refine Eq.trans ?_ (step_tiles h 7 (x.sq 7) i l)
  pointwise [k0_pay5]
  simp only [s6_at h]

theorem st_at (j : Fin 8) (i : Fin 64) (l : Fin 256) : x.st (ix3 j i l) = x.sq (j.val + 1) i l := by
  unfold FIn.st
  fin_cases j
  · refine Eq.trans ?_ (s0_at h i l); show k0_pay17 x.s0 (ix3 0 i l) = _; pointwise [k0_pay17]
  · refine Eq.trans ?_ (s1_at h i l); show k0_pay19 _ _ _ _ _ _ (ix3 0 i l) = _; pointwise [k0_pay19]
  · refine Eq.trans ?_ (s2_at h i l); show k0_pay21 x.s2 (ix3 0 i l) = _; pointwise [k0_pay21]
  · refine Eq.trans ?_ (s3_at h i l); show k0_pay23 _ _ _ _ _ _ (ix3 0 i l) = _; pointwise [k0_pay23]
  · refine Eq.trans ?_ (s4_at h i l); show k0_pay25 x.s4 (ix3 0 i l) = _; pointwise [k0_pay25]
  · refine Eq.trans ?_ (s5_at h i l); show k0_pay27 _ _ _ _ _ _ (ix3 0 i l) = _; pointwise [k0_pay27]
  · refine Eq.trans ?_ (s6_at h i l); show k0_pay29 _ _ _ _ _ _ (ix3 0 i l) = _; pointwise [k0_pay29, FIn.s6]
  · refine Eq.trans ?_ (s7_at h i l); show k0_pay6 _ _ _ _ _ _ (ix3 0 i l) = _; pointwise [k0_pay6]

theorem sn_at (i : Fin 64) (l : Fin 256) : x.sn (ix2 i l) = x.sq 8 i l := by
  refine Eq.trans ?_ (s7_at h i l)
  pointwise [FIn.sn, k0_pay7]

theorem y_at (j : Fin 8) (l : Fin 256) : x.y (ix2 j l) = ∑ i : Fin 64, x.sq (j.val + 1) i l * x.r (ix2 j (col l i)) := by
  pointwise [FIn.y, k0_pay8]
  exact Finset.sum_congr rfl fun i _ => congrArg₂ (· * ·) (st_at h j i l) (rt_at h j i l)

end FIn

end Cert.KernelIdeal.Scan

end
-- ==== Proof.EvalB.lean ====
/- One backward trip over the extended reals, read entry by entry: the state's gradient goes through eight steps of
   the recurrence from the last to the first, and each row of the gradients is a sum over the own key or the own head. -/
module

public import proofs.«01_k».proof.Proof.EvalF

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL.Sem

/-- The key of entry `l = 64 h + i`: `i`. -/
def key (l : Fin 256) : Fin 64 := ⟨l.val % 64, Nat.mod_lt _ (by decide)⟩

/-- A sum over the own head of the entries at the own key. -/
theorem sum_seg (f : Fin 64 → Fin 256 → EReal) (l : Fin 256) (M : Fin 64 → EReal) (D : Fin 256 → EReal)
    (hM : ∀ i, M i = if l.val % 64 = i.val then 1 else 0) (hD : ∀ m, D m = if m.val / 64 = l.val / 64 then 1 else 0) :
    ∑ i : Fin 64, (∑ m : Fin 256, f i m * D m) * M i = ∑ v : Fin 64, f (key l) (col l v) := by
  rw [Finset.sum_eq_single (key l)]
  · rw [hM, if_pos (show l.val % 64 = (key l).val from rfl), mul_one]
    have e : ∀ m : Fin 256, f (key l) m * D m = if m.val / 64 = l.val / 64 then f (key l) m else 0 := by
      intro m
      rw [hD]
      by_cases h : m.val / 64 = l.val / 64
      · rw [if_pos h, if_pos h, mul_one]
      · rw [if_neg h, if_neg h, mul_zero]
    rw [Finset.sum_congr rfl fun m _ => e m, ← Finset.sum_filter]
    refine (Finset.sum_nbij' (fun v : Fin 64 => col l v) (fun m => key m) ?_ ?_ ?_ ?_ ?_).symm
    · intro v _
      exact Finset.mem_filter.2 ⟨Finset.mem_univ _, by show (l.val / 64 * 64 + v.val) / 64 = l.val / 64; omega⟩
    · intro m _; exact Finset.mem_univ _
    · intro v _; exact Fin.ext (by show (l.val / 64 * 64 + v.val) % 64 = v.val; omega)
    · intro m hm
      have := (Finset.mem_filter.1 hm).2
      exact Fin.ext (by show l.val / 64 * 64 + m.val % 64 = m.val; omega)
    · intro v _; rfl
  · intro i _ hi
    rw [hM, if_neg (fun h => hi (Fin.ext h.symm)), mul_zero]
  · intro h; exact absurd (Finset.mem_univ _) h

theorem k1_pay23_at (ones : FVec Ideal S768x256 .bf16) (mask : FVec Ideal S64x256 .f32) (w : FVec Ideal S8x256 .f32)
    (hm : IsMask mask) (ho : IsOnes3 ones) (hw : ∀ j l, ∃ q : ℝ, w (ix2 j l) = (q : EReal)) (j : Fin 8) (i : Fin 64) (l : Fin 256) :
    bW ones mask w (ix3 j i l) = w (ix2 j (col l i)) := by
  have hz : ∀ j l, w (ix2 j l) - w (ix2 j l) = (0 : EReal) := by
    intro j l
    obtain ⟨q, hq⟩ := hw j l
    rw [hq]
    exact (EReal.coe_sub q q).symm.trans (by rw [sub_self]; rfl)
  pointwise [bW, k1_pay23, k1_pay2, k1_pay4, k1_pay19, k1_pay21, k1_pay22, k1_pay20, k1_pay18, k1_pay17]
  simp only [hz, sub_zero, zero_mul, dite_eq_ite, ite_self]
  exact sum_tile3 (fun m => w (ix2 j m)) i l (fun m => mask (ix2 i m)) (fun m => ones (ix2 m l)) (hm i) (fun m => ho m l)

theorem bC_at (ones : FVec Ideal S256x256 .bf16) (mask : FVec Ideal S64x256 .f32) (r k c b : FVec Ideal S8x256 .f32)
    (hm : IsMask mask) (ho : IsOnes ones) (j : Fin 8) (i : Fin 64) (l : Fin 256) :
    bC ones mask r k c b (ix3 j i l) = c (ix2 j (col l i)) := by
  pointwise [bC, k1_pay25, k1_pay24, k1_pay3, k1_pay4]
  refine (Finset.sum_congr rfl fun m _ => ?_).trans (sum_tile (fun m => c (ix2 j m)) i l (fun m => mask (ix2 i m)) (fun m => ones (ix2 m l)) (hm i) (fun m => ho m l))
  rw [dif_pos (by omega)]

theorem bB_at (ones : FVec Ideal S256x256 .bf16) (mask : FVec Ideal S64x256 .f32) (r k c b : FVec Ideal S8x256 .f32)
    (hm : IsMask mask) (ho : IsOnes ones) (j : Fin 8) (i : Fin 64) (l : Fin 256) :
    bB ones mask r k c b (ix3 j i l) = b (ix2 j (col l i)) := by
  pointwise [bB, k1_pay26, k1_pay24, k1_pay3, k1_pay4]
  refine (Finset.sum_congr rfl fun m _ => ?_).trans (sum_tile (fun m => b (ix2 j m)) i l (fun m => mask (ix2 i m)) (fun m => ones (ix2 m l)) (hm i) (fun m => ho m l))
  rw [dif_pos (by omega)]

theorem bK_at (ones : FVec Ideal S256x256 .bf16) (mask : FVec Ideal S64x256 .f32) (r k c b : FVec Ideal S8x256 .f32)
    (hm : IsMask mask) (ho : IsOnes ones) (j : Fin 8) (i : Fin 64) (l : Fin 256) :
    bK ones mask r k c b (ix3 j i l) = k (ix2 j (col l i)) := by
  pointwise [bK, k1_pay28, k1_pay27, k1_pay24, k1_pay3, k1_pay4]
  refine (Finset.sum_congr rfl fun m _ => ?_).trans (sum_tile (fun m => k (ix2 j m)) i l (fun m => mask (ix2 i m)) (fun m => ones (ix2 m l)) (hm i) (fun m => ho m l))
  rw [dif_neg (by omega), dif_neg (by omega), dif_pos (by omega)]
  exact congrArg (· * ones (ix2 m l)) (congrArg₂ (· * ·) (congrArg (fun a => k (ix2 a m)) (Fin.ext (by dsimp only; omega)))
    (congrArg (fun a => mask (ix2 a m)) (Fin.ext (by dsimp only; omega))))

theorem bRR_at (ones : FVec Ideal S256x256 .bf16) (mask : FVec Ideal S64x256 .f32) (r k c b : FVec Ideal S8x256 .f32)
    (hm : IsMask mask) (ho : IsOnes ones) (j : Fin 8) (i : Fin 64) (l : Fin 256) :
    k1_pay29 (bAll ones mask r k c b) (ix3 j i l) = r (ix2 j (col l i)) := by
  pointwise [k1_pay29, bAll, k1_pay24, k1_pay3, k1_pay4]
  refine (Finset.sum_congr rfl fun m _ => ?_).trans (sum_tile (fun m => r (ix2 j m)) i l (fun m => mask (ix2 i m)) (fun m => ones (ix2 m l)) (hm i) (fun m => ho m l))
  rw [dif_neg (by omega), dif_neg (by omega), dif_neg (by omega)]
  exact congrArg (· * ones (ix2 m l)) (congrArg₂ (· * ·) (congrArg (fun a => r (ix2 a m)) (Fin.ext (by dsimp only; omega)))
    (congrArg (fun a => mask (ix2 a m)) (Fin.ext (by dsimp only; omega))))

/-- The state's gradient at a step, from the one carried in. -/
def stepD (r dy : Fin 256 → EReal) (g : Fin 64 → Fin 256 → EReal) (i : Fin 64) (l : Fin 256) : EReal :=
  g i l + r (col l i) * dy l

/-- The gradient of the step's product with `c`. -/
def stepDsa (b : Fin 256 → EReal) (d : Fin 64 → Fin 256 → EReal) (l : Fin 256) : EReal :=
  ∑ a : Fin 64, d a l * b (col l a)

/-- The state's gradient carried out of a step, from the one at it. -/
def stepG (w c b : Fin 256 → EReal) (d : Fin 64 → Fin 256 → EReal) (i : Fin 64) (l : Fin 256) : EReal :=
  d i l * w (col l i) + c (col l i) * stepDsa b d l

/-- What the trip's masks and decays must satisfy. -/
structure BIn.Ok (x : BIn Ideal) : Prop where
  mask : IsMask x.mask
  ones : IsOnes x.ones1
  ones3 : IsOnes3 x.ones3
  w : ∀ j l, ∃ q : ℝ, x.w (ix2 j l) = (q : EReal)

namespace BIn

variable (x : BIn Ideal)

section Tiles
variable {x} (h : x.Ok)
include h

theorem wt_at (j : Fin 8) (i : Fin 64) (l : Fin 256) : x.wt (ix3 j i l) = x.w (ix2 j (col l i)) :=
  k1_pay23_at x.ones3 x.mask x.w h.mask h.ones3 h.w j i l
theorem ct_at (j : Fin 8) (i : Fin 64) (l : Fin 256) : x.ct (ix3 j i l) = x.c (ix2 j (col l i)) :=
  bC_at x.ones1 x.mask x.r x.k x.c x.b h.mask h.ones j i l
theorem bt_at (j : Fin 8) (i : Fin 64) (l : Fin 256) : x.bt (ix3 j i l) = x.b (ix2 j (col l i)) :=
  bB_at x.ones1 x.mask x.r x.k x.c x.b h.mask h.ones j i l
theorem kt_at (j : Fin 8) (i : Fin 64) (l : Fin 256) : x.kt (ix3 j i l) = x.k (ix2 j (col l i)) :=
  bK_at x.ones1 x.mask x.r x.k x.c x.b h.mask h.ones j i l
theorem rt_at (j : Fin 8) (i : Fin 64) (l : Fin 256) : x.rt (ix3 j i l) = x.r (ix2 j (col l i)) :=
  bRR_at x.ones1 x.mask x.r x.k x.c x.b h.mask h.ones j i l
theorem all_at (j : Fin 8) (i : Fin 64) (l : Fin 256) : k1_pay29 x.all (ix3 j i l) = x.r (ix2 j (col l i)) := rt_at h j i l
end Tiles

/-- The state's gradient after `n` of the eight steps, from the last. -/
def sq : ℕ → Fin 64 → Fin 256 → EReal
  | 0 => fun i l => x.g (ix2 i l)
  | n + 1 => stepG (fun l => x.w (ix2 ⟨7 - n, by omega⟩ l)) (fun l => x.c (ix2 ⟨7 - n, by omega⟩ l)) (fun l => x.b (ix2 ⟨7 - n, by omega⟩ l))
      (stepD (fun l => x.r (ix2 ⟨7 - n, by omega⟩ l)) (fun l => x.dy (ix2 ⟨7 - n, by omega⟩ l)) (sq n))

/-- The state's gradient at step `j`. -/
def dd (j : Fin 8) : Fin 64 → Fin 256 → EReal := stepD (fun l => x.r (ix2 j l)) (fun l => x.dy (ix2 j l)) (x.sq (7 - j.val))
/-- The gradient of the product with `c` of step `j`. -/
def ds (j : Fin 8) : Fin 256 → EReal := stepDsa (fun l => x.b (ix2 j l)) (x.dd j)

variable {x} (h : x.Ok)
include h

theorem d7_at (i : Fin 64) (l : Fin 256) : k1_pay31 x.dy x.all x.g (ix2 i l) = x.dd 7 i l := by
  pointwise [k1_pay31]
  simp only [wt_at h, ct_at h, rt_at h, all_at h]
  rfl

theorem s7_at (l : Fin 256) : k1_pay33 x.dy x.all x.bt x.g (ix2 0 l) = x.ds 7 l := by
  pointwise [k1_pay33]
  simp only [d7_at h, bt_at h]
  rfl

theorem d6_at (i : Fin 64) (l : Fin 256) : k1_pay35 x.dy x.wt x.all x.ct x.bt x.g (ix2 i l) = x.dd 6 i l := by
  pointwise [k1_pay35]
  simp only [d7_at h, s7_at h, wt_at h, ct_at h, rt_at h, all_at h]
  rfl

theorem s6_at (l : Fin 256) : bS6 x.dy x.wt x.all x.ct x.bt x.g (ix1 l) = x.ds 6 l := by
  pointwise [bS6, k1_pay37]
  simp only [d6_at h, bt_at h]
  rfl

theorem d5_at (i : Fin 64) (l : Fin 256) : k1_pay40 x.dy x.wt x.ct x.rt (bG5 x.dy x.wt x.all x.ct x.bt x.g) (bS6 x.dy x.wt x.all x.ct x.bt x.g) (ix2 i l) = x.dd 5 i l := by
  pointwise [k1_pay40, k1_pay38]
  have e6 := d6_at h i l
  change bG5 x.dy x.wt x.all x.ct x.bt x.g (ix2 i l) = _ at e6
  rw [e6, s6_at h]
  simp only [wt_at h, ct_at h, rt_at h]
  rfl

theorem s5_at (l : Fin 256) : k1_pay42 x.dy x.wt x.ct x.bt x.rt (bG5 x.dy x.wt x.all x.ct x.bt x.g) (bS6 x.dy x.wt x.all x.ct x.bt x.g) (ix2 0 l) = x.ds 5 l := by
  pointwise [k1_pay42]
  simp only [d5_at h, bt_at h]
  rfl

theorem d4_at (i : Fin 64) (l : Fin 256) : bG4 x.dy x.wt x.all x.ct x.bt x.rt x.g (ix2 i l) = x.dd 4 i l := by
  pointwise [bG4, k1_pay44]
  simp only [d5_at h, s5_at h, wt_at h, ct_at h, rt_at h, all_at h]
  rfl

theorem s4_at (l : Fin 256) : k1_pay46 x.bt (bG4 x.dy x.wt x.all x.ct x.bt x.rt x.g) (ix2 0 l) = x.ds 4 l := by
  pointwise [k1_pay46]
  simp only [d4_at h, bt_at h]
  rfl

theorem d3_at (i : Fin 64) (l : Fin 256) : k1_pay48 x.dy x.wt x.ct x.bt x.rt (bG4 x.dy x.wt x.all x.ct x.bt x.rt x.g) (ix2 i l) = x.dd 3 i l := by
  pointwise [k1_pay48]
  simp only [d4_at h, s4_at h, wt_at h, ct_at h, rt_at h, all_at h]
  rfl

theorem s3_at (l : Fin 256) : k1_pay50 x.dy x.wt x.ct x.bt x.rt (bG4 x.dy x.wt x.all x.ct x.bt x.rt x.g) (ix2 0 l) = x.ds 3 l := by
  pointwise [k1_pay50]
  simp only [d3_at h, bt_at h]
  rfl

theorem d2_at (i : Fin 64) (l : Fin 256) : bG2 x.dy x.wt x.all x.ct x.bt x.rt x.g (ix2 i l) = x.dd 2 i l := by
  pointwise [bG2, k1_pay52]
  simp only [d3_at h, s3_at h, wt_at h, ct_at h, rt_at h, all_at h]
  rfl

theorem s2_at (l : Fin 256) : k1_pay54 x.bt (bG2 x.dy x.wt x.all x.ct x.bt x.rt x.g) (ix2 0 l) = x.ds 2 l := by
  pointwise [k1_pay54]
  simp only [d2_at h, bt_at h]
  rfl

theorem d1_at (i : Fin 64) (l : Fin 256) : k1_pay56 x.dy x.wt x.ct x.bt x.rt (bG2 x.dy x.wt x.all x.ct x.bt x.rt x.g) (ix2 i l) = x.dd 1 i l := by
  pointwise [k1_pay56]
  simp only [d2_at h, s2_at h, wt_at h, ct_at h, rt_at h, all_at h]
  rfl

theorem s1_at (l : Fin 256) : k1_pay58 x.dy x.wt x.ct x.bt x.rt (bG2 x.dy x.wt x.all x.ct x.bt x.rt x.g) (ix2 0 l) = x.ds 1 l := by
  pointwise [k1_pay58]
  simp only [d1_at h, bt_at h]
  rfl

theorem d0_at (i : Fin 64) (l : Fin 256) : k1_pay61 x.dy x.rt (bG0 x.dy x.wt x.all x.ct x.bt x.rt x.g) (ix2 i l) = x.dd 0 i l := by
  pointwise [k1_pay61, bG0, k1_pay60]
  simp only [d1_at h, s1_at h, wt_at h, ct_at h, rt_at h]
  rfl

theorem s0_at (l : Fin 256) : k1_pay63 x.dy x.bt x.rt (bG0 x.dy x.wt x.all x.ct x.bt x.rt x.g) (ix2 0 l) = x.ds 0 l := by
  pointwise [k1_pay63]
  simp only [d0_at h, bt_at h]
  rfl

theorem d_at (j : Fin 8) (i : Fin 64) (l : Fin 256) : x.d (ix3 j i l) = x.dd j i l := by
  unfold BIn.d bD
  fin_cases j
  · refine Eq.trans ?_ (d0_at h i l); show k1_pay62 x.dy x.rt (bG0 x.dy x.wt x.all x.ct x.bt x.rt x.g) (ix3 0 i l) = _; pointwise [k1_pay62]
  · refine Eq.trans ?_ (d1_at h i l); show k1_pay57 x.dy x.wt x.ct x.bt x.rt (bG2 x.dy x.wt x.all x.ct x.bt x.rt x.g) (ix3 0 i l) = _; pointwise [k1_pay57]
  · refine Eq.trans ?_ (d2_at h i l); show k1_pay53 (bG2 x.dy x.wt x.all x.ct x.bt x.rt x.g) (ix3 0 i l) = _; pointwise [k1_pay53]
  · refine Eq.trans ?_ (d3_at h i l); show k1_pay49 x.dy x.wt x.ct x.bt x.rt (bG4 x.dy x.wt x.all x.ct x.bt x.rt x.g) (ix3 0 i l) = _; pointwise [k1_pay49]
  · refine Eq.trans ?_ (d4_at h i l); show k1_pay45 x.dy x.wt x.ct x.bt x.rt (bG5 x.dy x.wt x.all x.ct x.bt x.g) (bS6 x.dy x.wt x.all x.ct x.bt x.g) (ix3 0 i l) = _; pointwise [k1_pay45]; rfl
  · refine Eq.trans ?_ (d5_at h i l); show k1_pay41 x.dy x.wt x.ct x.rt (bG5 x.dy x.wt x.all x.ct x.bt x.g) (bS6 x.dy x.wt x.all x.ct x.bt x.g) (ix3 0 i l) = _; pointwise [k1_pay41]
  · refine Eq.trans ?_ (d6_at h i l); show k1_pay36 x.dy x.wt x.all x.ct x.bt x.g (ix3 0 i l) = _; pointwise [k1_pay36]
  · refine Eq.trans ?_ (d7_at h i l); show k1_pay32 x.dy x.all x.g (ix3 0 i l) = _; pointwise [k1_pay32]

theorem dsa_at (j : Fin 8) (l : Fin 256) : x.dsa (ix2 j l) = x.ds j l := by
  unfold BIn.dsa bDsa
  fin_cases j
  · refine Eq.trans ?_ (s0_at h l); show k1_pay64 x.dy x.bt x.rt (bG0 x.dy x.wt x.all x.ct x.bt x.rt x.g) (ix2 0 l) = _; pointwise [k1_pay64]
  · refine Eq.trans ?_ (s1_at h l); show k1_pay59 x.dy x.wt x.ct x.bt x.rt (bG2 x.dy x.wt x.all x.ct x.bt x.rt x.g) (ix2 0 l) = _; pointwise [k1_pay59]
  · refine Eq.trans ?_ (s2_at h l); show k1_pay55 x.bt (bG2 x.dy x.wt x.all x.ct x.bt x.rt x.g) (ix2 0 l) = _; pointwise [k1_pay55]
  · refine Eq.trans ?_ (s3_at h l); show k1_pay51 x.dy x.wt x.ct x.bt x.rt (bG4 x.dy x.wt x.all x.ct x.bt x.rt x.g) (ix2 0 l) = _; pointwise [k1_pay51]
  · refine Eq.trans ?_ (s4_at h l); show k1_pay47 x.bt (bG4 x.dy x.wt x.all x.ct x.bt x.rt x.g) (ix2 0 l) = _; pointwise [k1_pay47]
  · refine Eq.trans ?_ (s5_at h l); show k1_pay43 x.dy x.wt x.ct x.bt x.rt (bG5 x.dy x.wt x.all x.ct x.bt x.g) (bS6 x.dy x.wt x.all x.ct x.bt x.g) (ix2 0 l) = _; pointwise [k1_pay43]
  · refine Eq.trans ?_ (s6_at h l); show k1_pay39 (bS6 x.dy x.wt x.all x.ct x.bt x.g) (ix2 0 l) = _; pointwise [k1_pay39, k1_pay38]
  · refine Eq.trans ?_ (s7_at h l); show k1_pay34 x.dy x.all x.bt x.g (ix2 0 l) = _; pointwise [k1_pay34]

theorem gn_at (i : Fin 64) (l : Fin 256) : x.gn (ix2 i l) = x.sq 8 i l := by
  pointwise [BIn.gn, bGn, k1_pay65]
  simp only [d0_at h, s0_at h, wt_at h, ct_at h]
  rfl

omit h in
theorem tp_at (j : Fin 8) (i : Fin 64) (l : Fin 256) :
    x.tp (ix3 j i l) = if hj : j.val = 0 then x.p0 (ix3 0 i l) else x.st (ix3 ⟨j.val - 1, by omega⟩ i l) := by
  unfold BIn.tp bTp
  fin_cases j
  · rfl
  · show k1_pay9 x.st (ix3 0 i l) = x.st (ix3 0 i l); pointwise [k1_pay9, k1_pay6]
  · show k1_pay10 x.st (ix3 0 i l) = x.st (ix3 1 i l); pointwise [k1_pay10, k1_pay6]
  · show k1_pay11 x.st (ix3 0 i l) = x.st (ix3 2 i l); pointwise [k1_pay11, k1_pay6]
  · show k1_pay13 (k1_pay12 x.st) (ix3 0 i l) = x.st (ix3 3 i l); pointwise [k1_pay13, k1_pay12, k1_pay6]
  · show k1_pay14 (k1_pay6 x.st) (ix3 0 i l) = x.st (ix3 4 i l); pointwise [k1_pay14, k1_pay6]
  · show k1_pay15 (k1_pay6 x.st) (ix3 0 i l) = x.st (ix3 5 i l); pointwise [k1_pay15, k1_pay6]
  · show k1_pay16 (k1_pay6 x.st) (ix3 0 i l) = x.st (ix3 6 i l); pointwise [k1_pay16, k1_pay6]

theorem dr_at (j : Fin 8) (l : Fin 256) : x.dr (ix2 j l) = ∑ v : Fin 64, x.st (ix3 j (key l) (col l v)) * x.dy (ix2 j (col l v)) := by
  pointwise [BIn.dr, k1_pay68, k1_pay67, k1_pay3, k1_pay4, k1_pay6]
  exact sum_seg (fun i m => x.st (ix3 j i m) * x.dy (ix2 j m)) l _ _ (fun i => h.mask i l) (fun m => h.ones m l)

theorem dw_at (j : Fin 8) (l : Fin 256) : x.dw (ix2 j l) = ∑ v : Fin 64, x.tp (ix3 j (key l) (col l v)) * x.dd j (key l) (col l v) := by
  pointwise [BIn.dw, k1_pay70, k1_pay3, k1_pay4, k1_pay6]
  simp only [d_at h]
  exact sum_seg (fun i m => x.tp (ix3 j i m) * x.dd j i m) l _ _ (fun i => h.mask i l) (fun m => h.ones m l)

theorem dk_at (j : Fin 8) (l : Fin 256) : x.dk (ix2 j l) = ∑ v : Fin 64, x.dd j (key l) (col l v) * x.v (ix2 j (col l v)) := by
  pointwise [BIn.dk, k1_pay69, k1_pay3, k1_pay4, k1_pay6]
  simp only [d_at h]
  exact sum_seg (fun i m => x.dd j i m * x.v (ix2 j m)) l _ _ (fun i => h.mask i l) (fun m => h.ones m l)

theorem dv_at (j : Fin 8) (l : Fin 256) : x.dv (ix2 j l) = ∑ i : Fin 64, x.dd j i l * x.k (ix2 j (col l i)) := by
  pointwise [BIn.dv, k1_pay66]
  simp only [d_at h, kt_at h]

theorem dc_at (j : Fin 8) (l : Fin 256) : x.dc (ix2 j l) = ∑ v : Fin 64, x.tp (ix3 j (key l) (col l v)) * x.ds j (col l v) := by
  pointwise [BIn.dc, k1_pay5, k1_pay72, k1_pay3, k1_pay4, k1_pay6]
  simp only [dsa_at h]
  exact sum_seg (fun i m => x.tp (ix3 j i m) * x.ds j m) l _ _ (fun i => h.mask i l) (fun m => h.ones m l)

theorem db_at (j : Fin 8) (l : Fin 256) : x.db (ix2 j l)
    = ∑ v : Fin 64, x.dd j (key l) (col l v) * ∑ i : Fin 64, x.tp (ix3 j i (col l v)) * x.c (ix2 j (col (col l v) i)) := by
  pointwise [BIn.db, k1_pay71, bSa, k1_pay30, k1_pay3, k1_pay4, k1_pay6]
  simp only [d_at h, bC_at x.ones1 x.mask x.r x.k x.c x.b h.mask h.ones]
  exact sum_seg (fun i m => x.dd j i m * ∑ a : Fin 64, x.tp (ix3 j a m) * x.c (ix2 j (col m a))) l _ _ (fun i => h.mask i l) (fun m => h.ones m l)

end BIn

end Cert.KernelIdeal.Scan

end
-- ==== Proof.Spec.lean ====
/- The recurrence and its gradient as functions of the rows of the seven arrays: the state after `n` steps from zero, the
   outputs, the state's gradient coming from the last step, and the rows' gradients. -/
module

public import proofs.«01_k».proof.Proof.EvalF
public import proofs.«01_k».proof.Proof.EvalB

@[expose] public section

noncomputable section

namespace Cert.KernelIdeal.Scan

open Cert.KernelIdeal Cert.KernelIdeal.Gen
open Idealize.ShloMosaic Idealize.ShloMosaic.TcCoe Idealize.ShloMosaic.Tactic
open Idealize.SL.Sem

/-- The rows of the seven arrays, by step. -/
structure Rows where
  r : ℕ → Fin 256 → EReal
  w : ℕ → Fin 256 → EReal
  k : ℕ → Fin 256 → EReal
  v : ℕ → Fin 256 → EReal
  c : ℕ → Fin 256 → EReal
  b : ℕ → Fin 256 → EReal
  dy : ℕ → Fin 256 → EReal

namespace Rows

variable (X : Rows)

/-- The state after `n` steps. -/
def S : ℕ → Fin 64 → Fin 256 → EReal
  | 0 => fun _ _ => 0
  | n + 1 => stepF (X.w n) (X.k n) (X.v n) (X.c n) (X.b n) (S n)

/-- The output of step `t`. -/
def Y (t : ℕ) (l : Fin 256) : EReal := ∑ i : Fin 64, X.S (t + 1) i l * X.r t (col l i)

/-- The gradient of the state after step `2047 - n`, without that step's output. -/
def G : ℕ → Fin 64 → Fin 256 → EReal
  | 0 => fun _ _ => 0
  | n + 1 => stepG (X.w (2047 - n)) (X.c (2047 - n)) (X.b (2047 - n)) (stepD (X.r (2047 - n)) (X.dy (2047 - n)) (G n))

/-- The gradient of the state after step `t`. -/
def D (t : ℕ) : Fin 64 → Fin 256 → EReal := stepD (X.r t) (X.dy t) (X.G (2047 - t))

/-- The gradient of the product of the state before step `t` with `c`. -/
def DSa (t : ℕ) : Fin 256 → EReal := stepDsa (X.b t) (X.D t)

def DR (t : ℕ) (l : Fin 256) : EReal := ∑ v : Fin 64, X.S (t + 1) (key l) (col l v) * X.dy t (col l v)
def DW (t : ℕ) (l : Fin 256) : EReal := ∑ v : Fin 64, X.S t (key l) (col l v) * X.D t (key l) (col l v)
def DK (t : ℕ) (l : Fin 256) : EReal := ∑ v : Fin 64, X.D t (key l) (col l v) * X.v t (col l v)
def DV (t : ℕ) (l : Fin 256) : EReal := ∑ i : Fin 64, X.D t i l * X.k t (col l i)
def DC (t : ℕ) (l : Fin 256) : EReal := ∑ v : Fin 64, X.S t (key l) (col l v) * X.DSa t (col l v)
def DB (t : ℕ) (l : Fin 256) : EReal :=
  ∑ v : Fin 64, X.D t (key l) (col l v) * ∑ i : Fin 64, X.S t i (col l v) * X.c t (col (col l v) i)

end Rows

/-- Row `t` of an array of `2048` rows. -/
def row2 (A : S2048x256.Idx → EReal) (t : ℕ) (l : Fin 256) : EReal := A (ix2 ⟨t % 2048, Nat.mod_lt _ (by decide)⟩ l)

/-- The first 256 entries of row `t` of the array that holds `r` first. -/
def row4 (A : S2048x1024.Idx → EReal) (t : ℕ) (l : Fin 256) : EReal :=
  A (ix2 ⟨t % 2048, Nat.mod_lt _ (by decide)⟩ ⟨l.val, by omega⟩)

/-- The rows of the seven arguments. -/
def rowsOf (A0 : S2048x1024.Idx → EReal) (A1 A2 A3 A4 A5 A6 : S2048x256.Idx → EReal) : Rows where
  r := row4 A0
  w := row2 A1
  k := row2 A2
  v := row2 A3
  c := row2 A4
  b := row2 A5
  dy := row2 A6

/-- An array of `2048` rows with the given rows. -/
def arr2 (f : ℕ → Fin 256 → EReal) : S2048x256.Idx → EReal := fun y => f (y 0).val (y 1)

end Cert.KernelIdeal.Scan

end
-- ==== Proof.BlockB.lean ====
/- One backward block over the extended reals: if its rows and saved states are those of steps `o …` and it starts at the
   gradient of the block's last state, then its rows' gradients are those of these steps. -/
module

public import proofs.«01_k».proof.Proof.Spec
public import proofs.«01_k».proof.Proof.Seq

@[expose] public section

noncomputable section

namespace Cert.KernelIdeal.Scan

open Cert.KernelIdeal Cert.KernelIdeal.Gen
open Idealize.ShloMosaic Idealize.ShloMosaic.TcCoe Idealize.ShloMosaic.Tactic
open Idealize.SL.Sem

namespace BBlk

/-- What a backward block reads: the masks, the rows of steps `o …` of `X`, the states after them, and the one before
    (anything, if the block is the first). -/
structure Reads (x : BBlk Ideal) (X : Rows) (o : ℕ) : Prop where
  len : o + 128 ≤ 2048
  mask : IsMask x.mask
  ones : IsOnes x.ones1
  ones3 : IsOnes3 x.ones3
  fin : ∀ t l, ∃ q : ℝ, X.w t l = q
  r : ∀ (a : Fin 128) l, x.r (ix2 a l) = X.r (o + a.val) l
  w : ∀ (a : Fin 128) l, x.w (ix2 a l) = X.w (o + a.val) l
  k : ∀ (a : Fin 128) l, x.k (ix2 a l) = X.k (o + a.val) l
  v : ∀ (a : Fin 128) l, x.v (ix2 a l) = X.v (o + a.val) l
  c : ∀ (a : Fin 128) l, x.c (ix2 a l) = X.c (o + a.val) l
  b : ∀ (a : Fin 128) l, x.b (ix2 a l) = X.b (o + a.val) l
  dy : ∀ (a : Fin 128) l, x.dy (ix2 a l) = X.dy (o + a.val) l
  st : ∀ (a : Fin 128) (i : Fin 64) (l : Fin 256), x.st (ix3 a i l) = X.S (o + a.val + 1) i l
  prev : ∀ (i : Fin 64) (l : Fin 256), k1_pay8 (F := Ideal) x.first x.prev (ix3 0 i l) = X.S o i l

variable {x : BBlk Ideal} {X : Rows} {o : ℕ} (h : x.Reads X o)
include h

theorem trip_r (g : S64x256.Idx → Ideal .f32) (n : Fin 16) (j : Fin 8) (l : Fin 256) : (x.trip g n).r (ix2 j l) = X.r (o + 8 * n.val + j.val) l :=
  (h.r ⟨8 * n.val + j.val, by omega⟩ l).trans (by rw [Nat.add_assoc])
theorem trip_w (g : S64x256.Idx → Ideal .f32) (n : Fin 16) (j : Fin 8) (l : Fin 256) : (x.trip g n).w (ix2 j l) = X.w (o + 8 * n.val + j.val) l :=
  (h.w ⟨8 * n.val + j.val, by omega⟩ l).trans (by rw [Nat.add_assoc])
theorem trip_k (g : S64x256.Idx → Ideal .f32) (n : Fin 16) (j : Fin 8) (l : Fin 256) : (x.trip g n).k (ix2 j l) = X.k (o + 8 * n.val + j.val) l :=
  (h.k ⟨8 * n.val + j.val, by omega⟩ l).trans (by rw [Nat.add_assoc])
theorem trip_v (g : S64x256.Idx → Ideal .f32) (n : Fin 16) (j : Fin 8) (l : Fin 256) : (x.trip g n).v (ix2 j l) = X.v (o + 8 * n.val + j.val) l :=
  (h.v ⟨8 * n.val + j.val, by omega⟩ l).trans (by rw [Nat.add_assoc])
theorem trip_c (g : S64x256.Idx → Ideal .f32) (n : Fin 16) (j : Fin 8) (l : Fin 256) : (x.trip g n).c (ix2 j l) = X.c (o + 8 * n.val + j.val) l :=
  (h.c ⟨8 * n.val + j.val, by omega⟩ l).trans (by rw [Nat.add_assoc])
theorem trip_b (g : S64x256.Idx → Ideal .f32) (n : Fin 16) (j : Fin 8) (l : Fin 256) : (x.trip g n).b (ix2 j l) = X.b (o + 8 * n.val + j.val) l :=
  (h.b ⟨8 * n.val + j.val, by omega⟩ l).trans (by rw [Nat.add_assoc])
theorem trip_dy (g : S64x256.Idx → Ideal .f32) (n : Fin 16) (j : Fin 8) (l : Fin 256) : (x.trip g n).dy (ix2 j l) = X.dy (o + 8 * n.val + j.val) l :=
  (h.dy ⟨8 * n.val + j.val, by omega⟩ l).trans (by rw [Nat.add_assoc])

theorem trip_ok (g : S64x256.Idx → Ideal .f32) (n : Fin 16) : (x.trip g n).Ok where
  mask := h.mask
  ones := h.ones
  ones3 := h.ones3
  w j l := by
    rw [trip_w h]
    exact h.fin _ _

theorem trip_st (g : S64x256.Idx → Ideal .f32) (n : Fin 16) (j : Fin 8) (i : Fin 64) (l : Fin 256) :
    (x.trip g n).st (ix3 j i l) = X.S (o + 8 * n.val + j.val + 1) i l :=
  (h.st ⟨8 * n.val + j.val, by omega⟩ i l).trans (by rw [Nat.add_assoc o (8 * n.val) j.val])

theorem trip_p0 (g : S64x256.Idx → Ideal .f32) (n : Fin 16) (i : Fin 64) (l : Fin 256) :
    (x.trip g n).p0 (ix3 0 i l) = X.S (o + 8 * n.val) i l := by
  show (if n.val = 0 then k1_pay8 (F := Ideal) x.first x.prev else k1_pay7 (F := Ideal) (stateBefore x.st n)) (ix3 0 i l) = _
  by_cases hn : n.val = 0
  · rw [if_pos hn, h.prev, hn]; rfl
  · rw [if_neg hn]
    have e : k1_pay7 (F := Ideal) (stateBefore x.st n) (ix3 0 i l) = stateBefore x.st n (ix3 0 i l) := by
      pointwise [k1_pay7]
    rw [e]
    refine (h.st ⟨8 * n.val - 1, by omega⟩ i l).trans ?_
    rw [show o + (8 * n.val - 1) + 1 = o + 8 * n.val by omega]

theorem trip_tp (g : S64x256.Idx → Ideal .f32) (n : Fin 16) (j : Fin 8) (i : Fin 64) (l : Fin 256) :
    (x.trip g n).tp (ix3 j i l) = X.S (o + 8 * n.val + j.val) i l := by
  rw [BIn.tp_at]
  by_cases hj : j.val = 0
  · rw [dif_pos hj, trip_p0 h, hj]; rfl
  · rw [dif_neg hj, trip_st h]
    rw [show o + 8 * n.val + (j.val - 1) + 1 = o + 8 * n.val + j.val by omega]

/-- The gradients inside a trip: `e` steps of the whole run are done before it. -/
theorem trip_sq (g : S64x256.Idx → Ideal .f32) (n : Fin 16) (e : ℕ) (he : e + (o + 8 * n.val) + 8 = 2048)
    (hg : ∀ i l, g (ix2 i l) = X.G e i l) (q : ℕ) (hq : q ≤ 8) : (x.trip g n).sq q = X.G (e + q) := by
  induction q with
  | zero => funext i l; exact hg i l
  | succ q ih =>
    rw [BIn.sq, ih (by omega)]
    have ht : o + 8 * n.val + (7 - q) = 2047 - (e + q) := by omega
    have e1 := funext (trip_w h g n ⟨7 - q, by omega⟩)
    have e2 := funext (trip_c h g n ⟨7 - q, by omega⟩)
    have e3 := funext (trip_b h g n ⟨7 - q, by omega⟩)
    have e4 := funext (trip_r h g n ⟨7 - q, by omega⟩)
    have e5 := funext (trip_dy h g n ⟨7 - q, by omega⟩)
    simp only [ht] at e1 e2 e3 e4 e5
    rw [e1, e2, e3, e4, e5]
    rfl

/-- The gradient each trip meets. -/
theorem seq_at (G : S64x256.Idx → Ideal .f32) (hG : ∀ i l, G (ix2 i l) = X.G (2048 - (o + 128)) i l) (n : ℕ) (hn : n ≤ 16) (i : Fin 64) (l : Fin 256) :
    x.seq G n (ix2 i l) = X.G (2048 - (o + 128) + 8 * n) i l := by
  have hlen := h.len
  induction n generalizing i l with
  | zero => exact hG i l
  | succ n ih =>
    have hs := ih (by omega)
    rw [x.seq_succ G n (by omega)]
    unfold at'
    have hk : 15 - (15 - n) = n := by omega
    show (x.trip (x.seq G (15 - (15 - n))) _).gn _ = _
    rw [hk, BIn.gn_at (trip_ok h _ _), trip_sq h _ ⟨15 - n, by omega⟩ (2048 - (o + 128) + 8 * n) (by show _ + (o + 8 * (15 - n)) + 8 = _; omega) hs 8 (le_refl _)]
    rfl

theorem out_at (G : S64x256.Idx → Ideal .f32) (hG : ∀ i l, G (ix2 i l) = X.G (2048 - (o + 128)) i l) (i : Fin 64) (l : Fin 256) :
    x.out G (ix2 i l) = X.G (2048 - o) i l := by
  have hlen := h.len
  refine (seq_at h G hG 16 (le_refl _) i l).trans ?_
  rw [show 2048 - (o + 128) + 8 * 16 = 2048 - o by omega]

theorem at_dd (G : S64x256.Idx → Ideal .f32) (hG : ∀ i l, G (ix2 i l) = X.G (2048 - (o + 128)) i l) (n : Fin 16) (j : Fin 8) :
    (x.at' G n).dd j = X.D (o + 8 * n.val + j.val) := by
  have hlen := h.len
  unfold at' BIn.dd Rows.D
  rw [trip_sq h _ n (2048 - (o + 128) + 8 * (15 - n.val)) (by omega) (seq_at h G hG (15 - n.val) (by omega)) (7 - j.val) (by omega)]
  rw [show 2048 - (o + 128) + 8 * (15 - n.val) + (7 - j.val) = 2047 - (o + 8 * n.val + j.val) by omega]
  rw [funext (trip_r h _ n j), funext (trip_dy h _ n j)]

theorem at_ds (G : S64x256.Idx → Ideal .f32) (hG : ∀ i l, G (ix2 i l) = X.G (2048 - (o + 128)) i l) (n : Fin 16) (j : Fin 8) :
    (x.at' G n).ds j = X.DSa (o + 8 * n.val + j.val) := by
  unfold BIn.ds Rows.DSa
  rw [at_dd h G hG]
  exact congrArg (fun f => stepDsa f _) (funext (trip_b h _ n j))

theorem dr_trip (G : S64x256.Idx → Ideal .f32) (hG : ∀ i l, G (ix2 i l) = X.G (2048 - (o + 128)) i l) (n : Fin 16) (j : Fin 8) (l : Fin 256) :
    (x.at' G n).dr (ix2 j l) = X.DR (o + 8 * n.val + j.val) l := by
  refine (BIn.dr_at (trip_ok h _ _) j l).trans ?_
  unfold Rows.DR
  simp only [trip_st h, trip_dy h]

theorem DR_at (G : S64x256.Idx → Ideal .f32) (hG : ∀ i l, G (ix2 i l) = X.G (2048 - (o + 128)) i l) (a : Fin 128) (l : Fin 256) :
    x.DR G (ix2 a l) = X.DR (o + a.val) l :=
  ((dr_trip h G hG ⟨a.val / 8, by omega⟩ ⟨a.val % 8, by omega⟩ l)).trans
    (congrArg (fun t => X.DR t l) (by show o + 8 * (a.val / 8) + a.val % 8 = o + a.val; omega))

theorem dw_trip (G : S64x256.Idx → Ideal .f32) (hG : ∀ i l, G (ix2 i l) = X.G (2048 - (o + 128)) i l) (n : Fin 16) (j : Fin 8) (l : Fin 256) :
    (x.at' G n).dw (ix2 j l) = X.DW (o + 8 * n.val + j.val) l := by
  refine (BIn.dw_at (trip_ok h _ _) j l).trans ?_
  have e := at_dd h G hG n j
  unfold at' at e
  rw [e]
  unfold Rows.DW
  simp only [trip_tp h]

theorem DW_at (G : S64x256.Idx → Ideal .f32) (hG : ∀ i l, G (ix2 i l) = X.G (2048 - (o + 128)) i l) (a : Fin 128) (l : Fin 256) :
    x.DW G (ix2 a l) = X.DW (o + a.val) l :=
  ((dw_trip h G hG ⟨a.val / 8, by omega⟩ ⟨a.val % 8, by omega⟩ l)).trans
    (congrArg (fun t => X.DW t l) (by show o + 8 * (a.val / 8) + a.val % 8 = o + a.val; omega))

theorem dk_trip (G : S64x256.Idx → Ideal .f32) (hG : ∀ i l, G (ix2 i l) = X.G (2048 - (o + 128)) i l) (n : Fin 16) (j : Fin 8) (l : Fin 256) :
    (x.at' G n).dk (ix2 j l) = X.DK (o + 8 * n.val + j.val) l := by
  refine (BIn.dk_at (trip_ok h _ _) j l).trans ?_
  have e := at_dd h G hG n j
  unfold at' at e
  rw [e]
  unfold Rows.DK
  simp only [trip_v h]

theorem DK_at (G : S64x256.Idx → Ideal .f32) (hG : ∀ i l, G (ix2 i l) = X.G (2048 - (o + 128)) i l) (a : Fin 128) (l : Fin 256) :
    x.DK G (ix2 a l) = X.DK (o + a.val) l :=
  ((dk_trip h G hG ⟨a.val / 8, by omega⟩ ⟨a.val % 8, by omega⟩ l)).trans
    (congrArg (fun t => X.DK t l) (by show o + 8 * (a.val / 8) + a.val % 8 = o + a.val; omega))

theorem dv_trip (G : S64x256.Idx → Ideal .f32) (hG : ∀ i l, G (ix2 i l) = X.G (2048 - (o + 128)) i l) (n : Fin 16) (j : Fin 8) (l : Fin 256) :
    (x.at' G n).dv (ix2 j l) = X.DV (o + 8 * n.val + j.val) l := by
  refine (BIn.dv_at (trip_ok h _ _) j l).trans ?_
  have e := at_dd h G hG n j
  unfold at' at e
  rw [e]
  unfold Rows.DV
  simp only [trip_k h]

theorem DV_at (G : S64x256.Idx → Ideal .f32) (hG : ∀ i l, G (ix2 i l) = X.G (2048 - (o + 128)) i l) (a : Fin 128) (l : Fin 256) :
    x.DV G (ix2 a l) = X.DV (o + a.val) l :=
  ((dv_trip h G hG ⟨a.val / 8, by omega⟩ ⟨a.val % 8, by omega⟩ l)).trans
    (congrArg (fun t => X.DV t l) (by show o + 8 * (a.val / 8) + a.val % 8 = o + a.val; omega))

theorem dc_trip (G : S64x256.Idx → Ideal .f32) (hG : ∀ i l, G (ix2 i l) = X.G (2048 - (o + 128)) i l) (n : Fin 16) (j : Fin 8) (l : Fin 256) :
    (x.at' G n).dc (ix2 j l) = X.DC (o + 8 * n.val + j.val) l := by
  refine (BIn.dc_at (trip_ok h _ _) j l).trans ?_
  have e := at_ds h G hG n j
  unfold at' at e
  rw [e]
  unfold Rows.DC
  simp only [trip_tp h]

theorem DC_at (G : S64x256.Idx → Ideal .f32) (hG : ∀ i l, G (ix2 i l) = X.G (2048 - (o + 128)) i l) (a : Fin 128) (l : Fin 256) :
    x.DC G (ix2 a l) = X.DC (o + a.val) l :=
  ((dc_trip h G hG ⟨a.val / 8, by omega⟩ ⟨a.val % 8, by omega⟩ l)).trans
    (congrArg (fun t => X.DC t l) (by show o + 8 * (a.val / 8) + a.val % 8 = o + a.val; omega))

theorem db_trip (G : S64x256.Idx → Ideal .f32) (hG : ∀ i l, G (ix2 i l) = X.G (2048 - (o + 128)) i l) (n : Fin 16) (j : Fin 8) (l : Fin 256) :
    (x.at' G n).db (ix2 j l) = X.DB (o + 8 * n.val + j.val) l := by
  refine (BIn.db_at (trip_ok h _ _) j l).trans ?_
  have e := at_dd h G hG n j
  unfold at' at e
  rw [e]
  unfold Rows.DB
  simp only [trip_tp h, trip_c h]

theorem DB_at (G : S64x256.Idx → Ideal .f32) (hG : ∀ i l, G (ix2 i l) = X.G (2048 - (o + 128)) i l) (a : Fin 128) (l : Fin 256) :
    x.DB G (ix2 a l) = X.DB (o + a.val) l :=
  ((db_trip h G hG ⟨a.val / 8, by omega⟩ ⟨a.val % 8, by omega⟩ l)).trans
    (congrArg (fun t => X.DB t l) (by show o + 8 * (a.val / 8) + a.val % 8 = o + a.val; omega))

end BBlk

end Cert.KernelIdeal.Scan

end
-- ==== Proof.BlockF.lean ====
/- One forward block over the extended reals: if its rows are those of steps `128 t …` and it starts at that state, then
   its outputs and states are those of these steps. -/
module

public import proofs.«01_k».proof.Proof.Spec
public import proofs.«01_k».proof.Proof.Seq

@[expose] public section

noncomputable section

namespace Cert.KernelIdeal.Scan

open Cert.KernelIdeal Cert.KernelIdeal.Gen
open Idealize.ShloMosaic Idealize.ShloMosaic.TcCoe Idealize.ShloMosaic.Tactic
open Idealize.SL.Sem

namespace FBlk

/-- What a forward block reads: the masks, and the rows of steps `o …` of `X`. -/
structure Reads (x : FBlk Ideal) (X : Rows) (o : ℕ) : Prop where
  mask : IsMask x.mask
  ones : IsOnes x.ones1
  ones3 : IsOnes3 x.ones3
  fin : ∀ t l, ∃ q : ℝ, X.w t l = q
  r : ∀ (a : Fin 128) l, x.r (ix2 a l) = X.r (o + a.val) l
  w : ∀ (a : Fin 128) l, x.w (ix2 a l) = X.w (o + a.val) l
  k : ∀ (a : Fin 128) l, x.k (ix2 a l) = X.k (o + a.val) l
  v : ∀ (a : Fin 128) l, x.v (ix2 a l) = X.v (o + a.val) l
  c : ∀ (a : Fin 128) l, x.c (ix2 a l) = X.c (o + a.val) l
  b : ∀ (a : Fin 128) l, x.b (ix2 a l) = X.b (o + a.val) l

variable {x : FBlk Ideal} {X : Rows} {o : ℕ} (h : x.Reads X o)
include h

theorem trip_r (s : S64x256.Idx → Ideal .f32) (n : Fin 16) (j : Fin 8) (l : Fin 256) : (x.trip s n).r (ix2 j l) = X.r (o + 8 * n.val + j.val) l :=
  (h.r ⟨8 * n.val + j.val, by omega⟩ l).trans (by rw [Nat.add_assoc])
theorem trip_w (s : S64x256.Idx → Ideal .f32) (n : Fin 16) (j : Fin 8) (l : Fin 256) : (x.trip s n).w (ix2 j l) = X.w (o + 8 * n.val + j.val) l :=
  (h.w ⟨8 * n.val + j.val, by omega⟩ l).trans (by rw [Nat.add_assoc])
theorem trip_k (s : S64x256.Idx → Ideal .f32) (n : Fin 16) (j : Fin 8) (l : Fin 256) : (x.trip s n).k (ix2 j l) = X.k (o + 8 * n.val + j.val) l :=
  (h.k ⟨8 * n.val + j.val, by omega⟩ l).trans (by rw [Nat.add_assoc])
theorem trip_v (s : S64x256.Idx → Ideal .f32) (n : Fin 16) (j : Fin 8) (l : Fin 256) : (x.trip s n).v (ix2 j l) = X.v (o + 8 * n.val + j.val) l :=
  (h.v ⟨8 * n.val + j.val, by omega⟩ l).trans (by rw [Nat.add_assoc])
theorem trip_c (s : S64x256.Idx → Ideal .f32) (n : Fin 16) (j : Fin 8) (l : Fin 256) : (x.trip s n).c (ix2 j l) = X.c (o + 8 * n.val + j.val) l :=
  (h.c ⟨8 * n.val + j.val, by omega⟩ l).trans (by rw [Nat.add_assoc])
theorem trip_b (s : S64x256.Idx → Ideal .f32) (n : Fin 16) (j : Fin 8) (l : Fin 256) : (x.trip s n).b (ix2 j l) = X.b (o + 8 * n.val + j.val) l :=
  (h.b ⟨8 * n.val + j.val, by omega⟩ l).trans (by rw [Nat.add_assoc])

theorem trip_ok (s : S64x256.Idx → Ideal .f32) (n : Fin 16) : (x.trip s n).Ok where
  mask := h.mask
  ones := h.ones
  ones3 := h.ones3
  w j l := by
    rw [trip_w h]
    exact h.fin _ _

/-- The states inside a trip. -/
theorem trip_sq (s : S64x256.Idx → Ideal .f32) (n : Fin 16) (hs : ∀ i l, s (ix2 i l) = X.S (o + 8 * n.val) i l) (q : ℕ) (hq : q ≤ 8) :
    (x.trip s n).sq q = X.S (o + 8 * n.val + q) := by
  induction q with
  | zero => funext i l; exact hs i l
  | succ q ih =>
    refine ((x.trip s n).sq_succ ⟨q, by omega⟩).trans ?_
    rw [ih (by omega)]
    have e1 := funext (trip_w h s n ⟨q, by omega⟩)
    have e2 := funext (trip_k h s n ⟨q, by omega⟩)
    have e3 := funext (trip_v h s n ⟨q, by omega⟩)
    have e4 := funext (trip_c h s n ⟨q, by omega⟩)
    have e5 := funext (trip_b h s n ⟨q, by omega⟩)
    show stepF (fun l => (x.trip s n).w (ix2 _ l)) (fun l => (x.trip s n).k (ix2 _ l)) (fun l => (x.trip s n).v (ix2 _ l))
      (fun l => (x.trip s n).c (ix2 _ l)) (fun l => (x.trip s n).b (ix2 _ l)) _ = _
    rw [e1, e2, e3, e4, e5]
    rfl

/-- The state each trip meets. -/
theorem seq_at (G : S64x256.Idx → Ideal .f32) (hG : ∀ i l, G (ix2 i l) = X.S o i l) (n : ℕ) (hn : n ≤ 16) (i : Fin 64) (l : Fin 256) :
    x.seq G n (ix2 i l) = X.S (o + 8 * n) i l := by
  induction n generalizing i l with
  | zero => exact hG i l
  | succ n ih =>
    have hs := ih (by omega)
    rw [x.seq_succ G ⟨n, by omega⟩]
    unfold at'
    rw [FIn.sn_at (trip_ok h _ _), trip_sq h _ ⟨n, by omega⟩ hs 8 (le_refl _)]
    rfl

theorem out_at (G : S64x256.Idx → Ideal .f32) (hG : ∀ i l, G (ix2 i l) = X.S o i l) (i : Fin 64) (l : Fin 256) :
    x.out G (ix2 i l) = X.S (o + 128) i l := seq_at h G hG 16 (le_refl _) i l

theorem Y_at (G : S64x256.Idx → Ideal .f32) (hG : ∀ i l, G (ix2 i l) = X.S o i l) (a : Fin 128) (l : Fin 256) :
    x.Y G (ix2 a l) = X.Y (o + a.val) l := by
  show (x.at' G ⟨a.val / 8, _⟩).y (ix2 ⟨a.val % 8, _⟩ l) = _
  unfold at'
  have hs := seq_at h G hG (a.val / 8) (by omega)
  rw [FIn.y_at (trip_ok h _ _), trip_sq h _ ⟨a.val / 8, by omega⟩ hs _ (by show a.val % 8 + 1 ≤ 8; omega)]
  simp only [trip_r h]
  unfold Rows.Y
  rw [show o + 8 * (a.val / 8) + (a.val % 8 + 1) = o + a.val + 1 by omega, show o + 8 * (a.val / 8) + a.val % 8 = o + a.val by omega]

theorem ST_at (G : S64x256.Idx → Ideal .f32) (hG : ∀ i l, G (ix2 i l) = X.S o i l) (a : Fin 128) (i : Fin 64) (l : Fin 256) :
    x.ST G (ix3 a i l) = X.S (o + a.val + 1) i l := by
  show (x.at' G ⟨a.val / 8, _⟩).st (ix3 ⟨a.val % 8, _⟩ i l) = _
  unfold at'
  have hs := seq_at h G hG (a.val / 8) (by omega)
  rw [FIn.st_at (trip_ok h _ _), trip_sq h _ ⟨a.val / 8, by omega⟩ hs _ (by show a.val % 8 + 1 ≤ 8; omega)]
  rw [show o + 8 * (a.val / 8) + (a.val % 8 + 1) = o + a.val + 1 by omega]

end FBlk

end Cert.KernelIdeal.Scan

end
-- ==== Proof.Consts.lean ====
/- The two constant arrays the host part computes: the head indicator (three copies, one above the other) and the key
   indicator. -/
module

public import proofs.«01_k».proof.Proof.RunK
public import proofs.«01_k».proof.Proof.EvalF
public import Idealize.ShloMosaic.Lib.StableHlo.RunClose

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic Idealize.ShloMosaic.StableHlo
open Idealize.SL.Sem

variable (V : Valuation τ sig (Elt Ideal))

/-- The comparison of two small numbers, as a float: the indicator of their equality. -/
theorem eq_indicator (a b : ℕ) (ha : a < 256) (hb : b < 256) :
    (FloatOps.uitofp .f32 (IntOp.cmpi .eq (BitVec.ofNat 32 a) (BitVec.ofNat 32 b)) : Ideal .f32) = if a = b then (1 : EReal) else 0 := by
  by_cases h : a = b
  · subst h
    rw [if_pos rfl]
    have : IntOp.cmpi .eq (BitVec.ofNat 32 a) (BitVec.ofNat 32 a) = 1#1 := by simp [IntOp.cmpi]
    rw [this]
    show (((1#1 : BitVec 1).toNat : ℝ) : EReal) = 1
    simp
  · rw [if_neg h]
    have hne : BitVec.ofNat 32 a ≠ BitVec.ofNat 32 b := by
      intro e
      have := congrArg BitVec.toNat e
      simp only [BitVec.toNat_ofNat] at this
      omega
    have : IntOp.cmpi .eq (BitVec.ofNat 32 a) (BitVec.ofNat 32 b) = 0#1 := by
      show BitVec.ofBool (BitVec.ofNat 32 a == BitVec.ofNat 32 b) = 0#1
      rw [beq_eq_false_iff_ne.2 hne]
      rfl
    rw [this]
    show (((0#1 : BitVec 1).toNat : ℝ) : EReal) = 0
    simp

/-! ## Each host stretch, at an entry -/

theorem h0_v2 (h1 : ∀ a : Fin 256, (V main_v1 : S256x1.Idx → BitVec 32) (ix2 a 0) = BitVec.ofNat 32 a.val)
    (hc : (V main_c : S_.Idx → BitVec 32) = fun _ => 64#32) (a : Fin 256) :
    (after hostOps0_1 V main_v2 : S256x1.Idx → BitVec 32) (ix2 a 0) = BitVec.ofNat 32 (a.val / 64) := by
  after_results_simp_entrywise
  simp only [TRef.ofBuf, TRef.toBuf, dropContentsCast, cast_eq, id, hc]
  pointwise
  simp only [h1]
  revert a
  decide +kernel

theorem h0_v4 (h1 : ∀ a : Fin 256, (V main_v3 : S1x256.Idx → BitVec 32) (ix2 0 a) = BitVec.ofNat 32 a.val)
    (hc : (V main_c_0 : S_.Idx → BitVec 32) = fun _ => 64#32) (a : Fin 256) :
    (after hostOps0_3 V main_v4 : S1x256.Idx → BitVec 32) (ix2 0 a) = BitVec.ofNat 32 (a.val / 64) := by
  after_results_simp_entrywise
  simp only [TRef.ofBuf, TRef.toBuf, dropContentsCast, cast_eq, id, hc]
  pointwise
  simp only [h1]
  revert a
  decide +kernel

theorem h0_v15 (h1 : ∀ a : Fin 256, (V main_v14 : S1x256.Idx → BitVec 32) (ix2 0 a) = BitVec.ofNat 32 a.val)
    (hc : (V main_c_1 : S_.Idx → BitVec 32) = fun _ => 64#32) (a : Fin 256) :
    (after hostOps0_5 V main_v15 : S1x256.Idx → BitVec 32) (ix2 0 a) = BitVec.ofNat 32 (a.val % 64) := by
  after_results_simp_entrywise
  simp only [TRef.ofBuf, TRef.toBuf, dropContentsCast, cast_eq, id, hc]
  pointwise
  simp only [h1]
  revert a
  decide +kernel

theorem h0_v10 (h2 : ∀ a : Fin 256, (V main_v2 : S256x1.Idx → BitVec 32) (ix2 a 0) = BitVec.ofNat 32 (a.val / 64))
    (h4 : ∀ a : Fin 256, (V main_v4 : S1x256.Idx → BitVec 32) (ix2 0 a) = BitVec.ofNat 32 (a.val / 64)) (a : Fin 768) (l : Fin 256) :
    (after hostOps0_4 V main_v10 : S768x256.Idx → EReal) (ix2 a l) = if a.val % 256 / 64 = l.val / 64 then (1 : EReal) else 0 := by
  after_results_simp_entrywise
  pointwise
  after_results_simp_entrywise
  pointwise
  simp only [h2, h4]
  by_cases h0 : a.val < 256
  · rw [dif_pos h0, eq_indicator _ _ (by omega) (by omega)]
    rw [show a.val % 256 = a.val by omega]
  · rw [dif_neg h0]
    by_cases h1 : a.val - 256 < 256
    · rw [dif_pos h1, eq_indicator _ _ (by omega) (by omega)]
      rw [show a.val % 256 = a.val - 256 by omega]
    · rw [dif_neg h1, eq_indicator _ _ (by omega) (by omega)]
      rw [show a.val % 256 = a.val - 256 - 256 by omega]

theorem h0_v19 (h12 : ∀ i : Fin 64, (V main_v12 : S64x1.Idx → BitVec 32) (ix2 i 0) = BitVec.ofNat 32 i.val)
    (h15 : ∀ a : Fin 256, (V main_v15 : S1x256.Idx → BitVec 32) (ix2 0 a) = BitVec.ofNat 32 (a.val % 64)) (i : Fin 64) (l : Fin 256) :
    (after hostOps0_6 V main_v19 : S64x256.Idx → EReal) (ix2 i l) = if l.val % 64 = i.val then (1 : EReal) else 0 := by
  after_results_simp_entrywise
  pointwise
  rw [h12, h15, eq_indicator _ _ (by omega) (by omega)]
  by_cases h : l.val % 64 = i.val
  · rw [if_pos h, if_pos h.symm]
  · rw [if_neg h, if_neg (fun e => h e.symm)]

theorem h0_v1 (a : Fin 256) : (after hostOps0 V main_v1 : S256x1.Idx → BitVec 32) (ix2 a 0) = BitVec.ofNat 32 a.val := by
  after_results_simp_entrywise
  pointwise
theorem h0_v0 : (after hostOps0 V main_v0 : S256.Idx → BitVec 32) = iotaInDim S256 32 0 := by
  after_results_simp_entrywise
theorem h0_c : (after hostOps0 V main_c : S_.Idx → BitVec 32) = fun _ => 64#32 := by
  after_results_simp_entrywise
  rfl
theorem h0_v3 (h : (V main_v0 : S256.Idx → BitVec 32) = iotaInDim S256 32 0) (a : Fin 256) :
    (after hostOps0_2 V main_v3 : S1x256.Idx → BitVec 32) (ix2 0 a) = BitVec.ofNat 32 a.val := by
  after_results_simp_entrywise
  rw [h]
  pointwise
theorem h0_c0 : (after hostOps0_2 V main_c_0 : S_.Idx → BitVec 32) = fun _ => 64#32 := by
  after_results_simp_entrywise
  rfl
theorem h0_v12 (i : Fin 64) : (after hostOps0_4 V main_v12 : S64x1.Idx → BitVec 32) (ix2 i 0) = BitVec.ofNat 32 i.val := by
  after_results_simp_entrywise
  pointwise
theorem h0_v14 (a : Fin 256) : (after hostOps0_4 V main_v14 : S1x256.Idx → BitVec 32) (ix2 0 a) = BitVec.ofNat 32 a.val := by
  after_results_simp_entrywise
  pointwise
theorem h0_c1 : (after hostOps0_4 V main_c_1 : S_.Idx → BitVec 32) = fun _ => 64#32 := by
  after_results_simp_entrywise
  rfl

/-! ## The arrays the kernels read -/

variable (m : (ℓ : Loc nD τ sig) → Buf (Elt Ideal) ℓ) (c : Dev nD)

theorem W7_ones3 : IsOnes3 (W7 m c main_v10 : S768x256.Idx → EReal) := by
  intro a l
  refine (congrFun ((V7_of m c main_v10 (by decide)).trans (V6_of m c main_v10 (by decide))) (ix2 a l)).trans ?_
  refine h0_v10 (V4 m c) (fun a => ?_) (fun a => ?_) a l
  · refine (congrFun ((V4_of m c main_v2 (by decide)).trans (V3_of m c main_v2 (by decide))) (ix2 a 0)).trans ?_
    exact h0_v2 (V1 m c) (h0_v1 (V0 m c)) (h0_c (V0 m c)) a
  · refine h0_v4 (V3 m c) (h0_v3 (V2 m c) ?_) (h0_c0 (V2 m c)) a
    exact (V2_of m c main_v0 (by decide)).trans (h0_v0 (V0 m c))

theorem W7_mask : IsMask (W7 m c main_v19 : S64x256.Idx → EReal) := by
  intro i l
  refine h0_v19 (V6 m c) (fun i => ?_) (fun a => ?_) i l
  · exact (congrFun (V6_of m c main_v12 (by decide)) (ix2 i 0)).trans (h0_v12 (V4 m c) i)
  · exact h0_v15 (V5 m c) (h0_v14 (V4 m c)) (h0_c1 (V4 m c)) a

end Cert.KernelIdeal.Scan

end
-- ==== Proof.TieF.lean ====
/- The forward call over the extended reals: the outputs and the states it leaves are the recurrence's. -/
module

public import proofs.«01_k».proof.Proof.BlockF
public import proofs.«01_k».proof.Proof.Consts
public import Idealize.ShloMosaic.Lib.Pipeline.ValueKit

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL.Sem
open Idealize.ShloMosaic.Pipeline (Dat)

/-- The first 256 rows of the stacked head indicator are the head indicator. -/
theorem top_ones (x : S768x256.Idx → EReal) (h : IsOnes3 x) : IsOnes (top (F := Ideal) x) := by
  intro a l
  refine (h ⟨a.val, by omega⟩ l).trans ?_
  show (if a.val % 256 / 64 = l.val / 64 then (1 : EReal) else 0) = _
  rw [Nat.mod_eq_of_lt a.isLt]

/-- The blocks of the forward call, by grid point. -/
theorem idx0 : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![0, 0] ∧ win0_7.index t = ![0, 0] ∧ win0_8.index t = ![t.val, 0] ∧ win0_9.index t = ![t.val, 0, 0] :=
  (by decide +kernel : ∀ t : Fin grid0.N, _)

theorem lt0 (t : Fin cfg0.N) : t.val < 16 := lt_of_lt_of_eq t.isLt (by decide)

variable (V : (c : Dev nD) → (b : Ref sig .tc) → Buf (Elt Ideal) ((c : Thread nD τ).loc b)) (c : Dev nD)

/-- The rows of the seven arrays. -/
def rowsV : Rows := rowsOf (V c main_arg0) (V c main_arg1) (V c main_arg2) (V c main_arg3) (V c main_arg4) (V c main_arg5) (V c main_arg6)

theorem blk0_0_at (t : Fin cfg0.N) (a : Fin 128) (l : Fin 256) : blk0_0 V c t (ix2 a l) = (rowsV V c).r (128 * t.val + a.val) l := by
  have ht := lt0 t
  show _ = (V c main_arg0 : S2048x1024.Idx → EReal) (ix2 ⟨(128 * t.val + a.val) % 2048, _⟩ ⟨l.val, by omega⟩)
  blk_ext [blk0_0, idx0 t]

theorem blk0_1_at (t : Fin cfg0.N) (a : Fin 128) (l : Fin 256) : blk0_1 V c t (ix2 a l) = (rowsV V c).w (128 * t.val + a.val) l := by
  have ht := lt0 t
  show _ = (V c main_arg1 : S2048x256.Idx → EReal) (ix2 ⟨(128 * t.val + a.val) % 2048, _⟩ l)
  blk_ext [blk0_1, idx0 t]

theorem blk0_2_at (t : Fin cfg0.N) (a : Fin 128) (l : Fin 256) : blk0_2 V c t (ix2 a l) = (rowsV V c).k (128 * t.val + a.val) l := by
  have ht := lt0 t
  show _ = (V c main_arg2 : S2048x256.Idx → EReal) (ix2 ⟨(128 * t.val + a.val) % 2048, _⟩ l)
  blk_ext [blk0_2, idx0 t]

theorem blk0_3_at (t : Fin cfg0.N) (a : Fin 128) (l : Fin 256) : blk0_3 V c t (ix2 a l) = (rowsV V c).v (128 * t.val + a.val) l := by
  have ht := lt0 t
  show _ = (V c main_arg3 : S2048x256.Idx → EReal) (ix2 ⟨(128 * t.val + a.val) % 2048, _⟩ l)
  blk_ext [blk0_3, idx0 t]

theorem blk0_4_at (t : Fin cfg0.N) (a : Fin 128) (l : Fin 256) : blk0_4 V c t (ix2 a l) = (rowsV V c).c (128 * t.val + a.val) l := by
  have ht := lt0 t
  show _ = (V c main_arg4 : S2048x256.Idx → EReal) (ix2 ⟨(128 * t.val + a.val) % 2048, _⟩ l)
  blk_ext [blk0_4, idx0 t]

theorem blk0_5_at (t : Fin cfg0.N) (a : Fin 128) (l : Fin 256) : blk0_5 V c t (ix2 a l) = (rowsV V c).b (128 * t.val + a.val) l := by
  have ht := lt0 t
  show _ = (V c main_arg5 : S2048x256.Idx → EReal) (ix2 ⟨(128 * t.val + a.val) % 2048, _⟩ l)
  blk_ext [blk0_5, idx0 t]

theorem blk0_6_at (t : Fin cfg0.N) : blk0_6 V c t = (V c main_v10 : S768x256.Idx → EReal) := by
  funext y
  idx_vars y
  blk_ext [blk0_6, idx0 t]

theorem blk0_7_at (t : Fin cfg0.N) : blk0_7 V c t = (V c main_v19 : S64x256.Idx → EReal) := by
  funext y
  idx_vars y
  blk_ext [blk0_7, idx0 t]

/-- The states after the steps, as an array. -/
def arr3 (X : Rows) : S2048x64x256.Idx → EReal := fun y => X.S ((y 0).val + 1) (y 1) (y 2)

variable (ho : IsOnes3 (V c main_v10)) (hm : IsMask (V c main_v19)) (hw : ∀ t l, ∃ q : ℝ, (rowsV V c).w t l = q)
include ho hm hw

theorem reads0 (t : Fin cfg0.N) : (block0 V c t).Reads (rowsV V c) (128 * t.val) where
  mask := by
    show IsMask (blk0_7 V c t)
    rw [blk0_7_at]
    exact hm
  ones := by
    show IsOnes (top (blk0_6 V c t))
    rw [blk0_6_at]
    exact top_ones _ ho
  ones3 := by
    show IsOnes3 (blk0_6 V c t)
    rw [blk0_6_at]
    exact ho
  fin := hw
  r := blk0_0_at V c t
  w := blk0_1_at V c t
  k := blk0_2_at V c t
  v := blk0_3_at V c t
  c := blk0_4_at V c t
  b := blk0_5_at V c t

/-- The state carried into point `n`. -/
theorem carry0_at (n : ℕ) (hn : n ≤ 16) (i : Fin 64) (l : Fin 256) : carry0 V c n (ix2 i l) = (rowsV V c).S (128 * n) i l := by
  induction n generalizing i l with
  | zero =>
    show k0_pay1 (F := Ideal) (ix2 i l) = (0 : EReal)
    pointwise [k0_pay1]
  | succ n ih =>
    have hN : n < cfg0.N := lt_of_lt_of_eq (by omega : n < 16) (by decide)
    rw [carry0_succ V c ⟨n, hN⟩]
    exact FBlk.out_at (reads0 V c ho hm hw ⟨n, hN⟩) _ (ih (by omega)) i l

/-- The outputs. -/
theorem final0_8 : (dat0 V c).arrAt 8 cfg0.N = (arr2 (rowsV V c).Y : S2048x256.Idx → EReal) := by
  refine (dat0 V c).arrAt_eq_of_covers 8 _ (by decide +kernel) fun t _ y => ?_
  blk_simp [idx0 t]
  have ht := lt0 t
  refine Eq.trans (b := (block0 V c t).Y (carry0 V c t.val) y) rfl ?_
  idx_vars y
  refine (FBlk.Y_at (reads0 V c ho hm hw t) _ (carry0_at V c ho hm hw t.val (by omega)) _ _).trans ?_
  have e : (((View.whole main_v20_0).slice (win0_8.rect t)).emb (ix2 y0 y1) : S2048x256.Idx) = ix2 ⟨128 * t.val + y0.val, by omega⟩ y1 := by
    blk_ext [idx0 t]
  exact (congrArg (arr2 (rowsV V c).Y) e).symm

/-- The states after the steps. -/
theorem final0_9 : (dat0 V c).arrAt 9 cfg0.N = (arr3 (rowsV V c) : S2048x64x256.Idx → EReal) := by
  refine (dat0 V c).arrAt_eq_of_covers 9 _ (by decide +kernel) fun t _ y => ?_
  blk_simp [idx0 t]
  have ht := lt0 t
  refine Eq.trans (b := (block0 V c t).ST (carry0 V c t.val) y) rfl ?_
  idx_vars y
  refine (FBlk.ST_at (reads0 V c ho hm hw t) _ (carry0_at V c ho hm hw t.val (by omega)) _ _ _).trans ?_
  have e : (((View.whole main_v20_1).slice (win0_9.rect t)).emb (ix3 y0 y1 y2) : S2048x64x256.Idx) = ix3 ⟨128 * t.val + y0.val, by omega⟩ y1 y2 := by
    blk_ext [idx0 t]
  exact (congrArg (arr3 (rowsV V c)) e).symm

end Cert.KernelIdeal.Scan

end
-- ==== Proof.TieB.lean ====
/- The backward call over the extended reals: the gradients it leaves are the recurrence's, when the states it reads are. -/
module

public import proofs.«01_k».proof.Proof.BlockB
public import proofs.«01_k».proof.Proof.TieF

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL.Sem
open Idealize.ShloMosaic.Pipeline (Dat)

/-- The blocks of the backward call, by grid point: from the last block to the first. -/
theorem idx1 : ∀ t : Fin cfg1.N, win1_0.index t = ![15 - t.val, 0] ∧ win1_1.index t = ![15 - t.val, 0] ∧ win1_2.index t = ![15 - t.val, 0] ∧ win1_3.index t = ![15 - t.val, 0] ∧ win1_4.index t = ![15 - t.val, 0] ∧ win1_5.index t = ![15 - t.val, 0] ∧ win1_6.index t = ![15 - t.val, 0] ∧ win1_7.index t = ![15 - t.val, 0, 0] ∧ win1_8.index t = ![(15 - t.val) * 128 - 1, 0, 0] ∧ win1_9.index t = ![0, 0] ∧ win1_10.index t = ![0, 0] ∧ win1_11.index t = ![15 - t.val, 0] ∧ win1_12.index t = ![15 - t.val, 0] ∧ win1_13.index t = ![15 - t.val, 0] ∧ win1_14.index t = ![15 - t.val, 0] ∧ win1_15.index t = ![15 - t.val, 0] ∧ win1_16.index t = ![15 - t.val, 0] :=
  (by decide +kernel : ∀ t : Fin grid1.N, _)

theorem lt1 (t : Fin cfg1.N) : t.val < 16 := lt_of_lt_of_eq t.isLt (by decide)

/-- The last grid point is the first block. -/
theorem first1 : ∀ t : Fin cfg1.N, Scalar.cmpi .eq (BitVec.ofNat 32 (grid1.coords t 0).val) 15#32 = if t.val = 15 then 1#1 else 0#1 :=
  (by decide +kernel : ∀ t : Fin grid1.N, _)

theorem pay8_at (f : BitVec 1) (x : S1x64x256.Idx → Ideal .f32) (i : Fin 64) (l : Fin 256) :
    k1_pay8 (F := Ideal) f x (ix3 0 i l) = if f = 1#1 then (0 : EReal) else x (ix3 0 i l) := by
  pointwise [k1_pay8]
  rfl

variable (V : (c : Dev nD) → (b : Ref sig .tc) → Buf (Elt Ideal) ((c : Thread nD τ).loc b)) (c : Dev nD)

theorem blk1_0_at (t : Fin cfg1.N) (a : Fin 128) (l : Fin 256) : blk1_0 V c t (ix2 a l) = (rowsV V c).r (128 * (15 - t.val) + a.val) l := by
  have ht := lt1 t
  show _ = (V c main_arg0 : S2048x1024.Idx → EReal) (ix2 ⟨(128 * (15 - t.val) + a.val) % 2048, _⟩ ⟨l.val, by omega⟩)
  blk_ext [blk1_0, idx1 t]

theorem blk1_1_at (t : Fin cfg1.N) (a : Fin 128) (l : Fin 256) : blk1_1 V c t (ix2 a l) = (rowsV V c).w (128 * (15 - t.val) + a.val) l := by
  have ht := lt1 t
  show _ = (V c main_arg1 : S2048x256.Idx → EReal) (ix2 ⟨(128 * (15 - t.val) + a.val) % 2048, _⟩ l)
  blk_ext [blk1_1, idx1 t]

theorem blk1_2_at (t : Fin cfg1.N) (a : Fin 128) (l : Fin 256) : blk1_2 V c t (ix2 a l) = (rowsV V c).k (128 * (15 - t.val) + a.val) l := by
  have ht := lt1 t
  show _ = (V c main_arg2 : S2048x256.Idx → EReal) (ix2 ⟨(128 * (15 - t.val) + a.val) % 2048, _⟩ l)
  blk_ext [blk1_2, idx1 t]

theorem blk1_3_at (t : Fin cfg1.N) (a : Fin 128) (l : Fin 256) : blk1_3 V c t (ix2 a l) = (rowsV V c).v (128 * (15 - t.val) + a.val) l := by
  have ht := lt1 t
  show _ = (V c main_arg3 : S2048x256.Idx → EReal) (ix2 ⟨(128 * (15 - t.val) + a.val) % 2048, _⟩ l)
  blk_ext [blk1_3, idx1 t]

theorem blk1_4_at (t : Fin cfg1.N) (a : Fin 128) (l : Fin 256) : blk1_4 V c t (ix2 a l) = (rowsV V c).c (128 * (15 - t.val) + a.val) l := by
  have ht := lt1 t
  show _ = (V c main_arg4 : S2048x256.Idx → EReal) (ix2 ⟨(128 * (15 - t.val) + a.val) % 2048, _⟩ l)
  blk_ext [blk1_4, idx1 t]

theorem blk1_5_at (t : Fin cfg1.N) (a : Fin 128) (l : Fin 256) : blk1_5 V c t (ix2 a l) = (rowsV V c).b (128 * (15 - t.val) + a.val) l := by
  have ht := lt1 t
  show _ = (V c main_arg5 : S2048x256.Idx → EReal) (ix2 ⟨(128 * (15 - t.val) + a.val) % 2048, _⟩ l)
  blk_ext [blk1_5, idx1 t]

theorem blk1_6_at (t : Fin cfg1.N) (a : Fin 128) (l : Fin 256) : blk1_6 V c t (ix2 a l) = (rowsV V c).dy (128 * (15 - t.val) + a.val) l := by
  have ht := lt1 t
  show _ = (V c main_arg6 : S2048x256.Idx → EReal) (ix2 ⟨(128 * (15 - t.val) + a.val) % 2048, _⟩ l)
  blk_ext [blk1_6, idx1 t]

theorem blk1_9_at (t : Fin cfg1.N) : blk1_9 V c t = (V c main_v10 : S768x256.Idx → EReal) := by
  funext y
  idx_vars y
  blk_ext [blk1_9, idx1 t]

theorem blk1_10_at (t : Fin cfg1.N) : blk1_10 V c t = (V c main_v19 : S64x256.Idx → EReal) := by
  funext y
  idx_vars y
  blk_ext [blk1_10, idx1 t]

theorem blk1_7_at (t : Fin cfg1.N) (a : Fin 128) (i : Fin 64) (l : Fin 256) :
    blk1_7 V c t (ix3 a i l) = (V c main_v20_1 : S2048x64x256.Idx → EReal) (ix3 ⟨128 * (15 - t.val) + a.val, by omega⟩ i l) := by
  have ht := lt1 t
  blk_ext [blk1_7, idx1 t]

theorem blk1_8_at (t : Fin cfg1.N) (i : Fin 64) (l : Fin 256) :
    blk1_8 V c t (ix3 0 i l) = (V c main_v20_1 : S2048x64x256.Idx → EReal) (ix3 ⟨(15 - t.val) * 128 - 1, by omega⟩ i l) := by
  have ht := lt1 t
  blk_ext [blk1_8, idx1 t]

variable (ho : IsOnes3 (V c main_v10)) (hm : IsMask (V c main_v19)) (hw : ∀ t l, ∃ q : ℝ, (rowsV V c).w t l = q)
  (hS : V c main_v20_1 = (arr3 (rowsV V c) : S2048x64x256.Idx → EReal))
include ho hm hw hS

theorem reads1 (t : Fin cfg1.N) : (block1 V c t).Reads (rowsV V c) (128 * (15 - t.val)) where
  len := by omega
  mask := by
    show IsMask (blk1_10 V c t)
    rw [blk1_10_at]
    exact hm
  ones := by
    show IsOnes (top (blk1_9 V c t))
    rw [blk1_9_at]
    exact top_ones _ ho
  ones3 := by
    show IsOnes3 (blk1_9 V c t)
    rw [blk1_9_at]
    exact ho
  fin := hw
  r := blk1_0_at V c t
  w := blk1_1_at V c t
  k := blk1_2_at V c t
  v := blk1_3_at V c t
  c := blk1_4_at V c t
  b := blk1_5_at V c t
  dy := blk1_6_at V c t
  st a i l := by
    refine (blk1_7_at V c t a i l).trans ?_
    rw [hS]
    rfl
  prev i l := by
    have ht := lt1 t
    refine (pay8_at _ _ i l).trans ?_
    show (if Scalar.cmpi .eq (BitVec.ofNat 32 (grid1.coords t 0).val) 15#32 = 1#1 then (0 : EReal) else blk1_8 V c t (ix3 0 i l)) = _
    rw [first1 t]
    by_cases h : t.val = 15
    · rw [if_pos h, if_pos rfl, h]
      rfl
    · rw [if_neg h, if_neg (by decide), blk1_8_at, hS]
      show (rowsV V c).S ((15 - t.val) * 128 - 1 + 1) i l = _
      rw [show (15 - t.val) * 128 - 1 + 1 = 128 * (15 - t.val) by omega]

/-- The gradient of the state carried into point `n`. -/
theorem carry1_at (n : ℕ) (hn : n ≤ 16) (i : Fin 64) (l : Fin 256) : carry1 V c n (ix2 i l) = (rowsV V c).G (128 * n) i l := by
  induction n generalizing i l with
  | zero =>
    show k1_pay1 (F := Ideal) (ix2 i l) = (0 : EReal)
    pointwise [k1_pay1]
  | succ n ih =>
    have hN : n < cfg1.N := lt_of_lt_of_eq (by omega : n < 16) (by decide)
    rw [carry1_succ V c ⟨n, hN⟩]
    refine (BBlk.out_at (reads1 V c ho hm hw hS ⟨n, hN⟩) _ (fun i l => ?_) i l).trans ?_
    · refine (ih (by omega) i l).trans ?_
      rw [show 2048 - (128 * (15 - n) + 128) = 128 * n by omega]
    · rw [show 2048 - 128 * (15 - n) = 128 * (n + 1) by omega]

theorem meets1 (t : Fin cfg1.N) (i : Fin 64) (l : Fin 256) :
    carry1 V c t.val (ix2 i l) = (rowsV V c).G (2048 - (128 * (15 - t.val) + 128)) i l := by
  have ht := lt1 t
  rw [show 2048 - (128 * (15 - t.val) + 128) = 128 * t.val by omega]
  exact carry1_at V c ho hm hw hS t.val (by omega) i l

/-- The gradients of `r`. -/
theorem final1_11 : (dat1 V c).arrAt 11 cfg1.N = (arr2 (rowsV V c).DR : S2048x256.Idx → EReal) := by
  refine (dat1 V c).arrAt_eq_of_covers 11 _ (by decide +kernel) fun t _ y => ?_
  blk_simp [idx1 t]
  have ht := lt1 t
  refine Eq.trans (b := (block1 V c t).DR (carry1 V c t.val) y) rfl ?_
  idx_vars y
  refine (BBlk.DR_at (reads1 V c ho hm hw hS t) _ (meets1 V c ho hm hw hS t) _ _).trans ?_
  have e : (((View.whole main_v21_0).slice (win1_11.rect t)).emb (ix2 y0 y1) : S2048x256.Idx) = ix2 ⟨128 * (15 - t.val) + y0.val, by omega⟩ y1 := by
    blk_ext [idx1 t]
  exact (congrArg (arr2 (rowsV V c).DR) e).symm

/-- The gradients of `w`. -/
theorem final1_12 : (dat1 V c).arrAt 12 cfg1.N = (arr2 (rowsV V c).DW : S2048x256.Idx → EReal) := by
  refine (dat1 V c).arrAt_eq_of_covers 12 _ (by decide +kernel) fun t _ y => ?_
  blk_simp [idx1 t]
  have ht := lt1 t
  refine Eq.trans (b := (block1 V c t).DW (carry1 V c t.val) y) rfl ?_
  idx_vars y
  refine (BBlk.DW_at (reads1 V c ho hm hw hS t) _ (meets1 V c ho hm hw hS t) _ _).trans ?_
  have e : (((View.whole main_v21_1).slice (win1_12.rect t)).emb (ix2 y0 y1) : S2048x256.Idx) = ix2 ⟨128 * (15 - t.val) + y0.val, by omega⟩ y1 := by
    blk_ext [idx1 t]
  exact (congrArg (arr2 (rowsV V c).DW) e).symm

/-- The gradients of `k`. -/
theorem final1_13 : (dat1 V c).arrAt 13 cfg1.N = (arr2 (rowsV V c).DK : S2048x256.Idx → EReal) := by
  refine (dat1 V c).arrAt_eq_of_covers 13 _ (by decide +kernel) fun t _ y => ?_
  blk_simp [idx1 t]
  have ht := lt1 t
  refine Eq.trans (b := (block1 V c t).DK (carry1 V c t.val) y) rfl ?_
  idx_vars y
  refine (BBlk.DK_at (reads1 V c ho hm hw hS t) _ (meets1 V c ho hm hw hS t) _ _).trans ?_
  have e : (((View.whole main_v21_2).slice (win1_13.rect t)).emb (ix2 y0 y1) : S2048x256.Idx) = ix2 ⟨128 * (15 - t.val) + y0.val, by omega⟩ y1 := by
    blk_ext [idx1 t]
  exact (congrArg (arr2 (rowsV V c).DK) e).symm

/-- The gradients of `v`. -/
theorem final1_14 : (dat1 V c).arrAt 14 cfg1.N = (arr2 (rowsV V c).DV : S2048x256.Idx → EReal) := by
  refine (dat1 V c).arrAt_eq_of_covers 14 _ (by decide +kernel) fun t _ y => ?_
  blk_simp [idx1 t]
  have ht := lt1 t
  refine Eq.trans (b := (block1 V c t).DV (carry1 V c t.val) y) rfl ?_
  idx_vars y
  refine (BBlk.DV_at (reads1 V c ho hm hw hS t) _ (meets1 V c ho hm hw hS t) _ _).trans ?_
  have e : (((View.whole main_v21_3).slice (win1_14.rect t)).emb (ix2 y0 y1) : S2048x256.Idx) = ix2 ⟨128 * (15 - t.val) + y0.val, by omega⟩ y1 := by
    blk_ext [idx1 t]
  exact (congrArg (arr2 (rowsV V c).DV) e).symm

/-- The gradients of `c`. -/
theorem final1_15 : (dat1 V c).arrAt 15 cfg1.N = (arr2 (rowsV V c).DC : S2048x256.Idx → EReal) := by
  refine (dat1 V c).arrAt_eq_of_covers 15 _ (by decide +kernel) fun t _ y => ?_
  blk_simp [idx1 t]
  have ht := lt1 t
  refine Eq.trans (b := (block1 V c t).DC (carry1 V c t.val) y) rfl ?_
  idx_vars y
  refine (BBlk.DC_at (reads1 V c ho hm hw hS t) _ (meets1 V c ho hm hw hS t) _ _).trans ?_
  have e : (((View.whole main_v21_4).slice (win1_15.rect t)).emb (ix2 y0 y1) : S2048x256.Idx) = ix2 ⟨128 * (15 - t.val) + y0.val, by omega⟩ y1 := by
    blk_ext [idx1 t]
  exact (congrArg (arr2 (rowsV V c).DC) e).symm

/-- The gradients of `b`. -/
theorem final1_16 : (dat1 V c).arrAt 16 cfg1.N = (arr2 (rowsV V c).DB : S2048x256.Idx → EReal) := by
  refine (dat1 V c).arrAt_eq_of_covers 16 _ (by decide +kernel) fun t _ y => ?_
  blk_simp [idx1 t]
  have ht := lt1 t
  refine Eq.trans (b := (block1 V c t).DB (carry1 V c t.val) y) rfl ?_
  idx_vars y
  refine (BBlk.DB_at (reads1 V c ho hm hw hS t) _ (meets1 V c ho hm hw hS t) _ _).trans ?_
  have e : (((View.whole main_v21_5).slice (win1_16.rect t)).emb (ix2 y0 y1) : S2048x256.Idx) = ix2 ⟨128 * (15 - t.val) + y0.val, by omega⟩ y1 := by
    blk_ext [idx1 t]
  exact (congrArg (arr2 (rowsV V c).DB) e).symm

end Cert.KernelIdeal.Scan

end
-- ==== Proof.TieK.lean ====
/- The two calls put together: what the kernel's seven results hold at the end, over the launch contents. -/
module

public import proofs.«01_k».proof.Proof.TieB

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (c : Dev nD)

/-- The rows of the seven arguments at launch. -/
def rowsM : Rows := rowsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))

theorem rowsOf_congr {A0 B0 : S2048x1024.Idx → EReal} {A1 A2 A3 A4 A5 A6 B1 B2 B3 B4 B5 B6 : S2048x256.Idx → EReal}
    (h0 : A0 = B0) (h1 : A1 = B1) (h2 : A2 = B2) (h3 : A3 = B3) (h4 : A4 = B4) (h5 : A5 = B5) (h6 : A6 = B6) :
    rowsOf A0 A1 A2 A3 A4 A5 A6 = rowsOf B0 B1 B2 B3 B4 B5 B6 := by
  rw [h0, h1, h2, h3, h4, h5, h6]

theorem rowsM_7 : rowsV (rd (W7 m)) c = rowsM m c :=
  rowsOf_congr (W7_arg0 m c) (W7_arg1 m c) (W7_arg2 m c) (W7_arg3 m c) (W7_arg4 m c) (W7_arg5 m c) (W7_arg6 m c)

theorem rowsM_8 : rowsV (rd (W8 m)) c = rowsM m c :=
  rowsOf_congr (W8_arg0 m c) (W8_arg1 m c) (W8_arg2 m c) (W8_arg3 m c) (W8_arg4 m c) (W8_arg5 m c) (W8_arg6 m c)

theorem W8_v10 : W8 m c (Proc.devRef .tc main_v10) = W7 m c (Proc.devRef .tc main_v10) :=
  (Dat.withArrays_arrAt (dat0 (rd (W7 m)) c) sharedIn0 (W7 m c) (fun _ => rfl) 6).trans ((dat0 (rd (W7 m)) c).arrAt_in 6 rfl _)

theorem W8_v19 : W8 m c (Proc.devRef .tc main_v19) = W7 m c (Proc.devRef .tc main_v19) :=
  (Dat.withArrays_arrAt (dat0 (rd (W7 m)) c) sharedIn0 (W7 m c) (fun _ => rfl) 7).trans ((dat0 (rd (W7 m)) c).arrAt_in 7 rfl _)

theorem ones8 : IsOnes3 (rd (W8 m) c main_v10) := by
  show IsOnes3 (W8 m c (Proc.devRef .tc main_v10))
  rw [W8_v10]
  exact W7_ones3 m c

theorem mask8 : IsMask (rd (W8 m) c main_v19) := by
  show IsMask (W8 m c (Proc.devRef .tc main_v19))
  rw [W8_v19]
  exact W7_mask m c

variable (hw : ∀ t l, ∃ q : ℝ, (rowsM m c).w t l = q)
include hw

theorem W8_y : W8 m c (Proc.devRef .tc main_v20_0) = (arr2 (rowsM m c).Y : S2048x256.Idx → EReal) := by
  rw [← rowsM_7] at hw ⊢
  exact (Dat.withArrays_arrAt (dat0 (rd (W7 m)) c) sharedIn0 (W7 m c) (fun _ => rfl) 8).trans
    (final0_8 (rd (W7 m)) c (W7_ones3 m c) (W7_mask m c) hw)

theorem W8_states : W8 m c (Proc.devRef .tc main_v20_1) = (arr3 (rowsM m c) : S2048x64x256.Idx → EReal) := by
  rw [← rowsM_7] at hw ⊢
  exact (Dat.withArrays_arrAt (dat0 (rd (W7 m)) c) sharedIn0 (W7 m c) (fun _ => rfl) 9).trans
    (final0_9 (rd (W7 m)) c (W7_ones3 m c) (W7_mask m c) hw)

theorem W9_y : W9 m c (Proc.devRef .tc main_v20_0) = (arr2 (rowsM m c).Y : S2048x256.Idx → EReal) :=
  (Pipeline.withArrays_of_ne spec1 c (W8 m c) _ main_v20_0 (by decide)).trans (W8_y m c hw)

theorem W9_DR : W9 m c (Proc.devRef .tc main_v21_0) = (arr2 (rowsM m c).DR : S2048x256.Idx → EReal) := by
  have hS := W8_states m c hw
  rw [← rowsM_8] at hw hS ⊢
  exact (Dat.withArrays_arrAt (dat1 (rd (W8 m)) c) sharedIn1 (W8 m c) (fun _ => rfl) 11).trans
    (final1_11 (rd (W8 m)) c (ones8 m c) (mask8 m c) hw hS)

theorem W9_DW : W9 m c (Proc.devRef .tc main_v21_1) = (arr2 (rowsM m c).DW : S2048x256.Idx → EReal) := by
  have hS := W8_states m c hw
  rw [← rowsM_8] at hw hS ⊢
  exact (Dat.withArrays_arrAt (dat1 (rd (W8 m)) c) sharedIn1 (W8 m c) (fun _ => rfl) 12).trans
    (final1_12 (rd (W8 m)) c (ones8 m c) (mask8 m c) hw hS)

theorem W9_DK : W9 m c (Proc.devRef .tc main_v21_2) = (arr2 (rowsM m c).DK : S2048x256.Idx → EReal) := by
  have hS := W8_states m c hw
  rw [← rowsM_8] at hw hS ⊢
  exact (Dat.withArrays_arrAt (dat1 (rd (W8 m)) c) sharedIn1 (W8 m c) (fun _ => rfl) 13).trans
    (final1_13 (rd (W8 m)) c (ones8 m c) (mask8 m c) hw hS)

theorem W9_DV : W9 m c (Proc.devRef .tc main_v21_3) = (arr2 (rowsM m c).DV : S2048x256.Idx → EReal) := by
  have hS := W8_states m c hw
  rw [← rowsM_8] at hw hS ⊢
  exact (Dat.withArrays_arrAt (dat1 (rd (W8 m)) c) sharedIn1 (W8 m c) (fun _ => rfl) 14).trans
    (final1_14 (rd (W8 m)) c (ones8 m c) (mask8 m c) hw hS)

theorem W9_DC : W9 m c (Proc.devRef .tc main_v21_4) = (arr2 (rowsM m c).DC : S2048x256.Idx → EReal) := by
  have hS := W8_states m c hw
  rw [← rowsM_8] at hw hS ⊢
  exact (Dat.withArrays_arrAt (dat1 (rd (W8 m)) c) sharedIn1 (W8 m c) (fun _ => rfl) 15).trans
    (final1_15 (rd (W8 m)) c (ones8 m c) (mask8 m c) hw hS)

theorem W9_DB : W9 m c (Proc.devRef .tc main_v21_5) = (arr2 (rowsM m c).DB : S2048x256.Idx → EReal) := by
  have hS := W8_states m c hw
  rw [← rowsM_8] at hw hS ⊢
  exact (Dat.withArrays_arrAt (dat1 (rd (W8 m)) c) sharedIn1 (W8 m c) (fun _ => rfl) 16).trans
    (final1_16 (rd (W8 m)) c (ones8 m c) (mask8 m c) hw hS)

end Cert.KernelIdeal.Scan

end
-- ==== Proof.RefOps.lean ====
/- The reference's host operations as lists, and the program and its two loop bodies as chains of them. -/
module

public import proofs.«01_k».proof.Proof.Gen.ReferenceIdeal
public import Idealize.ShloMosaic.Lib.StableHlo.RunLoop

@[expose] public section

set_option maxRecDepth 16384

noncomputable section

namespace Cert.ReferenceIdeal.Scan

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The contents of a float buffer of a shape. -/
abbrev Arr (F : FTy → Type) (s : Shape) := (⟨s, .f32⟩ : BufTy).Contents (Elt F)

/-- The type of the reference's programs. -/
abbrev RProg (F : FTy → Type) [FloatOps F] := Prog (TpuEff nD τ sig (Elt F) (HostLoop.Sig (Pipeline.Sig Λ₀ (Fin 0) fun p => (pcfgs (F := F) p).Adm) 2) .tc) PUnit

/-- The operations before the forward loop: the inputs as heads of 64, the zero start of every carried array. -/
abbrev preOps : List (HloOp τ sig (Elt F)) :=
  [ StableHlo.unary main_arg0 main_v0 ((extractStridedSlice S2048x256 ![0, 0] · slices_S2048x1024_S2048x256_0_0) : Arr F S2048x1024 → Arr F S2048x256),
    StableHlo.reshape main_v0 main_v1 (rfl : (.f32 : EltTy) = .f32) shapeCasts_S2048x256_S2048x4x64,
    StableHlo.reshape main_arg1 main_v2 (rfl : (.f32 : EltTy) = .f32) shapeCasts_S2048x256_S2048x4x64,
    StableHlo.reshape main_arg2 main_v3 (rfl : (.f32 : EltTy) = .f32) shapeCasts_S2048x256_S2048x4x64,
    StableHlo.reshape main_arg3 main_v4 (rfl : (.f32 : EltTy) = .f32) shapeCasts_S2048x256_S2048x4x64,
    StableHlo.reshape main_arg4 main_v5 (rfl : (.f32 : EltTy) = .f32) shapeCasts_S2048x256_S2048x4x64,
    StableHlo.reshape main_arg5 main_v6 (rfl : (.f32 : EltTy) = .f32) shapeCasts_S2048x256_S2048x4x64,
    StableHlo.nullary main_cst (constant S_ .f32 0x00000000#32),
    StableHlo.unary main_cst main_v7 (broadcastInDim S4x64x64 ![] bcast_S_S4x64x64 : Arr F S_ → Arr F S4x64x64),
    StableHlo.nullary main_cst_0 (constant S_ .f32 0x00000000#32),
    StableHlo.unary main_cst_0 main_v8 (broadcastInDim S2048x4x64 ![] bcast_S_S2048x4x64 : Arr F S_ → Arr F S2048x4x64),
    StableHlo.nullary main_cst_1 (constant S_ .f32 0x00000000#32),
    StableHlo.unary main_cst_1 main_v9 (broadcastInDim S2048x4x1x64 ![] bcast_S_S2048x4x1x64 : Arr F S_ → Arr F S2048x4x1x64),
    StableHlo.nullary main_cst_2 (constant S_ .f32 0x00000000#32),
    StableHlo.unary main_cst_2 main_v10 (broadcastInDim S2048x4x64x64 ![] bcast_S_S2048x4x64x64 : Arr F S_ → Arr F S2048x4x64x64),
    StableHlo.nullary main_cst_3 (constant S_ .f32 0x00000000#32),
    StableHlo.unary main_cst_3 main_v11 (broadcastInDim S2048x4x1x64 ![] bcast_S_S2048x4x1x64 : Arr F S_ → Arr F S2048x4x1x64),
    StableHlo.nullary main_cst_4 (constant S_ .f32 0x00000000#32),
    StableHlo.unary main_cst_4 main_v12 (broadcastInDim S2048x4x1x64 ![] bcast_S_S2048x4x1x64 : Arr F S_ → Arr F S2048x4x1x64),
    StableHlo.nullary main_cst_5 (constant S_ .f32 0x00000000#32),
    StableHlo.unary main_cst_5 main_v13 (broadcastInDim S2048x4x64x1 ![] bcast_S_S2048x4x64x1 : Arr F S_ → Arr F S2048x4x64x1),
    StableHlo.nullary main_cst_6 (constant S_ .f32 0x00000000#32),
    StableHlo.unary main_cst_6 main_v14 (broadcastInDim S2048x4x1x64 ![] bcast_S_S2048x4x1x64 : Arr F S_ → Arr F S2048x4x1x64),
    StableHlo.nullary main_cst_7 (constant S_ .f32 0x00000000#32),
    StableHlo.unary main_cst_7 main_v15 (broadcastInDim S2048x4x64x1 ![] bcast_S_S2048x4x64x1 : Arr F S_ → Arr F S2048x4x64x1),
    StableHlo.nullary main_cst_8 (constant S_ .f32 0x00000000#32),
    StableHlo.unary main_cst_8 main_v16 (broadcastInDim S2048x4x1x64 ![] bcast_S_S2048x4x1x64 : Arr F S_ → Arr F S2048x4x1x64),
    StableHlo.nullary main_cst_9 (constant S_ .f32 0x00000000#32),
    StableHlo.unary main_cst_9 main_v17 (broadcastInDim S2048x4x64x64 ![] bcast_S_S2048x4x64x64 : Arr F S_ → Arr F S2048x4x64x64),
    StableHlo.nullary main_c (constantI S_ 32 0#32),
    StableHlo.unary main_v1 main_v18_0 id,
    StableHlo.unary main_v2 main_v18_1 id,
    StableHlo.unary main_v3 main_v18_2 id,
    StableHlo.unary main_v4 main_v18_3 id,
    StableHlo.unary main_v5 main_v18_4 id,
    StableHlo.unary main_v6 main_v18_5 id,
    StableHlo.unary main_c main_v18_6 id,
    StableHlo.unary main_v7 main_v18_7 id,
    StableHlo.unary main_v8 main_v18_8 id,
    StableHlo.unary main_v9 main_v18_9 id,
    StableHlo.unary main_v10 main_v18_10 id,
    StableHlo.unary main_v11 main_v18_11 id,
    StableHlo.unary main_v12 main_v18_12 id,
    StableHlo.unary main_v13 main_v18_13 id,
    StableHlo.unary main_v14 main_v18_14 id,
    StableHlo.unary main_v15 main_v18_15 id,
    StableHlo.unary main_v16 main_v18_16 id,
    StableHlo.unary main_v17 main_v18_17 id ]

theorem preOps_sub : (preOps : List (HloOp τ sig (Elt F))).Forall fun op => op.bufs ⊆ StableHlo.tcRefs τ sig :=
  ⟨StableHlo.unary_bufs_sub .., StableHlo.reshape_bufs_sub .., StableHlo.reshape_bufs_sub .., StableHlo.reshape_bufs_sub .., StableHlo.reshape_bufs_sub .., StableHlo.reshape_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- The buffers they write. -/
abbrev preOps_W : List (Ref sig .tc) := [main_v0, main_v1, main_v2, main_v3, main_v4, main_v5, main_v6, main_cst, main_v7, main_cst_0, main_v8, main_cst_1, main_v9, main_cst_2, main_v10, main_cst_3, main_v11, main_cst_4, main_v12, main_cst_5, main_v13, main_cst_6, main_v14, main_cst_7, main_v15, main_cst_8, main_v16, main_cst_9, main_v17, main_c, main_v18_0, main_v18_1, main_v18_2, main_v18_3, main_v18_4, main_v18_5, main_v18_6, main_v18_7, main_v18_8, main_v18_9, main_v18_10, main_v18_11, main_v18_12, main_v18_13, main_v18_14, main_v18_15, main_v18_16, main_v18_17]

theorem preOps_writes : (preOps : List (HloOp τ sig (Elt F))).Forall fun op => op.writes ⊆ (preOps_W.map (Proc.devRef (τ := τ) .tc)).toFinset :=
  StableHlo.forall_writes_sub_of_map rfl

theorem preOps_of (V : Valuation τ sig (Elt F)) (r : Ref sig .tc) (h : r ∉ preOps_W) : StableHlo.after preOps V (Proc.devRef .tc r) = V (Proc.devRef .tc r) :=
  StableHlo.after_of_writes_sub preOps _ preOps_writes h

/-- The operations between the two loops. -/
abbrev midOps : List (HloOp τ sig (Elt F)) :=
  [ StableHlo.reshape main_v18_8 main_v19 (rfl : (.f32 : EltTy) = .f32) shapeCasts_S2048x4x64_S2048x256,
    StableHlo.nullary main_cst_10 (constant S_ .f32 0x00000000#32),
    StableHlo.unary main_cst_10 main_v20 (broadcastInDim S4x64x64 ![] bcast_S_S4x64x64 : Arr F S_ → Arr F S4x64x64),
    StableHlo.reshape main_arg6 main_v21 (rfl : (.f32 : EltTy) = .f32) shapeCasts_S2048x256_S2048x4x64,
    StableHlo.nullary main_cst_11 (constant S_ .f32 0x00000000#32),
    StableHlo.unary main_cst_11 main_v22 (broadcastInDim S4x64x64 ![] bcast_S_S4x64x64 : Arr F S_ → Arr F S4x64x64),
    StableHlo.nullary main_cst_12 (constant S_ .f32 0x00000000#32),
    StableHlo.unary main_cst_12 main_v23 (broadcastInDim S2048x4x64 ![] bcast_S_S2048x4x64 : Arr F S_ → Arr F S2048x4x64),
    StableHlo.nullary main_cst_13 (constant S_ .f32 0x00000000#32),
    StableHlo.unary main_cst_13 main_v24 (broadcastInDim S2048x4x64 ![] bcast_S_S2048x4x64 : Arr F S_ → Arr F S2048x4x64),
    StableHlo.nullary main_cst_14 (constant S_ .f32 0x00000000#32),
    StableHlo.unary main_cst_14 main_v25 (broadcastInDim S2048x4x64 ![] bcast_S_S2048x4x64 : Arr F S_ → Arr F S2048x4x64),
    StableHlo.nullary main_cst_15 (constant S_ .f32 0x00000000#32),
    StableHlo.unary main_cst_15 main_v26 (broadcastInDim S2048x4x64 ![] bcast_S_S2048x4x64 : Arr F S_ → Arr F S2048x4x64),
    StableHlo.nullary main_cst_16 (constant S_ .f32 0x00000000#32),
    StableHlo.unary main_cst_16 main_v27 (broadcastInDim S2048x4x64 ![] bcast_S_S2048x4x64 : Arr F S_ → Arr F S2048x4x64),
    StableHlo.nullary main_cst_17 (constant S_ .f32 0x00000000#32),
    StableHlo.unary main_cst_17 main_v28 (broadcastInDim S2048x4x64 ![] bcast_S_S2048x4x64 : Arr F S_ → Arr F S2048x4x64),
    StableHlo.nullary main_c_18 (constantI S_ 32 0#32),
    StableHlo.unary main_v21 main_v29_0 id,
    StableHlo.unary main_v18_9 main_v29_1 id,
    StableHlo.unary main_v18_10 main_v29_2 id,
    StableHlo.unary main_v18_11 main_v29_3 id,
    StableHlo.unary main_v18_12 main_v29_4 id,
    StableHlo.unary main_v18_13 main_v29_5 id,
    StableHlo.unary main_v18_14 main_v29_6 id,
    StableHlo.unary main_v18_15 main_v29_7 id,
    StableHlo.unary main_v18_16 main_v29_8 id,
    StableHlo.unary main_v18_17 main_v29_9 id,
    StableHlo.unary main_c_18 main_v29_10 id,
    StableHlo.unary main_v22 main_v29_11 id,
    StableHlo.unary main_v23 main_v29_12 id,
    StableHlo.unary main_v24 main_v29_13 id,
    StableHlo.unary main_v25 main_v29_14 id,
    StableHlo.unary main_v26 main_v29_15 id,
    StableHlo.unary main_v27 main_v29_16 id,
    StableHlo.unary main_v28 main_v29_17 id ]

theorem midOps_sub : (midOps : List (HloOp τ sig (Elt F))).Forall fun op => op.bufs ⊆ StableHlo.tcRefs τ sig :=
  ⟨StableHlo.reshape_bufs_sub .., StableHlo.nullary_bufs_sub .., StableHlo.unary_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- The buffers they write. -/
abbrev midOps_W : List (Ref sig .tc) := [main_v19, main_cst_10, main_v20, main_v21, main_cst_11, main_v22, main_cst_12, main_v23, main_cst_13, main_v24, main_cst_14, main_v25, main_cst_15, main_v26, main_cst_16, main_v27, main_cst_17, main_v28, main_c_18, main_v29_0, main_v29_1, main_v29_2, main_v29_3, main_v29_4, main_v29_5, main_v29_6, main_v29_7, main_v29_8, main_v29_9, main_v29_10, main_v29_11, main_v29_12, main_v29_13, main_v29_14, main_v29_15, main_v29_16, main_v29_17]

theorem midOps_writes : (midOps : List (HloOp τ sig (Elt F))).Forall fun op => op.writes ⊆ (midOps_W.map (Proc.devRef (τ := τ) .tc)).toFinset :=
  StableHlo.forall_writes_sub_of_map rfl

theorem midOps_of (V : Valuation τ sig (Elt F)) (r : Ref sig .tc) (h : r ∉ midOps_W) : StableHlo.after midOps V (Proc.devRef .tc r) = V (Proc.devRef .tc r) :=
  StableHlo.after_of_writes_sub midOps _ midOps_writes h

/-- The operations after the backward loop: the six gradients as rows again. -/
abbrev postOps : List (HloOp τ sig (Elt F)) :=
  [ StableHlo.reshape main_v29_17 main_v30 (rfl : (.f32 : EltTy) = .f32) shapeCasts_S2048x4x64_S2048x256,
    StableHlo.reshape main_v29_16 main_v31 (rfl : (.f32 : EltTy) = .f32) shapeCasts_S2048x4x64_S2048x256,
    StableHlo.reshape main_v29_15 main_v32 (rfl : (.f32 : EltTy) = .f32) shapeCasts_S2048x4x64_S2048x256,
    StableHlo.reshape main_v29_14 main_v33 (rfl : (.f32 : EltTy) = .f32) shapeCasts_S2048x4x64_S2048x256,
    StableHlo.reshape main_v29_13 main_v34 (rfl : (.f32 : EltTy) = .f32) shapeCasts_S2048x4x64_S2048x256,
    StableHlo.reshape main_v29_12 main_v35 (rfl : (.f32 : EltTy) = .f32) shapeCasts_S2048x4x64_S2048x256 ]

theorem postOps_sub : (postOps : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub .., StableHlo.reshape_bufs_sub .., StableHlo.reshape_bufs_sub ..⟩

/-- The buffers they write. -/
abbrev postOps_W : List (Ref sig .tc) := [main_v30, main_v31, main_v32, main_v33, main_v34, main_v35]

theorem postOps_writes : (postOps : List (HloOp τ sig (Elt F))).Forall fun op => op.writes ⊆ (postOps_W.map (Proc.devRef (τ := τ) .tc)).toFinset :=
  StableHlo.forall_writes_sub_of_map rfl

theorem postOps_of (V : Valuation τ sig (Elt F)) (r : Ref sig .tc) (h : r ∉ postOps_W) : StableHlo.after postOps V (Proc.devRef .tc r) = V (Proc.devRef .tc r) :=
  StableHlo.after_of_writes_sub postOps _ postOps_writes h

/-- Stretch 0 of the forward loop's body. -/
abbrev bodyF0 : List (HloOp τ sig (Elt F)) :=
  [ StableHlo.TRef.nullary (StableHlo.TRef.of (T := ⟨S_, .i32⟩) main_while0b_call0_c) (constantI S_ 32 0#32),
    StableHlo.TRef.nullary (StableHlo.TRef.of (T := ⟨S_, .i32⟩) main_while0b_call0_c_0) (constantI S_ 32 0#32),
    StableHlo.TRef.unaryIndexed (StableHlo.TRef.of (T := ⟨S2048x4x64, .f32⟩) main_v18_0) ![(StableHlo.TRef.of (T := ⟨S_, .i32⟩) main_v18_6), (StableHlo.TRef.of (T := ⟨S_, .i32⟩) main_while0b_call0_c), (StableHlo.TRef.of (T := ⟨S_, .i32⟩) main_while0b_call0_c_0)] (StableHlo.TRef.of (T := ⟨S1x4x64, .f32⟩) main_while0b_call0_v0) (fun x i => Host.dynamicSlice S1x4x64 x (fun k => (i k (Shape.Idx.first h_S_)).toInt) sliceFits_S2048x4x64_S1x4x64),
    StableHlo.TRef.reshape (StableHlo.TRef.of (T := ⟨S1x4x64, .f32⟩) main_while0b_call0_v0) (StableHlo.TRef.of (T := ⟨S4x64, .f32⟩) main_while0b_v36) (rfl : (.f32 : EltTy) = .f32) shapeCasts_S1x4x64_S4x64,
    StableHlo.TRef.nullary (StableHlo.TRef.of (T := ⟨S_, .i32⟩) main_while0b_call1_c) (constantI S_ 32 0#32),
    StableHlo.TRef.nullary (StableHlo.TRef.of (T := ⟨S_, .i32⟩) main_while0b_call1_c_0) (constantI S_ 32 0#32),
    StableHlo.TRef.unaryIndexed (StableHlo.TRef.of (T := ⟨S2048x4x64, .f32⟩) main_v18_1) ![(StableHlo.TRef.of (T := ⟨S_, .i32⟩) main_v18_6), (StableHlo.TRef.of (T := ⟨S_, .i32⟩) main_while0b_call1_c), (StableHlo.TRef.of (T := ⟨S_, .i32⟩) main_while0b_call1_c_0)] (StableHlo.TRef.of (T := ⟨S1x4x64, .f32⟩) main_while0b_call1_v0) (fun x i => Host.dynamicSlice S1x4x64 x (fun k => (i k (Shape.Idx.first h_S_)).toInt) sliceFits_S2048x4x64_S1x4x64),
    StableHlo.TRef.reshape (StableHlo.TRef.of (T := ⟨S1x4x64, .f32⟩) main_while0b_call1_v0) (StableHlo.TRef.of (T := ⟨S4x64, .f32⟩) main_while0b_v37) (rfl : (.f32 : EltTy) = .f32) shapeCasts_S1x4x64_S4x64,
    StableHlo.TRef.nullary (StableHlo.TRef.of (T := ⟨S_, .i32⟩) main_while0b_call2_c) (constantI S_ 32 0#32),
    StableHlo.TRef.nullary (StableHlo.TRef.of (T := ⟨S_, .i32⟩) main_while0b_call2_c_0) (constantI S_ 32 0#32),
    StableHlo.TRef.unaryIndexed (StableHlo.TRef.of (T := ⟨S2048x4x64, .f32⟩) main_v18_2) ![(StableHlo.TRef.of (T := ⟨S_, .i32⟩) main_v18_6), (StableHlo.TRef.of (T := ⟨S_, .i32⟩) main_while0b_call2_c), (StableHlo.TRef.of (T := ⟨S_, .i32⟩) main_while0b_call2_c_0)] (StableHlo.TRef.of (T := ⟨S1x4x64, .f32⟩) main_while0b_call2_v0) (fun x i => Host.dynamicSlice S1x4x64 x (fun k => (i k (Shape.Idx.first h_S_)).toInt) sliceFits_S2048x4x64_S1x4x64),
    StableHlo.TRef.reshape (StableHlo.TRef.of (T := ⟨S1x4x64, .f32⟩) main_while0b_call2_v0) (StableHlo.TRef.of (T := ⟨S4x64, .f32⟩) main_while0b_v38) (rfl : (.f32 : EltTy) = .f32) shapeCasts_S1x4x64_S4x64,
    StableHlo.TRef.nullary (StableHlo.TRef.of (T := ⟨S_, .i32⟩) main_while0b_call3_c) (constantI S_ 32 0#32),
    StableHlo.TRef.nullary (StableHlo.TRef.of (T := ⟨S_, .i32⟩) main_while0b_call3_c_0) (constantI S_ 32 0#32),
    StableHlo.TRef.unaryIndexed (StableHlo.TRef.of (T := ⟨S2048x4x64, .f32⟩) main_v18_3) ![(StableHlo.TRef.of (T := ⟨S_, .i32⟩) main_v18_6), (StableHlo.TRef.of (T := ⟨S_, .i32⟩) main_while0b_call3_c), (StableHlo.TRef.of (T := ⟨S_, .i32⟩) main_while0b_call3_c_0)] (StableHlo.TRef.of (T := ⟨S1x4x64, .f32⟩) main_while0b_call3_v0) (fun x i => Host.dynamicSlice S1x4x64 x (fun k => (i k (Shape.Idx.first h_S_)).toInt) sliceFits_S2048x4x64_S1x4x64),
    StableHlo.TRef.reshape (StableHlo.TRef.of (T := ⟨S1x4x64, .f32⟩) main_while0b_call3_v0) (StableHlo.TRef.of (T := ⟨S4x64, .f32⟩) main_while0b_v39) (rfl : (.f32 : EltTy) = .f32) shapeCasts_S1x4x64_S4x64,
    StableHlo.TRef.nullary (StableHlo.TRef.of (T := ⟨S_, .i32⟩) main_while0b_call4_c) (constantI S_ 32 0#32),
    StableHlo.TRef.nullary (StableHlo.TRef.of (T := ⟨S_, .i32⟩) main_while0b_call4_c_0) (constantI S_ 32 0#32),
    StableHlo.TRef.unaryIndexed (StableHlo.TRef.of (T := ⟨S2048x4x64, .f32⟩) main_v18_4) ![(StableHlo.TRef.of (T := ⟨S_, .i32⟩) main_v18_6), (StableHlo.TRef.of (T := ⟨S_, .i32⟩) main_while0b_call4_c), (StableHlo.TRef.of (T := ⟨S_, .i32⟩) main_while0b_call4_c_0)] (StableHlo.TRef.of (T := ⟨S1x4x64, .f32⟩) main_while0b_call4_v0) (fun x i => Host.dynamicSlice S1x4x64 x (fun k => (i k (Shape.Idx.first h_S_)).toInt) sliceFits_S2048x4x64_S1x4x64),
    StableHlo.TRef.reshape (StableHlo.TRef.of (T := ⟨S1x4x64, .f32⟩) main_while0b_call4_v0) (StableHlo.TRef.of (T := ⟨S4x64, .f32⟩) main_while0b_v40) (rfl : (.f32 : EltTy) = .f32) shapeCasts_S1x4x64_S4x64,
    StableHlo.TRef.nullary (StableHlo.TRef.of (T := ⟨S_, .i32⟩) main_while0b_call5_c) (constantI S_ 32 0#32),
    StableHlo.TRef.nullary (StableHlo.TRef.of (T := ⟨S_, .i32⟩) main_while0b_call5_c_0) (constantI S_ 32 0#32),
    StableHlo.TRef.unaryIndexed (StableHlo.TRef.of (T := ⟨S2048x4x64, .f32⟩) main_v18_5) ![(StableHlo.TRef.of (T := ⟨S_, .i32⟩) main_v18_6), (StableHlo.TRef.of (T := ⟨S_, .i32⟩) main_while0b_call5_c), (StableHlo.TRef.of (T := ⟨S_, .i32⟩) main_while0b_call5_c_0)] (StableHlo.TRef.of (T := ⟨S1x4x64, .f32⟩) main_while0b_call5_v0) (fun x i => Host.dynamicSlice S1x4x64 x (fun k => (i k (Shape.Idx.first h_S_)).toInt) sliceFits_S2048x4x64_S1x4x64),
    StableHlo.TRef.reshape (StableHlo.TRef.of (T := ⟨S1x4x64, .f32⟩) main_while0b_call5_v0) (StableHlo.TRef.of (T := ⟨S4x64, .f32⟩) main_while0b_v41) (rfl : (.f32 : EltTy) = .f32) shapeCasts_S1x4x64_S4x64 ]

theorem bodyF0_sub : (bodyF0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.unaryIndexed_bufs_sub .., StableHlo.reshape_bufs_sub ..⟩

/-- The buffers they write. -/
abbrev bodyF0_W : List (Ref sig .tc) := [main_while0b_call0_c, main_while0b_call0_c_0, main_while0b_call0_v0, main_while0b_v36, main_while0b_call1_c, main_while0b_call1_c_0, main_while0b_call1_v0, main_while0b_v37, main_while0b_call2_c, main_while0b_call2_c_0, main_while0b_call2_v0, main_while0b_v38, main_while0b_call3_c, main_while0b_call3_c_0, main_while0b_call3_v0, main_while0b_v39, main_while0b_call4_c, main_while0b_call4_c_0, main_while0b_call4_v0, main_while0b_v40, main_while0b_call5_c, main_while0b_call5_c_0, main_while0b_call5_v0, main_while0b_v41]

theorem bodyF0_writes : (bodyF0 : List (HloOp τ sig (Elt F))).Forall fun op => op.writes ⊆ (bodyF0_W.map (Proc.devRef (τ := τ) .tc)).toFinset :=
  StableHlo.forall_writes_sub_of_map rfl

theorem bodyF0_of (V : Valuation τ sig (Elt F)) (r : Ref sig .tc) (h : r ∉ bodyF0_W) : StableHlo.after bodyF0 V (Proc.devRef .tc r) = V (Proc.devRef .tc r) :=
  StableHlo.after_of_writes_sub bodyF0 _ bodyF0_writes h

/-- Stretch 1 of the forward loop's body. -/
abbrev bodyF1 : List (HloOp τ sig (Elt F)) :=
  [ StableHlo.unary main_while0b_v40 main_while0b_v42 (broadcastInDim S4x1x64 ![0, 2] bcast_S4x64_S4x1x64_0_2 : Arr F S4x64 → Arr F S4x1x64),
    StableHlo.unary main_while0b_v42 main_while0b_v43 (broadcastInDim S4x64x64 ![0, 1, 2] bcast_S4x1x64_S4x64x64_0_1_2 : Arr F S4x1x64 → Arr F S4x64x64),
    StableHlo.binary main_v18_7 main_while0b_v43 main_while0b_v44 (mulf : Arr F S4x64x64 → Arr F S4x64x64 → Arr F S4x64x64),
    StableHlo.nullary main_while0b_cst_36 (constant S_ .f32 0x00000000#32),
    StableHlo.binary main_while0b_v44 main_while0b_cst_36 main_while0b_v45 ((fun x v => Host.reduceAdd x v reducesTo_S4x64x64_S4x64_d2 h_S_) : Arr F S4x64x64 → Arr F S_ → Arr F S4x64),
    StableHlo.unary main_while0b_v37 main_while0b_v46 (broadcastInDim S4x1x64 ![0, 2] bcast_S4x64_S4x1x64_0_2 : Arr F S4x64 → Arr F S4x1x64),
    StableHlo.unary main_while0b_v46 main_while0b_v47 (broadcastInDim S4x64x64 ![0, 1, 2] bcast_S4x1x64_S4x64x64_0_1_2 : Arr F S4x1x64 → Arr F S4x64x64),
    StableHlo.binary main_v18_7 main_while0b_v47 main_while0b_v48 (mulf : Arr F S4x64x64 → Arr F S4x64x64 → Arr F S4x64x64),
    StableHlo.unary main_while0b_v45 main_while0b_v49 (broadcastInDim S4x64x1 ![0, 1] bcast_S4x64_S4x64x1_0_1 : Arr F S4x64 → Arr F S4x64x1),
    StableHlo.unary main_while0b_v41 main_while0b_v50 (broadcastInDim S4x1x64 ![0, 2] bcast_S4x64_S4x1x64_0_2 : Arr F S4x64 → Arr F S4x1x64),
    StableHlo.unary main_while0b_v49 main_while0b_v51 (broadcastInDim S4x64x64 ![0, 1, 2] bcast_S4x64x1_S4x64x64_0_1_2 : Arr F S4x64x1 → Arr F S4x64x64),
    StableHlo.unary main_while0b_v50 main_while0b_v52 (broadcastInDim S4x64x64 ![0, 1, 2] bcast_S4x1x64_S4x64x64_0_1_2 : Arr F S4x1x64 → Arr F S4x64x64),
    StableHlo.binary main_while0b_v51 main_while0b_v52 main_while0b_v53 (mulf : Arr F S4x64x64 → Arr F S4x64x64 → Arr F S4x64x64),
    StableHlo.binary main_while0b_v48 main_while0b_v53 main_while0b_v54 (addf : Arr F S4x64x64 → Arr F S4x64x64 → Arr F S4x64x64),
    StableHlo.unary main_while0b_v39 main_while0b_v55 (broadcastInDim S4x64x1 ![0, 1] bcast_S4x64_S4x64x1_0_1 : Arr F S4x64 → Arr F S4x64x1),
    StableHlo.unary main_while0b_v38 main_while0b_v56 (broadcastInDim S4x1x64 ![0, 2] bcast_S4x64_S4x1x64_0_2 : Arr F S4x64 → Arr F S4x1x64),
    StableHlo.unary main_while0b_v55 main_while0b_v57 (broadcastInDim S4x64x64 ![0, 1, 2] bcast_S4x64x1_S4x64x64_0_1_2 : Arr F S4x64x1 → Arr F S4x64x64),
    StableHlo.unary main_while0b_v56 main_while0b_v58 (broadcastInDim S4x64x64 ![0, 1, 2] bcast_S4x1x64_S4x64x64_0_1_2 : Arr F S4x1x64 → Arr F S4x64x64),
    StableHlo.binary main_while0b_v57 main_while0b_v58 main_while0b_v59 (mulf : Arr F S4x64x64 → Arr F S4x64x64 → Arr F S4x64x64),
    StableHlo.binary main_while0b_v54 main_while0b_v59 main_while0b_v60 (addf : Arr F S4x64x64 → Arr F S4x64x64 → Arr F S4x64x64),
    StableHlo.unary main_while0b_v36 main_while0b_v61 (broadcastInDim S4x1x64 ![0, 2] bcast_S4x64_S4x1x64_0_2 : Arr F S4x64 → Arr F S4x1x64),
    StableHlo.unary main_while0b_v61 main_while0b_v62 (broadcastInDim S4x64x64 ![0, 1, 2] bcast_S4x1x64_S4x64x64_0_1_2 : Arr F S4x1x64 → Arr F S4x64x64),
    StableHlo.binary main_while0b_v60 main_while0b_v62 main_while0b_v63 (mulf : Arr F S4x64x64 → Arr F S4x64x64 → Arr F S4x64x64),
    StableHlo.nullary main_while0b_cst_37 (constant S_ .f32 0x00000000#32),
    StableHlo.binary main_while0b_v63 main_while0b_cst_37 main_while0b_v64 ((fun x v => Host.reduceAdd x v reducesTo_S4x64x64_S4x64_d2 h_S_) : Arr F S4x64x64 → Arr F S_ → Arr F S4x64) ]

theorem bodyF1_sub : (bodyF1 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.binary_bufs_sub ..⟩

/-- The buffers they write. -/
abbrev bodyF1_W : List (Ref sig .tc) := [main_while0b_v42, main_while0b_v43, main_while0b_v44, main_while0b_cst_36, main_while0b_v45, main_while0b_v46, main_while0b_v47, main_while0b_v48, main_while0b_v49, main_while0b_v50, main_while0b_v51, main_while0b_v52, main_while0b_v53, main_while0b_v54, main_while0b_v55, main_while0b_v56, main_while0b_v57, main_while0b_v58, main_while0b_v59, main_while0b_v60, main_while0b_v61, main_while0b_v62, main_while0b_v63, main_while0b_cst_37, main_while0b_v64]

theorem bodyF1_writes : (bodyF1 : List (HloOp τ sig (Elt F))).Forall fun op => op.writes ⊆ (bodyF1_W.map (Proc.devRef (τ := τ) .tc)).toFinset :=
  StableHlo.forall_writes_sub_of_map rfl

theorem bodyF1_of (V : Valuation τ sig (Elt F)) (r : Ref sig .tc) (h : r ∉ bodyF1_W) : StableHlo.after bodyF1 V (Proc.devRef .tc r) = V (Proc.devRef .tc r) :=
  StableHlo.after_of_writes_sub bodyF1 _ bodyF1_writes h

/-- Stretch 2 of the forward loop's body. -/
abbrev bodyF2 : List (HloOp τ sig (Elt F)) :=
  [ StableHlo.TRef.unary (StableHlo.TRef.of (T := ⟨S4x64, .f32⟩) main_while0b_v64) (StableHlo.TRef.of (T := ⟨S1x4x64, .f32⟩) main_while0b_call6_v0) (broadcastInDim S1x4x64 ![1, 2] bcast_S4x64_S1x4x64_1_2),
    StableHlo.TRef.nullary (StableHlo.TRef.of (T := ⟨S_, .i32⟩) main_while0b_call6_c) (constantI S_ 32 0#32),
    StableHlo.TRef.nullary (StableHlo.TRef.of (T := ⟨S_, .i32⟩) main_while0b_call6_c_0) (constantI S_ 32 0#32),
    StableHlo.TRef.binaryIndexed (StableHlo.TRef.of (T := ⟨S2048x4x64, .f32⟩) main_v18_8) (StableHlo.TRef.of (T := ⟨S1x4x64, .f32⟩) main_while0b_call6_v0) ![(StableHlo.TRef.of (T := ⟨S_, .i32⟩) main_v18_6), (StableHlo.TRef.of (T := ⟨S_, .i32⟩) main_while0b_call6_c), (StableHlo.TRef.of (T := ⟨S_, .i32⟩) main_while0b_call6_c_0)] (StableHlo.TRef.of (T := ⟨S2048x4x64, .f32⟩) main_while0b_v65) (fun x u i => Host.dynamicUpdateSlice x u (fun k => (i k (Shape.Idx.first h_S_)).toInt) updateFits_S2048x4x64_S1x4x64),
    StableHlo.TRef.unary (StableHlo.TRef.of (T := ⟨S4x1x64, .f32⟩) main_while0b_v42) (StableHlo.TRef.of (T := ⟨S1x4x1x64, .f32⟩) main_while0b_call7_v0) (broadcastInDim S1x4x1x64 ![1, 2, 3] bcast_S4x1x64_S1x4x1x64_1_2_3),
    StableHlo.TRef.nullary (StableHlo.TRef.of (T := ⟨S_, .i32⟩) main_while0b_call7_c) (constantI S_ 32 0#32),
    StableHlo.TRef.nullary (StableHlo.TRef.of (T := ⟨S_, .i32⟩) main_while0b_call7_c_0) (constantI S_ 32 0#32),
    StableHlo.TRef.nullary (StableHlo.TRef.of (T := ⟨S_, .i32⟩) main_while0b_call7_c_1) (constantI S_ 32 0#32),
    StableHlo.TRef.binaryIndexed (StableHlo.TRef.of (T := ⟨S2048x4x1x64, .f32⟩) main_v18_9) (StableHlo.TRef.of (T := ⟨S1x4x1x64, .f32⟩) main_while0b_call7_v0) ![(StableHlo.TRef.of (T := ⟨S_, .i32⟩) main_v18_6), (StableHlo.TRef.of (T := ⟨S_, .i32⟩) main_while0b_call7_c), (StableHlo.TRef.of (T := ⟨S_, .i32⟩) main_while0b_call7_c_0), (StableHlo.TRef.of (T := ⟨S_, .i32⟩) main_while0b_call7_c_1)] (StableHlo.TRef.of (T := ⟨S2048x4x1x64, .f32⟩) main_while0b_v66) (fun x u i => Host.dynamicUpdateSlice x u (fun k => (i k (Shape.Idx.first h_S_)).toInt) updateFits_S2048x4x1x64_S1x4x1x64),
    StableHlo.TRef.unary (StableHlo.TRef.of (T := ⟨S4x64x64, .f32⟩) main_v18_7) (StableHlo.TRef.of (T := ⟨S1x4x64x64, .f32⟩) main_while0b_call8_v0) (broadcastInDim S1x4x64x64 ![1, 2, 3] bcast_S4x64x64_S1x4x64x64_1_2_3),
    StableHlo.TRef.nullary (StableHlo.TRef.of (T := ⟨S_, .i32⟩) main_while0b_call8_c) (constantI S_ 32 0#32),
    StableHlo.TRef.nullary (StableHlo.TRef.of (T := ⟨S_, .i32⟩) main_while0b_call8_c_0) (constantI S_ 32 0#32),
    StableHlo.TRef.nullary (StableHlo.TRef.of (T := ⟨S_, .i32⟩) main_while0b_call8_c_1) (constantI S_ 32 0#32),
    StableHlo.TRef.binaryIndexed (StableHlo.TRef.of (T := ⟨S2048x4x64x64, .f32⟩) main_v18_10) (StableHlo.TRef.of (T := ⟨S1x4x64x64, .f32⟩) main_while0b_call8_v0) ![(StableHlo.TRef.of (T := ⟨S_, .i32⟩) main_v18_6), (StableHlo.TRef.of (T := ⟨S_, .i32⟩) main_while0b_call8_c), (StableHlo.TRef.of (T := ⟨S_, .i32⟩) main_while0b_call8_c_0), (StableHlo.TRef.of (T := ⟨S_, .i32⟩) main_while0b_call8_c_1)] (StableHlo.TRef.of (T := ⟨S2048x4x64x64, .f32⟩) main_while0b_v67) (fun x u i => Host.dynamicUpdateSlice x u (fun k => (i k (Shape.Idx.first h_S_)).toInt) updateFits_S2048x4x64x64_S1x4x64x64),
    StableHlo.TRef.unary (StableHlo.TRef.of (T := ⟨S4x1x64, .f32⟩) main_while0b_v46) (StableHlo.TRef.of (T := ⟨S1x4x1x64, .f32⟩) main_while0b_call9_v0) (broadcastInDim S1x4x1x64 ![1, 2, 3] bcast_S4x1x64_S1x4x1x64_1_2_3),
    StableHlo.TRef.nullary (StableHlo.TRef.of (T := ⟨S_, .i32⟩) main_while0b_call9_c) (constantI S_ 32 0#32),
    StableHlo.TRef.nullary (StableHlo.TRef.of (T := ⟨S_, .i32⟩) main_while0b_call9_c_0) (constantI S_ 32 0#32),
    StableHlo.TRef.nullary (StableHlo.TRef.of (T := ⟨S_, .i32⟩) main_while0b_call9_c_1) (constantI S_ 32 0#32),
    StableHlo.TRef.binaryIndexed (StableHlo.TRef.of (T := ⟨S2048x4x1x64, .f32⟩) main_v18_11) (StableHlo.TRef.of (T := ⟨S1x4x1x64, .f32⟩) main_while0b_call9_v0) ![(StableHlo.TRef.of (T := ⟨S_, .i32⟩) main_v18_6), (StableHlo.TRef.of (T := ⟨S_, .i32⟩) main_while0b_call9_c), (StableHlo.TRef.of (T := ⟨S_, .i32⟩) main_while0b_call9_c_0), (StableHlo.TRef.of (T := ⟨S_, .i32⟩) main_while0b_call9_c_1)] (StableHlo.TRef.of (T := ⟨S2048x4x1x64, .f32⟩) main_while0b_v68) (fun x u i => Host.dynamicUpdateSlice x u (fun k => (i k (Shape.Idx.first h_S_)).toInt) updateFits_S2048x4x1x64_S1x4x1x64),
    StableHlo.TRef.unary (StableHlo.TRef.of (T := ⟨S4x1x64, .f32⟩) main_while0b_v50) (StableHlo.TRef.of (T := ⟨S1x4x1x64, .f32⟩) main_while0b_call10_v0) (broadcastInDim S1x4x1x64 ![1, 2, 3] bcast_S4x1x64_S1x4x1x64_1_2_3),
    StableHlo.TRef.nullary (StableHlo.TRef.of (T := ⟨S_, .i32⟩) main_while0b_call10_c) (constantI S_ 32 0#32),
    StableHlo.TRef.nullary (StableHlo.TRef.of (T := ⟨S_, .i32⟩) main_while0b_call10_c_0) (constantI S_ 32 0#32),
    StableHlo.TRef.nullary (StableHlo.TRef.of (T := ⟨S_, .i32⟩) main_while0b_call10_c_1) (constantI S_ 32 0#32),
    StableHlo.TRef.binaryIndexed (StableHlo.TRef.of (T := ⟨S2048x4x1x64, .f32⟩) main_v18_12) (StableHlo.TRef.of (T := ⟨S1x4x1x64, .f32⟩) main_while0b_call10_v0) ![(StableHlo.TRef.of (T := ⟨S_, .i32⟩) main_v18_6), (StableHlo.TRef.of (T := ⟨S_, .i32⟩) main_while0b_call10_c), (StableHlo.TRef.of (T := ⟨S_, .i32⟩) main_while0b_call10_c_0), (StableHlo.TRef.of (T := ⟨S_, .i32⟩) main_while0b_call10_c_1)] (StableHlo.TRef.of (T := ⟨S2048x4x1x64, .f32⟩) main_while0b_v69) (fun x u i => Host.dynamicUpdateSlice x u (fun k => (i k (Shape.Idx.first h_S_)).toInt) updateFits_S2048x4x1x64_S1x4x1x64),
    StableHlo.TRef.unary (StableHlo.TRef.of (T := ⟨S4x64x1, .f32⟩) main_while0b_v49) (StableHlo.TRef.of (T := ⟨S1x4x64x1, .f32⟩) main_while0b_call11_v0) (broadcastInDim S1x4x64x1 ![1, 2, 3] bcast_S4x64x1_S1x4x64x1_1_2_3),
    StableHlo.TRef.nullary (StableHlo.TRef.of (T := ⟨S_, .i32⟩) main_while0b_call11_c) (constantI S_ 32 0#32),
    StableHlo.TRef.nullary (StableHlo.TRef.of (T := ⟨S_, .i32⟩) main_while0b_call11_c_0) (constantI S_ 32 0#32),
    StableHlo.TRef.nullary (StableHlo.TRef.of (T := ⟨S_, .i32⟩) main_while0b_call11_c_1) (constantI S_ 32 0#32),
    StableHlo.TRef.binaryIndexed (StableHlo.TRef.of (T := ⟨S2048x4x64x1, .f32⟩) main_v18_13) (StableHlo.TRef.of (T := ⟨S1x4x64x1, .f32⟩) main_while0b_call11_v0) ![(StableHlo.TRef.of (T := ⟨S_, .i32⟩) main_v18_6), (StableHlo.TRef.of (T := ⟨S_, .i32⟩) main_while0b_call11_c), (StableHlo.TRef.of (T := ⟨S_, .i32⟩) main_while0b_call11_c_0), (StableHlo.TRef.of (T := ⟨S_, .i32⟩) main_while0b_call11_c_1)] (StableHlo.TRef.of (T := ⟨S2048x4x64x1, .f32⟩) main_while0b_v70) (fun x u i => Host.dynamicUpdateSlice x u (fun k => (i k (Shape.Idx.first h_S_)).toInt) updateFits_S2048x4x64x1_S1x4x64x1),
    StableHlo.TRef.unary (StableHlo.TRef.of (T := ⟨S4x1x64, .f32⟩) main_while0b_v56) (StableHlo.TRef.of (T := ⟨S1x4x1x64, .f32⟩) main_while0b_call12_v0) (broadcastInDim S1x4x1x64 ![1, 2, 3] bcast_S4x1x64_S1x4x1x64_1_2_3),
    StableHlo.TRef.nullary (StableHlo.TRef.of (T := ⟨S_, .i32⟩) main_while0b_call12_c) (constantI S_ 32 0#32),
    StableHlo.TRef.nullary (StableHlo.TRef.of (T := ⟨S_, .i32⟩) main_while0b_call12_c_0) (constantI S_ 32 0#32),
    StableHlo.TRef.nullary (StableHlo.TRef.of (T := ⟨S_, .i32⟩) main_while0b_call12_c_1) (constantI S_ 32 0#32),
    StableHlo.TRef.binaryIndexed (StableHlo.TRef.of (T := ⟨S2048x4x1x64, .f32⟩) main_v18_14) (StableHlo.TRef.of (T := ⟨S1x4x1x64, .f32⟩) main_while0b_call12_v0) ![(StableHlo.TRef.of (T := ⟨S_, .i32⟩) main_v18_6), (StableHlo.TRef.of (T := ⟨S_, .i32⟩) main_while0b_call12_c), (StableHlo.TRef.of (T := ⟨S_, .i32⟩) main_while0b_call12_c_0), (StableHlo.TRef.of (T := ⟨S_, .i32⟩) main_while0b_call12_c_1)] (StableHlo.TRef.of (T := ⟨S2048x4x1x64, .f32⟩) main_while0b_v71) (fun x u i => Host.dynamicUpdateSlice x u (fun k => (i k (Shape.Idx.first h_S_)).toInt) updateFits_S2048x4x1x64_S1x4x1x64),
    StableHlo.TRef.unary (StableHlo.TRef.of (T := ⟨S4x64x1, .f32⟩) main_while0b_v55) (StableHlo.TRef.of (T := ⟨S1x4x64x1, .f32⟩) main_while0b_call13_v0) (broadcastInDim S1x4x64x1 ![1, 2, 3] bcast_S4x64x1_S1x4x64x1_1_2_3),
    StableHlo.TRef.nullary (StableHlo.TRef.of (T := ⟨S_, .i32⟩) main_while0b_call13_c) (constantI S_ 32 0#32),
    StableHlo.TRef.nullary (StableHlo.TRef.of (T := ⟨S_, .i32⟩) main_while0b_call13_c_0) (constantI S_ 32 0#32),
    StableHlo.TRef.nullary (StableHlo.TRef.of (T := ⟨S_, .i32⟩) main_while0b_call13_c_1) (constantI S_ 32 0#32),
    StableHlo.TRef.binaryIndexed (StableHlo.TRef.of (T := ⟨S2048x4x64x1, .f32⟩) main_v18_15) (StableHlo.TRef.of (T := ⟨S1x4x64x1, .f32⟩) main_while0b_call13_v0) ![(StableHlo.TRef.of (T := ⟨S_, .i32⟩) main_v18_6), (StableHlo.TRef.of (T := ⟨S_, .i32⟩) main_while0b_call13_c), (StableHlo.TRef.of (T := ⟨S_, .i32⟩) main_while0b_call13_c_0), (StableHlo.TRef.of (T := ⟨S_, .i32⟩) main_while0b_call13_c_1)] (StableHlo.TRef.of (T := ⟨S2048x4x64x1, .f32⟩) main_while0b_v72) (fun x u i => Host.dynamicUpdateSlice x u (fun k => (i k (Shape.Idx.first h_S_)).toInt) updateFits_S2048x4x64x1_S1x4x64x1),
    StableHlo.TRef.unary (StableHlo.TRef.of (T := ⟨S4x1x64, .f32⟩) main_while0b_v61) (StableHlo.TRef.of (T := ⟨S1x4x1x64, .f32⟩) main_while0b_call14_v0) (broadcastInDim S1x4x1x64 ![1, 2, 3] bcast_S4x1x64_S1x4x1x64_1_2_3),
    StableHlo.TRef.nullary (StableHlo.TRef.of (T := ⟨S_, .i32⟩) main_while0b_call14_c) (constantI S_ 32 0#32),
    StableHlo.TRef.nullary (StableHlo.TRef.of (T := ⟨S_, .i32⟩) main_while0b_call14_c_0) (constantI S_ 32 0#32),
    StableHlo.TRef.nullary (StableHlo.TRef.of (T := ⟨S_, .i32⟩) main_while0b_call14_c_1) (constantI S_ 32 0#32),
    StableHlo.TRef.binaryIndexed (StableHlo.TRef.of (T := ⟨S2048x4x1x64, .f32⟩) main_v18_16) (StableHlo.TRef.of (T := ⟨S1x4x1x64, .f32⟩) main_while0b_call14_v0) ![(StableHlo.TRef.of (T := ⟨S_, .i32⟩) main_v18_6), (StableHlo.TRef.of (T := ⟨S_, .i32⟩) main_while0b_call14_c), (StableHlo.TRef.of (T := ⟨S_, .i32⟩) main_while0b_call14_c_0), (StableHlo.TRef.of (T := ⟨S_, .i32⟩) main_while0b_call14_c_1)] (StableHlo.TRef.of (T := ⟨S2048x4x1x64, .f32⟩) main_while0b_v73) (fun x u i => Host.dynamicUpdateSlice x u (fun k => (i k (Shape.Idx.first h_S_)).toInt) updateFits_S2048x4x1x64_S1x4x1x64),
    StableHlo.TRef.unary (StableHlo.TRef.of (T := ⟨S4x64x64, .f32⟩) main_while0b_v60) (StableHlo.TRef.of (T := ⟨S1x4x64x64, .f32⟩) main_while0b_call15_v0) (broadcastInDim S1x4x64x64 ![1, 2, 3] bcast_S4x64x64_S1x4x64x64_1_2_3),
    StableHlo.TRef.nullary (StableHlo.TRef.of (T := ⟨S_, .i32⟩) main_while0b_call15_c) (constantI S_ 32 0#32),
    StableHlo.TRef.nullary (StableHlo.TRef.of (T := ⟨S_, .i32⟩) main_while0b_call15_c_0) (constantI S_ 32 0#32),
    StableHlo.TRef.nullary (StableHlo.TRef.of (T := ⟨S_, .i32⟩) main_while0b_call15_c_1) (constantI S_ 32 0#32),
    StableHlo.TRef.binaryIndexed (StableHlo.TRef.of (T := ⟨S2048x4x64x64, .f32⟩) main_v18_17) (StableHlo.TRef.of (T := ⟨S1x4x64x64, .f32⟩) main_while0b_call15_v0) ![(StableHlo.TRef.of (T := ⟨S_, .i32⟩) main_v18_6), (StableHlo.TRef.of (T := ⟨S_, .i32⟩) main_while0b_call15_c), (StableHlo.TRef.of (T := ⟨S_, .i32⟩) main_while0b_call15_c_0), (StableHlo.TRef.of (T := ⟨S_, .i32⟩) main_while0b_call15_c_1)] (StableHlo.TRef.of (T := ⟨S2048x4x64x64, .f32⟩) main_while0b_v74) (fun x u i => Host.dynamicUpdateSlice x u (fun k => (i k (Shape.Idx.first h_S_)).toInt) updateFits_S2048x4x64x64_S1x4x64x64) ]

theorem bodyF2_sub : (bodyF2 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub .., StableHlo.unary_bufs_sub .., StableHlo.nullary_bufs_sub .., StableHlo.nullary_bufs_sub .., StableHlo.nullary_bufs_sub .., StableHlo.binaryIndexed_bufs_sub .., StableHlo.unary_bufs_sub .., StableHlo.nullary_bufs_sub .., StableHlo.nullary_bufs_sub .., StableHlo.nullary_bufs_sub .., StableHlo.binaryIndexed_bufs_sub .., StableHlo.unary_bufs_sub .., StableHlo.nullary_bufs_sub .., StableHlo.nullary_bufs_sub .., StableHlo.nullary_bufs_sub .., StableHlo.binaryIndexed_bufs_sub .., StableHlo.unary_bufs_sub .., StableHlo.nullary_bufs_sub .., StableHlo.nullary_bufs_sub .., StableHlo.nullary_bufs_sub .., StableHlo.binaryIndexed_bufs_sub .., StableHlo.unary_bufs_sub .., StableHlo.nullary_bufs_sub .., StableHlo.nullary_bufs_sub .., StableHlo.nullary_bufs_sub .., StableHlo.binaryIndexed_bufs_sub .., StableHlo.unary_bufs_sub .., StableHlo.nullary_bufs_sub .., StableHlo.nullary_bufs_sub .., StableHlo.nullary_bufs_sub .., StableHlo.binaryIndexed_bufs_sub .., StableHlo.unary_bufs_sub .., StableHlo.nullary_bufs_sub .., StableHlo.nullary_bufs_sub .., StableHlo.nullary_bufs_sub .., StableHlo.binaryIndexed_bufs_sub .., StableHlo.unary_bufs_sub .., StableHlo.nullary_bufs_sub .., StableHlo.nullary_bufs_sub .., StableHlo.nullary_bufs_sub .., StableHlo.binaryIndexed_bufs_sub .., StableHlo.unary_bufs_sub .., StableHlo.nullary_bufs_sub .., StableHlo.nullary_bufs_sub .., StableHlo.nullary_bufs_sub .., StableHlo.binaryIndexed_bufs_sub ..⟩

/-- The buffers they write. -/
abbrev bodyF2_W : List (Ref sig .tc) := [main_while0b_call6_v0, main_while0b_call6_c, main_while0b_call6_c_0, main_while0b_v65, main_while0b_call7_v0, main_while0b_call7_c, main_while0b_call7_c_0, main_while0b_call7_c_1, main_while0b_v66, main_while0b_call8_v0, main_while0b_call8_c, main_while0b_call8_c_0, main_while0b_call8_c_1, main_while0b_v67, main_while0b_call9_v0, main_while0b_call9_c, main_while0b_call9_c_0, main_while0b_call9_c_1, main_while0b_v68, main_while0b_call10_v0, main_while0b_call10_c, main_while0b_call10_c_0, main_while0b_call10_c_1, main_while0b_v69, main_while0b_call11_v0, main_while0b_call11_c, main_while0b_call11_c_0, main_while0b_call11_c_1, main_while0b_v70, main_while0b_call12_v0, main_while0b_call12_c, main_while0b_call12_c_0, main_while0b_call12_c_1, main_while0b_v71, main_while0b_call13_v0, main_while0b_call13_c, main_while0b_call13_c_0, main_while0b_call13_c_1, main_while0b_v72, main_while0b_call14_v0, main_while0b_call14_c, main_while0b_call14_c_0, main_while0b_call14_c_1, main_while0b_v73, main_while0b_call15_v0, main_while0b_call15_c, main_while0b_call15_c_0, main_while0b_call15_c_1, main_while0b_v74]

theorem bodyF2_writes : (bodyF2 : List (HloOp τ sig (Elt F))).Forall fun op => op.writes ⊆ (bodyF2_W.map (Proc.devRef (τ := τ) .tc)).toFinset :=
  StableHlo.forall_writes_sub_of_map rfl

theorem bodyF2_of (V : Valuation τ sig (Elt F)) (r : Ref sig .tc) (h : r ∉ bodyF2_W) : StableHlo.after bodyF2 V (Proc.devRef .tc r) = V (Proc.devRef .tc r) :=
  StableHlo.after_of_writes_sub bodyF2 _ bodyF2_writes h

/-- Stretch 3 of the forward loop's body. -/
abbrev bodyF3 : List (HloOp τ sig (Elt F)) :=
  [ StableHlo.nullary main_while0b_c_38 (constantI S_ 32 1#32),
    StableHlo.binary main_v18_6 main_while0b_c_38 main_while0b_v75 (addi : (⟨S_, .i32⟩ : BufTy).Contents (Elt F) → (⟨S_, .i32⟩ : BufTy).Contents (Elt F) → (⟨S_, .i32⟩ : BufTy).Contents (Elt F)),
    StableHlo.unary main_while0b_v75 main_v18_6 id,
    StableHlo.unary main_while0b_v60 main_v18_7 id,
    StableHlo.unary main_while0b_v65 main_v18_8 id,
    StableHlo.unary main_while0b_v66 main_v18_9 id,
    StableHlo.unary main_while0b_v67 main_v18_10 id,
    StableHlo.unary main_while0b_v68 main_v18_11 id,
    StableHlo.unary main_while0b_v69 main_v18_12 id,
    StableHlo.unary main_while0b_v70 main_v18_13 id,
    StableHlo.unary main_while0b_v71 main_v18_14 id,
    StableHlo.unary main_while0b_v72 main_v18_15 id,
    StableHlo.unary main_while0b_v73 main_v18_16 id,
    StableHlo.unary main_while0b_v74 main_v18_17 id ]

theorem bodyF3_sub : (bodyF3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- The buffers they write. -/
abbrev bodyF3_W : List (Ref sig .tc) := [main_while0b_c_38, main_while0b_v75, main_v18_6, main_v18_7, main_v18_8, main_v18_9, main_v18_10, main_v18_11, main_v18_12, main_v18_13, main_v18_14, main_v18_15, main_v18_16, main_v18_17]

theorem bodyF3_writes : (bodyF3 : List (HloOp τ sig (Elt F))).Forall fun op => op.writes ⊆ (bodyF3_W.map (Proc.devRef (τ := τ) .tc)).toFinset :=
  StableHlo.forall_writes_sub_of_map rfl

theorem bodyF3_of (V : Valuation τ sig (Elt F)) (r : Ref sig .tc) (h : r ∉ bodyF3_W) : StableHlo.after bodyF3 V (Proc.devRef .tc r) = V (Proc.devRef .tc r) :=
  StableHlo.after_of_writes_sub bodyF3 _ bodyF3_writes h

/-- Stretch 0 of the backward loop's body. -/
abbrev bodyB0 : List (HloOp τ sig (Elt F)) :=
  [ StableHlo.nullary main_while1b_c_36 (constantI S_ 32 2048#32),
    StableHlo.binary main_while1b_c_36 main_v29_10 main_while1b_v36 (subi : (⟨S_, .i32⟩ : BufTy).Contents (Elt F) → (⟨S_, .i32⟩ : BufTy).Contents (Elt F) → (⟨S_, .i32⟩ : BufTy).Contents (Elt F)),
    StableHlo.nullary main_while1b_c_37 (constantI S_ 32 1#32),
    StableHlo.binary main_while1b_v36 main_while1b_c_37 main_while1b_v37 (subi : (⟨S_, .i32⟩ : BufTy).Contents (Elt F) → (⟨S_, .i32⟩ : BufTy).Contents (Elt F) → (⟨S_, .i32⟩ : BufTy).Contents (Elt F)) ]

theorem bodyB0_sub : (bodyB0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩

/-- The buffers they write. -/
abbrev bodyB0_W : List (Ref sig .tc) := [main_while1b_c_36, main_while1b_v36, main_while1b_c_37, main_while1b_v37]

theorem bodyB0_writes : (bodyB0 : List (HloOp τ sig (Elt F))).Forall fun op => op.writes ⊆ (bodyB0_W.map (Proc.devRef (τ := τ) .tc)).toFinset :=
  StableHlo.forall_writes_sub_of_map rfl

theorem bodyB0_of (V : Valuation τ sig (Elt F)) (r : Ref sig .tc) (h : r ∉ bodyB0_W) : StableHlo.after bodyB0 V (Proc.devRef .tc r) = V (Proc.devRef .tc r) :=
  StableHlo.after_of_writes_sub bodyB0 _ bodyB0_writes h

/-- Stretch 1 of the backward loop's body. -/
abbrev bodyB1 : List (HloOp τ sig (Elt F)) :=
  [ StableHlo.TRef.nullary (StableHlo.TRef.of (T := ⟨S_, .i32⟩) main_while1b_call16_c) (constantI S_ 32 0#32),
    StableHlo.TRef.nullary (StableHlo.TRef.of (T := ⟨S_, .i32⟩) main_while1b_call16_c_0) (constantI S_ 32 0#32),
    StableHlo.TRef.unaryIndexed (StableHlo.TRef.of (T := ⟨S2048x4x64, .f32⟩) main_v29_0) ![(StableHlo.TRef.of (T := ⟨S_, .i32⟩) main_while1b_v37), (StableHlo.TRef.of (T := ⟨S_, .i32⟩) main_while1b_call16_c), (StableHlo.TRef.of (T := ⟨S_, .i32⟩) main_while1b_call16_c_0)] (StableHlo.TRef.of (T := ⟨S1x4x64, .f32⟩) main_while1b_call16_v0) (fun x i => Host.dynamicSlice S1x4x64 x (fun k => (i k (Shape.Idx.first h_S_)).toInt) sliceFits_S2048x4x64_S1x4x64),
    StableHlo.TRef.reshape (StableHlo.TRef.of (T := ⟨S1x4x64, .f32⟩) main_while1b_call16_v0) (StableHlo.TRef.of (T := ⟨S4x64, .f32⟩) main_while1b_v38) (rfl : (.f32 : EltTy) = .f32) shapeCasts_S1x4x64_S4x64,
    StableHlo.TRef.nullary (StableHlo.TRef.of (T := ⟨S_, .i32⟩) main_while1b_call17_c) (constantI S_ 32 0#32),
    StableHlo.TRef.nullary (StableHlo.TRef.of (T := ⟨S_, .i32⟩) main_while1b_call17_c_0) (constantI S_ 32 0#32),
    StableHlo.TRef.nullary (StableHlo.TRef.of (T := ⟨S_, .i32⟩) main_while1b_call17_c_1) (constantI S_ 32 0#32),
    StableHlo.TRef.unaryIndexed (StableHlo.TRef.of (T := ⟨S2048x4x1x64, .f32⟩) main_v29_1) ![(StableHlo.TRef.of (T := ⟨S_, .i32⟩) main_while1b_v37), (StableHlo.TRef.of (T := ⟨S_, .i32⟩) main_while1b_call17_c), (StableHlo.TRef.of (T := ⟨S_, .i32⟩) main_while1b_call17_c_0), (StableHlo.TRef.of (T := ⟨S_, .i32⟩) main_while1b_call17_c_1)] (StableHlo.TRef.of (T := ⟨S1x4x1x64, .f32⟩) main_while1b_call17_v0) (fun x i => Host.dynamicSlice S1x4x1x64 x (fun k => (i k (Shape.Idx.first h_S_)).toInt) sliceFits_S2048x4x1x64_S1x4x1x64),
    StableHlo.TRef.reshape (StableHlo.TRef.of (T := ⟨S1x4x1x64, .f32⟩) main_while1b_call17_v0) (StableHlo.TRef.of (T := ⟨S4x1x64, .f32⟩) main_while1b_v39) (rfl : (.f32 : EltTy) = .f32) shapeCasts_S1x4x1x64_S4x1x64,
    StableHlo.TRef.nullary (StableHlo.TRef.of (T := ⟨S_, .i32⟩) main_while1b_call18_c) (constantI S_ 32 0#32),
    StableHlo.TRef.nullary (StableHlo.TRef.of (T := ⟨S_, .i32⟩) main_while1b_call18_c_0) (constantI S_ 32 0#32),
    StableHlo.TRef.nullary (StableHlo.TRef.of (T := ⟨S_, .i32⟩) main_while1b_call18_c_1) (constantI S_ 32 0#32),
    StableHlo.TRef.unaryIndexed (StableHlo.TRef.of (T := ⟨S2048x4x64x64, .f32⟩) main_v29_2) ![(StableHlo.TRef.of (T := ⟨S_, .i32⟩) main_while1b_v37), (StableHlo.TRef.of (T := ⟨S_, .i32⟩) main_while1b_call18_c), (StableHlo.TRef.of (T := ⟨S_, .i32⟩) main_while1b_call18_c_0), (StableHlo.TRef.of (T := ⟨S_, .i32⟩) main_while1b_call18_c_1)] (StableHlo.TRef.of (T := ⟨S1x4x64x64, .f32⟩) main_while1b_call18_v0) (fun x i => Host.dynamicSlice S1x4x64x64 x (fun k => (i k (Shape.Idx.first h_S_)).toInt) sliceFits_S2048x4x64x64_S1x4x64x64),
    StableHlo.TRef.reshape (StableHlo.TRef.of (T := ⟨S1x4x64x64, .f32⟩) main_while1b_call18_v0) (StableHlo.TRef.of (T := ⟨S4x64x64, .f32⟩) main_while1b_v40) (rfl : (.f32 : EltTy) = .f32) shapeCasts_S1x4x64x64_S4x64x64,
    StableHlo.TRef.nullary (StableHlo.TRef.of (T := ⟨S_, .i32⟩) main_while1b_call19_c) (constantI S_ 32 0#32),
    StableHlo.TRef.nullary (StableHlo.TRef.of (T := ⟨S_, .i32⟩) main_while1b_call19_c_0) (constantI S_ 32 0#32),
    StableHlo.TRef.nullary (StableHlo.TRef.of (T := ⟨S_, .i32⟩) main_while1b_call19_c_1) (constantI S_ 32 0#32),
    StableHlo.TRef.unaryIndexed (StableHlo.TRef.of (T := ⟨S2048x4x1x64, .f32⟩) main_v29_3) ![(StableHlo.TRef.of (T := ⟨S_, .i32⟩) main_while1b_v37), (StableHlo.TRef.of (T := ⟨S_, .i32⟩) main_while1b_call19_c), (StableHlo.TRef.of (T := ⟨S_, .i32⟩) main_while1b_call19_c_0), (StableHlo.TRef.of (T := ⟨S_, .i32⟩) main_while1b_call19_c_1)] (StableHlo.TRef.of (T := ⟨S1x4x1x64, .f32⟩) main_while1b_call19_v0) (fun x i => Host.dynamicSlice S1x4x1x64 x (fun k => (i k (Shape.Idx.first h_S_)).toInt) sliceFits_S2048x4x1x64_S1x4x1x64),
    StableHlo.TRef.reshape (StableHlo.TRef.of (T := ⟨S1x4x1x64, .f32⟩) main_while1b_call19_v0) (StableHlo.TRef.of (T := ⟨S4x1x64, .f32⟩) main_while1b_v41) (rfl : (.f32 : EltTy) = .f32) shapeCasts_S1x4x1x64_S4x1x64,
    StableHlo.TRef.nullary (StableHlo.TRef.of (T := ⟨S_, .i32⟩) main_while1b_call20_c) (constantI S_ 32 0#32),
    StableHlo.TRef.nullary (StableHlo.TRef.of (T := ⟨S_, .i32⟩) main_while1b_call20_c_0) (constantI S_ 32 0#32),
    StableHlo.TRef.nullary (StableHlo.TRef.of (T := ⟨S_, .i32⟩) main_while1b_call20_c_1) (constantI S_ 32 0#32),
    StableHlo.TRef.unaryIndexed (StableHlo.TRef.of (T := ⟨S2048x4x1x64, .f32⟩) main_v29_4) ![(StableHlo.TRef.of (T := ⟨S_, .i32⟩) main_while1b_v37), (StableHlo.TRef.of (T := ⟨S_, .i32⟩) main_while1b_call20_c), (StableHlo.TRef.of (T := ⟨S_, .i32⟩) main_while1b_call20_c_0), (StableHlo.TRef.of (T := ⟨S_, .i32⟩) main_while1b_call20_c_1)] (StableHlo.TRef.of (T := ⟨S1x4x1x64, .f32⟩) main_while1b_call20_v0) (fun x i => Host.dynamicSlice S1x4x1x64 x (fun k => (i k (Shape.Idx.first h_S_)).toInt) sliceFits_S2048x4x1x64_S1x4x1x64),
    StableHlo.TRef.reshape (StableHlo.TRef.of (T := ⟨S1x4x1x64, .f32⟩) main_while1b_call20_v0) (StableHlo.TRef.of (T := ⟨S4x1x64, .f32⟩) main_while1b_v42) (rfl : (.f32 : EltTy) = .f32) shapeCasts_S1x4x1x64_S4x1x64,
    StableHlo.TRef.nullary (StableHlo.TRef.of (T := ⟨S_, .i32⟩) main_while1b_call21_c) (constantI S_ 32 0#32),
    StableHlo.TRef.nullary (StableHlo.TRef.of (T := ⟨S_, .i32⟩) main_while1b_call21_c_0) (constantI S_ 32 0#32),
    StableHlo.TRef.nullary (StableHlo.TRef.of (T := ⟨S_, .i32⟩) main_while1b_call21_c_1) (constantI S_ 32 0#32),
    StableHlo.TRef.unaryIndexed (StableHlo.TRef.of (T := ⟨S2048x4x64x1, .f32⟩) main_v29_5) ![(StableHlo.TRef.of (T := ⟨S_, .i32⟩) main_while1b_v37), (StableHlo.TRef.of (T := ⟨S_, .i32⟩) main_while1b_call21_c), (StableHlo.TRef.of (T := ⟨S_, .i32⟩) main_while1b_call21_c_0), (StableHlo.TRef.of (T := ⟨S_, .i32⟩) main_while1b_call21_c_1)] (StableHlo.TRef.of (T := ⟨S1x4x64x1, .f32⟩) main_while1b_call21_v0) (fun x i => Host.dynamicSlice S1x4x64x1 x (fun k => (i k (Shape.Idx.first h_S_)).toInt) sliceFits_S2048x4x64x1_S1x4x64x1),
    StableHlo.TRef.reshape (StableHlo.TRef.of (T := ⟨S1x4x64x1, .f32⟩) main_while1b_call21_v0) (StableHlo.TRef.of (T := ⟨S4x64x1, .f32⟩) main_while1b_v43) (rfl : (.f32 : EltTy) = .f32) shapeCasts_S1x4x64x1_S4x64x1,
    StableHlo.TRef.nullary (StableHlo.TRef.of (T := ⟨S_, .i32⟩) main_while1b_call22_c) (constantI S_ 32 0#32),
    StableHlo.TRef.nullary (StableHlo.TRef.of (T := ⟨S_, .i32⟩) main_while1b_call22_c_0) (constantI S_ 32 0#32),
    StableHlo.TRef.nullary (StableHlo.TRef.of (T := ⟨S_, .i32⟩) main_while1b_call22_c_1) (constantI S_ 32 0#32),
    StableHlo.TRef.unaryIndexed (StableHlo.TRef.of (T := ⟨S2048x4x1x64, .f32⟩) main_v29_6) ![(StableHlo.TRef.of (T := ⟨S_, .i32⟩) main_while1b_v37), (StableHlo.TRef.of (T := ⟨S_, .i32⟩) main_while1b_call22_c), (StableHlo.TRef.of (T := ⟨S_, .i32⟩) main_while1b_call22_c_0), (StableHlo.TRef.of (T := ⟨S_, .i32⟩) main_while1b_call22_c_1)] (StableHlo.TRef.of (T := ⟨S1x4x1x64, .f32⟩) main_while1b_call22_v0) (fun x i => Host.dynamicSlice S1x4x1x64 x (fun k => (i k (Shape.Idx.first h_S_)).toInt) sliceFits_S2048x4x1x64_S1x4x1x64),
    StableHlo.TRef.reshape (StableHlo.TRef.of (T := ⟨S1x4x1x64, .f32⟩) main_while1b_call22_v0) (StableHlo.TRef.of (T := ⟨S4x1x64, .f32⟩) main_while1b_v44) (rfl : (.f32 : EltTy) = .f32) shapeCasts_S1x4x1x64_S4x1x64,
    StableHlo.TRef.nullary (StableHlo.TRef.of (T := ⟨S_, .i32⟩) main_while1b_call23_c) (constantI S_ 32 0#32),
    StableHlo.TRef.nullary (StableHlo.TRef.of (T := ⟨S_, .i32⟩) main_while1b_call23_c_0) (constantI S_ 32 0#32),
    StableHlo.TRef.nullary (StableHlo.TRef.of (T := ⟨S_, .i32⟩) main_while1b_call23_c_1) (constantI S_ 32 0#32),
    StableHlo.TRef.unaryIndexed (StableHlo.TRef.of (T := ⟨S2048x4x64x1, .f32⟩) main_v29_7) ![(StableHlo.TRef.of (T := ⟨S_, .i32⟩) main_while1b_v37), (StableHlo.TRef.of (T := ⟨S_, .i32⟩) main_while1b_call23_c), (StableHlo.TRef.of (T := ⟨S_, .i32⟩) main_while1b_call23_c_0), (StableHlo.TRef.of (T := ⟨S_, .i32⟩) main_while1b_call23_c_1)] (StableHlo.TRef.of (T := ⟨S1x4x64x1, .f32⟩) main_while1b_call23_v0) (fun x i => Host.dynamicSlice S1x4x64x1 x (fun k => (i k (Shape.Idx.first h_S_)).toInt) sliceFits_S2048x4x64x1_S1x4x64x1),
    StableHlo.TRef.reshape (StableHlo.TRef.of (T := ⟨S1x4x64x1, .f32⟩) main_while1b_call23_v0) (StableHlo.TRef.of (T := ⟨S4x64x1, .f32⟩) main_while1b_v45) (rfl : (.f32 : EltTy) = .f32) shapeCasts_S1x4x64x1_S4x64x1,
    StableHlo.TRef.nullary (StableHlo.TRef.of (T := ⟨S_, .i32⟩) main_while1b_call24_c) (constantI S_ 32 0#32),
    StableHlo.TRef.nullary (StableHlo.TRef.of (T := ⟨S_, .i32⟩) main_while1b_call24_c_0) (constantI S_ 32 0#32),
    StableHlo.TRef.nullary (StableHlo.TRef.of (T := ⟨S_, .i32⟩) main_while1b_call24_c_1) (constantI S_ 32 0#32),
    StableHlo.TRef.unaryIndexed (StableHlo.TRef.of (T := ⟨S2048x4x1x64, .f32⟩) main_v29_8) ![(StableHlo.TRef.of (T := ⟨S_, .i32⟩) main_while1b_v37), (StableHlo.TRef.of (T := ⟨S_, .i32⟩) main_while1b_call24_c), (StableHlo.TRef.of (T := ⟨S_, .i32⟩) main_while1b_call24_c_0), (StableHlo.TRef.of (T := ⟨S_, .i32⟩) main_while1b_call24_c_1)] (StableHlo.TRef.of (T := ⟨S1x4x1x64, .f32⟩) main_while1b_call24_v0) (fun x i => Host.dynamicSlice S1x4x1x64 x (fun k => (i k (Shape.Idx.first h_S_)).toInt) sliceFits_S2048x4x1x64_S1x4x1x64),
    StableHlo.TRef.reshape (StableHlo.TRef.of (T := ⟨S1x4x1x64, .f32⟩) main_while1b_call24_v0) (StableHlo.TRef.of (T := ⟨S4x1x64, .f32⟩) main_while1b_v46) (rfl : (.f32 : EltTy) = .f32) shapeCasts_S1x4x1x64_S4x1x64,
    StableHlo.TRef.nullary (StableHlo.TRef.of (T := ⟨S_, .i32⟩) main_while1b_call25_c) (constantI S_ 32 0#32),
    StableHlo.TRef.nullary (StableHlo.TRef.of (T := ⟨S_, .i32⟩) main_while1b_call25_c_0) (constantI S_ 32 0#32),
    StableHlo.TRef.nullary (StableHlo.TRef.of (T := ⟨S_, .i32⟩) main_while1b_call25_c_1) (constantI S_ 32 0#32),
    StableHlo.TRef.unaryIndexed (StableHlo.TRef.of (T := ⟨S2048x4x64x64, .f32⟩) main_v29_9) ![(StableHlo.TRef.of (T := ⟨S_, .i32⟩) main_while1b_v37), (StableHlo.TRef.of (T := ⟨S_, .i32⟩) main_while1b_call25_c), (StableHlo.TRef.of (T := ⟨S_, .i32⟩) main_while1b_call25_c_0), (StableHlo.TRef.of (T := ⟨S_, .i32⟩) main_while1b_call25_c_1)] (StableHlo.TRef.of (T := ⟨S1x4x64x64, .f32⟩) main_while1b_call25_v0) (fun x i => Host.dynamicSlice S1x4x64x64 x (fun k => (i k (Shape.Idx.first h_S_)).toInt) sliceFits_S2048x4x64x64_S1x4x64x64),
    StableHlo.TRef.reshape (StableHlo.TRef.of (T := ⟨S1x4x64x64, .f32⟩) main_while1b_call25_v0) (StableHlo.TRef.of (T := ⟨S4x64x64, .f32⟩) main_while1b_v47) (rfl : (.f32 : EltTy) = .f32) shapeCasts_S1x4x64x64_S4x64x64 ]

theorem bodyB1_sub : (bodyB1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub .., StableHlo.nullary_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.nullary_bufs_sub .., StableHlo.unaryIndexed_bufs_sub .., StableHlo.reshape_bufs_sub ..⟩

/-- The buffers they write. -/
abbrev bodyB1_W : List (Ref sig .tc) := [main_while1b_call16_c, main_while1b_call16_c_0, main_while1b_call16_v0, main_while1b_v38, main_while1b_call17_c, main_while1b_call17_c_0, main_while1b_call17_c_1, main_while1b_call17_v0, main_while1b_v39, main_while1b_call18_c, main_while1b_call18_c_0, main_while1b_call18_c_1, main_while1b_call18_v0, main_while1b_v40, main_while1b_call19_c, main_while1b_call19_c_0, main_while1b_call19_c_1, main_while1b_call19_v0, main_while1b_v41, main_while1b_call20_c, main_while1b_call20_c_0, main_while1b_call20_c_1, main_while1b_call20_v0, main_while1b_v42, main_while1b_call21_c, main_while1b_call21_c_0, main_while1b_call21_c_1, main_while1b_call21_v0, main_while1b_v43, main_while1b_call22_c, main_while1b_call22_c_0, main_while1b_call22_c_1, main_while1b_call22_v0, main_while1b_v44, main_while1b_call23_c, main_while1b_call23_c_0, main_while1b_call23_c_1, main_while1b_call23_v0, main_while1b_v45, main_while1b_call24_c, main_while1b_call24_c_0, main_while1b_call24_c_1, main_while1b_call24_v0, main_while1b_v46, main_while1b_call25_c, main_while1b_call25_c_0, main_while1b_call25_c_1, main_while1b_call25_v0, main_while1b_v47]

theorem bodyB1_writes : (bodyB1 : List (HloOp τ sig (Elt F))).Forall fun op => op.writes ⊆ (bodyB1_W.map (Proc.devRef (τ := τ) .tc)).toFinset :=
  StableHlo.forall_writes_sub_of_map rfl

theorem bodyB1_of (V : Valuation τ sig (Elt F)) (r : Ref sig .tc) (h : r ∉ bodyB1_W) : StableHlo.after bodyB1 V (Proc.devRef .tc r) = V (Proc.devRef .tc r) :=
  StableHlo.after_of_writes_sub bodyB1 _ bodyB1_writes h

/-- Stretch 2 of the backward loop's body. -/
abbrev bodyB2 : List (HloOp τ sig (Elt F)) :=
  [ StableHlo.unary main_while1b_v38 main_while1b_v48 (broadcastInDim S4x64x64 ![0, 1] bcast_S4x64_S4x64x64_0_1 : Arr F S4x64 → Arr F S4x64x64),
    StableHlo.binary main_while1b_v47 main_while1b_v48 main_while1b_v49 (mulf : Arr F S4x64x64 → Arr F S4x64x64 → Arr F S4x64x64),
    StableHlo.nullary main_while1b_cst_38 (constant S_ .f32 0x00000000#32),
    StableHlo.binary main_while1b_v49 main_while1b_cst_38 main_while1b_v50 ((fun x v => Host.reduceAdd x v reducesTo_S4x64x64_S4x64_d1 h_S_) : Arr F S4x64x64 → Arr F S_ → Arr F S4x64),
    StableHlo.reshape main_while1b_v50 main_while1b_v51 (rfl : (.f32 : EltTy) = .f32) shapeCasts_S4x64_S4x1x64,
    StableHlo.unary main_while1b_v46 main_while1b_v52 (broadcastInDim S4x64x64 ![0, 1, 2] bcast_S4x1x64_S4x64x64_0_1_2 : Arr F S4x1x64 → Arr F S4x64x64),
    StableHlo.binary main_while1b_v48 main_while1b_v52 main_while1b_v53 (mulf : Arr F S4x64x64 → Arr F S4x64x64 → Arr F S4x64x64),
    StableHlo.binary main_v29_11 main_while1b_v53 main_while1b_v54 (addf : Arr F S4x64x64 → Arr F S4x64x64 → Arr F S4x64x64),
    StableHlo.nullary main_while1b_cst_39 (constant S_ .f32 0x00000000#32),
    StableHlo.binary main_while1b_v51 main_while1b_cst_39 main_while1b_v55 ((fun x v => Host.reduceAdd x v reducesTo_S4x1x64_S4x64_d1 h_S_) : Arr F S4x1x64 → Arr F S_ → Arr F S4x64),
    StableHlo.unary main_while1b_v45 main_while1b_v56 (broadcastInDim S4x64x64 ![0, 1, 2] bcast_S4x64x1_S4x64x64_0_1_2 : Arr F S4x64x1 → Arr F S4x64x64),
    StableHlo.binary main_while1b_v56 main_while1b_v54 main_while1b_v57 (mulf : Arr F S4x64x64 → Arr F S4x64x64 → Arr F S4x64x64),
    StableHlo.nullary main_while1b_cst_40 (constant S_ .f32 0x00000000#32),
    StableHlo.binary main_while1b_v57 main_while1b_cst_40 main_while1b_v58 ((fun x v => Host.reduceAdd x v reducesTo_S4x64x64_S4x64_d1 h_S_) : Arr F S4x64x64 → Arr F S_ → Arr F S4x64),
    StableHlo.reshape main_while1b_v58 main_while1b_v59 (rfl : (.f32 : EltTy) = .f32) shapeCasts_S4x64_S4x1x64,
    StableHlo.unary main_while1b_v44 main_while1b_v60 (broadcastInDim S4x64x64 ![0, 1, 2] bcast_S4x1x64_S4x64x64_0_1_2 : Arr F S4x1x64 → Arr F S4x64x64),
    StableHlo.binary main_while1b_v54 main_while1b_v60 main_while1b_v61 (mulf : Arr F S4x64x64 → Arr F S4x64x64 → Arr F S4x64x64),
    StableHlo.nullary main_while1b_cst_41 (constant S_ .f32 0x00000000#32),
    StableHlo.binary main_while1b_v61 main_while1b_cst_41 main_while1b_v62 ((fun x v => Host.reduceAdd x v reducesTo_S4x64x64_S4x64_d2 h_S_) : Arr F S4x64x64 → Arr F S_ → Arr F S4x64),
    StableHlo.reshape main_while1b_v62 main_while1b_v63 (rfl : (.f32 : EltTy) = .f32) shapeCasts_S4x64_S4x64x1,
    StableHlo.nullary main_while1b_cst_42 (constant S_ .f32 0x00000000#32),
    StableHlo.binary main_while1b_v59 main_while1b_cst_42 main_while1b_v64 ((fun x v => Host.reduceAdd x v reducesTo_S4x1x64_S4x64_d1 h_S_) : Arr F S4x1x64 → Arr F S_ → Arr F S4x64),
    StableHlo.nullary main_while1b_cst_43 (constant S_ .f32 0x00000000#32),
    StableHlo.binary main_while1b_v63 main_while1b_cst_43 main_while1b_v65 ((fun x v => Host.reduceAdd x v reducesTo_S4x64x1_S4x64_d2 h_S_) : Arr F S4x64x1 → Arr F S_ → Arr F S4x64),
    StableHlo.unary main_while1b_v43 main_while1b_v66 (broadcastInDim S4x64x64 ![0, 1, 2] bcast_S4x64x1_S4x64x64_0_1_2 : Arr F S4x64x1 → Arr F S4x64x64),
    StableHlo.binary main_while1b_v66 main_while1b_v54 main_while1b_v67 (mulf : Arr F S4x64x64 → Arr F S4x64x64 → Arr F S4x64x64),
    StableHlo.nullary main_while1b_cst_44 (constant S_ .f32 0x00000000#32),
    StableHlo.binary main_while1b_v67 main_while1b_cst_44 main_while1b_v68 ((fun x v => Host.reduceAdd x v reducesTo_S4x64x64_S4x64_d1 h_S_) : Arr F S4x64x64 → Arr F S_ → Arr F S4x64),
    StableHlo.reshape main_while1b_v68 main_while1b_v69 (rfl : (.f32 : EltTy) = .f32) shapeCasts_S4x64_S4x1x64,
    StableHlo.unary main_while1b_v42 main_while1b_v70 (broadcastInDim S4x64x64 ![0, 1, 2] bcast_S4x1x64_S4x64x64_0_1_2 : Arr F S4x1x64 → Arr F S4x64x64),
    StableHlo.binary main_while1b_v54 main_while1b_v70 main_while1b_v71 (mulf : Arr F S4x64x64 → Arr F S4x64x64 → Arr F S4x64x64),
    StableHlo.nullary main_while1b_cst_45 (constant S_ .f32 0x00000000#32),
    StableHlo.binary main_while1b_v71 main_while1b_cst_45 main_while1b_v72 ((fun x v => Host.reduceAdd x v reducesTo_S4x64x64_S4x64_d2 h_S_) : Arr F S4x64x64 → Arr F S_ → Arr F S4x64),
    StableHlo.reshape main_while1b_v72 main_while1b_v73 (rfl : (.f32 : EltTy) = .f32) shapeCasts_S4x64_S4x64x1,
    StableHlo.nullary main_while1b_cst_46 (constant S_ .f32 0x00000000#32),
    StableHlo.binary main_while1b_v69 main_while1b_cst_46 main_while1b_v74 ((fun x v => Host.reduceAdd x v reducesTo_S4x1x64_S4x64_d1 h_S_) : Arr F S4x1x64 → Arr F S_ → Arr F S4x64),
    StableHlo.nullary main_while1b_cst_47 (constant S_ .f32 0x00000000#32),
    StableHlo.binary main_while1b_v73 main_while1b_cst_47 main_while1b_v75 ((fun x v => Host.reduceAdd x v reducesTo_S4x64x1_S4x64_d2 h_S_) : Arr F S4x64x1 → Arr F S_ → Arr F S4x64),
    StableHlo.binary main_while1b_v40 main_while1b_v54 main_while1b_v76 (mulf : Arr F S4x64x64 → Arr F S4x64x64 → Arr F S4x64x64),
    StableHlo.nullary main_while1b_cst_48 (constant S_ .f32 0x00000000#32),
    StableHlo.binary main_while1b_v76 main_while1b_cst_48 main_while1b_v77 ((fun x v => Host.reduceAdd x v reducesTo_S4x64x64_S4x64_d1 h_S_) : Arr F S4x64x64 → Arr F S_ → Arr F S4x64),
    StableHlo.reshape main_while1b_v77 main_while1b_v78 (rfl : (.f32 : EltTy) = .f32) shapeCasts_S4x64_S4x1x64,
    StableHlo.unary main_while1b_v41 main_while1b_v79 (broadcastInDim S4x64x64 ![0, 1, 2] bcast_S4x1x64_S4x64x64_0_1_2 : Arr F S4x1x64 → Arr F S4x64x64),
    StableHlo.binary main_while1b_v54 main_while1b_v79 main_while1b_v80 (mulf : Arr F S4x64x64 → Arr F S4x64x64 → Arr F S4x64x64),
    StableHlo.nullary main_while1b_cst_49 (constant S_ .f32 0x00000000#32),
    StableHlo.binary main_while1b_v78 main_while1b_cst_49 main_while1b_v81 ((fun x v => Host.reduceAdd x v reducesTo_S4x1x64_S4x64_d1 h_S_) : Arr F S4x1x64 → Arr F S_ → Arr F S4x64),
    StableHlo.unary main_while1b_v75 main_while1b_v82 (broadcastInDim S4x64x64 ![0, 1] bcast_S4x64_S4x64x64_0_1 : Arr F S4x64 → Arr F S4x64x64),
    StableHlo.binary main_while1b_v40 main_while1b_v82 main_while1b_v83 (mulf : Arr F S4x64x64 → Arr F S4x64x64 → Arr F S4x64x64),
    StableHlo.nullary main_while1b_cst_50 (constant S_ .f32 0x00000000#32),
    StableHlo.binary main_while1b_v83 main_while1b_cst_50 main_while1b_v84 ((fun x v => Host.reduceAdd x v reducesTo_S4x64x64_S4x64_d1 h_S_) : Arr F S4x64x64 → Arr F S_ → Arr F S4x64),
    StableHlo.reshape main_while1b_v84 main_while1b_v85 (rfl : (.f32 : EltTy) = .f32) shapeCasts_S4x64_S4x1x64,
    StableHlo.unary main_while1b_v39 main_while1b_v86 (broadcastInDim S4x64x64 ![0, 1, 2] bcast_S4x1x64_S4x64x64_0_1_2 : Arr F S4x1x64 → Arr F S4x64x64),
    StableHlo.binary main_while1b_v82 main_while1b_v86 main_while1b_v87 (mulf : Arr F S4x64x64 → Arr F S4x64x64 → Arr F S4x64x64),
    StableHlo.binary main_while1b_v80 main_while1b_v87 main_while1b_v88 (addf : Arr F S4x64x64 → Arr F S4x64x64 → Arr F S4x64x64),
    StableHlo.nullary main_while1b_cst_51 (constant S_ .f32 0x00000000#32),
    StableHlo.binary main_while1b_v85 main_while1b_cst_51 main_while1b_v89 ((fun x v => Host.reduceAdd x v reducesTo_S4x1x64_S4x64_d1 h_S_) : Arr F S4x1x64 → Arr F S_ → Arr F S4x64) ]

theorem bodyB2_sub : (bodyB2 : List (HloOp τ sig (Elt F))).Forall fun op => op.bufs ⊆ StableHlo.tcRefs τ sig :=
  ⟨StableHlo.unary_bufs_sub .., StableHlo.binary_bufs_sub .., StableHlo.nullary_bufs_sub .., StableHlo.binary_bufs_sub .., StableHlo.reshape_bufs_sub .., StableHlo.unary_bufs_sub .., StableHlo.binary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.reshape_bufs_sub .., StableHlo.unary_bufs_sub .., StableHlo.binary_bufs_sub .., StableHlo.nullary_bufs_sub .., StableHlo.binary_bufs_sub .., StableHlo.reshape_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.reshape_bufs_sub .., StableHlo.unary_bufs_sub .., StableHlo.binary_bufs_sub .., StableHlo.nullary_bufs_sub .., StableHlo.binary_bufs_sub .., StableHlo.reshape_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.reshape_bufs_sub .., StableHlo.unary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.reshape_bufs_sub .., StableHlo.unary_bufs_sub .., StableHlo.binary_bufs_sub .., StableHlo.binary_bufs_sub .., StableHlo.nullary_bufs_sub .., StableHlo.binary_bufs_sub ..⟩

/-- The buffers they write. -/
abbrev bodyB2_W : List (Ref sig .tc) := [main_while1b_v48, main_while1b_v49, main_while1b_cst_38, main_while1b_v50, main_while1b_v51, main_while1b_v52, main_while1b_v53, main_while1b_v54, main_while1b_cst_39, main_while1b_v55, main_while1b_v56, main_while1b_v57, main_while1b_cst_40, main_while1b_v58, main_while1b_v59, main_while1b_v60, main_while1b_v61, main_while1b_cst_41, main_while1b_v62, main_while1b_v63, main_while1b_cst_42, main_while1b_v64, main_while1b_cst_43, main_while1b_v65, main_while1b_v66, main_while1b_v67, main_while1b_cst_44, main_while1b_v68, main_while1b_v69, main_while1b_v70, main_while1b_v71, main_while1b_cst_45, main_while1b_v72, main_while1b_v73, main_while1b_cst_46, main_while1b_v74, main_while1b_cst_47, main_while1b_v75, main_while1b_v76, main_while1b_cst_48, main_while1b_v77, main_while1b_v78, main_while1b_v79, main_while1b_v80, main_while1b_cst_49, main_while1b_v81, main_while1b_v82, main_while1b_v83, main_while1b_cst_50, main_while1b_v84, main_while1b_v85, main_while1b_v86, main_while1b_v87, main_while1b_v88, main_while1b_cst_51, main_while1b_v89]

theorem bodyB2_writes : (bodyB2 : List (HloOp τ sig (Elt F))).Forall fun op => op.writes ⊆ (bodyB2_W.map (Proc.devRef (τ := τ) .tc)).toFinset :=
  StableHlo.forall_writes_sub_of_map rfl

theorem bodyB2_of (V : Valuation τ sig (Elt F)) (r : Ref sig .tc) (h : r ∉ bodyB2_W) : StableHlo.after bodyB2 V (Proc.devRef .tc r) = V (Proc.devRef .tc r) :=
  StableHlo.after_of_writes_sub bodyB2 _ bodyB2_writes h

/-- Stretch 3 of the backward loop's body. -/
abbrev bodyB3 : List (HloOp τ sig (Elt F)) :=
  [ StableHlo.TRef.unary (StableHlo.TRef.of (T := ⟨S4x64, .f32⟩) main_while1b_v55) (StableHlo.TRef.of (T := ⟨S1x4x64, .f32⟩) main_while1b_call26_v0) (broadcastInDim S1x4x64 ![1, 2] bcast_S4x64_S1x4x64_1_2),
    StableHlo.TRef.nullary (StableHlo.TRef.of (T := ⟨S_, .i32⟩) main_while1b_call26_c) (constantI S_ 32 0#32),
    StableHlo.TRef.nullary (StableHlo.TRef.of (T := ⟨S_, .i32⟩) main_while1b_call26_c_0) (constantI S_ 32 0#32),
    StableHlo.TRef.binaryIndexed (StableHlo.TRef.of (T := ⟨S2048x4x64, .f32⟩) main_v29_12) (StableHlo.TRef.of (T := ⟨S1x4x64, .f32⟩) main_while1b_call26_v0) ![(StableHlo.TRef.of (T := ⟨S_, .i32⟩) main_while1b_v37), (StableHlo.TRef.of (T := ⟨S_, .i32⟩) main_while1b_call26_c), (StableHlo.TRef.of (T := ⟨S_, .i32⟩) main_while1b_call26_c_0)] (StableHlo.TRef.of (T := ⟨S2048x4x64, .f32⟩) main_while1b_v90) (fun x u i => Host.dynamicUpdateSlice x u (fun k => (i k (Shape.Idx.first h_S_)).toInt) updateFits_S2048x4x64_S1x4x64),
    StableHlo.TRef.unary (StableHlo.TRef.of (T := ⟨S4x64, .f32⟩) main_while1b_v81) (StableHlo.TRef.of (T := ⟨S1x4x64, .f32⟩) main_while1b_call27_v0) (broadcastInDim S1x4x64 ![1, 2] bcast_S4x64_S1x4x64_1_2),
    StableHlo.TRef.nullary (StableHlo.TRef.of (T := ⟨S_, .i32⟩) main_while1b_call27_c) (constantI S_ 32 0#32),
    StableHlo.TRef.nullary (StableHlo.TRef.of (T := ⟨S_, .i32⟩) main_while1b_call27_c_0) (constantI S_ 32 0#32),
    StableHlo.TRef.binaryIndexed (StableHlo.TRef.of (T := ⟨S2048x4x64, .f32⟩) main_v29_13) (StableHlo.TRef.of (T := ⟨S1x4x64, .f32⟩) main_while1b_call27_v0) ![(StableHlo.TRef.of (T := ⟨S_, .i32⟩) main_while1b_v37), (StableHlo.TRef.of (T := ⟨S_, .i32⟩) main_while1b_call27_c), (StableHlo.TRef.of (T := ⟨S_, .i32⟩) main_while1b_call27_c_0)] (StableHlo.TRef.of (T := ⟨S2048x4x64, .f32⟩) main_while1b_v91) (fun x u i => Host.dynamicUpdateSlice x u (fun k => (i k (Shape.Idx.first h_S_)).toInt) updateFits_S2048x4x64_S1x4x64),
    StableHlo.TRef.unary (StableHlo.TRef.of (T := ⟨S4x64, .f32⟩) main_while1b_v64) (StableHlo.TRef.of (T := ⟨S1x4x64, .f32⟩) main_while1b_call28_v0) (broadcastInDim S1x4x64 ![1, 2] bcast_S4x64_S1x4x64_1_2),
    StableHlo.TRef.nullary (StableHlo.TRef.of (T := ⟨S_, .i32⟩) main_while1b_call28_c) (constantI S_ 32 0#32),
    StableHlo.TRef.nullary (StableHlo.TRef.of (T := ⟨S_, .i32⟩) main_while1b_call28_c_0) (constantI S_ 32 0#32),
    StableHlo.TRef.binaryIndexed (StableHlo.TRef.of (T := ⟨S2048x4x64, .f32⟩) main_v29_14) (StableHlo.TRef.of (T := ⟨S1x4x64, .f32⟩) main_while1b_call28_v0) ![(StableHlo.TRef.of (T := ⟨S_, .i32⟩) main_while1b_v37), (StableHlo.TRef.of (T := ⟨S_, .i32⟩) main_while1b_call28_c), (StableHlo.TRef.of (T := ⟨S_, .i32⟩) main_while1b_call28_c_0)] (StableHlo.TRef.of (T := ⟨S2048x4x64, .f32⟩) main_while1b_v92) (fun x u i => Host.dynamicUpdateSlice x u (fun k => (i k (Shape.Idx.first h_S_)).toInt) updateFits_S2048x4x64_S1x4x64),
    StableHlo.TRef.unary (StableHlo.TRef.of (T := ⟨S4x64, .f32⟩) main_while1b_v65) (StableHlo.TRef.of (T := ⟨S1x4x64, .f32⟩) main_while1b_call29_v0) (broadcastInDim S1x4x64 ![1, 2] bcast_S4x64_S1x4x64_1_2),
    StableHlo.TRef.nullary (StableHlo.TRef.of (T := ⟨S_, .i32⟩) main_while1b_call29_c) (constantI S_ 32 0#32),
    StableHlo.TRef.nullary (StableHlo.TRef.of (T := ⟨S_, .i32⟩) main_while1b_call29_c_0) (constantI S_ 32 0#32),
    StableHlo.TRef.binaryIndexed (StableHlo.TRef.of (T := ⟨S2048x4x64, .f32⟩) main_v29_15) (StableHlo.TRef.of (T := ⟨S1x4x64, .f32⟩) main_while1b_call29_v0) ![(StableHlo.TRef.of (T := ⟨S_, .i32⟩) main_while1b_v37), (StableHlo.TRef.of (T := ⟨S_, .i32⟩) main_while1b_call29_c), (StableHlo.TRef.of (T := ⟨S_, .i32⟩) main_while1b_call29_c_0)] (StableHlo.TRef.of (T := ⟨S2048x4x64, .f32⟩) main_while1b_v93) (fun x u i => Host.dynamicUpdateSlice x u (fun k => (i k (Shape.Idx.first h_S_)).toInt) updateFits_S2048x4x64_S1x4x64),
    StableHlo.TRef.unary (StableHlo.TRef.of (T := ⟨S4x64, .f32⟩) main_while1b_v89) (StableHlo.TRef.of (T := ⟨S1x4x64, .f32⟩) main_while1b_call30_v0) (broadcastInDim S1x4x64 ![1, 2] bcast_S4x64_S1x4x64_1_2),
    StableHlo.TRef.nullary (StableHlo.TRef.of (T := ⟨S_, .i32⟩) main_while1b_call30_c) (constantI S_ 32 0#32),
    StableHlo.TRef.nullary (StableHlo.TRef.of (T := ⟨S_, .i32⟩) main_while1b_call30_c_0) (constantI S_ 32 0#32),
    StableHlo.TRef.binaryIndexed (StableHlo.TRef.of (T := ⟨S2048x4x64, .f32⟩) main_v29_16) (StableHlo.TRef.of (T := ⟨S1x4x64, .f32⟩) main_while1b_call30_v0) ![(StableHlo.TRef.of (T := ⟨S_, .i32⟩) main_while1b_v37), (StableHlo.TRef.of (T := ⟨S_, .i32⟩) main_while1b_call30_c), (StableHlo.TRef.of (T := ⟨S_, .i32⟩) main_while1b_call30_c_0)] (StableHlo.TRef.of (T := ⟨S2048x4x64, .f32⟩) main_while1b_v94) (fun x u i => Host.dynamicUpdateSlice x u (fun k => (i k (Shape.Idx.first h_S_)).toInt) updateFits_S2048x4x64_S1x4x64),
    StableHlo.TRef.unary (StableHlo.TRef.of (T := ⟨S4x64, .f32⟩) main_while1b_v74) (StableHlo.TRef.of (T := ⟨S1x4x64, .f32⟩) main_while1b_call31_v0) (broadcastInDim S1x4x64 ![1, 2] bcast_S4x64_S1x4x64_1_2),
    StableHlo.TRef.nullary (StableHlo.TRef.of (T := ⟨S_, .i32⟩) main_while1b_call31_c) (constantI S_ 32 0#32),
    StableHlo.TRef.nullary (StableHlo.TRef.of (T := ⟨S_, .i32⟩) main_while1b_call31_c_0) (constantI S_ 32 0#32),
    StableHlo.TRef.binaryIndexed (StableHlo.TRef.of (T := ⟨S2048x4x64, .f32⟩) main_v29_17) (StableHlo.TRef.of (T := ⟨S1x4x64, .f32⟩) main_while1b_call31_v0) ![(StableHlo.TRef.of (T := ⟨S_, .i32⟩) main_while1b_v37), (StableHlo.TRef.of (T := ⟨S_, .i32⟩) main_while1b_call31_c), (StableHlo.TRef.of (T := ⟨S_, .i32⟩) main_while1b_call31_c_0)] (StableHlo.TRef.of (T := ⟨S2048x4x64, .f32⟩) main_while1b_v95) (fun x u i => Host.dynamicUpdateSlice x u (fun k => (i k (Shape.Idx.first h_S_)).toInt) updateFits_S2048x4x64_S1x4x64) ]

theorem bodyB3_sub : (bodyB3 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub .., StableHlo.unary_bufs_sub .., StableHlo.nullary_bufs_sub .., StableHlo.nullary_bufs_sub .., StableHlo.binaryIndexed_bufs_sub .., StableHlo.unary_bufs_sub .., StableHlo.nullary_bufs_sub .., StableHlo.nullary_bufs_sub .., StableHlo.binaryIndexed_bufs_sub .., StableHlo.unary_bufs_sub .., StableHlo.nullary_bufs_sub .., StableHlo.nullary_bufs_sub .., StableHlo.binaryIndexed_bufs_sub .., StableHlo.unary_bufs_sub .., StableHlo.nullary_bufs_sub .., StableHlo.nullary_bufs_sub .., StableHlo.binaryIndexed_bufs_sub .., StableHlo.unary_bufs_sub .., StableHlo.nullary_bufs_sub .., StableHlo.nullary_bufs_sub .., StableHlo.binaryIndexed_bufs_sub ..⟩

/-- The buffers they write. -/
abbrev bodyB3_W : List (Ref sig .tc) := [main_while1b_call26_v0, main_while1b_call26_c, main_while1b_call26_c_0, main_while1b_v90, main_while1b_call27_v0, main_while1b_call27_c, main_while1b_call27_c_0, main_while1b_v91, main_while1b_call28_v0, main_while1b_call28_c, main_while1b_call28_c_0, main_while1b_v92, main_while1b_call29_v0, main_while1b_call29_c, main_while1b_call29_c_0, main_while1b_v93, main_while1b_call30_v0, main_while1b_call30_c, main_while1b_call30_c_0, main_while1b_v94, main_while1b_call31_v0, main_while1b_call31_c, main_while1b_call31_c_0, main_while1b_v95]

theorem bodyB3_writes : (bodyB3 : List (HloOp τ sig (Elt F))).Forall fun op => op.writes ⊆ (bodyB3_W.map (Proc.devRef (τ := τ) .tc)).toFinset :=
  StableHlo.forall_writes_sub_of_map rfl

theorem bodyB3_of (V : Valuation τ sig (Elt F)) (r : Ref sig .tc) (h : r ∉ bodyB3_W) : StableHlo.after bodyB3 V (Proc.devRef .tc r) = V (Proc.devRef .tc r) :=
  StableHlo.after_of_writes_sub bodyB3 _ bodyB3_writes h

/-- Stretch 4 of the backward loop's body. -/
abbrev bodyB4 : List (HloOp τ sig (Elt F)) :=
  [ StableHlo.nullary main_while1b_c_52 (constantI S_ 32 1#32),
    StableHlo.binary main_v29_10 main_while1b_c_52 main_while1b_v96 (addi : (⟨S_, .i32⟩ : BufTy).Contents (Elt F) → (⟨S_, .i32⟩ : BufTy).Contents (Elt F) → (⟨S_, .i32⟩ : BufTy).Contents (Elt F)),
    StableHlo.unary main_while1b_v96 main_v29_10 id,
    StableHlo.unary main_while1b_v88 main_v29_11 id,
    StableHlo.unary main_while1b_v90 main_v29_12 id,
    StableHlo.unary main_while1b_v91 main_v29_13 id,
    StableHlo.unary main_while1b_v92 main_v29_14 id,
    StableHlo.unary main_while1b_v93 main_v29_15 id,
    StableHlo.unary main_while1b_v94 main_v29_16 id,
    StableHlo.unary main_while1b_v95 main_v29_17 id ]

theorem bodyB4_sub : (bodyB4 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- The buffers they write. -/
abbrev bodyB4_W : List (Ref sig .tc) := [main_while1b_c_52, main_while1b_v96, main_v29_10, main_v29_11, main_v29_12, main_v29_13, main_v29_14, main_v29_15, main_v29_16, main_v29_17]

theorem bodyB4_writes : (bodyB4 : List (HloOp τ sig (Elt F))).Forall fun op => op.writes ⊆ (bodyB4_W.map (Proc.devRef (τ := τ) .tc)).toFinset :=
  StableHlo.forall_writes_sub_of_map rfl

theorem bodyB4_of (V : Valuation τ sig (Elt F)) (r : Ref sig .tc) (h : r ∉ bodyB4_W) : StableHlo.after bodyB4 V (Proc.devRef .tc r) = V (Proc.devRef .tc r) :=
  StableHlo.after_of_writes_sub bodyB4 _ bodyB4_writes h

/-- The forward loop's test: the counter against 2048. -/
abbrev condF : List (HloOp τ sig (Elt F)) :=
  [ StableHlo.nullary main_while0c_c_36 (constantI S_ 32 2048#32),
    StableHlo.binary main_v18_6 main_while0c_c_36 main_while0c_v36 (cmpi .slt : (⟨S_, .i32⟩ : BufTy).Contents (Elt F) → (⟨S_, .i32⟩ : BufTy).Contents (Elt F) → (⟨S_, .i1⟩ : BufTy).Contents (Elt F)) ]

theorem condF_sub : (condF : List (HloOp τ sig (Elt F))).Forall fun op => op.bufs ⊆ StableHlo.tcRefs τ sig :=
  ⟨StableHlo.nullary_bufs_sub .., StableHlo.binary_bufs_sub ..⟩

/-- The buffers they write. -/
abbrev condF_W : List (Ref sig .tc) := [main_while0c_c_36, main_while0c_v36]

theorem condF_writes : (condF : List (HloOp τ sig (Elt F))).Forall fun op => op.writes ⊆ (condF_W.map (Proc.devRef (τ := τ) .tc)).toFinset :=
  StableHlo.forall_writes_sub_of_map rfl

theorem condF_of (V : Valuation τ sig (Elt F)) (r : Ref sig .tc) (h : r ∉ condF_W) : StableHlo.after condF V (Proc.devRef .tc r) = V (Proc.devRef .tc r) :=
  StableHlo.after_of_writes_sub condF _ condF_writes h

/-- The backward loop's test: the counter against 2048. -/
abbrev condB : List (HloOp τ sig (Elt F)) :=
  [ StableHlo.nullary main_while1c_c_36 (constantI S_ 32 2048#32),
    StableHlo.binary main_v29_10 main_while1c_c_36 main_while1c_v36 (cmpi .slt : (⟨S_, .i32⟩ : BufTy).Contents (Elt F) → (⟨S_, .i32⟩ : BufTy).Contents (Elt F) → (⟨S_, .i1⟩ : BufTy).Contents (Elt F)) ]

theorem condB_sub : (condB : List (HloOp τ sig (Elt F))).Forall fun op => op.bufs ⊆ StableHlo.tcRefs τ sig :=
  ⟨StableHlo.nullary_bufs_sub .., StableHlo.binary_bufs_sub ..⟩

/-- The buffers they write. -/
abbrev condB_W : List (Ref sig .tc) := [main_while1c_c_36, main_while1c_v36]

theorem condB_writes : (condB : List (HloOp τ sig (Elt F))).Forall fun op => op.writes ⊆ (condB_W.map (Proc.devRef (τ := τ) .tc)).toFinset :=
  StableHlo.forall_writes_sub_of_map rfl

theorem condB_of (V : Valuation τ sig (Elt F)) (r : Ref sig .tc) (h : r ∉ condB_W) : StableHlo.after condB V (Proc.devRef .tc r) = V (Proc.devRef .tc r) :=
  StableHlo.after_of_writes_sub condB _ condB_writes h

/-- The forward loop's body, stretch by stretch. -/
abbrev itemsF : List (List (HloOp τ sig (Elt F))) := [bodyF0, bodyF1, bodyF2, bodyF3]

theorem itemsF_plain : StableHlo.Plain (itemsF : List (List (HloOp τ sig (Elt F)))) :=
  StableHlo.Plain.cons bodyF0_sub (StableHlo.Plain.cons bodyF1_sub (StableHlo.Plain.cons bodyF2_sub (StableHlo.Plain.cons bodyF3_sub (StableHlo.Plain.nil))))

theorem bodyF_chain : (main_while0_body : RProg F) = Pipeline.chain (itemsF.map fun ops => (StableHlo.seq ops : RProg F)) := by
  chain_rfl

/-- The backward loop's body, stretch by stretch. -/
abbrev itemsB : List (List (HloOp τ sig (Elt F))) := [bodyB0, bodyB1, bodyB2, bodyB3, bodyB4]

theorem itemsB_plain : StableHlo.Plain (itemsB : List (List (HloOp τ sig (Elt F)))) :=
  StableHlo.Plain.cons bodyB0_sub (StableHlo.Plain.cons bodyB1_sub (StableHlo.Plain.cons bodyB2_sub (StableHlo.Plain.cons bodyB3_sub (StableHlo.Plain.cons bodyB4_sub (StableHlo.Plain.nil)))))

theorem bodyB_chain : (main_while1_body : RProg F) = Pipeline.chain (itemsB.map fun ops => (StableHlo.seq ops : RProg F)) := by
  chain_rfl

theorem pre_plain : StableHlo.Plain ([preOps] : List (List (HloOp τ sig (Elt F)))) :=
  StableHlo.Plain.cons preOps_sub StableHlo.Plain.nil

theorem mid_plain : StableHlo.Plain ([midOps] : List (List (HloOp τ sig (Elt F)))) :=
  StableHlo.Plain.cons midOps_sub StableHlo.Plain.nil

theorem post_plain : StableHlo.Plain ([postOps] : List (List (HloOp τ sig (Elt F)))) :=
  StableHlo.Plain.cons postOps_sub StableHlo.Plain.nil

theorem main_chain (c : Dev nD) : (main c : RProg F) = Pipeline.chain
    [StableHlo.seq preOps, HostLoop.enter 0, StableHlo.seq midOps, HostLoop.enter 1, StableHlo.seq postOps] := by
  chain_rfl

end Cert.ReferenceIdeal.Scan

end
-- ==== Proof.RefRun.lean ====
/- The reference's run: its two counted loops between stretches of host operations. -/
module

public import proofs.«01_k».proof.Proof.RefOps
public import Idealize.ShloMosaic.Lib.StableHlo.RunLoop
public import Idealize.ShloMosaic.Lib.Scf.ExitTest

@[expose] public section

set_option maxRecDepth 16384

noncomputable section

namespace Cert.ReferenceIdeal.Scan

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What is carried beside the buffers: the core owes nothing. -/
abbrev Ro (c : Dev nD) : sProp (MT nD τ sig Unit (Elt F) ℕ (Option PUnit) ℕ) := iprop(∃ W, owes (c : Thread nD τ) (0 : CellTallies nD τ sig Unit) W)

/-- A counter from 0 by 1 is below 2048 exactly at the first 2048 tests. -/
theorem ctr_test (k : ℕ) (hk : k ≤ 2048) : Iff (IntOp.cmpi .slt (Scf.iv 0#32 1#32 k) 2048#32 = 1#1) (k < 2048) := by
  have hok : Scf.OK (0#32 : BitVec 32) 2048#32 1#32 := by decide
  have ht : Scf.trips (0#32 : BitVec 32) 2048#32 1#32 = 2048 := by decide
  have h := Scf.cmpi_slt_iv_ub_iff hok (k := k) (by rw [ht]; exact hk)
  rw [ht] at h
  exact h

/-- One trip of the forward loop adds one to its counter. -/
theorem ctrF_step (V : Valuation τ sig (Elt F)) :
    StableHlo.afterL itemsF (StableHlo.after condF V) (Proc.devRef .tc main_v18_6) = addi (V (Proc.devRef .tc main_v18_6)) (constantI S_ 32 1#32) := by
  have h : ∀ U : Valuation τ sig (Elt F), StableHlo.after bodyF3 U (Proc.devRef .tc main_v18_6) = addi (U (Proc.devRef .tc main_v18_6)) (constantI S_ 32 1#32) := fun U => by
    after_results; rfl
  rw [StableHlo.afterL_cons, StableHlo.afterL_cons, StableHlo.afterL_cons, StableHlo.afterL_cons, StableHlo.afterL_nil, h, bodyF2_of _ _ (by decide), bodyF1_of _ _ (by decide), bodyF0_of _ _ (by decide), condF_of _ _ (by decide)]

/-- The counter before trip `k`. -/
theorem ctrF (W₀ : Dev nD → Valuation τ sig (Elt F)) (hW : ∀ c, W₀ c (Proc.devRef .tc main_v18_6) = fun _ => (0#32 : BitVec 32)) (c : Dev nD) :
    ∀ k, StableHlo.atTrip condF itemsF W₀ k c (Proc.devRef .tc main_v18_6) = fun _ => Scf.iv 0#32 1#32 k
  | 0 => by rw [StableHlo.atTrip_zero, hW, Scf.iv_zero]
  | k + 1 => by
    rw [StableHlo.atTrip_succ, ctrF_step, ctrF W₀ hW c k, Scf.iv_succ]
    rfl

set_option maxHeartbeats 1000000 in
set_option backward.isDefEq.respectTransparency.types false in
/-- The forward loop's test, run before trip `k`, asks whether `k < 2048`. -/
theorem condF_spec (W₀ : Dev nD → Valuation τ sig (Elt F)) (hW : ∀ c, W₀ c (Proc.devRef .tc main_v18_6) = fun _ => (0#32 : BitVec 32)) :
    StableHlo.LoopCond (Ix := Unit) (Name := ℕ) (U := Option PUnit) (Lvl := ℕ) pcfgs defs₀ Variants.none loops Ro (main_while0_cond (F := F)) condF itemsF W₀ 2048 := by
  intro k hk c bd
  have hctr := ctrF W₀ hW c k
  unfold main_while0_cond
  generalize hV : StableHlo.atTrip condF itemsF W₀ k c = V at hctr ⊢
  simp only [bind_pure]
  rw [wp_bind]
  iintro ⟨Hb, Hh, HR⟩
  iapply (StableHlo.wp_hlo_within (Variants.lift Variants.none) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ V main_v18_6 HostLoop.idx0)
        (HloOp.result _ V main_while0c_c_36 HostLoop.idx0) = 1#1) (k < 2048)
    rw [StableHlo.nullary_result_ne _ _ _ _ (by decide), StableHlo.nullary_result, hctr]
    exact ctr_test k hk
  isplitl [Hb]; · iexact Hb
  isplitl [Hh]; · rw [StableHlo.after_cons, StableHlo.after_cons, StableHlo.after_nil]; iexact Hh
  iexact HR

/-- One trip of the backward loop adds one to its counter. -/
theorem ctrB_step (V : Valuation τ sig (Elt F)) :
    StableHlo.afterL itemsB (StableHlo.after condB V) (Proc.devRef .tc main_v29_10) = addi (V (Proc.devRef .tc main_v29_10)) (constantI S_ 32 1#32) := by
  have h : ∀ U : Valuation τ sig (Elt F), StableHlo.after bodyB4 U (Proc.devRef .tc main_v29_10) = addi (U (Proc.devRef .tc main_v29_10)) (constantI S_ 32 1#32) := fun U => by
    after_results; rfl
  rw [StableHlo.afterL_cons, StableHlo.afterL_cons, StableHlo.afterL_cons, StableHlo.afterL_cons, StableHlo.afterL_cons, StableHlo.afterL_nil, h, bodyB3_of _ _ (by decide), bodyB2_of _ _ (by decide), bodyB1_of _ _ (by decide), bodyB0_of _ _ (by decide), condB_of _ _ (by decide)]

/-- The counter before trip `k`. -/
theorem ctrB (W₀ : Dev nD → Valuation τ sig (Elt F)) (hW : ∀ c, W₀ c (Proc.devRef .tc main_v29_10) = fun _ => (0#32 : BitVec 32)) (c : Dev nD) :
    ∀ k, StableHlo.atTrip condB itemsB W₀ k c (Proc.devRef .tc main_v29_10) = fun _ => Scf.iv 0#32 1#32 k
  | 0 => by rw [StableHlo.atTrip_zero, hW, Scf.iv_zero]
  | k + 1 => by
    rw [StableHlo.atTrip_succ, ctrB_step, ctrB W₀ hW c k, Scf.iv_succ]
    rfl

set_option maxHeartbeats 1000000 in
set_option backward.isDefEq.respectTransparency.types false in
/-- The backward loop's test, run before trip `k`, asks whether `k < 2048`. -/
theorem condB_spec (W₀ : Dev nD → Valuation τ sig (Elt F)) (hW : ∀ c, W₀ c (Proc.devRef .tc main_v29_10) = fun _ => (0#32 : BitVec 32)) :
    StableHlo.LoopCond (Ix := Unit) (Name := ℕ) (U := Option PUnit) (Lvl := ℕ) pcfgs defs₀ Variants.none loops Ro (main_while1_cond (F := F)) condB itemsB W₀ 2048 := by
  intro k hk c bd
  have hctr := ctrB W₀ hW c k
  unfold main_while1_cond
  generalize hV : StableHlo.atTrip condB itemsB W₀ k c = V at hctr ⊢
  simp only [bind_pure]
  rw [wp_bind]
  iintro ⟨Hb, Hh, HR⟩
  iapply (StableHlo.wp_hlo_within (Variants.lift Variants.none) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ V main_v29_10 HostLoop.idx0)
        (HloOp.result _ V main_while1c_c_36 HostLoop.idx0) = 1#1) (k < 2048)
    rw [StableHlo.nullary_result_ne _ _ _ _ (by decide), StableHlo.nullary_result, hctr]
    exact ctr_test k hk
  isplitl [Hb]; · iexact Hb
  isplitl [Hh]; · rw [StableHlo.after_cons, StableHlo.after_cons, StableHlo.after_nil]; iexact Hh
  iexact HR

variable (m : (ℓ : Loc nD τ sig) → Buf (Elt F) ℓ)

/-- The buffers before the forward loop. -/
def X1 (c : Dev nD) : Valuation τ sig (Elt F) := StableHlo.after preOps (StableHlo.launchContents m c)
/-- The buffers before trip `k` of the forward loop. -/
def XF (k : ℕ) (c : Dev nD) : Valuation τ sig (Elt F) := StableHlo.atTrip condF itemsF (X1 m) k c
/-- The buffers after the forward loop. -/
def X2 (c : Dev nD) : Valuation τ sig (Elt F) := StableHlo.after condF (XF m 2048 c)
/-- The buffers before the backward loop. -/
def X3 (c : Dev nD) : Valuation τ sig (Elt F) := StableHlo.after midOps (X2 m c)
/-- The buffers before trip `k` of the backward loop. -/
def XB (k : ℕ) (c : Dev nD) : Valuation τ sig (Elt F) := StableHlo.atTrip condB itemsB (X3 m) k c
/-- The buffers after the backward loop. -/
def X4 (c : Dev nD) : Valuation τ sig (Elt F) := StableHlo.after condB (XB m 2048 c)
/-- The buffers at the end. -/
def X5 (c : Dev nD) : Valuation τ sig (Elt F) := StableHlo.after postOps (X4 m c)

theorem XF_zero (c : Dev nD) : XF m 0 c = X1 m c := rfl
theorem XF_succ (k : ℕ) (c : Dev nD) : XF m (k + 1) c = StableHlo.afterL itemsF (StableHlo.after condF (XF m k c)) := rfl
theorem XB_zero (c : Dev nD) : XB m 0 c = X3 m c := rfl
theorem XB_succ (k : ℕ) (c : Dev nD) : XB m (k + 1) c = StableHlo.afterL itemsB (StableHlo.after condB (XB m k c)) := rfl

theorem X1_ctr (c : Dev nD) : X1 m c (Proc.devRef .tc main_v18_6) = fun _ => (0#32 : BitVec 32) := by
  unfold X1
  after_results
  rfl

theorem X3_ctr (c : Dev nD) : X3 m c (Proc.devRef .tc main_v29_10) = fun _ => (0#32 : BitVec 32) := by
  unfold X3
  after_results
  rfl

abbrev admR : (p : Fin 0) → (pcfgs (F := F) p).Adm := fun p => p.elim0
abbrev tkR : Fin 0 → Pipeline.Ticket (Ix := Unit) (Name := ℕ) (U := Option PUnit) (Lvl := ℕ) (nD := nD) (τ := τ) (pcfgs (F := F)) admR := fun j => j.elim0
abbrev LR : GSem nD τ sig → Finset Unit := fun _ => ∅
abbrev lvR : GSem nD τ sig → Unit → ℕ := fun _ _ => 0

theorem cellOf_injR : Function.Injective (Pipeline.cellOf (nD := nD) (τ := τ) (Pipeline.pin (pcfgs (F := F)) admR)) :=
  fun k => k.1.elim0

open StableHlo (segsOf loopSeg segsOf_prog segsOf_chains)

/-- The program's segments. -/
def segsR : List (Pipeline.CSeg (Ix := Unit) (Name := ℕ) (U := Option PUnit) (Lvl := ℕ) (pcfgs (F := F)) admR defs₀ Variants.none LR lvR loops tkR) :=
  segsOf _ _ _ _ _ _ _ _ Ro [preOps] pre_plain (StableHlo.launchContents m)
    ++ (loopSeg _ _ _ _ _ _ _ _ 0 main_while0_cond main_while0_body rfl condF itemsF itemsF_plain bodyF_chain 2048 (X1 m) Ro (condF_spec (X1 m) (X1_ctr m))
      :: (segsOf _ _ _ _ _ _ _ _ Ro [midOps] mid_plain (X2 m)
        ++ (loopSeg _ _ _ _ _ _ _ _ 1 main_while1_cond main_while1_body rfl condB itemsB itemsB_plain bodyB_chain 2048 (X3 m) Ro (condB_spec (X3 m) (X3_ctr m))
          :: segsOf _ _ _ _ _ _ _ _ Ro [postOps] post_plain (X4 m))))

theorem segsR_prog : (segsR m).map Pipeline.CSeg.prog
    = ([StableHlo.seq preOps, HostLoop.enter 0, StableHlo.seq midOps, HostLoop.enter 1, StableHlo.seq postOps] : List (RProg F)) := by
  unfold segsR
  rw [List.map_append, List.map_cons, List.map_append, List.map_cons, segsOf_prog, segsOf_prog, segsOf_prog]
  rfl

theorem segsR_chains : Pipeline.CSeg.Chains (fun c => iprop(StableHlo.held (c : Thread nD τ) (Pipeline.ucRefs τ sig) (StableHlo.launchContents m c) ∗ Ro c))
    (segsR m) (fun c => iprop(iprop(StableHlo.held (c : Thread nD τ) (Pipeline.ucRefs τ sig) (X5 m c)) ∗ ∃ W, owes (c : Thread nD τ) (0 : CellTallies nD τ sig Unit) W)) := by
  unfold segsR
  exact Pipeline.CSeg.Chains.append (segsOf_chains _ _ _ _ _ _ _ _ Ro [preOps] pre_plain _)
    ⟨fun _ => .rfl, Pipeline.CSeg.Chains.append (segsOf_chains _ _ _ _ _ _ _ _ Ro [midOps] mid_plain _)
      ⟨fun _ => .rfl, segsOf_chains _ _ _ _ _ _ _ _ Ro [postOps] post_plain _⟩⟩

theorem no_unscopedR : ∀ sm : SemLoc sig, sm.isScoped .tc = true := by decide

set_option maxHeartbeats 1000000 in
set_option backward.isDefEq.respectTransparency.types false in
/-- Every fair run from zero counters ends, each unscoped buffer at `X5` and every counter zero. -/
theorem run_ref (ρ : Dev nD → PrngReg) :
    θ_run defs (onTc (τ := τ) (main (F := F))) ⟨m, fun _ => 0, ρ⟩ (fun r => (∀ (c : Dev nD) (b : Ref sig .tc), b.isScoped = false →
      r.2.mem ((c.tc : Thread nD τ).loc b) = X5 m c (Proc.devRef .tc b)) ∧ r.2.sem = fun _ => 0) := by
  refine Pipeline.θ_run_regions_loop_kit_sems (Ix := Unit) (Name := ℕ) (U := Option PUnit) (Lvl := ℕ) (J := Fin 0) (P := Fin 0) (Val := Elt F)
    pcfgs admR cellOf_injR defs₀ Variants.none LR lvR loops tkR m ρ main (segsR m)
    (fun c Q => by
      rw [main_chain c]
      show wp _ _ _ (Pipeline.chain ((segsR m).map Pipeline.CSeg.prog)) Q ⊢ _
      rw [segsR_prog])
    (Pipeline.CSeg.pairwise_disjoint_of_T_empty _ fun s _ => Finset.eq_empty_of_isEmpty s.T)
    (O₀ := 0) (hL := fun _ _ => rfl) (G := fun _ => iprop(emp)) (u₀ := 1) (hu₀ := ?_)
    (T₀ := fun c => iprop(StableHlo.held (c : Thread nD τ) (Pipeline.ucRefs τ sig) (StableHlo.launchContents m c) ∗ Ro c))
    (Tₙ := fun c => iprop(StableHlo.held (c : Thread nD τ) (Pipeline.ucRefs τ sig) (X5 m c)))
    (hch := segsR_chains m) (hinit := ?_)
    (QY := fun c s => ∀ b ∈ Pipeline.ucRefs τ sig, s.mem ((c : Dev nD), b) = X5 m c b)
    (hfin := fun c s' => ?_)
    (hQ := fun _ h hz => ⟨fun c b hb => h c _ (StableHlo.devRef_mem_ucRefs b hb), funext fun g => hz g (.inr (no_unscopedR g.2))⟩)
  · iintro -
    imodintro
    isplitl []
    · rw [Finset.univ_eq_empty, BI.bigSep_empty]; iempintro
    · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
      iempintro
  · refine Pipeline.initEach LR lvR fun c => ?_
    rw [show unscopedBufs c (fun b => m ((c : Thread nD τ).loc b)) = StableHlo.held (c : Thread nD τ) (Pipeline.ucRefs τ sig) (StableHlo.launchContents m c) from Pipeline.unscopedBufs_held c (StableHlo.launchContents m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Dev nD), b)) (fun b => X5 m c b) s') $$ [Hh HSI]
    · isplitl [Hh] <;> iassumption
    icases Hr with ⟨%h, HSI⟩
    imodintro
    isplitr; · ipureintro; exact h
    iexact HSI

/-- A buffer no operation of the forward loop writes is unchanged by its trips. -/
theorem XF_of (c : Dev nD) (r : Ref sig .tc) (hc : r ∉ condF_W) (h0 : r ∉ bodyF0_W) (h1 : r ∉ bodyF1_W) (h2 : r ∉ bodyF2_W) (h3 : r ∉ bodyF3_W) :
    ∀ k, XF m k c (Proc.devRef .tc r) = X1 m c (Proc.devRef .tc r)
  | 0 => rfl
  | k + 1 => by
    rw [XF_succ, StableHlo.afterL_cons, StableHlo.afterL_cons, StableHlo.afterL_cons, StableHlo.afterL_cons, StableHlo.afterL_nil, bodyF3_of _ _ h3, bodyF2_of _ _ h2, bodyF1_of _ _ h1, bodyF0_of _ _ h0, condF_of _ _ hc, XF_of c r hc h0 h1 h2 h3 k]

/-- A buffer no operation of the backward loop writes is unchanged by its trips. -/
theorem XB_of (c : Dev nD) (r : Ref sig .tc) (hc : r ∉ condB_W) (h0 : r ∉ bodyB0_W) (h1 : r ∉ bodyB1_W) (h2 : r ∉ bodyB2_W) (h3 : r ∉ bodyB3_W) (h4 : r ∉ bodyB4_W) :
    ∀ k, XB m k c (Proc.devRef .tc r) = X3 m c (Proc.devRef .tc r)
  | 0 => rfl
  | k + 1 => by
    rw [XB_succ, StableHlo.afterL_cons, StableHlo.afterL_cons, StableHlo.afterL_cons, StableHlo.afterL_cons, StableHlo.afterL_cons, StableHlo.afterL_nil, bodyB4_of _ _ h4, bodyB3_of _ _ h3, bodyB2_of _ _ h2, bodyB1_of _ _ h1, bodyB0_of _ _ h0, condB_of _ _ hc, XB_of c r hc h0 h1 h2 h3 h4 k]

/-- A buffer no operation writes ends as launched. -/
theorem X5_of (c : Dev nD) (r : Ref sig .tc) (hp : r ∉ preOps_W) (hm : r ∉ midOps_W) (hq : r ∉ postOps_W) (hcF : r ∉ condF_W) (hcB : r ∉ condB_W) (hF0 : r ∉ bodyF0_W) (hF1 : r ∉ bodyF1_W) (hF2 : r ∉ bodyF2_W) (hF3 : r ∉ bodyF3_W) (hB0 : r ∉ bodyB0_W) (hB1 : r ∉ bodyB1_W) (hB2 : r ∉ bodyB2_W) (hB3 : r ∉ bodyB3_W) (hB4 : r ∉ bodyB4_W) :
    X5 m c (Proc.devRef .tc r) = m ((c : Thread nD τ).loc r) := by
  unfold X5 X4
  rw [postOps_of _ _ hq, condB_of _ _ hcB, XB_of m c r hcB hB0 hB1 hB2 hB3 hB4]
  unfold X3 X2
  rw [midOps_of _ _ hm, condF_of _ _ hcF, XF_of m c r hcF hF0 hF1 hF2 hF3]
  exact preOps_of _ _ hp

theorem X5_arg0 (c : Dev nD) : X5 m c (Proc.devRef .tc main_arg0) = m ((c : Thread nD τ).loc main_arg0) :=
  X5_of m c main_arg0 (by decide) (by decide) (by decide) (by decide) (by decide) (by decide) (by decide) (by decide) (by decide) (by decide) (by decide) (by decide) (by decide) (by decide)

theorem X5_arg1 (c : Dev nD) : X5 m c (Proc.devRef .tc main_arg1) = m ((c : Thread nD τ).loc main_arg1) :=
  X5_of m c main_arg1 (by decide) (by decide) (by decide) (by decide) (by decide) (by decide) (by decide) (by decide) (by decide) (by decide) (by decide) (by decide) (by decide) (by decide)

theorem X5_arg2 (c : Dev nD) : X5 m c (Proc.devRef .tc main_arg2) = m ((c : Thread nD τ).loc main_arg2) :=
  X5_of m c main_arg2 (by decide) (by decide) (by decide) (by decide) (by decide) (by decide) (by decide) (by decide) (by decide) (by decide) (by decide) (by decide) (by decide) (by decide)

theorem X5_arg3 (c : Dev nD) : X5 m c (Proc.devRef .tc main_arg3) = m ((c : Thread nD τ).loc main_arg3) :=
  X5_of m c main_arg3 (by decide) (by decide) (by decide) (by decide) (by decide) (by decide) (by decide) (by decide) (by decide) (by decide) (by decide) (by decide) (by decide) (by decide)

theorem X5_arg4 (c : Dev nD) : X5 m c (Proc.devRef .tc main_arg4) = m ((c : Thread nD τ).loc main_arg4) :=
  X5_of m c main_arg4 (by decide) (by decide) (by decide) (by decide) (by decide) (by decide) (by decide) (by decide) (by decide) (by decide) (by decide) (by decide) (by decide) (by decide)

theorem X5_arg5 (c : Dev nD) : X5 m c (Proc.devRef .tc main_arg5) = m ((c : Thread nD τ).loc main_arg5) :=
  X5_of m c main_arg5 (by decide) (by decide) (by decide) (by decide) (by decide) (by decide) (by decide) (by decide) (by decide) (by decide) (by decide) (by decide) (by decide) (by decide)

theorem X5_arg6 (c : Dev nD) : X5 m c (Proc.devRef .tc main_arg6) = m ((c : Thread nD τ).loc main_arg6) :=
  X5_of m c main_arg6 (by decide) (by decide) (by decide) (by decide) (by decide) (by decide) (by decide) (by decide) (by decide) (by decide) (by decide) (by decide) (by decide) (by decide)

end Cert.ReferenceIdeal.Scan

end
-- ==== Proof.RefSlice.lean ====
/- One step's block of an array that holds one block a step: read out, and replaced. -/
module

public import proofs.«01_k».proof.Proof.RefRun
public import proofs.«01_k».proof.Proof.Spec
public import Idealize.ShloMosaic.Lib.Pointwise

@[expose] public section

noncomputable section

namespace Cert.ReferenceIdeal.Scan

open Idealize.ShloMosaic Idealize.ShloMosaic.Tactic

variable {n1 n2 : ℕ} in
/-- The block of one step of an array of 3 axes. -/
theorem slice3 {α : Type} (x : (⟨3, ![2048, n1, n2]⟩ : Shape).Idx → α) (start : Fin 3 → Int) (h : (⟨3, ![2048, n1, n2]⟩ : Shape).Slices (fun _ => 0) (⟨3, ![1, n1, n2]⟩ : Shape)) (k : Fin 2048)
    (h0 : start 0 = k.val) (h1 : start 1 = 0) (h2 : start 2 = 0) (a : Fin n1) (b : Fin n2) :
    Host.dynamicSlice (⟨3, ![1, n1, n2]⟩ : Shape) x start h (ix3 0 a b) = x (ix3 k a b) := by
  have e0 : Host.clampedStart (⟨3, ![2048, n1, n2]⟩ : Shape) (⟨3, ![1, n1, n2]⟩ : Shape) h.1 start 0 = k.val :=
    Host.clampedStart_of_le _ _ _ _ h0 (show k.val + 1 ≤ 2048 from by have := k.isLt; omega)
  have e1 : Host.clampedStart (⟨3, ![2048, n1, n2]⟩ : Shape) (⟨3, ![1, n1, n2]⟩ : Shape) h.1 start 1 = 0 :=
    Host.clampedStart_of_le _ _ _ _ h1 (show 0 + n1 ≤ n1 from by omega)
  have e2 : Host.clampedStart (⟨3, ![2048, n1, n2]⟩ : Shape) (⟨3, ![1, n1, n2]⟩ : Shape) h.1 start 2 = 0 :=
    Host.clampedStart_of_le _ _ _ _ h2 (show 0 + n2 ≤ n2 from by omega)
  rw [Host.dynamicSlice_apply, Shape.Idx.norm3]
  congr 1
  funext i
  match i with
  | ⟨0, _⟩ => exact Fin.ext (show Host.clampedStart (⟨3, ![2048, n1, n2]⟩ : Shape) (⟨3, ![1, n1, n2]⟩ : Shape) h.1 start 0 + (0 : ℕ) = k.val by omega)
  | ⟨1, _⟩ => exact Fin.ext (show Host.clampedStart (⟨3, ![2048, n1, n2]⟩ : Shape) (⟨3, ![1, n1, n2]⟩ : Shape) h.1 start 1 + a.val = a.val by omega)
  | ⟨2, _⟩ => exact Fin.ext (show Host.clampedStart (⟨3, ![2048, n1, n2]⟩ : Shape) (⟨3, ![1, n1, n2]⟩ : Shape) h.1 start 2 + b.val = b.val by omega)

variable {n1 n2 : ℕ} in
/-- An array of 3 axes after the block of one step is replaced. -/
theorem update3 {α : Type} (x : (⟨3, ![2048, n1, n2]⟩ : Shape).Idx → α) (u : (⟨3, ![1, n1, n2]⟩ : Shape).Idx → α) (start : Fin 3 → Int)
    (h : (⟨3, ![2048, n1, n2]⟩ : Shape).Slices (fun _ => 0) (⟨3, ![1, n1, n2]⟩ : Shape)) (k : Fin 2048)
    (h0 : start 0 = k.val) (h1 : start 1 = 0) (h2 : start 2 = 0) (t : Fin 2048) (a : Fin n1) (b : Fin n2) :
    Host.dynamicUpdateSlice x u start h (ix3 t a b) = if t = k then u (ix3 0 a b) else x (ix3 t a b) := by
  have e0 : Host.clampedStart (⟨3, ![2048, n1, n2]⟩ : Shape) (⟨3, ![1, n1, n2]⟩ : Shape) h.1 start 0 = k.val :=
    Host.clampedStart_of_le _ _ _ _ h0 (show k.val + 1 ≤ 2048 from by have := k.isLt; omega)
  have e1 : Host.clampedStart (⟨3, ![2048, n1, n2]⟩ : Shape) (⟨3, ![1, n1, n2]⟩ : Shape) h.1 start 1 = 0 :=
    Host.clampedStart_of_le _ _ _ _ h1 (show 0 + n1 ≤ n1 from by omega)
  have e2 : Host.clampedStart (⟨3, ![2048, n1, n2]⟩ : Shape) (⟨3, ![1, n1, n2]⟩ : Shape) h.1 start 2 = 0 :=
    Host.clampedStart_of_le _ _ _ _ h2 (show 0 + n2 ≤ n2 from by omega)
  rw [Host.dynamicUpdateSlice_apply]
  by_cases ht : t = k
  · subst ht
    rw [if_pos rfl, dif_pos]
    · rw [Shape.Idx.norm3]
      congr 1
      funext i
      match i with
      | ⟨0, _⟩ => exact Fin.ext (show t.val - Host.clampedStart (⟨3, ![2048, n1, n2]⟩ : Shape) (⟨3, ![1, n1, n2]⟩ : Shape) h.1 start 0 = 0 by omega)
      | ⟨1, _⟩ => exact Fin.ext (show a.val - Host.clampedStart (⟨3, ![2048, n1, n2]⟩ : Shape) (⟨3, ![1, n1, n2]⟩ : Shape) h.1 start 1 = a.val by omega)
      | ⟨2, _⟩ => exact Fin.ext (show b.val - Host.clampedStart (⟨3, ![2048, n1, n2]⟩ : Shape) (⟨3, ![1, n1, n2]⟩ : Shape) h.1 start 2 = b.val by omega)
    · intro i
      match i with
      | ⟨0, _⟩ =>
        show Host.clampedStart (⟨3, ![2048, n1, n2]⟩ : Shape) (⟨3, ![1, n1, n2]⟩ : Shape) h.1 start 0 ≤ t.val ∧ t.val < Host.clampedStart (⟨3, ![2048, n1, n2]⟩ : Shape) (⟨3, ![1, n1, n2]⟩ : Shape) h.1 start 0 + 1
        omega
      | ⟨1, _⟩ =>
        show Host.clampedStart (⟨3, ![2048, n1, n2]⟩ : Shape) (⟨3, ![1, n1, n2]⟩ : Shape) h.1 start 1 ≤ a.val ∧ a.val < Host.clampedStart (⟨3, ![2048, n1, n2]⟩ : Shape) (⟨3, ![1, n1, n2]⟩ : Shape) h.1 start 1 + n1
        omega
      | ⟨2, _⟩ =>
        show Host.clampedStart (⟨3, ![2048, n1, n2]⟩ : Shape) (⟨3, ![1, n1, n2]⟩ : Shape) h.1 start 2 ≤ b.val ∧ b.val < Host.clampedStart (⟨3, ![2048, n1, n2]⟩ : Shape) (⟨3, ![1, n1, n2]⟩ : Shape) h.1 start 2 + n2
        omega
  · rw [if_neg ht, dif_neg]
    intro hin
    have h' : Host.clampedStart (⟨3, ![2048, n1, n2]⟩ : Shape) (⟨3, ![1, n1, n2]⟩ : Shape) h.1 start 0 ≤ t.val ∧ t.val < Host.clampedStart (⟨3, ![2048, n1, n2]⟩ : Shape) (⟨3, ![1, n1, n2]⟩ : Shape) h.1 start 0 + 1 := hin 0
    exact ht (Fin.ext (by omega))

variable {n1 n2 n3 : ℕ} in
/-- The block of one step of an array of 4 axes. -/
theorem slice4 {α : Type} (x : (⟨4, ![2048, n1, n2, n3]⟩ : Shape).Idx → α) (start : Fin 4 → Int) (h : (⟨4, ![2048, n1, n2, n3]⟩ : Shape).Slices (fun _ => 0) (⟨4, ![1, n1, n2, n3]⟩ : Shape)) (k : Fin 2048)
    (h0 : start 0 = k.val) (h1 : start 1 = 0) (h2 : start 2 = 0) (h3 : start 3 = 0) (a : Fin n1) (b : Fin n2) (e : Fin n3) :
    Host.dynamicSlice (⟨4, ![1, n1, n2, n3]⟩ : Shape) x start h (ix4 0 a b e) = x (ix4 k a b e) := by
  have e0 : Host.clampedStart (⟨4, ![2048, n1, n2, n3]⟩ : Shape) (⟨4, ![1, n1, n2, n3]⟩ : Shape) h.1 start 0 = k.val :=
    Host.clampedStart_of_le _ _ _ _ h0 (show k.val + 1 ≤ 2048 from by have := k.isLt; omega)
  have e1 : Host.clampedStart (⟨4, ![2048, n1, n2, n3]⟩ : Shape) (⟨4, ![1, n1, n2, n3]⟩ : Shape) h.1 start 1 = 0 :=
    Host.clampedStart_of_le _ _ _ _ h1 (show 0 + n1 ≤ n1 from by omega)
  have e2 : Host.clampedStart (⟨4, ![2048, n1, n2, n3]⟩ : Shape) (⟨4, ![1, n1, n2, n3]⟩ : Shape) h.1 start 2 = 0 :=
    Host.clampedStart_of_le _ _ _ _ h2 (show 0 + n2 ≤ n2 from by omega)
  have e3 : Host.clampedStart (⟨4, ![2048, n1, n2, n3]⟩ : Shape) (⟨4, ![1, n1, n2, n3]⟩ : Shape) h.1 start 3 = 0 :=
    Host.clampedStart_of_le _ _ _ _ h3 (show 0 + n3 ≤ n3 from by omega)
  rw [Host.dynamicSlice_apply, Shape.Idx.norm4]
  congr 1
  funext i
  match i with
  | ⟨0, _⟩ => exact Fin.ext (show Host.clampedStart (⟨4, ![2048, n1, n2, n3]⟩ : Shape) (⟨4, ![1, n1, n2, n3]⟩ : Shape) h.1 start 0 + (0 : ℕ) = k.val by omega)
  | ⟨1, _⟩ => exact Fin.ext (show Host.clampedStart (⟨4, ![2048, n1, n2, n3]⟩ : Shape) (⟨4, ![1, n1, n2, n3]⟩ : Shape) h.1 start 1 + a.val = a.val by omega)
  | ⟨2, _⟩ => exact Fin.ext (show Host.clampedStart (⟨4, ![2048, n1, n2, n3]⟩ : Shape) (⟨4, ![1, n1, n2, n3]⟩ : Shape) h.1 start 2 + b.val = b.val by omega)
  | ⟨3, _⟩ => exact Fin.ext (show Host.clampedStart (⟨4, ![2048, n1, n2, n3]⟩ : Shape) (⟨4, ![1, n1, n2, n3]⟩ : Shape) h.1 start 3 + e.val = e.val by omega)

variable {n1 n2 n3 : ℕ} in
/-- An array of 4 axes after the block of one step is replaced. -/
theorem update4 {α : Type} (x : (⟨4, ![2048, n1, n2, n3]⟩ : Shape).Idx → α) (u : (⟨4, ![1, n1, n2, n3]⟩ : Shape).Idx → α) (start : Fin 4 → Int)
    (h : (⟨4, ![2048, n1, n2, n3]⟩ : Shape).Slices (fun _ => 0) (⟨4, ![1, n1, n2, n3]⟩ : Shape)) (k : Fin 2048)
    (h0 : start 0 = k.val) (h1 : start 1 = 0) (h2 : start 2 = 0) (h3 : start 3 = 0) (t : Fin 2048) (a : Fin n1) (b : Fin n2) (e : Fin n3) :
    Host.dynamicUpdateSlice x u start h (ix4 t a b e) = if t = k then u (ix4 0 a b e) else x (ix4 t a b e) := by
  have e0 : Host.clampedStart (⟨4, ![2048, n1, n2, n3]⟩ : Shape) (⟨4, ![1, n1, n2, n3]⟩ : Shape) h.1 start 0 = k.val :=
    Host.clampedStart_of_le _ _ _ _ h0 (show k.val + 1 ≤ 2048 from by have := k.isLt; omega)
  have e1 : Host.clampedStart (⟨4, ![2048, n1, n2, n3]⟩ : Shape) (⟨4, ![1, n1, n2, n3]⟩ : Shape) h.1 start 1 = 0 :=
    Host.clampedStart_of_le _ _ _ _ h1 (show 0 + n1 ≤ n1 from by omega)
  have e2 : Host.clampedStart (⟨4, ![2048, n1, n2, n3]⟩ : Shape) (⟨4, ![1, n1, n2, n3]⟩ : Shape) h.1 start 2 = 0 :=
    Host.clampedStart_of_le _ _ _ _ h2 (show 0 + n2 ≤ n2 from by omega)
  have e3 : Host.clampedStart (⟨4, ![2048, n1, n2, n3]⟩ : Shape) (⟨4, ![1, n1, n2, n3]⟩ : Shape) h.1 start 3 = 0 :=
    Host.clampedStart_of_le _ _ _ _ h3 (show 0 + n3 ≤ n3 from by omega)
  rw [Host.dynamicUpdateSlice_apply]
  by_cases ht : t = k
  · subst ht
    rw [if_pos rfl, dif_pos]
    · rw [Shape.Idx.norm4]
      congr 1
      funext i
      match i with
      | ⟨0, _⟩ => exact Fin.ext (show t.val - Host.clampedStart (⟨4, ![2048, n1, n2, n3]⟩ : Shape) (⟨4, ![1, n1, n2, n3]⟩ : Shape) h.1 start 0 = 0 by omega)
      | ⟨1, _⟩ => exact Fin.ext (show a.val - Host.clampedStart (⟨4, ![2048, n1, n2, n3]⟩ : Shape) (⟨4, ![1, n1, n2, n3]⟩ : Shape) h.1 start 1 = a.val by omega)
      | ⟨2, _⟩ => exact Fin.ext (show b.val - Host.clampedStart (⟨4, ![2048, n1, n2, n3]⟩ : Shape) (⟨4, ![1, n1, n2, n3]⟩ : Shape) h.1 start 2 = b.val by omega)
      | ⟨3, _⟩ => exact Fin.ext (show e.val - Host.clampedStart (⟨4, ![2048, n1, n2, n3]⟩ : Shape) (⟨4, ![1, n1, n2, n3]⟩ : Shape) h.1 start 3 = e.val by omega)
    · intro i
      match i with
      | ⟨0, _⟩ =>
        show Host.clampedStart (⟨4, ![2048, n1, n2, n3]⟩ : Shape) (⟨4, ![1, n1, n2, n3]⟩ : Shape) h.1 start 0 ≤ t.val ∧ t.val < Host.clampedStart (⟨4, ![2048, n1, n2, n3]⟩ : Shape) (⟨4, ![1, n1, n2, n3]⟩ : Shape) h.1 start 0 + 1
        omega
      | ⟨1, _⟩ =>
        show Host.clampedStart (⟨4, ![2048, n1, n2, n3]⟩ : Shape) (⟨4, ![1, n1, n2, n3]⟩ : Shape) h.1 start 1 ≤ a.val ∧ a.val < Host.clampedStart (⟨4, ![2048, n1, n2, n3]⟩ : Shape) (⟨4, ![1, n1, n2, n3]⟩ : Shape) h.1 start 1 + n1
        omega
      | ⟨2, _⟩ =>
        show Host.clampedStart (⟨4, ![2048, n1, n2, n3]⟩ : Shape) (⟨4, ![1, n1, n2, n3]⟩ : Shape) h.1 start 2 ≤ b.val ∧ b.val < Host.clampedStart (⟨4, ![2048, n1, n2, n3]⟩ : Shape) (⟨4, ![1, n1, n2, n3]⟩ : Shape) h.1 start 2 + n2
        omega
      | ⟨3, _⟩ =>
        show Host.clampedStart (⟨4, ![2048, n1, n2, n3]⟩ : Shape) (⟨4, ![1, n1, n2, n3]⟩ : Shape) h.1 start 3 ≤ e.val ∧ e.val < Host.clampedStart (⟨4, ![2048, n1, n2, n3]⟩ : Shape) (⟨4, ![1, n1, n2, n3]⟩ : Shape) h.1 start 3 + n3
        omega
  · rw [if_neg ht, dif_neg]
    intro hin
    have h' : Host.clampedStart (⟨4, ![2048, n1, n2, n3]⟩ : Shape) (⟨4, ![1, n1, n2, n3]⟩ : Shape) h.1 start 0 ≤ t.val ∧ t.val < Host.clampedStart (⟨4, ![2048, n1, n2, n3]⟩ : Shape) (⟨4, ![1, n1, n2, n3]⟩ : Shape) h.1 start 0 + 1 := hin 0
    exact ht (Fin.ext (by omega))

/-- The counter of a loop from 0 by 1, read as a signed number. -/
theorem iv_int (k : Fin 2048) : (Scf.iv 0#32 1#32 k.val).toInt = (k.val : ℤ) := by
  rw [Scf.toInt_iv (ub := 2048#32) (by decide) (by have : Scf.trips (0#32 : BitVec 32) 2048#32 1#32 = 2048 := by decide
                                                   rw [this]; have := k.isLt; omega)]
  simp

/-- The backward loop's step: the last one first. -/
theorem rev_int (k : Fin 2048) : (IntOp.subi (IntOp.subi 2048#32 (Scf.iv 0#32 1#32 k.val)) 1#32).toInt = ((2047 - k.val : ℕ) : ℤ) := by
  have hk := k.isLt
  have e : (IntOp.subi (IntOp.subi 2048#32 (Scf.iv 0#32 1#32 k.val)) 1#32) = BitVec.ofNat 32 (2047 - k.val) := by
    apply BitVec.eq_of_toNat_eq
    simp [IntOp.subi, Scf.iv, BitVec.toNat_sub, BitVec.toNat_ofNat]
    omega
  rw [e, BitVec.toInt_eq_toNat_of_lt (by rw [BitVec.toNat_ofNat]; omega), BitVec.toNat_ofNat]
  omega

end Cert.ReferenceIdeal.Scan

end
-- ==== Proof.RefEvalF.lean ====
/- What each stretch of the reference's forward step leaves, entry by entry. -/
module

public import proofs.«01_k».proof.Proof.RefSlice
public import Idealize.ShloMosaic.Lib.StableHlo.RunClose

@[expose] public section

set_option maxRecDepth 16384

noncomputable section

namespace Cert.ReferenceIdeal.Scan

open Cert.ReferenceIdeal Cert.ReferenceIdeal.Gen
open Idealize.ShloMosaic Idealize.ShloMosaic.TcCoe Idealize.ShloMosaic.Tactic Idealize.ShloMosaic.StableHlo
open Idealize.SL.Sem
open Cert.KernelIdeal.Scan (stepF stepD stepDsa stepG col key Rows row2 row4 arr2 rowsOf)

/-- Entry `i` of head `h`, as one of the 256 entries of a row. -/
def hd (h : Fin 4) (i : Fin 64) : Fin 256 := ⟨h.val * 64 + i.val, by omega⟩

theorem col_hd (h : Fin 4) (v i : Fin 64) : col (hd h v) i = hd h i := by
  apply Fin.ext
  simp only [col, hd]
  omega

theorem key_hd (h : Fin 4) (i : Fin 64) : key (hd h i) = i := by
  apply Fin.ext
  simp only [key, hd]
  omega

theorem stepF_hd (w k v c b : Fin 256 → EReal) (s : Fin 64 → Fin 256 → EReal) (h : Fin 4) (u i : Fin 64) :
    stepF w k v c b s i (hd h u) = s i (hd h u) * w (hd h i) + (∑ a : Fin 64, s a (hd h u) * c (hd h a)) * b (hd h i) + v (hd h u) * k (hd h i) := by
  simp only [stepF, col_hd]
  rw [mul_comm (b _), mul_comm (k _)]

theorem cast3 {α : Type} (x : S1x4x64.Idx → α) (hx : S1x4x64.ShapeCasts S4x64) (h : Fin 4) (i : Fin 64) :
    shapeCast S4x64 x hx (ix2 h i) = x (ix3 0 h i) := by
  pointwise

variable (V : Valuation τ sig (Elt Ideal))

/-! ## The step's rows -/

theorem F0_r (k : Fin 2048) (hc : (V main_v18_6 : S_.Idx → BitVec 32) = fun _ => Scf.iv 0#32 1#32 k.val) (h : Fin 4) (i : Fin 64) :
    (after bodyF0 V main_while0b_v36 : S4x64.Idx → EReal) (ix2 h i) = (V main_v18_0 : S2048x4x64.Idx → EReal) (ix3 k h i) := by
  after_results_simp_entrywise
  simp only [TRef.ofBuf, TRef.toBuf, dropContentsCast, cast_eq, id, hc]
  exact (cast3 _ _ h i).trans (slice3 _ _ _ k (iv_int k) rfl rfl h i)

theorem F0_w (k : Fin 2048) (hc : (V main_v18_6 : S_.Idx → BitVec 32) = fun _ => Scf.iv 0#32 1#32 k.val) (h : Fin 4) (i : Fin 64) :
    (after bodyF0 V main_while0b_v37 : S4x64.Idx → EReal) (ix2 h i) = (V main_v18_1 : S2048x4x64.Idx → EReal) (ix3 k h i) := by
  after_results_simp_entrywise
  simp only [TRef.ofBuf, TRef.toBuf, dropContentsCast, cast_eq, id, hc]
  exact (cast3 _ _ h i).trans (slice3 _ _ _ k (iv_int k) rfl rfl h i)

theorem F0_k (k : Fin 2048) (hc : (V main_v18_6 : S_.Idx → BitVec 32) = fun _ => Scf.iv 0#32 1#32 k.val) (h : Fin 4) (i : Fin 64) :
    (after bodyF0 V main_while0b_v38 : S4x64.Idx → EReal) (ix2 h i) = (V main_v18_2 : S2048x4x64.Idx → EReal) (ix3 k h i) := by
  after_results_simp_entrywise
  simp only [TRef.ofBuf, TRef.toBuf, dropContentsCast, cast_eq, id, hc]
  exact (cast3 _ _ h i).trans (slice3 _ _ _ k (iv_int k) rfl rfl h i)

theorem F0_v (k : Fin 2048) (hc : (V main_v18_6 : S_.Idx → BitVec 32) = fun _ => Scf.iv 0#32 1#32 k.val) (h : Fin 4) (i : Fin 64) :
    (after bodyF0 V main_while0b_v39 : S4x64.Idx → EReal) (ix2 h i) = (V main_v18_3 : S2048x4x64.Idx → EReal) (ix3 k h i) := by
  after_results_simp_entrywise
  simp only [TRef.ofBuf, TRef.toBuf, dropContentsCast, cast_eq, id, hc]
  exact (cast3 _ _ h i).trans (slice3 _ _ _ k (iv_int k) rfl rfl h i)

theorem F0_c (k : Fin 2048) (hc : (V main_v18_6 : S_.Idx → BitVec 32) = fun _ => Scf.iv 0#32 1#32 k.val) (h : Fin 4) (i : Fin 64) :
    (after bodyF0 V main_while0b_v40 : S4x64.Idx → EReal) (ix2 h i) = (V main_v18_4 : S2048x4x64.Idx → EReal) (ix3 k h i) := by
  after_results_simp_entrywise
  simp only [TRef.ofBuf, TRef.toBuf, dropContentsCast, cast_eq, id, hc]
  exact (cast3 _ _ h i).trans (slice3 _ _ _ k (iv_int k) rfl rfl h i)

theorem F0_b (k : Fin 2048) (hc : (V main_v18_6 : S_.Idx → BitVec 32) = fun _ => Scf.iv 0#32 1#32 k.val) (h : Fin 4) (i : Fin 64) :
    (after bodyF0 V main_while0b_v41 : S4x64.Idx → EReal) (ix2 h i) = (V main_v18_5 : S2048x4x64.Idx → EReal) (ix3 k h i) := by
  after_results_simp_entrywise
  simp only [TRef.ofBuf, TRef.toBuf, dropContentsCast, cast_eq, id, hc]
  exact (cast3 _ _ h i).trans (slice3 _ _ _ k (iv_int k) rfl rfl h i)

/-! ## The step's sums and products -/

section
variable {r w k v c b : Fin 256 → EReal} {s : Fin 64 → Fin 256 → EReal}

theorem F1_sa (hc : ∀ h i, (V main_while0b_v40 : S4x64.Idx → EReal) (ix2 h i) = c (hd h i))
    (hs : ∀ h v i, (V main_v18_7 : S4x64x64.Idx → EReal) (ix3 h v i) = s i (hd h v)) (h : Fin 4) (u : Fin 64) :
    (after bodyF1 V main_while0b_v49 : S4x64x1.Idx → EReal) (ix3 h u 0) = ∑ a : Fin 64, s a (hd h u) * c (hd h a) := by
  after_results_simp_entrywise
  pointwise
  simp only [hc, hs]

theorem F1_s (hw : ∀ h i, (V main_while0b_v37 : S4x64.Idx → EReal) (ix2 h i) = w (hd h i))
    (hk : ∀ h i, (V main_while0b_v38 : S4x64.Idx → EReal) (ix2 h i) = k (hd h i))
    (hv : ∀ h i, (V main_while0b_v39 : S4x64.Idx → EReal) (ix2 h i) = v (hd h i))
    (hc : ∀ h i, (V main_while0b_v40 : S4x64.Idx → EReal) (ix2 h i) = c (hd h i))
    (hb : ∀ h i, (V main_while0b_v41 : S4x64.Idx → EReal) (ix2 h i) = b (hd h i))
    (hs : ∀ h v i, (V main_v18_7 : S4x64x64.Idx → EReal) (ix3 h v i) = s i (hd h v)) (h : Fin 4) (u i : Fin 64) :
    (after bodyF1 V main_while0b_v60 : S4x64x64.Idx → EReal) (ix3 h u i) = stepF w k v c b s i (hd h u) := by
  after_results_simp_entrywise
  pointwise
  simp only [hw, hk, hv, hc, hb, hs, stepF_hd]

theorem F1_y (hr : ∀ h i, (V main_while0b_v36 : S4x64.Idx → EReal) (ix2 h i) = r (hd h i))
    (hw : ∀ h i, (V main_while0b_v37 : S4x64.Idx → EReal) (ix2 h i) = w (hd h i))
    (hk : ∀ h i, (V main_while0b_v38 : S4x64.Idx → EReal) (ix2 h i) = k (hd h i))
    (hv : ∀ h i, (V main_while0b_v39 : S4x64.Idx → EReal) (ix2 h i) = v (hd h i))
    (hc : ∀ h i, (V main_while0b_v40 : S4x64.Idx → EReal) (ix2 h i) = c (hd h i))
    (hb : ∀ h i, (V main_while0b_v41 : S4x64.Idx → EReal) (ix2 h i) = b (hd h i))
    (hs : ∀ h v i, (V main_v18_7 : S4x64x64.Idx → EReal) (ix3 h v i) = s i (hd h v)) (h : Fin 4) (u : Fin 64) :
    (after bodyF1 V main_while0b_v64 : S4x64.Idx → EReal) (ix2 h u) = ∑ i : Fin 64, stepF w k v c b s i (hd h u) * r (hd h i) := by
  after_results_simp_entrywise
  pointwise
  simp only [hr, hw, hk, hv, hc, hb, hs, stepF_hd]

theorem F1_c (hc : ∀ h i, (V main_while0b_v40 : S4x64.Idx → EReal) (ix2 h i) = c (hd h i)) (h : Fin 4) (i : Fin 64) :
    (after bodyF1 V main_while0b_v42 : S4x1x64.Idx → EReal) (ix3 h 0 i) = c (hd h i) := by
  after_results_simp_entrywise
  pointwise
  simp only [hc]

theorem F1_w (hw : ∀ h i, (V main_while0b_v37 : S4x64.Idx → EReal) (ix2 h i) = w (hd h i)) (h : Fin 4) (i : Fin 64) :
    (after bodyF1 V main_while0b_v46 : S4x1x64.Idx → EReal) (ix3 h 0 i) = w (hd h i) := by
  after_results_simp_entrywise
  pointwise
  simp only [hw]

theorem F1_b (hb : ∀ h i, (V main_while0b_v41 : S4x64.Idx → EReal) (ix2 h i) = b (hd h i)) (h : Fin 4) (i : Fin 64) :
    (after bodyF1 V main_while0b_v50 : S4x1x64.Idx → EReal) (ix3 h 0 i) = b (hd h i) := by
  after_results_simp_entrywise
  pointwise
  simp only [hb]

theorem F1_k (hk : ∀ h i, (V main_while0b_v38 : S4x64.Idx → EReal) (ix2 h i) = k (hd h i)) (h : Fin 4) (i : Fin 64) :
    (after bodyF1 V main_while0b_v56 : S4x1x64.Idx → EReal) (ix3 h 0 i) = k (hd h i) := by
  after_results_simp_entrywise
  pointwise
  simp only [hk]

theorem F1_v (hv : ∀ h i, (V main_while0b_v39 : S4x64.Idx → EReal) (ix2 h i) = v (hd h i)) (h : Fin 4) (i : Fin 64) :
    (after bodyF1 V main_while0b_v55 : S4x64x1.Idx → EReal) (ix3 h i 0) = v (hd h i) := by
  after_results_simp_entrywise
  pointwise
  simp only [hv]

theorem F1_r (hr : ∀ h i, (V main_while0b_v36 : S4x64.Idx → EReal) (ix2 h i) = r (hd h i)) (h : Fin 4) (i : Fin 64) :
    (after bodyF1 V main_while0b_v61 : S4x1x64.Idx → EReal) (ix3 h 0 i) = r (hd h i) := by
  after_results_simp_entrywise
  pointwise
  simp only [hr]

end

/-! ## The step's rows, put in -/

theorem F2_y (k : Fin 2048) (hc : (V main_v18_6 : S_.Idx → BitVec 32) = fun _ => Scf.iv 0#32 1#32 k.val) (t : Fin 2048) (h : Fin 4) (i : Fin 64) :
    (after bodyF2 V main_while0b_v65 : S2048x4x64.Idx → EReal) (ix3 t h i) =
      if t = k then (V main_while0b_v64 : S4x64.Idx → EReal) (ix2 h i) else (V main_v18_8 : S2048x4x64.Idx → EReal) (ix3 t h i) := by
  after_results_simp_entrywise
  simp only [TRef.ofBuf, TRef.toBuf, dropContentsCast, cast_eq, id, hc]
  refine (update3 _ _ _ _ k (iv_int k) rfl rfl t h i).trans (if_congr Iff.rfl ?_ rfl)
  pointwise

theorem F2_c (k : Fin 2048) (hc : (V main_v18_6 : S_.Idx → BitVec 32) = fun _ => Scf.iv 0#32 1#32 k.val) (t : Fin 2048) (h : Fin 4) (i : Fin 64) :
    (after bodyF2 V main_while0b_v66 : S2048x4x1x64.Idx → EReal) (ix4 t h 0 i) =
      if t = k then (V main_while0b_v42 : S4x1x64.Idx → EReal) (ix3 h 0 i) else (V main_v18_9 : S2048x4x1x64.Idx → EReal) (ix4 t h 0 i) := by
  after_results_simp_entrywise
  simp only [TRef.ofBuf, TRef.toBuf, dropContentsCast, cast_eq, id, hc]
  refine (update4 _ _ _ _ k (iv_int k) rfl rfl rfl t h 0 i).trans (if_congr Iff.rfl ?_ rfl)
  pointwise

theorem F2_sp (k : Fin 2048) (hc : (V main_v18_6 : S_.Idx → BitVec 32) = fun _ => Scf.iv 0#32 1#32 k.val) (t : Fin 2048) (h : Fin 4) (u i : Fin 64) :
    (after bodyF2 V main_while0b_v67 : S2048x4x64x64.Idx → EReal) (ix4 t h u i) =
      if t = k then (V main_v18_7 : S4x64x64.Idx → EReal) (ix3 h u i) else (V main_v18_10 : S2048x4x64x64.Idx → EReal) (ix4 t h u i) := by
  after_results_simp_entrywise
  simp only [TRef.ofBuf, TRef.toBuf, dropContentsCast, cast_eq, id, hc]
  refine (update4 _ _ _ _ k (iv_int k) rfl rfl rfl t h u i).trans (if_congr Iff.rfl ?_ rfl)
  pointwise

theorem F2_w (k : Fin 2048) (hc : (V main_v18_6 : S_.Idx → BitVec 32) = fun _ => Scf.iv 0#32 1#32 k.val) (t : Fin 2048) (h : Fin 4) (i : Fin 64) :
    (after bodyF2 V main_while0b_v68 : S2048x4x1x64.Idx → EReal) (ix4 t h 0 i) =
      if t = k then (V main_while0b_v46 : S4x1x64.Idx → EReal) (ix3 h 0 i) else (V main_v18_11 : S2048x4x1x64.Idx → EReal) (ix4 t h 0 i) := by
  after_results_simp_entrywise
  simp only [TRef.ofBuf, TRef.toBuf, dropContentsCast, cast_eq, id, hc]
  refine (update4 _ _ _ _ k (iv_int k) rfl rfl rfl t h 0 i).trans (if_congr Iff.rfl ?_ rfl)
  pointwise

theorem F2_b (k : Fin 2048) (hc : (V main_v18_6 : S_.Idx → BitVec 32) = fun _ => Scf.iv 0#32 1#32 k.val) (t : Fin 2048) (h : Fin 4) (i : Fin 64) :
    (after bodyF2 V main_while0b_v69 : S2048x4x1x64.Idx → EReal) (ix4 t h 0 i) =
      if t = k then (V main_while0b_v50 : S4x1x64.Idx → EReal) (ix3 h 0 i) else (V main_v18_12 : S2048x4x1x64.Idx → EReal) (ix4 t h 0 i) := by
  after_results_simp_entrywise
  simp only [TRef.ofBuf, TRef.toBuf, dropContentsCast, cast_eq, id, hc]
  refine (update4 _ _ _ _ k (iv_int k) rfl rfl rfl t h 0 i).trans (if_congr Iff.rfl ?_ rfl)
  pointwise

theorem F2_sa (k : Fin 2048) (hc : (V main_v18_6 : S_.Idx → BitVec 32) = fun _ => Scf.iv 0#32 1#32 k.val) (t : Fin 2048) (h : Fin 4) (i : Fin 64) :
    (after bodyF2 V main_while0b_v70 : S2048x4x64x1.Idx → EReal) (ix4 t h i 0) =
      if t = k then (V main_while0b_v49 : S4x64x1.Idx → EReal) (ix3 h i 0) else (V main_v18_13 : S2048x4x64x1.Idx → EReal) (ix4 t h i 0) := by
  after_results_simp_entrywise
  simp only [TRef.ofBuf, TRef.toBuf, dropContentsCast, cast_eq, id, hc]
  refine (update4 _ _ _ _ k (iv_int k) rfl rfl rfl t h i 0).trans (if_congr Iff.rfl ?_ rfl)
  pointwise

theorem F2_k (k : Fin 2048) (hc : (V main_v18_6 : S_.Idx → BitVec 32) = fun _ => Scf.iv 0#32 1#32 k.val) (t : Fin 2048) (h : Fin 4) (i : Fin 64) :
    (after bodyF2 V main_while0b_v71 : S2048x4x1x64.Idx → EReal) (ix4 t h 0 i) =
      if t = k then (V main_while0b_v56 : S4x1x64.Idx → EReal) (ix3 h 0 i) else (V main_v18_14 : S2048x4x1x64.Idx → EReal) (ix4 t h 0 i) := by
  after_results_simp_entrywise
  simp only [TRef.ofBuf, TRef.toBuf, dropContentsCast, cast_eq, id, hc]
  refine (update4 _ _ _ _ k (iv_int k) rfl rfl rfl t h 0 i).trans (if_congr Iff.rfl ?_ rfl)
  pointwise

theorem F2_v (k : Fin 2048) (hc : (V main_v18_6 : S_.Idx → BitVec 32) = fun _ => Scf.iv 0#32 1#32 k.val) (t : Fin 2048) (h : Fin 4) (i : Fin 64) :
    (after bodyF2 V main_while0b_v72 : S2048x4x64x1.Idx → EReal) (ix4 t h i 0) =
      if t = k then (V main_while0b_v55 : S4x64x1.Idx → EReal) (ix3 h i 0) else (V main_v18_15 : S2048x4x64x1.Idx → EReal) (ix4 t h i 0) := by
  after_results_simp_entrywise
  simp only [TRef.ofBuf, TRef.toBuf, dropContentsCast, cast_eq, id, hc]
  refine (update4 _ _ _ _ k (iv_int k) rfl rfl rfl t h i 0).trans (if_congr Iff.rfl ?_ rfl)
  pointwise

theorem F2_r (k : Fin 2048) (hc : (V main_v18_6 : S_.Idx → BitVec 32) = fun _ => Scf.iv 0#32 1#32 k.val) (t : Fin 2048) (h : Fin 4) (i : Fin 64) :
    (after bodyF2 V main_while0b_v73 : S2048x4x1x64.Idx → EReal) (ix4 t h 0 i) =
      if t = k then (V main_while0b_v61 : S4x1x64.Idx → EReal) (ix3 h 0 i) else (V main_v18_16 : S2048x4x1x64.Idx → EReal) (ix4 t h 0 i) := by
  after_results_simp_entrywise
  simp only [TRef.ofBuf, TRef.toBuf, dropContentsCast, cast_eq, id, hc]
  refine (update4 _ _ _ _ k (iv_int k) rfl rfl rfl t h 0 i).trans (if_congr Iff.rfl ?_ rfl)
  pointwise

theorem F2_sn (k : Fin 2048) (hc : (V main_v18_6 : S_.Idx → BitVec 32) = fun _ => Scf.iv 0#32 1#32 k.val) (t : Fin 2048) (h : Fin 4) (u i : Fin 64) :
    (after bodyF2 V main_while0b_v74 : S2048x4x64x64.Idx → EReal) (ix4 t h u i) =
      if t = k then (V main_while0b_v60 : S4x64x64.Idx → EReal) (ix3 h u i) else (V main_v18_17 : S2048x4x64x64.Idx → EReal) (ix4 t h u i) := by
  after_results_simp_entrywise
  simp only [TRef.ofBuf, TRef.toBuf, dropContentsCast, cast_eq, id, hc]
  refine (update4 _ _ _ _ k (iv_int k) rfl rfl rfl t h u i).trans (if_congr Iff.rfl ?_ rfl)
  pointwise

/-! ## The carried arrays, copied -/

theorem F3_s : (after bodyF3 V main_v18_7 : S4x64x64.Idx → EReal) = V main_while0b_v60 := by
  after_results
  rfl

theorem F3_y : (after bodyF3 V main_v18_8 : S2048x4x64.Idx → EReal) = V main_while0b_v65 := by
  after_results
  rfl

theorem F3_c : (after bodyF3 V main_v18_9 : S2048x4x1x64.Idx → EReal) = V main_while0b_v66 := by
  after_results
  rfl

theorem F3_sp : (after bodyF3 V main_v18_10 : S2048x4x64x64.Idx → EReal) = V main_while0b_v67 := by
  after_results
  rfl

theorem F3_w : (after bodyF3 V main_v18_11 : S2048x4x1x64.Idx → EReal) = V main_while0b_v68 := by
  after_results
  rfl

theorem F3_b : (after bodyF3 V main_v18_12 : S2048x4x1x64.Idx → EReal) = V main_while0b_v69 := by
  after_results
  rfl

theorem F3_sa : (after bodyF3 V main_v18_13 : S2048x4x64x1.Idx → EReal) = V main_while0b_v70 := by
  after_results
  rfl

theorem F3_k : (after bodyF3 V main_v18_14 : S2048x4x1x64.Idx → EReal) = V main_while0b_v71 := by
  after_results
  rfl

theorem F3_v : (after bodyF3 V main_v18_15 : S2048x4x64x1.Idx → EReal) = V main_while0b_v72 := by
  after_results
  rfl

theorem F3_r : (after bodyF3 V main_v18_16 : S2048x4x1x64.Idx → EReal) = V main_while0b_v73 := by
  after_results
  rfl

theorem F3_sn : (after bodyF3 V main_v18_17 : S2048x4x64x64.Idx → EReal) = V main_while0b_v74 := by
  after_results
  rfl

end Cert.ReferenceIdeal.Scan

end
-- ==== Proof.RefEvalB.lean ====
/- What each stretch of the reference's backward step leaves, entry by entry. -/
module

public import proofs.«01_k».proof.Proof.RefEvalF

@[expose] public section

set_option maxRecDepth 16384

noncomputable section

namespace Cert.ReferenceIdeal.Scan

open Cert.ReferenceIdeal Cert.ReferenceIdeal.Gen
open Idealize.ShloMosaic Idealize.ShloMosaic.TcCoe Idealize.ShloMosaic.Tactic Idealize.ShloMosaic.StableHlo
open Idealize.SL.Sem
open Cert.KernelIdeal.Scan (stepF stepD stepDsa stepG col key Rows row2 row4 arr2 rowsOf)

theorem stepD_hd (r dy : Fin 256 → EReal) (g : Fin 64 → Fin 256 → EReal) (h : Fin 4) (u i : Fin 64) :
    stepD r dy g i (hd h u) = g i (hd h u) + dy (hd h u) * r (hd h i) := by
  simp only [stepD, col_hd]
  rw [mul_comm (r _)]

theorem stepDsa_hd (b : Fin 256 → EReal) (d : Fin 64 → Fin 256 → EReal) (h : Fin 4) (u : Fin 64) :
    stepDsa b d (hd h u) = ∑ a : Fin 64, d a (hd h u) * b (hd h a) := by
  simp only [stepDsa, col_hd]

theorem stepG_hd (w c b : Fin 256 → EReal) (d : Fin 64 → Fin 256 → EReal) (h : Fin 4) (u i : Fin 64) :
    stepG w c b d i (hd h u) = d i (hd h u) * w (hd h i) + (∑ a : Fin 64, d a (hd h u) * b (hd h a)) * c (hd h i) := by
  simp only [stepG, stepDsa, col_hd]
  rw [mul_comm (c _)]

theorem cast4k {α : Type} (x : S1x4x1x64.Idx → α) (hx : S1x4x1x64.ShapeCasts S4x1x64) (h : Fin 4) (i : Fin 64) :
    shapeCast S4x1x64 x hx (ix3 h 0 i) = x (ix4 0 h 0 i) := by
  pointwise

theorem cast4v {α : Type} (x : S1x4x64x1.Idx → α) (hx : S1x4x64x1.ShapeCasts S4x64x1) (h : Fin 4) (i : Fin 64) :
    shapeCast S4x64x1 x hx (ix3 h i 0) = x (ix4 0 h i 0) := by
  pointwise

theorem cast4s {α : Type} (x : S1x4x64x64.Idx → α) (hx : S1x4x64x64.ShapeCasts S4x64x64) (h : Fin 4) (u i : Fin 64) :
    shapeCast S4x64x64 x hx (ix3 h u i) = x (ix4 0 h u i) := by
  pointwise

variable (V : Valuation τ sig (Elt Ideal))

/-! ## The step's index -/

theorem B0_t (j : Fin 2048) (hc : (V main_v29_10 : S_.Idx → BitVec 32) = fun _ => Scf.iv 0#32 1#32 j.val) :
    ((after bodyB0 V main_while1b_v37 : S_.Idx → BitVec 32) (Shape.Idx.first h_S_)).toInt = ((2047 - j.val : ℕ) : ℤ) := by
  after_results
  simp only [hc]
  exact rev_int j

/-! ## The step's rows -/

theorem B1_dy (t : Fin 2048) (ht : ((V main_while1b_v37 : S_.Idx → BitVec 32) (Shape.Idx.first h_S_)).toInt = (t.val : ℤ)) (h : Fin 4) (i : Fin 64) :
    (after bodyB1 V main_while1b_v38 : S4x64.Idx → EReal) (ix2 h i) = (V main_v29_0 : S2048x4x64.Idx → EReal) (ix3 t h i) := by
  after_results_simp_entrywise
  simp only [TRef.ofBuf, TRef.toBuf, dropContentsCast, cast_eq, id]
  exact (cast3 _ _ h i).trans (slice3 _ _ _ t ht rfl rfl h i)

theorem B1_c (t : Fin 2048) (ht : ((V main_while1b_v37 : S_.Idx → BitVec 32) (Shape.Idx.first h_S_)).toInt = (t.val : ℤ)) (h : Fin 4) (i : Fin 64) :
    (after bodyB1 V main_while1b_v39 : S4x1x64.Idx → EReal) (ix3 h 0 i) = (V main_v29_1 : S2048x4x1x64.Idx → EReal) (ix4 t h 0 i) := by
  after_results_simp_entrywise
  simp only [TRef.ofBuf, TRef.toBuf, dropContentsCast, cast_eq, id]
  exact (cast4k _ _ h i).trans (slice4 _ _ _ t ht rfl rfl rfl h 0 i)

theorem B1_sp (t : Fin 2048) (ht : ((V main_while1b_v37 : S_.Idx → BitVec 32) (Shape.Idx.first h_S_)).toInt = (t.val : ℤ)) (h : Fin 4) (u i : Fin 64) :
    (after bodyB1 V main_while1b_v40 : S4x64x64.Idx → EReal) (ix3 h u i) = (V main_v29_2 : S2048x4x64x64.Idx → EReal) (ix4 t h u i) := by
  after_results_simp_entrywise
  simp only [TRef.ofBuf, TRef.toBuf, dropContentsCast, cast_eq, id]
  exact (cast4s _ _ h u i).trans (slice4 _ _ _ t ht rfl rfl rfl h u i)

theorem B1_w (t : Fin 2048) (ht : ((V main_while1b_v37 : S_.Idx → BitVec 32) (Shape.Idx.first h_S_)).toInt = (t.val : ℤ)) (h : Fin 4) (i : Fin 64) :
    (after bodyB1 V main_while1b_v41 : S4x1x64.Idx → EReal) (ix3 h 0 i) = (V main_v29_3 : S2048x4x1x64.Idx → EReal) (ix4 t h 0 i) := by
  after_results_simp_entrywise
  simp only [TRef.ofBuf, TRef.toBuf, dropContentsCast, cast_eq, id]
  exact (cast4k _ _ h i).trans (slice4 _ _ _ t ht rfl rfl rfl h 0 i)

theorem B1_b (t : Fin 2048) (ht : ((V main_while1b_v37 : S_.Idx → BitVec 32) (Shape.Idx.first h_S_)).toInt = (t.val : ℤ)) (h : Fin 4) (i : Fin 64) :
    (after bodyB1 V main_while1b_v42 : S4x1x64.Idx → EReal) (ix3 h 0 i) = (V main_v29_4 : S2048x4x1x64.Idx → EReal) (ix4 t h 0 i) := by
  after_results_simp_entrywise
  simp only [TRef.ofBuf, TRef.toBuf, dropContentsCast, cast_eq, id]
  exact (cast4k _ _ h i).trans (slice4 _ _ _ t ht rfl rfl rfl h 0 i)

theorem B1_sa (t : Fin 2048) (ht : ((V main_while1b_v37 : S_.Idx → BitVec 32) (Shape.Idx.first h_S_)).toInt = (t.val : ℤ)) (h : Fin 4) (i : Fin 64) :
    (after bodyB1 V main_while1b_v43 : S4x64x1.Idx → EReal) (ix3 h i 0) = (V main_v29_5 : S2048x4x64x1.Idx → EReal) (ix4 t h i 0) := by
  after_results_simp_entrywise
  simp only [TRef.ofBuf, TRef.toBuf, dropContentsCast, cast_eq, id]
  exact (cast4v _ _ h i).trans (slice4 _ _ _ t ht rfl rfl rfl h i 0)

theorem B1_k (t : Fin 2048) (ht : ((V main_while1b_v37 : S_.Idx → BitVec 32) (Shape.Idx.first h_S_)).toInt = (t.val : ℤ)) (h : Fin 4) (i : Fin 64) :
    (after bodyB1 V main_while1b_v44 : S4x1x64.Idx → EReal) (ix3 h 0 i) = (V main_v29_6 : S2048x4x1x64.Idx → EReal) (ix4 t h 0 i) := by
  after_results_simp_entrywise
  simp only [TRef.ofBuf, TRef.toBuf, dropContentsCast, cast_eq, id]
  exact (cast4k _ _ h i).trans (slice4 _ _ _ t ht rfl rfl rfl h 0 i)

theorem B1_v (t : Fin 2048) (ht : ((V main_while1b_v37 : S_.Idx → BitVec 32) (Shape.Idx.first h_S_)).toInt = (t.val : ℤ)) (h : Fin 4) (i : Fin 64) :
    (after bodyB1 V main_while1b_v45 : S4x64x1.Idx → EReal) (ix3 h i 0) = (V main_v29_7 : S2048x4x64x1.Idx → EReal) (ix4 t h i 0) := by
  after_results_simp_entrywise
  simp only [TRef.ofBuf, TRef.toBuf, dropContentsCast, cast_eq, id]
  exact (cast4v _ _ h i).trans (slice4 _ _ _ t ht rfl rfl rfl h i 0)

theorem B1_r (t : Fin 2048) (ht : ((V main_while1b_v37 : S_.Idx → BitVec 32) (Shape.Idx.first h_S_)).toInt = (t.val : ℤ)) (h : Fin 4) (i : Fin 64) :
    (after bodyB1 V main_while1b_v46 : S4x1x64.Idx → EReal) (ix3 h 0 i) = (V main_v29_8 : S2048x4x1x64.Idx → EReal) (ix4 t h 0 i) := by
  after_results_simp_entrywise
  simp only [TRef.ofBuf, TRef.toBuf, dropContentsCast, cast_eq, id]
  exact (cast4k _ _ h i).trans (slice4 _ _ _ t ht rfl rfl rfl h 0 i)

theorem B1_sn (t : Fin 2048) (ht : ((V main_while1b_v37 : S_.Idx → BitVec 32) (Shape.Idx.first h_S_)).toInt = (t.val : ℤ)) (h : Fin 4) (u i : Fin 64) :
    (after bodyB1 V main_while1b_v47 : S4x64x64.Idx → EReal) (ix3 h u i) = (V main_v29_9 : S2048x4x64x64.Idx → EReal) (ix4 t h u i) := by
  after_results_simp_entrywise
  simp only [TRef.ofBuf, TRef.toBuf, dropContentsCast, cast_eq, id]
  exact (cast4s _ _ h u i).trans (slice4 _ _ _ t ht rfl rfl rfl h u i)

/-! ## The step's sums and products -/

section
variable {r w k v c b dy sa : Fin 256 → EReal} {sp sn g : Fin 64 → Fin 256 → EReal}

theorem B2_dr (hdy : ∀ h i, (V main_while1b_v38 : S4x64.Idx → EReal) (ix2 h i) = dy (hd h i))
    (hsn : ∀ h u i, (V main_while1b_v47 : S4x64x64.Idx → EReal) (ix3 h u i) = sn i (hd h u)) (h : Fin 4) (i : Fin 64) :
    (after bodyB2 V main_while1b_v55 : S4x64.Idx → EReal) (ix2 h i) = ∑ u : Fin 64, sn i (hd h u) * dy (hd h u) := by
  after_results_simp_entrywise
  pointwise
  simp only [hdy, hsn, stepDsa_hd, stepD_hd, Finset.univ_unique, Finset.sum_singleton]

theorem B2_dk (hdy : ∀ h i, (V main_while1b_v38 : S4x64.Idx → EReal) (ix2 h i) = dy (hd h i))
    (hv : ∀ h i, (V main_while1b_v45 : S4x64x1.Idx → EReal) (ix3 h i 0) = v (hd h i))
    (hr : ∀ h i, (V main_while1b_v46 : S4x1x64.Idx → EReal) (ix3 h 0 i) = r (hd h i))
    (hg : ∀ h u i, (V main_v29_11 : S4x64x64.Idx → EReal) (ix3 h u i) = g i (hd h u)) (h : Fin 4) (i : Fin 64) :
    (after bodyB2 V main_while1b_v64 : S4x64.Idx → EReal) (ix2 h i) = ∑ u : Fin 64, v (hd h u) * stepD r dy g i (hd h u) := by
  after_results_simp_entrywise
  pointwise
  simp only [hdy, hv, hr, hg, stepDsa_hd, stepD_hd, Finset.univ_unique, Finset.sum_singleton]

theorem B2_dv (hdy : ∀ h i, (V main_while1b_v38 : S4x64.Idx → EReal) (ix2 h i) = dy (hd h i))
    (hk : ∀ h i, (V main_while1b_v44 : S4x1x64.Idx → EReal) (ix3 h 0 i) = k (hd h i))
    (hr : ∀ h i, (V main_while1b_v46 : S4x1x64.Idx → EReal) (ix3 h 0 i) = r (hd h i))
    (hg : ∀ h u i, (V main_v29_11 : S4x64x64.Idx → EReal) (ix3 h u i) = g i (hd h u)) (h : Fin 4) (i : Fin 64) :
    (after bodyB2 V main_while1b_v65 : S4x64.Idx → EReal) (ix2 h i) = ∑ a : Fin 64, stepD r dy g a (hd h i) * k (hd h a) := by
  after_results_simp_entrywise
  pointwise
  simp only [hdy, hk, hr, hg, stepDsa_hd, stepD_hd, Finset.univ_unique, Finset.sum_singleton]

theorem B2_db (hdy : ∀ h i, (V main_while1b_v38 : S4x64.Idx → EReal) (ix2 h i) = dy (hd h i))
    (hsa : ∀ h i, (V main_while1b_v43 : S4x64x1.Idx → EReal) (ix3 h i 0) = sa (hd h i))
    (hr : ∀ h i, (V main_while1b_v46 : S4x1x64.Idx → EReal) (ix3 h 0 i) = r (hd h i))
    (hg : ∀ h u i, (V main_v29_11 : S4x64x64.Idx → EReal) (ix3 h u i) = g i (hd h u)) (h : Fin 4) (i : Fin 64) :
    (after bodyB2 V main_while1b_v74 : S4x64.Idx → EReal) (ix2 h i) = ∑ u : Fin 64, sa (hd h u) * stepD r dy g i (hd h u) := by
  after_results_simp_entrywise
  pointwise
  simp only [hdy, hsa, hr, hg, stepDsa_hd, stepD_hd, Finset.univ_unique, Finset.sum_singleton]

theorem B2_dw (hdy : ∀ h i, (V main_while1b_v38 : S4x64.Idx → EReal) (ix2 h i) = dy (hd h i))
    (hsp : ∀ h u i, (V main_while1b_v40 : S4x64x64.Idx → EReal) (ix3 h u i) = sp i (hd h u))
    (hr : ∀ h i, (V main_while1b_v46 : S4x1x64.Idx → EReal) (ix3 h 0 i) = r (hd h i))
    (hg : ∀ h u i, (V main_v29_11 : S4x64x64.Idx → EReal) (ix3 h u i) = g i (hd h u)) (h : Fin 4) (i : Fin 64) :
    (after bodyB2 V main_while1b_v81 : S4x64.Idx → EReal) (ix2 h i) = ∑ u : Fin 64, sp i (hd h u) * stepD r dy g i (hd h u) := by
  after_results_simp_entrywise
  pointwise
  simp only [hdy, hsp, hr, hg, stepDsa_hd, stepD_hd, Finset.univ_unique, Finset.sum_singleton]

theorem B2_dc (hdy : ∀ h i, (V main_while1b_v38 : S4x64.Idx → EReal) (ix2 h i) = dy (hd h i))
    (hsp : ∀ h u i, (V main_while1b_v40 : S4x64x64.Idx → EReal) (ix3 h u i) = sp i (hd h u))
    (hb : ∀ h i, (V main_while1b_v42 : S4x1x64.Idx → EReal) (ix3 h 0 i) = b (hd h i))
    (hr : ∀ h i, (V main_while1b_v46 : S4x1x64.Idx → EReal) (ix3 h 0 i) = r (hd h i))
    (hg : ∀ h u i, (V main_v29_11 : S4x64x64.Idx → EReal) (ix3 h u i) = g i (hd h u)) (h : Fin 4) (i : Fin 64) :
    (after bodyB2 V main_while1b_v89 : S4x64.Idx → EReal) (ix2 h i) = ∑ u : Fin 64, sp i (hd h u) * stepDsa b (stepD r dy g) (hd h u) := by
  after_results_simp_entrywise
  pointwise
  simp only [hdy, hsp, hb, hr, hg, stepDsa_hd, stepD_hd, Finset.univ_unique, Finset.sum_singleton]

theorem B2_g (hdy : ∀ h i, (V main_while1b_v38 : S4x64.Idx → EReal) (ix2 h i) = dy (hd h i))
    (hc : ∀ h i, (V main_while1b_v39 : S4x1x64.Idx → EReal) (ix3 h 0 i) = c (hd h i))
    (hw : ∀ h i, (V main_while1b_v41 : S4x1x64.Idx → EReal) (ix3 h 0 i) = w (hd h i))
    (hb : ∀ h i, (V main_while1b_v42 : S4x1x64.Idx → EReal) (ix3 h 0 i) = b (hd h i))
    (hr : ∀ h i, (V main_while1b_v46 : S4x1x64.Idx → EReal) (ix3 h 0 i) = r (hd h i))
    (hg : ∀ h u i, (V main_v29_11 : S4x64x64.Idx → EReal) (ix3 h u i) = g i (hd h u)) (h : Fin 4) (u i : Fin 64) :
    (after bodyB2 V main_while1b_v88 : S4x64x64.Idx → EReal) (ix3 h u i) = stepG w c b (stepD r dy g) i (hd h u) := by
  after_results_simp_entrywise
  pointwise
  simp only [hdy, hc, hw, hb, hr, hg, stepG_hd, stepD_hd, Finset.univ_unique, Finset.sum_singleton]

end

/-! ## The step's rows, put in -/

theorem B3_dr (s : Fin 2048) (ht : ((V main_while1b_v37 : S_.Idx → BitVec 32) (Shape.Idx.first h_S_)).toInt = (s.val : ℤ)) (t : Fin 2048) (h : Fin 4) (i : Fin 64) :
    (after bodyB3 V main_while1b_v90 : S2048x4x64.Idx → EReal) (ix3 t h i) =
      if t = s then (V main_while1b_v55 : S4x64.Idx → EReal) (ix2 h i) else (V main_v29_12 : S2048x4x64.Idx → EReal) (ix3 t h i) := by
  after_results_simp_entrywise
  simp only [TRef.ofBuf, TRef.toBuf, dropContentsCast, cast_eq, id]
  refine (update3 _ _ _ _ s ht rfl rfl t h i).trans (if_congr Iff.rfl ?_ rfl)
  pointwise

theorem B3_dw (s : Fin 2048) (ht : ((V main_while1b_v37 : S_.Idx → BitVec 32) (Shape.Idx.first h_S_)).toInt = (s.val : ℤ)) (t : Fin 2048) (h : Fin 4) (i : Fin 64) :
    (after bodyB3 V main_while1b_v91 : S2048x4x64.Idx → EReal) (ix3 t h i) =
      if t = s then (V main_while1b_v81 : S4x64.Idx → EReal) (ix2 h i) else (V main_v29_13 : S2048x4x64.Idx → EReal) (ix3 t h i) := by
  after_results_simp_entrywise
  simp only [TRef.ofBuf, TRef.toBuf, dropContentsCast, cast_eq, id]
  refine (update3 _ _ _ _ s ht rfl rfl t h i).trans (if_congr Iff.rfl ?_ rfl)
  pointwise

theorem B3_dk (s : Fin 2048) (ht : ((V main_while1b_v37 : S_.Idx → BitVec 32) (Shape.Idx.first h_S_)).toInt = (s.val : ℤ)) (t : Fin 2048) (h : Fin 4) (i : Fin 64) :
    (after bodyB3 V main_while1b_v92 : S2048x4x64.Idx → EReal) (ix3 t h i) =
      if t = s then (V main_while1b_v64 : S4x64.Idx → EReal) (ix2 h i) else (V main_v29_14 : S2048x4x64.Idx → EReal) (ix3 t h i) := by
  after_results_simp_entrywise
  simp only [TRef.ofBuf, TRef.toBuf, dropContentsCast, cast_eq, id]
  refine (update3 _ _ _ _ s ht rfl rfl t h i).trans (if_congr Iff.rfl ?_ rfl)
  pointwise

theorem B3_dv (s : Fin 2048) (ht : ((V main_while1b_v37 : S_.Idx → BitVec 32) (Shape.Idx.first h_S_)).toInt = (s.val : ℤ)) (t : Fin 2048) (h : Fin 4) (i : Fin 64) :
    (after bodyB3 V main_while1b_v93 : S2048x4x64.Idx → EReal) (ix3 t h i) =
      if t = s then (V main_while1b_v65 : S4x64.Idx → EReal) (ix2 h i) else (V main_v29_15 : S2048x4x64.Idx → EReal) (ix3 t h i) := by
  after_results_simp_entrywise
  simp only [TRef.ofBuf, TRef.toBuf, dropContentsCast, cast_eq, id]
  refine (update3 _ _ _ _ s ht rfl rfl t h i).trans (if_congr Iff.rfl ?_ rfl)
  pointwise

theorem B3_dc (s : Fin 2048) (ht : ((V main_while1b_v37 : S_.Idx → BitVec 32) (Shape.Idx.first h_S_)).toInt = (s.val : ℤ)) (t : Fin 2048) (h : Fin 4) (i : Fin 64) :
    (after bodyB3 V main_while1b_v94 : S2048x4x64.Idx → EReal) (ix3 t h i) =
      if t = s then (V main_while1b_v89 : S4x64.Idx → EReal) (ix2 h i) else (V main_v29_16 : S2048x4x64.Idx → EReal) (ix3 t h i) := by
  after_results_simp_entrywise
  simp only [TRef.ofBuf, TRef.toBuf, dropContentsCast, cast_eq, id]
  refine (update3 _ _ _ _ s ht rfl rfl t h i).trans (if_congr Iff.rfl ?_ rfl)
  pointwise

theorem B3_db (s : Fin 2048) (ht : ((V main_while1b_v37 : S_.Idx → BitVec 32) (Shape.Idx.first h_S_)).toInt = (s.val : ℤ)) (t : Fin 2048) (h : Fin 4) (i : Fin 64) :
    (after bodyB3 V main_while1b_v95 : S2048x4x64.Idx → EReal) (ix3 t h i) =
      if t = s then (V main_while1b_v74 : S4x64.Idx → EReal) (ix2 h i) else (V main_v29_17 : S2048x4x64.Idx → EReal) (ix3 t h i) := by
  after_results_simp_entrywise
  simp only [TRef.ofBuf, TRef.toBuf, dropContentsCast, cast_eq, id]
  refine (update3 _ _ _ _ s ht rfl rfl t h i).trans (if_congr Iff.rfl ?_ rfl)
  pointwise

/-! ## The carried arrays, copied -/

theorem B4_g : (after bodyB4 V main_v29_11 : S4x64x64.Idx → EReal) = V main_while1b_v88 := by
  after_results
  rfl

theorem B4_dr : (after bodyB4 V main_v29_12 : S2048x4x64.Idx → EReal) = V main_while1b_v90 := by
  after_results
  rfl

theorem B4_dw : (after bodyB4 V main_v29_13 : S2048x4x64.Idx → EReal) = V main_while1b_v91 := by
  after_results
  rfl

theorem B4_dk : (after bodyB4 V main_v29_14 : S2048x4x64.Idx → EReal) = V main_while1b_v92 := by
  after_results
  rfl

theorem B4_dv : (after bodyB4 V main_v29_15 : S2048x4x64.Idx → EReal) = V main_while1b_v93 := by
  after_results
  rfl

theorem B4_dc : (after bodyB4 V main_v29_16 : S2048x4x64.Idx → EReal) = V main_while1b_v94 := by
  after_results
  rfl

theorem B4_db : (after bodyB4 V main_v29_17 : S2048x4x64.Idx → EReal) = V main_while1b_v95 := by
  after_results
  rfl

/-! ## Before, between and after the loops -/

theorem cast_row {α : Type} (x : S2048x256.Idx → α) (hx : S2048x256.ShapeCasts S2048x4x64) (t : Fin 2048) (h : Fin 4) (i : Fin 64) :
    shapeCast S2048x4x64 x hx (ix3 t h i) = x (ix2 t (hd h i)) := by
  pointwise
  rfl

theorem cast_heads {α : Type} (x : S2048x4x64.Idx → α) (hx : S2048x4x64.ShapeCasts S2048x256) (t : Fin 2048) (l : Fin 256) :
    shapeCast S2048x256 x hx (ix2 t l) = x (ix3 t ⟨l.val / 64, by omega⟩ ⟨l.val % 64, by omega⟩) := by
  pointwise

theorem pre_r (t : Fin 2048) (h : Fin 4) (i : Fin 64) : (after preOps V main_v18_0 : S2048x4x64.Idx → EReal) (ix3 t h i)
    = (V main_arg0 : S2048x1024.Idx → EReal) (ix2 t ⟨(hd h i).val, by have := (hd h i).isLt; omega⟩) := by
  after_results_simp_entrywise
  simp only [id]
  refine (cast_row _ _ t h i).trans ?_
  pointwise

theorem pre_w (t : Fin 2048) (h : Fin 4) (i : Fin 64) : (after preOps V main_v18_1 : S2048x4x64.Idx → EReal) (ix3 t h i)
    = (V main_arg1 : S2048x256.Idx → EReal) (ix2 t (hd h i)) := by
  after_results_simp_entrywise
  simp only [id]
  exact cast_row _ _ t h i

theorem pre_k (t : Fin 2048) (h : Fin 4) (i : Fin 64) : (after preOps V main_v18_2 : S2048x4x64.Idx → EReal) (ix3 t h i)
    = (V main_arg2 : S2048x256.Idx → EReal) (ix2 t (hd h i)) := by
  after_results_simp_entrywise
  simp only [id]
  exact cast_row _ _ t h i

theorem pre_v (t : Fin 2048) (h : Fin 4) (i : Fin 64) : (after preOps V main_v18_3 : S2048x4x64.Idx → EReal) (ix3 t h i)
    = (V main_arg3 : S2048x256.Idx → EReal) (ix2 t (hd h i)) := by
  after_results_simp_entrywise
  simp only [id]
  exact cast_row _ _ t h i

theorem pre_c (t : Fin 2048) (h : Fin 4) (i : Fin 64) : (after preOps V main_v18_4 : S2048x4x64.Idx → EReal) (ix3 t h i)
    = (V main_arg4 : S2048x256.Idx → EReal) (ix2 t (hd h i)) := by
  after_results_simp_entrywise
  simp only [id]
  exact cast_row _ _ t h i

theorem pre_b (t : Fin 2048) (h : Fin 4) (i : Fin 64) : (after preOps V main_v18_5 : S2048x4x64.Idx → EReal) (ix3 t h i)
    = (V main_arg5 : S2048x256.Idx → EReal) (ix2 t (hd h i)) := by
  after_results_simp_entrywise
  simp only [id]
  exact cast_row _ _ t h i

theorem pre_s (h : Fin 4) (u i : Fin 64) : (after preOps V main_v18_7 : S4x64x64.Idx → EReal) (ix3 h u i) = (0 : EReal) := by
  after_results_simp_entrywise
  simp only [id]
  pointwise

theorem mid_y (t : Fin 2048) (l : Fin 256) : (after midOps V main_v19 : S2048x256.Idx → EReal) (ix2 t l)
    = (V main_v18_8 : S2048x4x64.Idx → EReal) (ix3 t ⟨l.val / 64, by omega⟩ ⟨l.val % 64, by omega⟩) := by
  after_results_simp_entrywise
  exact cast_heads _ _ t l

theorem mid_dy (t : Fin 2048) (h : Fin 4) (i : Fin 64) : (after midOps V main_v29_0 : S2048x4x64.Idx → EReal) (ix3 t h i)
    = (V main_arg6 : S2048x256.Idx → EReal) (ix2 t (hd h i)) := by
  after_results_simp_entrywise
  simp only [id]
  exact cast_row _ _ t h i

theorem mid_g (h : Fin 4) (u i : Fin 64) : (after midOps V main_v29_11 : S4x64x64.Idx → EReal) (ix3 h u i) = (0 : EReal) := by
  after_results_simp_entrywise
  simp only [id]
  pointwise

theorem mid_c : (after midOps V main_v29_1 : S2048x4x1x64.Idx → EReal) = V main_v18_9 := by
  after_results
  rfl

theorem mid_sp : (after midOps V main_v29_2 : S2048x4x64x64.Idx → EReal) = V main_v18_10 := by
  after_results
  rfl

theorem mid_w : (after midOps V main_v29_3 : S2048x4x1x64.Idx → EReal) = V main_v18_11 := by
  after_results
  rfl

theorem mid_b : (after midOps V main_v29_4 : S2048x4x1x64.Idx → EReal) = V main_v18_12 := by
  after_results
  rfl

theorem mid_sa : (after midOps V main_v29_5 : S2048x4x64x1.Idx → EReal) = V main_v18_13 := by
  after_results
  rfl

theorem mid_k : (after midOps V main_v29_6 : S2048x4x1x64.Idx → EReal) = V main_v18_14 := by
  after_results
  rfl

theorem mid_v : (after midOps V main_v29_7 : S2048x4x64x1.Idx → EReal) = V main_v18_15 := by
  after_results
  rfl

theorem mid_r : (after midOps V main_v29_8 : S2048x4x1x64.Idx → EReal) = V main_v18_16 := by
  after_results
  rfl

theorem mid_sn : (after midOps V main_v29_9 : S2048x4x64x64.Idx → EReal) = V main_v18_17 := by
  after_results
  rfl

theorem post_db (t : Fin 2048) (l : Fin 256) : (after postOps V main_v30 : S2048x256.Idx → EReal) (ix2 t l)
    = (V main_v29_17 : S2048x4x64.Idx → EReal) (ix3 t ⟨l.val / 64, by omega⟩ ⟨l.val % 64, by omega⟩) := by
  after_results_simp_entrywise
  exact cast_heads _ _ t l

theorem post_dc (t : Fin 2048) (l : Fin 256) : (after postOps V main_v31 : S2048x256.Idx → EReal) (ix2 t l)
    = (V main_v29_16 : S2048x4x64.Idx → EReal) (ix3 t ⟨l.val / 64, by omega⟩ ⟨l.val % 64, by omega⟩) := by
  after_results_simp_entrywise
  exact cast_heads _ _ t l

theorem post_dv (t : Fin 2048) (l : Fin 256) : (after postOps V main_v32 : S2048x256.Idx → EReal) (ix2 t l)
    = (V main_v29_15 : S2048x4x64.Idx → EReal) (ix3 t ⟨l.val / 64, by omega⟩ ⟨l.val % 64, by omega⟩) := by
  after_results_simp_entrywise
  exact cast_heads _ _ t l

theorem post_dk (t : Fin 2048) (l : Fin 256) : (after postOps V main_v33 : S2048x256.Idx → EReal) (ix2 t l)
    = (V main_v29_14 : S2048x4x64.Idx → EReal) (ix3 t ⟨l.val / 64, by omega⟩ ⟨l.val % 64, by omega⟩) := by
  after_results_simp_entrywise
  exact cast_heads _ _ t l

theorem post_dw (t : Fin 2048) (l : Fin 256) : (after postOps V main_v34 : S2048x256.Idx → EReal) (ix2 t l)
    = (V main_v29_13 : S2048x4x64.Idx → EReal) (ix3 t ⟨l.val / 64, by omega⟩ ⟨l.val % 64, by omega⟩) := by
  after_results_simp_entrywise
  exact cast_heads _ _ t l

theorem post_dr (t : Fin 2048) (l : Fin 256) : (after postOps V main_v35 : S2048x256.Idx → EReal) (ix2 t l)
    = (V main_v29_12 : S2048x4x64.Idx → EReal) (ix3 t ⟨l.val / 64, by omega⟩ ⟨l.val % 64, by omega⟩) := by
  after_results_simp_entrywise
  exact cast_heads _ _ t l

end Cert.ReferenceIdeal.Scan

end
-- ==== Proof.RefTie.lean ====
/- The reference's two loops put together: what its seven results hold at the end, over the launch contents. -/
module

public import proofs.«01_k».proof.Proof.RefEvalB

@[expose] public section

set_option maxRecDepth 16384

noncomputable section

namespace Cert.ReferenceIdeal.Scan

open Cert.ReferenceIdeal Cert.ReferenceIdeal.Gen
open Idealize.ShloMosaic Idealize.ShloMosaic.TcCoe Idealize.ShloMosaic.Tactic Idealize.ShloMosaic.StableHlo
open Idealize.SL.Sem
open Cert.KernelIdeal.Scan (stepF stepD stepDsa stepG col key Rows row2 row4 arr2 rowsOf)

/-- What the carried arrays hold before step `n` of the forward loop. -/
structure FInv (X : Rows) (n : ℕ) (V : Valuation τ sig (Elt Ideal)) : Prop where
  s : ∀ (h : Fin 4) (u i : Fin 64), (V main_v18_7 : S4x64x64.Idx → EReal) (ix3 h u i) = X.S n i (hd h u)
  y : ∀ (t : Fin 2048) (h : Fin 4) (i : Fin 64), t.val < n → (V main_v18_8 : S2048x4x64.Idx → EReal) (ix3 t h i) = X.Y t.val (hd h i)
  c : ∀ (t : Fin 2048) (h : Fin 4) (i : Fin 64), t.val < n → (V main_v18_9 : S2048x4x1x64.Idx → EReal) (ix4 t h 0 i) = X.c t.val (hd h i)
  sp : ∀ (t : Fin 2048) (h : Fin 4) (u i : Fin 64), t.val < n → (V main_v18_10 : S2048x4x64x64.Idx → EReal) (ix4 t h u i) = X.S t.val i (hd h u)
  w : ∀ (t : Fin 2048) (h : Fin 4) (i : Fin 64), t.val < n → (V main_v18_11 : S2048x4x1x64.Idx → EReal) (ix4 t h 0 i) = X.w t.val (hd h i)
  b : ∀ (t : Fin 2048) (h : Fin 4) (i : Fin 64), t.val < n → (V main_v18_12 : S2048x4x1x64.Idx → EReal) (ix4 t h 0 i) = X.b t.val (hd h i)
  sa : ∀ (t : Fin 2048) (h : Fin 4) (i : Fin 64), t.val < n → (V main_v18_13 : S2048x4x64x1.Idx → EReal) (ix4 t h i 0) = ∑ a : Fin 64, X.S t.val a (hd h i) * X.c t.val (hd h a)
  k : ∀ (t : Fin 2048) (h : Fin 4) (i : Fin 64), t.val < n → (V main_v18_14 : S2048x4x1x64.Idx → EReal) (ix4 t h 0 i) = X.k t.val (hd h i)
  v : ∀ (t : Fin 2048) (h : Fin 4) (i : Fin 64), t.val < n → (V main_v18_15 : S2048x4x64x1.Idx → EReal) (ix4 t h i 0) = X.v t.val (hd h i)
  r : ∀ (t : Fin 2048) (h : Fin 4) (i : Fin 64), t.val < n → (V main_v18_16 : S2048x4x1x64.Idx → EReal) (ix4 t h 0 i) = X.r t.val (hd h i)
  sn : ∀ (t : Fin 2048) (h : Fin 4) (u i : Fin 64), t.val < n → (V main_v18_17 : S2048x4x64x64.Idx → EReal) (ix4 t h u i) = X.S (t.val + 1) i (hd h u)

/-- What the forward loop reads at each step. -/
structure FArgs (X : Rows) (V : Valuation τ sig (Elt Ideal)) : Prop where
  r : ∀ (t : Fin 2048) (h : Fin 4) (i : Fin 64), (V main_v18_0 : S2048x4x64.Idx → EReal) (ix3 t h i) = X.r t.val (hd h i)
  w : ∀ (t : Fin 2048) (h : Fin 4) (i : Fin 64), (V main_v18_1 : S2048x4x64.Idx → EReal) (ix3 t h i) = X.w t.val (hd h i)
  k : ∀ (t : Fin 2048) (h : Fin 4) (i : Fin 64), (V main_v18_2 : S2048x4x64.Idx → EReal) (ix3 t h i) = X.k t.val (hd h i)
  v : ∀ (t : Fin 2048) (h : Fin 4) (i : Fin 64), (V main_v18_3 : S2048x4x64.Idx → EReal) (ix3 t h i) = X.v t.val (hd h i)
  c : ∀ (t : Fin 2048) (h : Fin 4) (i : Fin 64), (V main_v18_4 : S2048x4x64.Idx → EReal) (ix3 t h i) = X.c t.val (hd h i)
  b : ∀ (t : Fin 2048) (h : Fin 4) (i : Fin 64), (V main_v18_5 : S2048x4x64.Idx → EReal) (ix3 t h i) = X.b t.val (hd h i)

theorem FArgs.mono {X : Rows} {V W : Valuation τ sig (Elt Ideal)} (h : FArgs X V)
    (e0 : W (Proc.devRef .tc main_v18_0) = V (Proc.devRef .tc main_v18_0))
    (e1 : W (Proc.devRef .tc main_v18_1) = V (Proc.devRef .tc main_v18_1))
    (e2 : W (Proc.devRef .tc main_v18_2) = V (Proc.devRef .tc main_v18_2))
    (e3 : W (Proc.devRef .tc main_v18_3) = V (Proc.devRef .tc main_v18_3))
    (e4 : W (Proc.devRef .tc main_v18_4) = V (Proc.devRef .tc main_v18_4))
    (e5 : W (Proc.devRef .tc main_v18_5) = V (Proc.devRef .tc main_v18_5)) : FArgs X W where
  r t a i := (congrFun e0 _).trans (h.r t a i)
  w t a i := (congrFun e1 _).trans (h.w t a i)
  k t a i := (congrFun e2 _).trans (h.k t a i)
  v t a i := (congrFun e3 _).trans (h.v t a i)
  c t a i := (congrFun e4 _).trans (h.c t a i)
  b t a i := (congrFun e5 _).trans (h.b t a i)

section
variable {X : Rows} {V : Valuation τ sig (Elt Ideal)} (k : Fin 2048) (hctr : (V main_v18_6 : S_.Idx → BitVec 32) = fun _ => Scf.iv 0#32 1#32 k.val)
  (hA : FArgs X V)

include hctr hA

theorem f0_r (h : Fin 4) (i : Fin 64) : (after bodyF0 (after condF V) main_while0b_v36 : S4x64.Idx → EReal) (ix2 h i) = X.r k.val (hd h i) :=
  (F0_r (after condF V) k ((condF_of V main_v18_6 (by decide)).trans hctr) h i).trans
    ((congrFun (condF_of V main_v18_0 (by decide)) _).trans (hA.r k h i))

theorem f0_w (h : Fin 4) (i : Fin 64) : (after bodyF0 (after condF V) main_while0b_v37 : S4x64.Idx → EReal) (ix2 h i) = X.w k.val (hd h i) :=
  (F0_w (after condF V) k ((condF_of V main_v18_6 (by decide)).trans hctr) h i).trans
    ((congrFun (condF_of V main_v18_1 (by decide)) _).trans (hA.w k h i))

theorem f0_k (h : Fin 4) (i : Fin 64) : (after bodyF0 (after condF V) main_while0b_v38 : S4x64.Idx → EReal) (ix2 h i) = X.k k.val (hd h i) :=
  (F0_k (after condF V) k ((condF_of V main_v18_6 (by decide)).trans hctr) h i).trans
    ((congrFun (condF_of V main_v18_2 (by decide)) _).trans (hA.k k h i))

theorem f0_v (h : Fin 4) (i : Fin 64) : (after bodyF0 (after condF V) main_while0b_v39 : S4x64.Idx → EReal) (ix2 h i) = X.v k.val (hd h i) :=
  (F0_v (after condF V) k ((condF_of V main_v18_6 (by decide)).trans hctr) h i).trans
    ((congrFun (condF_of V main_v18_3 (by decide)) _).trans (hA.v k h i))

theorem f0_c (h : Fin 4) (i : Fin 64) : (after bodyF0 (after condF V) main_while0b_v40 : S4x64.Idx → EReal) (ix2 h i) = X.c k.val (hd h i) :=
  (F0_c (after condF V) k ((condF_of V main_v18_6 (by decide)).trans hctr) h i).trans
    ((congrFun (condF_of V main_v18_4 (by decide)) _).trans (hA.c k h i))

theorem f0_b (h : Fin 4) (i : Fin 64) : (after bodyF0 (after condF V) main_while0b_v41 : S4x64.Idx → EReal) (ix2 h i) = X.b k.val (hd h i) :=
  (F0_b (after condF V) k ((condF_of V main_v18_6 (by decide)).trans hctr) h i).trans
    ((congrFun (condF_of V main_v18_5 (by decide)) _).trans (hA.b k h i))

theorem FInv.step (hI : FInv X k.val V) : FInv X (k.val + 1) (afterL itemsF (after condF V)) := by
  have hc1 : (after bodyF1 (after bodyF0 (after condF V)) main_v18_6 : S_.Idx → BitVec 32) = fun _ => Scf.iv 0#32 1#32 k.val :=
    (bodyF1_of _ main_v18_6 (by decide)).trans ((bodyF0_of _ main_v18_6 (by decide)).trans ((condF_of V main_v18_6 (by decide)).trans hctr))
  have old : ∀ r : Ref sig .tc, r ∉ condF_W → r ∉ bodyF0_W → r ∉ bodyF1_W →
      after bodyF1 (after bodyF0 (after condF V)) (Proc.devRef .tc r) = V (Proc.devRef .tc r) := fun r h1 h2 h3 =>
    (bodyF1_of _ r h3).trans ((bodyF0_of _ r h2).trans (condF_of V r h1))
  have hs : ∀ h u i, (after bodyF0 (after condF V) main_v18_7 : S4x64x64.Idx → EReal) (ix3 h u i) = X.S k.val i (hd h u) := fun h u i =>
    (congrFun ((bodyF0_of _ main_v18_7 (by decide)).trans (condF_of V main_v18_7 (by decide))) _).trans (hI.s h u i)
  have hr := f0_r k hctr hA
  have hw := f0_w k hctr hA
  have hk := f0_k k hctr hA
  have hv := f0_v k hctr hA
  have hcc := f0_c k hctr hA
  have hb := f0_b k hctr hA
  rw [afterL_cons, afterL_cons, afterL_cons, afterL_cons, afterL_nil]
  constructor
  · intro h u i
    rw [F3_s, bodyF2_of _ main_while0b_v60 (by decide), F1_s _ hw hk hv hcc hb hs]
    rfl
  · intro t h i ht
    rw [F3_y, F2_y _ k hc1]
    split
    next e =>
      subst e
      rw [F1_y _ hr hw hk hv hcc hb hs]
      simp only [Rows.Y, col_hd]
      rfl
    next e =>
      exact (congrFun (old main_v18_8 (by decide) (by decide) (by decide)) _).trans
        (hI.y t h i (by have : t.val ≠ k.val := fun e' => e (Fin.ext e'); omega))
  · intro t h i ht
    rw [F3_c, F2_c _ k hc1]
    split
    next e =>
      subst e
      exact F1_c _ hcc h i
    next e =>
      exact (congrFun (old main_v18_9 (by decide) (by decide) (by decide)) _).trans
        (hI.c t h i (by have : t.val ≠ k.val := fun e' => e (Fin.ext e'); omega))
  · intro t h u i ht
    rw [F3_sp, F2_sp _ k hc1]
    split
    next e =>
      subst e
      exact (congrFun (old main_v18_7 (by decide) (by decide) (by decide)) _).trans (hI.s h u i)
    next e =>
      exact (congrFun (old main_v18_10 (by decide) (by decide) (by decide)) _).trans
        (hI.sp t h u i (by have : t.val ≠ k.val := fun e' => e (Fin.ext e'); omega))
  · intro t h i ht
    rw [F3_w, F2_w _ k hc1]
    split
    next e =>
      subst e
      exact F1_w _ hw h i
    next e =>
      exact (congrFun (old main_v18_11 (by decide) (by decide) (by decide)) _).trans
        (hI.w t h i (by have : t.val ≠ k.val := fun e' => e (Fin.ext e'); omega))
  · intro t h i ht
    rw [F3_b, F2_b _ k hc1]
    split
    next e =>
      subst e
      exact F1_b _ hb h i
    next e =>
      exact (congrFun (old main_v18_12 (by decide) (by decide) (by decide)) _).trans
        (hI.b t h i (by have : t.val ≠ k.val := fun e' => e (Fin.ext e'); omega))
  · intro t h i ht
    rw [F3_sa, F2_sa _ k hc1]
    split
    next e =>
      subst e
      exact F1_sa _ hcc hs h i
    next e =>
      exact (congrFun (old main_v18_13 (by decide) (by decide) (by decide)) _).trans
        (hI.sa t h i (by have : t.val ≠ k.val := fun e' => e (Fin.ext e'); omega))
  · intro t h i ht
    rw [F3_k, F2_k _ k hc1]
    split
    next e =>
      subst e
      exact F1_k _ hk h i
    next e =>
      exact (congrFun (old main_v18_14 (by decide) (by decide) (by decide)) _).trans
        (hI.k t h i (by have : t.val ≠ k.val := fun e' => e (Fin.ext e'); omega))
  · intro t h i ht
    rw [F3_v, F2_v _ k hc1]
    split
    next e =>
      subst e
      exact F1_v _ hv h i
    next e =>
      exact (congrFun (old main_v18_15 (by decide) (by decide) (by decide)) _).trans
        (hI.v t h i (by have : t.val ≠ k.val := fun e' => e (Fin.ext e'); omega))
  · intro t h i ht
    rw [F3_r, F2_r _ k hc1]
    split
    next e =>
      subst e
      exact F1_r _ hr h i
    next e =>
      exact (congrFun (old main_v18_16 (by decide) (by decide) (by decide)) _).trans
        (hI.r t h i (by have : t.val ≠ k.val := fun e' => e (Fin.ext e'); omega))
  · intro t h u i ht
    rw [F3_sn, F2_sn _ k hc1]
    split
    next e =>
      subst e
      exact F1_s _ hw hk hv hcc hb hs h u i
    next e =>
      exact (congrFun (old main_v18_17 (by decide) (by decide) (by decide)) _).trans
        (hI.sn t h u i (by have : t.val ≠ k.val := fun e' => e (Fin.ext e'); omega))

end

/-- What the carried arrays hold before step `j` of the backward loop. -/
structure BInv (X : Rows) (j : ℕ) (V : Valuation τ sig (Elt Ideal)) : Prop where
  g : ∀ (h : Fin 4) (u i : Fin 64), (V main_v29_11 : S4x64x64.Idx → EReal) (ix3 h u i) = X.G j i (hd h u)
  dr : ∀ (t : Fin 2048) (h : Fin 4) (i : Fin 64), 2048 ≤ t.val + j → (V main_v29_12 : S2048x4x64.Idx → EReal) (ix3 t h i) = X.DR t.val (hd h i)
  dw : ∀ (t : Fin 2048) (h : Fin 4) (i : Fin 64), 2048 ≤ t.val + j → (V main_v29_13 : S2048x4x64.Idx → EReal) (ix3 t h i) = X.DW t.val (hd h i)
  dk : ∀ (t : Fin 2048) (h : Fin 4) (i : Fin 64), 2048 ≤ t.val + j → (V main_v29_14 : S2048x4x64.Idx → EReal) (ix3 t h i) = X.DK t.val (hd h i)
  dv : ∀ (t : Fin 2048) (h : Fin 4) (i : Fin 64), 2048 ≤ t.val + j → (V main_v29_15 : S2048x4x64.Idx → EReal) (ix3 t h i) = X.DV t.val (hd h i)
  dc : ∀ (t : Fin 2048) (h : Fin 4) (i : Fin 64), 2048 ≤ t.val + j → (V main_v29_16 : S2048x4x64.Idx → EReal) (ix3 t h i) = X.DC t.val (hd h i)
  db : ∀ (t : Fin 2048) (h : Fin 4) (i : Fin 64), 2048 ≤ t.val + j → (V main_v29_17 : S2048x4x64.Idx → EReal) (ix3 t h i) = X.DB t.val (hd h i)

/-- What the backward loop reads at each step. -/
structure BArgs (X : Rows) (V : Valuation τ sig (Elt Ideal)) : Prop where
  dy : ∀ (t : Fin 2048) (h : Fin 4) (i : Fin 64), (V main_v29_0 : S2048x4x64.Idx → EReal) (ix3 t h i) = X.dy t.val (hd h i)
  c : ∀ (t : Fin 2048) (h : Fin 4) (i : Fin 64), (V main_v29_1 : S2048x4x1x64.Idx → EReal) (ix4 t h 0 i) = X.c t.val (hd h i)
  sp : ∀ (t : Fin 2048) (h : Fin 4) (u i : Fin 64), (V main_v29_2 : S2048x4x64x64.Idx → EReal) (ix4 t h u i) = X.S t.val i (hd h u)
  w : ∀ (t : Fin 2048) (h : Fin 4) (i : Fin 64), (V main_v29_3 : S2048x4x1x64.Idx → EReal) (ix4 t h 0 i) = X.w t.val (hd h i)
  b : ∀ (t : Fin 2048) (h : Fin 4) (i : Fin 64), (V main_v29_4 : S2048x4x1x64.Idx → EReal) (ix4 t h 0 i) = X.b t.val (hd h i)
  sa : ∀ (t : Fin 2048) (h : Fin 4) (i : Fin 64), (V main_v29_5 : S2048x4x64x1.Idx → EReal) (ix4 t h i 0) = ∑ a : Fin 64, X.S t.val a (hd h i) * X.c t.val (hd h a)
  k : ∀ (t : Fin 2048) (h : Fin 4) (i : Fin 64), (V main_v29_6 : S2048x4x1x64.Idx → EReal) (ix4 t h 0 i) = X.k t.val (hd h i)
  v : ∀ (t : Fin 2048) (h : Fin 4) (i : Fin 64), (V main_v29_7 : S2048x4x64x1.Idx → EReal) (ix4 t h i 0) = X.v t.val (hd h i)
  r : ∀ (t : Fin 2048) (h : Fin 4) (i : Fin 64), (V main_v29_8 : S2048x4x1x64.Idx → EReal) (ix4 t h 0 i) = X.r t.val (hd h i)
  sn : ∀ (t : Fin 2048) (h : Fin 4) (u i : Fin 64), (V main_v29_9 : S2048x4x64x64.Idx → EReal) (ix4 t h u i) = X.S (t.val + 1) i (hd h u)

theorem BArgs.mono {X : Rows} {V W : Valuation τ sig (Elt Ideal)} (h : BArgs X V)
    (e0 : W (Proc.devRef .tc main_v29_0) = V (Proc.devRef .tc main_v29_0))
    (e1 : W (Proc.devRef .tc main_v29_1) = V (Proc.devRef .tc main_v29_1))
    (e2 : W (Proc.devRef .tc main_v29_2) = V (Proc.devRef .tc main_v29_2))
    (e3 : W (Proc.devRef .tc main_v29_3) = V (Proc.devRef .tc main_v29_3))
    (e4 : W (Proc.devRef .tc main_v29_4) = V (Proc.devRef .tc main_v29_4))
    (e5 : W (Proc.devRef .tc main_v29_5) = V (Proc.devRef .tc main_v29_5))
    (e6 : W (Proc.devRef .tc main_v29_6) = V (Proc.devRef .tc main_v29_6))
    (e7 : W (Proc.devRef .tc main_v29_7) = V (Proc.devRef .tc main_v29_7))
    (e8 : W (Proc.devRef .tc main_v29_8) = V (Proc.devRef .tc main_v29_8))
    (e9 : W (Proc.devRef .tc main_v29_9) = V (Proc.devRef .tc main_v29_9)) : BArgs X W where
  dy t a i := (congrFun e0 _).trans (h.dy t a i)
  c t a i := (congrFun e1 _).trans (h.c t a i)
  sp t a u i := (congrFun e2 _).trans (h.sp t a u i)
  w t a i := (congrFun e3 _).trans (h.w t a i)
  b t a i := (congrFun e4 _).trans (h.b t a i)
  sa t a i := (congrFun e5 _).trans (h.sa t a i)
  k t a i := (congrFun e6 _).trans (h.k t a i)
  v t a i := (congrFun e7 _).trans (h.v t a i)
  r t a i := (congrFun e8 _).trans (h.r t a i)
  sn t a u i := (congrFun e9 _).trans (h.sn t a u i)

section
variable {X : Rows} {V : Valuation τ sig (Elt Ideal)} (j : Fin 2048) (hctr : (V main_v29_10 : S_.Idx → BitVec 32) = fun _ => Scf.iv 0#32 1#32 j.val)
  (hA : BArgs X V)

/-- The step the backward loop takes in trip `j`. -/
def bk (j : Fin 2048) : Fin 2048 := ⟨2047 - j.val, by omega⟩

include hctr

theorem b0_t : ((after bodyB0 (after condB V) main_while1b_v37 : S_.Idx → BitVec 32) (Shape.Idx.first h_S_)).toInt = ((bk j).val : ℤ) :=
  B0_t (after condB V) j ((condB_of V main_v29_10 (by decide)).trans hctr)

include hA

theorem b1_dy (h : Fin 4) (i : Fin 64) : (after bodyB1 (after bodyB0 (after condB V)) main_while1b_v38 : S4x64.Idx → EReal) (ix2 h i) = X.dy (bk j).val (hd h i) :=
  (B1_dy (after bodyB0 (after condB V)) (bk j) (b0_t j hctr) h i).trans
    ((congrFun ((bodyB0_of _ main_v29_0 (by decide)).trans (condB_of V main_v29_0 (by decide))) _).trans (hA.dy (bk j) h i))

theorem b1_c (h : Fin 4) (i : Fin 64) : (after bodyB1 (after bodyB0 (after condB V)) main_while1b_v39 : S4x1x64.Idx → EReal) (ix3 h 0 i) = X.c (bk j).val (hd h i) :=
  (B1_c (after bodyB0 (after condB V)) (bk j) (b0_t j hctr) h i).trans
    ((congrFun ((bodyB0_of _ main_v29_1 (by decide)).trans (condB_of V main_v29_1 (by decide))) _).trans (hA.c (bk j) h i))

theorem b1_sp (h : Fin 4) (u i : Fin 64) : (after bodyB1 (after bodyB0 (after condB V)) main_while1b_v40 : S4x64x64.Idx → EReal) (ix3 h u i) = X.S (bk j).val i (hd h u) :=
  (B1_sp (after bodyB0 (after condB V)) (bk j) (b0_t j hctr) h u i).trans
    ((congrFun ((bodyB0_of _ main_v29_2 (by decide)).trans (condB_of V main_v29_2 (by decide))) _).trans (hA.sp (bk j) h u i))

theorem b1_w (h : Fin 4) (i : Fin 64) : (after bodyB1 (after bodyB0 (after condB V)) main_while1b_v41 : S4x1x64.Idx → EReal) (ix3 h 0 i) = X.w (bk j).val (hd h i) :=
  (B1_w (after bodyB0 (after condB V)) (bk j) (b0_t j hctr) h i).trans
    ((congrFun ((bodyB0_of _ main_v29_3 (by decide)).trans (condB_of V main_v29_3 (by decide))) _).trans (hA.w (bk j) h i))

theorem b1_b (h : Fin 4) (i : Fin 64) : (after bodyB1 (after bodyB0 (after condB V)) main_while1b_v42 : S4x1x64.Idx → EReal) (ix3 h 0 i) = X.b (bk j).val (hd h i) :=
  (B1_b (after bodyB0 (after condB V)) (bk j) (b0_t j hctr) h i).trans
    ((congrFun ((bodyB0_of _ main_v29_4 (by decide)).trans (condB_of V main_v29_4 (by decide))) _).trans (hA.b (bk j) h i))

theorem b1_sa (h : Fin 4) (i : Fin 64) : (after bodyB1 (after bodyB0 (after condB V)) main_while1b_v43 : S4x64x1.Idx → EReal) (ix3 h i 0) = ∑ a : Fin 64, X.S (bk j).val a (hd h i) * X.c (bk j).val (hd h a) :=
  (B1_sa (after bodyB0 (after condB V)) (bk j) (b0_t j hctr) h i).trans
    ((congrFun ((bodyB0_of _ main_v29_5 (by decide)).trans (condB_of V main_v29_5 (by decide))) _).trans (hA.sa (bk j) h i))

theorem b1_k (h : Fin 4) (i : Fin 64) : (after bodyB1 (after bodyB0 (after condB V)) main_while1b_v44 : S4x1x64.Idx → EReal) (ix3 h 0 i) = X.k (bk j).val (hd h i) :=
  (B1_k (after bodyB0 (after condB V)) (bk j) (b0_t j hctr) h i).trans
    ((congrFun ((bodyB0_of _ main_v29_6 (by decide)).trans (condB_of V main_v29_6 (by decide))) _).trans (hA.k (bk j) h i))

theorem b1_v (h : Fin 4) (i : Fin 64) : (after bodyB1 (after bodyB0 (after condB V)) main_while1b_v45 : S4x64x1.Idx → EReal) (ix3 h i 0) = X.v (bk j).val (hd h i) :=
  (B1_v (after bodyB0 (after condB V)) (bk j) (b0_t j hctr) h i).trans
    ((congrFun ((bodyB0_of _ main_v29_7 (by decide)).trans (condB_of V main_v29_7 (by decide))) _).trans (hA.v (bk j) h i))

theorem b1_r (h : Fin 4) (i : Fin 64) : (after bodyB1 (after bodyB0 (after condB V)) main_while1b_v46 : S4x1x64.Idx → EReal) (ix3 h 0 i) = X.r (bk j).val (hd h i) :=
  (B1_r (after bodyB0 (after condB V)) (bk j) (b0_t j hctr) h i).trans
    ((congrFun ((bodyB0_of _ main_v29_8 (by decide)).trans (condB_of V main_v29_8 (by decide))) _).trans (hA.r (bk j) h i))

theorem b1_sn (h : Fin 4) (u i : Fin 64) : (after bodyB1 (after bodyB0 (after condB V)) main_while1b_v47 : S4x64x64.Idx → EReal) (ix3 h u i) = X.S ((bk j).val + 1) i (hd h u) :=
  (B1_sn (after bodyB0 (after condB V)) (bk j) (b0_t j hctr) h u i).trans
    ((congrFun ((bodyB0_of _ main_v29_9 (by decide)).trans (condB_of V main_v29_9 (by decide))) _).trans (hA.sn (bk j) h u i))

theorem BInv.step (hI : BInv X j.val V) : BInv X (j.val + 1) (afterL itemsB (after condB V)) := by
  have hbk : (bk j).val = 2047 - j.val := rfl
  have hj := j.isLt
  have ht1 : ((after bodyB2 (after bodyB1 (after bodyB0 (after condB V))) main_while1b_v37 : S_.Idx → BitVec 32) (Shape.Idx.first h_S_)).toInt = ((bk j).val : ℤ) := by
    rw [bodyB2_of _ main_while1b_v37 (by decide), bodyB1_of _ main_while1b_v37 (by decide)]
    exact b0_t j hctr
  have old : ∀ r : Ref sig .tc, r ∉ condB_W → r ∉ bodyB0_W → r ∉ bodyB1_W → r ∉ bodyB2_W →
      after bodyB2 (after bodyB1 (after bodyB0 (after condB V))) (Proc.devRef .tc r) = V (Proc.devRef .tc r) := fun r h1 h2 h3 h4 =>
    (bodyB2_of _ r h4).trans ((bodyB1_of _ r h3).trans ((bodyB0_of _ r h2).trans (condB_of V r h1)))
  have hg : ∀ h u i, (after bodyB1 (after bodyB0 (after condB V)) main_v29_11 : S4x64x64.Idx → EReal) (ix3 h u i) = X.G j.val i (hd h u) := fun h u i =>
    (congrFun ((bodyB1_of _ main_v29_11 (by decide)).trans ((bodyB0_of _ main_v29_11 (by decide)).trans (condB_of V main_v29_11 (by decide)))) _).trans (hI.g h u i)
  have hD : X.D (bk j).val = stepD (X.r (bk j).val) (X.dy (bk j).val) (X.G j.val) := by
    unfold Rows.D
    rw [show 2047 - (bk j).val = j.val by omega]
  have hdy := b1_dy j hctr hA
  have hc := b1_c j hctr hA
  have hsp := b1_sp j hctr hA
  have hw := b1_w j hctr hA
  have hb := b1_b j hctr hA
  have hsa := b1_sa j hctr hA
  have hk := b1_k j hctr hA
  have hv := b1_v j hctr hA
  have hr := b1_r j hctr hA
  have hsn := b1_sn j hctr hA
  rw [afterL_cons, afterL_cons, afterL_cons, afterL_cons, afterL_cons, afterL_nil]
  constructor
  · intro h u i
    rw [B4_g, bodyB3_of _ main_while1b_v88 (by decide), B2_g _ hdy hc hw hb hr hg]
    rfl
  · intro t h i ht
    rw [B4_dr, B3_dr _ (bk j) ht1]
    split
    next e =>
      subst e
      rw [B2_dr _ hdy (sn := X.S ((bk j).val + 1)) hsn]
      simp only [Rows.DR, col_hd, key_hd]
    next e =>
      exact (congrFun (old main_v29_12 (by decide) (by decide) (by decide) (by decide)) _).trans
        (hI.dr t h i (by have : t.val ≠ (bk j).val := fun e' => e (Fin.ext e'); omega))
  · intro t h i ht
    rw [B4_dw, B3_dw _ (bk j) ht1]
    split
    next e =>
      subst e
      rw [B2_dw _ hdy (sp := X.S (bk j).val) hsp hr hg]
      simp only [Rows.DW, col_hd, key_hd, hD]
    next e =>
      exact (congrFun (old main_v29_13 (by decide) (by decide) (by decide) (by decide)) _).trans
        (hI.dw t h i (by have : t.val ≠ (bk j).val := fun e' => e (Fin.ext e'); omega))
  · intro t h i ht
    rw [B4_dk, B3_dk _ (bk j) ht1]
    split
    next e =>
      subst e
      rw [B2_dk _ hdy hv hr hg]
      simp only [Rows.DK, col_hd, key_hd, hD, mul_comm (X.v _ _)]
    next e =>
      exact (congrFun (old main_v29_14 (by decide) (by decide) (by decide) (by decide)) _).trans
        (hI.dk t h i (by have : t.val ≠ (bk j).val := fun e' => e (Fin.ext e'); omega))
  · intro t h i ht
    rw [B4_dv, B3_dv _ (bk j) ht1]
    split
    next e =>
      subst e
      rw [B2_dv _ hdy hk hr hg]
      simp only [Rows.DV, col_hd, hD]
    next e =>
      exact (congrFun (old main_v29_15 (by decide) (by decide) (by decide) (by decide)) _).trans
        (hI.dv t h i (by have : t.val ≠ (bk j).val := fun e' => e (Fin.ext e'); omega))
  · intro t h i ht
    rw [B4_dc, B3_dc _ (bk j) ht1]
    split
    next e =>
      subst e
      rw [B2_dc _ hdy (sp := X.S (bk j).val) hsp hb hr hg]
      simp only [Rows.DC, Rows.DSa, col_hd, key_hd, hD]
    next e =>
      exact (congrFun (old main_v29_16 (by decide) (by decide) (by decide) (by decide)) _).trans
        (hI.dc t h i (by have : t.val ≠ (bk j).val := fun e' => e (Fin.ext e'); omega))
  · intro t h i ht
    rw [B4_db, B3_db _ (bk j) ht1]
    split
    next e =>
      subst e
      rw [B2_db _ hdy (sa := fun l => ∑ a : Fin 64, X.S (bk j).val a l * X.c (bk j).val (col l a)) (fun h i => (hsa h i).trans (by simp only [col_hd])) hr hg]
      simp only [Rows.DB, col_hd, key_hd, hD, mul_comm (∑ a : Fin 64, _ : EReal)]
    next e =>
      exact (congrFun (old main_v29_17 (by decide) (by decide) (by decide) (by decide)) _).trans
        (hI.db t h i (by have : t.val ≠ (bk j).val := fun e' => e (Fin.ext e'); omega))

end

variable (m : (ℓ : Loc nD τ sig) → Buf (Elt Ideal) ℓ) (c : Dev nD)

/-- The rows of the seven arguments at launch. -/
def rowsR : Rows := rowsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))

theorem row2_at (A : S2048x256.Idx → EReal) (t : Fin 2048) (l : Fin 256) : A (ix2 t l) = row2 A t.val l := by
  unfold row2
  congr 2
  exact Fin.ext (Nat.mod_eq_of_lt t.isLt).symm

theorem row4_at (A : S2048x1024.Idx → EReal) (t : Fin 2048) (l : Fin 256) (hl : l.val < 1024) : A (ix2 t ⟨l.val, hl⟩) = row4 A t.val l := by
  unfold row4
  congr 2
  exact Fin.ext (Nat.mod_eq_of_lt t.isLt).symm

theorem fargs1 : FArgs (rowsR m c) (X1 m c) where
  r t h i := (pre_r (launchContents m c) t h i).trans (row4_at _ t (hd h i) _)
  w t h i := (pre_w (launchContents m c) t h i).trans (row2_at _ t (hd h i))
  k t h i := (pre_k (launchContents m c) t h i).trans (row2_at _ t (hd h i))
  v t h i := (pre_v (launchContents m c) t h i).trans (row2_at _ t (hd h i))
  c t h i := (pre_c (launchContents m c) t h i).trans (row2_at _ t (hd h i))
  b t h i := (pre_b (launchContents m c) t h i).trans (row2_at _ t (hd h i))

theorem fargs (k : ℕ) : FArgs (rowsR m c) (XF m k c) :=
  (fargs1 m c).mono (XF_of m c main_v18_0 (by decide) (by decide) (by decide) (by decide) (by decide) k) (XF_of m c main_v18_1 (by decide) (by decide) (by decide) (by decide) (by decide) k) (XF_of m c main_v18_2 (by decide) (by decide) (by decide) (by decide) (by decide) k) (XF_of m c main_v18_3 (by decide) (by decide) (by decide) (by decide) (by decide) k) (XF_of m c main_v18_4 (by decide) (by decide) (by decide) (by decide) (by decide) k) (XF_of m c main_v18_5 (by decide) (by decide) (by decide) (by decide) (by decide) k)

theorem finv : ∀ k, k ≤ 2048 → FInv (rowsR m c) k (XF m k c)
  | 0, _ => by
    constructor
    · intro h u i
      exact pre_s (launchContents m c) h u i
    · intro t h i ht
      omega
    · intro t h i ht
      omega
    · intro t h u i ht
      omega
    · intro t h i ht
      omega
    · intro t h i ht
      omega
    · intro t h i ht
      omega
    · intro t h i ht
      omega
    · intro t h i ht
      omega
    · intro t h i ht
      omega
    · intro t h u i ht
      omega
  | k + 1, hk => FInv.step (⟨k, by omega⟩ : Fin 2048) (ctrF (X1 m) (X1_ctr m) c k) (fargs m c k) (finv k (by omega))

theorem finv2 : FInv (rowsR m c) 2048 (X2 m c) := by
  have h := finv m c 2048 (le_refl _)
  constructor
  · intro a u i
    exact (congrFun (condF_of _ main_v18_7 (by decide)) _).trans (h.s a u i)
  · intro t a i ht
    exact (congrFun (condF_of _ main_v18_8 (by decide)) _).trans (h.y t a i ht)
  · intro t a i ht
    exact (congrFun (condF_of _ main_v18_9 (by decide)) _).trans (h.c t a i ht)
  · intro t a u i ht
    exact (congrFun (condF_of _ main_v18_10 (by decide)) _).trans (h.sp t a u i ht)
  · intro t a i ht
    exact (congrFun (condF_of _ main_v18_11 (by decide)) _).trans (h.w t a i ht)
  · intro t a i ht
    exact (congrFun (condF_of _ main_v18_12 (by decide)) _).trans (h.b t a i ht)
  · intro t a i ht
    exact (congrFun (condF_of _ main_v18_13 (by decide)) _).trans (h.sa t a i ht)
  · intro t a i ht
    exact (congrFun (condF_of _ main_v18_14 (by decide)) _).trans (h.k t a i ht)
  · intro t a i ht
    exact (congrFun (condF_of _ main_v18_15 (by decide)) _).trans (h.v t a i ht)
  · intro t a i ht
    exact (congrFun (condF_of _ main_v18_16 (by decide)) _).trans (h.r t a i ht)
  · intro t a u i ht
    exact (congrFun (condF_of _ main_v18_17 (by decide)) _).trans (h.sn t a u i ht)

theorem X2_arg6 : X2 m c (Proc.devRef .tc main_arg6) = m ((c : Thread nD τ).loc main_arg6) :=
  (condF_of _ main_arg6 (by decide)).trans ((XF_of m c main_arg6 (by decide) (by decide) (by decide) (by decide) (by decide) 2048).trans (preOps_of _ main_arg6 (by decide)))

theorem bargs3 : BArgs (rowsR m c) (X3 m c) where
  dy t h i := (mid_dy (X2 m c) t h i).trans ((congrFun (X2_arg6 m c) _).trans (row2_at _ t (hd h i)))
  c t h i := (congrFun (mid_c (X2 m c)) _).trans ((finv2 m c).c t h i t.isLt)
  sp t h u i := (congrFun (mid_sp (X2 m c)) _).trans ((finv2 m c).sp t h u i t.isLt)
  w t h i := (congrFun (mid_w (X2 m c)) _).trans ((finv2 m c).w t h i t.isLt)
  b t h i := (congrFun (mid_b (X2 m c)) _).trans ((finv2 m c).b t h i t.isLt)
  sa t h i := (congrFun (mid_sa (X2 m c)) _).trans ((finv2 m c).sa t h i t.isLt)
  k t h i := (congrFun (mid_k (X2 m c)) _).trans ((finv2 m c).k t h i t.isLt)
  v t h i := (congrFun (mid_v (X2 m c)) _).trans ((finv2 m c).v t h i t.isLt)
  r t h i := (congrFun (mid_r (X2 m c)) _).trans ((finv2 m c).r t h i t.isLt)
  sn t h u i := (congrFun (mid_sn (X2 m c)) _).trans ((finv2 m c).sn t h u i t.isLt)

theorem bargs (k : ℕ) : BArgs (rowsR m c) (XB m k c) :=
  (bargs3 m c).mono (XB_of m c main_v29_0 (by decide) (by decide) (by decide) (by decide) (by decide) (by decide) k) (XB_of m c main_v29_1 (by decide) (by decide) (by decide) (by decide) (by decide) (by decide) k) (XB_of m c main_v29_2 (by decide) (by decide) (by decide) (by decide) (by decide) (by decide) k) (XB_of m c main_v29_3 (by decide) (by decide) (by decide) (by decide) (by decide) (by decide) k) (XB_of m c main_v29_4 (by decide) (by decide) (by decide) (by decide) (by decide) (by decide) k) (XB_of m c main_v29_5 (by decide) (by decide) (by decide) (by decide) (by decide) (by decide) k) (XB_of m c main_v29_6 (by decide) (by decide) (by decide) (by decide) (by decide) (by decide) k) (XB_of m c main_v29_7 (by decide) (by decide) (by decide) (by decide) (by decide) (by decide) k) (XB_of m c main_v29_8 (by decide) (by decide) (by decide) (by decide) (by decide) (by decide) k) (XB_of m c main_v29_9 (by decide) (by decide) (by decide) (by decide) (by decide) (by decide) k)

theorem binv : ∀ k, k ≤ 2048 → BInv (rowsR m c) k (XB m k c)
  | 0, _ => by
    constructor
    · intro h u i
      exact mid_g (X2 m c) h u i
    · intro t h i ht
      have := t.isLt
      omega
    · intro t h i ht
      have := t.isLt
      omega
    · intro t h i ht
      have := t.isLt
      omega
    · intro t h i ht
      have := t.isLt
      omega
    · intro t h i ht
      have := t.isLt
      omega
    · intro t h i ht
      have := t.isLt
      omega
  | k + 1, hk => BInv.step (⟨k, by omega⟩ : Fin 2048) (ctrB (X3 m) (X3_ctr m) c k) (bargs m c k) (binv k (by omega))

theorem hd_split (l : Fin 256) : hd ⟨l.val / 64, by omega⟩ ⟨l.val % 64, by omega⟩ = l := by
  apply Fin.ext
  simp only [hd]
  omega

theorem X5_y : X5 m c (Proc.devRef .tc main_v19) = (arr2 (rowsR m c).Y : S2048x256.Idx → EReal) := by
  refine (postOps_of _ main_v19 (by decide)).trans ((condB_of _ main_v19 (by decide)).trans ((XB_of m c main_v19 (by decide) (by decide) (by decide) (by decide) (by decide) (by decide) 2048).trans ?_))
  funext y
  idx_vars y
  refine (mid_y (X2 m c) _ _).trans (((finv2 m c).y _ _ _ (Fin.isLt _)).trans ?_)
  rw [hd_split]
  rfl

theorem X5_dr : X5 m c (Proc.devRef .tc main_v35) = (arr2 (rowsR m c).DR : S2048x256.Idx → EReal) := by
  funext y
  idx_vars y
  refine (post_dr (X4 m c) _ _).trans ((congrFun (condB_of _ main_v29_12 (by decide)) _).trans
    (((binv m c 2048 (le_refl _)).dr _ _ _ (by omega)).trans ?_))
  rw [hd_split]
  rfl

theorem X5_dw : X5 m c (Proc.devRef .tc main_v34) = (arr2 (rowsR m c).DW : S2048x256.Idx → EReal) := by
  funext y
  idx_vars y
  refine (post_dw (X4 m c) _ _).trans ((congrFun (condB_of _ main_v29_13 (by decide)) _).trans
    (((binv m c 2048 (le_refl _)).dw _ _ _ (by omega)).trans ?_))
  rw [hd_split]
  rfl

theorem X5_dk : X5 m c (Proc.devRef .tc main_v33) = (arr2 (rowsR m c).DK : S2048x256.Idx → EReal) := by
  funext y
  idx_vars y
  refine (post_dk (X4 m c) _ _).trans ((congrFun (condB_of _ main_v29_14 (by decide)) _).trans
    (((binv m c 2048 (le_refl _)).dk _ _ _ (by omega)).trans ?_))
  rw [hd_split]
  rfl

theorem X5_dv : X5 m c (Proc.devRef .tc main_v32) = (arr2 (rowsR m c).DV : S2048x256.Idx → EReal) := by
  funext y
  idx_vars y
  refine (post_dv (X4 m c) _ _).trans ((congrFun (condB_of _ main_v29_15 (by decide)) _).trans
    (((binv m c 2048 (le_refl _)).dv _ _ _ (by omega)).trans ?_))
  rw [hd_split]
  rfl

theorem X5_dc : X5 m c (Proc.devRef .tc main_v31) = (arr2 (rowsR m c).DC : S2048x256.Idx → EReal) := by
  funext y
  idx_vars y
  refine (post_dc (X4 m c) _ _).trans ((congrFun (condB_of _ main_v29_16 (by decide)) _).trans
    (((binv m c 2048 (le_refl _)).dc _ _ _ (by omega)).trans ?_))
  rw [hd_split]
  rfl

theorem X5_db : X5 m c (Proc.devRef .tc main_v30) = (arr2 (rowsR m c).DB : S2048x256.Idx → EReal) := by
  funext y
  idx_vars y
  refine (post_db (X4 m c) _ _).trans ((congrFun (condB_of _ main_v29_17 (by decide)) _).trans
    (((binv m c 2048 (le_refl _)).db _ _ _ (by omega)).trans ?_))
  rw [hd_split]
  rfl

end Cert.ReferenceIdeal.Scan

end
-- ==== Proof.MlpSame.lean ====
/- The two printed feed-forward programs have the same text: their body tables are equal. -/
module

public import proofs.«01_k».proof.Proof.Gen.Kernel2
public import proofs.«01_k».proof.Proof.Gen.Kernel2Ideal

@[expose] public section

set_option maxRecDepth 16384

noncomputable section

namespace Cert.Proof.Mlp

open Idealize.ShloMosaic Idealize.SL.Sem

variable {F : FTy → Type} [FloatOps F]

set_option maxHeartbeats 8000000 in
/-- Both programs run the same body at each label. -/
theorem defs₀_same : Cert.Kernel2.defs₀ (F := F) = Cert.Kernel2Ideal.defs₀ (F := F) := by
  refine congrArg (Defs.onTc (nD := Cert.Kernel2.nD) (τ := Cert.Kernel2.τ) (sig := Cert.Kernel2.sig)) (funext fun ℓ => funext fun x => ?_)
  match ℓ, x with
  | 0, (t, s) => rfl
  | 1, (t, s) => rfl
  | 2, (t, s) => rfl
  | 3, (t, s) => rfl
  | 4, (t, s) => rfl
  | 5, (t, s) => rfl
  | ⟨n + 6, h⟩, _ => exact absurd h (Nat.not_lt.2 (Nat.le_add_left _ _))

set_option maxHeartbeats 8000000 in
/-- So their tables with the pipelined regions' labels are equal, -/
theorem defs_same : Cert.Kernel2.defs (F := F) = Cert.Kernel2Ideal.defs (F := F) := by
  show Pipeline.defs (Cert.Kernel2.pcfgs (F := F)) Cert.Kernel2.defs₀ = Pipeline.defs (Cert.Kernel2Ideal.pcfgs (F := F)) Cert.Kernel2Ideal.defs₀
  rw [defs₀_same]
  rfl

set_option maxHeartbeats 8000000 in
/-- and so are their main functions. -/
theorem main_same : Cert.Kernel2.main (F := F) = Cert.Kernel2Ideal.main (F := F) := rfl

end Cert.Proof.Mlp

end
-- ==== Proof.MlpBody.lean ====
/- The six matrix products of the feed-forward layer: one grid point of each. -/
module

public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import Idealize.ShloMosaic.Lib.Exec
public import Idealize.ShloMosaic.Lib.Tactic
public import Idealize.ShloMosaic.Lib.Pipeline.Kit
public import Idealize.ShloMosaic.Lib.VecWindow

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The condition of the first step along the contraction. -/
theorem cond_first : ∀ q : Fin 4, Scalar.cmpi .ne (Scalar.extui (Scalar.cmpi .eq (BitVec.ofNat 32 q.val) 0#32)) 0#32 = 1#1 ↔ q.val = 0 := by decide
/-- The condition of the later steps. -/
theorem cond_later : ∀ q : Fin 4, Scalar.cmpi .ne (Scalar.extui (Scalar.cmpi .sgt (BitVec.ofNat 32 q.val) 0#32)) 0#32 = 1#1 ↔ q.val ≠ 0 := by decide
/-- The condition of the last step. -/
theorem cond_last : ∀ q : Fin 4, Scalar.cmpi .ne (Scalar.extui (Scalar.cmpi .eq (BitVec.ofNat 32 q.val) 3#32)) 0#32 = 1#1 ↔ q.val = 3 := by decide

set_option maxHeartbeats 400000 in
/-- One grid point of the up projection: the output block from the input blocks. -/
theorem body0 (𝒱 : Variants) (c : Dev nD) (bd : Option 𝒱.V) (E : Set ℕ) (i : grid0.Coords) (arg3 : Memref sig .tc .vmem S2048x1024 .f32) (harg3 : arg3.IsWhole) (arg4 : Memref sig .tc .vmem S512x1024 .bf16) (harg4 : arg4.IsWhole) (arg5 : Memref sig .tc .vmem S2048x512 .f32) (harg5 : arg5.IsWhole)
    (f3 : BufTy.Contents (Elt F) arg3.view.ty) (f4 : BufTy.Contents (Elt F) arg4.view.ty) (f5 : BufTy.Contents (Elt F) arg5.view.ty) :
    (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5)) : sProp 𝕄G) ⊢ wp Idealize.ShloMosaic.frame (wpE (defs₀ (F := F)) 𝒱 (c : Thread nD τ) bd) E
      (cc0_mm_up (F := F) i arg3 harg3 arg4 harg4 arg5 harg5) (fun _ => iprop((arg3.view.loc (c : Thread nD τ) ↦[arg3.view.set]{fullShare} f3) ∗ (arg4.view.loc (c : Thread nD τ) ↦[arg4.view.set]{fullShare} f4) ∗ (∃ h, (arg5.view.loc (c : Thread nD τ) ↦[arg5.view.set]{fullShare} h) ∗ ⌜arg5.view.read (Elt F) h = k0_pay1 (arg3.view.read (Elt F) f3) (arg4.view.read (Elt F) f4)⌝))) := by
  have w3 : ∀ g, (arg3.view.readAt (Elt F) (Rect.unit (s := S2048x1024) ![0, 0] S2048x1024.size inb_S2048x1024_S2048x1024_0_0).toLoadRect g) = arg3.view.read (Elt F) g := fun _ => View.readAt_full _ _ _
  have w4 : ∀ g, (arg4.view.readAt (Elt F) (Rect.unit (s := S512x1024) ![0, 0] S512x1024.size inb_S512x1024_S512x1024_0_0).toLoadRect g) = arg4.view.read (Elt F) g := fun _ => View.readAt_full _ _ _
  have w5 : ∀ g, (arg5.view.readAt (Elt F) (Rect.unit (s := S2048x512) ![0, 0] S2048x512.size inb_S2048x512_S2048x512_0_0).toLoadRect g) = arg5.view.read (Elt F) g := fun _ => View.readAt_full _ _ _
  rw [cc0_mm_up_eq_skeleton]
  unfold cc0_mm_up_skel
  iintro ⟨H3, H4, H5⟩
  sl_exec
  sl_step
  isplitl [H3]; · iexact H3
  isplitl [H4]; · iexact H4
  iexists _; isplitl [H5]; (· iexact H5); ipureintro; exact View.read_writes_full _ _ _ _ _

set_option maxHeartbeats 1000000 in
/-- One grid point of the down projection: the running sum started or added to, and handed out at the last step. -/
theorem body1 (𝒱 : Variants) (c : Dev nD) (bd : Option 𝒱.V) (E : Set ℕ) (i : grid1.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
    (f3 : BufTy.Contents (Elt F) arg3.view.ty) (f4 : BufTy.Contents (Elt F) arg4.view.ty) (f5 : BufTy.Contents (Elt F) arg5.view.ty) (f6 : BufTy.Contents (Elt F) arg6.view.ty)
    (X : S1024x1024.Idx → F .f32) (hX : X = if (i 2).val = 0 then k1_pay2 (arg3.view.read (Elt F) f3) (arg4.view.read (Elt F) f4) else k1_pay3 (arg3.view.read (Elt F) f3) (arg4.view.read (Elt F) f4) (arg6.view.read (Elt F) f6)) :
    (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6)) : sProp 𝕄G) ⊢ wp Idealize.ShloMosaic.frame (wpE (defs₀ (F := F)) 𝒱 (c : Thread nD τ) bd) E
      (cc1_mm_down (F := F) i arg3 harg3 arg4 harg4 arg5 harg5 arg6 harg6) (fun _ => iprop((arg3.view.loc (c : Thread nD τ) ↦[arg3.view.set]{fullShare} f3) ∗ (arg4.view.loc (c : Thread nD τ) ↦[arg4.view.set]{fullShare} f4) ∗ (∃ h, (arg5.view.loc (c : Thread nD τ) ↦[arg5.view.set]{fullShare} h) ∗ ⌜((i 2).val = 3 → arg5.view.read (Elt F) h = X) ∧ ((i 2).val ≠ 3 → h = f5)⌝) ∗ (∃ h, (arg6.view.loc (c : Thread nD τ) ↦[arg6.view.set]{fullShare} h) ∗ ⌜arg6.view.read (Elt F) h = X⌝))) := by
  have w3 : ∀ g, (arg3.view.readAt (Elt F) (Rect.unit (s := S1024x1024) ![0, 0] S1024x1024.size inb_S1024x1024_S1024x1024_0_0).toLoadRect g) = arg3.view.read (Elt F) g := fun _ => View.readAt_full _ _ _
  have w4 : ∀ g, (arg4.view.readAt (Elt F) (Rect.unit (s := S1024x1024) ![0, 0] S1024x1024.size inb_S1024x1024_S1024x1024_0_0).toLoadRect g) = arg4.view.read (Elt F) g := fun _ => View.readAt_full _ _ _
  have w5 : ∀ g, (arg5.view.readAt (Elt F) (Rect.unit (s := S1024x1024) ![0, 0] S1024x1024.size inb_S1024x1024_S1024x1024_0_0).toLoadRect g) = arg5.view.read (Elt F) g := fun _ => View.readAt_full _ _ _
  have w6 : ∀ g, (arg6.view.readAt (Elt F) (Rect.unit (s := S1024x1024) ![0, 0] S1024x1024.size inb_S1024x1024_S1024x1024_0_0).toLoadRect g) = arg6.view.read (Elt F) g := fun _ => View.readAt_full _ _ _
  have q5 : ∀ g v, arg5.view.read (Elt F) (arg5.view.writes (Elt F) g [⟨Rect.unit (s := S1024x1024) ![0, 0] ![1024, 1024] inb_S1024x1024_S1024x1024_0_0, v⟩]) = v := fun _ _ => View.read_writes_full _ _ _ _ _
  have q6 : ∀ g v, arg6.view.read (Elt F) (arg6.view.writes (Elt F) g [⟨Rect.unit (s := S1024x1024) ![0, 0] ![1024, 1024] inb_S1024x1024_S1024x1024_0_0, v⟩]) = v := fun _ _ => View.read_writes_full _ _ _ _ _
  rw [cc1_mm_down_eq_skeleton]
  unfold cc1_mm_down_skel
  iintro ⟨H3, H4, H5, H6⟩
  have hb : (i 2).val < 4 := (i 2).isLt
  have c1 : Scalar.cmpi .ne (Scalar.extui (Scalar.cmpi .eq (BitVec.ofNat 32 (i 2).val) 0#32)) 0#32 = 1#1 ↔ (i 2).val = 0 := cond_first (i 2)
  have c2 : Scalar.cmpi .ne (Scalar.extui (Scalar.cmpi .sgt (BitVec.ofNat 32 (i 2).val) 0#32)) 0#32 = 1#1 ↔ (i 2).val ≠ 0 := cond_later (i 2)
  have c3 : k1_cond3 i = 1#1 ↔ (i 2).val = 3 := cond_last (i 2)
  rcases (by omega : ((i 2).val = 0 ∧ (i 2).val ≠ 3) ∨ ((i 2).val ≠ 0 ∧ (i 2).val ≠ 3) ∨ ((i 2).val ≠ 0 ∧ (i 2).val = 3)) with ⟨hz, hl⟩ | ⟨hz, hl⟩ | ⟨hz, hl⟩
  · have d1 := c1.2 hz
    have d2 := c2.not.2 (not_not.2 hz)
    have d3 := c3.not.2 hl
    rw [if_pos hz] at hX
    sl_exec
    sl_step
    isplitl [H3]; · iexact H3
    isplitl [H4]; · iexact H4
    isplitl [H5]
    · iexists _; isplitl [H5]; (· iexact H5); ipureintro; exact ⟨fun h => absurd h hl, fun _ => rfl⟩
    iexists _; isplitl [H6]; (· iexact H6); ipureintro; simp only [w3, w4, w5, w6, q6, hX]
  · have d1 := c1.not.2 hz
    have d2 := c2.2 hz
    have d3 := c3.not.2 hl
    rw [if_neg hz] at hX
    sl_exec
    sl_step
    isplitl [H3]; · iexact H3
    isplitl [H4]; · iexact H4
    isplitl [H5]
    · iexists _; isplitl [H5]; (· iexact H5); ipureintro; exact ⟨fun h => absurd h hl, fun _ => rfl⟩
    iexists _; isplitl [H6]; (· iexact H6); ipureintro; simp only [w3, w4, w5, w6, q6, hX]
  · have d1 := c1.not.2 hz
    have d2 := c2.2 hz
    have d3 := c3.2 hl
    rw [if_neg hz] at hX
    sl_exec
    sl_step
    isplitl [H3]; · iexact H3
    isplitl [H4]; · iexact H4
    isplitl [H5]
    · iexists _; isplitl [H5]; (· iexact H5); ipureintro; refine ⟨fun _ => ?_, fun h => absurd hl h⟩; exact (q5 _ _).trans ((w6 _).trans ((q6 _ _).trans hX.symm))
    iexists _; isplitl [H6]; (· iexact H6); ipureintro; exact (q6 _ _).trans hX.symm

set_option maxHeartbeats 400000 in
/-- One grid point of the gradient of the up projection: the output block from the input blocks. -/
theorem body2 (𝒱 : Variants) (c : Dev nD) (bd : Option 𝒱.V) (E : Set ℕ) (i : grid2.Coords) (arg3 : Memref sig .tc .vmem S2048x1024 .f32) (harg3 : arg3.IsWhole) (arg4 : Memref sig .tc .vmem S512x1024 .bf16) (harg4 : arg4.IsWhole) (arg5 : Memref sig .tc .vmem S2048x512 .f32) (harg5 : arg5.IsWhole) (arg6 : Memref sig .tc .vmem S2048x512 .bf16) (harg6 : arg6.IsWhole)
    (f3 : BufTy.Contents (Elt F) arg3.view.ty) (f4 : BufTy.Contents (Elt F) arg4.view.ty) (f5 : BufTy.Contents (Elt F) arg5.view.ty) (f6 : BufTy.Contents (Elt F) arg6.view.ty) :
    (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6)) : sProp 𝕄G) ⊢ wp Idealize.ShloMosaic.frame (wpE (defs₀ (F := F)) 𝒱 (c : Thread nD τ) bd) E
      (cc2_mm_down_dx (F := F) i arg3 harg3 arg4 harg4 arg5 harg5 arg6 harg6) (fun _ => iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (∃ h, (arg6.view.loc (c : Thread nD τ) ↦[arg6.view.set]{fullShare} h) ∗ ⌜arg6.view.read (Elt F) h = k2_pay1 (arg3.view.read (Elt F) f3) (arg4.view.read (Elt F) f4) (arg5.view.read (Elt F) f5)⌝))) := by
  have w3 : ∀ g, (arg3.view.readAt (Elt F) (Rect.unit (s := S2048x1024) ![0, 0] S2048x1024.size inb_S2048x1024_S2048x1024_0_0).toLoadRect g) = arg3.view.read (Elt F) g := fun _ => View.readAt_full _ _ _
  have w4 : ∀ g, (arg4.view.readAt (Elt F) (Rect.unit (s := S512x1024) ![0, 0] S512x1024.size inb_S512x1024_S512x1024_0_0).toLoadRect g) = arg4.view.read (Elt F) g := fun _ => View.readAt_full _ _ _
  have w5 : ∀ g, (arg5.view.readAt (Elt F) (Rect.unit (s := S2048x512) ![0, 0] S2048x512.size inb_S2048x512_S2048x512_0_0).toLoadRect g) = arg5.view.read (Elt F) g := fun _ => View.readAt_full _ _ _
  have w6 : ∀ g, (arg6.view.readAt (Elt F) (Rect.unit (s := S2048x512) ![0, 0] S2048x512.size inb_S2048x512_S2048x512_0_0).toLoadRect g) = arg6.view.read (Elt F) g := fun _ => View.readAt_full _ _ _
  rw [cc2_mm_down_dx_eq_skeleton]
  unfold cc2_mm_down_dx_skel
  iintro ⟨H3, H4, H5, H6⟩
  sl_exec
  sl_step
  isplitl [H3]; · iexact H3
  isplitl [H4]; · iexact H4
  isplitl [H5]; · iexact H5
  iexists _; isplitl [H6]; (· iexact H6); ipureintro; exact View.read_writes_full _ _ _ _ _

set_option maxHeartbeats 1000000 in
/-- One grid point of the gradient of the down weight: the running sum started or added to, and handed out at the last step. -/
theorem body3 (𝒱 : Variants) (c : Dev nD) (bd : Option 𝒱.V) (E : Set ℕ) (i : grid3.Coords) (arg3 : Memref sig .tc .vmem S512x2048 .f32) (harg3 : arg3.IsWhole) (arg4 : Memref sig .tc .vmem S512x1024 .f32) (harg4 : arg4.IsWhole) (arg5 : Memref sig .tc .vmem S2048x1024 .f32) (harg5 : arg5.IsWhole) (arg6 : Memref sig .tc .vmem S2048x1024 .f32) (harg6 : arg6.IsWhole)
    (f3 : BufTy.Contents (Elt F) arg3.view.ty) (f4 : BufTy.Contents (Elt F) arg4.view.ty) (f5 : BufTy.Contents (Elt F) arg5.view.ty) (f6 : BufTy.Contents (Elt F) arg6.view.ty)
    (X : S2048x1024.Idx → F .f32) (hX : X = if (i 2).val = 0 then k3_pay2 (arg3.view.read (Elt F) f3) (arg4.view.read (Elt F) f4) else k3_pay3 (arg3.view.read (Elt F) f3) (arg4.view.read (Elt F) f4) (arg6.view.read (Elt F) f6)) :
    (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6)) : sProp 𝕄G) ⊢ wp Idealize.ShloMosaic.frame (wpE (defs₀ (F := F)) 𝒱 (c : Thread nD τ) bd) E
      (cc3_mm_down_dw (F := F) i arg3 harg3 arg4 harg4 arg5 harg5 arg6 harg6) (fun _ => iprop((arg3.view.loc (c : Thread nD τ) ↦[arg3.view.set]{fullShare} f3) ∗ (arg4.view.loc (c : Thread nD τ) ↦[arg4.view.set]{fullShare} f4) ∗ (∃ h, (arg5.view.loc (c : Thread nD τ) ↦[arg5.view.set]{fullShare} h) ∗ ⌜((i 2).val = 3 → arg5.view.read (Elt F) h = X) ∧ ((i 2).val ≠ 3 → h = f5)⌝) ∗ (∃ h, (arg6.view.loc (c : Thread nD τ) ↦[arg6.view.set]{fullShare} h) ∗ ⌜arg6.view.read (Elt F) h = X⌝))) := by
  have w3 : ∀ g, (arg3.view.readAt (Elt F) (Rect.unit (s := S512x2048) ![0, 0] S512x2048.size inb_S512x2048_S512x2048_0_0).toLoadRect g) = arg3.view.read (Elt F) g := fun _ => View.readAt_full _ _ _
  have w4 : ∀ g, (arg4.view.readAt (Elt F) (Rect.unit (s := S512x1024) ![0, 0] S512x1024.size inb_S512x1024_S512x1024_0_0).toLoadRect g) = arg4.view.read (Elt F) g := fun _ => View.readAt_full _ _ _
  have w5 : ∀ g, (arg5.view.readAt (Elt F) (Rect.unit (s := S2048x1024) ![0, 0] S2048x1024.size inb_S2048x1024_S2048x1024_0_0).toLoadRect g) = arg5.view.read (Elt F) g := fun _ => View.readAt_full _ _ _
  have w6 : ∀ g, (arg6.view.readAt (Elt F) (Rect.unit (s := S2048x1024) ![0, 0] S2048x1024.size inb_S2048x1024_S2048x1024_0_0).toLoadRect g) = arg6.view.read (Elt F) g := fun _ => View.readAt_full _ _ _
  have q5 : ∀ g v, arg5.view.read (Elt F) (arg5.view.writes (Elt F) g [⟨Rect.unit (s := S2048x1024) ![0, 0] ![2048, 1024] inb_S2048x1024_S2048x1024_0_0, v⟩]) = v := fun _ _ => View.read_writes_full _ _ _ _ _
  have q6 : ∀ g v, arg6.view.read (Elt F) (arg6.view.writes (Elt F) g [⟨Rect.unit (s := S2048x1024) ![0, 0] ![2048, 1024] inb_S2048x1024_S2048x1024_0_0, v⟩]) = v := fun _ _ => View.read_writes_full _ _ _ _ _
  rw [cc3_mm_down_dw_eq_skeleton]
  unfold cc3_mm_down_dw_skel
  iintro ⟨H3, H4, H5, H6⟩
  have hb : (i 2).val < 4 := (i 2).isLt
  have c1 : Scalar.cmpi .ne (Scalar.extui (Scalar.cmpi .eq (BitVec.ofNat 32 (i 2).val) 0#32)) 0#32 = 1#1 ↔ (i 2).val = 0 := cond_first (i 2)
  have c2 : Scalar.cmpi .ne (Scalar.extui (Scalar.cmpi .sgt (BitVec.ofNat 32 (i 2).val) 0#32)) 0#32 = 1#1 ↔ (i 2).val ≠ 0 := cond_later (i 2)
  have c3 : k3_cond3 i = 1#1 ↔ (i 2).val = 3 := cond_last (i 2)
  rcases (by omega : ((i 2).val = 0 ∧ (i 2).val ≠ 3) ∨ ((i 2).val ≠ 0 ∧ (i 2).val ≠ 3) ∨ ((i 2).val ≠ 0 ∧ (i 2).val = 3)) with ⟨hz, hl⟩ | ⟨hz, hl⟩ | ⟨hz, hl⟩
  · have d1 := c1.2 hz
    have d2 := c2.not.2 (not_not.2 hz)
    have d3 := c3.not.2 hl
    rw [if_pos hz] at hX
    sl_exec
    sl_step
    isplitl [H3]; · iexact H3
    isplitl [H4]; · iexact H4
    isplitl [H5]
    · iexists _; isplitl [H5]; (· iexact H5); ipureintro; exact ⟨fun h => absurd h hl, fun _ => rfl⟩
    iexists _; isplitl [H6]; (· iexact H6); ipureintro; simp only [w3, w4, w5, w6, q6, hX]
  · have d1 := c1.not.2 hz
    have d2 := c2.2 hz
    have d3 := c3.not.2 hl
    rw [if_neg hz] at hX
    sl_exec
    sl_step
    isplitl [H3]; · iexact H3
    isplitl [H4]; · iexact H4
    isplitl [H5]
    · iexists _; isplitl [H5]; (· iexact H5); ipureintro; exact ⟨fun h => absurd h hl, fun _ => rfl⟩
    iexists _; isplitl [H6]; (· iexact H6); ipureintro; simp only [w3, w4, w5, w6, q6, hX]
  · have d1 := c1.not.2 hz
    have d2 := c2.2 hz
    have d3 := c3.2 hl
    rw [if_neg hz] at hX
    sl_exec
    sl_step
    isplitl [H3]; · iexact H3
    isplitl [H4]; · iexact H4
    isplitl [H5]
    · iexists _; isplitl [H5]; (· iexact H5); ipureintro; refine ⟨fun _ => ?_, fun h => absurd hl h⟩; exact (q5 _ _).trans ((w6 _).trans ((q6 _ _).trans hX.symm))
    iexists _; isplitl [H6]; (· iexact H6); ipureintro; exact (q6 _ _).trans hX.symm

set_option maxHeartbeats 1000000 in
/-- One grid point of the gradient of the input: the running sum started or added to, and handed out at the last step. -/
theorem body4 (𝒱 : Variants) (c : Dev nD) (bd : Option 𝒱.V) (E : Set ℕ) (i : grid4.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty)
    (X : S1024x1024.Idx → F .f32) (hX : X = if (i 2).val = 0 then k4_pay2 (arg3.view.read (Elt F) f3) (arg4.view.read (Elt F) f4) else k4_pay3 (arg3.view.read (Elt F) f3) (arg4.view.read (Elt F) f4) (arg7.view.read (Elt F) f7)) :
    (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7)) : sProp 𝕄G) ⊢ wp Idealize.ShloMosaic.frame (wpE (defs₀ (F := F)) 𝒱 (c : Thread nD τ) bd) E
      (cc4_mm_up_dx (F := F) i arg3 harg3 arg4 harg4 arg5 harg5 arg6 harg6 arg7 harg7) (fun _ => iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (∃ h, (arg6.view.loc (c : Thread nD τ) ↦[arg6.view.set]{fullShare} h) ∗ ⌜((i 2).val = 3 → arg6.view.read (Elt F) h = k4_pay4 X (arg5.view.read (Elt F) f5)) ∧ ((i 2).val ≠ 3 → h = f6)⌝) ∗ (∃ h, (arg7.view.loc (c : Thread nD τ) ↦[arg7.view.set]{fullShare} h) ∗ ⌜arg7.view.read (Elt F) h = X⌝))) := by
  have w3 : ∀ g, (arg3.view.readAt (Elt F) (Rect.unit (s := S1024x1024) ![0, 0] S1024x1024.size inb_S1024x1024_S1024x1024_0_0).toLoadRect g) = arg3.view.read (Elt F) g := fun _ => View.readAt_full _ _ _
  have w4 : ∀ g, (arg4.view.readAt (Elt F) (Rect.unit (s := S1024x1024) ![0, 0] S1024x1024.size inb_S1024x1024_S1024x1024_0_0).toLoadRect g) = arg4.view.read (Elt F) g := fun _ => View.readAt_full _ _ _
  have w5 : ∀ g, (arg5.view.readAt (Elt F) (Rect.unit (s := S1024x1024) ![0, 0] S1024x1024.size inb_S1024x1024_S1024x1024_0_0).toLoadRect g) = arg5.view.read (Elt F) g := fun _ => View.readAt_full _ _ _
  have w6 : ∀ g, (arg6.view.readAt (Elt F) (Rect.unit (s := S1024x1024) ![0, 0] S1024x1024.size inb_S1024x1024_S1024x1024_0_0).toLoadRect g) = arg6.view.read (Elt F) g := fun _ => View.readAt_full _ _ _
  have w7 : ∀ g, (arg7.view.readAt (Elt F) (Rect.unit (s := S1024x1024) ![0, 0] S1024x1024.size inb_S1024x1024_S1024x1024_0_0).toLoadRect g) = arg7.view.read (Elt F) g := fun _ => View.readAt_full _ _ _
  have q6 : ∀ g v, arg6.view.read (Elt F) (arg6.view.writes (Elt F) g [⟨Rect.unit (s := S1024x1024) ![0, 0] ![1024, 1024] inb_S1024x1024_S1024x1024_0_0, v⟩]) = v := fun _ _ => View.read_writes_full _ _ _ _ _
  have q7 : ∀ g v, arg7.view.read (Elt F) (arg7.view.writes (Elt F) g [⟨Rect.unit (s := S1024x1024) ![0, 0] ![1024, 1024] inb_S1024x1024_S1024x1024_0_0, v⟩]) = v := fun _ _ => View.read_writes_full _ _ _ _ _
  rw [cc4_mm_up_dx_eq_skeleton]
  unfold cc4_mm_up_dx_skel
  iintro ⟨H3, H4, H5, H6, H7⟩
  have hb : (i 2).val < 4 := (i 2).isLt
  have c1 : Scalar.cmpi .ne (Scalar.extui (Scalar.cmpi .eq (BitVec.ofNat 32 (i 2).val) 0#32)) 0#32 = 1#1 ↔ (i 2).val = 0 := cond_first (i 2)
  have c2 : Scalar.cmpi .ne (Scalar.extui (Scalar.cmpi .sgt (BitVec.ofNat 32 (i 2).val) 0#32)) 0#32 = 1#1 ↔ (i 2).val ≠ 0 := cond_later (i 2)
  have c3 : k4_cond3 i = 1#1 ↔ (i 2).val = 3 := cond_last (i 2)
  rcases (by omega : ((i 2).val = 0 ∧ (i 2).val ≠ 3) ∨ ((i 2).val ≠ 0 ∧ (i 2).val ≠ 3) ∨ ((i 2).val ≠ 0 ∧ (i 2).val = 3)) with ⟨hz, hl⟩ | ⟨hz, hl⟩ | ⟨hz, hl⟩
  · have d1 := c1.2 hz
    have d2 := c2.not.2 (not_not.2 hz)
    have d3 := c3.not.2 hl
    rw [if_pos hz] at hX
    sl_exec
    sl_step
    isplitl [H3]; · iexact H3
    isplitl [H4]; · iexact H4
    isplitl [H5]; · iexact H5
    isplitl [H6]
    · iexists _; isplitl [H6]; (· iexact H6); ipureintro; exact ⟨fun h => absurd h hl, fun _ => rfl⟩
    iexists _; isplitl [H7]; (· iexact H7); ipureintro; simp only [w3, w4, w5, w6, w7, q7, hX]
  · have d1 := c1.not.2 hz
    have d2 := c2.2 hz
    have d3 := c3.not.2 hl
    rw [if_neg hz] at hX
    sl_exec
    sl_step
    isplitl [H3]; · iexact H3
    isplitl [H4]; · iexact H4
    isplitl [H5]; · iexact H5
    isplitl [H6]
    · iexists _; isplitl [H6]; (· iexact H6); ipureintro; exact ⟨fun h => absurd h hl, fun _ => rfl⟩
    iexists _; isplitl [H7]; (· iexact H7); ipureintro; simp only [w3, w4, w5, w6, w7, q7, hX]
  · have d1 := c1.not.2 hz
    have d2 := c2.2 hz
    have d3 := c3.2 hl
    rw [if_neg hz] at hX
    sl_exec
    sl_step
    isplitl [H3]; · iexact H3
    isplitl [H4]; · iexact H4
    isplitl [H5]; · iexact H5
    isplitl [H6]
    · iexists _; isplitl [H6]; (· iexact H6); ipureintro; refine ⟨fun _ => ?_, fun h => absurd hl h⟩; exact (q6 _ _).trans (congrArg₂ k4_pay4 ((w7 _).trans ((q7 _ _).trans hX.symm)) rfl)
    iexists _; isplitl [H7]; (· iexact H7); ipureintro; exact (q7 _ _).trans hX.symm

set_option maxHeartbeats 1000000 in
/-- One grid point of the gradient of the up weight: the running sum started or added to, and handed out at the last step. -/
theorem body5 (𝒱 : Variants) (c : Dev nD) (bd : Option 𝒱.V) (E : Set ℕ) (i : grid5.Coords) (arg3 : Memref sig .tc .vmem S512x2048 .bf16) (harg3 : arg3.IsWhole) (arg4 : Memref sig .tc .vmem S512x1024 .f32) (harg4 : arg4.IsWhole) (arg5 : Memref sig .tc .vmem S2048x1024 .f32) (harg5 : arg5.IsWhole) (arg6 : Memref sig .tc .vmem S2048x1024 .f32) (harg6 : arg6.IsWhole)
    (f3 : BufTy.Contents (Elt F) arg3.view.ty) (f4 : BufTy.Contents (Elt F) arg4.view.ty) (f5 : BufTy.Contents (Elt F) arg5.view.ty) (f6 : BufTy.Contents (Elt F) arg6.view.ty)
    (X : S2048x1024.Idx → F .f32) (hX : X = if (i 2).val = 0 then k5_pay2 (arg3.view.read (Elt F) f3) (arg4.view.read (Elt F) f4) else k5_pay3 (arg3.view.read (Elt F) f3) (arg4.view.read (Elt F) f4) (arg6.view.read (Elt F) f6)) :
    (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6)) : sProp 𝕄G) ⊢ wp Idealize.ShloMosaic.frame (wpE (defs₀ (F := F)) 𝒱 (c : Thread nD τ) bd) E
      (cc5_mm_up_dw (F := F) i arg3 harg3 arg4 harg4 arg5 harg5 arg6 harg6) (fun _ => iprop((arg3.view.loc (c : Thread nD τ) ↦[arg3.view.set]{fullShare} f3) ∗ (arg4.view.loc (c : Thread nD τ) ↦[arg4.view.set]{fullShare} f4) ∗ (∃ h, (arg5.view.loc (c : Thread nD τ) ↦[arg5.view.set]{fullShare} h) ∗ ⌜((i 2).val = 3 → arg5.view.read (Elt F) h = X) ∧ ((i 2).val ≠ 3 → h = f5)⌝) ∗ (∃ h, (arg6.view.loc (c : Thread nD τ) ↦[arg6.view.set]{fullShare} h) ∗ ⌜arg6.view.read (Elt F) h = X⌝))) := by
  have w3 : ∀ g, (arg3.view.readAt (Elt F) (Rect.unit (s := S512x2048) ![0, 0] S512x2048.size inb_S512x2048_S512x2048_0_0).toLoadRect g) = arg3.view.read (Elt F) g := fun _ => View.readAt_full _ _ _
  have w4 : ∀ g, (arg4.view.readAt (Elt F) (Rect.unit (s := S512x1024) ![0, 0] S512x1024.size inb_S512x1024_S512x1024_0_0).toLoadRect g) = arg4.view.read (Elt F) g := fun _ => View.readAt_full _ _ _
  have w5 : ∀ g, (arg5.view.readAt (Elt F) (Rect.unit (s := S2048x1024) ![0, 0] S2048x1024.size inb_S2048x1024_S2048x1024_0_0).toLoadRect g) = arg5.view.read (Elt F) g := fun _ => View.readAt_full _ _ _
  have w6 : ∀ g, (arg6.view.readAt (Elt F) (Rect.unit (s := S2048x1024) ![0, 0] S2048x1024.size inb_S2048x1024_S2048x1024_0_0).toLoadRect g) = arg6.view.read (Elt F) g := fun _ => View.readAt_full _ _ _
  have q5 : ∀ g v, arg5.view.read (Elt F) (arg5.view.writes (Elt F) g [⟨Rect.unit (s := S2048x1024) ![0, 0] ![2048, 1024] inb_S2048x1024_S2048x1024_0_0, v⟩]) = v := fun _ _ => View.read_writes_full _ _ _ _ _
  have q6 : ∀ g v, arg6.view.read (Elt F) (arg6.view.writes (Elt F) g [⟨Rect.unit (s := S2048x1024) ![0, 0] ![2048, 1024] inb_S2048x1024_S2048x1024_0_0, v⟩]) = v := fun _ _ => View.read_writes_full _ _ _ _ _
  rw [cc5_mm_up_dw_eq_skeleton]
  unfold cc5_mm_up_dw_skel
  iintro ⟨H3, H4, H5, H6⟩
  have hb : (i 2).val < 4 := (i 2).isLt
  have c1 : Scalar.cmpi .ne (Scalar.extui (Scalar.cmpi .eq (BitVec.ofNat 32 (i 2).val) 0#32)) 0#32 = 1#1 ↔ (i 2).val = 0 := cond_first (i 2)
  have c2 : Scalar.cmpi .ne (Scalar.extui (Scalar.cmpi .sgt (BitVec.ofNat 32 (i 2).val) 0#32)) 0#32 = 1#1 ↔ (i 2).val ≠ 0 := cond_later (i 2)
  have c3 : k5_cond3 i = 1#1 ↔ (i 2).val = 3 := cond_last (i 2)
  rcases (by omega : ((i 2).val = 0 ∧ (i 2).val ≠ 3) ∨ ((i 2).val ≠ 0 ∧ (i 2).val ≠ 3) ∨ ((i 2).val ≠ 0 ∧ (i 2).val = 3)) with ⟨hz, hl⟩ | ⟨hz, hl⟩ | ⟨hz, hl⟩
  · have d1 := c1.2 hz
    have d2 := c2.not.2 (not_not.2 hz)
    have d3 := c3.not.2 hl
    rw [if_pos hz] at hX
    sl_exec
    sl_step
    isplitl [H3]; · iexact H3
    isplitl [H4]; · iexact H4
    isplitl [H5]
    · iexists _; isplitl [H5]; (· iexact H5); ipureintro; exact ⟨fun h => absurd h hl, fun _ => rfl⟩
    iexists _; isplitl [H6]; (· iexact H6); ipureintro; simp only [w3, w4, w5, w6, q6, hX]
  · have d1 := c1.not.2 hz
    have d2 := c2.2 hz
    have d3 := c3.not.2 hl
    rw [if_neg hz] at hX
    sl_exec
    sl_step
    isplitl [H3]; · iexact H3
    isplitl [H4]; · iexact H4
    isplitl [H5]
    · iexists _; isplitl [H5]; (· iexact H5); ipureintro; exact ⟨fun h => absurd h hl, fun _ => rfl⟩
    iexists _; isplitl [H6]; (· iexact H6); ipureintro; simp only [w3, w4, w5, w6, q6, hX]
  · have d1 := c1.not.2 hz
    have d2 := c2.2 hz
    have d3 := c3.2 hl
    rw [if_neg hz] at hX
    sl_exec
    sl_step
    isplitl [H3]; · iexact H3
    isplitl [H4]; · iexact H4
    isplitl [H5]
    · iexists _; isplitl [H5]; (· iexact H5); ipureintro; refine ⟨fun _ => ?_, fun h => absurd hl h⟩; exact (q5 _ _).trans ((w6 _).trans ((q6 _ _).trans hX.symm))
    iexists _; isplitl [H6]; (· iexact H6); ipureintro; exact (q6 _ _).trans hX.symm

end Cert.Kernel2Ideal.Mlp
-- ==== Proof.MlpRegion.lean ====
/- The regions of the six matrix products: what the windows hold at each grid point, the running sums between the points, and the buffers they leave. -/
module

public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import Idealize.ShloMosaic.Lib.Exec
public import Idealize.ShloMosaic.Lib.Tactic
public import Idealize.ShloMosaic.Lib.Pipeline.Kit
public import Idealize.ShloMosaic.Lib.VecWindow
public import proofs.«01_k».proof.Proof.MlpBody
public import Idealize.ShloMosaic.Lib.Pipeline.RegionsLoop
public import Idealize.ShloMosaic.Lib.Pipeline.FrameSuffix
public import Idealize.ShloMosaic.Lib.Pipeline.FrameBody

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligation RegionSeg arrRef)

local notation "𝕄G" => MT nD τ sig Unit (Elt F) ℕ (UR sig nD τ) ℕ

variable (V : (c : Dev nD) → (b : Ref sig .tc) → Buf (Elt F) ((c : Thread nD τ).loc b))

/-- The block of window 0 of the up projection that grid point `t` sees, the arrays at `V`. -/
noncomputable def blk0_0 (c : Dev nD) (t : Fin cfg0.N) : S2048x1024.Idx → F .f32 :=
  (win0_0.blk t).view.read (Elt F) (V c main_arg0)

/-- The block of window 1 of the up projection that grid point `t` sees, the arrays at `V`. -/
noncomputable def blk0_1 (c : Dev nD) (t : Fin cfg0.N) : S512x1024.Idx → F .bf16 :=
  (win0_1.blk t).view.read (Elt F) (V c main_v1)

/-- The proof data of the up projection, entered at `V`. -/
noncomputable def dat0 (c : Dev nD) : Dat τ (Elt F) Unit ℕ (UR sig nD τ) ℕ cfg0 c where
  A w := V c (arrRef spec0 w)
  after w t := match w with
    | ⟨0, _⟩ => blk0_0 V c t
    | ⟨1, _⟩ => blk0_1 V c t
    | ⟨2, _⟩ => k0_pay1 (blk0_0 V c t) (blk0_1 V c t)
  Φ _ := Pipeline.scopedRest (Ix := Unit) (Name := ℕ) (U := UR sig nD τ) (Lvl := ℕ) (Val := Elt F) spec0 c
  q w := Pipeline.shareOf spec0 w
  owed _ := 0

/-- Window 0 holds its block whenever the body runs. -/
theorem before0_0 (c : Dev nD) (t : Fin cfg0.N) (d : (cfg0.win 0).block.Idx → Elt F (cfg0.win 0).elt) :
    (dat0 V c).before 0 t d = blk0_0 V c t := by
  rw [(dat0 V c).before_in_eq_fetched 0 rfl (fun _ => rfl) (fun _ _ _ => rfl) (fun _ => rfl)]; rfl

/-- Window 1 holds its block whenever the body runs. -/
theorem before0_1 (c : Dev nD) (t : Fin cfg0.N) (d : (cfg0.win 1).block.Idx → Elt F (cfg0.win 1).elt) :
    (dat0 V c).before 1 t d = blk0_1 V c t := by
  rw [(dat0 V c).before_fetched 1 t (fetch0_1 t)]; rfl

set_option maxHeartbeats 4000000 in
/-- The body at every grid point, from what the region hands it to what it hands back. -/
theorem body_obligation0 (c : Dev nD) : BodyObligation (dat0 V c) (defs₀ (F := F)) Variants.none () Set.univ := fun t => by
  rw [bigSep_W0, bigSep_W0]
  rw [show (dat0 V c).Φ t.castSucc = (dat0 V c).Φ t.succ from rfl, show (dat0 V c).owesAt () t.succ = (dat0 V c).owesAt () t.castSucc from rfl]
  unfold owns
  iintro ⟨HΦ, Howes, ⟨%d0, %f0, %hf0, H0⟩, ⟨%d1, %f1, %hf1, H1⟩, ⟨%d2, %f2, %hf2, H2⟩⟩
  rw [before0_0] at hf0
  rw [before0_1] at hf1
  iapply (wp_wand_r Idealize.ShloMosaic.frame (wpE (defs₀ (F := F)) Variants.none (c : Thread nD τ) none) Set.univ)
  isplitl [H0 H1 H2]
  · iapply (body0 Variants.none c none Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) f0 f1 f2)
    isplitl [H0]; · iexact H0
    isplitl [H1]; · iexact H1
    iexact H2
  · rw [hf0, hf1]
    iintro %_ ⟨H0, H1, ⟨%g, H2, %qg⟩⟩
    isplitl [HΦ]; · iexact HΦ
    isplitl [Howes]; · iexact Howes
    isplitl [H0]; · (iexists _; isplitr; swap; (· iexact H0); ipureintro; exact hf0)
    isplitl [H1]; · (iexists _; isplitr; swap; (· iexact H1); ipureintro; exact hf1)
    iexists _; isplitr; swap; (· iexact H2); ipureintro; exact qg

/-- The block of window 0 of the down projection that grid point `t` sees, the arrays at `V`. -/
noncomputable def blk1_0 (c : Dev nD) (t : Fin cfg1.N) : S1024x1024.Idx → F .f32 :=
  (win1_0.blk t).view.read (Elt F) (V c main_v3)

/-- The block of window 1 of the down projection that grid point `t` sees, the arrays at `V`. -/
noncomputable def blk1_1 (c : Dev nD) (t : Fin cfg1.N) : S1024x1024.Idx → F .bf16 :=
  (win1_1.blk t).view.read (Elt F) (V c main_v2)

/-- The running sum of the down projection before point `n`: started at every fourth point, added to at the others. -/
noncomputable def acc1 (c : Dev nD) : ℕ → S1024x1024.Idx → F .f32
  | 0 => constant S1024x1024 .f32 0x00000000#32
  | n + 1 => if h : n < cfg1.N then
      (if n % 4 = 0 then k1_pay2 (blk1_0 V c ⟨n, h⟩) (blk1_1 V c ⟨n, h⟩) else k1_pay3 (blk1_0 V c ⟨n, h⟩) (blk1_1 V c ⟨n, h⟩) (acc1 c n))
    else constant S1024x1024 .f32 0x00000000#32

theorem acc1_succ (c : Dev nD) (t : Fin cfg1.N) : acc1 V c (t.val + 1)
    = if t.val % 4 = 0 then k1_pay2 (blk1_0 V c t) (blk1_1 V c t) else k1_pay3 (blk1_0 V c t) (blk1_1 V c t) (acc1 V c t.val) := by
  rw [acc1, dif_pos t.isLt]

/-- The scratch buffer between the points: the running sum (before a sum is started, anything). -/
noncomputable def scr1 (c : Dev nD) (n : ℕ) : sProp 𝕄G :=
  iprop((∃ f, ((Memref.whole cc1_scratch0).view.loc (c : Thread nD τ) ↦[(Memref.whole cc1_scratch0).view.set]{fullShare} f)
      ∗ ⌜n % 4 ≠ 0 → (Memref.whole cc1_scratch0).view.read (Elt F) f = acc1 V c n⌝)
    ∗ Pipeline.scopedRestBut (Ix := Unit) (Name := ℕ) (U := UR sig nD τ) (Lvl := ℕ) (Val := Elt F) spec1 c [cc1_scratch0])

/-- The proof data of the down projection, entered at `V`. -/
noncomputable def dat1 (c : Dev nD) : Dat τ (Elt F) Unit ℕ (UR sig nD τ) ℕ cfg1 c where
  A w := V c (arrRef spec1 w)
  after w t := match w with
    | ⟨0, _⟩ => blk1_0 V c t
    | ⟨1, _⟩ => blk1_1 V c t
    | ⟨2, _⟩ => acc1 V c (t.val + 1)
  Φ t := scr1 V c t.val
  q w := Pipeline.shareOf spec1 w
  owed _ := 0

/-- Window 0 holds its block whenever the body runs. -/
theorem before1_0 (c : Dev nD) (t : Fin cfg1.N) (d : (cfg1.win 0).block.Idx → Elt F (cfg1.win 0).elt) :
    (dat1 V c).before 0 t d = blk1_0 V c t := by
  rw [(dat1 V c).before_fetched 0 t (fetch1_0 t)]; rfl

/-- Window 1 holds its block whenever the body runs. -/
theorem before1_1 (c : Dev nD) (t : Fin cfg1.N) (d : (cfg1.win 1).block.Idx → Elt F (cfg1.win 1).elt) :
    (dat1 V c).before 1 t d = blk1_1 V c t := by
  rw [(dat1 V c).before_fetched 1 t (fetch1_1 t)]; rfl

theorem coords1 (t : Fin cfg1.N) : (grid1.coords t 2).val = t.val % 4 := by
  rcases fin_N1 t with rfl | rfl | rfl | rfl | rfl | rfl | rfl | rfl <;> decide

set_option maxHeartbeats 4000000 in
/-- The body at every grid point, from what the region hands it to what it hands back. -/
theorem body_obligation1 (c : Dev nD) : BodyObligation (dat1 V c) (defs₀ (F := F)) Variants.none () Set.univ := fun t => by
  rw [bigSep_W1, bigSep_W1]
  rw [show (dat1 V c).Φ t.castSucc = scr1 V c t.val from rfl, show (dat1 V c).Φ t.succ = scr1 V c (t.val + 1) from rfl,
    show (dat1 V c).owesAt () t.succ = (dat1 V c).owesAt () t.castSucc from rfl]
  have hq := coords1 t
  have h3 : k1_cond3 (grid1.coords t) = 1#1 ↔ (grid1.coords t 2).val = 3 := cond_last (grid1.coords t 2)
  unfold scr1 owns
  iintro ⟨⟨⟨%fs, Hs, %es⟩, Hb⟩, Howes, ⟨%d0, %f0, %hf0, H0⟩, ⟨%d1, %f1, %hf1, H1⟩, ⟨%d2, %f2, %hf2, H2⟩⟩
  rw [before1_0] at hf0
  rw [before1_1] at hf1
  have hX : acc1 V c (t.val + 1) = if (grid1.coords t 2).val = 0 then k1_pay2 ((win1_0.stage (cfg1.slots t 0)).view.read (Elt F) f0) ((win1_1.stage (cfg1.slots t 1)).view.read (Elt F) f1) else k1_pay3 ((win1_0.stage (cfg1.slots t 0)).view.read (Elt F) f0) ((win1_1.stage (cfg1.slots t 1)).view.read (Elt F) f1) ((Memref.whole cc1_scratch0).view.read (Elt F) fs) := by
    rw [acc1_succ, hq, hf0, hf1]
    by_cases h0 : t.val % 4 = 0
    · rw [if_pos h0, if_pos h0]
    · rw [if_neg h0, if_neg h0, es h0]
  iapply (wp_wand_r Idealize.ShloMosaic.frame (wpE (defs₀ (F := F)) Variants.none (c : Thread nD τ) none) Set.univ)
  isplitl [H0 H1 H2 Hs]
  · iapply (body1 Variants.none c none Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (Memref.whole cc1_scratch0) (Memref.isWhole_whole _) f0 f1 f2 fs (acc1 V c (t.val + 1)) hX)
    isplitl [H0]; · iexact H0
    isplitl [H1]; · iexact H1
    isplitl [H2]; · iexact H2
    iexact Hs
  · iintro %_ ⟨H0, H1, ⟨%g, H2, %qg⟩, ⟨%gs, Hs, %qs⟩⟩
    isplitl [Hs Hb]
    · isplitl [Hs]
      · iexists _; isplitl [Hs]; (· iexact Hs); ipureintro; intro _; exact qs
      iexact Hb
    isplitl [Howes]; · iexact Howes
    isplitl [H0]; · (iexists _; isplitr; swap; (· iexact H0); ipureintro; exact hf0)
    isplitl [H1]; · (iexists _; isplitr; swap; (· iexact H1); ipureintro; exact hf1)
    by_cases hl : (grid1.coords t 2).val = 3
    · have hi : cfg1.idle 2 (cfg1.grid.coords t) = false := by
        show (!(k1_cond3 (grid1.coords t) == 1#1)) = false
        rw [h3.2 hl]; rfl
      rw [hi]
      iexists _; isplitr; swap; (· iexact H2); ipureintro; exact (qg.1 hl)
    · have hi : cfg1.idle 2 (cfg1.grid.coords t) = true := by
        show (!(k1_cond3 (grid1.coords t) == 1#1)) = true
        rw [beq_eq_false_iff_ne.2 fun e => hl (h3.1 e)]; rfl
      have hfl : (cfg1.win 2).flush t = false := by
        rw [Bool.eq_false_iff]; intro e; exact hl (hq.trans ((flush1_2 t).1 e))
      rw [hi, hfl]
      iexists d2, _; isplitr; swap; (· iexact H2); ipureintro; rw [qg.2 hl]; exact hf2

/-- The block of window 0 of the gradient of the up projection that grid point `t` sees, the arrays at `V`. -/
noncomputable def blk2_0 (c : Dev nD) (t : Fin cfg2.N) : S2048x1024.Idx → F .f32 :=
  (win2_0.blk t).view.read (Elt F) (V c main_arg3)

/-- The block of window 1 of the gradient of the up projection that grid point `t` sees, the arrays at `V`. -/
noncomputable def blk2_1 (c : Dev nD) (t : Fin cfg2.N) : S512x1024.Idx → F .bf16 :=
  (win2_1.blk t).view.read (Elt F) (V c main_v2)

/-- The block of window 2 of the gradient of the up projection that grid point `t` sees, the arrays at `V`. -/
noncomputable def blk2_2 (c : Dev nD) (t : Fin cfg2.N) : S2048x512.Idx → F .f32 :=
  (win2_2.blk t).view.read (Elt F) (V c main_v3)

/-- The proof data of the gradient of the up projection, entered at `V`. -/
noncomputable def dat2 (c : Dev nD) : Dat τ (Elt F) Unit ℕ (UR sig nD τ) ℕ cfg2 c where
  A w := V c (arrRef spec2 w)
  after w t := match w with
    | ⟨0, _⟩ => blk2_0 V c t
    | ⟨1, _⟩ => blk2_1 V c t
    | ⟨2, _⟩ => blk2_2 V c t
    | ⟨3, _⟩ => k2_pay1 (blk2_0 V c t) (blk2_1 V c t) (blk2_2 V c t)
  Φ _ := Pipeline.scopedRest (Ix := Unit) (Name := ℕ) (U := UR sig nD τ) (Lvl := ℕ) (Val := Elt F) spec2 c
  q w := Pipeline.shareOf spec2 w
  owed _ := 0

/-- Window 0 holds its block whenever the body runs. -/
theorem before2_0 (c : Dev nD) (t : Fin cfg2.N) (d : (cfg2.win 0).block.Idx → Elt F (cfg2.win 0).elt) :
    (dat2 V c).before 0 t d = blk2_0 V c t := by
  rw [(dat2 V c).before_in_eq_fetched 0 rfl (fun _ => rfl) (fun _ _ _ => rfl) (fun _ => rfl)]; rfl

/-- Window 1 holds its block whenever the body runs. -/
theorem before2_1 (c : Dev nD) (t : Fin cfg2.N) (d : (cfg2.win 1).block.Idx → Elt F (cfg2.win 1).elt) :
    (dat2 V c).before 1 t d = blk2_1 V c t := by
  rw [(dat2 V c).before_fetched 1 t (fetch2_1 t)]; rfl

/-- Window 2 holds its block whenever the body runs. -/
theorem before2_2 (c : Dev nD) (t : Fin cfg2.N) (d : (cfg2.win 2).block.Idx → Elt F (cfg2.win 2).elt) :
    (dat2 V c).before 2 t d = blk2_2 V c t := by
  rw [(dat2 V c).before_fetched 2 t (fetch2_2 t)]; rfl

set_option maxHeartbeats 4000000 in
/-- The body at every grid point, from what the region hands it to what it hands back. -/
theorem body_obligation2 (c : Dev nD) : BodyObligation (dat2 V c) (defs₀ (F := F)) Variants.none () Set.univ := fun t => by
  rw [bigSep_W2, bigSep_W2]
  rw [show (dat2 V c).Φ t.castSucc = (dat2 V c).Φ t.succ from rfl, show (dat2 V c).owesAt () t.succ = (dat2 V c).owesAt () t.castSucc from rfl]
  unfold owns
  iintro ⟨HΦ, Howes, ⟨%d0, %f0, %hf0, H0⟩, ⟨%d1, %f1, %hf1, H1⟩, ⟨%d2, %f2, %hf2, H2⟩, ⟨%d3, %f3, %hf3, H3⟩⟩
  rw [before2_0] at hf0
  rw [before2_1] at hf1
  rw [before2_2] at hf2
  iapply (wp_wand_r Idealize.ShloMosaic.frame (wpE (defs₀ (F := F)) Variants.none (c : Thread nD τ) none) Set.univ)
  isplitl [H0 H1 H2 H3]
  · iapply (body2 Variants.none c none Set.univ (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) f0 f1 f2 f3)
    isplitl [H0]; · iexact H0
    isplitl [H1]; · iexact H1
    isplitl [H2]; · iexact H2
    iexact H3
  · rw [hf0, hf1, hf2]
    iintro %_ ⟨H0, H1, H2, ⟨%g, H3, %qg⟩⟩
    isplitl [HΦ]; · iexact HΦ
    isplitl [Howes]; · iexact Howes
    isplitl [H0]; · (iexists _; isplitr; swap; (· iexact H0); ipureintro; exact hf0)
    isplitl [H1]; · (iexists _; isplitr; swap; (· iexact H1); ipureintro; exact hf1)
    isplitl [H2]; · (iexists _; isplitr; swap; (· iexact H2); ipureintro; exact hf2)
    iexists _; isplitr; swap; (· iexact H3); ipureintro; exact qg

/-- The block of window 0 of the gradient of the down weight that grid point `t` sees, the arrays at `V`. -/
noncomputable def blk3_0 (c : Dev nD) (t : Fin cfg3.N) : S512x2048.Idx → F .f32 :=
  (win3_0.blk t).view.read (Elt F) (V c main_v3)

/-- The block of window 1 of the gradient of the down weight that grid point `t` sees, the arrays at `V`. -/
noncomputable def blk3_1 (c : Dev nD) (t : Fin cfg3.N) : S512x1024.Idx → F .f32 :=
  (win3_1.blk t).view.read (Elt F) (V c main_arg3)

/-- The running sum of the gradient of the down weight before point `n`: started at every fourth point, added to at the others. -/
noncomputable def acc3 (c : Dev nD) : ℕ → S2048x1024.Idx → F .f32
  | 0 => constant S2048x1024 .f32 0x00000000#32
  | n + 1 => if h : n < cfg3.N then
      (if n % 4 = 0 then k3_pay2 (blk3_0 V c ⟨n, h⟩) (blk3_1 V c ⟨n, h⟩) else k3_pay3 (blk3_0 V c ⟨n, h⟩) (blk3_1 V c ⟨n, h⟩) (acc3 c n))
    else constant S2048x1024 .f32 0x00000000#32

theorem acc3_succ (c : Dev nD) (t : Fin cfg3.N) : acc3 V c (t.val + 1)
    = if t.val % 4 = 0 then k3_pay2 (blk3_0 V c t) (blk3_1 V c t) else k3_pay3 (blk3_0 V c t) (blk3_1 V c t) (acc3 V c t.val) := by
  rw [acc3, dif_pos t.isLt]

/-- The scratch buffer between the points: the running sum (before a sum is started, anything). -/
noncomputable def scr3 (c : Dev nD) (n : ℕ) : sProp 𝕄G :=
  iprop((∃ f, ((Memref.whole cc3_scratch0).view.loc (c : Thread nD τ) ↦[(Memref.whole cc3_scratch0).view.set]{fullShare} f)
      ∗ ⌜n % 4 ≠ 0 → (Memref.whole cc3_scratch0).view.read (Elt F) f = acc3 V c n⌝)
    ∗ Pipeline.scopedRestBut (Ix := Unit) (Name := ℕ) (U := UR sig nD τ) (Lvl := ℕ) (Val := Elt F) spec3 c [cc3_scratch0])

/-- The proof data of the gradient of the down weight, entered at `V`. -/
noncomputable def dat3 (c : Dev nD) : Dat τ (Elt F) Unit ℕ (UR sig nD τ) ℕ cfg3 c where
  A w := V c (arrRef spec3 w)
  after w t := match w with
    | ⟨0, _⟩ => blk3_0 V c t
    | ⟨1, _⟩ => blk3_1 V c t
    | ⟨2, _⟩ => acc3 V c (t.val + 1)
  Φ t := scr3 V c t.val
  q w := Pipeline.shareOf spec3 w
  owed _ := 0

/-- Window 0 holds its block whenever the body runs. -/
theorem before3_0 (c : Dev nD) (t : Fin cfg3.N) (d : (cfg3.win 0).block.Idx → Elt F (cfg3.win 0).elt) :
    (dat3 V c).before 0 t d = blk3_0 V c t := by
  rw [(dat3 V c).before_fetched 0 t (fetch3_0 t)]; rfl

/-- Window 1 holds its block whenever the body runs. -/
theorem before3_1 (c : Dev nD) (t : Fin cfg3.N) (d : (cfg3.win 1).block.Idx → Elt F (cfg3.win 1).elt) :
    (dat3 V c).before 1 t d = blk3_1 V c t := by
  rw [(dat3 V c).before_fetched 1 t (fetch3_1 t)]; rfl

theorem coords3 (t : Fin cfg3.N) : (grid3.coords t 2).val = t.val % 4 := by
  rcases fin_N3 t with rfl | rfl | rfl | rfl | rfl | rfl | rfl | rfl <;> decide

set_option maxHeartbeats 4000000 in
/-- The body at every grid point, from what the region hands it to what it hands back. -/
theorem body_obligation3 (c : Dev nD) : BodyObligation (dat3 V c) (defs₀ (F := F)) Variants.none () Set.univ := fun t => by
  rw [bigSep_W3, bigSep_W3]
  rw [show (dat3 V c).Φ t.castSucc = scr3 V c t.val from rfl, show (dat3 V c).Φ t.succ = scr3 V c (t.val + 1) from rfl,
    show (dat3 V c).owesAt () t.succ = (dat3 V c).owesAt () t.castSucc from rfl]
  have hq := coords3 t
  have h3 : k3_cond3 (grid3.coords t) = 1#1 ↔ (grid3.coords t 2).val = 3 := cond_last (grid3.coords t 2)
  unfold scr3 owns
  iintro ⟨⟨⟨%fs, Hs, %es⟩, Hb⟩, Howes, ⟨%d0, %f0, %hf0, H0⟩, ⟨%d1, %f1, %hf1, H1⟩, ⟨%d2, %f2, %hf2, H2⟩⟩
  rw [before3_0] at hf0
  rw [before3_1] at hf1
  have hX : acc3 V c (t.val + 1) = if (grid3.coords t 2).val = 0 then k3_pay2 ((win3_0.stage (cfg3.slots t 0)).view.read (Elt F) f0) ((win3_1.stage (cfg3.slots t 1)).view.read (Elt F) f1) else k3_pay3 ((win3_0.stage (cfg3.slots t 0)).view.read (Elt F) f0) ((win3_1.stage (cfg3.slots t 1)).view.read (Elt F) f1) ((Memref.whole cc3_scratch0).view.read (Elt F) fs) := by
    rw [acc3_succ, hq, hf0, hf1]
    by_cases h0 : t.val % 4 = 0
    · rw [if_pos h0, if_pos h0]
    · rw [if_neg h0, if_neg h0, es h0]
  iapply (wp_wand_r Idealize.ShloMosaic.frame (wpE (defs₀ (F := F)) Variants.none (c : Thread nD τ) none) Set.univ)
  isplitl [H0 H1 H2 Hs]
  · iapply (body3 Variants.none c none Set.univ (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (Memref.whole cc3_scratch0) (Memref.isWhole_whole _) f0 f1 f2 fs (acc3 V c (t.val + 1)) hX)
    isplitl [H0]; · iexact H0
    isplitl [H1]; · iexact H1
    isplitl [H2]; · iexact H2
    iexact Hs
  · iintro %_ ⟨H0, H1, ⟨%g, H2, %qg⟩, ⟨%gs, Hs, %qs⟩⟩
    isplitl [Hs Hb]
    · isplitl [Hs]
      · iexists _; isplitl [Hs]; (· iexact Hs); ipureintro; intro _; exact qs
      iexact Hb
    isplitl [Howes]; · iexact Howes
    isplitl [H0]; · (iexists _; isplitr; swap; (· iexact H0); ipureintro; exact hf0)
    isplitl [H1]; · (iexists _; isplitr; swap; (· iexact H1); ipureintro; exact hf1)
    by_cases hl : (grid3.coords t 2).val = 3
    · have hi : cfg3.idle 2 (cfg3.grid.coords t) = false := by
        show (!(k3_cond3 (grid3.coords t) == 1#1)) = false
        rw [h3.2 hl]; rfl
      rw [hi]
      iexists _; isplitr; swap; (· iexact H2); ipureintro; exact (qg.1 hl)
    · have hi : cfg3.idle 2 (cfg3.grid.coords t) = true := by
        show (!(k3_cond3 (grid3.coords t) == 1#1)) = true
        rw [beq_eq_false_iff_ne.2 fun e => hl (h3.1 e)]; rfl
      have hfl : (cfg3.win 2).flush t = false := by
        rw [Bool.eq_false_iff]; intro e; exact hl (hq.trans ((flush3_2 t).1 e))
      rw [hi, hfl]
      iexists d2, _; isplitr; swap; (· iexact H2); ipureintro; rw [qg.2 hl]; exact hf2

/-- The block of window 0 of the gradient of the input that grid point `t` sees, the arrays at `V`. -/
noncomputable def blk4_0 (c : Dev nD) (t : Fin cfg4.N) : S1024x1024.Idx → F .bf16 :=
  (win4_0.blk t).view.read (Elt F) (V c main_v5)

/-- The block of window 1 of the gradient of the input that grid point `t` sees, the arrays at `V`. -/
noncomputable def blk4_1 (c : Dev nD) (t : Fin cfg4.N) : S1024x1024.Idx → F .bf16 :=
  (win4_1.blk t).view.read (Elt F) (V c main_v1)

/-- The block of window 2 of the gradient of the input that grid point `t` sees, the arrays at `V`. -/
noncomputable def blk4_2 (c : Dev nD) (t : Fin cfg4.N) : S1024x1024.Idx → F .f32 :=
  (win4_2.blk t).view.read (Elt F) (V c main_arg3)

/-- The running sum of the gradient of the input before point `n`: started at every fourth point, added to at the others. -/
noncomputable def acc4 (c : Dev nD) : ℕ → S1024x1024.Idx → F .f32
  | 0 => constant S1024x1024 .f32 0x00000000#32
  | n + 1 => if h : n < cfg4.N then
      (if n % 4 = 0 then k4_pay2 (blk4_0 V c ⟨n, h⟩) (blk4_1 V c ⟨n, h⟩) else k4_pay3 (blk4_0 V c ⟨n, h⟩) (blk4_1 V c ⟨n, h⟩) (acc4 c n))
    else constant S1024x1024 .f32 0x00000000#32

theorem acc4_succ (c : Dev nD) (t : Fin cfg4.N) : acc4 V c (t.val + 1)
    = if t.val % 4 = 0 then k4_pay2 (blk4_0 V c t) (blk4_1 V c t) else k4_pay3 (blk4_0 V c t) (blk4_1 V c t) (acc4 V c t.val) := by
  rw [acc4, dif_pos t.isLt]

/-- The scratch buffer between the points: the running sum (before a sum is started, anything). -/
noncomputable def scr4 (c : Dev nD) (n : ℕ) : sProp 𝕄G :=
  iprop((∃ f, ((Memref.whole cc4_scratch0).view.loc (c : Thread nD τ) ↦[(Memref.whole cc4_scratch0).view.set]{fullShare} f)
      ∗ ⌜n % 4 ≠ 0 → (Memref.whole cc4_scratch0).view.read (Elt F) f = acc4 V c n⌝)
    ∗ Pipeline.scopedRestBut (Ix := Unit) (Name := ℕ) (U := UR sig nD τ) (Lvl := ℕ) (Val := Elt F) spec4 c [cc4_scratch0])

/-- The proof data of the gradient of the input, entered at `V`. -/
noncomputable def dat4 (c : Dev nD) : Dat τ (Elt F) Unit ℕ (UR sig nD τ) ℕ cfg4 c where
  A w := V c (arrRef spec4 w)
  after w t := match w with
    | ⟨0, _⟩ => blk4_0 V c t
    | ⟨1, _⟩ => blk4_1 V c t
    | ⟨2, _⟩ => blk4_2 V c t
    | ⟨3, _⟩ => k4_pay4 (acc4 V c (t.val + 1)) (blk4_2 V c t)
  Φ t := scr4 V c t.val
  q w := Pipeline.shareOf spec4 w
  owed _ := 0

/-- Window 0 holds its block whenever the body runs. -/
theorem before4_0 (c : Dev nD) (t : Fin cfg4.N) (d : (cfg4.win 0).block.Idx → Elt F (cfg4.win 0).elt) :
    (dat4 V c).before 0 t d = blk4_0 V c t := by
  rw [(dat4 V c).before_fetched 0 t (fetch4_0 t)]; rfl

/-- Window 1 holds its block whenever the body runs. -/
theorem before4_1 (c : Dev nD) (t : Fin cfg4.N) (d : (cfg4.win 1).block.Idx → Elt F (cfg4.win 1).elt) :
    (dat4 V c).before 1 t d = blk4_1 V c t := by
  rw [(dat4 V c).before_fetched 1 t (fetch4_1 t)]; rfl

/-- Window 2 holds its block whenever the body runs. -/
theorem before4_2 (c : Dev nD) (t : Fin cfg4.N) (d : (cfg4.win 2).block.Idx → Elt F (cfg4.win 2).elt) :
    (dat4 V c).before 2 t d = blk4_2 V c t := by
  rw [(dat4 V c).before_in_eq_fetched 2 rfl (fun _ => rfl) (fun _ _ _ => rfl) (fun _ => rfl)]; rfl

theorem coords4 (t : Fin cfg4.N) : (grid4.coords t 2).val = t.val % 4 := by
  rcases fin_N4 t with rfl | rfl | rfl | rfl | rfl | rfl | rfl | rfl <;> decide

set_option maxHeartbeats 4000000 in
/-- The body at every grid point, from what the region hands it to what it hands back. -/
theorem body_obligation4 (c : Dev nD) : BodyObligation (dat4 V c) (defs₀ (F := F)) Variants.none () Set.univ := fun t => by
  rw [bigSep_W4, bigSep_W4]
  rw [show (dat4 V c).Φ t.castSucc = scr4 V c t.val from rfl, show (dat4 V c).Φ t.succ = scr4 V c (t.val + 1) from rfl,
    show (dat4 V c).owesAt () t.succ = (dat4 V c).owesAt () t.castSucc from rfl]
  have hq := coords4 t
  have h3 : k4_cond3 (grid4.coords t) = 1#1 ↔ (grid4.coords t 2).val = 3 := cond_last (grid4.coords t 2)
  unfold scr4 owns
  iintro ⟨⟨⟨%fs, Hs, %es⟩, Hb⟩, Howes, ⟨%d0, %f0, %hf0, H0⟩, ⟨%d1, %f1, %hf1, H1⟩, ⟨%d2, %f2, %hf2, H2⟩, ⟨%d3, %f3, %hf3, H3⟩⟩
  rw [before4_0] at hf0
  rw [before4_1] at hf1
  rw [before4_2] at hf2
  have hX : acc4 V c (t.val + 1) = if (grid4.coords t 2).val = 0 then k4_pay2 ((win4_0.stage (cfg4.slots t 0)).view.read (Elt F) f0) ((win4_1.stage (cfg4.slots t 1)).view.read (Elt F) f1) else k4_pay3 ((win4_0.stage (cfg4.slots t 0)).view.read (Elt F) f0) ((win4_1.stage (cfg4.slots t 1)).view.read (Elt F) f1) ((Memref.whole cc4_scratch0).view.read (Elt F) fs) := by
    rw [acc4_succ, hq, hf0, hf1]
    by_cases h0 : t.val % 4 = 0
    · rw [if_pos h0, if_pos h0]
    · rw [if_neg h0, if_neg h0, es h0]
  iapply (wp_wand_r Idealize.ShloMosaic.frame (wpE (defs₀ (F := F)) Variants.none (c : Thread nD τ) none) Set.univ)
  isplitl [H0 H1 H2 H3 Hs]
  · iapply (body4 Variants.none c none Set.univ (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (Memref.whole cc4_scratch0) (Memref.isWhole_whole _) f0 f1 f2 f3 fs (acc4 V c (t.val + 1)) hX)
    isplitl [H0]; · iexact H0
    isplitl [H1]; · iexact H1
    isplitl [H2]; · iexact H2
    isplitl [H3]; · iexact H3
    iexact Hs
  · iintro %_ ⟨H0, H1, H2, ⟨%g, H3, %qg⟩, ⟨%gs, Hs, %qs⟩⟩
    isplitl [Hs Hb]
    · isplitl [Hs]
      · iexists _; isplitl [Hs]; (· iexact Hs); ipureintro; intro _; exact qs
      iexact Hb
    isplitl [Howes]; · iexact Howes
    isplitl [H0]; · (iexists _; isplitr; swap; (· iexact H0); ipureintro; exact hf0)
    isplitl [H1]; · (iexists _; isplitr; swap; (· iexact H1); ipureintro; exact hf1)
    isplitl [H2]; · (iexists _; isplitr; swap; (· iexact H2); ipureintro; exact hf2)
    by_cases hl : (grid4.coords t 2).val = 3
    · have hi : cfg4.idle 3 (cfg4.grid.coords t) = false := by
        show (!(k4_cond3 (grid4.coords t) == 1#1)) = false
        rw [h3.2 hl]; rfl
      rw [hi]
      iexists _; isplitr; swap; (· iexact H3); ipureintro; exact (qg.1 hl).trans (by rw [hf2]; rfl)
    · have hi : cfg4.idle 3 (cfg4.grid.coords t) = true := by
        show (!(k4_cond3 (grid4.coords t) == 1#1)) = true
        rw [beq_eq_false_iff_ne.2 fun e => hl (h3.1 e)]; rfl
      have hfl : (cfg4.win 3).flush t = false := by
        rw [Bool.eq_false_iff]; intro e; exact hl (hq.trans ((flush4_3 t).1 e))
      rw [hi, hfl]
      iexists d3, _; isplitr; swap; (· iexact H3); ipureintro; rw [qg.2 hl]; exact hf3

/-- The block of window 0 of the gradient of the up weight that grid point `t` sees, the arrays at `V`. -/
noncomputable def blk5_0 (c : Dev nD) (t : Fin cfg5.N) : S512x2048.Idx → F .bf16 :=
  (win5_0.blk t).view.read (Elt F) (V c main_v5)

/-- The block of window 1 of the gradient of the up weight that grid point `t` sees, the arrays at `V`. -/
noncomputable def blk5_1 (c : Dev nD) (t : Fin cfg5.N) : S512x1024.Idx → F .f32 :=
  (win5_1.blk t).view.read (Elt F) (V c main_arg0)

/-- The running sum of the gradient of the up weight before point `n`: started at every fourth point, added to at the others. -/
noncomputable def acc5 (c : Dev nD) : ℕ → S2048x1024.Idx → F .f32
  | 0 => constant S2048x1024 .f32 0x00000000#32
  | n + 1 => if h : n < cfg5.N then
      (if n % 4 = 0 then k5_pay2 (blk5_0 V c ⟨n, h⟩) (blk5_1 V c ⟨n, h⟩) else k5_pay3 (blk5_0 V c ⟨n, h⟩) (blk5_1 V c ⟨n, h⟩) (acc5 c n))
    else constant S2048x1024 .f32 0x00000000#32

theorem acc5_succ (c : Dev nD) (t : Fin cfg5.N) : acc5 V c (t.val + 1)
    = if t.val % 4 = 0 then k5_pay2 (blk5_0 V c t) (blk5_1 V c t) else k5_pay3 (blk5_0 V c t) (blk5_1 V c t) (acc5 V c t.val) := by
  rw [acc5, dif_pos t.isLt]

/-- The scratch buffer between the points: the running sum (before a sum is started, anything). -/
noncomputable def scr5 (c : Dev nD) (n : ℕ) : sProp 𝕄G :=
  iprop((∃ f, ((Memref.whole cc5_scratch0).view.loc (c : Thread nD τ) ↦[(Memref.whole cc5_scratch0).view.set]{fullShare} f)
      ∗ ⌜n % 4 ≠ 0 → (Memref.whole cc5_scratch0).view.read (Elt F) f = acc5 V c n⌝)
    ∗ Pipeline.scopedRestBut (Ix := Unit) (Name := ℕ) (U := UR sig nD τ) (Lvl := ℕ) (Val := Elt F) spec5 c [cc5_scratch0])

/-- The proof data of the gradient of the up weight, entered at `V`. -/
noncomputable def dat5 (c : Dev nD) : Dat τ (Elt F) Unit ℕ (UR sig nD τ) ℕ cfg5 c where
  A w := V c (arrRef spec5 w)
  after w t := match w with
    | ⟨0, _⟩ => blk5_0 V c t
    | ⟨1, _⟩ => blk5_1 V c t
    | ⟨2, _⟩ => acc5 V c (t.val + 1)
  Φ t := scr5 V c t.val
  q w := Pipeline.shareOf spec5 w
  owed _ := 0

/-- Window 0 holds its block whenever the body runs. -/
theorem before5_0 (c : Dev nD) (t : Fin cfg5.N) (d : (cfg5.win 0).block.Idx → Elt F (cfg5.win 0).elt) :
    (dat5 V c).before 0 t d = blk5_0 V c t := by
  rw [(dat5 V c).before_fetched 0 t (fetch5_0 t)]; rfl

/-- Window 1 holds its block whenever the body runs. -/
theorem before5_1 (c : Dev nD) (t : Fin cfg5.N) (d : (cfg5.win 1).block.Idx → Elt F (cfg5.win 1).elt) :
    (dat5 V c).before 1 t d = blk5_1 V c t := by
  rw [(dat5 V c).before_fetched 1 t (fetch5_1 t)]; rfl

theorem coords5 (t : Fin cfg5.N) : (grid5.coords t 2).val = t.val % 4 := by
  rcases fin_N5 t with rfl | rfl | rfl | rfl | rfl | rfl | rfl | rfl <;> decide

set_option maxHeartbeats 4000000 in
/-- The body at every grid point, from what the region hands it to what it hands back. -/
theorem body_obligation5 (c : Dev nD) : BodyObligation (dat5 V c) (defs₀ (F := F)) Variants.none () Set.univ := fun t => by
  rw [bigSep_W5, bigSep_W5]
  rw [show (dat5 V c).Φ t.castSucc = scr5 V c t.val from rfl, show (dat5 V c).Φ t.succ = scr5 V c (t.val + 1) from rfl,
    show (dat5 V c).owesAt () t.succ = (dat5 V c).owesAt () t.castSucc from rfl]
  have hq := coords5 t
  have h3 : k5_cond3 (grid5.coords t) = 1#1 ↔ (grid5.coords t 2).val = 3 := cond_last (grid5.coords t 2)
  unfold scr5 owns
  iintro ⟨⟨⟨%fs, Hs, %es⟩, Hb⟩, Howes, ⟨%d0, %f0, %hf0, H0⟩, ⟨%d1, %f1, %hf1, H1⟩, ⟨%d2, %f2, %hf2, H2⟩⟩
  rw [before5_0] at hf0
  rw [before5_1] at hf1
  have hX : acc5 V c (t.val + 1) = if (grid5.coords t 2).val = 0 then k5_pay2 ((win5_0.stage (cfg5.slots t 0)).view.read (Elt F) f0) ((win5_1.stage (cfg5.slots t 1)).view.read (Elt F) f1) else k5_pay3 ((win5_0.stage (cfg5.slots t 0)).view.read (Elt F) f0) ((win5_1.stage (cfg5.slots t 1)).view.read (Elt F) f1) ((Memref.whole cc5_scratch0).view.read (Elt F) fs) := by
    rw [acc5_succ, hq, hf0, hf1]
    by_cases h0 : t.val % 4 = 0
    · rw [if_pos h0, if_pos h0]
    · rw [if_neg h0, if_neg h0, es h0]
  iapply (wp_wand_r Idealize.ShloMosaic.frame (wpE (defs₀ (F := F)) Variants.none (c : Thread nD τ) none) Set.univ)
  isplitl [H0 H1 H2 Hs]
  · iapply (body5 Variants.none c none Set.univ (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (Memref.whole cc5_scratch0) (Memref.isWhole_whole _) f0 f1 f2 fs (acc5 V c (t.val + 1)) hX)
    isplitl [H0]; · iexact H0
    isplitl [H1]; · iexact H1
    isplitl [H2]; · iexact H2
    iexact Hs
  · iintro %_ ⟨H0, H1, ⟨%g, H2, %qg⟩, ⟨%gs, Hs, %qs⟩⟩
    isplitl [Hs Hb]
    · isplitl [Hs]
      · iexists _; isplitl [Hs]; (· iexact Hs); ipureintro; intro _; exact qs
      iexact Hb
    isplitl [Howes]; · iexact Howes
    isplitl [H0]; · (iexists _; isplitr; swap; (· iexact H0); ipureintro; exact hf0)
    isplitl [H1]; · (iexists _; isplitr; swap; (· iexact H1); ipureintro; exact hf1)
    by_cases hl : (grid5.coords t 2).val = 3
    · have hi : cfg5.idle 2 (cfg5.grid.coords t) = false := by
        show (!(k5_cond3 (grid5.coords t) == 1#1)) = false
        rw [h3.2 hl]; rfl
      rw [hi]
      iexists _; isplitr; swap; (· iexact H2); ipureintro; exact (qg.1 hl)
    · have hi : cfg5.idle 2 (cfg5.grid.coords t) = true := by
        show (!(k5_cond3 (grid5.coords t) == 1#1)) = true
        rw [beq_eq_false_iff_ne.2 fun e => hl (h3.1 e)]; rfl
      have hfl : (cfg5.win 2).flush t = false := by
        rw [Bool.eq_false_iff]; intro e; exact hl (hq.trans ((flush5_2 t).1 e))
      rw [hi, hfl]
      iexists d2, _; isplitr; swap; (· iexact H2); ipureintro; rw [qg.2 hl]; exact hf2

end Cert.Kernel2Ideal.Mlp
-- ==== Proof.MlpPay.lean ====
/- What one grid point of each matrix product computes, over the extended reals, entry by entry. -/
module

public import proofs.«01_k».proof.Proof.MlpRegion
public import Idealize.ShloMosaic.Lib.Pipeline.ValueKit

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Tactic
open Idealize.SL.Sem

theorem k0_at (x : S2048x1024.Idx → EReal) (u : S512x1024.Idx → EReal) (i : Fin 2048) (j : Fin 512) :
    k0_pay1 (F := Ideal) x u (ix2 i j) = max (∑ k : Fin 1024, x (ix2 i k) * u (ix2 j k)) 0 * max (∑ k : Fin 1024, x (ix2 i k) * u (ix2 j k)) 0 := by
  pointwise [k0_pay1]

theorem k1_at (x u : S1024x1024.Idx → EReal) (i j : Fin 1024) :
    k1_pay1 (F := Ideal) x u (ix2 i j) = ∑ k : Fin 1024, x (ix2 i k) * u (ix2 k j) := by
  pointwise [k1_pay1]

theorem k1_first (x u : S1024x1024.Idx → EReal) (i j : Fin 1024) :
    k1_pay2 (F := Ideal) x u (ix2 i j) = ∑ k : Fin 1024, x (ix2 i k) * u (ix2 k j) := by
  pointwise [k1_pay2, k1_pay1]

theorem k1_later (x u a : S1024x1024.Idx → EReal) (i j : Fin 1024) :
    k1_pay3 (F := Ideal) x u a (ix2 i j) = a (ix2 i j) + ∑ k : Fin 1024, x (ix2 i k) * u (ix2 k j) := by
  pointwise [k1_pay3, k1_pay1]

theorem k2_at (g : S2048x1024.Idx → EReal) (d : S512x1024.Idx → EReal) (h : S2048x512.Idx → EReal) (i : Fin 2048) (j : Fin 512) :
    k2_pay1 (F := Ideal) g d h (ix2 i j) = (∑ k : Fin 1024, g (ix2 i k) * d (ix2 j k)) * (Ideal.ofBits .f32 0x40000000#32 * Ideal.sqrt (h (ix2 i j))) := by
  pointwise [k2_pay1]

theorem k3_first (x : S512x2048.Idx → EReal) (g : S512x1024.Idx → EReal) (i : Fin 2048) (j : Fin 1024) :
    k3_pay2 (F := Ideal) x g (ix2 i j) = ∑ k : Fin 512, x (ix2 k i) * g (ix2 k j) := by
  pointwise [k3_pay2, k3_pay1]

theorem k3_later (x : S512x2048.Idx → EReal) (g : S512x1024.Idx → EReal) (a : S2048x1024.Idx → EReal) (i : Fin 2048) (j : Fin 1024) :
    k3_pay3 (F := Ideal) x g a (ix2 i j) = a (ix2 i j) + ∑ k : Fin 512, x (ix2 k i) * g (ix2 k j) := by
  pointwise [k3_pay3, k3_pay1]

theorem k4_first (x u : S1024x1024.Idx → EReal) (i j : Fin 1024) :
    k4_pay2 (F := Ideal) x u (ix2 i j) = ∑ k : Fin 1024, x (ix2 i k) * u (ix2 k j) := by
  pointwise [k4_pay2, k4_pay1]

theorem k4_later (x u a : S1024x1024.Idx → EReal) (i j : Fin 1024) :
    k4_pay3 (F := Ideal) x u a (ix2 i j) = a (ix2 i j) + ∑ k : Fin 1024, x (ix2 i k) * u (ix2 k j) := by
  pointwise [k4_pay3, k4_pay1]

theorem k4_last (a g : S1024x1024.Idx → EReal) (i j : Fin 1024) :
    k4_pay4 (F := Ideal) a g (ix2 i j) = a (ix2 i j) + Ideal.ofBits .f32 0x3FB504F3#32 * g (ix2 i j) := by
  pointwise [k4_pay4]

theorem k5_first (x : S512x2048.Idx → EReal) (g : S512x1024.Idx → EReal) (i : Fin 2048) (j : Fin 1024) :
    k5_pay2 (F := Ideal) x g (ix2 i j) = ∑ k : Fin 512, x (ix2 k i) * g (ix2 k j) := by
  pointwise [k5_pay2, k5_pay1]

theorem k5_later (x : S512x2048.Idx → EReal) (g : S512x1024.Idx → EReal) (a : S2048x1024.Idx → EReal) (i : Fin 2048) (j : Fin 1024) :
    k5_pay3 (F := Ideal) x g a (ix2 i j) = a (ix2 i j) + ∑ k : Fin 512, x (ix2 k i) * g (ix2 k j) := by
  pointwise [k5_pay3, k5_pay1]

end Cert.Kernel2Ideal.Mlp

end
-- ==== Proof.MlpSpec.lean ====
/- The feed-forward layer and its derivative over matrices of extended reals: what both programs are shown to compute. -/
module

public import Idealize.ShloMosaic.Lib.Pipeline.ValueKit

@[expose] public section

noncomputable section

namespace Cert.Mlp

open Idealize.ShloMosaic Idealize.ShloMosaic.Tactic

/-- A matrix of extended reals. -/
abbrev Mat (n m : ℕ) := Fin n → Fin m → EReal

variable {n k m : ℕ}

/-- The entries of an array. -/
def mat (A : (⟨2, ![n, m]⟩ : Shape).Idx → EReal) : Mat n m := fun i j => A (ix2 i j)

/-- The array of a matrix. -/
def arr (X : Mat n m) : (⟨2, ![n, m]⟩ : Shape).Idx → EReal := fun y => X (y 0) (y 1)

theorem mat_arr (X : Mat n m) : mat (arr X) = X := rfl

/-- The product of two matrices. -/
def mul (A : Mat n k) (B : Mat k m) : Mat n m := fun i j => ∑ l, A i l * B l j

/-- The transposed matrix. -/
def tr (A : Mat n m) : Mat m n := fun i j => A j i

/-- The constant 2 of the two programs. -/
def two : EReal := Ideal.ofBits .f32 0x40000000#32

/-- The constant √2 (rounded) of the two programs, by which the layer's input is scaled. -/
def root : EReal := Ideal.ofBits .f32 0x3FB504F3#32

/-- The hidden activations: the square of the positive part. -/
def hid (x : Mat n k) (u : Mat k m) : Mat n m := fun i j => max (mul x u i j) 0 * max (mul x u i j) 0

/-- The gradient before the activation. -/
def dpre {l : ℕ} (x : Mat n k) (u : Mat k m) (d : Mat m l) (g : Mat n l) : Mat n m :=
  fun i j => mul g (tr d) i j * (two * max (mul x u i j) 0)

/-- The gradient of the layer's input, with the residual's. -/
def dx (x : Mat n k) (u : Mat k m) (d : Mat m k) (g : Mat n k) : Mat n k :=
  fun i j => mul (dpre x u d g) (tr u) i j + root * g i j

/-- The root of the square of a number at least 0 is the number. -/
theorem sqrt_sq (a : EReal) (h : 0 ≤ a) : Ideal.sqrt (a * a) = a := by
  induction a with
  | bot => exact absurd h (by simp)
  | top => rw [EReal.top_mul_top]; rfl
  | coe r =>
    have hr : 0 ≤ r := EReal.coe_nonneg.1 h
    rw [← EReal.coe_mul]
    show (if r * r < 0 then (⊥ : EReal) else (Real.sqrt (r * r) : EReal)) = r
    rw [if_neg (not_lt.2 (mul_nonneg hr hr)), Real.sqrt_mul_self hr]

theorem sqrt_hid (x : Mat n k) (u : Mat k m) (i : Fin n) (j : Fin m) : Ideal.sqrt (hid x u i j) = max (mul x u i j) 0 :=
  sqrt_sq _ (le_max_right _ _)

/-- An array's entry, the coordinates taken modulo its extents. -/
def at2 [NeZero n] [NeZero m] (A : (⟨2, ![n, m]⟩ : Shape).Idx → EReal) (a b : ℕ) : EReal :=
  A (ix2 ⟨a % n, Nat.mod_lt _ (Nat.pos_of_neZero n)⟩ ⟨b % m, Nat.mod_lt _ (Nat.pos_of_neZero m)⟩)

theorem at2_val [NeZero n] [NeZero m] (A : (⟨2, ![n, m]⟩ : Shape).Idx → EReal) (i : Fin n) (j : Fin m) : at2 A i.val j.val = mat A i j := by
  have h : ∀ (a b : Fin n) (c d : Fin m), a = b → c = d → A (ix2 a c) = A (ix2 b d) := by rintro a _ c _ rfl rfl; rfl
  exact h _ _ _ _ (Fin.ext (Nat.mod_eq_of_lt i.isLt)) (Fin.ext (Nat.mod_eq_of_lt j.isLt))

/-- A sum started at every fourth point and added to at the others is, after a point, the sum over all the blocks up to it. -/
theorem acc_sum (K N : ℕ) (acc : ℕ → EReal) (f : ℕ → ℕ → EReal)
    (h0 : ∀ t < N, t % 4 = 0 → acc (t + 1) = ∑ l : Fin K, f (t / 4) (K * (t % 4) + l.val))
    (h1 : ∀ t < N, t % 4 ≠ 0 → acc (t + 1) = acc t + ∑ l : Fin K, f (t / 4) (K * (t % 4) + l.val)) :
    ∀ t < N, acc (t + 1) = ∑ l ∈ Finset.range (K * (t % 4 + 1)), f (t / 4) l := by
  have e : ∀ t q, ∑ l ∈ Finset.range (K * (q + 1)), f t l = ∑ l ∈ Finset.range (K * q), f t l + ∑ l : Fin K, f t (K * q + l.val) := by
    intro t q
    rw [Nat.mul_succ, Finset.sum_range_add, Finset.sum_range (fun x => f t (K * q + x))]
  intro t
  induction t with
  | zero => intro ht; rw [h0 0 ht rfl, e]; simp
  | succ t ih =>
    intro ht
    rw [e]
    by_cases hq : (t + 1) % 4 = 0
    · rw [h0 _ ht hq, hq]; simp
    · rw [h1 _ ht hq, ih (by omega), show (t + 1) / 4 = t / 4 by omega, show (t + 1) % 4 = t % 4 + 1 by omega]

/-- The sum over all the blocks is the entry of the product. -/
theorem sum_mul {n k m : ℕ} [NeZero n] [NeZero k] [NeZero m] (A : (⟨2, ![n, k]⟩ : Shape).Idx → EReal) (B : (⟨2, ![k, m]⟩ : Shape).Idx → EReal)
    (i : Fin n) (j : Fin m) : ∑ l ∈ Finset.range k, at2 A i.val l * at2 B l j.val = mul (mat A) (mat B) i j := by
  rw [Finset.sum_range]
  exact Finset.sum_congr rfl fun l _ => by rw [at2_val A i l, at2_val B l j]

/-- The sum over all the blocks is the entry of the product with the left matrix transposed. -/
theorem sum_tmul {n k m : ℕ} [NeZero n] [NeZero k] [NeZero m] (A : (⟨2, ![k, n]⟩ : Shape).Idx → EReal) (B : (⟨2, ![k, m]⟩ : Shape).Idx → EReal)
    (i : Fin n) (j : Fin m) : ∑ l ∈ Finset.range k, at2 A l i.val * at2 B l j.val = mul (tr (mat A)) (mat B) i j := by
  rw [Finset.sum_range]
  exact Finset.sum_congr rfl fun l _ => by rw [at2_val A l i, at2_val B l j]; rfl

end Cert.Mlp

end
-- ==== Proof.MlpFinal.lean ====
/- The six matrix products over the extended reals: the array each leaves is the product of the arrays it read. -/
module

public import proofs.«01_k».proof.Proof.MlpPay
public import proofs.«01_k».proof.Proof.MlpSpec

@[expose] public section

set_option maxRecDepth 16384

noncomputable section

namespace Cert.Kernel2Ideal.Mlp

open Cert.Kernel2Ideal Cert.Kernel2Ideal.Gen Cert.Mlp
open Idealize.ShloMosaic Idealize.ShloMosaic.TcCoe Idealize.ShloMosaic.Tactic
open Idealize.SL.Sem
open Idealize.ShloMosaic.Pipeline (Dat)

variable (V : (c : Dev nD) → (b : Ref sig .tc) → Buf (Elt Ideal) ((c : Thread nD τ).loc b)) (c : Dev nD)

/-- The blocks of product 0, by grid point. -/
theorem idx0 : ∀ t : Fin cfg0.N, win0_0.index t = ![0, 0] ∧ win0_1.index t = ![t.val, 0] ∧ win0_2.index t = ![0, t.val] :=
  (by decide +kernel : ∀ t : Fin grid0.N, _)

theorem lt0 (t : Fin cfg0.N) : t.val < 8 := lt_of_lt_of_eq t.isLt (by decide)

/-- The blocks of product 1, by grid point. -/
theorem idx1 : ∀ t : Fin cfg1.N, win1_0.index t = ![t.val / 4, t.val % 4] ∧ win1_1.index t = ![t.val % 4, 0] ∧ win1_2.index t = ![t.val / 4, 0] :=
  (by decide +kernel : ∀ t : Fin grid1.N, _)

theorem lt1 (t : Fin cfg1.N) : t.val < 8 := lt_of_lt_of_eq t.isLt (by decide)

/-- The blocks of product 2, by grid point. -/
theorem idx2 : ∀ t : Fin cfg2.N, win2_0.index t = ![0, 0] ∧ win2_1.index t = ![t.val, 0] ∧ win2_2.index t = ![0, t.val] ∧ win2_3.index t = ![0, t.val] :=
  (by decide +kernel : ∀ t : Fin grid2.N, _)

theorem lt2 (t : Fin cfg2.N) : t.val < 8 := lt_of_lt_of_eq t.isLt (by decide)

/-- The blocks of product 3, by grid point. -/
theorem idx3 : ∀ t : Fin cfg3.N, win3_0.index t = ![t.val % 4, t.val / 4] ∧ win3_1.index t = ![t.val % 4, 0] ∧ win3_2.index t = ![t.val / 4, 0] :=
  (by decide +kernel : ∀ t : Fin grid3.N, _)

theorem lt3 (t : Fin cfg3.N) : t.val < 8 := lt_of_lt_of_eq t.isLt (by decide)

/-- The blocks of product 4, by grid point. -/
theorem idx4 : ∀ t : Fin cfg4.N, win4_0.index t = ![t.val / 4, t.val % 4] ∧ win4_1.index t = ![t.val % 4, 0] ∧ win4_2.index t = ![t.val / 4, 0] ∧ win4_3.index t = ![t.val / 4, 0] :=
  (by decide +kernel : ∀ t : Fin grid4.N, _)

theorem lt4 (t : Fin cfg4.N) : t.val < 8 := lt_of_lt_of_eq t.isLt (by decide)

/-- The blocks of product 5, by grid point. -/
theorem idx5 : ∀ t : Fin cfg5.N, win5_0.index t = ![t.val % 4, t.val / 4] ∧ win5_1.index t = ![t.val % 4, 0] ∧ win5_2.index t = ![t.val / 4, 0] :=
  (by decide +kernel : ∀ t : Fin grid5.N, _)

theorem lt5 (t : Fin cfg5.N) : t.val < 8 := lt_of_lt_of_eq t.isLt (by decide)

theorem blk0_0_at (t : Fin cfg0.N) (a : Fin 2048) (b : Fin 1024) :
    blk0_0 V c t (ix2 a b) = at2 (V c main_arg0 : S2048x1024.Idx → EReal) (a.val) (b.val) := by
  have ht := lt0 t
  show _ = (V c main_arg0 : S2048x1024.Idx → EReal) (ix2 ⟨(a.val) % 2048, _⟩ ⟨(b.val) % 1024, _⟩)
  blk_ext [blk0_0, idx0 t]

theorem blk0_1_at (t : Fin cfg0.N) (a : Fin 512) (b : Fin 1024) :
    blk0_1 V c t (ix2 a b) = at2 (V c main_v1 : S4096x1024.Idx → EReal) (512 * t.val + a.val) (b.val) := by
  have ht := lt0 t
  show _ = (V c main_v1 : S4096x1024.Idx → EReal) (ix2 ⟨(512 * t.val + a.val) % 4096, _⟩ ⟨(b.val) % 1024, _⟩)
  blk_ext [blk0_1, idx0 t]

theorem blk2_0_at (t : Fin cfg2.N) (a : Fin 2048) (b : Fin 1024) :
    blk2_0 V c t (ix2 a b) = at2 (V c main_arg3 : S2048x1024.Idx → EReal) (a.val) (b.val) := by
  have ht := lt2 t
  show _ = (V c main_arg3 : S2048x1024.Idx → EReal) (ix2 ⟨(a.val) % 2048, _⟩ ⟨(b.val) % 1024, _⟩)
  blk_ext [blk2_0, idx2 t]

theorem blk2_1_at (t : Fin cfg2.N) (a : Fin 512) (b : Fin 1024) :
    blk2_1 V c t (ix2 a b) = at2 (V c main_v2 : S4096x1024.Idx → EReal) (512 * t.val + a.val) (b.val) := by
  have ht := lt2 t
  show _ = (V c main_v2 : S4096x1024.Idx → EReal) (ix2 ⟨(512 * t.val + a.val) % 4096, _⟩ ⟨(b.val) % 1024, _⟩)
  blk_ext [blk2_1, idx2 t]

theorem blk2_2_at (t : Fin cfg2.N) (a : Fin 2048) (b : Fin 512) :
    blk2_2 V c t (ix2 a b) = at2 (V c main_v3 : S2048x4096.Idx → EReal) (a.val) (512 * t.val + b.val) := by
  have ht := lt2 t
  show _ = (V c main_v3 : S2048x4096.Idx → EReal) (ix2 ⟨(a.val) % 2048, _⟩ ⟨(512 * t.val + b.val) % 4096, _⟩)
  blk_ext [blk2_2, idx2 t]

theorem blk1_0_at (t : Fin cfg1.N) (a : Fin 1024) (b : Fin 1024) :
    blk1_0 V c t (ix2 a b) = at2 (V c main_v3 : S2048x4096.Idx → EReal) (1024 * (t.val / 4) + a.val) (1024 * (t.val % 4) + b.val) := by
  have ht := lt1 t
  show _ = (V c main_v3 : S2048x4096.Idx → EReal) (ix2 ⟨(1024 * (t.val / 4) + a.val) % 2048, _⟩ ⟨(1024 * (t.val % 4) + b.val) % 4096, _⟩)
  blk_ext [blk1_0, idx1 t]

theorem blk1_1_at (t : Fin cfg1.N) (a : Fin 1024) (b : Fin 1024) :
    blk1_1 V c t (ix2 a b) = at2 (V c main_v2 : S4096x1024.Idx → EReal) (1024 * (t.val % 4) + a.val) (b.val) := by
  have ht := lt1 t
  show _ = (V c main_v2 : S4096x1024.Idx → EReal) (ix2 ⟨(1024 * (t.val % 4) + a.val) % 4096, _⟩ ⟨(b.val) % 1024, _⟩)
  blk_ext [blk1_1, idx1 t]

theorem blk4_0_at (t : Fin cfg4.N) (a : Fin 1024) (b : Fin 1024) :
    blk4_0 V c t (ix2 a b) = at2 (V c main_v5 : S2048x4096.Idx → EReal) (1024 * (t.val / 4) + a.val) (1024 * (t.val % 4) + b.val) := by
  have ht := lt4 t
  show _ = (V c main_v5 : S2048x4096.Idx → EReal) (ix2 ⟨(1024 * (t.val / 4) + a.val) % 2048, _⟩ ⟨(1024 * (t.val % 4) + b.val) % 4096, _⟩)
  blk_ext [blk4_0, idx4 t]

theorem blk4_1_at (t : Fin cfg4.N) (a : Fin 1024) (b : Fin 1024) :
    blk4_1 V c t (ix2 a b) = at2 (V c main_v1 : S4096x1024.Idx → EReal) (1024 * (t.val % 4) + a.val) (b.val) := by
  have ht := lt4 t
  show _ = (V c main_v1 : S4096x1024.Idx → EReal) (ix2 ⟨(1024 * (t.val % 4) + a.val) % 4096, _⟩ ⟨(b.val) % 1024, _⟩)
  blk_ext [blk4_1, idx4 t]

theorem blk4_2_at (t : Fin cfg4.N) (a : Fin 1024) (b : Fin 1024) :
    blk4_2 V c t (ix2 a b) = at2 (V c main_arg3 : S2048x1024.Idx → EReal) (1024 * (t.val / 4) + a.val) (b.val) := by
  have ht := lt4 t
  show _ = (V c main_arg3 : S2048x1024.Idx → EReal) (ix2 ⟨(1024 * (t.val / 4) + a.val) % 2048, _⟩ ⟨(b.val) % 1024, _⟩)
  blk_ext [blk4_2, idx4 t]

theorem blk3_0_at (t : Fin cfg3.N) (a : Fin 512) (b : Fin 2048) :
    blk3_0 V c t (ix2 a b) = at2 (V c main_v3 : S2048x4096.Idx → EReal) (512 * (t.val % 4) + a.val) (2048 * (t.val / 4) + b.val) := by
  have ht := lt3 t
  show _ = (V c main_v3 : S2048x4096.Idx → EReal) (ix2 ⟨(512 * (t.val % 4) + a.val) % 2048, _⟩ ⟨(2048 * (t.val / 4) + b.val) % 4096, _⟩)
  blk_ext [blk3_0, idx3 t]

theorem blk3_1_at (t : Fin cfg3.N) (a : Fin 512) (b : Fin 1024) :
    blk3_1 V c t (ix2 a b) = at2 (V c main_arg3 : S2048x1024.Idx → EReal) (512 * (t.val % 4) + a.val) (b.val) := by
  have ht := lt3 t
  show _ = (V c main_arg3 : S2048x1024.Idx → EReal) (ix2 ⟨(512 * (t.val % 4) + a.val) % 2048, _⟩ ⟨(b.val) % 1024, _⟩)
  blk_ext [blk3_1, idx3 t]

theorem blk5_0_at (t : Fin cfg5.N) (a : Fin 512) (b : Fin 2048) :
    blk5_0 V c t (ix2 a b) = at2 (V c main_v5 : S2048x4096.Idx → EReal) (512 * (t.val % 4) + a.val) (2048 * (t.val / 4) + b.val) := by
  have ht := lt5 t
  show _ = (V c main_v5 : S2048x4096.Idx → EReal) (ix2 ⟨(512 * (t.val % 4) + a.val) % 2048, _⟩ ⟨(2048 * (t.val / 4) + b.val) % 4096, _⟩)
  blk_ext [blk5_0, idx5 t]

theorem blk5_1_at (t : Fin cfg5.N) (a : Fin 512) (b : Fin 1024) :
    blk5_1 V c t (ix2 a b) = at2 (V c main_arg0 : S2048x1024.Idx → EReal) (512 * (t.val % 4) + a.val) (b.val) := by
  have ht := lt5 t
  show _ = (V c main_arg0 : S2048x1024.Idx → EReal) (ix2 ⟨(512 * (t.val % 4) + a.val) % 2048, _⟩ ⟨(b.val) % 1024, _⟩)
  blk_ext [blk5_1, idx5 t]

/-- The entries product 1 sums, for the entry `i`, `j` of block `q`. -/
def term1 (i : Fin 1024) (j : Fin 1024) (q l : ℕ) : EReal :=
  at2 (V c main_v3 : S2048x4096.Idx → EReal) (1024 * q + i.val) (l) * at2 (V c main_v2 : S4096x1024.Idx → EReal) (l) j.val

theorem acc1_first (i : Fin 1024) (j : Fin 1024) (t : Fin cfg1.N) (h : t.val % 4 = 0) :
    acc1 V c (t.val + 1) (ix2 i j) = ∑ l : Fin 1024, term1 V c i j (t.val / 4) (1024 * (t.val % 4) + l.val) := by
  rw [acc1_succ, if_pos h, k1_first]
  exact Finset.sum_congr rfl fun l _ => by rw [blk1_0_at, blk1_1_at, term1]

theorem acc1_later (i : Fin 1024) (j : Fin 1024) (t : Fin cfg1.N) (h : t.val % 4 ≠ 0) :
    acc1 V c (t.val + 1) (ix2 i j) = acc1 V c t.val (ix2 i j) + ∑ l : Fin 1024, term1 V c i j (t.val / 4) (1024 * (t.val % 4) + l.val) := by
  rw [acc1_succ, if_neg h, k1_later]
  exact congrArg _ (Finset.sum_congr rfl fun l _ => by rw [blk1_0_at, blk1_1_at, term1])

/-- The running sum of product 1 after a point: the sum over the blocks so far. -/
theorem acc1_at (i : Fin 1024) (j : Fin 1024) : ∀ t < cfg1.N, acc1 V c (t + 1) (ix2 i j)
    = ∑ l ∈ Finset.range (1024 * (t % 4 + 1)), term1 V c i j (t / 4) l :=
  acc_sum 1024 cfg1.N (fun t => acc1 V c t (ix2 i j)) (term1 V c i j)
    (fun t ht h => acc1_first V c i j ⟨t, ht⟩ h) (fun t ht h => acc1_later V c i j ⟨t, ht⟩ h)

/-- A block of product 1 is written back after its last point. -/
theorem last1 : ∀ t : Fin cfg1.N, (cfg1.win 2).flush t = true → t.val % 4 = 3 :=
  (by decide +kernel : ∀ t : Fin grid1.N, _)

/-- The running sum of product 1 when a block is complete: the block of the product. -/
theorem full1 (t : Fin cfg1.N) (h : t.val % 4 = 3) (i : Fin 1024) (j : Fin 1024) : acc1 V c (t.val + 1) (ix2 i j)
    = mul (mat (V c main_v3 : S2048x4096.Idx → EReal)) (mat (V c main_v2 : S4096x1024.Idx → EReal))
      ⟨1024 * (t.val / 4) + i.val, by have := lt1 t; omega⟩ j := by
  rw [acc1_at V c i j t.val t.isLt, h]
  exact sum_mul _ _ (⟨1024 * (t.val / 4) + i.val, by have := lt1 t; omega⟩ : Fin 2048) j

/-- The entries product 4 sums, for the entry `i`, `j` of block `q`. -/
def term4 (i : Fin 1024) (j : Fin 1024) (q l : ℕ) : EReal :=
  at2 (V c main_v5 : S2048x4096.Idx → EReal) (1024 * q + i.val) (l) * at2 (V c main_v1 : S4096x1024.Idx → EReal) (l) j.val

theorem acc4_first (i : Fin 1024) (j : Fin 1024) (t : Fin cfg4.N) (h : t.val % 4 = 0) :
    acc4 V c (t.val + 1) (ix2 i j) = ∑ l : Fin 1024, term4 V c i j (t.val / 4) (1024 * (t.val % 4) + l.val) := by
  rw [acc4_succ, if_pos h, k4_first]
  exact Finset.sum_congr rfl fun l _ => by rw [blk4_0_at, blk4_1_at, term4]

theorem acc4_later (i : Fin 1024) (j : Fin 1024) (t : Fin cfg4.N) (h : t.val % 4 ≠ 0) :
    acc4 V c (t.val + 1) (ix2 i j) = acc4 V c t.val (ix2 i j) + ∑ l : Fin 1024, term4 V c i j (t.val / 4) (1024 * (t.val % 4) + l.val) := by
  rw [acc4_succ, if_neg h, k4_later]
  exact congrArg _ (Finset.sum_congr rfl fun l _ => by rw [blk4_0_at, blk4_1_at, term4])

/-- The running sum of product 4 after a point: the sum over the blocks so far. -/
theorem acc4_at (i : Fin 1024) (j : Fin 1024) : ∀ t < cfg4.N, acc4 V c (t + 1) (ix2 i j)
    = ∑ l ∈ Finset.range (1024 * (t % 4 + 1)), term4 V c i j (t / 4) l :=
  acc_sum 1024 cfg4.N (fun t => acc4 V c t (ix2 i j)) (term4 V c i j)
    (fun t ht h => acc4_first V c i j ⟨t, ht⟩ h) (fun t ht h => acc4_later V c i j ⟨t, ht⟩ h)

/-- A block of product 4 is written back after its last point. -/
theorem last4 : ∀ t : Fin cfg4.N, (cfg4.win 3).flush t = true → t.val % 4 = 3 :=
  (by decide +kernel : ∀ t : Fin grid4.N, _)

/-- The running sum of product 4 when a block is complete: the block of the product. -/
theorem full4 (t : Fin cfg4.N) (h : t.val % 4 = 3) (i : Fin 1024) (j : Fin 1024) : acc4 V c (t.val + 1) (ix2 i j)
    = mul (mat (V c main_v5 : S2048x4096.Idx → EReal)) (mat (V c main_v1 : S4096x1024.Idx → EReal))
      ⟨1024 * (t.val / 4) + i.val, by have := lt4 t; omega⟩ j := by
  rw [acc4_at V c i j t.val t.isLt, h]
  exact sum_mul _ _ (⟨1024 * (t.val / 4) + i.val, by have := lt4 t; omega⟩ : Fin 2048) j

/-- The entries product 3 sums, for the entry `i`, `j` of block `q`. -/
def term3 (i : Fin 2048) (j : Fin 1024) (q l : ℕ) : EReal :=
  at2 (V c main_v3 : S2048x4096.Idx → EReal) (l) (2048 * q + i.val) * at2 (V c main_arg3 : S2048x1024.Idx → EReal) (l) j.val

theorem acc3_first (i : Fin 2048) (j : Fin 1024) (t : Fin cfg3.N) (h : t.val % 4 = 0) :
    acc3 V c (t.val + 1) (ix2 i j) = ∑ l : Fin 512, term3 V c i j (t.val / 4) (512 * (t.val % 4) + l.val) := by
  rw [acc3_succ, if_pos h, k3_first]
  exact Finset.sum_congr rfl fun l _ => by rw [blk3_0_at, blk3_1_at, term3]

theorem acc3_later (i : Fin 2048) (j : Fin 1024) (t : Fin cfg3.N) (h : t.val % 4 ≠ 0) :
    acc3 V c (t.val + 1) (ix2 i j) = acc3 V c t.val (ix2 i j) + ∑ l : Fin 512, term3 V c i j (t.val / 4) (512 * (t.val % 4) + l.val) := by
  rw [acc3_succ, if_neg h, k3_later]
  exact congrArg _ (Finset.sum_congr rfl fun l _ => by rw [blk3_0_at, blk3_1_at, term3])

/-- The running sum of product 3 after a point: the sum over the blocks so far. -/
theorem acc3_at (i : Fin 2048) (j : Fin 1024) : ∀ t < cfg3.N, acc3 V c (t + 1) (ix2 i j)
    = ∑ l ∈ Finset.range (512 * (t % 4 + 1)), term3 V c i j (t / 4) l :=
  acc_sum 512 cfg3.N (fun t => acc3 V c t (ix2 i j)) (term3 V c i j)
    (fun t ht h => acc3_first V c i j ⟨t, ht⟩ h) (fun t ht h => acc3_later V c i j ⟨t, ht⟩ h)

/-- A block of product 3 is written back after its last point. -/
theorem last3 : ∀ t : Fin cfg3.N, (cfg3.win 2).flush t = true → t.val % 4 = 3 :=
  (by decide +kernel : ∀ t : Fin grid3.N, _)

/-- The running sum of product 3 when a block is complete: the block of the product. -/
theorem full3 (t : Fin cfg3.N) (h : t.val % 4 = 3) (i : Fin 2048) (j : Fin 1024) : acc3 V c (t.val + 1) (ix2 i j)
    = mul (tr (mat (V c main_v3 : S2048x4096.Idx → EReal))) (mat (V c main_arg3 : S2048x1024.Idx → EReal))
      ⟨2048 * (t.val / 4) + i.val, by have := lt3 t; omega⟩ j := by
  rw [acc3_at V c i j t.val t.isLt, h]
  exact sum_tmul _ _ (⟨2048 * (t.val / 4) + i.val, by have := lt3 t; omega⟩ : Fin 4096) j

/-- The entries product 5 sums, for the entry `i`, `j` of block `q`. -/
def term5 (i : Fin 2048) (j : Fin 1024) (q l : ℕ) : EReal :=
  at2 (V c main_v5 : S2048x4096.Idx → EReal) (l) (2048 * q + i.val) * at2 (V c main_arg0 : S2048x1024.Idx → EReal) (l) j.val

theorem acc5_first (i : Fin 2048) (j : Fin 1024) (t : Fin cfg5.N) (h : t.val % 4 = 0) :
    acc5 V c (t.val + 1) (ix2 i j) = ∑ l : Fin 512, term5 V c i j (t.val / 4) (512 * (t.val % 4) + l.val) := by
  rw [acc5_succ, if_pos h, k5_first]
  exact Finset.sum_congr rfl fun l _ => by rw [blk5_0_at, blk5_1_at, term5]

theorem acc5_later (i : Fin 2048) (j : Fin 1024) (t : Fin cfg5.N) (h : t.val % 4 ≠ 0) :
    acc5 V c (t.val + 1) (ix2 i j) = acc5 V c t.val (ix2 i j) + ∑ l : Fin 512, term5 V c i j (t.val / 4) (512 * (t.val % 4) + l.val) := by
  rw [acc5_succ, if_neg h, k5_later]
  exact congrArg _ (Finset.sum_congr rfl fun l _ => by rw [blk5_0_at, blk5_1_at, term5])

/-- The running sum of product 5 after a point: the sum over the blocks so far. -/
theorem acc5_at (i : Fin 2048) (j : Fin 1024) : ∀ t < cfg5.N, acc5 V c (t + 1) (ix2 i j)
    = ∑ l ∈ Finset.range (512 * (t % 4 + 1)), term5 V c i j (t / 4) l :=
  acc_sum 512 cfg5.N (fun t => acc5 V c t (ix2 i j)) (term5 V c i j)
    (fun t ht h => acc5_first V c i j ⟨t, ht⟩ h) (fun t ht h => acc5_later V c i j ⟨t, ht⟩ h)

/-- A block of product 5 is written back after its last point. -/
theorem last5 : ∀ t : Fin cfg5.N, (cfg5.win 2).flush t = true → t.val % 4 = 3 :=
  (by decide +kernel : ∀ t : Fin grid5.N, _)

/-- The running sum of product 5 when a block is complete: the block of the product. -/
theorem full5 (t : Fin cfg5.N) (h : t.val % 4 = 3) (i : Fin 2048) (j : Fin 1024) : acc5 V c (t.val + 1) (ix2 i j)
    = mul (tr (mat (V c main_v5 : S2048x4096.Idx → EReal))) (mat (V c main_arg0 : S2048x1024.Idx → EReal))
      ⟨2048 * (t.val / 4) + i.val, by have := lt5 t; omega⟩ j := by
  rw [acc5_at V c i j t.val t.isLt, h]
  exact sum_tmul _ _ (⟨2048 * (t.val / 4) + i.val, by have := lt5 t; omega⟩ : Fin 4096) j

/-- The up projection leaves the hidden activations. -/
theorem final0 : (dat0 V c).arrAt 2 cfg0.N = (arr (hid (mat (V c main_arg0 : S2048x1024.Idx → EReal)) (tr (mat (V c main_v1 : S4096x1024.Idx → EReal)))) : S2048x4096.Idx → EReal) := by
  refine (dat0 V c).arrAt_eq_of_covers 2 _ (by decide +kernel) fun t _ y => ?_
  have e (i : Fin _) (j : Fin _) : (((View.whole main_v3).slice (win0_2.rect t)).emb (ix2 i j) : S2048x4096.Idx) = ix2 ⟨i.val, by have := lt0 t; omega⟩ ⟨512 * t.val + j.val, by have := lt0 t; omega⟩ := by
    have ht := lt0 t
    blk_ext [idx0 t]
  blk_simp [idx0 t]
  refine Eq.trans (b := k0_pay1 (F := Ideal) (blk0_0 V c t) (blk0_1 V c t) y) rfl ?_
  idx_vars y
  refine Eq.trans ?_ (congrArg (arr _) (e y0 y1)).symm
  have ht := lt0 t
  have hs : ∑ l : Fin 1024, blk0_0 V c t (ix2 y0 l) * blk0_1 V c t (ix2 y1 l) = mul (mat (V c main_arg0 : S2048x1024.Idx → EReal)) (tr (mat (V c main_v1 : S4096x1024.Idx → EReal))) y0 ⟨512 * t.val + y1.val, by omega⟩ :=
    Finset.sum_congr rfl fun l _ => by
      rw [blk0_0_at, blk0_1_at, at2_val _ y0 l]
      exact congrArg _ (at2_val _ (⟨512 * t.val + y1.val, by omega⟩ : Fin 4096) l)
  rw [k0_at, hs]
  rfl

/-- The down projection leaves the product. -/
theorem final1 : (dat1 V c).arrAt 2 cfg1.N = (arr (mul (mat (V c main_v3 : S2048x4096.Idx → EReal)) (mat (V c main_v2 : S4096x1024.Idx → EReal))) : S2048x1024.Idx → EReal) := by
  refine (dat1 V c).arrAt_eq_of_covers 2 _ (by decide +kernel) fun t hf y => ?_
  have e (i : Fin _) (j : Fin _) : (((View.whole main_v4).slice (win1_2.rect t)).emb (ix2 i j) : S2048x1024.Idx) = ix2 ⟨1024 * (t.val / 4) + i.val, by have := lt1 t; omega⟩ ⟨j.val, by have := lt1 t; omega⟩ := by
    have ht := lt1 t
    blk_ext [idx1 t]
  blk_simp [idx1 t]
  refine Eq.trans (b := acc1 V c (t.val + 1) y) rfl ?_
  idx_vars y
  refine (full1 V c t (last1 t hf) y0 y1).trans (Eq.trans ?_ (congrArg (arr _) (e y0 y1)).symm)
  rfl

/-- The gradient before the activation, from the hidden activations' roots. -/
theorem final2 : (dat2 V c).arrAt 3 cfg2.N = (arr (fun i j => mul (mat (V c main_arg3 : S2048x1024.Idx → EReal)) (tr (mat (V c main_v2 : S4096x1024.Idx → EReal))) i j * (two * Ideal.sqrt (mat (V c main_v3 : S2048x4096.Idx → EReal) i j))) : S2048x4096.Idx → EReal) := by
  refine (dat2 V c).arrAt_eq_of_covers 3 _ (by decide +kernel) fun t _ y => ?_
  have e (i : Fin _) (j : Fin _) : (((View.whole main_v5).slice (win2_3.rect t)).emb (ix2 i j) : S2048x4096.Idx) = ix2 ⟨i.val, by have := lt2 t; omega⟩ ⟨512 * t.val + j.val, by have := lt2 t; omega⟩ := by
    have ht := lt2 t
    blk_ext [idx2 t]
  blk_simp [idx2 t]
  refine Eq.trans (b := k2_pay1 (F := Ideal) (blk2_0 V c t) (blk2_1 V c t) (blk2_2 V c t) y) rfl ?_
  idx_vars y
  refine Eq.trans ?_ (congrArg (arr _) (e y0 y1)).symm
  have ht := lt2 t
  have hs : ∑ l : Fin 1024, blk2_0 V c t (ix2 y0 l) * blk2_1 V c t (ix2 y1 l) = mul (mat (V c main_arg3 : S2048x1024.Idx → EReal)) (tr (mat (V c main_v2 : S4096x1024.Idx → EReal))) y0 ⟨512 * t.val + y1.val, by omega⟩ :=
    Finset.sum_congr rfl fun l _ => by
      rw [blk2_0_at, blk2_1_at, at2_val _ y0 l]
      exact congrArg _ (at2_val _ (⟨512 * t.val + y1.val, by omega⟩ : Fin 4096) l)
  rw [k2_at, hs, blk2_2_at]
  exact congrArg (fun z => _ * (_ * Ideal.sqrt z)) (at2_val _ y0 (⟨512 * t.val + y1.val, by omega⟩ : Fin 4096))

/-- The gradient of the down weight. -/
theorem final3 : (dat3 V c).arrAt 2 cfg3.N = (arr (mul (tr (mat (V c main_v3 : S2048x4096.Idx → EReal))) (mat (V c main_arg3 : S2048x1024.Idx → EReal))) : S4096x1024.Idx → EReal) := by
  refine (dat3 V c).arrAt_eq_of_covers 2 _ (by decide +kernel) fun t hf y => ?_
  have e (i : Fin _) (j : Fin _) : (((View.whole main_v6).slice (win3_2.rect t)).emb (ix2 i j) : S4096x1024.Idx) = ix2 ⟨2048 * (t.val / 4) + i.val, by have := lt3 t; omega⟩ ⟨j.val, by have := lt3 t; omega⟩ := by
    have ht := lt3 t
    blk_ext [idx3 t]
  blk_simp [idx3 t]
  refine Eq.trans (b := acc3 V c (t.val + 1) y) rfl ?_
  idx_vars y
  refine (full3 V c t (last3 t hf) y0 y1).trans (Eq.trans ?_ (congrArg (arr _) (e y0 y1)).symm)
  rfl

/-- The gradient of the input, with the residual's. -/
theorem final4 : (dat4 V c).arrAt 3 cfg4.N = (arr (fun i j => mul (mat (V c main_v5 : S2048x4096.Idx → EReal)) (mat (V c main_v1 : S4096x1024.Idx → EReal)) i j + root * mat (V c main_arg3 : S2048x1024.Idx → EReal) i j) : S2048x1024.Idx → EReal) := by
  refine (dat4 V c).arrAt_eq_of_covers 3 _ (by decide +kernel) fun t hf y => ?_
  have e (i : Fin _) (j : Fin _) : (((View.whole main_v7).slice (win4_3.rect t)).emb (ix2 i j) : S2048x1024.Idx) = ix2 ⟨1024 * (t.val / 4) + i.val, by have := lt4 t; omega⟩ ⟨j.val, by have := lt4 t; omega⟩ := by
    have ht := lt4 t
    blk_ext [idx4 t]
  blk_simp [idx4 t]
  refine Eq.trans (b := k4_pay4 (F := Ideal) (acc4 V c (t.val + 1)) (blk4_2 V c t) y) rfl ?_
  idx_vars y
  refine Eq.trans ?_ (congrArg (arr _) (e y0 y1)).symm
  have ht := lt4 t
  rw [k4_last, full4 V c t (last4 t hf), blk4_2_at]
  exact congrArg (fun z => _ + _ * z) (at2_val _ (⟨1024 * (t.val / 4) + y0.val, by omega⟩ : Fin 2048) y1)

/-- The gradient of the up weight, transposed. -/
theorem final5 : (dat5 V c).arrAt 2 cfg5.N = (arr (mul (tr (mat (V c main_v5 : S2048x4096.Idx → EReal))) (mat (V c main_arg0 : S2048x1024.Idx → EReal))) : S4096x1024.Idx → EReal) := by
  refine (dat5 V c).arrAt_eq_of_covers 2 _ (by decide +kernel) fun t hf y => ?_
  have e (i : Fin _) (j : Fin _) : (((View.whole main_v8).slice (win5_2.rect t)).emb (ix2 i j) : S4096x1024.Idx) = ix2 ⟨2048 * (t.val / 4) + i.val, by have := lt5 t; omega⟩ ⟨j.val, by have := lt5 t; omega⟩ := by
    have ht := lt5 t
    blk_ext [idx5 t]
  blk_simp [idx5 t]
  refine Eq.trans (b := acc5 V c (t.val + 1) y) rfl ?_
  idx_vars y
  refine (full5 V c t (last5 t hf) y0 y1).trans (Eq.trans ?_ (congrArg (arr _) (e y0 y1)).symm)
  rfl

end Cert.Kernel2Ideal.Mlp

end
-- ==== Proof.RegionHeld.lean ====
/- A kernel region between two states of all the buffers it may use, for a kernel that owes nothing. -/
module

public import Idealize.ShloMosaic.Lib.Pipeline.RegionArraysS
public import Idealize.ShloMosaic.Lib.Pipeline.RegionArraysD

@[expose] public section

noncomputable section

namespace Cert.RegionHeld

open Idealize.ShloMosaic Idealize.ShloMosaic.Pipeline

open Idealize.SL
open Idealize.SL.BI (sProp)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable {Λ₀ : Labels} {P : Type} [Fintype P]
variable (pcs : P → PCfg sig Λ₀ Val) (a : (p : P) → (pcs p).Adm)
  (pdats : (p : P) → (c : Dev nD) → Dat τ Val Ix Name U Lvl (pin pcs a p) c) (ι : Ix)
  (defs₀ : Defs nD τ sig Val Λ₀) (𝒱₀ : Variants)
  (L : GSem nD τ sig → Finset Ix) (lv : GSem nD τ sig → Ix → Lvl)

/-- What rides beside the buffers: the core owes nothing. -/
abbrev Owes (c : Dev nD) : sProp 𝕄 := iprop((∃ Wd, owes (c : Thread nD τ) (0 : CellTallies nD τ sig Ix) Wd) ∗ BI.emp ∗ BI.emp)

/-- A region between the states every buffer of `S` is held at: before at `W`, after at what the region leaves. -/
def regOf (p : P) (S : Finset (DevRef τ sig)) (kit : PLaunchFacts (nD := nD) (τ := τ) pcs p) (hK : (pcs p).pre.K = 0)
    (hS : arrRefs (pcs p).spec ⊆ S)
    (hbody : ∀ c, BodyObligationLoose (pdats p c) defs₀ 𝒱₀ ι Set.univ)
    (howed : ∀ c t, (pdats p c).owed t = 0) (hrec : ∀ c, (pdats p c).recorded 0 = Set.univ)
    (hshare : ∀ c w, (pdats p c).share w = fullShare)
    (hin : ∀ c, iprop(scopedRest (pin pcs a p).spec c ∗ BI.emp) ⊢ (pdats p c).Φ 0)
    (hout : ∀ c, (pdats p c).Φ (Fin.last (pin pcs a p).N) ⊢ iprop(scopedRest (pin pcs a p).spec c ∗ BI.emp))
    (b : Dev nD → Lvl) (hcut : LevelCut pcs a ι L lv p (fun _ => 0) b) (W : Dev nD → Valuation τ sig Val)
    (hW : ∀ c w, (pdats p c).arrAt w 0 = W c (Proc.devRef .tc (arrRef (pin pcs a p).spec w))) :
    RegionSeg pcs a pdats ι defs₀ 𝒱₀ L lv p :=
  (RegionSeg.ofHeld pcs a pdats ι defs₀ 𝒱₀ L lv p (fun _ => 0) (fun _ => BI.emp) (fun _ => BI.emp) kit hK hbody howed hrec hshare hin hout b hcut
    (fun c => iprop(StableHlo.held (c.tc : Thread nD τ) (S \ arrRefs (pcs p).spec) (W c) ∗ BI.emp))
    W (fun c => afterRegion (pdats p c) (W c)) hW (fun c w => (afterRegion_arr (pdats p c) (W c) kit.win.arr_inj w).symm)).conseq
      (fun c => iprop(StableHlo.held (c.tc : Thread nD τ) S (W c) ∗ Owes c))
      (fun c => iprop(StableHlo.held (c.tc : Thread nD τ) S (afterRegion (pdats p c) (W c)) ∗ Owes c))
      (fun c => by
        show _ ⊢ iprop(StableHlo.held (c.tc : Thread nD τ) (arrRefs (pcs p).spec) (W c) ∗ BI.emp
          ∗ (StableHlo.held (c.tc : Thread nD τ) (S \ arrRefs (pcs p).spec) (W c) ∗ BI.emp) ∗ ∃ Wd, owes (c : Thread nD τ) (0 : CellTallies nD τ sig Ix) Wd)
        rw [StableHlo.held_sub_split (c.tc : Thread nD τ) hS (W c)]
        iintro ⟨⟨Ha, Hu⟩, HO, -, -⟩
        isplitl [Ha]; · iexact Ha
        isplitr; · iempintro
        isplitl [Hu]
        · isplitl [Hu]; · iexact Hu
          iempintro
        iexact HO)
      (fun c => by
        show iprop(StableHlo.held (c.tc : Thread nD τ) (arrRefs (pcs p).spec) (afterRegion (pdats p c) (W c)) ∗ BI.emp
          ∗ (StableHlo.held (c.tc : Thread nD τ) (S \ arrRefs (pcs p).spec) (W c) ∗ BI.emp) ∗ ∃ Wd, owes (c : Thread nD τ) (0 : CellTallies nD τ sig Ix) Wd) ⊢ _
        rw [StableHlo.held_sub_split (c.tc : Thread nD τ) hS (afterRegion (pdats p c) (W c)),
          StableHlo.held_congr (c.tc : Thread nD τ) (S := S \ arrRefs (pcs p).spec) (V := afterRegion (pdats p c) (W c)) (V' := W c) (afterRegion_off (pdats p c) (W c) S)]
        iintro ⟨Ha, -, ⟨Hu, -⟩, HO⟩
        isplitl [Ha Hu]
        · isplitl [Ha]; · iexact Ha
          iexact Hu
        isplitl [HO]; · iexact HO
        isplitr <;> iempintro)

end Cert.RegionHeld
-- ==== Proof.MlpSegs.lean ====
/- The program as segments of its run: what every buffer of the device holds before and after each of the six products. -/
module

public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import Idealize.ShloMosaic.Lib.Exec
public import Idealize.ShloMosaic.Lib.Tactic
public import Idealize.ShloMosaic.Lib.Pipeline.Kit
public import Idealize.ShloMosaic.Lib.VecWindow
public import proofs.«01_k».proof.Proof.MlpRegion
public import proofs.«01_k».proof.Proof.Gen.Kernel2Ideal.Regions
public import proofs.«01_k».proof.Proof.RegionHeld

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation RegionSeg HostSeg Seg arrRef)

local notation "𝕄G" => MT nD τ sig Unit (Elt F) ℕ (UR sig nD τ) ℕ

/-- A valuation of the device's buffers read at the references of the core. -/
abbrev rd (W : Dev nD → Valuation τ sig (Elt F)) : (c : Dev nD) → (b : Ref sig .tc) → Buf (Elt F) ((c : Thread nD τ).loc b) :=
  fun c b => W c (Proc.devRef .tc b)

/-- No core owes another anything: one level everywhere. -/
abbrev L : GSem nD τ sig → Finset Unit := fun g => if g.1.2 = .tc then {()} else ∅
abbrev lv : GSem nD τ sig → Unit → ℕ := fun _ _ => 0

variable (m : (ℓ : Loc nD τ sig) → Buf (Elt F) ℓ)

/-- The buffers before the first product: the launch contents after the host operations. -/
def W1 (c : Dev nD) : Valuation τ sig (Elt F) := Gen.V1 m c

/-- The buffers after the up projection. -/
def W2 (c : Dev nD) : Valuation τ sig (Elt F) := Pipeline.afterRegion (dat0 (rd (W1 m)) c) (W1 m c)

/-- The buffers after the down projection. -/
def W3 (c : Dev nD) : Valuation τ sig (Elt F) := Pipeline.afterRegion (dat1 (rd (W2 m)) c) (W2 m c)

/-- The buffers after the gradient of the up projection. -/
def W4 (c : Dev nD) : Valuation τ sig (Elt F) := Pipeline.afterRegion (dat2 (rd (W3 m)) c) (W3 m c)

/-- The buffers after the gradient of the down weight. -/
def W5 (c : Dev nD) : Valuation τ sig (Elt F) := Pipeline.afterRegion (dat3 (rd (W4 m)) c) (W4 m c)

/-- The buffers after the gradient of the input. -/
def W6 (c : Dev nD) : Valuation τ sig (Elt F) := Pipeline.afterRegion (dat4 (rd (W5 m)) c) (W5 m c)

/-- The buffers after the gradient of the up weight. -/
def W7 (c : Dev nD) : Valuation τ sig (Elt F) := Pipeline.afterRegion (dat5 (rd (W6 m)) c) (W6 m c)

/-- The buffers at the end, after the last host operation. -/
def W8 (c : Dev nD) : Valuation τ sig (Elt F) := StableHlo.after hostOps6 (W7 m c)

/-- The proof data of the six regions. -/
def pdats : (p : Fin 6) → (c : Dev nD) → Dat τ (Elt F) Unit ℕ (UR sig nD τ) ℕ (cfgs p) c
  | ⟨0, _⟩ => fun c => dat0 (rd (W1 m)) c
  | ⟨1, _⟩ => fun c => dat1 (rd (W2 m)) c
  | ⟨2, _⟩ => fun c => dat2 (rd (W3 m)) c
  | ⟨3, _⟩ => fun c => dat3 (rd (W4 m)) c
  | ⟨4, _⟩ => fun c => dat4 (rd (W5 m)) c
  | ⟨5, _⟩ => fun c => dat5 (rd (W6 m)) c
  | ⟨_ + 6, h⟩ => absurd h (Nat.not_lt.2 (Nat.le_add_left _ _))

/-- What rides beside the buffers: the core owes nothing. -/
abbrev Eo (c : Dev nD) : sProp 𝕄G := RegionHeld.Owes c

/-- Nothing owed, every staging wait is at a level. -/
theorem cut (p : Fin 6) : Pipeline.LevelCut (pcfgs (F := F)) adm () L lv p (fun _ => 0) (fun _ => 0) where
  hι _ _ _ := by rw [L, if_pos rfl]; exact Finset.mem_singleton_self _
  hιb _ _ _ := le_rfl
  hD _ _ _ h := absurd h (lt_irrefl 0)

/-- The arrays of a region's windows are among the unscoped buffers. -/
theorem arrs_sub (p : Fin 6) (h : Pipeline.LaunchFacts (nD := nD) (τ := τ) cfgs p) :
    Pipeline.arrRefs (τ := τ) (pcfgs (F := F) p).spec ⊆ Pipeline.ucRefs τ sig := Pipeline.arrRefs_sub_ucRefs _ h.win.arr_unscoped

/-- Region 0 starts from the scoped buffers alone. -/
theorem hin0 (c : Dev nD) : iprop(Pipeline.scopedRest (Ix := Unit) (Name := ℕ) (U := UR sig nD τ) (Lvl := ℕ) (Val := Elt F) spec0 c ∗ BI.emp) ⊢ (dat0 (rd (W1 m)) c).Φ 0 := by
    show iprop(Pipeline.scopedRest (Ix := Unit) (Name := ℕ) (U := UR sig nD τ) (Lvl := ℕ) (Val := Elt F) spec0 c ∗ BI.emp) ⊢ Pipeline.scopedRest (Ix := Unit) (Name := ℕ) (U := UR sig nD τ) (Lvl := ℕ) (Val := Elt F) spec0 c
    iintro ⟨H, -⟩; iexact H

/-- Region 0 gives the scoped buffers back. -/
theorem hout0 (c : Dev nD) : (dat0 (rd (W1 m)) c).Φ (Fin.last cfg0.N) ⊢ iprop(Pipeline.scopedRest (Ix := Unit) (Name := ℕ) (U := UR sig nD τ) (Lvl := ℕ) (Val := Elt F) spec0 c ∗ BI.emp) := by
    show Pipeline.scopedRest (Ix := Unit) (Name := ℕ) (U := UR sig nD τ) (Lvl := ℕ) (Val := Elt F) spec0 c ⊢ iprop(Pipeline.scopedRest (Ix := Unit) (Name := ℕ) (U := UR sig nD τ) (Lvl := ℕ) (Val := Elt F) spec0 c ∗ BI.emp)
    iintro H; isplitl [H]; · iexact H
    iempintro

set_option backward.isDefEq.respectTransparency.types false in
/-- Region 0, every unscoped buffer held: before at `W1`, after at `W2`. -/
def reg0 : RegionSeg (pcfgs (F := F)) adm (pdats m) () defs₀ Variants.none L lv 0 :=
  RegionHeld.regOf (pcfgs (F := F)) adm (pdats m) () defs₀ Variants.none L lv 0 (Pipeline.ucRefs τ sig) launch0.toP rfl (arrs_sub 0 launch0) (fun c => (body_obligation0 (rd (W1 m)) c).loose) (fun _ _ => rfl) (fun _ => rfl)
    (fun c w => by fin_cases w <;> rfl) (hin0 m) (hout0 m) (fun _ => 0) (cut 0) (W1 m) (fun _ _ => rfl)

/-- The scoped buffers the pipeline does not stage, split at the kernel's own scratch. -/
theorem scratch_split1 (c : Dev nD) :
    (Pipeline.scopedRest (Ix := Unit) (Name := ℕ) (U := UR sig nD τ) (Lvl := ℕ) (Val := Elt F) spec1 c : sProp 𝕄G)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- Region 1 starts from the scoped buffers alone. -/
theorem hin1 (c : Dev nD) : iprop(Pipeline.scopedRest (Ix := Unit) (Name := ℕ) (U := UR sig nD τ) (Lvl := ℕ) (Val := Elt F) spec1 c ∗ BI.emp) ⊢ (dat1 (rd (W2 m)) c).Φ 0 := by
    show iprop(Pipeline.scopedRest (Ix := Unit) (Name := ℕ) (U := UR sig nD τ) (Lvl := ℕ) (Val := Elt F) spec1 c ∗ BI.emp) ⊢ scr1 (rd (W2 m)) c 0
    rw [scratch_split1 c]
    unfold scr1
    simp only [View.set_whole]
    iintro ⟨⟨⟨%f0, H0⟩, Hr⟩, -⟩
    isplitl [H0]
    · iexists f0; isplitl [H0]; (· iexact H0); ipureintro; exact fun h => absurd rfl h
    iexact Hr

/-- Region 1 gives the scoped buffers back. -/
theorem hout1 (c : Dev nD) : (dat1 (rd (W2 m)) c).Φ (Fin.last cfg1.N) ⊢ iprop(Pipeline.scopedRest (Ix := Unit) (Name := ℕ) (U := UR sig nD τ) (Lvl := ℕ) (Val := Elt F) spec1 c ∗ BI.emp) := by
    show scr1 (rd (W2 m)) c cfg1.N ⊢ iprop(Pipeline.scopedRest (Ix := Unit) (Name := ℕ) (U := UR sig nD τ) (Lvl := ℕ) (Val := Elt F) spec1 c ∗ BI.emp)
    rw [scratch_split1 c]
    unfold scr1
    simp only [View.set_whole]
    iintro ⟨⟨%f0, H0, -⟩, Hr⟩
    isplitl [H0 Hr]
    · isplitl [H0]; · (iexists f0; iexact H0)
      iexact Hr
    iempintro

set_option backward.isDefEq.respectTransparency.types false in
/-- Region 1, every unscoped buffer held: before at `W2`, after at `W3`. -/
def reg1 : RegionSeg (pcfgs (F := F)) adm (pdats m) () defs₀ Variants.none L lv 1 :=
  RegionHeld.regOf (pcfgs (F := F)) adm (pdats m) () defs₀ Variants.none L lv 1 (Pipeline.ucRefs τ sig) launch1.toP rfl (arrs_sub 1 launch1) (fun c => (body_obligation1 (rd (W2 m)) c).loose) (fun _ _ => rfl) (fun _ => rfl)
    (fun c w => by fin_cases w <;> rfl) (hin1 m) (hout1 m) (fun _ => 0) (cut 1) (W2 m) (fun _ _ => rfl)

/-- Region 2 starts from the scoped buffers alone. -/
theorem hin2 (c : Dev nD) : iprop(Pipeline.scopedRest (Ix := Unit) (Name := ℕ) (U := UR sig nD τ) (Lvl := ℕ) (Val := Elt F) spec2 c ∗ BI.emp) ⊢ (dat2 (rd (W3 m)) c).Φ 0 := by
    show iprop(Pipeline.scopedRest (Ix := Unit) (Name := ℕ) (U := UR sig nD τ) (Lvl := ℕ) (Val := Elt F) spec2 c ∗ BI.emp) ⊢ Pipeline.scopedRest (Ix := Unit) (Name := ℕ) (U := UR sig nD τ) (Lvl := ℕ) (Val := Elt F) spec2 c
    iintro ⟨H, -⟩; iexact H

/-- Region 2 gives the scoped buffers back. -/
theorem hout2 (c : Dev nD) : (dat2 (rd (W3 m)) c).Φ (Fin.last cfg2.N) ⊢ iprop(Pipeline.scopedRest (Ix := Unit) (Name := ℕ) (U := UR sig nD τ) (Lvl := ℕ) (Val := Elt F) spec2 c ∗ BI.emp) := by
    show Pipeline.scopedRest (Ix := Unit) (Name := ℕ) (U := UR sig nD τ) (Lvl := ℕ) (Val := Elt F) spec2 c ⊢ iprop(Pipeline.scopedRest (Ix := Unit) (Name := ℕ) (U := UR sig nD τ) (Lvl := ℕ) (Val := Elt F) spec2 c ∗ BI.emp)
    iintro H; isplitl [H]; · iexact H
    iempintro

set_option backward.isDefEq.respectTransparency.types false in
/-- Region 2, every unscoped buffer held: before at `W3`, after at `W4`. -/
def reg2 : RegionSeg (pcfgs (F := F)) adm (pdats m) () defs₀ Variants.none L lv 2 :=
  RegionHeld.regOf (pcfgs (F := F)) adm (pdats m) () defs₀ Variants.none L lv 2 (Pipeline.ucRefs τ sig) launch2.toP rfl (arrs_sub 2 launch2) (fun c => (body_obligation2 (rd (W3 m)) c).loose) (fun _ _ => rfl) (fun _ => rfl)
    (fun c w => by fin_cases w <;> rfl) (hin2 m) (hout2 m) (fun _ => 0) (cut 2) (W3 m) (fun _ _ => rfl)

/-- The scoped buffers the pipeline does not stage, split at the kernel's own scratch. -/
theorem scratch_split3 (c : Dev nD) :
    (Pipeline.scopedRest (Ix := Unit) (Name := ℕ) (U := UR sig nD τ) (Lvl := ℕ) (Val := Elt F) spec3 c : sProp 𝕄G)
      = iprop((∃ f : Buf (Elt F) ((c : Thread nD τ).loc cc3_scratch0), ((c : Thread nD τ).loc cc3_scratch0) ↦{fullShare} f)
          ∗ Pipeline.scopedRestBut (Ix := Unit) (Name := ℕ) (U := UR sig nD τ) (Lvl := ℕ) (Val := Elt F) spec3 c [cc3_scratch0]) :=
  Pipeline.scopedRest_split_of_list spec3 c [cc3_scratch0] (by decide) (by decide)

/-- Region 3 starts from the scoped buffers alone. -/
theorem hin3 (c : Dev nD) : iprop(Pipeline.scopedRest (Ix := Unit) (Name := ℕ) (U := UR sig nD τ) (Lvl := ℕ) (Val := Elt F) spec3 c ∗ BI.emp) ⊢ (dat3 (rd (W4 m)) c).Φ 0 := by
    show iprop(Pipeline.scopedRest (Ix := Unit) (Name := ℕ) (U := UR sig nD τ) (Lvl := ℕ) (Val := Elt F) spec3 c ∗ BI.emp) ⊢ scr3 (rd (W4 m)) c 0
    rw [scratch_split3 c]
    unfold scr3
    simp only [View.set_whole]
    iintro ⟨⟨⟨%f0, H0⟩, Hr⟩, -⟩
    isplitl [H0]
    · iexists f0; isplitl [H0]; (· iexact H0); ipureintro; exact fun h => absurd rfl h
    iexact Hr

/-- Region 3 gives the scoped buffers back. -/
theorem hout3 (c : Dev nD) : (dat3 (rd (W4 m)) c).Φ (Fin.last cfg3.N) ⊢ iprop(Pipeline.scopedRest (Ix := Unit) (Name := ℕ) (U := UR sig nD τ) (Lvl := ℕ) (Val := Elt F) spec3 c ∗ BI.emp) := by
    show scr3 (rd (W4 m)) c cfg3.N ⊢ iprop(Pipeline.scopedRest (Ix := Unit) (Name := ℕ) (U := UR sig nD τ) (Lvl := ℕ) (Val := Elt F) spec3 c ∗ BI.emp)
    rw [scratch_split3 c]
    unfold scr3
    simp only [View.set_whole]
    iintro ⟨⟨%f0, H0, -⟩, Hr⟩
    isplitl [H0 Hr]
    · isplitl [H0]; · (iexists f0; iexact H0)
      iexact Hr
    iempintro

set_option backward.isDefEq.respectTransparency.types false in
/-- Region 3, every unscoped buffer held: before at `W4`, after at `W5`. -/
def reg3 : RegionSeg (pcfgs (F := F)) adm (pdats m) () defs₀ Variants.none L lv 3 :=
  RegionHeld.regOf (pcfgs (F := F)) adm (pdats m) () defs₀ Variants.none L lv 3 (Pipeline.ucRefs τ sig) launch3.toP rfl (arrs_sub 3 launch3) (fun c => (body_obligation3 (rd (W4 m)) c).loose) (fun _ _ => rfl) (fun _ => rfl)
    (fun c w => by fin_cases w <;> rfl) (hin3 m) (hout3 m) (fun _ => 0) (cut 3) (W4 m) (fun _ _ => rfl)

/-- The scoped buffers the pipeline does not stage, split at the kernel's own scratch. -/
theorem scratch_split4 (c : Dev nD) :
    (Pipeline.scopedRest (Ix := Unit) (Name := ℕ) (U := UR sig nD τ) (Lvl := ℕ) (Val := Elt F) spec4 c : sProp 𝕄G)
      = iprop((∃ f : Buf (Elt F) ((c : Thread nD τ).loc cc4_scratch0), ((c : Thread nD τ).loc cc4_scratch0) ↦{fullShare} f)
          ∗ Pipeline.scopedRestBut (Ix := Unit) (Name := ℕ) (U := UR sig nD τ) (Lvl := ℕ) (Val := Elt F) spec4 c [cc4_scratch0]) :=
  Pipeline.scopedRest_split_of_list spec4 c [cc4_scratch0] (by decide) (by decide)

/-- Region 4 starts from the scoped buffers alone. -/
theorem hin4 (c : Dev nD) : iprop(Pipeline.scopedRest (Ix := Unit) (Name := ℕ) (U := UR sig nD τ) (Lvl := ℕ) (Val := Elt F) spec4 c ∗ BI.emp) ⊢ (dat4 (rd (W5 m)) c).Φ 0 := by
    show iprop(Pipeline.scopedRest (Ix := Unit) (Name := ℕ) (U := UR sig nD τ) (Lvl := ℕ) (Val := Elt F) spec4 c ∗ BI.emp) ⊢ scr4 (rd (W5 m)) c 0
    rw [scratch_split4 c]
    unfold scr4
    simp only [View.set_whole]
    iintro ⟨⟨⟨%f0, H0⟩, Hr⟩, -⟩
    isplitl [H0]
    · iexists f0; isplitl [H0]; (· iexact H0); ipureintro; exact fun h => absurd rfl h
    iexact Hr

/-- Region 4 gives the scoped buffers back. -/
theorem hout4 (c : Dev nD) : (dat4 (rd (W5 m)) c).Φ (Fin.last cfg4.N) ⊢ iprop(Pipeline.scopedRest (Ix := Unit) (Name := ℕ) (U := UR sig nD τ) (Lvl := ℕ) (Val := Elt F) spec4 c ∗ BI.emp) := by
    show scr4 (rd (W5 m)) c cfg4.N ⊢ iprop(Pipeline.scopedRest (Ix := Unit) (Name := ℕ) (U := UR sig nD τ) (Lvl := ℕ) (Val := Elt F) spec4 c ∗ BI.emp)
    rw [scratch_split4 c]
    unfold scr4
    simp only [View.set_whole]
    iintro ⟨⟨%f0, H0, -⟩, Hr⟩
    isplitl [H0 Hr]
    · isplitl [H0]; · (iexists f0; iexact H0)
      iexact Hr
    iempintro

set_option backward.isDefEq.respectTransparency.types false in
/-- Region 4, every unscoped buffer held: before at `W5`, after at `W6`. -/
def reg4 : RegionSeg (pcfgs (F := F)) adm (pdats m) () defs₀ Variants.none L lv 4 :=
  RegionHeld.regOf (pcfgs (F := F)) adm (pdats m) () defs₀ Variants.none L lv 4 (Pipeline.ucRefs τ sig) launch4.toP rfl (arrs_sub 4 launch4) (fun c => (body_obligation4 (rd (W5 m)) c).loose) (fun _ _ => rfl) (fun _ => rfl)
    (fun c w => by fin_cases w <;> rfl) (hin4 m) (hout4 m) (fun _ => 0) (cut 4) (W5 m) (fun _ _ => rfl)

/-- The scoped buffers the pipeline does not stage, split at the kernel's own scratch. -/
theorem scratch_split5 (c : Dev nD) :
    (Pipeline.scopedRest (Ix := Unit) (Name := ℕ) (U := UR sig nD τ) (Lvl := ℕ) (Val := Elt F) spec5 c : sProp 𝕄G)
      = iprop((∃ f : Buf (Elt F) ((c : Thread nD τ).loc cc5_scratch0), ((c : Thread nD τ).loc cc5_scratch0) ↦{fullShare} f)
          ∗ Pipeline.scopedRestBut (Ix := Unit) (Name := ℕ) (U := UR sig nD τ) (Lvl := ℕ) (Val := Elt F) spec5 c [cc5_scratch0]) :=
  Pipeline.scopedRest_split_of_list spec5 c [cc5_scratch0] (by decide) (by decide)

/-- Region 5 starts from the scoped buffers alone. -/
theorem hin5 (c : Dev nD) : iprop(Pipeline.scopedRest (Ix := Unit) (Name := ℕ) (U := UR sig nD τ) (Lvl := ℕ) (Val := Elt F) spec5 c ∗ BI.emp) ⊢ (dat5 (rd (W6 m)) c).Φ 0 := by
    show iprop(Pipeline.scopedRest (Ix := Unit) (Name := ℕ) (U := UR sig nD τ) (Lvl := ℕ) (Val := Elt F) spec5 c ∗ BI.emp) ⊢ scr5 (rd (W6 m)) c 0
    rw [scratch_split5 c]
    unfold scr5
    simp only [View.set_whole]
    iintro ⟨⟨⟨%f0, H0⟩, Hr⟩, -⟩
    isplitl [H0]
    · iexists f0; isplitl [H0]; (· iexact H0); ipureintro; exact fun h => absurd rfl h
    iexact Hr

/-- Region 5 gives the scoped buffers back. -/
theorem hout5 (c : Dev nD) : (dat5 (rd (W6 m)) c).Φ (Fin.last cfg5.N) ⊢ iprop(Pipeline.scopedRest (Ix := Unit) (Name := ℕ) (U := UR sig nD τ) (Lvl := ℕ) (Val := Elt F) spec5 c ∗ BI.emp) := by
    show scr5 (rd (W6 m)) c cfg5.N ⊢ iprop(Pipeline.scopedRest (Ix := Unit) (Name := ℕ) (U := UR sig nD τ) (Lvl := ℕ) (Val := Elt F) spec5 c ∗ BI.emp)
    rw [scratch_split5 c]
    unfold scr5
    simp only [View.set_whole]
    iintro ⟨⟨%f0, H0, -⟩, Hr⟩
    isplitl [H0 Hr]
    · isplitl [H0]; · (iexists f0; iexact H0)
      iexact Hr
    iempintro

set_option backward.isDefEq.respectTransparency.types false in
/-- Region 5, every unscoped buffer held: before at `W6`, after at `W7`. -/
def reg5 : RegionSeg (pcfgs (F := F)) adm (pdats m) () defs₀ Variants.none L lv 5 :=
  RegionHeld.regOf (pcfgs (F := F)) adm (pdats m) () defs₀ Variants.none L lv 5 (Pipeline.ucRefs τ sig) launch5.toP rfl (arrs_sub 5 launch5) (fun c => (body_obligation5 (rd (W6 m)) c).loose) (fun _ _ => rfl) (fun _ => rfl)
    (fun c w => by fin_cases w <;> rfl) (hin5 m) (hout5 m) (fun _ => 0) (cut 5) (W6 m) (fun _ _ => rfl)

set_option backward.isDefEq.respectTransparency.types false in
/-- The whole program as segments: the host stretch, the six regions, the last host operation. -/
def segs (_ : Dev nD) : List (Seg (pcfgs (F := F)) adm (pdats m) () defs₀ Variants.none L lv) :=
  [.host (Gen.seg0 m Variants.none L lv fun _ => Eo), .region (reg0 m), .region (reg1 m), .region (reg2 m), .region (reg3 m), .region (reg4 m), .region (reg5 m),
    .host (HostSeg.ofOps _ _ _ _ _ (Pipeline.ucRefs τ sig) hostOps6
      (fun op h => Pipeline.sub_ucRefs op ((List.forall_iff_forall_mem.mp hostOps6_sub) op h))
      (fun op h => (List.forall_iff_forall_mem.mp hostOps6_fresh) op h) (W7 m) Eo)]

end Cert.Kernel2Ideal.Mlp
-- ==== Proof.MlpRun.lean ====
/- The run of the feed-forward program: every buffer of the device at its end. -/
module

public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import Idealize.ShloMosaic.Lib.Exec
public import Idealize.ShloMosaic.Lib.Tactic
public import Idealize.ShloMosaic.Lib.Pipeline.Kit
public import Idealize.ShloMosaic.Lib.VecWindow
public import proofs.«01_k».proof.Proof.MlpSegs

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation RegionSeg HostSeg Seg arrRef)

local notation "𝕄G" => MT nD τ sig Unit (Elt F) ℕ (UR sig nD τ) ℕ

variable (m : (ℓ : Loc nD τ sig) → Buf (Elt F) ℓ)

/-- The last state beside the core owing nothing. -/
theorem hlast (c : Dev nD) : (iprop(StableHlo.held (c : Thread nD τ) (Pipeline.ucRefs τ sig) (W8 m c) ∗ Eo c) : sProp 𝕄G)
    ⊢ iprop(StableHlo.held (c : Thread nD τ) (Pipeline.ucRefs τ sig) (W8 m c) ∗ ∃ Wd, owes (c : Thread nD τ) (0 : CellTallies nD τ sig Unit) Wd) := by
  iintro ⟨H, HO, -, -⟩
  isplitl [H]; · iexact H
  iexact HO

set_option maxHeartbeats 4000000 in
set_option backward.isDefEq.respectTransparency.types false in
/-- Every fair run from zero counters ends, each unscoped buffer at its last contents and every counter zero. -/
theorem run_main (ρ : Dev nD → PrngReg) :
    θ_run defs (onTc (τ := τ) (main (F := F))) ⟨m, fun _ => 0, ρ⟩ (fun r => (∀ (c : Dev nD) (b : Ref sig .tc), b.isScoped = false →
      r.2.mem ((c.tc : Thread nD τ).loc b) = W8 m c (Proc.devRef .tc b)) ∧ r.2.sem = fun _ => 0) := by
  refine Pipeline.θ_run_regions_kit_dev_sems (pcfgs (F := F)) adm (pdats m) () cellOf_inj emb₁ defs₀ Variants.none L lv m ρ main
    (segs m)
    (fun c Q => by
      rewrite [main_chain c, Seg.run_eq_chain,
        show (segs m c).map Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()),
          Prog.lift (.customCall (Pipeline.entry 4) ()),
          Prog.lift (.customCall (Pipeline.entry 5) ()),
          StableHlo.seq hostOps6 ] from rfl]
      dsimp (config := { failIfUnchanged := false }) only
      exact .rfl)
    (fun c => by simp only [segs, Seg.pipes_host, Seg.pipes_region, Seg.pipes_nil]; decide) (fun _ => 0) (fun _ h => if_neg h) (fun _ => BI.emp)
    (initOf (Pipeline.cells cfgs cellOf_inj) (Pipeline.launchToks cfgs cellOf_inj))
    (by
      rw [ownU_emb₁]
      iintro H
      imodintro
      isplitl [H]; · iexact H
      rw [show (Finset.univ : Finset (Dev nD)) = {0} from rfl, BI.bigSep_singleton]; iempintro)
    (T₀ := fun c => iprop(StableHlo.held (c : Thread nD τ) (Pipeline.ucRefs τ sig) (Gen.V0 m c) ∗ Eo c))
    (Tₙ := fun c => iprop(StableHlo.held (c : Thread nD τ) (Pipeline.ucRefs τ sig) (W8 m c)))
    (hch := fun c => ⟨.rfl, .rfl, .rfl, .rfl, .rfl, .rfl, .rfl, .rfl, hlast m c⟩)
    (hinit := ?_) (QY := fun c s => ∀ b : Ref sig .tc, b.isScoped = false → s.mem ((c.tc : Thread nD τ).loc b) = W8 m c (Proc.devRef .tc b))
    (hfin := fun c s' => ?_) (hQ := fun _ h hz => ⟨h, funext fun g => hz g (.inr (regions_no_unscoped g.2))⟩)
  · refine Pipeline.initEach L lv fun c => ?_
    rw [← Pipeline.unscopedBufs_held (Ix := Unit) (Name := ℕ) (U := UR sig nD τ) (Lvl := ℕ) c (Gen.V0 m c)]
    iintro ⟨⟨Hb, -, HO, -, -, -⟩, -⟩
    imodintro
    isplitl [Hb]; · iexact Hb
    isplitl [HO]; · (iexists ∅; iexact HO)
    isplitr <;> iempintro
  · unfold StableHlo.held
    iintro ⟨Hh, HSI⟩
    ihave Hr := (pointsTo_read_all (Pipeline.ucRefs τ sig) (fun b => ((c : Thread nD τ).1, b)) (W8 m c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, by simpa using hb⟩)
    · iexact HSI

/-- Region 0 writes one array. -/
theorem W2_of (c : Dev nD) (b : Ref sig .tc) (h : b ≠ main_v3) : W2 m c (Proc.devRef .tc b) = W1 m c (Proc.devRef .tc b) :=
  Pipeline.afterRegion_keeps (dat0 (rd (W1 m)) c) (W1 m c) launch0.win.arr_inj (fun _ => rfl) b fun w e => by
    fin_cases w <;> first | rfl | exact absurd e.symm h

/-- Region 1 writes one array. -/
theorem W3_of (c : Dev nD) (b : Ref sig .tc) (h : b ≠ main_v4) : W3 m c (Proc.devRef .tc b) = W2 m c (Proc.devRef .tc b) :=
  Pipeline.afterRegion_keeps (dat1 (rd (W2 m)) c) (W2 m c) launch1.win.arr_inj (fun _ => rfl) b fun w e => by
    fin_cases w <;> first | rfl | exact absurd e.symm h

/-- Region 2 writes one array. -/
theorem W4_of (c : Dev nD) (b : Ref sig .tc) (h : b ≠ main_v5) : W4 m c (Proc.devRef .tc b) = W3 m c (Proc.devRef .tc b) :=
  Pipeline.afterRegion_keeps (dat2 (rd (W3 m)) c) (W3 m c) launch2.win.arr_inj (fun _ => rfl) b fun w e => by
    fin_cases w <;> first | rfl | exact absurd e.symm h

/-- Region 3 writes one array. -/
theorem W5_of (c : Dev nD) (b : Ref sig .tc) (h : b ≠ main_v6) : W5 m c (Proc.devRef .tc b) = W4 m c (Proc.devRef .tc b) :=
  Pipeline.afterRegion_keeps (dat3 (rd (W4 m)) c) (W4 m c) launch3.win.arr_inj (fun _ => rfl) b fun w e => by
    fin_cases w <;> first | rfl | exact absurd e.symm h

/-- Region 4 writes one array. -/
theorem W6_of (c : Dev nD) (b : Ref sig .tc) (h : b ≠ main_v7) : W6 m c (Proc.devRef .tc b) = W5 m c (Proc.devRef .tc b) :=
  Pipeline.afterRegion_keeps (dat4 (rd (W5 m)) c) (W5 m c) launch4.win.arr_inj (fun _ => rfl) b fun w e => by
    fin_cases w <;> first | rfl | exact absurd e.symm h

/-- Region 5 writes one array. -/
theorem W7_of (c : Dev nD) (b : Ref sig .tc) (h : b ≠ main_v8) : W7 m c (Proc.devRef .tc b) = W6 m c (Proc.devRef .tc b) :=
  Pipeline.afterRegion_keeps (dat5 (rd (W6 m)) c) (W6 m c) launch5.win.arr_inj (fun _ => rfl) b fun w e => by
    fin_cases w <;> first | rfl | exact absurd e.symm h

/-- A buffer no operation and no region writes is at its launch contents at the end. -/
theorem W8_arg (c : Dev nD) (b : Ref sig .tc) (h0 : b ∉ hostOps0_W) (h : b ∉ ([main_v3, main_v4, main_v5, main_v6, main_v7, main_v8] : List (Ref sig .tc))) (h6 : b ∉ hostOps6_W) :
    W8 m c (Proc.devRef .tc b) = m ((c : Thread nD τ).loc b) := by
  simp only [List.mem_cons, List.not_mem_nil, or_false, not_or] at h
  obtain ⟨h1, h2, h3, h4, h5, h7⟩ := h
  exact (StableHlo.after_of_writes_sub hostOps6 _ hostOps6_writes h6).trans <| (W7_of m c b h7).trans <| (W6_of m c b h5).trans <| (W5_of m c b h4).trans <|
    (W4_of m c b h3).trans <| (W3_of m c b h2).trans <| (W2_of m c b h1).trans <| V1_of m c b h0

end Cert.Kernel2Ideal.Mlp
-- ==== Proof.MlpTie.lean ====
/- The six products put together: what the feed-forward program's four results hold at the end, over the launch contents. -/
module

public import proofs.«01_k».proof.Proof.MlpFinal
public import proofs.«01_k».proof.Proof.MlpRun

@[expose] public section

set_option maxRecDepth 16384

noncomputable section

namespace Cert.Kernel2Ideal.Mlp

open Cert.Kernel2Ideal Cert.Kernel2Ideal.Gen Cert.Mlp
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (c : Dev nD)

/-- The layer's input at launch. -/
def X : Mat 2048 1024 := mat (m ((c : Thread nD τ).loc main_arg0) : S2048x1024.Idx → EReal)
/-- The up weight at launch. -/
def U : Mat 1024 4096 := mat (m ((c : Thread nD τ).loc main_arg1) : S1024x4096.Idx → EReal)
/-- The down weight at launch. -/
def D : Mat 4096 1024 := mat (m ((c : Thread nD τ).loc main_arg2) : S4096x1024.Idx → EReal)
/-- The gradient of the layer's result at launch. -/
def G : Mat 2048 1024 := mat (m ((c : Thread nD τ).loc main_arg3) : S2048x1024.Idx → EReal)

theorem W1_v1 : mat (W1 m c (Proc.devRef .tc main_v1) : S4096x1024.Idx → EReal) = tr (U m c) := by
  funext i j
  show (W1 m c (Proc.devRef .tc main_v1) : S4096x1024.Idx → EReal) (ix2 i j) = (m ((c : Thread nD τ).loc main_arg1) : S1024x4096.Idx → EReal) (ix2 j i)
  have e : W1 m c (Proc.devRef .tc main_v1) = truncf (F := Ideal) .bf16 (transpose S4096x1024 [1, 0] (m ((c : Thread nD τ).loc main_arg1) : S1024x4096.Idx → EReal) transposes_S1024x4096_S4096x1024_1_0) bitsLt_bf16_f32 := by
    unfold W1
    after_results
  rw [e]
  pointwise

theorem W1_v2 : mat (W1 m c (Proc.devRef .tc main_v2) : S4096x1024.Idx → EReal) = D m c := by
  funext i j
  show (W1 m c (Proc.devRef .tc main_v2) : S4096x1024.Idx → EReal) (ix2 i j) = (m ((c : Thread nD τ).loc main_arg2) : S4096x1024.Idx → EReal) (ix2 i j)
  have e : W1 m c (Proc.devRef .tc main_v2) = truncf (F := Ideal) .bf16 (m ((c : Thread nD τ).loc main_arg2) : S4096x1024.Idx → EReal) bitsLt_bf16_f32 := by
    unfold W1
    after_results
  rw [e]
  pointwise

/-- An argument is at its launch contents before the first product. -/
theorem W1_arg (b : Ref sig .tc) (h0 : b ∉ hostOps0_W) : W1 m c (Proc.devRef .tc b) = m ((c : Thread nD τ).loc b) := V1_of m c b h0

theorem W2_v3 : W2 m c (Proc.devRef .tc main_v3) = (arr (hid (X m c) (U m c)) : S2048x4096.Idx → EReal) := by
  refine (Pipeline.afterRegion_arr (dat0 (rd (W1 m)) c) (W1 m c) launch0.win.arr_inj 2).trans ((final0 (rd (W1 m)) c).trans ?_)
  rw [show mat (rd (W1 m) c main_v1 : S4096x1024.Idx → EReal) = tr (U m c) from W1_v1 m c,
    show (rd (W1 m) c main_arg0 : S2048x1024.Idx → EReal) = m ((c : Thread nD τ).loc main_arg0) from W1_arg m c main_arg0 (by decide)]
  rfl

theorem W2_v2 : mat (W2 m c (Proc.devRef .tc main_v2) : S4096x1024.Idx → EReal) = D m c := by rw [W2_of m c main_v2 (by decide)]; exact W1_v2 m c

theorem W3_v4 : W3 m c (Proc.devRef .tc main_v4) = (arr (mul (hid (X m c) (U m c)) (D m c)) : S2048x1024.Idx → EReal) := by
  refine (Pipeline.afterRegion_arr (dat1 (rd (W2 m)) c) (W2 m c) launch1.win.arr_inj 2).trans ((final1 (rd (W2 m)) c).trans ?_)
  rw [show mat (rd (W2 m) c main_v2 : S4096x1024.Idx → EReal) = D m c from W2_v2 m c,
    show (rd (W2 m) c main_v3 : S2048x4096.Idx → EReal) = arr (hid (X m c) (U m c)) from W2_v3 m c]
  rfl

theorem W3_v3 : W3 m c (Proc.devRef .tc main_v3) = (arr (hid (X m c) (U m c)) : S2048x4096.Idx → EReal) :=
  (W3_of m c main_v3 (by decide)).trans (W2_v3 m c)

theorem W3_v2 : mat (W3 m c (Proc.devRef .tc main_v2) : S4096x1024.Idx → EReal) = D m c := by rw [W3_of m c main_v2 (by decide)]; exact W2_v2 m c

theorem W3_arg (b : Ref sig .tc) (h0 : b ∉ hostOps0_W) (h3 : b ≠ main_v3) (h4 : b ≠ main_v4) : W3 m c (Proc.devRef .tc b) = m ((c : Thread nD τ).loc b) :=
  (W3_of m c b h4).trans <| (W2_of m c b h3).trans <| W1_arg m c b h0

theorem W4_v5 : W4 m c (Proc.devRef .tc main_v5) = (arr (dpre (X m c) (U m c) (D m c) (G m c)) : S2048x4096.Idx → EReal) := by
  refine (Pipeline.afterRegion_arr (dat2 (rd (W3 m)) c) (W3 m c) launch2.win.arr_inj 3).trans ((final2 (rd (W3 m)) c).trans ?_)
  rw [show mat (rd (W3 m) c main_v2 : S4096x1024.Idx → EReal) = D m c from W3_v2 m c,
    show (rd (W3 m) c main_v3 : S2048x4096.Idx → EReal) = arr (hid (X m c) (U m c)) from W3_v3 m c,
    show (rd (W3 m) c main_arg3 : S2048x1024.Idx → EReal) = m ((c : Thread nD τ).loc main_arg3) from W3_arg m c main_arg3 (by decide) (by decide) (by decide)]
  refine congrArg arr (funext fun i => funext fun j => ?_)
  rw [mat_arr, sqrt_hid]
  rfl

theorem W4_v3 : W4 m c (Proc.devRef .tc main_v3) = (arr (hid (X m c) (U m c)) : S2048x4096.Idx → EReal) :=
  (W4_of m c main_v3 (by decide)).trans (W3_v3 m c)

theorem W4_arg (b : Ref sig .tc) (h0 : b ∉ hostOps0_W) (h3 : b ≠ main_v3) (h4 : b ≠ main_v4) (h5 : b ≠ main_v5) :
    W4 m c (Proc.devRef .tc b) = m ((c : Thread nD τ).loc b) :=
  (W4_of m c b h5).trans <| W3_arg m c b h0 h3 h4

theorem W5_v6 : W5 m c (Proc.devRef .tc main_v6) = (arr (mul (tr (hid (X m c) (U m c))) (G m c)) : S4096x1024.Idx → EReal) := by
  refine (Pipeline.afterRegion_arr (dat3 (rd (W4 m)) c) (W4 m c) launch3.win.arr_inj 2).trans ((final3 (rd (W4 m)) c).trans ?_)
  rw [show (rd (W4 m) c main_v3 : S2048x4096.Idx → EReal) = arr (hid (X m c) (U m c)) from W4_v3 m c,
    show (rd (W4 m) c main_arg3 : S2048x1024.Idx → EReal) = m ((c : Thread nD τ).loc main_arg3) from W4_arg m c main_arg3 (by decide) (by decide) (by decide) (by decide)]
  rfl

theorem W5_v5 : W5 m c (Proc.devRef .tc main_v5) = (arr (dpre (X m c) (U m c) (D m c) (G m c)) : S2048x4096.Idx → EReal) :=
  (W5_of m c main_v5 (by decide)).trans (W4_v5 m c)

theorem W5_v1 : mat (W5 m c (Proc.devRef .tc main_v1) : S4096x1024.Idx → EReal) = tr (U m c) := by
  rw [W5_of m c main_v1 (by decide), W4_of m c main_v1 (by decide), W3_of m c main_v1 (by decide), W2_of m c main_v1 (by decide)]; exact W1_v1 m c

theorem W5_arg (b : Ref sig .tc) (h0 : b ∉ hostOps0_W) (h3 : b ≠ main_v3) (h4 : b ≠ main_v4) (h5 : b ≠ main_v5) (h6 : b ≠ main_v6) :
    W5 m c (Proc.devRef .tc b) = m ((c : Thread nD τ).loc b) :=
  (W5_of m c b h6).trans <| W4_arg m c b h0 h3 h4 h5

theorem W6_v7 : W6 m c (Proc.devRef .tc main_v7) = (arr (dx (X m c) (U m c) (D m c) (G m c)) : S2048x1024.Idx → EReal) := by
  refine (Pipeline.afterRegion_arr (dat4 (rd (W5 m)) c) (W5 m c) launch4.win.arr_inj 3).trans ((final4 (rd (W5 m)) c).trans ?_)
  rw [show (rd (W5 m) c main_v5 : S2048x4096.Idx → EReal) = arr (dpre (X m c) (U m c) (D m c) (G m c)) from W5_v5 m c,
    show mat (rd (W5 m) c main_v1 : S4096x1024.Idx → EReal) = tr (U m c) from W5_v1 m c,
    show (rd (W5 m) c main_arg3 : S2048x1024.Idx → EReal) = m ((c : Thread nD τ).loc main_arg3) from W5_arg m c main_arg3 (by decide) (by decide) (by decide) (by decide) (by decide)]
  rfl

theorem W6_v5 : W6 m c (Proc.devRef .tc main_v5) = (arr (dpre (X m c) (U m c) (D m c) (G m c)) : S2048x4096.Idx → EReal) :=
  (W6_of m c main_v5 (by decide)).trans (W5_v5 m c)

theorem W7_v8 : W7 m c (Proc.devRef .tc main_v8) = (arr (mul (tr (dpre (X m c) (U m c) (D m c) (G m c))) (X m c)) : S4096x1024.Idx → EReal) := by
  refine (Pipeline.afterRegion_arr (dat5 (rd (W6 m)) c) (W6 m c) launch5.win.arr_inj 2).trans ((final5 (rd (W6 m)) c).trans ?_)
  rw [show (rd (W6 m) c main_v5 : S2048x4096.Idx → EReal) = arr (dpre (X m c) (U m c) (D m c) (G m c)) from W6_v5 m c,
    show (rd (W6 m) c main_arg0 : S2048x1024.Idx → EReal) = m ((c : Thread nD τ).loc main_arg0) from
      (W6_of m c main_arg0 (by decide)).trans (W5_arg m c main_arg0 (by decide) (by decide) (by decide) (by decide) (by decide))]
  rfl

/-- The layer's product. -/
theorem W8_v4 : W8 m c (Proc.devRef .tc main_v4) = (arr (mul (hid (X m c) (U m c)) (D m c)) : S2048x1024.Idx → EReal) :=
  (StableHlo.after_of_writes_sub hostOps6 _ hostOps6_writes (by decide)).trans <| (W7_of m c main_v4 (by decide)).trans <|
    (W6_of m c main_v4 (by decide)).trans <| (W5_of m c main_v4 (by decide)).trans <| (W4_of m c main_v4 (by decide)).trans <| W3_v4 m c

/-- The gradient of the layer's input. -/
theorem W8_v7 : W8 m c (Proc.devRef .tc main_v7) = (arr (dx (X m c) (U m c) (D m c) (G m c)) : S2048x1024.Idx → EReal) :=
  (StableHlo.after_of_writes_sub hostOps6 _ hostOps6_writes (by decide)).trans <| (W7_of m c main_v7 (by decide)).trans <| W6_v7 m c

/-- The gradient of the down weight. -/
theorem W8_v6 : W8 m c (Proc.devRef .tc main_v6) = (arr (mul (tr (hid (X m c) (U m c))) (G m c)) : S4096x1024.Idx → EReal) :=
  (StableHlo.after_of_writes_sub hostOps6 _ hostOps6_writes (by decide)).trans <| (W7_of m c main_v6 (by decide)).trans <|
    (W6_of m c main_v6 (by decide)).trans <| W5_v6 m c

/-- The gradient of the up weight. -/
theorem W8_v9 : W8 m c (Proc.devRef .tc main_v9) = (arr (tr (mul (tr (dpre (X m c) (U m c) (D m c) (G m c))) (X m c))) : S1024x4096.Idx → EReal) := by
  have e : W8 m c (Proc.devRef .tc main_v9) = transpose S1024x4096 [1, 0] (W7 m c (Proc.devRef .tc main_v8) : S4096x1024.Idx → EReal) transposes_S4096x1024_S1024x4096_1_0 := by
    unfold W8
    after_results
  rw [e, W7_v8]
  funext y
  idx_vars y
  pointwise
  rfl

end Cert.Kernel2Ideal.Mlp

end
-- ==== Proof.MlpRef.lean ====
/- The plain feed-forward layer and its derivative: the reference's run. -/
module

public import proofs.«01_k».proof.Defs
public import proofs.«01_k».proof.Proof.Gen.Reference2Ideal
public import proofs.«01_k».proof.Proof.MlpSpec
public import Idealize.ShloMosaic.Lib.Claim
public import Idealize.ShloMosaic.Lib.StableHlo.RunHlo
public import Idealize.ShloMosaic.Lib.StableHlo.RunClose

@[expose] public section

set_option maxRecDepth 16384

noncomputable section

namespace Cert.Reference2Ideal.Mlp

open Cert.Reference2Ideal Cert.Reference2Ideal.Gen Cert.Mlp
open Idealize.ShloMosaic Idealize.ShloMosaic.TcCoe Idealize.ShloMosaic.Tactic
open Idealize.SL.Sem

/-- The program has no semaphore. -/
theorem no_sem : ∀ sm : SemLoc sig, False := by decide

/-- The product before the activation. -/
def pre (x : FVec Ideal S2048x1024 .f32) (u : FVec Ideal S1024x4096 .f32) : FVec Ideal S2048x4096 .f32 :=
  Host.dotGeneral dot_S2048x1024_S1024x4096_S2048x4096_1_0_0_1_n_n none x u

/-- A constant at every place. -/
def all (b : BitVec 32) : FVec Ideal S2048x4096 .f32 := broadcastInDim S2048x4096 ![] bcast_S_S2048x4096 (constant S_ .f32 b)

/-- The gradient before the activation, as the program computes it. -/
def du (x : FVec Ideal S2048x1024 .f32) (u : FVec Ideal S1024x4096 .f32) (d : FVec Ideal S4096x1024 .f32) (g : FVec Ideal S2048x1024 .f32) : FVec Ideal S2048x4096 .f32 :=
  select (cmpf .ogt (pre x u) (all 0#32))
    (mulf (Host.dotGeneral dot_S2048x1024_S4096x1024_S2048x4096_1_1_0_0_n_n none g d) (mulf (all 0x40000000#32) (maximumf (pre x u) (all 0#32)))) (all 0#32)

theorem pre_at (x : FVec Ideal S2048x1024 .f32) (u : FVec Ideal S1024x4096 .f32) (i : Fin 2048) (j : Fin 4096) : pre x u (ix2 i j) = mul (mat x) (mat u) i j := by
  unfold pre
  pointwise
  rfl

theorem all_at (b : BitVec 32) (i : Fin 2048) (j : Fin 4096) : all b (ix2 i j) = Ideal.ofBits .f32 b := by
  unfold all
  pointwise

theorem zero_bits : Ideal.ofBits .f32 0#32 = 0 := by simp [Ideal.ofBits, Ideal.ieee]

/-- Where the number is not positive its positive part is 0, and so is the product. -/
theorem gate (a g c : EReal) (h : ¬ 0 < a) : g * (c * max a 0) = 0 := by
  rw [max_eq_right (not_lt.1 h), mul_zero, mul_zero]

theorem du_at (x : FVec Ideal S2048x1024 .f32) (u : FVec Ideal S1024x4096 .f32) (d : FVec Ideal S4096x1024 .f32) (g : FVec Ideal S2048x1024 .f32) (i : Fin 2048) (j : Fin 4096) :
    du x u d g (ix2 i j) = dpre (mat x) (mat u) (mat d) (mat g) i j := by
  have e : Host.dotGeneral dot_S2048x1024_S4096x1024_S2048x4096_1_1_0_0_n_n none g d (ix2 i j) = mul (mat g) (tr (mat d)) i j := by
    pointwise
    rfl
  show (if Ideal.cmp .ogt (pre x u (ix2 i j)) (all 0#32 (ix2 i j)) = 1#1 then
      Host.dotGeneral dot_S2048x1024_S4096x1024_S2048x4096_1_1_0_0_n_n none g d (ix2 i j) * (all 0x40000000#32 (ix2 i j) * max (pre x u (ix2 i j)) (all 0#32 (ix2 i j))) else all 0#32 (ix2 i j)) = _
  rw [e, pre_at, all_at, all_at, zero_bits]
  unfold dpre two
  by_cases h : 0 < mul (mat x) (mat u) i j
  · exact if_pos ((Ideal.cmp_ogt_eq_one _ _).2 h)
  · exact (if_neg (fun h' => h ((Ideal.cmp_ogt_eq_one _ _).1 h'))).trans (gate _ _ _ h).symm

/-- The hidden activations, as the program computes them. -/
def hd (x : FVec Ideal S2048x1024 .f32) (u : FVec Ideal S1024x4096 .f32) : FVec Ideal S2048x4096 .f32 :=
  mulf (maximumf (pre x u) (all 0#32)) (maximumf (pre x u) (all 0#32))

theorem hd_at (x : FVec Ideal S2048x1024 .f32) (u : FVec Ideal S1024x4096 .f32) (i : Fin 2048) (j : Fin 4096) : hd x u (ix2 i j) = hid (mat x) (mat u) i j := by
  show max (pre x u (ix2 i j)) (all 0#32 (ix2 i j)) * max (pre x u (ix2 i j)) (all 0#32 (ix2 i j)) = _
  rw [pre_at, all_at, zero_bits]
  rfl

theorem out_m2 (x : FVec Ideal S2048x1024 .f32) (u : FVec Ideal S1024x4096 .f32) (d : FVec Ideal S4096x1024 .f32) :
    Host.dotGeneral dot_S2048x4096_S4096x1024_S2048x1024_1_0_0_1_n_n none (hd x u) d = arr (mul (hid (mat x) (mat u)) (mat d)) := by
  funext y
  idx_vars y
  pointwise
  exact Finset.sum_congr rfl fun k _ => congrArg (· * d (ix2 k y1)) (hd_at x u y0 k)

theorem out_dd (x : FVec Ideal S2048x1024 .f32) (u : FVec Ideal S1024x4096 .f32) (g : FVec Ideal S2048x1024 .f32) :
    transpose S4096x1024 [1, 0] (Host.dotGeneral dot_S2048x1024_S2048x4096_S1024x4096_0_0_1_1_n_n none g (hd x u)) transposes_S1024x4096_S4096x1024_1_0
      = arr (mul (tr (hid (mat x) (mat u))) (mat g)) := by
  funext y
  idx_vars y
  pointwise
  exact Finset.sum_congr rfl fun k _ => (congrArg (g (ix2 k y1) * ·) (hd_at x u k y0)).trans (mul_comm _ _)

theorem out_du (x : FVec Ideal S2048x1024 .f32) (u : FVec Ideal S1024x4096 .f32) (d : FVec Ideal S4096x1024 .f32) (g : FVec Ideal S2048x1024 .f32) :
    transpose S1024x4096 [1, 0] (Host.dotGeneral dot_S2048x4096_S2048x1024_S4096x1024_0_0_1_1_n_n none (du x u d g) x) transposes_S4096x1024_S1024x4096_1_0
      = arr (tr (mul (tr (dpre (mat x) (mat u) (mat d) (mat g))) (mat x))) := by
  funext y
  idx_vars y
  pointwise
  exact Finset.sum_congr rfl fun k _ => congrArg (· * x (ix2 k y0)) (du_at x u d g k y1)

theorem out_dx (x : FVec Ideal S2048x1024 .f32) (u : FVec Ideal S1024x4096 .f32) (d : FVec Ideal S4096x1024 .f32) (g : FVec Ideal S2048x1024 .f32) :
    addf (Host.dotGeneral dot_S2048x4096_S1024x4096_S2048x1024_1_1_0_0_n_n none (du x u d g) u)
        (mulf (broadcastInDim S2048x1024 ![] bcast_S_S2048x1024 (constant S_ .f32 0x3FB504F3#32)) g)
      = arr (dx (mat x) (mat u) (mat d) (mat g)) := by
  funext y
  idx_vars y
  pointwise
  exact congrArg (· + root * g (ix2 y0 y1)) (Finset.sum_congr rfl fun k _ => congrArg (· * u (ix2 y1 k)) (du_at x u d g y0 k))

/-- A reshape to the same shape changes nothing. -/
theorem same_shape (a : S2048x1024.Idx → EReal) (h : S2048x1024.ShapeCasts S2048x1024) : (fun i => shapeCast S2048x1024 a h i) = a := by
  funext i
  exact congrFun (shapeCast_self a h) i

set_option maxHeartbeats 1000000 in
/-- The reference's frame. -/
theorem frame_reference2 : Cert.quiescent_Reference2Ideal := by
  intro m g _
  hlo_run
  · exact fun _ => ⟨trivial, trivial, trivial, trivial⟩
  · exact funext fun s => (no_sem s.2).elim

/-- An argument of the reference at launch. -/
abbrev A (m : (ℓ : Loc nD τ sig) → Buf (Elt Ideal) ℓ) (c : Dev nD) (b : Ref sig .tc) : b.ty.Contents (Elt Ideal) := m ((c : Thread nD τ).loc b)

set_option maxHeartbeats 4000000 in
/-- The reference's run: its four results and its arguments at the end. -/
theorem run_ref2 (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v15) = (arr (mul (hid (mat (A m c main_arg0)) (mat (A m c main_arg1))) (mat (A m c main_arg2))) : S2048x1024.Idx → EReal)
      ∧ r.2.mem ((c.tc : Thread nD τ).loc main_v29) = (arr (dx (mat (A m c main_arg0)) (mat (A m c main_arg1)) (mat (A m c main_arg2)) (mat (A m c main_arg3))) : S2048x1024.Idx → EReal)
      ∧ r.2.mem ((c.tc : Thread nD τ).loc main_v25) = (arr (tr (mul (tr (dpre (mat (A m c main_arg0)) (mat (A m c main_arg1)) (mat (A m c main_arg2)) (mat (A m c main_arg3)))) (mat (A m c main_arg0)))) : S1024x4096.Idx → EReal)
      ∧ r.2.mem ((c.tc : Thread nD τ).loc main_v19) = (arr (mul (tr (hid (mat (A m c main_arg0)) (mat (A m c main_arg1)))) (mat (A m c main_arg3))) : S4096x1024.Idx → EReal)
      ∧ r.2.mem ((c.tc : Thread nD τ).loc main_arg0) = m ((c : Thread nD τ).loc main_arg0)
      ∧ r.2.mem ((c.tc : Thread nD τ).loc main_arg1) = m ((c : Thread nD τ).loc main_arg1)
      ∧ r.2.mem ((c.tc : Thread nD τ).loc main_arg2) = m ((c : Thread nD τ).loc main_arg2)
      ∧ r.2.mem ((c.tc : Thread nD τ).loc main_arg3) = m ((c : Thread nD τ).loc main_arg3)) := by
  hlo_run
  · exact out_m2 _ _ _
  · exact (congrArg (fun g => addf (Host.dotGeneral dot_S2048x4096_S1024x4096_S2048x1024_1_1_0_0_n_n none (du _ _ _ g) _)
        (mulf (broadcastInDim S2048x1024 ![] bcast_S_S2048x1024 (constant S_ .f32 0x3FB504F3#32)) g))
      (same_shape _ shapeCasts_S2048x1024_S2048x1024)).trans (out_dx _ _ _ _)
  · exact (congrArg (fun g => transpose S1024x4096 [1, 0] (Host.dotGeneral dot_S2048x4096_S2048x1024_S4096x1024_0_0_1_1_n_n none (du _ _ _ g) _) transposes_S4096x1024_S1024x4096_1_0)
      (same_shape _ shapeCasts_S2048x1024_S2048x1024)).trans (out_du _ _ _ _)
  · exact (congrArg (fun g => transpose S4096x1024 [1, 0] (Host.dotGeneral dot_S2048x1024_S2048x4096_S1024x4096_0_0_1_1_n_n none g (hd _ _)) transposes_S1024x4096_S4096x1024_1_0)
      (same_shape _ shapeCasts_S2048x1024_S2048x1024)).trans (out_dd _ _ _)

end Cert.Reference2Ideal.Mlp

end
-- ==== Proof.lean ====
/- The certificate's claims, assembled: the frames from the two runs, the values from the kernel's tie and the reference's. -/
module

public import proofs.«01_k».proof.Defs
public import proofs.«01_k».proof.Proof.Gen.Kernel
public import proofs.«01_k».proof.Proof.Gen.Kernel2
public import proofs.«01_k».proof.Proof.Gen.Kernel2Ideal
public import proofs.«01_k».proof.Proof.Gen.Reference2Ideal
public import proofs.«01_k».proof.Proof.Gen.Kernel2Ideal.Skeleton
public import proofs.«01_k».proof.Proof.Gen.Kernel2Ideal.Regions
public import proofs.«01_k».proof.Proof.Gen.Kernel2Ideal.Points
public import proofs.«01_k».proof.Proof.Gen.Kernel2Ideal.Launch
public import proofs.«01_k».proof.Proof.RunK
public import proofs.«01_k».proof.Proof.Same
public import proofs.«01_k».proof.Proof.TieK
public import proofs.«01_k».proof.Proof.RefTie
public import proofs.«01_k».proof.Proof.MlpSame
public import proofs.«01_k».proof.Proof.MlpTie
public import proofs.«01_k».proof.Proof.MlpRef

@[expose] public section

noncomputable section

namespace Cert.Proof

open Idealize.ShloMosaic Idealize.SL.Sem

set_option maxHeartbeats 8000000 in
open Cert.KernelIdeal.Scan in
/-- The kernel's frame at bits: the run over any float values, its facts those of the equal program. -/
theorem frame_kernel : Cert.quiescent_Kernel := fun m ρ _ => by
  show θ_run (Cert.Kernel.defs (F := Bits)) (onTc (τ := Cert.Kernel.τ) (Cert.Kernel.main (F := Bits))) ⟨m, fun _ => 0, ρ⟩ _
  rw [defs_same, main_same]
  exact (θ_run Cert.KernelIdeal.defs _ _).mono (fun _ h => ⟨fun c =>
    ⟨(h.1 c Cert.KernelIdeal.main_arg0 rfl).trans (W9_arg0 m c), (h.1 c Cert.KernelIdeal.main_arg1 rfl).trans (W9_arg1 m c),
     (h.1 c Cert.KernelIdeal.main_arg2 rfl).trans (W9_arg2 m c), (h.1 c Cert.KernelIdeal.main_arg3 rfl).trans (W9_arg3 m c),
     (h.1 c Cert.KernelIdeal.main_arg4 rfl).trans (W9_arg4 m c), (h.1 c Cert.KernelIdeal.main_arg5 rfl).trans (W9_arg5 m c),
     (h.1 c Cert.KernelIdeal.main_arg6 rfl).trans (W9_arg6 m c)⟩, h.2⟩) (run_main (F := Bits) m ρ)

open Cert.KernelIdeal.Scan in
/-- The kernel's frame over the extended reals. -/
theorem frame_kernelIdeal : Cert.quiescent_KernelIdeal := fun m ρ _ =>
  (θ_run Cert.KernelIdeal.defs _ _).mono (fun _ h => ⟨fun c =>
    ⟨(h.1 c Cert.KernelIdeal.main_arg0 rfl).trans (W9_arg0 m c), (h.1 c Cert.KernelIdeal.main_arg1 rfl).trans (W9_arg1 m c),
     (h.1 c Cert.KernelIdeal.main_arg2 rfl).trans (W9_arg2 m c), (h.1 c Cert.KernelIdeal.main_arg3 rfl).trans (W9_arg3 m c),
     (h.1 c Cert.KernelIdeal.main_arg4 rfl).trans (W9_arg4 m c), (h.1 c Cert.KernelIdeal.main_arg5 rfl).trans (W9_arg5 m c),
     (h.1 c Cert.KernelIdeal.main_arg6 rfl).trans (W9_arg6 m c)⟩, h.2⟩) (run_main (F := Ideal) m ρ)

open Cert.ReferenceIdeal.Scan in
/-- The reference's frame over the extended reals. -/
theorem frame_referenceIdeal : Cert.quiescent_ReferenceIdeal := fun m ρ _ =>
  (θ_run Cert.ReferenceIdeal.defs _ _).mono (fun _ h => ⟨fun c =>
    ⟨(h.1 c Cert.ReferenceIdeal.main_arg0 rfl).trans (X5_arg0 m c), (h.1 c Cert.ReferenceIdeal.main_arg1 rfl).trans (X5_arg1 m c),
     (h.1 c Cert.ReferenceIdeal.main_arg2 rfl).trans (X5_arg2 m c), (h.1 c Cert.ReferenceIdeal.main_arg3 rfl).trans (X5_arg3 m c),
     (h.1 c Cert.ReferenceIdeal.main_arg4 rfl).trans (X5_arg4 m c), (h.1 c Cert.ReferenceIdeal.main_arg5 rfl).trans (X5_arg5 m c),
     (h.1 c Cert.ReferenceIdeal.main_arg6 rfl).trans (X5_arg6 m c)⟩, h.2⟩) (run_ref (F := Ideal) m ρ)

/-- The precondition's side condition. -/
theorem pre_facts : Cert.Pre_finite_decay.Facts := ⟨by decide⟩

/-- An extended real whose absolute value is below the float infinity is a real. -/
theorem real_of_abs_lt (x : EReal) (h : Ideal.cmp .olt (max x (-x)) (Ideal.ofBits .f32 0x7F800000#32) = 1#1) : ∃ q : ℝ, x = q := by
  have htop : Ideal.ofBits .f32 0x7F800000#32 = ⊤ := by simp [Ideal.ofBits, Ideal.ieee]
  rw [htop] at h
  induction x with
  | bot => simp [Ideal.cmp] at h
  | top => simp [Ideal.cmp] at h
  | coe q => exact ⟨q, rfl⟩

open Cert.KernelIdeal.Scan in
/-- Under the precondition every decay is a real. -/
theorem decay_real (m : (ℓ : Loc Cert.KernelIdeal.nD Cert.KernelIdeal.τ Cert.KernelIdeal.sig) → Buf (Elt Ideal) ℓ)
    (hp : @Cert.Pre_KernelIdeal_finite_decay pre_facts m) (c : Dev Cert.KernelIdeal.nD) (t : ℕ) (l : Fin 256) : ∃ q : ℝ, (rowsM m c).w t l = q :=
  real_of_abs_lt _ (congrFun (hp c) (ix2 ⟨t % 2048, Nat.mod_lt _ (by decide)⟩ l))

set_option maxHeartbeats 8000000 in
open Cert.KernelIdeal.Scan Cert.ReferenceIdeal.Scan in
/-- The kernel's results are the reference's where every decay is finite. -/
theorem values : @Cert.algebraic_KernelIdeal_ReferenceIdeal_pre_finite_decay Cert.KernelIdeal.Gen.facts Cert.ReferenceIdeal.Gen.facts pre_facts := fun m ρ m' ρ' hp hargs => by
  have hw : ∀ c t l, ∃ q : ℝ, (rowsM m c).w t l = q := decay_real m hp
  have hX : ∀ c, rowsR m' c = rowsM m c := fun c =>
    rowsOf_congr (hargs c).1 (hargs c).2.1 (hargs c).2.2.1 (hargs c).2.2.2.1 (hargs c).2.2.2.2.1 (hargs c).2.2.2.2.2.1 (hargs c).2.2.2.2.2.2
  refine ⟨fun c => arr2 (rowsM m c).Y, fun c => arr2 (rowsM m c).DR, fun c => arr2 (rowsM m c).DW, fun c => arr2 (rowsM m c).DK, fun c => arr2 (rowsM m c).DV, fun c => arr2 (rowsM m c).DC, fun c => arr2 (rowsM m c).DB, ?_, ?_⟩
  · exact (θ_run Cert.KernelIdeal.defs _ _).mono (fun _ h c =>
    ⟨(h.1 c Cert.KernelIdeal.main_v20_0 rfl).trans (W9_y m c (hw c)),
     (h.1 c Cert.KernelIdeal.main_v21_0 rfl).trans (W9_DR m c (hw c)),
     (h.1 c Cert.KernelIdeal.main_v21_1 rfl).trans (W9_DW m c (hw c)),
     (h.1 c Cert.KernelIdeal.main_v21_2 rfl).trans (W9_DK m c (hw c)),
     (h.1 c Cert.KernelIdeal.main_v21_3 rfl).trans (W9_DV m c (hw c)),
     (h.1 c Cert.KernelIdeal.main_v21_4 rfl).trans (W9_DC m c (hw c)),
     (h.1 c Cert.KernelIdeal.main_v21_5 rfl).trans (W9_DB m c (hw c)),
     (h.1 c Cert.KernelIdeal.main_arg0 rfl).trans (W9_arg0 m c),
     (h.1 c Cert.KernelIdeal.main_arg1 rfl).trans (W9_arg1 m c),
     (h.1 c Cert.KernelIdeal.main_arg2 rfl).trans (W9_arg2 m c),
     (h.1 c Cert.KernelIdeal.main_arg3 rfl).trans (W9_arg3 m c),
     (h.1 c Cert.KernelIdeal.main_arg4 rfl).trans (W9_arg4 m c),
     (h.1 c Cert.KernelIdeal.main_arg5 rfl).trans (W9_arg5 m c),
     (h.1 c Cert.KernelIdeal.main_arg6 rfl).trans (W9_arg6 m c)⟩) (run_main (F := Ideal) m ρ)
  · exact (θ_run Cert.ReferenceIdeal.defs _ _).mono (fun _ h c =>
    ⟨(h.1 c Cert.ReferenceIdeal.main_v19 rfl).trans ((X5_y m' c).trans (congrArg (fun X : Rows => arr2 X.Y) (hX c))),
     (h.1 c Cert.ReferenceIdeal.main_v35 rfl).trans ((X5_dr m' c).trans (congrArg (fun X : Rows => arr2 X.DR) (hX c))),
     (h.1 c Cert.ReferenceIdeal.main_v34 rfl).trans ((X5_dw m' c).trans (congrArg (fun X : Rows => arr2 X.DW) (hX c))),
     (h.1 c Cert.ReferenceIdeal.main_v33 rfl).trans ((X5_dk m' c).trans (congrArg (fun X : Rows => arr2 X.DK) (hX c))),
     (h.1 c Cert.ReferenceIdeal.main_v32 rfl).trans ((X5_dv m' c).trans (congrArg (fun X : Rows => arr2 X.DV) (hX c))),
     (h.1 c Cert.ReferenceIdeal.main_v31 rfl).trans ((X5_dc m' c).trans (congrArg (fun X : Rows => arr2 X.DC) (hX c))),
     (h.1 c Cert.ReferenceIdeal.main_v30 rfl).trans ((X5_db m' c).trans (congrArg (fun X : Rows => arr2 X.DB) (hX c))),
     (h.1 c Cert.ReferenceIdeal.main_arg0 rfl).trans (X5_arg0 m' c),
     (h.1 c Cert.ReferenceIdeal.main_arg1 rfl).trans (X5_arg1 m' c),
     (h.1 c Cert.ReferenceIdeal.main_arg2 rfl).trans (X5_arg2 m' c),
     (h.1 c Cert.ReferenceIdeal.main_arg3 rfl).trans (X5_arg3 m' c),
     (h.1 c Cert.ReferenceIdeal.main_arg4 rfl).trans (X5_arg4 m' c),
     (h.1 c Cert.ReferenceIdeal.main_arg5 rfl).trans (X5_arg5 m' c),
     (h.1 c Cert.ReferenceIdeal.main_arg6 rfl).trans (X5_arg6 m' c)⟩) (run_ref (F := Ideal) m' ρ')

open Cert.Kernel2Ideal.Mlp in
/-- An argument of the feed-forward program is unchanged at the end of its run. -/
theorem args2 {F : FTy → Type} [FloatOps F] (m : (ℓ : Loc Cert.Kernel2Ideal.nD Cert.Kernel2Ideal.τ Cert.Kernel2Ideal.sig) → Buf (Elt F) ℓ) (c : Dev Cert.Kernel2Ideal.nD) :
    W8 m c (Proc.devRef .tc Cert.Kernel2Ideal.main_arg0) = m ((c.tc : Thread Cert.Kernel2Ideal.nD Cert.Kernel2Ideal.τ).loc Cert.Kernel2Ideal.main_arg0)
    ∧ W8 m c (Proc.devRef .tc Cert.Kernel2Ideal.main_arg1) = m ((c.tc : Thread Cert.Kernel2Ideal.nD Cert.Kernel2Ideal.τ).loc Cert.Kernel2Ideal.main_arg1)
    ∧ W8 m c (Proc.devRef .tc Cert.Kernel2Ideal.main_arg2) = m ((c.tc : Thread Cert.Kernel2Ideal.nD Cert.Kernel2Ideal.τ).loc Cert.Kernel2Ideal.main_arg2)
    ∧ W8 m c (Proc.devRef .tc Cert.Kernel2Ideal.main_arg3) = m ((c.tc : Thread Cert.Kernel2Ideal.nD Cert.Kernel2Ideal.τ).loc Cert.Kernel2Ideal.main_arg3) :=
  ⟨W8_arg m c _ (by decide) (by decide) (by decide), W8_arg m c _ (by decide) (by decide) (by decide),
   W8_arg m c _ (by decide) (by decide) (by decide), W8_arg m c _ (by decide) (by decide) (by decide)⟩

set_option maxHeartbeats 8000000 in
open Cert.Kernel2Ideal.Mlp in
/-- The feed-forward program's frame at bits: the run over any float values, its program the equal one. -/
theorem frame_kernel2 : Cert.quiescent_Kernel2 := fun m ρ _ => by
  show θ_run (Cert.Kernel2.defs (F := Bits)) (onTc (τ := Cert.Kernel2.τ) (Cert.Kernel2.main (F := Bits))) ⟨m, fun _ => 0, ρ⟩ _
  rw [Cert.Proof.Mlp.defs_same, Cert.Proof.Mlp.main_same]
  exact (θ_run Cert.Kernel2Ideal.defs _ _).mono (fun _ h => ⟨fun c =>
    ⟨(h.1 c Cert.Kernel2Ideal.main_arg0 rfl).trans (args2 m c).1, (h.1 c Cert.Kernel2Ideal.main_arg1 rfl).trans (args2 m c).2.1,
     (h.1 c Cert.Kernel2Ideal.main_arg2 rfl).trans (args2 m c).2.2.1, (h.1 c Cert.Kernel2Ideal.main_arg3 rfl).trans (args2 m c).2.2.2⟩, h.2⟩) (run_main (F := Bits) m ρ)

open Cert.Kernel2Ideal.Mlp in
/-- The feed-forward program's frame over the extended reals. -/
theorem frame_kernel2Ideal : Cert.quiescent_Kernel2Ideal := fun m ρ _ =>
  (θ_run Cert.Kernel2Ideal.defs _ _).mono (fun _ h => ⟨fun c =>
    ⟨(h.1 c Cert.Kernel2Ideal.main_arg0 rfl).trans (args2 m c).1, (h.1 c Cert.Kernel2Ideal.main_arg1 rfl).trans (args2 m c).2.1,
     (h.1 c Cert.Kernel2Ideal.main_arg2 rfl).trans (args2 m c).2.2.1, (h.1 c Cert.Kernel2Ideal.main_arg3 rfl).trans (args2 m c).2.2.2⟩, h.2⟩) (run_main (F := Ideal) m ρ)

set_option maxHeartbeats 8000000 in
open Cert.Kernel2Ideal.Mlp Cert.Reference2Ideal.Mlp Cert.Mlp in
/-- The feed-forward program's four results are the reference's, whatever the arguments. -/
theorem values2 : @Cert.algebraic_Kernel2Ideal_Reference2Ideal Cert.Kernel2Ideal.Gen.facts Cert.Reference2Ideal.Gen.facts := fun m ρ m' ρ' _ hargs => by
  have hx : ∀ c, mat (A m' c Cert.Reference2Ideal.main_arg0) = X m c := fun c => congrArg (mat (n := 2048) (m := 1024)) (hargs c).1
  have hu : ∀ c, mat (A m' c Cert.Reference2Ideal.main_arg1) = U m c := fun c => congrArg (mat (n := 1024) (m := 4096)) (hargs c).2.1
  have hd : ∀ c, mat (A m' c Cert.Reference2Ideal.main_arg2) = D m c := fun c => congrArg (mat (n := 4096) (m := 1024)) (hargs c).2.2.1
  have hg : ∀ c, mat (A m' c Cert.Reference2Ideal.main_arg3) = G m c := fun c => congrArg (mat (n := 2048) (m := 1024)) (hargs c).2.2.2
  refine ⟨fun c => arr (mul (hid (X m c) (U m c)) (D m c)), fun c => arr (dx (X m c) (U m c) (D m c) (G m c)),
    fun c => arr (tr (mul (tr (dpre (X m c) (U m c) (D m c) (G m c))) (X m c))), fun c => arr (mul (tr (hid (X m c) (U m c))) (G m c)), ?_, ?_⟩
  · exact (θ_run Cert.Kernel2Ideal.defs _ _).mono (fun _ h c =>
    ⟨(h.1 c Cert.Kernel2Ideal.main_v4 rfl).trans (W8_v4 m c), (h.1 c Cert.Kernel2Ideal.main_v7 rfl).trans (W8_v7 m c),
     (h.1 c Cert.Kernel2Ideal.main_v9 rfl).trans (W8_v9 m c), (h.1 c Cert.Kernel2Ideal.main_v6 rfl).trans (W8_v6 m c),
     (h.1 c Cert.Kernel2Ideal.main_arg0 rfl).trans (args2 m c).1, (h.1 c Cert.Kernel2Ideal.main_arg1 rfl).trans (args2 m c).2.1,
     (h.1 c Cert.Kernel2Ideal.main_arg2 rfl).trans (args2 m c).2.2.1, (h.1 c Cert.Kernel2Ideal.main_arg3 rfl).trans (args2 m c).2.2.2⟩) (run_main (F := Ideal) m ρ)
  · refine (θ_run Cert.Reference2Ideal.defs _ _).mono (fun _ h c => ?_) (run_ref2 m' ρ')
    obtain ⟨h0, h1, h2, h3, ha⟩ := h c
    rw [hx c, hu c] at h0 h1 h2 h3
    rw [hd c] at h0 h1 h2
    rw [hg c] at h1 h2 h3
    exact ⟨h0, h1, h2, h3, ha⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, pre_facts,
  frame_kernel, frame_kernelIdeal, fun m ρ _ => frame_kernelIdeal m ρ trivial, frame_referenceIdeal, fun m ρ _ => frame_referenceIdeal m ρ trivial,
  frame_kernel2, frame_kernel2Ideal, Cert.Reference2Ideal.Mlp.frame_reference2,
  trivial, values, trivial, values2⟩

end Cert.Proof

end
